-- ==== Defs.lean ====
def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_finite1 [hPre_finite1 : Cert.Pre_finite1.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_finite1.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4))).1 = (fun _ => 1#1)
    ∧ (Cert.Pre_finite1.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4))).2.1 = (fun _ => 1#1)
    ∧ (Cert.Pre_finite1.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4))).2.2.1 = (fun _ => 1#1)
    ∧ (Cert.Pre_finite1.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4))).2.2.2 = (fun _ => 1#1)

def Pre_InBwdRefIdeal (m : (ℓ : Loc Cert.InBwdRefIdeal.nD Cert.InBwdRefIdeal.τ Cert.InBwdRefIdeal.sig) → Buf (Elt Ideal) ℓ) : Prop :=
  True

def Pre_InBwdRefIdeal_finite1 [hPre_finite1 : Cert.Pre_finite1.Facts] (m : (ℓ : Loc Cert.InBwdRefIdeal.nD Cert.InBwdRefIdeal.τ Cert.InBwdRefIdeal.sig) → Buf (Elt Ideal) ℓ) : Prop :=
  ∀ c : Dev Cert.InBwdRefIdeal.nD,
    (Cert.Pre_finite1.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4))).1 = (fun _ => 1#1)
    ∧ (Cert.Pre_finite1.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4))).2.1 = (fun _ => 1#1)
    ∧ (Cert.Pre_finite1.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4))).2.2.1 = (fun _ => 1#1)
    ∧ (Cert.Pre_finite1.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4))).2.2.2 = (fun _ => 1#1)

def Pre_InBwdA (m : (ℓ : Loc Cert.InBwdA.nD Cert.InBwdA.τ Cert.InBwdA.sig) → Buf (Elt Bits) ℓ) : Prop :=
  True

def Pre_InBwdAIdeal (m : (ℓ : Loc Cert.InBwdAIdeal.nD Cert.InBwdAIdeal.τ Cert.InBwdAIdeal.sig) → Buf (Elt Ideal) ℓ) : Prop :=
  True

def Pre_InBwdAIdeal_finite2 [hPre_finite2 : Cert.Pre_finite2.Facts] (m : (ℓ : Loc Cert.InBwdAIdeal.nD Cert.InBwdAIdeal.τ Cert.InBwdAIdeal.sig) → Buf (Elt Ideal) ℓ) : Prop :=
  ∀ c : Dev Cert.InBwdAIdeal.nD,
    (Cert.Pre_finite2.fn (F := Ideal) (m ((c.tc : Thread Cert.InBwdAIdeal.nD Cert.InBwdAIdeal.τ).loc Cert.InBwdAIdeal.main_arg0)) (m ((c.tc : Thread Cert.InBwdAIdeal.nD Cert.InBwdAIdeal.τ).loc Cert.InBwdAIdeal.main_arg1)) (m ((c.tc : Thread Cert.InBwdAIdeal.nD Cert.InBwdAIdeal.τ).loc Cert.InBwdAIdeal.main_arg2)) (m ((c.tc : Thread Cert.InBwdAIdeal.nD Cert.InBwdAIdeal.τ).loc Cert.InBwdAIdeal.main_arg3)) (m ((c.tc : Thread Cert.InBwdAIdeal.nD Cert.InBwdAIdeal.τ).loc Cert.InBwdAIdeal.main_arg4))).1 = (fun _ => 1#1)
    ∧ (Cert.Pre_finite2.fn (F := Ideal) (m ((c.tc : Thread Cert.InBwdAIdeal.nD Cert.InBwdAIdeal.τ).loc Cert.InBwdAIdeal.main_arg0)) (m ((c.tc : Thread Cert.InBwdAIdeal.nD Cert.InBwdAIdeal.τ).loc Cert.InBwdAIdeal.main_arg1)) (m ((c.tc : Thread Cert.InBwdAIdeal.nD Cert.InBwdAIdeal.τ).loc Cert.InBwdAIdeal.main_arg2)) (m ((c.tc : Thread Cert.InBwdAIdeal.nD Cert.InBwdAIdeal.τ).loc Cert.InBwdAIdeal.main_arg3)) (m ((c.tc : Thread Cert.InBwdAIdeal.nD Cert.InBwdAIdeal.τ).loc Cert.InBwdAIdeal.main_arg4))).2.1 = (fun _ => 1#1)
    ∧ (Cert.Pre_finite2.fn (F := Ideal) (m ((c.tc : Thread Cert.InBwdAIdeal.nD Cert.InBwdAIdeal.τ).loc Cert.InBwdAIdeal.main_arg0)) (m ((c.tc : Thread Cert.InBwdAIdeal.nD Cert.InBwdAIdeal.τ).loc Cert.InBwdAIdeal.main_arg1)) (m ((c.tc : Thread Cert.InBwdAIdeal.nD Cert.InBwdAIdeal.τ).loc Cert.InBwdAIdeal.main_arg2)) (m ((c.tc : Thread Cert.InBwdAIdeal.nD Cert.InBwdAIdeal.τ).loc Cert.InBwdAIdeal.main_arg3)) (m ((c.tc : Thread Cert.InBwdAIdeal.nD Cert.InBwdAIdeal.τ).loc Cert.InBwdAIdeal.main_arg4))).2.2.1 = (fun _ => 1#1)
    ∧ (Cert.Pre_finite2.fn (F := Ideal) (m ((c.tc : Thread Cert.InBwdAIdeal.nD Cert.InBwdAIdeal.τ).loc Cert.InBwdAIdeal.main_arg0)) (m ((c.tc : Thread Cert.InBwdAIdeal.nD Cert.InBwdAIdeal.τ).loc Cert.InBwdAIdeal.main_arg1)) (m ((c.tc : Thread Cert.InBwdAIdeal.nD Cert.InBwdAIdeal.τ).loc Cert.InBwdAIdeal.main_arg2)) (m ((c.tc : Thread Cert.InBwdAIdeal.nD Cert.InBwdAIdeal.τ).loc Cert.InBwdAIdeal.main_arg3)) (m ((c.tc : Thread Cert.InBwdAIdeal.nD Cert.InBwdAIdeal.τ).loc Cert.InBwdAIdeal.main_arg4))).2.2.2 = (fun _ => 1#1)

def Pre_InBwdARefIdeal (m : (ℓ : Loc Cert.InBwdARefIdeal.nD Cert.InBwdARefIdeal.τ Cert.InBwdARefIdeal.sig) → Buf (Elt Ideal) ℓ) : Prop :=
  True

def Pre_InBwdARefIdeal_finite2 [hPre_finite2 : Cert.Pre_finite2.Facts] (m : (ℓ : Loc Cert.InBwdARefIdeal.nD Cert.InBwdARefIdeal.τ Cert.InBwdARefIdeal.sig) → Buf (Elt Ideal) ℓ) : Prop :=
  ∀ c : Dev Cert.InBwdARefIdeal.nD,
    (Cert.Pre_finite2.fn (F := Ideal) (m ((c.tc : Thread Cert.InBwdARefIdeal.nD Cert.InBwdARefIdeal.τ).loc Cert.InBwdARefIdeal.main_arg0)) (m ((c.tc : Thread Cert.InBwdARefIdeal.nD Cert.InBwdARefIdeal.τ).loc Cert.InBwdARefIdeal.main_arg1)) (m ((c.tc : Thread Cert.InBwdARefIdeal.nD Cert.InBwdARefIdeal.τ).loc Cert.InBwdARefIdeal.main_arg2)) (m ((c.tc : Thread Cert.InBwdARefIdeal.nD Cert.InBwdARefIdeal.τ).loc Cert.InBwdARefIdeal.main_arg3)) (m ((c.tc : Thread Cert.InBwdARefIdeal.nD Cert.InBwdARefIdeal.τ).loc Cert.InBwdARefIdeal.main_arg4))).1 = (fun _ => 1#1)
    ∧ (Cert.Pre_finite2.fn (F := Ideal) (m ((c.tc : Thread Cert.InBwdARefIdeal.nD Cert.InBwdARefIdeal.τ).loc Cert.InBwdARefIdeal.main_arg0)) (m ((c.tc : Thread Cert.InBwdARefIdeal.nD Cert.InBwdARefIdeal.τ).loc Cert.InBwdARefIdeal.main_arg1)) (m ((c.tc : Thread Cert.InBwdARefIdeal.nD Cert.InBwdARefIdeal.τ).loc Cert.InBwdARefIdeal.main_arg2)) (m ((c.tc : Thread Cert.InBwdARefIdeal.nD Cert.InBwdARefIdeal.τ).loc Cert.InBwdARefIdeal.main_arg3)) (m ((c.tc : Thread Cert.InBwdARefIdeal.nD Cert.InBwdARefIdeal.τ).loc Cert.InBwdARefIdeal.main_arg4))).2.1 = (fun _ => 1#1)
    ∧ (Cert.Pre_finite2.fn (F := Ideal) (m ((c.tc : Thread Cert.InBwdARefIdeal.nD Cert.InBwdARefIdeal.τ).loc Cert.InBwdARefIdeal.main_arg0)) (m ((c.tc : Thread Cert.InBwdARefIdeal.nD Cert.InBwdARefIdeal.τ).loc Cert.InBwdARefIdeal.main_arg1)) (m ((c.tc : Thread Cert.InBwdARefIdeal.nD Cert.InBwdARefIdeal.τ).loc Cert.InBwdARefIdeal.main_arg2)) (m ((c.tc : Thread Cert.InBwdARefIdeal.nD Cert.InBwdARefIdeal.τ).loc Cert.InBwdARefIdeal.main_arg3)) (m ((c.tc : Thread Cert.InBwdARefIdeal.nD Cert.InBwdARefIdeal.τ).loc Cert.InBwdARefIdeal.main_arg4))).2.2.1 = (fun _ => 1#1)
    ∧ (Cert.Pre_finite2.fn (F := Ideal) (m ((c.tc : Thread Cert.InBwdARefIdeal.nD Cert.InBwdARefIdeal.τ).loc Cert.InBwdARefIdeal.main_arg0)) (m ((c.tc : Thread Cert.InBwdARefIdeal.nD Cert.InBwdARefIdeal.τ).loc Cert.InBwdARefIdeal.main_arg1)) (m ((c.tc : Thread Cert.InBwdARefIdeal.nD Cert.InBwdARefIdeal.τ).loc Cert.InBwdARefIdeal.main_arg2)) (m ((c.tc : Thread Cert.InBwdARefIdeal.nD Cert.InBwdARefIdeal.τ).loc Cert.InBwdARefIdeal.main_arg3)) (m ((c.tc : Thread Cert.InBwdARefIdeal.nD Cert.InBwdARefIdeal.τ).loc Cert.InBwdARefIdeal.main_arg4))).2.2.2 = (fun _ => 1#1)

def Pre_AMix (m : (ℓ : Loc Cert.AMix.nD Cert.AMix.τ Cert.AMix.sig) → Buf (Elt Bits) ℓ) : Prop :=
  True

def Pre_AMixIdeal (m : (ℓ : Loc Cert.AMixIdeal.nD Cert.AMixIdeal.τ Cert.AMixIdeal.sig) → Buf (Elt Ideal) ℓ) : Prop :=
  True

def Pre_AMixIdeal_finite3 [hPre_finite3 : Cert.Pre_finite3.Facts] (m : (ℓ : Loc Cert.AMixIdeal.nD Cert.AMixIdeal.τ Cert.AMixIdeal.sig) → Buf (Elt Ideal) ℓ) : Prop :=
  ∀ c : Dev Cert.AMixIdeal.nD,
    (Cert.Pre_finite3.fn (F := Ideal) (m ((c.tc : Thread Cert.AMixIdeal.nD Cert.AMixIdeal.τ).loc Cert.AMixIdeal.main_arg0)) (m ((c.tc : Thread Cert.AMixIdeal.nD Cert.AMixIdeal.τ).loc Cert.AMixIdeal.main_arg1)) (m ((c.tc : Thread Cert.AMixIdeal.nD Cert.AMixIdeal.τ).loc Cert.AMixIdeal.main_arg2)) (m ((c.tc : Thread Cert.AMixIdeal.nD Cert.AMixIdeal.τ).loc Cert.AMixIdeal.main_arg3)) (m ((c.tc : Thread Cert.AMixIdeal.nD Cert.AMixIdeal.τ).loc Cert.AMixIdeal.main_arg4)) (m ((c.tc : Thread Cert.AMixIdeal.nD Cert.AMixIdeal.τ).loc Cert.AMixIdeal.main_arg5))).1 = (fun _ => 1#1)
    ∧ (Cert.Pre_finite3.fn (F := Ideal) (m ((c.tc : Thread Cert.AMixIdeal.nD Cert.AMixIdeal.τ).loc Cert.AMixIdeal.main_arg0)) (m ((c.tc : Thread Cert.AMixIdeal.nD Cert.AMixIdeal.τ).loc Cert.AMixIdeal.main_arg1)) (m ((c.tc : Thread Cert.AMixIdeal.nD Cert.AMixIdeal.τ).loc Cert.AMixIdeal.main_arg2)) (m ((c.tc : Thread Cert.AMixIdeal.nD Cert.AMixIdeal.τ).loc Cert.AMixIdeal.main_arg3)) (m ((c.tc : Thread Cert.AMixIdeal.nD Cert.AMixIdeal.τ).loc Cert.AMixIdeal.main_arg4)) (m ((c.tc : Thread Cert.AMixIdeal.nD Cert.AMixIdeal.τ).loc Cert.AMixIdeal.main_arg5))).2.1 = (fun _ => 1#1)
    ∧ (Cert.Pre_finite3.fn (F := Ideal) (m ((c.tc : Thread Cert.AMixIdeal.nD Cert.AMixIdeal.τ).loc Cert.AMixIdeal.main_arg0)) (m ((c.tc : Thread Cert.AMixIdeal.nD Cert.AMixIdeal.τ).loc Cert.AMixIdeal.main_arg1)) (m ((c.tc : Thread Cert.AMixIdeal.nD Cert.AMixIdeal.τ).loc Cert.AMixIdeal.main_arg2)) (m ((c.tc : Thread Cert.AMixIdeal.nD Cert.AMixIdeal.τ).loc Cert.AMixIdeal.main_arg3)) (m ((c.tc : Thread Cert.AMixIdeal.nD Cert.AMixIdeal.τ).loc Cert.AMixIdeal.main_arg4)) (m ((c.tc : Thread Cert.AMixIdeal.nD Cert.AMixIdeal.τ).loc Cert.AMixIdeal.main_arg5))).2.2.1 = (fun _ => 1#1)
    ∧ (Cert.Pre_finite3.fn (F := Ideal) (m ((c.tc : Thread Cert.AMixIdeal.nD Cert.AMixIdeal.τ).loc Cert.AMixIdeal.main_arg0)) (m ((c.tc : Thread Cert.AMixIdeal.nD Cert.AMixIdeal.τ).loc Cert.AMixIdeal.main_arg1)) (m ((c.tc : Thread Cert.AMixIdeal.nD Cert.AMixIdeal.τ).loc Cert.AMixIdeal.main_arg2)) (m ((c.tc : Thread Cert.AMixIdeal.nD Cert.AMixIdeal.τ).loc Cert.AMixIdeal.main_arg3)) (m ((c.tc : Thread Cert.AMixIdeal.nD Cert.AMixIdeal.τ).loc Cert.AMixIdeal.main_arg4)) (m ((c.tc : Thread Cert.AMixIdeal.nD Cert.AMixIdeal.τ).loc Cert.AMixIdeal.main_arg5))).2.2.2.1 = (fun _ => 1#1)
    ∧ (Cert.Pre_finite3.fn (F := Ideal) (m ((c.tc : Thread Cert.AMixIdeal.nD Cert.AMixIdeal.τ).loc Cert.AMixIdeal.main_arg0)) (m ((c.tc : Thread Cert.AMixIdeal.nD Cert.AMixIdeal.τ).loc Cert.AMixIdeal.main_arg1)) (m ((c.tc : Thread Cert.AMixIdeal.nD Cert.AMixIdeal.τ).loc Cert.AMixIdeal.main_arg2)) (m ((c.tc : Thread Cert.AMixIdeal.nD Cert.AMixIdeal.τ).loc Cert.AMixIdeal.main_arg3)) (m ((c.tc : Thread Cert.AMixIdeal.nD Cert.AMixIdeal.τ).loc Cert.AMixIdeal.main_arg4)) (m ((c.tc : Thread Cert.AMixIdeal.nD Cert.AMixIdeal.τ).loc Cert.AMixIdeal.main_arg5))).2.2.2.2.1 = (fun _ => 1#1)
    ∧ (Cert.Pre_finite3.fn (F := Ideal) (m ((c.tc : Thread Cert.AMixIdeal.nD Cert.AMixIdeal.τ).loc Cert.AMixIdeal.main_arg0)) (m ((c.tc : Thread Cert.AMixIdeal.nD Cert.AMixIdeal.τ).loc Cert.AMixIdeal.main_arg1)) (m ((c.tc : Thread Cert.AMixIdeal.nD Cert.AMixIdeal.τ).loc Cert.AMixIdeal.main_arg2)) (m ((c.tc : Thread Cert.AMixIdeal.nD Cert.AMixIdeal.τ).loc Cert.AMixIdeal.main_arg3)) (m ((c.tc : Thread Cert.AMixIdeal.nD Cert.AMixIdeal.τ).loc Cert.AMixIdeal.main_arg4)) (m ((c.tc : Thread Cert.AMixIdeal.nD Cert.AMixIdeal.τ).loc Cert.AMixIdeal.main_arg5))).2.2.2.2.2 = (fun _ => 1#1)

def Pre_AMixRefIdeal (m : (ℓ : Loc Cert.AMixRefIdeal.nD Cert.AMixRefIdeal.τ Cert.AMixRefIdeal.sig) → Buf (Elt Ideal) ℓ) : Prop :=
  True

def Pre_AMixRefIdeal_finite3 [hPre_finite3 : Cert.Pre_finite3.Facts] (m : (ℓ : Loc Cert.AMixRefIdeal.nD Cert.AMixRefIdeal.τ Cert.AMixRefIdeal.sig) → Buf (Elt Ideal) ℓ) : Prop :=
  ∀ c : Dev Cert.AMixRefIdeal.nD,
    (Cert.Pre_finite3.fn (F := Ideal) (m ((c.tc : Thread Cert.AMixRefIdeal.nD Cert.AMixRefIdeal.τ).loc Cert.AMixRefIdeal.main_arg0)) (m ((c.tc : Thread Cert.AMixRefIdeal.nD Cert.AMixRefIdeal.τ).loc Cert.AMixRefIdeal.main_arg1)) (m ((c.tc : Thread Cert.AMixRefIdeal.nD Cert.AMixRefIdeal.τ).loc Cert.AMixRefIdeal.main_arg2)) (m ((c.tc : Thread Cert.AMixRefIdeal.nD Cert.AMixRefIdeal.τ).loc Cert.AMixRefIdeal.main_arg3)) (m ((c.tc : Thread Cert.AMixRefIdeal.nD Cert.AMixRefIdeal.τ).loc Cert.AMixRefIdeal.main_arg4)) (m ((c.tc : Thread Cert.AMixRefIdeal.nD Cert.AMixRefIdeal.τ).loc Cert.AMixRefIdeal.main_arg5))).1 = (fun _ => 1#1)
    ∧ (Cert.Pre_finite3.fn (F := Ideal) (m ((c.tc : Thread Cert.AMixRefIdeal.nD Cert.AMixRefIdeal.τ).loc Cert.AMixRefIdeal.main_arg0)) (m ((c.tc : Thread Cert.AMixRefIdeal.nD Cert.AMixRefIdeal.τ).loc Cert.AMixRefIdeal.main_arg1)) (m ((c.tc : Thread Cert.AMixRefIdeal.nD Cert.AMixRefIdeal.τ).loc Cert.AMixRefIdeal.main_arg2)) (m ((c.tc : Thread Cert.AMixRefIdeal.nD Cert.AMixRefIdeal.τ).loc Cert.AMixRefIdeal.main_arg3)) (m ((c.tc : Thread Cert.AMixRefIdeal.nD Cert.AMixRefIdeal.τ).loc Cert.AMixRefIdeal.main_arg4)) (m ((c.tc : Thread Cert.AMixRefIdeal.nD Cert.AMixRefIdeal.τ).loc Cert.AMixRefIdeal.main_arg5))).2.1 = (fun _ => 1#1)
    ∧ (Cert.Pre_finite3.fn (F := Ideal) (m ((c.tc : Thread Cert.AMixRefIdeal.nD Cert.AMixRefIdeal.τ).loc Cert.AMixRefIdeal.main_arg0)) (m ((c.tc : Thread Cert.AMixRefIdeal.nD Cert.AMixRefIdeal.τ).loc Cert.AMixRefIdeal.main_arg1)) (m ((c.tc : Thread Cert.AMixRefIdeal.nD Cert.AMixRefIdeal.τ).loc Cert.AMixRefIdeal.main_arg2)) (m ((c.tc : Thread Cert.AMixRefIdeal.nD Cert.AMixRefIdeal.τ).loc Cert.AMixRefIdeal.main_arg3)) (m ((c.tc : Thread Cert.AMixRefIdeal.nD Cert.AMixRefIdeal.τ).loc Cert.AMixRefIdeal.main_arg4)) (m ((c.tc : Thread Cert.AMixRefIdeal.nD Cert.AMixRefIdeal.τ).loc Cert.AMixRefIdeal.main_arg5))).2.2.1 = (fun _ => 1#1)
    ∧ (Cert.Pre_finite3.fn (F := Ideal) (m ((c.tc : Thread Cert.AMixRefIdeal.nD Cert.AMixRefIdeal.τ).loc Cert.AMixRefIdeal.main_arg0)) (m ((c.tc : Thread Cert.AMixRefIdeal.nD Cert.AMixRefIdeal.τ).loc Cert.AMixRefIdeal.main_arg1)) (m ((c.tc : Thread Cert.AMixRefIdeal.nD Cert.AMixRefIdeal.τ).loc Cert.AMixRefIdeal.main_arg2)) (m ((c.tc : Thread Cert.AMixRefIdeal.nD Cert.AMixRefIdeal.τ).loc Cert.AMixRefIdeal.main_arg3)) (m ((c.tc : Thread Cert.AMixRefIdeal.nD Cert.AMixRefIdeal.τ).loc Cert.AMixRefIdeal.main_arg4)) (m ((c.tc : Thread Cert.AMixRefIdeal.nD Cert.AMixRefIdeal.τ).loc Cert.AMixRefIdeal.main_arg5))).2.2.2.1 = (fun _ => 1#1)
    ∧ (Cert.Pre_finite3.fn (F := Ideal) (m ((c.tc : Thread Cert.AMixRefIdeal.nD Cert.AMixRefIdeal.τ).loc Cert.AMixRefIdeal.main_arg0)) (m ((c.tc : Thread Cert.AMixRefIdeal.nD Cert.AMixRefIdeal.τ).loc Cert.AMixRefIdeal.main_arg1)) (m ((c.tc : Thread Cert.AMixRefIdeal.nD Cert.AMixRefIdeal.τ).loc Cert.AMixRefIdeal.main_arg2)) (m ((c.tc : Thread Cert.AMixRefIdeal.nD Cert.AMixRefIdeal.τ).loc Cert.AMixRefIdeal.main_arg3)) (m ((c.tc : Thread Cert.AMixRefIdeal.nD Cert.AMixRefIdeal.τ).loc Cert.AMixRefIdeal.main_arg4)) (m ((c.tc : Thread Cert.AMixRefIdeal.nD Cert.AMixRefIdeal.τ).loc Cert.AMixRefIdeal.main_arg5))).2.2.2.2.1 = (fun _ => 1#1)
    ∧ (Cert.Pre_finite3.fn (F := Ideal) (m ((c.tc : Thread Cert.AMixRefIdeal.nD Cert.AMixRefIdeal.τ).loc Cert.AMixRefIdeal.main_arg0)) (m ((c.tc : Thread Cert.AMixRefIdeal.nD Cert.AMixRefIdeal.τ).loc Cert.AMixRefIdeal.main_arg1)) (m ((c.tc : Thread Cert.AMixRefIdeal.nD Cert.AMixRefIdeal.τ).loc Cert.AMixRefIdeal.main_arg2)) (m ((c.tc : Thread Cert.AMixRefIdeal.nD Cert.AMixRefIdeal.τ).loc Cert.AMixRefIdeal.main_arg3)) (m ((c.tc : Thread Cert.AMixRefIdeal.nD Cert.AMixRefIdeal.τ).loc Cert.AMixRefIdeal.main_arg4)) (m ((c.tc : Thread Cert.AMixRefIdeal.nD Cert.AMixRefIdeal.τ).loc Cert.AMixRefIdeal.main_arg5))).2.2.2.2.2 = (fun _ => 1#1)

def Pre_BMix (m : (ℓ : Loc Cert.BMix.nD Cert.BMix.τ Cert.BMix.sig) → Buf (Elt Bits) ℓ) : Prop :=
  True

def Pre_BMixIdeal (m : (ℓ : Loc Cert.BMixIdeal.nD Cert.BMixIdeal.τ Cert.BMixIdeal.sig) → Buf (Elt Ideal) ℓ) : Prop :=
  True

def Pre_BMixRefIdeal (m : (ℓ : Loc Cert.BMixRefIdeal.nD Cert.BMixRefIdeal.τ Cert.BMixRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdIdeal_finite5 [hPre_finite5 : Cert.Pre_finite5.Facts] (m : (ℓ : Loc Cert.OutBwdIdeal.nD Cert.OutBwdIdeal.τ Cert.OutBwdIdeal.sig) → Buf (Elt Ideal) ℓ) : Prop :=
  ∀ c : Dev Cert.OutBwdIdeal.nD,
    (Cert.Pre_finite5.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3))).1 = (fun _ => 1#1)
    ∧ (Cert.Pre_finite5.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3))).2.1 = (fun _ => 1#1)
    ∧ (Cert.Pre_finite5.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3))).2.2.1 = (fun _ => 1#1)
    ∧ (Cert.Pre_finite5.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3))).2.2.2 = (fun _ => 1#1)

def Pre_OutBwdRefIdeal (m : (ℓ : Loc Cert.OutBwdRefIdeal.nD Cert.OutBwdRefIdeal.τ Cert.OutBwdRefIdeal.sig) → Buf (Elt Ideal) ℓ) : Prop :=
  True

def Pre_OutBwdRefIdeal_finite5 [hPre_finite5 : Cert.Pre_finite5.Facts] (m : (ℓ : Loc Cert.OutBwdRefIdeal.nD Cert.OutBwdRefIdeal.τ Cert.OutBwdRefIdeal.sig) → Buf (Elt Ideal) ℓ) : Prop :=
  ∀ c : Dev Cert.OutBwdRefIdeal.nD,
    (Cert.Pre_finite5.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3))).1 = (fun _ => 1#1)
    ∧ (Cert.Pre_finite5.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3))).2.1 = (fun _ => 1#1)
    ∧ (Cert.Pre_finite5.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3))).2.2.1 = (fun _ => 1#1)
    ∧ (Cert.Pre_finite5.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3))).2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite6 [hPre_finite6 : Cert.Pre_finite6.Facts] (m : (ℓ : Loc Cert.LossIdeal.nD Cert.LossIdeal.τ Cert.LossIdeal.sig) → Buf (Elt Ideal) ℓ) : Prop :=
  ∀ c : Dev Cert.LossIdeal.nD,
    (Cert.Pre_finite6.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).1 = (fun _ => 1#1)
    ∧ (Cert.Pre_finite6.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.1 = (fun _ => 1#1)
    ∧ (Cert.Pre_finite6.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.1 = (fun _ => 1#1)
    ∧ (Cert.Pre_finite6.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.1 = (fun _ => 1#1)
    ∧ (Cert.Pre_finite6.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite6 [hPre_finite6 : Cert.Pre_finite6.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite6.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).1 = (fun _ => 1#1)
    ∧ (Cert.Pre_finite6.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.1 = (fun _ => 1#1)
    ∧ (Cert.Pre_finite6.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.1 = (fun _ => 1#1)
    ∧ (Cert.Pre_finite6.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.1 = (fun _ => 1#1)
    ∧ (Cert.Pre_finite6.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.2 = (fun _ => 1#1)

def Pre_AMixFwd (m : (ℓ : Loc Cert.AMixFwd.nD Cert.AMixFwd.τ Cert.AMixFwd.sig) → Buf (Elt Bits) ℓ) : Prop :=
  True

def Pre_AMixFwdIdeal (m : (ℓ : Loc Cert.AMixFwdIdeal.nD Cert.AMixFwdIdeal.τ Cert.AMixFwdIdeal.sig) → Buf (Elt Ideal) ℓ) : Prop :=
  True

def Pre_AMixFwdIdeal_finite7 [hPre_finite7 : Cert.Pre_finite7.Facts] (m : (ℓ : Loc Cert.AMixFwdIdeal.nD Cert.AMixFwdIdeal.τ Cert.AMixFwdIdeal.sig) → Buf (Elt Ideal) ℓ) : Prop :=
  ∀ c : Dev Cert.AMixFwdIdeal.nD,
    (Cert.Pre_finite7.fn (F := Ideal) (m ((c.tc : Thread Cert.AMixFwdIdeal.nD Cert.AMixFwdIdeal.τ).loc Cert.AMixFwdIdeal.main_arg0)) (m ((c.tc : Thread Cert.AMixFwdIdeal.nD Cert.AMixFwdIdeal.τ).loc Cert.AMixFwdIdeal.main_arg1)) (m ((c.tc : Thread Cert.AMixFwdIdeal.nD Cert.AMixFwdIdeal.τ).loc Cert.AMixFwdIdeal.main_arg2)) (m ((c.tc : Thread Cert.AMixFwdIdeal.nD Cert.AMixFwdIdeal.τ).loc Cert.AMixFwdIdeal.main_arg3)) (m ((c.tc : Thread Cert.AMixFwdIdeal.nD Cert.AMixFwdIdeal.τ).loc Cert.AMixFwdIdeal.main_arg4))) = (fun _ => 1#1)

def Pre_AMixFwdRefIdeal (m : (ℓ : Loc Cert.AMixFwdRefIdeal.nD Cert.AMixFwdRefIdeal.τ Cert.AMixFwdRefIdeal.sig) → Buf (Elt Ideal) ℓ) : Prop :=
  True

def Pre_AMixFwdRefIdeal_finite7 [hPre_finite7 : Cert.Pre_finite7.Facts] (m : (ℓ : Loc Cert.AMixFwdRefIdeal.nD Cert.AMixFwdRefIdeal.τ Cert.AMixFwdRefIdeal.sig) → Buf (Elt Ideal) ℓ) : Prop :=
  ∀ c : Dev Cert.AMixFwdRefIdeal.nD,
    (Cert.Pre_finite7.fn (F := Ideal) (m ((c.tc : Thread Cert.AMixFwdRefIdeal.nD Cert.AMixFwdRefIdeal.τ).loc Cert.AMixFwdRefIdeal.main_arg0)) (m ((c.tc : Thread Cert.AMixFwdRefIdeal.nD Cert.AMixFwdRefIdeal.τ).loc Cert.AMixFwdRefIdeal.main_arg1)) (m ((c.tc : Thread Cert.AMixFwdRefIdeal.nD Cert.AMixFwdRefIdeal.τ).loc Cert.AMixFwdRefIdeal.main_arg2)) (m ((c.tc : Thread Cert.AMixFwdRefIdeal.nD Cert.AMixFwdRefIdeal.τ).loc Cert.AMixFwdRefIdeal.main_arg3)) (m ((c.tc : Thread Cert.AMixFwdRefIdeal.nD Cert.AMixFwdRefIdeal.τ).loc Cert.AMixFwdRefIdeal.main_arg4))) = (fun _ => 1#1)

def Pre_BMixFwd (m : (ℓ : Loc Cert.BMixFwd.nD Cert.BMixFwd.τ Cert.BMixFwd.sig) → Buf (Elt Bits) ℓ) : Prop :=
  True

def Pre_BMixFwdIdeal (m : (ℓ : Loc Cert.BMixFwdIdeal.nD Cert.BMixFwdIdeal.τ Cert.BMixFwdIdeal.sig) → Buf (Elt Ideal) ℓ) : Prop :=
  True

def Pre_BMixFwdIdeal_finite8 [hPre_finite8 : Cert.Pre_finite8.Facts] (m : (ℓ : Loc Cert.BMixFwdIdeal.nD Cert.BMixFwdIdeal.τ Cert.BMixFwdIdeal.sig) → Buf (Elt Ideal) ℓ) : Prop :=
  ∀ c : Dev Cert.BMixFwdIdeal.nD,
    (Cert.Pre_finite8.fn (F := Ideal) (m ((c.tc : Thread Cert.BMixFwdIdeal.nD Cert.BMixFwdIdeal.τ).loc Cert.BMixFwdIdeal.main_arg0)) (m ((c.tc : Thread Cert.BMixFwdIdeal.nD Cert.BMixFwdIdeal.τ).loc Cert.BMixFwdIdeal.main_arg1)) (m ((c.tc : Thread Cert.BMixFwdIdeal.nD Cert.BMixFwdIdeal.τ).loc Cert.BMixFwdIdeal.main_arg2))) = (fun _ => 1#1)

def Pre_BMixFwdRefIdeal (m : (ℓ : Loc Cert.BMixFwdRefIdeal.nD Cert.BMixFwdRefIdeal.τ Cert.BMixFwdRefIdeal.sig) → Buf (Elt Ideal) ℓ) : Prop :=
  True

def Pre_BMixFwdRefIdeal_finite8 [hPre_finite8 : Cert.Pre_finite8.Facts] (m : (ℓ : Loc Cert.BMixFwdRefIdeal.nD Cert.BMixFwdRefIdeal.τ Cert.BMixFwdRefIdeal.sig) → Buf (Elt Ideal) ℓ) : Prop :=
  ∀ c : Dev Cert.BMixFwdRefIdeal.nD,
    (Cert.Pre_finite8.fn (F := Ideal) (m ((c.tc : Thread Cert.BMixFwdRefIdeal.nD Cert.BMixFwdRefIdeal.τ).loc Cert.BMixFwdRefIdeal.main_arg0)) (m ((c.tc : Thread Cert.BMixFwdRefIdeal.nD Cert.BMixFwdRefIdeal.τ).loc Cert.BMixFwdRefIdeal.main_arg1)) (m ((c.tc : Thread Cert.BMixFwdRefIdeal.nD Cert.BMixFwdRefIdeal.τ).loc Cert.BMixFwdRefIdeal.main_arg2))) = (fun _ => 1#1)

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_InFwdB (m : (ℓ : Loc Cert.InFwdB.nD Cert.InFwdB.τ Cert.InFwdB.sig) → Buf (Elt Bits) ℓ) : Prop :=
  True

def Pre_InFwdBIdeal (m : (ℓ : Loc Cert.InFwdBIdeal.nD Cert.InFwdBIdeal.τ Cert.InFwdBIdeal.sig) → Buf (Elt Ideal) ℓ) : Prop :=
  True

def Pre_InFwdBRefIdeal (m : (ℓ : Loc Cert.InFwdBRefIdeal.nD Cert.InFwdBRefIdeal.τ Cert.InFwdBRefIdeal.sig) → Buf (Elt Ideal) ℓ) : Prop :=
  True

def Pre_BMixDsc (m : (ℓ : Loc Cert.BMixDsc.nD Cert.BMixDsc.τ Cert.BMixDsc.sig) → Buf (Elt Bits) ℓ) : Prop :=
  True

def Pre_BMixDscIdeal (m : (ℓ : Loc Cert.BMixDscIdeal.nD Cert.BMixDscIdeal.τ Cert.BMixDscIdeal.sig) → Buf (Elt Ideal) ℓ) : Prop :=
  True

def Pre_BMixDscRefIdeal (m : (ℓ : Loc Cert.BMixDscRefIdeal.nD Cert.BMixDscRefIdeal.τ Cert.BMixDscRefIdeal.sig) → Buf (Elt Ideal) ℓ) : Prop :=
  True

def Pre_BMixDwg (m : (ℓ : Loc Cert.BMixDwg.nD Cert.BMixDwg.τ Cert.BMixDwg.sig) → Buf (Elt Bits) ℓ) : Prop :=
  True

def Pre_BMixDwgIdeal (m : (ℓ : Loc Cert.BMixDwgIdeal.nD Cert.BMixDwgIdeal.τ Cert.BMixDwgIdeal.sig) → Buf (Elt Ideal) ℓ) : Prop :=
  True

def Pre_BMixDwgIdeal_finite13 [hPre_finite13 : Cert.Pre_finite13.Facts] (m : (ℓ : Loc Cert.BMixDwgIdeal.nD Cert.BMixDwgIdeal.τ Cert.BMixDwgIdeal.sig) → Buf (Elt Ideal) ℓ) : Prop :=
  ∀ c : Dev Cert.BMixDwgIdeal.nD,
    (Cert.Pre_finite13.fn (F := Ideal) (m ((c.tc : Thread Cert.BMixDwgIdeal.nD Cert.BMixDwgIdeal.τ).loc Cert.BMixDwgIdeal.main_arg0)) (m ((c.tc : Thread Cert.BMixDwgIdeal.nD Cert.BMixDwgIdeal.τ).loc Cert.BMixDwgIdeal.main_arg1)) (m ((c.tc : Thread Cert.BMixDwgIdeal.nD Cert.BMixDwgIdeal.τ).loc Cert.BMixDwgIdeal.main_arg2)) (m ((c.tc : Thread Cert.BMixDwgIdeal.nD Cert.BMixDwgIdeal.τ).loc Cert.BMixDwgIdeal.main_arg3))) = (fun _ => 1#1)

def Pre_BMixDwgRefIdeal (m : (ℓ : Loc Cert.BMixDwgRefIdeal.nD Cert.BMixDwgRefIdeal.τ Cert.BMixDwgRefIdeal.sig) → Buf (Elt Ideal) ℓ) : Prop :=
  True

def Pre_BMixDwgRefIdeal_finite13 [hPre_finite13 : Cert.Pre_finite13.Facts] (m : (ℓ : Loc Cert.BMixDwgRefIdeal.nD Cert.BMixDwgRefIdeal.τ Cert.BMixDwgRefIdeal.sig) → Buf (Elt Ideal) ℓ) : Prop :=
  ∀ c : Dev Cert.BMixDwgRefIdeal.nD,
    (Cert.Pre_finite13.fn (F := Ideal) (m ((c.tc : Thread Cert.BMixDwgRefIdeal.nD Cert.BMixDwgRefIdeal.τ).loc Cert.BMixDwgRefIdeal.main_arg0)) (m ((c.tc : Thread Cert.BMixDwgRefIdeal.nD Cert.BMixDwgRefIdeal.τ).loc Cert.BMixDwgRefIdeal.main_arg1)) (m ((c.tc : Thread Cert.BMixDwgRefIdeal.nD Cert.BMixDwgRefIdeal.τ).loc Cert.BMixDwgRefIdeal.main_arg2)) (m ((c.tc : Thread Cert.BMixDwgRefIdeal.nD Cert.BMixDwgRefIdeal.τ).loc Cert.BMixDwgRefIdeal.main_arg3))) = (fun _ => 1#1)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdIdeal_pre_finite1 [hInBwdIdeal : Cert.InBwdIdeal.Facts] [hPre_finite1 : Cert.Pre_finite1.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_finite1 m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4))
      ∧ r.2.sem = fun _ => 0)

def quiescent_InBwdRefIdeal_pre_finite1 [hInBwdRefIdeal : Cert.InBwdRefIdeal.Facts] [hPre_finite1 : Cert.Pre_finite1.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal_finite1 m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4))
      ∧ r.2.sem = fun _ => 0)

def quiescent_InBwdA [hInBwdA : Cert.InBwdA.Facts] : Prop :=
  ∀ (m : (ℓ : Loc Cert.InBwdA.nD Cert.InBwdA.τ Cert.InBwdA.sig) → Buf (Elt Bits) ℓ) (g : Dev Cert.InBwdA.nD → PrngReg), Pre_InBwdA m →
    θ_run (Cert.InBwdA.defs (F := Bits)) (onTc (τ := Cert.InBwdA.τ) (Cert.InBwdA.main (F := Bits))) ⟨m, fun _ => 0, g⟩ (fun r => (∀ c : Dev Cert.InBwdA.nD,
      r.2.mem ((c.tc : Thread Cert.InBwdA.nD Cert.InBwdA.τ).loc Cert.InBwdA.main_arg0) = m ((c.tc : Thread Cert.InBwdA.nD Cert.InBwdA.τ).loc Cert.InBwdA.main_arg0)
      ∧ r.2.mem ((c.tc : Thread Cert.InBwdA.nD Cert.InBwdA.τ).loc Cert.InBwdA.main_arg1) = m ((c.tc : Thread Cert.InBwdA.nD Cert.InBwdA.τ).loc Cert.InBwdA.main_arg1)
      ∧ r.2.mem ((c.tc : Thread Cert.InBwdA.nD Cert.InBwdA.τ).loc Cert.InBwdA.main_arg2) = m ((c.tc : Thread Cert.InBwdA.nD Cert.InBwdA.τ).loc Cert.InBwdA.main_arg2)
      ∧ r.2.mem ((c.tc : Thread Cert.InBwdA.nD Cert.InBwdA.τ).loc Cert.InBwdA.main_arg3) = m ((c.tc : Thread Cert.InBwdA.nD Cert.InBwdA.τ).loc Cert.InBwdA.main_arg3)
      ∧ r.2.mem ((c.tc : Thread Cert.InBwdA.nD Cert.InBwdA.τ).loc Cert.InBwdA.main_arg4) = m ((c.tc : Thread Cert.InBwdA.nD Cert.InBwdA.τ).loc Cert.InBwdA.main_arg4))
      ∧ r.2.sem = fun _ => 0)

def quiescent_InBwdAIdeal [hInBwdAIdeal : Cert.InBwdAIdeal.Facts] : Prop :=
  ∀ (m : (ℓ : Loc Cert.InBwdAIdeal.nD Cert.InBwdAIdeal.τ Cert.InBwdAIdeal.sig) → Buf (Elt Ideal) ℓ) (g : Dev Cert.InBwdAIdeal.nD → PrngReg), Pre_InBwdAIdeal m →
    θ_run (Cert.InBwdAIdeal.defs (F := Ideal)) (onTc (τ := Cert.InBwdAIdeal.τ) (Cert.InBwdAIdeal.main (F := Ideal))) ⟨m, fun _ => 0, g⟩ (fun r => (∀ c : Dev Cert.InBwdAIdeal.nD,
      r.2.mem ((c.tc : Thread Cert.InBwdAIdeal.nD Cert.InBwdAIdeal.τ).loc Cert.InBwdAIdeal.main_arg0) = m ((c.tc : Thread Cert.InBwdAIdeal.nD Cert.InBwdAIdeal.τ).loc Cert.InBwdAIdeal.main_arg0)
      ∧ r.2.mem ((c.tc : Thread Cert.InBwdAIdeal.nD Cert.InBwdAIdeal.τ).loc Cert.InBwdAIdeal.main_arg1) = m ((c.tc : Thread Cert.InBwdAIdeal.nD Cert.InBwdAIdeal.τ).loc Cert.InBwdAIdeal.main_arg1)
      ∧ r.2.mem ((c.tc : Thread Cert.InBwdAIdeal.nD Cert.InBwdAIdeal.τ).loc Cert.InBwdAIdeal.main_arg2) = m ((c.tc : Thread Cert.InBwdAIdeal.nD Cert.InBwdAIdeal.τ).loc Cert.InBwdAIdeal.main_arg2)
      ∧ r.2.mem ((c.tc : Thread Cert.InBwdAIdeal.nD Cert.InBwdAIdeal.τ).loc Cert.InBwdAIdeal.main_arg3) = m ((c.tc : Thread Cert.InBwdAIdeal.nD Cert.InBwdAIdeal.τ).loc Cert.InBwdAIdeal.main_arg3)
      ∧ r.2.mem ((c.tc : Thread Cert.InBwdAIdeal.nD Cert.InBwdAIdeal.τ).loc Cert.InBwdAIdeal.main_arg4) = m ((c.tc : Thread Cert.InBwdAIdeal.nD Cert.InBwdAIdeal.τ).loc Cert.InBwdAIdeal.main_arg4))
      ∧ r.2.sem = fun _ => 0)

def quiescent_InBwdAIdeal_pre_finite2 [hInBwdAIdeal : Cert.InBwdAIdeal.Facts] [hPre_finite2 : Cert.Pre_finite2.Facts] : Prop :=
  ∀ (m : (ℓ : Loc Cert.InBwdAIdeal.nD Cert.InBwdAIdeal.τ Cert.InBwdAIdeal.sig) → Buf (Elt Ideal) ℓ) (g : Dev Cert.InBwdAIdeal.nD → PrngReg), Pre_InBwdAIdeal_finite2 m →
    θ_run (Cert.InBwdAIdeal.defs (F := Ideal)) (onTc (τ := Cert.InBwdAIdeal.τ) (Cert.InBwdAIdeal.main (F := Ideal))) ⟨m, fun _ => 0, g⟩ (fun r => (∀ c : Dev Cert.InBwdAIdeal.nD,
      r.2.mem ((c.tc : Thread Cert.InBwdAIdeal.nD Cert.InBwdAIdeal.τ).loc Cert.InBwdAIdeal.main_arg0) = m ((c.tc : Thread Cert.InBwdAIdeal.nD Cert.InBwdAIdeal.τ).loc Cert.InBwdAIdeal.main_arg0)
      ∧ r.2.mem ((c.tc : Thread Cert.InBwdAIdeal.nD Cert.InBwdAIdeal.τ).loc Cert.InBwdAIdeal.main_arg1) = m ((c.tc : Thread Cert.InBwdAIdeal.nD Cert.InBwdAIdeal.τ).loc Cert.InBwdAIdeal.main_arg1)
      ∧ r.2.mem ((c.tc : Thread Cert.InBwdAIdeal.nD Cert.InBwdAIdeal.τ).loc Cert.InBwdAIdeal.main_arg2) = m ((c.tc : Thread Cert.InBwdAIdeal.nD Cert.InBwdAIdeal.τ).loc Cert.InBwdAIdeal.main_arg2)
      ∧ r.2.mem ((c.tc : Thread Cert.InBwdAIdeal.nD Cert.InBwdAIdeal.τ).loc Cert.InBwdAIdeal.main_arg3) = m ((c.tc : Thread Cert.InBwdAIdeal.nD Cert.InBwdAIdeal.τ).loc Cert.InBwdAIdeal.main_arg3)
      ∧ r.2.mem ((c.tc : Thread Cert.InBwdAIdeal.nD Cert.InBwdAIdeal.τ).loc Cert.InBwdAIdeal.main_arg4) = m ((c.tc : Thread Cert.InBwdAIdeal.nD Cert.InBwdAIdeal.τ).loc Cert.InBwdAIdeal.main_arg4))
      ∧ r.2.sem = fun _ => 0)

def quiescent_InBwdARefIdeal [hInBwdARefIdeal : Cert.InBwdARefIdeal.Facts] : Prop :=
  ∀ (m : (ℓ : Loc Cert.InBwdARefIdeal.nD Cert.InBwdARefIdeal.τ Cert.InBwdARefIdeal.sig) → Buf (Elt Ideal) ℓ) (g : Dev Cert.InBwdARefIdeal.nD → PrngReg), Pre_InBwdARefIdeal m →
    θ_run (Cert.InBwdARefIdeal.defs (F := Ideal)) (onTc (τ := Cert.InBwdARefIdeal.τ) (Cert.InBwdARefIdeal.main (F := Ideal))) ⟨m, fun _ => 0, g⟩ (fun r => (∀ c : Dev Cert.InBwdARefIdeal.nD,
      r.2.mem ((c.tc : Thread Cert.InBwdARefIdeal.nD Cert.InBwdARefIdeal.τ).loc Cert.InBwdARefIdeal.main_arg0) = m ((c.tc : Thread Cert.InBwdARefIdeal.nD Cert.InBwdARefIdeal.τ).loc Cert.InBwdARefIdeal.main_arg0)
      ∧ r.2.mem ((c.tc : Thread Cert.InBwdARefIdeal.nD Cert.InBwdARefIdeal.τ).loc Cert.InBwdARefIdeal.main_arg1) = m ((c.tc : Thread Cert.InBwdARefIdeal.nD Cert.InBwdARefIdeal.τ).loc Cert.InBwdARefIdeal.main_arg1)
      ∧ r.2.mem ((c.tc : Thread Cert.InBwdARefIdeal.nD Cert.InBwdARefIdeal.τ).loc Cert.InBwdARefIdeal.main_arg2) = m ((c.tc : Thread Cert.InBwdARefIdeal.nD Cert.InBwdARefIdeal.τ).loc Cert.InBwdARefIdeal.main_arg2)
      ∧ r.2.mem ((c.tc : Thread Cert.InBwdARefIdeal.nD Cert.InBwdARefIdeal.τ).loc Cert.InBwdARefIdeal.main_arg3) = m ((c.tc : Thread Cert.InBwdARefIdeal.nD Cert.InBwdARefIdeal.τ).loc Cert.InBwdARefIdeal.main_arg3)
      ∧ r.2.mem ((c.tc : Thread Cert.InBwdARefIdeal.nD Cert.InBwdARefIdeal.τ).loc Cert.InBwdARefIdeal.main_arg4) = m ((c.tc : Thread Cert.InBwdARefIdeal.nD Cert.InBwdARefIdeal.τ).loc Cert.InBwdARefIdeal.main_arg4))
      ∧ r.2.sem = fun _ => 0)

def quiescent_InBwdARefIdeal_pre_finite2 [hInBwdARefIdeal : Cert.InBwdARefIdeal.Facts] [hPre_finite2 : Cert.Pre_finite2.Facts] : Prop :=
  ∀ (m : (ℓ : Loc Cert.InBwdARefIdeal.nD Cert.InBwdARefIdeal.τ Cert.InBwdARefIdeal.sig) → Buf (Elt Ideal) ℓ) (g : Dev Cert.InBwdARefIdeal.nD → PrngReg), Pre_InBwdARefIdeal_finite2 m →
    θ_run (Cert.InBwdARefIdeal.defs (F := Ideal)) (onTc (τ := Cert.InBwdARefIdeal.τ) (Cert.InBwdARefIdeal.main (F := Ideal))) ⟨m, fun _ => 0, g⟩ (fun r => (∀ c : Dev Cert.InBwdARefIdeal.nD,
      r.2.mem ((c.tc : Thread Cert.InBwdARefIdeal.nD Cert.InBwdARefIdeal.τ).loc Cert.InBwdARefIdeal.main_arg0) = m ((c.tc : Thread Cert.InBwdARefIdeal.nD Cert.InBwdARefIdeal.τ).loc Cert.InBwdARefIdeal.main_arg0)
      ∧ r.2.mem ((c.tc : Thread Cert.InBwdARefIdeal.nD Cert.InBwdARefIdeal.τ).loc Cert.InBwdARefIdeal.main_arg1) = m ((c.tc : Thread Cert.InBwdARefIdeal.nD Cert.InBwdARefIdeal.τ).loc Cert.InBwdARefIdeal.main_arg1)
      ∧ r.2.mem ((c.tc : Thread Cert.InBwdARefIdeal.nD Cert.InBwdARefIdeal.τ).loc Cert.InBwdARefIdeal.main_arg2) = m ((c.tc : Thread Cert.InBwdARefIdeal.nD Cert.InBwdARefIdeal.τ).loc Cert.InBwdARefIdeal.main_arg2)
      ∧ r.2.mem ((c.tc : Thread Cert.InBwdARefIdeal.nD Cert.InBwdARefIdeal.τ).loc Cert.InBwdARefIdeal.main_arg3) = m ((c.tc : Thread Cert.InBwdARefIdeal.nD Cert.InBwdARefIdeal.τ).loc Cert.InBwdARefIdeal.main_arg3)
      ∧ r.2.mem ((c.tc : Thread Cert.InBwdARefIdeal.nD Cert.InBwdARefIdeal.τ).loc Cert.InBwdARefIdeal.main_arg4) = m ((c.tc : Thread Cert.InBwdARefIdeal.nD Cert.InBwdARefIdeal.τ).loc Cert.InBwdARefIdeal.main_arg4))
      ∧ r.2.sem = fun _ => 0)

def quiescent_AMix [hAMix : Cert.AMix.Facts] : Prop :=
  ∀ (m : (ℓ : Loc Cert.AMix.nD Cert.AMix.τ Cert.AMix.sig) → Buf (Elt Bits) ℓ) (g : Dev Cert.AMix.nD → PrngReg), Pre_AMix m →
    θ_run (Cert.AMix.defs (F := Bits)) (onTc (τ := Cert.AMix.τ) (Cert.AMix.main (F := Bits))) ⟨m, fun _ => 0, g⟩ (fun r => (∀ c : Dev Cert.AMix.nD,
      r.2.mem ((c.tc : Thread Cert.AMix.nD Cert.AMix.τ).loc Cert.AMix.main_arg0) = m ((c.tc : Thread Cert.AMix.nD Cert.AMix.τ).loc Cert.AMix.main_arg0)
      ∧ r.2.mem ((c.tc : Thread Cert.AMix.nD Cert.AMix.τ).loc Cert.AMix.main_arg1) = m ((c.tc : Thread Cert.AMix.nD Cert.AMix.τ).loc Cert.AMix.main_arg1)
      ∧ r.2.mem ((c.tc : Thread Cert.AMix.nD Cert.AMix.τ).loc Cert.AMix.main_arg2) = m ((c.tc : Thread Cert.AMix.nD Cert.AMix.τ).loc Cert.AMix.main_arg2)
      ∧ r.2.mem ((c.tc : Thread Cert.AMix.nD Cert.AMix.τ).loc Cert.AMix.main_arg3) = m ((c.tc : Thread Cert.AMix.nD Cert.AMix.τ).loc Cert.AMix.main_arg3)
      ∧ r.2.mem ((c.tc : Thread Cert.AMix.nD Cert.AMix.τ).loc Cert.AMix.main_arg4) = m ((c.tc : Thread Cert.AMix.nD Cert.AMix.τ).loc Cert.AMix.main_arg4)
      ∧ r.2.mem ((c.tc : Thread Cert.AMix.nD Cert.AMix.τ).loc Cert.AMix.main_arg5) = m ((c.tc : Thread Cert.AMix.nD Cert.AMix.τ).loc Cert.AMix.main_arg5))
      ∧ r.2.sem = fun _ => 0)

def quiescent_AMixIdeal [hAMixIdeal : Cert.AMixIdeal.Facts] : Prop :=
  ∀ (m : (ℓ : Loc Cert.AMixIdeal.nD Cert.AMixIdeal.τ Cert.AMixIdeal.sig) → Buf (Elt Ideal) ℓ) (g : Dev Cert.AMixIdeal.nD → PrngReg), Pre_AMixIdeal m →
    θ_run (Cert.AMixIdeal.defs (F := Ideal)) (onTc (τ := Cert.AMixIdeal.τ) (Cert.AMixIdeal.main (F := Ideal))) ⟨m, fun _ => 0, g⟩ (fun r => (∀ c : Dev Cert.AMixIdeal.nD,
      r.2.mem ((c.tc : Thread Cert.AMixIdeal.nD Cert.AMixIdeal.τ).loc Cert.AMixIdeal.main_arg0) = m ((c.tc : Thread Cert.AMixIdeal.nD Cert.AMixIdeal.τ).loc Cert.AMixIdeal.main_arg0)
      ∧ r.2.mem ((c.tc : Thread Cert.AMixIdeal.nD Cert.AMixIdeal.τ).loc Cert.AMixIdeal.main_arg1) = m ((c.tc : Thread Cert.AMixIdeal.nD Cert.AMixIdeal.τ).loc Cert.AMixIdeal.main_arg1)
      ∧ r.2.mem ((c.tc : Thread Cert.AMixIdeal.nD Cert.AMixIdeal.τ).loc Cert.AMixIdeal.main_arg2) = m ((c.tc : Thread Cert.AMixIdeal.nD Cert.AMixIdeal.τ).loc Cert.AMixIdeal.main_arg2)
      ∧ r.2.mem ((c.tc : Thread Cert.AMixIdeal.nD Cert.AMixIdeal.τ).loc Cert.AMixIdeal.main_arg3) = m ((c.tc : Thread Cert.AMixIdeal.nD Cert.AMixIdeal.τ).loc Cert.AMixIdeal.main_arg3)
      ∧ r.2.mem ((c.tc : Thread Cert.AMixIdeal.nD Cert.AMixIdeal.τ).loc Cert.AMixIdeal.main_arg4) = m ((c.tc : Thread Cert.AMixIdeal.nD Cert.AMixIdeal.τ).loc Cert.AMixIdeal.main_arg4)
      ∧ r.2.mem ((c.tc : Thread Cert.AMixIdeal.nD Cert.AMixIdeal.τ).loc Cert.AMixIdeal.main_arg5) = m ((c.tc : Thread Cert.AMixIdeal.nD Cert.AMixIdeal.τ).loc Cert.AMixIdeal.main_arg5))
      ∧ r.2.sem = fun _ => 0)

def quiescent_AMixIdeal_pre_finite3 [hAMixIdeal : Cert.AMixIdeal.Facts] [hPre_finite3 : Cert.Pre_finite3.Facts] : Prop :=
  ∀ (m : (ℓ : Loc Cert.AMixIdeal.nD Cert.AMixIdeal.τ Cert.AMixIdeal.sig) → Buf (Elt Ideal) ℓ) (g : Dev Cert.AMixIdeal.nD → PrngReg), Pre_AMixIdeal_finite3 m →
    θ_run (Cert.AMixIdeal.defs (F := Ideal)) (onTc (τ := Cert.AMixIdeal.τ) (Cert.AMixIdeal.main (F := Ideal))) ⟨m, fun _ => 0, g⟩ (fun r => (∀ c : Dev Cert.AMixIdeal.nD,
      r.2.mem ((c.tc : Thread Cert.AMixIdeal.nD Cert.AMixIdeal.τ).loc Cert.AMixIdeal.main_arg0) = m ((c.tc : Thread Cert.AMixIdeal.nD Cert.AMixIdeal.τ).loc Cert.AMixIdeal.main_arg0)
      ∧ r.2.mem ((c.tc : Thread Cert.AMixIdeal.nD Cert.AMixIdeal.τ).loc Cert.AMixIdeal.main_arg1) = m ((c.tc : Thread Cert.AMixIdeal.nD Cert.AMixIdeal.τ).loc Cert.AMixIdeal.main_arg1)
      ∧ r.2.mem ((c.tc : Thread Cert.AMixIdeal.nD Cert.AMixIdeal.τ).loc Cert.AMixIdeal.main_arg2) = m ((c.tc : Thread Cert.AMixIdeal.nD Cert.AMixIdeal.τ).loc Cert.AMixIdeal.main_arg2)
      ∧ r.2.mem ((c.tc : Thread Cert.AMixIdeal.nD Cert.AMixIdeal.τ).loc Cert.AMixIdeal.main_arg3) = m ((c.tc : Thread Cert.AMixIdeal.nD Cert.AMixIdeal.τ).loc Cert.AMixIdeal.main_arg3)
      ∧ r.2.mem ((c.tc : Thread Cert.AMixIdeal.nD Cert.AMixIdeal.τ).loc Cert.AMixIdeal.main_arg4) = m ((c.tc : Thread Cert.AMixIdeal.nD Cert.AMixIdeal.τ).loc Cert.AMixIdeal.main_arg4)
      ∧ r.2.mem ((c.tc : Thread Cert.AMixIdeal.nD Cert.AMixIdeal.τ).loc Cert.AMixIdeal.main_arg5) = m ((c.tc : Thread Cert.AMixIdeal.nD Cert.AMixIdeal.τ).loc Cert.AMixIdeal.main_arg5))
      ∧ r.2.sem = fun _ => 0)

def quiescent_AMixRefIdeal [hAMixRefIdeal : Cert.AMixRefIdeal.Facts] : Prop :=
  ∀ (m : (ℓ : Loc Cert.AMixRefIdeal.nD Cert.AMixRefIdeal.τ Cert.AMixRefIdeal.sig) → Buf (Elt Ideal) ℓ) (g : Dev Cert.AMixRefIdeal.nD → PrngReg), Pre_AMixRefIdeal m →
    θ_run (Cert.AMixRefIdeal.defs (F := Ideal)) (onTc (τ := Cert.AMixRefIdeal.τ) (Cert.AMixRefIdeal.main (F := Ideal))) ⟨m, fun _ => 0, g⟩ (fun r => (∀ c : Dev Cert.AMixRefIdeal.nD,
      r.2.mem ((c.tc : Thread Cert.AMixRefIdeal.nD Cert.AMixRefIdeal.τ).loc Cert.AMixRefIdeal.main_arg0) = m ((c.tc : Thread Cert.AMixRefIdeal.nD Cert.AMixRefIdeal.τ).loc Cert.AMixRefIdeal.main_arg0)
      ∧ r.2.mem ((c.tc : Thread Cert.AMixRefIdeal.nD Cert.AMixRefIdeal.τ).loc Cert.AMixRefIdeal.main_arg1) = m ((c.tc : Thread Cert.AMixRefIdeal.nD Cert.AMixRefIdeal.τ).loc Cert.AMixRefIdeal.main_arg1)
      ∧ r.2.mem ((c.tc : Thread Cert.AMixRefIdeal.nD Cert.AMixRefIdeal.τ).loc Cert.AMixRefIdeal.main_arg2) = m ((c.tc : Thread Cert.AMixRefIdeal.nD Cert.AMixRefIdeal.τ).loc Cert.AMixRefIdeal.main_arg2)
      ∧ r.2.mem ((c.tc : Thread Cert.AMixRefIdeal.nD Cert.AMixRefIdeal.τ).loc Cert.AMixRefIdeal.main_arg3) = m ((c.tc : Thread Cert.AMixRefIdeal.nD Cert.AMixRefIdeal.τ).loc Cert.AMixRefIdeal.main_arg3)
      ∧ r.2.mem ((c.tc : Thread Cert.AMixRefIdeal.nD Cert.AMixRefIdeal.τ).loc Cert.AMixRefIdeal.main_arg4) = m ((c.tc : Thread Cert.AMixRefIdeal.nD Cert.AMixRefIdeal.τ).loc Cert.AMixRefIdeal.main_arg4)
      ∧ r.2.mem ((c.tc : Thread Cert.AMixRefIdeal.nD Cert.AMixRefIdeal.τ).loc Cert.AMixRefIdeal.main_arg5) = m ((c.tc : Thread Cert.AMixRefIdeal.nD Cert.AMixRefIdeal.τ).loc Cert.AMixRefIdeal.main_arg5))
      ∧ r.2.sem = fun _ => 0)

def quiescent_AMixRefIdeal_pre_finite3 [hAMixRefIdeal : Cert.AMixRefIdeal.Facts] [hPre_finite3 : Cert.Pre_finite3.Facts] : Prop :=
  ∀ (m : (ℓ : Loc Cert.AMixRefIdeal.nD Cert.AMixRefIdeal.τ Cert.AMixRefIdeal.sig) → Buf (Elt Ideal) ℓ) (g : Dev Cert.AMixRefIdeal.nD → PrngReg), Pre_AMixRefIdeal_finite3 m →
    θ_run (Cert.AMixRefIdeal.defs (F := Ideal)) (onTc (τ := Cert.AMixRefIdeal.τ) (Cert.AMixRefIdeal.main (F := Ideal))) ⟨m, fun _ => 0, g⟩ (fun r => (∀ c : Dev Cert.AMixRefIdeal.nD,
      r.2.mem ((c.tc : Thread Cert.AMixRefIdeal.nD Cert.AMixRefIdeal.τ).loc Cert.AMixRefIdeal.main_arg0) = m ((c.tc : Thread Cert.AMixRefIdeal.nD Cert.AMixRefIdeal.τ).loc Cert.AMixRefIdeal.main_arg0)
      ∧ r.2.mem ((c.tc : Thread Cert.AMixRefIdeal.nD Cert.AMixRefIdeal.τ).loc Cert.AMixRefIdeal.main_arg1) = m ((c.tc : Thread Cert.AMixRefIdeal.nD Cert.AMixRefIdeal.τ).loc Cert.AMixRefIdeal.main_arg1)
      ∧ r.2.mem ((c.tc : Thread Cert.AMixRefIdeal.nD Cert.AMixRefIdeal.τ).loc Cert.AMixRefIdeal.main_arg2) = m ((c.tc : Thread Cert.AMixRefIdeal.nD Cert.AMixRefIdeal.τ).loc Cert.AMixRefIdeal.main_arg2)
      ∧ r.2.mem ((c.tc : Thread Cert.AMixRefIdeal.nD Cert.AMixRefIdeal.τ).loc Cert.AMixRefIdeal.main_arg3) = m ((c.tc : Thread Cert.AMixRefIdeal.nD Cert.AMixRefIdeal.τ).loc Cert.AMixRefIdeal.main_arg3)
      ∧ r.2.mem ((c.tc : Thread Cert.AMixRefIdeal.nD Cert.AMixRefIdeal.τ).loc Cert.AMixRefIdeal.main_arg4) = m ((c.tc : Thread Cert.AMixRefIdeal.nD Cert.AMixRefIdeal.τ).loc Cert.AMixRefIdeal.main_arg4)
      ∧ r.2.mem ((c.tc : Thread Cert.AMixRefIdeal.nD Cert.AMixRefIdeal.τ).loc Cert.AMixRefIdeal.main_arg5) = m ((c.tc : Thread Cert.AMixRefIdeal.nD Cert.AMixRefIdeal.τ).loc Cert.AMixRefIdeal.main_arg5))
      ∧ r.2.sem = fun _ => 0)

def quiescent_BMix [hBMix : Cert.BMix.Facts] : Prop :=
  ∀ (m : (ℓ : Loc Cert.BMix.nD Cert.BMix.τ Cert.BMix.sig) → Buf (Elt Bits) ℓ) (g : Dev Cert.BMix.nD → PrngReg), Pre_BMix m →
    θ_run (Cert.BMix.defs (F := Bits)) (onTc (τ := Cert.BMix.τ) (Cert.BMix.main (F := Bits))) ⟨m, fun _ => 0, g⟩ (fun r => (∀ c : Dev Cert.BMix.nD,
      r.2.mem ((c.tc : Thread Cert.BMix.nD Cert.BMix.τ).loc Cert.BMix.main_arg0) = m ((c.tc : Thread Cert.BMix.nD Cert.BMix.τ).loc Cert.BMix.main_arg0)
      ∧ r.2.mem ((c.tc : Thread Cert.BMix.nD Cert.BMix.τ).loc Cert.BMix.main_arg1) = m ((c.tc : Thread Cert.BMix.nD Cert.BMix.τ).loc Cert.BMix.main_arg1)
      ∧ r.2.mem ((c.tc : Thread Cert.BMix.nD Cert.BMix.τ).loc Cert.BMix.main_arg2) = m ((c.tc : Thread Cert.BMix.nD Cert.BMix.τ).loc Cert.BMix.main_arg2)
      ∧ r.2.mem ((c.tc : Thread Cert.BMix.nD Cert.BMix.τ).loc Cert.BMix.main_arg3) = m ((c.tc : Thread Cert.BMix.nD Cert.BMix.τ).loc Cert.BMix.main_arg3))
      ∧ r.2.sem = fun _ => 0)

def quiescent_BMixIdeal [hBMixIdeal : Cert.BMixIdeal.Facts] : Prop :=
  ∀ (m : (ℓ : Loc Cert.BMixIdeal.nD Cert.BMixIdeal.τ Cert.BMixIdeal.sig) → Buf (Elt Ideal) ℓ) (g : Dev Cert.BMixIdeal.nD → PrngReg), Pre_BMixIdeal m →
    θ_run (Cert.BMixIdeal.defs (F := Ideal)) (onTc (τ := Cert.BMixIdeal.τ) (Cert.BMixIdeal.main (F := Ideal))) ⟨m, fun _ => 0, g⟩ (fun r => (∀ c : Dev Cert.BMixIdeal.nD,
      r.2.mem ((c.tc : Thread Cert.BMixIdeal.nD Cert.BMixIdeal.τ).loc Cert.BMixIdeal.main_arg0) = m ((c.tc : Thread Cert.BMixIdeal.nD Cert.BMixIdeal.τ).loc Cert.BMixIdeal.main_arg0)
      ∧ r.2.mem ((c.tc : Thread Cert.BMixIdeal.nD Cert.BMixIdeal.τ).loc Cert.BMixIdeal.main_arg1) = m ((c.tc : Thread Cert.BMixIdeal.nD Cert.BMixIdeal.τ).loc Cert.BMixIdeal.main_arg1)
      ∧ r.2.mem ((c.tc : Thread Cert.BMixIdeal.nD Cert.BMixIdeal.τ).loc Cert.BMixIdeal.main_arg2) = m ((c.tc : Thread Cert.BMixIdeal.nD Cert.BMixIdeal.τ).loc Cert.BMixIdeal.main_arg2)
      ∧ r.2.mem ((c.tc : Thread Cert.BMixIdeal.nD Cert.BMixIdeal.τ).loc Cert.BMixIdeal.main_arg3) = m ((c.tc : Thread Cert.BMixIdeal.nD Cert.BMixIdeal.τ).loc Cert.BMixIdeal.main_arg3))
      ∧ r.2.sem = fun _ => 0)

def quiescent_BMixRefIdeal [hBMixRefIdeal : Cert.BMixRefIdeal.Facts] : Prop :=
  ∀ (m : (ℓ : Loc Cert.BMixRefIdeal.nD Cert.BMixRefIdeal.τ Cert.BMixRefIdeal.sig) → Buf (Elt Ideal) ℓ) (g : Dev Cert.BMixRefIdeal.nD → PrngReg), Pre_BMixRefIdeal m →
    θ_run (Cert.BMixRefIdeal.defs (F := Ideal)) (onTc (τ := Cert.BMixRefIdeal.τ) (Cert.BMixRefIdeal.main (F := Ideal))) ⟨m, fun _ => 0, g⟩ (fun r => (∀ c : Dev Cert.BMixRefIdeal.nD,
      r.2.mem ((c.tc : Thread Cert.BMixRefIdeal.nD Cert.BMixRefIdeal.τ).loc Cert.BMixRefIdeal.main_arg0) = m ((c.tc : Thread Cert.BMixRefIdeal.nD Cert.BMixRefIdeal.τ).loc Cert.BMixRefIdeal.main_arg0)
      ∧ r.2.mem ((c.tc : Thread Cert.BMixRefIdeal.nD Cert.BMixRefIdeal.τ).loc Cert.BMixRefIdeal.main_arg1) = m ((c.tc : Thread Cert.BMixRefIdeal.nD Cert.BMixRefIdeal.τ).loc Cert.BMixRefIdeal.main_arg1)
      ∧ r.2.mem ((c.tc : Thread Cert.BMixRefIdeal.nD Cert.BMixRefIdeal.τ).loc Cert.BMixRefIdeal.main_arg2) = m ((c.tc : Thread Cert.BMixRefIdeal.nD Cert.BMixRefIdeal.τ).loc Cert.BMixRefIdeal.main_arg2)
      ∧ r.2.mem ((c.tc : Thread Cert.BMixRefIdeal.nD Cert.BMixRefIdeal.τ).loc Cert.BMixRefIdeal.main_arg3) = m ((c.tc : Thread Cert.BMixRefIdeal.nD Cert.BMixRefIdeal.τ).loc Cert.BMixRefIdeal.main_arg3))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3))
      ∧ r.2.sem = fun _ => 0)

def quiescent_OutBwdIdeal_pre_finite5 [hOutBwdIdeal : Cert.OutBwdIdeal.Facts] [hPre_finite5 : Cert.Pre_finite5.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal_finite5 m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3))
      ∧ r.2.sem = fun _ => 0)

def quiescent_OutBwdRefIdeal_pre_finite5 [hOutBwdRefIdeal : Cert.OutBwdRefIdeal.Facts] [hPre_finite5 : Cert.Pre_finite5.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal_finite5 m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_finite6 [hLossIdeal : Cert.LossIdeal.Facts] [hPre_finite6 : Cert.Pre_finite6.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite6 m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_finite6 [hLossRefIdeal : Cert.LossRefIdeal.Facts] [hPre_finite6 : Cert.Pre_finite6.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite6 m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_AMixFwd [hAMixFwd : Cert.AMixFwd.Facts] : Prop :=
  ∀ (m : (ℓ : Loc Cert.AMixFwd.nD Cert.AMixFwd.τ Cert.AMixFwd.sig) → Buf (Elt Bits) ℓ) (g : Dev Cert.AMixFwd.nD → PrngReg), Pre_AMixFwd m →
    θ_run (Cert.AMixFwd.defs (F := Bits)) (onTc (τ := Cert.AMixFwd.τ) (Cert.AMixFwd.main (F := Bits))) ⟨m, fun _ => 0, g⟩ (fun r => (∀ c : Dev Cert.AMixFwd.nD,
      r.2.mem ((c.tc : Thread Cert.AMixFwd.nD Cert.AMixFwd.τ).loc Cert.AMixFwd.main_arg0) = m ((c.tc : Thread Cert.AMixFwd.nD Cert.AMixFwd.τ).loc Cert.AMixFwd.main_arg0)
      ∧ r.2.mem ((c.tc : Thread Cert.AMixFwd.nD Cert.AMixFwd.τ).loc Cert.AMixFwd.main_arg1) = m ((c.tc : Thread Cert.AMixFwd.nD Cert.AMixFwd.τ).loc Cert.AMixFwd.main_arg1)
      ∧ r.2.mem ((c.tc : Thread Cert.AMixFwd.nD Cert.AMixFwd.τ).loc Cert.AMixFwd.main_arg2) = m ((c.tc : Thread Cert.AMixFwd.nD Cert.AMixFwd.τ).loc Cert.AMixFwd.main_arg2)
      ∧ r.2.mem ((c.tc : Thread Cert.AMixFwd.nD Cert.AMixFwd.τ).loc Cert.AMixFwd.main_arg3) = m ((c.tc : Thread Cert.AMixFwd.nD Cert.AMixFwd.τ).loc Cert.AMixFwd.main_arg3)
      ∧ r.2.mem ((c.tc : Thread Cert.AMixFwd.nD Cert.AMixFwd.τ).loc Cert.AMixFwd.main_arg4) = m ((c.tc : Thread Cert.AMixFwd.nD Cert.AMixFwd.τ).loc Cert.AMixFwd.main_arg4))
      ∧ r.2.sem = fun _ => 0)

def quiescent_AMixFwdIdeal [hAMixFwdIdeal : Cert.AMixFwdIdeal.Facts] : Prop :=
  ∀ (m : (ℓ : Loc Cert.AMixFwdIdeal.nD Cert.AMixFwdIdeal.τ Cert.AMixFwdIdeal.sig) → Buf (Elt Ideal) ℓ) (g : Dev Cert.AMixFwdIdeal.nD → PrngReg), Pre_AMixFwdIdeal m →
    θ_run (Cert.AMixFwdIdeal.defs (F := Ideal)) (onTc (τ := Cert.AMixFwdIdeal.τ) (Cert.AMixFwdIdeal.main (F := Ideal))) ⟨m, fun _ => 0, g⟩ (fun r => (∀ c : Dev Cert.AMixFwdIdeal.nD,
      r.2.mem ((c.tc : Thread Cert.AMixFwdIdeal.nD Cert.AMixFwdIdeal.τ).loc Cert.AMixFwdIdeal.main_arg0) = m ((c.tc : Thread Cert.AMixFwdIdeal.nD Cert.AMixFwdIdeal.τ).loc Cert.AMixFwdIdeal.main_arg0)
      ∧ r.2.mem ((c.tc : Thread Cert.AMixFwdIdeal.nD Cert.AMixFwdIdeal.τ).loc Cert.AMixFwdIdeal.main_arg1) = m ((c.tc : Thread Cert.AMixFwdIdeal.nD Cert.AMixFwdIdeal.τ).loc Cert.AMixFwdIdeal.main_arg1)
      ∧ r.2.mem ((c.tc : Thread Cert.AMixFwdIdeal.nD Cert.AMixFwdIdeal.τ).loc Cert.AMixFwdIdeal.main_arg2) = m ((c.tc : Thread Cert.AMixFwdIdeal.nD Cert.AMixFwdIdeal.τ).loc Cert.AMixFwdIdeal.main_arg2)
      ∧ r.2.mem ((c.tc : Thread Cert.AMixFwdIdeal.nD Cert.AMixFwdIdeal.τ).loc Cert.AMixFwdIdeal.main_arg3) = m ((c.tc : Thread Cert.AMixFwdIdeal.nD Cert.AMixFwdIdeal.τ).loc Cert.AMixFwdIdeal.main_arg3)
      ∧ r.2.mem ((c.tc : Thread Cert.AMixFwdIdeal.nD Cert.AMixFwdIdeal.τ).loc Cert.AMixFwdIdeal.main_arg4) = m ((c.tc : Thread Cert.AMixFwdIdeal.nD Cert.AMixFwdIdeal.τ).loc Cert.AMixFwdIdeal.main_arg4))
      ∧ r.2.sem = fun _ => 0)

def quiescent_AMixFwdIdeal_pre_finite7 [hAMixFwdIdeal : Cert.AMixFwdIdeal.Facts] [hPre_finite7 : Cert.Pre_finite7.Facts] : Prop :=
  ∀ (m : (ℓ : Loc Cert.AMixFwdIdeal.nD Cert.AMixFwdIdeal.τ Cert.AMixFwdIdeal.sig) → Buf (Elt Ideal) ℓ) (g : Dev Cert.AMixFwdIdeal.nD → PrngReg), Pre_AMixFwdIdeal_finite7 m →
    θ_run (Cert.AMixFwdIdeal.defs (F := Ideal)) (onTc (τ := Cert.AMixFwdIdeal.τ) (Cert.AMixFwdIdeal.main (F := Ideal))) ⟨m, fun _ => 0, g⟩ (fun r => (∀ c : Dev Cert.AMixFwdIdeal.nD,
      r.2.mem ((c.tc : Thread Cert.AMixFwdIdeal.nD Cert.AMixFwdIdeal.τ).loc Cert.AMixFwdIdeal.main_arg0) = m ((c.tc : Thread Cert.AMixFwdIdeal.nD Cert.AMixFwdIdeal.τ).loc Cert.AMixFwdIdeal.main_arg0)
      ∧ r.2.mem ((c.tc : Thread Cert.AMixFwdIdeal.nD Cert.AMixFwdIdeal.τ).loc Cert.AMixFwdIdeal.main_arg1) = m ((c.tc : Thread Cert.AMixFwdIdeal.nD Cert.AMixFwdIdeal.τ).loc Cert.AMixFwdIdeal.main_arg1)
      ∧ r.2.mem ((c.tc : Thread Cert.AMixFwdIdeal.nD Cert.AMixFwdIdeal.τ).loc Cert.AMixFwdIdeal.main_arg2) = m ((c.tc : Thread Cert.AMixFwdIdeal.nD Cert.AMixFwdIdeal.τ).loc Cert.AMixFwdIdeal.main_arg2)
      ∧ r.2.mem ((c.tc : Thread Cert.AMixFwdIdeal.nD Cert.AMixFwdIdeal.τ).loc Cert.AMixFwdIdeal.main_arg3) = m ((c.tc : Thread Cert.AMixFwdIdeal.nD Cert.AMixFwdIdeal.τ).loc Cert.AMixFwdIdeal.main_arg3)
      ∧ r.2.mem ((c.tc : Thread Cert.AMixFwdIdeal.nD Cert.AMixFwdIdeal.τ).loc Cert.AMixFwdIdeal.main_arg4) = m ((c.tc : Thread Cert.AMixFwdIdeal.nD Cert.AMixFwdIdeal.τ).loc Cert.AMixFwdIdeal.main_arg4))
      ∧ r.2.sem = fun _ => 0)

def quiescent_AMixFwdRefIdeal [hAMixFwdRefIdeal : Cert.AMixFwdRefIdeal.Facts] : Prop :=
  ∀ (m : (ℓ : Loc Cert.AMixFwdRefIdeal.nD Cert.AMixFwdRefIdeal.τ Cert.AMixFwdRefIdeal.sig) → Buf (Elt Ideal) ℓ) (g : Dev Cert.AMixFwdRefIdeal.nD → PrngReg), Pre_AMixFwdRefIdeal m →
    θ_run (Cert.AMixFwdRefIdeal.defs (F := Ideal)) (onTc (τ := Cert.AMixFwdRefIdeal.τ) (Cert.AMixFwdRefIdeal.main (F := Ideal))) ⟨m, fun _ => 0, g⟩ (fun r => (∀ c : Dev Cert.AMixFwdRefIdeal.nD,
      r.2.mem ((c.tc : Thread Cert.AMixFwdRefIdeal.nD Cert.AMixFwdRefIdeal.τ).loc Cert.AMixFwdRefIdeal.main_arg0) = m ((c.tc : Thread Cert.AMixFwdRefIdeal.nD Cert.AMixFwdRefIdeal.τ).loc Cert.AMixFwdRefIdeal.main_arg0)
      ∧ r.2.mem ((c.tc : Thread Cert.AMixFwdRefIdeal.nD Cert.AMixFwdRefIdeal.τ).loc Cert.AMixFwdRefIdeal.main_arg1) = m ((c.tc : Thread Cert.AMixFwdRefIdeal.nD Cert.AMixFwdRefIdeal.τ).loc Cert.AMixFwdRefIdeal.main_arg1)
      ∧ r.2.mem ((c.tc : Thread Cert.AMixFwdRefIdeal.nD Cert.AMixFwdRefIdeal.τ).loc Cert.AMixFwdRefIdeal.main_arg2) = m ((c.tc : Thread Cert.AMixFwdRefIdeal.nD Cert.AMixFwdRefIdeal.τ).loc Cert.AMixFwdRefIdeal.main_arg2)
      ∧ r.2.mem ((c.tc : Thread Cert.AMixFwdRefIdeal.nD Cert.AMixFwdRefIdeal.τ).loc Cert.AMixFwdRefIdeal.main_arg3) = m ((c.tc : Thread Cert.AMixFwdRefIdeal.nD Cert.AMixFwdRefIdeal.τ).loc Cert.AMixFwdRefIdeal.main_arg3)
      ∧ r.2.mem ((c.tc : Thread Cert.AMixFwdRefIdeal.nD Cert.AMixFwdRefIdeal.τ).loc Cert.AMixFwdRefIdeal.main_arg4) = m ((c.tc : Thread Cert.AMixFwdRefIdeal.nD Cert.AMixFwdRefIdeal.τ).loc Cert.AMixFwdRefIdeal.main_arg4))
      ∧ r.2.sem = fun _ => 0)

def quiescent_AMixFwdRefIdeal_pre_finite7 [hAMixFwdRefIdeal : Cert.AMixFwdRefIdeal.Facts] [hPre_finite7 : Cert.Pre_finite7.Facts] : Prop :=
  ∀ (m : (ℓ : Loc Cert.AMixFwdRefIdeal.nD Cert.AMixFwdRefIdeal.τ Cert.AMixFwdRefIdeal.sig) → Buf (Elt Ideal) ℓ) (g : Dev Cert.AMixFwdRefIdeal.nD → PrngReg), Pre_AMixFwdRefIdeal_finite7 m →
    θ_run (Cert.AMixFwdRefIdeal.defs (F := Ideal)) (onTc (τ := Cert.AMixFwdRefIdeal.τ) (Cert.AMixFwdRefIdeal.main (F := Ideal))) ⟨m, fun _ => 0, g⟩ (fun r => (∀ c : Dev Cert.AMixFwdRefIdeal.nD,
      r.2.mem ((c.tc : Thread Cert.AMixFwdRefIdeal.nD Cert.AMixFwdRefIdeal.τ).loc Cert.AMixFwdRefIdeal.main_arg0) = m ((c.tc : Thread Cert.AMixFwdRefIdeal.nD Cert.AMixFwdRefIdeal.τ).loc Cert.AMixFwdRefIdeal.main_arg0)
      ∧ r.2.mem ((c.tc : Thread Cert.AMixFwdRefIdeal.nD Cert.AMixFwdRefIdeal.τ).loc Cert.AMixFwdRefIdeal.main_arg1) = m ((c.tc : Thread Cert.AMixFwdRefIdeal.nD Cert.AMixFwdRefIdeal.τ).loc Cert.AMixFwdRefIdeal.main_arg1)
      ∧ r.2.mem ((c.tc : Thread Cert.AMixFwdRefIdeal.nD Cert.AMixFwdRefIdeal.τ).loc Cert.AMixFwdRefIdeal.main_arg2) = m ((c.tc : Thread Cert.AMixFwdRefIdeal.nD Cert.AMixFwdRefIdeal.τ).loc Cert.AMixFwdRefIdeal.main_arg2)
      ∧ r.2.mem ((c.tc : Thread Cert.AMixFwdRefIdeal.nD Cert.AMixFwdRefIdeal.τ).loc Cert.AMixFwdRefIdeal.main_arg3) = m ((c.tc : Thread Cert.AMixFwdRefIdeal.nD Cert.AMixFwdRefIdeal.τ).loc Cert.AMixFwdRefIdeal.main_arg3)
      ∧ r.2.mem ((c.tc : Thread Cert.AMixFwdRefIdeal.nD Cert.AMixFwdRefIdeal.τ).loc Cert.AMixFwdRefIdeal.main_arg4) = m ((c.tc : Thread Cert.AMixFwdRefIdeal.nD Cert.AMixFwdRefIdeal.τ).loc Cert.AMixFwdRefIdeal.main_arg4))
      ∧ r.2.sem = fun _ => 0)

def quiescent_BMixFwd [hBMixFwd : Cert.BMixFwd.Facts] : Prop :=
  ∀ (m : (ℓ : Loc Cert.BMixFwd.nD Cert.BMixFwd.τ Cert.BMixFwd.sig) → Buf (Elt Bits) ℓ) (g : Dev Cert.BMixFwd.nD → PrngReg), Pre_BMixFwd m →
    θ_run (Cert.BMixFwd.defs (F := Bits)) (onTc (τ := Cert.BMixFwd.τ) (Cert.BMixFwd.main (F := Bits))) ⟨m, fun _ => 0, g⟩ (fun r => (∀ c : Dev Cert.BMixFwd.nD,
      r.2.mem ((c.tc : Thread Cert.BMixFwd.nD Cert.BMixFwd.τ).loc Cert.BMixFwd.main_arg0) = m ((c.tc : Thread Cert.BMixFwd.nD Cert.BMixFwd.τ).loc Cert.BMixFwd.main_arg0)
      ∧ r.2.mem ((c.tc : Thread Cert.BMixFwd.nD Cert.BMixFwd.τ).loc Cert.BMixFwd.main_arg1) = m ((c.tc : Thread Cert.BMixFwd.nD Cert.BMixFwd.τ).loc Cert.BMixFwd.main_arg1)
      ∧ r.2.mem ((c.tc : Thread Cert.BMixFwd.nD Cert.BMixFwd.τ).loc Cert.BMixFwd.main_arg2) = m ((c.tc : Thread Cert.BMixFwd.nD Cert.BMixFwd.τ).loc Cert.BMixFwd.main_arg2))
      ∧ r.2.sem = fun _ => 0)

def quiescent_BMixFwdIdeal [hBMixFwdIdeal : Cert.BMixFwdIdeal.Facts] : Prop :=
  ∀ (m : (ℓ : Loc Cert.BMixFwdIdeal.nD Cert.BMixFwdIdeal.τ Cert.BMixFwdIdeal.sig) → Buf (Elt Ideal) ℓ) (g : Dev Cert.BMixFwdIdeal.nD → PrngReg), Pre_BMixFwdIdeal m →
    θ_run (Cert.BMixFwdIdeal.defs (F := Ideal)) (onTc (τ := Cert.BMixFwdIdeal.τ) (Cert.BMixFwdIdeal.main (F := Ideal))) ⟨m, fun _ => 0, g⟩ (fun r => (∀ c : Dev Cert.BMixFwdIdeal.nD,
      r.2.mem ((c.tc : Thread Cert.BMixFwdIdeal.nD Cert.BMixFwdIdeal.τ).loc Cert.BMixFwdIdeal.main_arg0) = m ((c.tc : Thread Cert.BMixFwdIdeal.nD Cert.BMixFwdIdeal.τ).loc Cert.BMixFwdIdeal.main_arg0)
      ∧ r.2.mem ((c.tc : Thread Cert.BMixFwdIdeal.nD Cert.BMixFwdIdeal.τ).loc Cert.BMixFwdIdeal.main_arg1) = m ((c.tc : Thread Cert.BMixFwdIdeal.nD Cert.BMixFwdIdeal.τ).loc Cert.BMixFwdIdeal.main_arg1)
      ∧ r.2.mem ((c.tc : Thread Cert.BMixFwdIdeal.nD Cert.BMixFwdIdeal.τ).loc Cert.BMixFwdIdeal.main_arg2) = m ((c.tc : Thread Cert.BMixFwdIdeal.nD Cert.BMixFwdIdeal.τ).loc Cert.BMixFwdIdeal.main_arg2))
      ∧ r.2.sem = fun _ => 0)

def quiescent_BMixFwdIdeal_pre_finite8 [hBMixFwdIdeal : Cert.BMixFwdIdeal.Facts] [hPre_finite8 : Cert.Pre_finite8.Facts] : Prop :=
  ∀ (m : (ℓ : Loc Cert.BMixFwdIdeal.nD Cert.BMixFwdIdeal.τ Cert.BMixFwdIdeal.sig) → Buf (Elt Ideal) ℓ) (g : Dev Cert.BMixFwdIdeal.nD → PrngReg), Pre_BMixFwdIdeal_finite8 m →
    θ_run (Cert.BMixFwdIdeal.defs (F := Ideal)) (onTc (τ := Cert.BMixFwdIdeal.τ) (Cert.BMixFwdIdeal.main (F := Ideal))) ⟨m, fun _ => 0, g⟩ (fun r => (∀ c : Dev Cert.BMixFwdIdeal.nD,
      r.2.mem ((c.tc : Thread Cert.BMixFwdIdeal.nD Cert.BMixFwdIdeal.τ).loc Cert.BMixFwdIdeal.main_arg0) = m ((c.tc : Thread Cert.BMixFwdIdeal.nD Cert.BMixFwdIdeal.τ).loc Cert.BMixFwdIdeal.main_arg0)
      ∧ r.2.mem ((c.tc : Thread Cert.BMixFwdIdeal.nD Cert.BMixFwdIdeal.τ).loc Cert.BMixFwdIdeal.main_arg1) = m ((c.tc : Thread Cert.BMixFwdIdeal.nD Cert.BMixFwdIdeal.τ).loc Cert.BMixFwdIdeal.main_arg1)
      ∧ r.2.mem ((c.tc : Thread Cert.BMixFwdIdeal.nD Cert.BMixFwdIdeal.τ).loc Cert.BMixFwdIdeal.main_arg2) = m ((c.tc : Thread Cert.BMixFwdIdeal.nD Cert.BMixFwdIdeal.τ).loc Cert.BMixFwdIdeal.main_arg2))
      ∧ r.2.sem = fun _ => 0)

def quiescent_BMixFwdRefIdeal [hBMixFwdRefIdeal : Cert.BMixFwdRefIdeal.Facts] : Prop :=
  ∀ (m : (ℓ : Loc Cert.BMixFwdRefIdeal.nD Cert.BMixFwdRefIdeal.τ Cert.BMixFwdRefIdeal.sig) → Buf (Elt Ideal) ℓ) (g : Dev Cert.BMixFwdRefIdeal.nD → PrngReg), Pre_BMixFwdRefIdeal m →
    θ_run (Cert.BMixFwdRefIdeal.defs (F := Ideal)) (onTc (τ := Cert.BMixFwdRefIdeal.τ) (Cert.BMixFwdRefIdeal.main (F := Ideal))) ⟨m, fun _ => 0, g⟩ (fun r => (∀ c : Dev Cert.BMixFwdRefIdeal.nD,
      r.2.mem ((c.tc : Thread Cert.BMixFwdRefIdeal.nD Cert.BMixFwdRefIdeal.τ).loc Cert.BMixFwdRefIdeal.main_arg0) = m ((c.tc : Thread Cert.BMixFwdRefIdeal.nD Cert.BMixFwdRefIdeal.τ).loc Cert.BMixFwdRefIdeal.main_arg0)
      ∧ r.2.mem ((c.tc : Thread Cert.BMixFwdRefIdeal.nD Cert.BMixFwdRefIdeal.τ).loc Cert.BMixFwdRefIdeal.main_arg1) = m ((c.tc : Thread Cert.BMixFwdRefIdeal.nD Cert.BMixFwdRefIdeal.τ).loc Cert.BMixFwdRefIdeal.main_arg1)
      ∧ r.2.mem ((c.tc : Thread Cert.BMixFwdRefIdeal.nD Cert.BMixFwdRefIdeal.τ).loc Cert.BMixFwdRefIdeal.main_arg2) = m ((c.tc : Thread Cert.BMixFwdRefIdeal.nD Cert.BMixFwdRefIdeal.τ).loc Cert.BMixFwdRefIdeal.main_arg2))
      ∧ r.2.sem = fun _ => 0)

def quiescent_BMixFwdRefIdeal_pre_finite8 [hBMixFwdRefIdeal : Cert.BMixFwdRefIdeal.Facts] [hPre_finite8 : Cert.Pre_finite8.Facts] : Prop :=
  ∀ (m : (ℓ : Loc Cert.BMixFwdRefIdeal.nD Cert.BMixFwdRefIdeal.τ Cert.BMixFwdRefIdeal.sig) → Buf (Elt Ideal) ℓ) (g : Dev Cert.BMixFwdRefIdeal.nD → PrngReg), Pre_BMixFwdRefIdeal_finite8 m →
    θ_run (Cert.BMixFwdRefIdeal.defs (F := Ideal)) (onTc (τ := Cert.BMixFwdRefIdeal.τ) (Cert.BMixFwdRefIdeal.main (F := Ideal))) ⟨m, fun _ => 0, g⟩ (fun r => (∀ c : Dev Cert.BMixFwdRefIdeal.nD,
      r.2.mem ((c.tc : Thread Cert.BMixFwdRefIdeal.nD Cert.BMixFwdRefIdeal.τ).loc Cert.BMixFwdRefIdeal.main_arg0) = m ((c.tc : Thread Cert.BMixFwdRefIdeal.nD Cert.BMixFwdRefIdeal.τ).loc Cert.BMixFwdRefIdeal.main_arg0)
      ∧ r.2.mem ((c.tc : Thread Cert.BMixFwdRefIdeal.nD Cert.BMixFwdRefIdeal.τ).loc Cert.BMixFwdRefIdeal.main_arg1) = m ((c.tc : Thread Cert.BMixFwdRefIdeal.nD Cert.BMixFwdRefIdeal.τ).loc Cert.BMixFwdRefIdeal.main_arg1)
      ∧ r.2.mem ((c.tc : Thread Cert.BMixFwdRefIdeal.nD Cert.BMixFwdRefIdeal.τ).loc Cert.BMixFwdRefIdeal.main_arg2) = m ((c.tc : Thread Cert.BMixFwdRefIdeal.nD Cert.BMixFwdRefIdeal.τ).loc Cert.BMixFwdRefIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def quiescent_InFwdB [hInFwdB : Cert.InFwdB.Facts] : Prop :=
  ∀ (m : (ℓ : Loc Cert.InFwdB.nD Cert.InFwdB.τ Cert.InFwdB.sig) → Buf (Elt Bits) ℓ) (g : Dev Cert.InFwdB.nD → PrngReg), Pre_InFwdB m →
    θ_run (Cert.InFwdB.defs (F := Bits)) (onTc (τ := Cert.InFwdB.τ) (Cert.InFwdB.main (F := Bits))) ⟨m, fun _ => 0, g⟩ (fun r => (∀ c : Dev Cert.InFwdB.nD,
      r.2.mem ((c.tc : Thread Cert.InFwdB.nD Cert.InFwdB.τ).loc Cert.InFwdB.main_arg0) = m ((c.tc : Thread Cert.InFwdB.nD Cert.InFwdB.τ).loc Cert.InFwdB.main_arg0)
      ∧ r.2.mem ((c.tc : Thread Cert.InFwdB.nD Cert.InFwdB.τ).loc Cert.InFwdB.main_arg1) = m ((c.tc : Thread Cert.InFwdB.nD Cert.InFwdB.τ).loc Cert.InFwdB.main_arg1)
      ∧ r.2.mem ((c.tc : Thread Cert.InFwdB.nD Cert.InFwdB.τ).loc Cert.InFwdB.main_arg2) = m ((c.tc : Thread Cert.InFwdB.nD Cert.InFwdB.τ).loc Cert.InFwdB.main_arg2))
      ∧ r.2.sem = fun _ => 0)

def quiescent_InFwdBIdeal [hInFwdBIdeal : Cert.InFwdBIdeal.Facts] : Prop :=
  ∀ (m : (ℓ : Loc Cert.InFwdBIdeal.nD Cert.InFwdBIdeal.τ Cert.InFwdBIdeal.sig) → Buf (Elt Ideal) ℓ) (g : Dev Cert.InFwdBIdeal.nD → PrngReg), Pre_InFwdBIdeal m →
    θ_run (Cert.InFwdBIdeal.defs (F := Ideal)) (onTc (τ := Cert.InFwdBIdeal.τ) (Cert.InFwdBIdeal.main (F := Ideal))) ⟨m, fun _ => 0, g⟩ (fun r => (∀ c : Dev Cert.InFwdBIdeal.nD,
      r.2.mem ((c.tc : Thread Cert.InFwdBIdeal.nD Cert.InFwdBIdeal.τ).loc Cert.InFwdBIdeal.main_arg0) = m ((c.tc : Thread Cert.InFwdBIdeal.nD Cert.InFwdBIdeal.τ).loc Cert.InFwdBIdeal.main_arg0)
      ∧ r.2.mem ((c.tc : Thread Cert.InFwdBIdeal.nD Cert.InFwdBIdeal.τ).loc Cert.InFwdBIdeal.main_arg1) = m ((c.tc : Thread Cert.InFwdBIdeal.nD Cert.InFwdBIdeal.τ).loc Cert.InFwdBIdeal.main_arg1)
      ∧ r.2.mem ((c.tc : Thread Cert.InFwdBIdeal.nD Cert.InFwdBIdeal.τ).loc Cert.InFwdBIdeal.main_arg2) = m ((c.tc : Thread Cert.InFwdBIdeal.nD Cert.InFwdBIdeal.τ).loc Cert.InFwdBIdeal.main_arg2))
      ∧ r.2.sem = fun _ => 0)

def quiescent_InFwdBRefIdeal [hInFwdBRefIdeal : Cert.InFwdBRefIdeal.Facts] : Prop :=
  ∀ (m : (ℓ : Loc Cert.InFwdBRefIdeal.nD Cert.InFwdBRefIdeal.τ Cert.InFwdBRefIdeal.sig) → Buf (Elt Ideal) ℓ) (g : Dev Cert.InFwdBRefIdeal.nD → PrngReg), Pre_InFwdBRefIdeal m →
    θ_run (Cert.InFwdBRefIdeal.defs (F := Ideal)) (onTc (τ := Cert.InFwdBRefIdeal.τ) (Cert.InFwdBRefIdeal.main (F := Ideal))) ⟨m, fun _ => 0, g⟩ (fun r => (∀ c : Dev Cert.InFwdBRefIdeal.nD,
      r.2.mem ((c.tc : Thread Cert.InFwdBRefIdeal.nD Cert.InFwdBRefIdeal.τ).loc Cert.InFwdBRefIdeal.main_arg0) = m ((c.tc : Thread Cert.InFwdBRefIdeal.nD Cert.InFwdBRefIdeal.τ).loc Cert.InFwdBRefIdeal.main_arg0)
      ∧ r.2.mem ((c.tc : Thread Cert.InFwdBRefIdeal.nD Cert.InFwdBRefIdeal.τ).loc Cert.InFwdBRefIdeal.main_arg1) = m ((c.tc : Thread Cert.InFwdBRefIdeal.nD Cert.InFwdBRefIdeal.τ).loc Cert.InFwdBRefIdeal.main_arg1)
      ∧ r.2.mem ((c.tc : Thread Cert.InFwdBRefIdeal.nD Cert.InFwdBRefIdeal.τ).loc Cert.InFwdBRefIdeal.main_arg2) = m ((c.tc : Thread Cert.InFwdBRefIdeal.nD Cert.InFwdBRefIdeal.τ).loc Cert.InFwdBRefIdeal.main_arg2))
      ∧ r.2.sem = fun _ => 0)

def quiescent_BMixDsc [hBMixDsc : Cert.BMixDsc.Facts] : Prop :=
  ∀ (m : (ℓ : Loc Cert.BMixDsc.nD Cert.BMixDsc.τ Cert.BMixDsc.sig) → Buf (Elt Bits) ℓ) (g : Dev Cert.BMixDsc.nD → PrngReg), Pre_BMixDsc m →
    θ_run (Cert.BMixDsc.defs (F := Bits)) (onTc (τ := Cert.BMixDsc.τ) (Cert.BMixDsc.main (F := Bits))) ⟨m, fun _ => 0, g⟩ (fun r => (∀ c : Dev Cert.BMixDsc.nD,
      r.2.mem ((c.tc : Thread Cert.BMixDsc.nD Cert.BMixDsc.τ).loc Cert.BMixDsc.main_arg0) = m ((c.tc : Thread Cert.BMixDsc.nD Cert.BMixDsc.τ).loc Cert.BMixDsc.main_arg0)
      ∧ r.2.mem ((c.tc : Thread Cert.BMixDsc.nD Cert.BMixDsc.τ).loc Cert.BMixDsc.main_arg1) = m ((c.tc : Thread Cert.BMixDsc.nD Cert.BMixDsc.τ).loc Cert.BMixDsc.main_arg1)
      ∧ r.2.mem ((c.tc : Thread Cert.BMixDsc.nD Cert.BMixDsc.τ).loc Cert.BMixDsc.main_arg2) = m ((c.tc : Thread Cert.BMixDsc.nD Cert.BMixDsc.τ).loc Cert.BMixDsc.main_arg2)
      ∧ r.2.mem ((c.tc : Thread Cert.BMixDsc.nD Cert.BMixDsc.τ).loc Cert.BMixDsc.main_arg3) = m ((c.tc : Thread Cert.BMixDsc.nD Cert.BMixDsc.τ).loc Cert.BMixDsc.main_arg3))
      ∧ r.2.sem = fun _ => 0)

def quiescent_BMixDscIdeal [hBMixDscIdeal : Cert.BMixDscIdeal.Facts] : Prop :=
  ∀ (m : (ℓ : Loc Cert.BMixDscIdeal.nD Cert.BMixDscIdeal.τ Cert.BMixDscIdeal.sig) → Buf (Elt Ideal) ℓ) (g : Dev Cert.BMixDscIdeal.nD → PrngReg), Pre_BMixDscIdeal m →
    θ_run (Cert.BMixDscIdeal.defs (F := Ideal)) (onTc (τ := Cert.BMixDscIdeal.τ) (Cert.BMixDscIdeal.main (F := Ideal))) ⟨m, fun _ => 0, g⟩ (fun r => (∀ c : Dev Cert.BMixDscIdeal.nD,
      r.2.mem ((c.tc : Thread Cert.BMixDscIdeal.nD Cert.BMixDscIdeal.τ).loc Cert.BMixDscIdeal.main_arg0) = m ((c.tc : Thread Cert.BMixDscIdeal.nD Cert.BMixDscIdeal.τ).loc Cert.BMixDscIdeal.main_arg0)
      ∧ r.2.mem ((c.tc : Thread Cert.BMixDscIdeal.nD Cert.BMixDscIdeal.τ).loc Cert.BMixDscIdeal.main_arg1) = m ((c.tc : Thread Cert.BMixDscIdeal.nD Cert.BMixDscIdeal.τ).loc Cert.BMixDscIdeal.main_arg1)
      ∧ r.2.mem ((c.tc : Thread Cert.BMixDscIdeal.nD Cert.BMixDscIdeal.τ).loc Cert.BMixDscIdeal.main_arg2) = m ((c.tc : Thread Cert.BMixDscIdeal.nD Cert.BMixDscIdeal.τ).loc Cert.BMixDscIdeal.main_arg2)
      ∧ r.2.mem ((c.tc : Thread Cert.BMixDscIdeal.nD Cert.BMixDscIdeal.τ).loc Cert.BMixDscIdeal.main_arg3) = m ((c.tc : Thread Cert.BMixDscIdeal.nD Cert.BMixDscIdeal.τ).loc Cert.BMixDscIdeal.main_arg3))
      ∧ r.2.sem = fun _ => 0)

def quiescent_BMixDscRefIdeal [hBMixDscRefIdeal : Cert.BMixDscRefIdeal.Facts] : Prop :=
  ∀ (m : (ℓ : Loc Cert.BMixDscRefIdeal.nD Cert.BMixDscRefIdeal.τ Cert.BMixDscRefIdeal.sig) → Buf (Elt Ideal) ℓ) (g : Dev Cert.BMixDscRefIdeal.nD → PrngReg), Pre_BMixDscRefIdeal m →
    θ_run (Cert.BMixDscRefIdeal.defs (F := Ideal)) (onTc (τ := Cert.BMixDscRefIdeal.τ) (Cert.BMixDscRefIdeal.main (F := Ideal))) ⟨m, fun _ => 0, g⟩ (fun r => (∀ c : Dev Cert.BMixDscRefIdeal.nD,
      r.2.mem ((c.tc : Thread Cert.BMixDscRefIdeal.nD Cert.BMixDscRefIdeal.τ).loc Cert.BMixDscRefIdeal.main_arg0) = m ((c.tc : Thread Cert.BMixDscRefIdeal.nD Cert.BMixDscRefIdeal.τ).loc Cert.BMixDscRefIdeal.main_arg0)
      ∧ r.2.mem ((c.tc : Thread Cert.BMixDscRefIdeal.nD Cert.BMixDscRefIdeal.τ).loc Cert.BMixDscRefIdeal.main_arg1) = m ((c.tc : Thread Cert.BMixDscRefIdeal.nD Cert.BMixDscRefIdeal.τ).loc Cert.BMixDscRefIdeal.main_arg1)
      ∧ r.2.mem ((c.tc : Thread Cert.BMixDscRefIdeal.nD Cert.BMixDscRefIdeal.τ).loc Cert.BMixDscRefIdeal.main_arg2) = m ((c.tc : Thread Cert.BMixDscRefIdeal.nD Cert.BMixDscRefIdeal.τ).loc Cert.BMixDscRefIdeal.main_arg2)
      ∧ r.2.mem ((c.tc : Thread Cert.BMixDscRefIdeal.nD Cert.BMixDscRefIdeal.τ).loc Cert.BMixDscRefIdeal.main_arg3) = m ((c.tc : Thread Cert.BMixDscRefIdeal.nD Cert.BMixDscRefIdeal.τ).loc Cert.BMixDscRefIdeal.main_arg3))
      ∧ r.2.sem = fun _ => 0)

def quiescent_BMixDwg [hBMixDwg : Cert.BMixDwg.Facts] : Prop :=
  ∀ (m : (ℓ : Loc Cert.BMixDwg.nD Cert.BMixDwg.τ Cert.BMixDwg.sig) → Buf (Elt Bits) ℓ) (g : Dev Cert.BMixDwg.nD → PrngReg), Pre_BMixDwg m →
    θ_run (Cert.BMixDwg.defs (F := Bits)) (onTc (τ := Cert.BMixDwg.τ) (Cert.BMixDwg.main (F := Bits))) ⟨m, fun _ => 0, g⟩ (fun r => (∀ c : Dev Cert.BMixDwg.nD,
      r.2.mem ((c.tc : Thread Cert.BMixDwg.nD Cert.BMixDwg.τ).loc Cert.BMixDwg.main_arg0) = m ((c.tc : Thread Cert.BMixDwg.nD Cert.BMixDwg.τ).loc Cert.BMixDwg.main_arg0)
      ∧ r.2.mem ((c.tc : Thread Cert.BMixDwg.nD Cert.BMixDwg.τ).loc Cert.BMixDwg.main_arg1) = m ((c.tc : Thread Cert.BMixDwg.nD Cert.BMixDwg.τ).loc Cert.BMixDwg.main_arg1)
      ∧ r.2.mem ((c.tc : Thread Cert.BMixDwg.nD Cert.BMixDwg.τ).loc Cert.BMixDwg.main_arg2) = m ((c.tc : Thread Cert.BMixDwg.nD Cert.BMixDwg.τ).loc Cert.BMixDwg.main_arg2)
      ∧ r.2.mem ((c.tc : Thread Cert.BMixDwg.nD Cert.BMixDwg.τ).loc Cert.BMixDwg.main_arg3) = m ((c.tc : Thread Cert.BMixDwg.nD Cert.BMixDwg.τ).loc Cert.BMixDwg.main_arg3))
      ∧ r.2.sem = fun _ => 0)

def quiescent_BMixDwgIdeal [hBMixDwgIdeal : Cert.BMixDwgIdeal.Facts] : Prop :=
  ∀ (m : (ℓ : Loc Cert.BMixDwgIdeal.nD Cert.BMixDwgIdeal.τ Cert.BMixDwgIdeal.sig) → Buf (Elt Ideal) ℓ) (g : Dev Cert.BMixDwgIdeal.nD → PrngReg), Pre_BMixDwgIdeal m →
    θ_run (Cert.BMixDwgIdeal.defs (F := Ideal)) (onTc (τ := Cert.BMixDwgIdeal.τ) (Cert.BMixDwgIdeal.main (F := Ideal))) ⟨m, fun _ => 0, g⟩ (fun r => (∀ c : Dev Cert.BMixDwgIdeal.nD,
      r.2.mem ((c.tc : Thread Cert.BMixDwgIdeal.nD Cert.BMixDwgIdeal.τ).loc Cert.BMixDwgIdeal.main_arg0) = m ((c.tc : Thread Cert.BMixDwgIdeal.nD Cert.BMixDwgIdeal.τ).loc Cert.BMixDwgIdeal.main_arg0)
      ∧ r.2.mem ((c.tc : Thread Cert.BMixDwgIdeal.nD Cert.BMixDwgIdeal.τ).loc Cert.BMixDwgIdeal.main_arg1) = m ((c.tc : Thread Cert.BMixDwgIdeal.nD Cert.BMixDwgIdeal.τ).loc Cert.BMixDwgIdeal.main_arg1)
      ∧ r.2.mem ((c.tc : Thread Cert.BMixDwgIdeal.nD Cert.BMixDwgIdeal.τ).loc Cert.BMixDwgIdeal.main_arg2) = m ((c.tc : Thread Cert.BMixDwgIdeal.nD Cert.BMixDwgIdeal.τ).loc Cert.BMixDwgIdeal.main_arg2)
      ∧ r.2.mem ((c.tc : Thread Cert.BMixDwgIdeal.nD Cert.BMixDwgIdeal.τ).loc Cert.BMixDwgIdeal.main_arg3) = m ((c.tc : Thread Cert.BMixDwgIdeal.nD Cert.BMixDwgIdeal.τ).loc Cert.BMixDwgIdeal.main_arg3))
      ∧ r.2.sem = fun _ => 0)

def quiescent_BMixDwgIdeal_pre_finite13 [hBMixDwgIdeal : Cert.BMixDwgIdeal.Facts] [hPre_finite13 : Cert.Pre_finite13.Facts] : Prop :=
  ∀ (m : (ℓ : Loc Cert.BMixDwgIdeal.nD Cert.BMixDwgIdeal.τ Cert.BMixDwgIdeal.sig) → Buf (Elt Ideal) ℓ) (g : Dev Cert.BMixDwgIdeal.nD → PrngReg), Pre_BMixDwgIdeal_finite13 m →
    θ_run (Cert.BMixDwgIdeal.defs (F := Ideal)) (onTc (τ := Cert.BMixDwgIdeal.τ) (Cert.BMixDwgIdeal.main (F := Ideal))) ⟨m, fun _ => 0, g⟩ (fun r => (∀ c : Dev Cert.BMixDwgIdeal.nD,
      r.2.mem ((c.tc : Thread Cert.BMixDwgIdeal.nD Cert.BMixDwgIdeal.τ).loc Cert.BMixDwgIdeal.main_arg0) = m ((c.tc : Thread Cert.BMixDwgIdeal.nD Cert.BMixDwgIdeal.τ).loc Cert.BMixDwgIdeal.main_arg0)
      ∧ r.2.mem ((c.tc : Thread Cert.BMixDwgIdeal.nD Cert.BMixDwgIdeal.τ).loc Cert.BMixDwgIdeal.main_arg1) = m ((c.tc : Thread Cert.BMixDwgIdeal.nD Cert.BMixDwgIdeal.τ).loc Cert.BMixDwgIdeal.main_arg1)
      ∧ r.2.mem ((c.tc : Thread Cert.BMixDwgIdeal.nD Cert.BMixDwgIdeal.τ).loc Cert.BMixDwgIdeal.main_arg2) = m ((c.tc : Thread Cert.BMixDwgIdeal.nD Cert.BMixDwgIdeal.τ).loc Cert.BMixDwgIdeal.main_arg2)
      ∧ r.2.mem ((c.tc : Thread Cert.BMixDwgIdeal.nD Cert.BMixDwgIdeal.τ).loc Cert.BMixDwgIdeal.main_arg3) = m ((c.tc : Thread Cert.BMixDwgIdeal.nD Cert.BMixDwgIdeal.τ).loc Cert.BMixDwgIdeal.main_arg3))
      ∧ r.2.sem = fun _ => 0)

def quiescent_BMixDwgRefIdeal [hBMixDwgRefIdeal : Cert.BMixDwgRefIdeal.Facts] : Prop :=
  ∀ (m : (ℓ : Loc Cert.BMixDwgRefIdeal.nD Cert.BMixDwgRefIdeal.τ Cert.BMixDwgRefIdeal.sig) → Buf (Elt Ideal) ℓ) (g : Dev Cert.BMixDwgRefIdeal.nD → PrngReg), Pre_BMixDwgRefIdeal m →
    θ_run (Cert.BMixDwgRefIdeal.defs (F := Ideal)) (onTc (τ := Cert.BMixDwgRefIdeal.τ) (Cert.BMixDwgRefIdeal.main (F := Ideal))) ⟨m, fun _ => 0, g⟩ (fun r => (∀ c : Dev Cert.BMixDwgRefIdeal.nD,
      r.2.mem ((c.tc : Thread Cert.BMixDwgRefIdeal.nD Cert.BMixDwgRefIdeal.τ).loc Cert.BMixDwgRefIdeal.main_arg0) = m ((c.tc : Thread Cert.BMixDwgRefIdeal.nD Cert.BMixDwgRefIdeal.τ).loc Cert.BMixDwgRefIdeal.main_arg0)
      ∧ r.2.mem ((c.tc : Thread Cert.BMixDwgRefIdeal.nD Cert.BMixDwgRefIdeal.τ).loc Cert.BMixDwgRefIdeal.main_arg1) = m ((c.tc : Thread Cert.BMixDwgRefIdeal.nD Cert.BMixDwgRefIdeal.τ).loc Cert.BMixDwgRefIdeal.main_arg1)
      ∧ r.2.mem ((c.tc : Thread Cert.BMixDwgRefIdeal.nD Cert.BMixDwgRefIdeal.τ).loc Cert.BMixDwgRefIdeal.main_arg2) = m ((c.tc : Thread Cert.BMixDwgRefIdeal.nD Cert.BMixDwgRefIdeal.τ).loc Cert.BMixDwgRefIdeal.main_arg2)
      ∧ r.2.mem ((c.tc : Thread Cert.BMixDwgRefIdeal.nD Cert.BMixDwgRefIdeal.τ).loc Cert.BMixDwgRefIdeal.main_arg3) = m ((c.tc : Thread Cert.BMixDwgRefIdeal.nD Cert.BMixDwgRefIdeal.τ).loc Cert.BMixDwgRefIdeal.main_arg3))
      ∧ r.2.sem = fun _ => 0)

def quiescent_BMixDwgRefIdeal_pre_finite13 [hBMixDwgRefIdeal : Cert.BMixDwgRefIdeal.Facts] [hPre_finite13 : Cert.Pre_finite13.Facts] : Prop :=
  ∀ (m : (ℓ : Loc Cert.BMixDwgRefIdeal.nD Cert.BMixDwgRefIdeal.τ Cert.BMixDwgRefIdeal.sig) → Buf (Elt Ideal) ℓ) (g : Dev Cert.BMixDwgRefIdeal.nD → PrngReg), Pre_BMixDwgRefIdeal_finite13 m →
    θ_run (Cert.BMixDwgRefIdeal.defs (F := Ideal)) (onTc (τ := Cert.BMixDwgRefIdeal.τ) (Cert.BMixDwgRefIdeal.main (F := Ideal))) ⟨m, fun _ => 0, g⟩ (fun r => (∀ c : Dev Cert.BMixDwgRefIdeal.nD,
      r.2.mem ((c.tc : Thread Cert.BMixDwgRefIdeal.nD Cert.BMixDwgRefIdeal.τ).loc Cert.BMixDwgRefIdeal.main_arg0) = m ((c.tc : Thread Cert.BMixDwgRefIdeal.nD Cert.BMixDwgRefIdeal.τ).loc Cert.BMixDwgRefIdeal.main_arg0)
      ∧ r.2.mem ((c.tc : Thread Cert.BMixDwgRefIdeal.nD Cert.BMixDwgRefIdeal.τ).loc Cert.BMixDwgRefIdeal.main_arg1) = m ((c.tc : Thread Cert.BMixDwgRefIdeal.nD Cert.BMixDwgRefIdeal.τ).loc Cert.BMixDwgRefIdeal.main_arg1)
      ∧ r.2.mem ((c.tc : Thread Cert.BMixDwgRefIdeal.nD Cert.BMixDwgRefIdeal.τ).loc Cert.BMixDwgRefIdeal.main_arg2) = m ((c.tc : Thread Cert.BMixDwgRefIdeal.nD Cert.BMixDwgRefIdeal.τ).loc Cert.BMixDwgRefIdeal.main_arg2)
      ∧ r.2.mem ((c.tc : Thread Cert.BMixDwgRefIdeal.nD Cert.BMixDwgRefIdeal.τ).loc Cert.BMixDwgRefIdeal.main_arg3) = m ((c.tc : Thread Cert.BMixDwgRefIdeal.nD Cert.BMixDwgRefIdeal.τ).loc Cert.BMixDwgRefIdeal.main_arg3))
      ∧ r.2.sem = fun _ => 0)

def preserves_InBwd_InBwdIdeal : Prop :=
  True

def algebraic_InBwdIdeal_InBwdRefIdeal_pre_finite1 [hInBwdIdeal : Cert.InBwdIdeal.Facts] [hInBwdRefIdeal : Cert.InBwdRefIdeal.Facts] [hPre_finite1 : Cert.Pre_finite1.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal_finite1 m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)) →
    ∃ (v0 : (c : Dev Cert.InBwdIdeal.nD) → Buf (Elt Ideal) ((c.tc : Thread Cert.InBwdIdeal.nD Cert.InBwdIdeal.τ).loc Cert.InBwdIdeal.main_v6_0)) (v1 : (c : Dev Cert.InBwdIdeal.nD) → Buf (Elt Ideal) ((c.tc : Thread Cert.InBwdIdeal.nD Cert.InBwdIdeal.τ).loc Cert.InBwdIdeal.main_v6_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v6_0) = v0 c
          ∧ r.2.mem ((c.tc : Thread Cert.InBwdIdeal.nD Cert.InBwdIdeal.τ).loc Cert.InBwdIdeal.main_v6_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v42) = v0 c
          ∧ r.2.mem ((c.tc : Thread Cert.InBwdRefIdeal.nD Cert.InBwdRefIdeal.τ).loc Cert.InBwdRefIdeal.main_v43) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4))

def preserves_InBwdA_InBwdAIdeal : Prop :=
  True

def algebraic_InBwdAIdeal_InBwdARefIdeal_pre_finite2 [hInBwdAIdeal : Cert.InBwdAIdeal.Facts] [hInBwdARefIdeal : Cert.InBwdARefIdeal.Facts] [hPre_finite2 : Cert.Pre_finite2.Facts] : Prop :=
  ∀ (m : (ℓ : Loc Cert.InBwdAIdeal.nD Cert.InBwdAIdeal.τ Cert.InBwdAIdeal.sig) → Buf (Elt Ideal) ℓ) (g : Dev Cert.InBwdAIdeal.nD → PrngReg)
    (m' : (ℓ : Loc Cert.InBwdARefIdeal.nD Cert.InBwdARefIdeal.τ Cert.InBwdARefIdeal.sig) → Buf (Elt Ideal) ℓ) (g' : Dev Cert.InBwdARefIdeal.nD → PrngReg), Pre_InBwdAIdeal_finite2 m →
    (∀ c : Dev Cert.InBwdAIdeal.nD,
      m' ((c.tc : Thread Cert.InBwdARefIdeal.nD Cert.InBwdARefIdeal.τ).loc Cert.InBwdARefIdeal.main_arg0) = m ((c.tc : Thread Cert.InBwdAIdeal.nD Cert.InBwdAIdeal.τ).loc Cert.InBwdAIdeal.main_arg0)
      ∧ m' ((c.tc : Thread Cert.InBwdARefIdeal.nD Cert.InBwdARefIdeal.τ).loc Cert.InBwdARefIdeal.main_arg1) = m ((c.tc : Thread Cert.InBwdAIdeal.nD Cert.InBwdAIdeal.τ).loc Cert.InBwdAIdeal.main_arg1)
      ∧ m' ((c.tc : Thread Cert.InBwdARefIdeal.nD Cert.InBwdARefIdeal.τ).loc Cert.InBwdARefIdeal.main_arg2) = m ((c.tc : Thread Cert.InBwdAIdeal.nD Cert.InBwdAIdeal.τ).loc Cert.InBwdAIdeal.main_arg2)
      ∧ m' ((c.tc : Thread Cert.InBwdARefIdeal.nD Cert.InBwdARefIdeal.τ).loc Cert.InBwdARefIdeal.main_arg3) = m ((c.tc : Thread Cert.InBwdAIdeal.nD Cert.InBwdAIdeal.τ).loc Cert.InBwdAIdeal.main_arg3)
      ∧ m' ((c.tc : Thread Cert.InBwdARefIdeal.nD Cert.InBwdARefIdeal.τ).loc Cert.InBwdARefIdeal.main_arg4) = m ((c.tc : Thread Cert.InBwdAIdeal.nD Cert.InBwdAIdeal.τ).loc Cert.InBwdAIdeal.main_arg4)) →
    ∃ (v0 : (c : Dev Cert.InBwdAIdeal.nD) → Buf (Elt Ideal) ((c.tc : Thread Cert.InBwdAIdeal.nD Cert.InBwdAIdeal.τ).loc Cert.InBwdAIdeal.main_v10_0)) (v1 : (c : Dev Cert.InBwdAIdeal.nD) → Buf (Elt Ideal) ((c.tc : Thread Cert.InBwdAIdeal.nD Cert.InBwdAIdeal.τ).loc Cert.InBwdAIdeal.main_v10_1)),
      θ_run (Cert.InBwdAIdeal.defs (F := Ideal)) (onTc (τ := Cert.InBwdAIdeal.τ) (Cert.InBwdAIdeal.main (F := Ideal))) ⟨m, fun _ => 0, g⟩ (fun r => ∀ c : Dev Cert.InBwdAIdeal.nD,
          r.2.mem ((c.tc : Thread Cert.InBwdAIdeal.nD Cert.InBwdAIdeal.τ).loc Cert.InBwdAIdeal.main_v10_0) = v0 c
          ∧ r.2.mem ((c.tc : Thread Cert.InBwdAIdeal.nD Cert.InBwdAIdeal.τ).loc Cert.InBwdAIdeal.main_v10_1) = v1 c
          ∧ r.2.mem ((c.tc : Thread Cert.InBwdAIdeal.nD Cert.InBwdAIdeal.τ).loc Cert.InBwdAIdeal.main_arg0) = m ((c.tc : Thread Cert.InBwdAIdeal.nD Cert.InBwdAIdeal.τ).loc Cert.InBwdAIdeal.main_arg0)
          ∧ r.2.mem ((c.tc : Thread Cert.InBwdAIdeal.nD Cert.InBwdAIdeal.τ).loc Cert.InBwdAIdeal.main_arg1) = m ((c.tc : Thread Cert.InBwdAIdeal.nD Cert.InBwdAIdeal.τ).loc Cert.InBwdAIdeal.main_arg1)
          ∧ r.2.mem ((c.tc : Thread Cert.InBwdAIdeal.nD Cert.InBwdAIdeal.τ).loc Cert.InBwdAIdeal.main_arg2) = m ((c.tc : Thread Cert.InBwdAIdeal.nD Cert.InBwdAIdeal.τ).loc Cert.InBwdAIdeal.main_arg2)
          ∧ r.2.mem ((c.tc : Thread Cert.InBwdAIdeal.nD Cert.InBwdAIdeal.τ).loc Cert.InBwdAIdeal.main_arg3) = m ((c.tc : Thread Cert.InBwdAIdeal.nD Cert.InBwdAIdeal.τ).loc Cert.InBwdAIdeal.main_arg3)
          ∧ r.2.mem ((c.tc : Thread Cert.InBwdAIdeal.nD Cert.InBwdAIdeal.τ).loc Cert.InBwdAIdeal.main_arg4) = m ((c.tc : Thread Cert.InBwdAIdeal.nD Cert.InBwdAIdeal.τ).loc Cert.InBwdAIdeal.main_arg4))
      ∧ θ_run (Cert.InBwdARefIdeal.defs (F := Ideal)) (onTc (τ := Cert.InBwdARefIdeal.τ) (Cert.InBwdARefIdeal.main (F := Ideal))) ⟨m', fun _ => 0, g'⟩ (fun r => ∀ c : Dev Cert.InBwdARefIdeal.nD,
          r.2.mem ((c.tc : Thread Cert.InBwdARefIdeal.nD Cert.InBwdARefIdeal.τ).loc Cert.InBwdARefIdeal.main_v42) = v0 c
          ∧ r.2.mem ((c.tc : Thread Cert.InBwdARefIdeal.nD Cert.InBwdARefIdeal.τ).loc Cert.InBwdARefIdeal.main_v43) = v1 c
          ∧ r.2.mem ((c.tc : Thread Cert.InBwdARefIdeal.nD Cert.InBwdARefIdeal.τ).loc Cert.InBwdARefIdeal.main_arg0) = m' ((c.tc : Thread Cert.InBwdARefIdeal.nD Cert.InBwdARefIdeal.τ).loc Cert.InBwdARefIdeal.main_arg0)
          ∧ r.2.mem ((c.tc : Thread Cert.InBwdARefIdeal.nD Cert.InBwdARefIdeal.τ).loc Cert.InBwdARefIdeal.main_arg1) = m' ((c.tc : Thread Cert.InBwdARefIdeal.nD Cert.InBwdARefIdeal.τ).loc Cert.InBwdARefIdeal.main_arg1)
          ∧ r.2.mem ((c.tc : Thread Cert.InBwdARefIdeal.nD Cert.InBwdARefIdeal.τ).loc Cert.InBwdARefIdeal.main_arg2) = m' ((c.tc : Thread Cert.InBwdARefIdeal.nD Cert.InBwdARefIdeal.τ).loc Cert.InBwdARefIdeal.main_arg2)
          ∧ r.2.mem ((c.tc : Thread Cert.InBwdARefIdeal.nD Cert.InBwdARefIdeal.τ).loc Cert.InBwdARefIdeal.main_arg3) = m' ((c.tc : Thread Cert.InBwdARefIdeal.nD Cert.InBwdARefIdeal.τ).loc Cert.InBwdARefIdeal.main_arg3)
          ∧ r.2.mem ((c.tc : Thread Cert.InBwdARefIdeal.nD Cert.InBwdARefIdeal.τ).loc Cert.InBwdARefIdeal.main_arg4) = m' ((c.tc : Thread Cert.InBwdARefIdeal.nD Cert.InBwdARefIdeal.τ).loc Cert.InBwdARefIdeal.main_arg4))

def preserves_AMix_AMixIdeal : Prop :=
  IdealRules.named_const.Statement Cert.AMixIdeal.κ "gelu_a" .f32 0x3D372713#32 ((8943 / 200000 : ℝ) : EReal)
  ∧ IdealRules.named_const.Statement Cert.AMixIdeal.κ "gelu_3a" .f32 0x3E095D4F#32 ((26829 / 200000 : ℝ) : EReal)

def algebraic_AMixIdeal_AMixRefIdeal_pre_finite3 [hAMixIdeal : Cert.AMixIdeal.Facts] [hAMixRefIdeal : Cert.AMixRefIdeal.Facts] [hPre_finite3 : Cert.Pre_finite3.Facts] : Prop :=
  ∀ (m : (ℓ : Loc Cert.AMixIdeal.nD Cert.AMixIdeal.τ Cert.AMixIdeal.sig) → Buf (Elt Ideal) ℓ) (g : Dev Cert.AMixIdeal.nD → PrngReg)
    (m' : (ℓ : Loc Cert.AMixRefIdeal.nD Cert.AMixRefIdeal.τ Cert.AMixRefIdeal.sig) → Buf (Elt Ideal) ℓ) (g' : Dev Cert.AMixRefIdeal.nD → PrngReg), Pre_AMixIdeal_finite3 m →
    (∀ c : Dev Cert.AMixIdeal.nD,
      m' ((c.tc : Thread Cert.AMixRefIdeal.nD Cert.AMixRefIdeal.τ).loc Cert.AMixRefIdeal.main_arg0) = m ((c.tc : Thread Cert.AMixIdeal.nD Cert.AMixIdeal.τ).loc Cert.AMixIdeal.main_arg0)
      ∧ m' ((c.tc : Thread Cert.AMixRefIdeal.nD Cert.AMixRefIdeal.τ).loc Cert.AMixRefIdeal.main_arg1) = m ((c.tc : Thread Cert.AMixIdeal.nD Cert.AMixIdeal.τ).loc Cert.AMixIdeal.main_arg1)
      ∧ m' ((c.tc : Thread Cert.AMixRefIdeal.nD Cert.AMixRefIdeal.τ).loc Cert.AMixRefIdeal.main_arg2) = m ((c.tc : Thread Cert.AMixIdeal.nD Cert.AMixIdeal.τ).loc Cert.AMixIdeal.main_arg2)
      ∧ m' ((c.tc : Thread Cert.AMixRefIdeal.nD Cert.AMixRefIdeal.τ).loc Cert.AMixRefIdeal.main_arg3) = m ((c.tc : Thread Cert.AMixIdeal.nD Cert.AMixIdeal.τ).loc Cert.AMixIdeal.main_arg3)
      ∧ m' ((c.tc : Thread Cert.AMixRefIdeal.nD Cert.AMixRefIdeal.τ).loc Cert.AMixRefIdeal.main_arg4) = m ((c.tc : Thread Cert.AMixIdeal.nD Cert.AMixIdeal.τ).loc Cert.AMixIdeal.main_arg4)
      ∧ m' ((c.tc : Thread Cert.AMixRefIdeal.nD Cert.AMixRefIdeal.τ).loc Cert.AMixRefIdeal.main_arg5) = m ((c.tc : Thread Cert.AMixIdeal.nD Cert.AMixIdeal.τ).loc Cert.AMixIdeal.main_arg5)) →
    ∃ (v0 : (c : Dev Cert.AMixIdeal.nD) → Buf (Elt Ideal) ((c.tc : Thread Cert.AMixIdeal.nD Cert.AMixIdeal.τ).loc Cert.AMixIdeal.main_v57_0)) (v1 : (c : Dev Cert.AMixIdeal.nD) → Buf (Elt Ideal) ((c.tc : Thread Cert.AMixIdeal.nD Cert.AMixIdeal.τ).loc Cert.AMixIdeal.main_v57_1)) (v2 : (c : Dev Cert.AMixIdeal.nD) → Buf (Elt Ideal) ((c.tc : Thread Cert.AMixIdeal.nD Cert.AMixIdeal.τ).loc Cert.AMixIdeal.main_v57_2)) (v3 : (c : Dev Cert.AMixIdeal.nD) → Buf (Elt Ideal) ((c.tc : Thread Cert.AMixIdeal.nD Cert.AMixIdeal.τ).loc Cert.AMixIdeal.main_v57_3)) (v4 : (c : Dev Cert.AMixIdeal.nD) → Buf (Elt Ideal) ((c.tc : Thread Cert.AMixIdeal.nD Cert.AMixIdeal.τ).loc Cert.AMixIdeal.main_v57_4)),
      θ_run (Cert.AMixIdeal.defs (F := Ideal)) (onTc (τ := Cert.AMixIdeal.τ) (Cert.AMixIdeal.main (F := Ideal))) ⟨m, fun _ => 0, g⟩ (fun r => ∀ c : Dev Cert.AMixIdeal.nD,
          r.2.mem ((c.tc : Thread Cert.AMixIdeal.nD Cert.AMixIdeal.τ).loc Cert.AMixIdeal.main_v57_0) = v0 c
          ∧ r.2.mem ((c.tc : Thread Cert.AMixIdeal.nD Cert.AMixIdeal.τ).loc Cert.AMixIdeal.main_v57_1) = v1 c
          ∧ r.2.mem ((c.tc : Thread Cert.AMixIdeal.nD Cert.AMixIdeal.τ).loc Cert.AMixIdeal.main_v57_2) = v2 c
          ∧ r.2.mem ((c.tc : Thread Cert.AMixIdeal.nD Cert.AMixIdeal.τ).loc Cert.AMixIdeal.main_v57_3) = v3 c
          ∧ r.2.mem ((c.tc : Thread Cert.AMixIdeal.nD Cert.AMixIdeal.τ).loc Cert.AMixIdeal.main_v57_4) = v4 c
          ∧ r.2.mem ((c.tc : Thread Cert.AMixIdeal.nD Cert.AMixIdeal.τ).loc Cert.AMixIdeal.main_arg0) = m ((c.tc : Thread Cert.AMixIdeal.nD Cert.AMixIdeal.τ).loc Cert.AMixIdeal.main_arg0)
          ∧ r.2.mem ((c.tc : Thread Cert.AMixIdeal.nD Cert.AMixIdeal.τ).loc Cert.AMixIdeal.main_arg1) = m ((c.tc : Thread Cert.AMixIdeal.nD Cert.AMixIdeal.τ).loc Cert.AMixIdeal.main_arg1)
          ∧ r.2.mem ((c.tc : Thread Cert.AMixIdeal.nD Cert.AMixIdeal.τ).loc Cert.AMixIdeal.main_arg2) = m ((c.tc : Thread Cert.AMixIdeal.nD Cert.AMixIdeal.τ).loc Cert.AMixIdeal.main_arg2)
          ∧ r.2.mem ((c.tc : Thread Cert.AMixIdeal.nD Cert.AMixIdeal.τ).loc Cert.AMixIdeal.main_arg3) = m ((c.tc : Thread Cert.AMixIdeal.nD Cert.AMixIdeal.τ).loc Cert.AMixIdeal.main_arg3)
          ∧ r.2.mem ((c.tc : Thread Cert.AMixIdeal.nD Cert.AMixIdeal.τ).loc Cert.AMixIdeal.main_arg4) = m ((c.tc : Thread Cert.AMixIdeal.nD Cert.AMixIdeal.τ).loc Cert.AMixIdeal.main_arg4)
          ∧ r.2.mem ((c.tc : Thread Cert.AMixIdeal.nD Cert.AMixIdeal.τ).loc Cert.AMixIdeal.main_arg5) = m ((c.tc : Thread Cert.AMixIdeal.nD Cert.AMixIdeal.τ).loc Cert.AMixIdeal.main_arg5))
      ∧ θ_run (Cert.AMixRefIdeal.defs (F := Ideal)) (onTc (τ := Cert.AMixRefIdeal.τ) (Cert.AMixRefIdeal.main (F := Ideal))) ⟨m', fun _ => 0, g'⟩ (fun r => ∀ c : Dev Cert.AMixRefIdeal.nD,
          r.2.mem ((c.tc : Thread Cert.AMixRefIdeal.nD Cert.AMixRefIdeal.τ).loc Cert.AMixRefIdeal.main_v173) = v0 c
          ∧ r.2.mem ((c.tc : Thread Cert.AMixRefIdeal.nD Cert.AMixRefIdeal.τ).loc Cert.AMixRefIdeal.main_v112) = v1 c
          ∧ r.2.mem ((c.tc : Thread Cert.AMixRefIdeal.nD Cert.AMixRefIdeal.τ).loc Cert.AMixRefIdeal.main_v107) = v2 c
          ∧ r.2.mem ((c.tc : Thread Cert.AMixRefIdeal.nD Cert.AMixRefIdeal.τ).loc Cert.AMixRefIdeal.main_v174) = v3 c
          ∧ r.2.mem ((c.tc : Thread Cert.AMixRefIdeal.nD Cert.AMixRefIdeal.τ).loc Cert.AMixRefIdeal.main_v175) = v4 c
          ∧ r.2.mem ((c.tc : Thread Cert.AMixRefIdeal.nD Cert.AMixRefIdeal.τ).loc Cert.AMixRefIdeal.main_arg0) = m' ((c.tc : Thread Cert.AMixRefIdeal.nD Cert.AMixRefIdeal.τ).loc Cert.AMixRefIdeal.main_arg0)
          ∧ r.2.mem ((c.tc : Thread Cert.AMixRefIdeal.nD Cert.AMixRefIdeal.τ).loc Cert.AMixRefIdeal.main_arg1) = m' ((c.tc : Thread Cert.AMixRefIdeal.nD Cert.AMixRefIdeal.τ).loc Cert.AMixRefIdeal.main_arg1)
          ∧ r.2.mem ((c.tc : Thread Cert.AMixRefIdeal.nD Cert.AMixRefIdeal.τ).loc Cert.AMixRefIdeal.main_arg2) = m' ((c.tc : Thread Cert.AMixRefIdeal.nD Cert.AMixRefIdeal.τ).loc Cert.AMixRefIdeal.main_arg2)
          ∧ r.2.mem ((c.tc : Thread Cert.AMixRefIdeal.nD Cert.AMixRefIdeal.τ).loc Cert.AMixRefIdeal.main_arg3) = m' ((c.tc : Thread Cert.AMixRefIdeal.nD Cert.AMixRefIdeal.τ).loc Cert.AMixRefIdeal.main_arg3)
          ∧ r.2.mem ((c.tc : Thread Cert.AMixRefIdeal.nD Cert.AMixRefIdeal.τ).loc Cert.AMixRefIdeal.main_arg4) = m' ((c.tc : Thread Cert.AMixRefIdeal.nD Cert.AMixRefIdeal.τ).loc Cert.AMixRefIdeal.main_arg4)
          ∧ r.2.mem ((c.tc : Thread Cert.AMixRefIdeal.nD Cert.AMixRefIdeal.τ).loc Cert.AMixRefIdeal.main_arg5) = m' ((c.tc : Thread Cert.AMixRefIdeal.nD Cert.AMixRefIdeal.τ).loc Cert.AMixRefIdeal.main_arg5))

def preserves_BMix_BMixIdeal : Prop :=
  True

def preserves_OutBwd_OutBwdIdeal : Prop :=
  True

def algebraic_OutBwdIdeal_OutBwdRefIdeal_pre_finite5 [hOutBwdIdeal : Cert.OutBwdIdeal.Facts] [hOutBwdRefIdeal : Cert.OutBwdRefIdeal.Facts] [hPre_finite5 : Cert.Pre_finite5.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal_finite5 m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)
      ∧ m' ((c.tc : Thread Cert.OutBwdRefIdeal.nD Cert.OutBwdRefIdeal.τ).loc Cert.OutBwdRefIdeal.main_arg3) = m ((c.tc : Thread Cert.OutBwdIdeal.nD Cert.OutBwdIdeal.τ).loc Cert.OutBwdIdeal.main_arg3)) →
    ∃ (v0 : (c : Dev Cert.OutBwdIdeal.nD) → Buf (Elt Ideal) ((c.tc : Thread Cert.OutBwdIdeal.nD Cert.OutBwdIdeal.τ).loc Cert.OutBwdIdeal.main_v6_0)) (v1 : (c : Dev Cert.OutBwdIdeal.nD) → Buf (Elt Ideal) ((c.tc : Thread Cert.OutBwdIdeal.nD Cert.OutBwdIdeal.τ).loc Cert.OutBwdIdeal.main_v6_1)) (v2 : (c : Dev Cert.OutBwdIdeal.nD) → Buf (Elt Ideal) ((c.tc : Thread Cert.OutBwdIdeal.nD Cert.OutBwdIdeal.τ).loc Cert.OutBwdIdeal.main_v6_2)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v6_0) = v0 c
          ∧ r.2.mem ((c.tc : Thread Cert.OutBwdIdeal.nD Cert.OutBwdIdeal.τ).loc Cert.OutBwdIdeal.main_v6_1) = v1 c
          ∧ r.2.mem ((c.tc : Thread Cert.OutBwdIdeal.nD Cert.OutBwdIdeal.τ).loc Cert.OutBwdIdeal.main_v6_2) = v2 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v44) = v0 c
          ∧ r.2.mem ((c.tc : Thread Cert.OutBwdRefIdeal.nD Cert.OutBwdRefIdeal.τ).loc Cert.OutBwdRefIdeal.main_v46) = v1 c
          ∧ r.2.mem ((c.tc : Thread Cert.OutBwdRefIdeal.nD Cert.OutBwdRefIdeal.τ).loc Cert.OutBwdRefIdeal.main_v47) = v2 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2)
          ∧ r.2.mem ((c.tc : Thread Cert.OutBwdRefIdeal.nD Cert.OutBwdRefIdeal.τ).loc Cert.OutBwdRefIdeal.main_arg3) = m' ((c.tc : Thread Cert.OutBwdRefIdeal.nD Cert.OutBwdRefIdeal.τ).loc Cert.OutBwdRefIdeal.main_arg3))

def preserves_Loss_LossIdeal : Prop :=
  True

def algebraic_LossIdeal_LossRefIdeal_pre_finite6 [hLossIdeal : Cert.LossIdeal.Facts] [hLossRefIdeal : Cert.LossRefIdeal.Facts] [hPre_finite6 : Cert.Pre_finite6.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite6 m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v5_0)) (v1 : (c : Dev Cert.LossIdeal.nD) → Buf (Elt Ideal) ((c.tc : Thread Cert.LossIdeal.nD Cert.LossIdeal.τ).loc Cert.LossIdeal.main_v5_1)) (v2 : (c : Dev Cert.LossIdeal.nD) → Buf (Elt Ideal) ((c.tc : Thread Cert.LossIdeal.nD Cert.LossIdeal.τ).loc Cert.LossIdeal.main_v5_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v5_0) = v0 c
          ∧ r.2.mem ((c.tc : Thread Cert.LossIdeal.nD Cert.LossIdeal.τ).loc Cert.LossIdeal.main_v5_1) = v1 c
          ∧ r.2.mem ((c.tc : Thread Cert.LossIdeal.nD Cert.LossIdeal.τ).loc Cert.LossIdeal.main_v5_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v32) = v0 c
          ∧ r.2.mem ((c.tc : Thread Cert.LossRefIdeal.nD Cert.LossRefIdeal.τ).loc Cert.LossRefIdeal.main_v33) = v1 c
          ∧ r.2.mem ((c.tc : Thread Cert.LossRefIdeal.nD Cert.LossRefIdeal.τ).loc Cert.LossRefIdeal.main_v34) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_AMixFwd_AMixFwdIdeal : Prop :=
  IdealRules.named_const.Statement Cert.AMixFwdIdeal.κ "gelu_a" .f32 0x3D372713#32 ((8943 / 200000 : ℝ) : EReal)
  ∧ IdealRules.named_const.Statement Cert.AMixFwdIdeal.κ "gelu_3a" .f32 0x3E095D4F#32 ((26829 / 200000 : ℝ) : EReal)

def algebraic_AMixFwdIdeal_AMixFwdRefIdeal_pre_finite7 [hAMixFwdIdeal : Cert.AMixFwdIdeal.Facts] [hAMixFwdRefIdeal : Cert.AMixFwdRefIdeal.Facts] [hPre_finite7 : Cert.Pre_finite7.Facts] : Prop :=
  ∀ (m : (ℓ : Loc Cert.AMixFwdIdeal.nD Cert.AMixFwdIdeal.τ Cert.AMixFwdIdeal.sig) → Buf (Elt Ideal) ℓ) (g : Dev Cert.AMixFwdIdeal.nD → PrngReg)
    (m' : (ℓ : Loc Cert.AMixFwdRefIdeal.nD Cert.AMixFwdRefIdeal.τ Cert.AMixFwdRefIdeal.sig) → Buf (Elt Ideal) ℓ) (g' : Dev Cert.AMixFwdRefIdeal.nD → PrngReg), Pre_AMixFwdIdeal_finite7 m →
    (∀ c : Dev Cert.AMixFwdIdeal.nD,
      m' ((c.tc : Thread Cert.AMixFwdRefIdeal.nD Cert.AMixFwdRefIdeal.τ).loc Cert.AMixFwdRefIdeal.main_arg0) = m ((c.tc : Thread Cert.AMixFwdIdeal.nD Cert.AMixFwdIdeal.τ).loc Cert.AMixFwdIdeal.main_arg0)
      ∧ m' ((c.tc : Thread Cert.AMixFwdRefIdeal.nD Cert.AMixFwdRefIdeal.τ).loc Cert.AMixFwdRefIdeal.main_arg1) = m ((c.tc : Thread Cert.AMixFwdIdeal.nD Cert.AMixFwdIdeal.τ).loc Cert.AMixFwdIdeal.main_arg1)
      ∧ m' ((c.tc : Thread Cert.AMixFwdRefIdeal.nD Cert.AMixFwdRefIdeal.τ).loc Cert.AMixFwdRefIdeal.main_arg2) = m ((c.tc : Thread Cert.AMixFwdIdeal.nD Cert.AMixFwdIdeal.τ).loc Cert.AMixFwdIdeal.main_arg2)
      ∧ m' ((c.tc : Thread Cert.AMixFwdRefIdeal.nD Cert.AMixFwdRefIdeal.τ).loc Cert.AMixFwdRefIdeal.main_arg3) = m ((c.tc : Thread Cert.AMixFwdIdeal.nD Cert.AMixFwdIdeal.τ).loc Cert.AMixFwdIdeal.main_arg3)
      ∧ m' ((c.tc : Thread Cert.AMixFwdRefIdeal.nD Cert.AMixFwdRefIdeal.τ).loc Cert.AMixFwdRefIdeal.main_arg4) = m ((c.tc : Thread Cert.AMixFwdIdeal.nD Cert.AMixFwdIdeal.τ).loc Cert.AMixFwdIdeal.main_arg4)) →
    ∃ (v0 : (c : Dev Cert.AMixFwdIdeal.nD) → Buf (Elt Ideal) ((c.tc : Thread Cert.AMixFwdIdeal.nD Cert.AMixFwdIdeal.τ).loc Cert.AMixFwdIdeal.main_v4_0)) (v1 : (c : Dev Cert.AMixFwdIdeal.nD) → Buf (Elt Ideal) ((c.tc : Thread Cert.AMixFwdIdeal.nD Cert.AMixFwdIdeal.τ).loc Cert.AMixFwdIdeal.main_v4_1)) (v2 : (c : Dev Cert.AMixFwdIdeal.nD) → Buf (Elt Ideal) ((c.tc : Thread Cert.AMixFwdIdeal.nD Cert.AMixFwdIdeal.τ).loc Cert.AMixFwdIdeal.main_v4_2)) (v3 : (c : Dev Cert.AMixFwdIdeal.nD) → Buf (Elt Ideal) ((c.tc : Thread Cert.AMixFwdIdeal.nD Cert.AMixFwdIdeal.τ).loc Cert.AMixFwdIdeal.main_v4_3)),
      θ_run (Cert.AMixFwdIdeal.defs (F := Ideal)) (onTc (τ := Cert.AMixFwdIdeal.τ) (Cert.AMixFwdIdeal.main (F := Ideal))) ⟨m, fun _ => 0, g⟩ (fun r => ∀ c : Dev Cert.AMixFwdIdeal.nD,
          r.2.mem ((c.tc : Thread Cert.AMixFwdIdeal.nD Cert.AMixFwdIdeal.τ).loc Cert.AMixFwdIdeal.main_v4_0) = v0 c
          ∧ r.2.mem ((c.tc : Thread Cert.AMixFwdIdeal.nD Cert.AMixFwdIdeal.τ).loc Cert.AMixFwdIdeal.main_v4_1) = v1 c
          ∧ r.2.mem ((c.tc : Thread Cert.AMixFwdIdeal.nD Cert.AMixFwdIdeal.τ).loc Cert.AMixFwdIdeal.main_v4_2) = v2 c
          ∧ r.2.mem ((c.tc : Thread Cert.AMixFwdIdeal.nD Cert.AMixFwdIdeal.τ).loc Cert.AMixFwdIdeal.main_v4_3) = v3 c
          ∧ r.2.mem ((c.tc : Thread Cert.AMixFwdIdeal.nD Cert.AMixFwdIdeal.τ).loc Cert.AMixFwdIdeal.main_arg0) = m ((c.tc : Thread Cert.AMixFwdIdeal.nD Cert.AMixFwdIdeal.τ).loc Cert.AMixFwdIdeal.main_arg0)
          ∧ r.2.mem ((c.tc : Thread Cert.AMixFwdIdeal.nD Cert.AMixFwdIdeal.τ).loc Cert.AMixFwdIdeal.main_arg1) = m ((c.tc : Thread Cert.AMixFwdIdeal.nD Cert.AMixFwdIdeal.τ).loc Cert.AMixFwdIdeal.main_arg1)
          ∧ r.2.mem ((c.tc : Thread Cert.AMixFwdIdeal.nD Cert.AMixFwdIdeal.τ).loc Cert.AMixFwdIdeal.main_arg2) = m ((c.tc : Thread Cert.AMixFwdIdeal.nD Cert.AMixFwdIdeal.τ).loc Cert.AMixFwdIdeal.main_arg2)
          ∧ r.2.mem ((c.tc : Thread Cert.AMixFwdIdeal.nD Cert.AMixFwdIdeal.τ).loc Cert.AMixFwdIdeal.main_arg3) = m ((c.tc : Thread Cert.AMixFwdIdeal.nD Cert.AMixFwdIdeal.τ).loc Cert.AMixFwdIdeal.main_arg3)
          ∧ r.2.mem ((c.tc : Thread Cert.AMixFwdIdeal.nD Cert.AMixFwdIdeal.τ).loc Cert.AMixFwdIdeal.main_arg4) = m ((c.tc : Thread Cert.AMixFwdIdeal.nD Cert.AMixFwdIdeal.τ).loc Cert.AMixFwdIdeal.main_arg4))
      ∧ θ_run (Cert.AMixFwdRefIdeal.defs (F := Ideal)) (onTc (τ := Cert.AMixFwdRefIdeal.τ) (Cert.AMixFwdRefIdeal.main (F := Ideal))) ⟨m', fun _ => 0, g'⟩ (fun r => ∀ c : Dev Cert.AMixFwdRefIdeal.nD,
          r.2.mem ((c.tc : Thread Cert.AMixFwdRefIdeal.nD Cert.AMixFwdRefIdeal.τ).loc Cert.AMixFwdRefIdeal.main_v130) = v0 c
          ∧ r.2.mem ((c.tc : Thread Cert.AMixFwdRefIdeal.nD Cert.AMixFwdRefIdeal.τ).loc Cert.AMixFwdRefIdeal.main_v134) = v1 c
          ∧ r.2.mem ((c.tc : Thread Cert.AMixFwdRefIdeal.nD Cert.AMixFwdRefIdeal.τ).loc Cert.AMixFwdRefIdeal.main_v136) = v2 c
          ∧ r.2.mem ((c.tc : Thread Cert.AMixFwdRefIdeal.nD Cert.AMixFwdRefIdeal.τ).loc Cert.AMixFwdRefIdeal.main_v137) = v3 c
          ∧ r.2.mem ((c.tc : Thread Cert.AMixFwdRefIdeal.nD Cert.AMixFwdRefIdeal.τ).loc Cert.AMixFwdRefIdeal.main_arg0) = m' ((c.tc : Thread Cert.AMixFwdRefIdeal.nD Cert.AMixFwdRefIdeal.τ).loc Cert.AMixFwdRefIdeal.main_arg0)
          ∧ r.2.mem ((c.tc : Thread Cert.AMixFwdRefIdeal.nD Cert.AMixFwdRefIdeal.τ).loc Cert.AMixFwdRefIdeal.main_arg1) = m' ((c.tc : Thread Cert.AMixFwdRefIdeal.nD Cert.AMixFwdRefIdeal.τ).loc Cert.AMixFwdRefIdeal.main_arg1)
          ∧ r.2.mem ((c.tc : Thread Cert.AMixFwdRefIdeal.nD Cert.AMixFwdRefIdeal.τ).loc Cert.AMixFwdRefIdeal.main_arg2) = m' ((c.tc : Thread Cert.AMixFwdRefIdeal.nD Cert.AMixFwdRefIdeal.τ).loc Cert.AMixFwdRefIdeal.main_arg2)
          ∧ r.2.mem ((c.tc : Thread Cert.AMixFwdRefIdeal.nD Cert.AMixFwdRefIdeal.τ).loc Cert.AMixFwdRefIdeal.main_arg3) = m' ((c.tc : Thread Cert.AMixFwdRefIdeal.nD Cert.AMixFwdRefIdeal.τ).loc Cert.AMixFwdRefIdeal.main_arg3)
          ∧ r.2.mem ((c.tc : Thread Cert.AMixFwdRefIdeal.nD Cert.AMixFwdRefIdeal.τ).loc Cert.AMixFwdRefIdeal.main_arg4) = m' ((c.tc : Thread Cert.AMixFwdRefIdeal.nD Cert.AMixFwdRefIdeal.τ).loc Cert.AMixFwdRefIdeal.main_arg4))

def preserves_BMixFwd_BMixFwdIdeal : Prop :=
  True

def algebraic_BMixFwdIdeal_BMixFwdRefIdeal_pre_finite8 [hBMixFwdIdeal : Cert.BMixFwdIdeal.Facts] [hBMixFwdRefIdeal : Cert.BMixFwdRefIdeal.Facts] [hPre_finite8 : Cert.Pre_finite8.Facts] : Prop :=
  ∀ (m : (ℓ : Loc Cert.BMixFwdIdeal.nD Cert.BMixFwdIdeal.τ Cert.BMixFwdIdeal.sig) → Buf (Elt Ideal) ℓ) (g : Dev Cert.BMixFwdIdeal.nD → PrngReg)
    (m' : (ℓ : Loc Cert.BMixFwdRefIdeal.nD Cert.BMixFwdRefIdeal.τ Cert.BMixFwdRefIdeal.sig) → Buf (Elt Ideal) ℓ) (g' : Dev Cert.BMixFwdRefIdeal.nD → PrngReg), Pre_BMixFwdIdeal_finite8 m →
    (∀ c : Dev Cert.BMixFwdIdeal.nD,
      m' ((c.tc : Thread Cert.BMixFwdRefIdeal.nD Cert.BMixFwdRefIdeal.τ).loc Cert.BMixFwdRefIdeal.main_arg0) = m ((c.tc : Thread Cert.BMixFwdIdeal.nD Cert.BMixFwdIdeal.τ).loc Cert.BMixFwdIdeal.main_arg0)
      ∧ m' ((c.tc : Thread Cert.BMixFwdRefIdeal.nD Cert.BMixFwdRefIdeal.τ).loc Cert.BMixFwdRefIdeal.main_arg1) = m ((c.tc : Thread Cert.BMixFwdIdeal.nD Cert.BMixFwdIdeal.τ).loc Cert.BMixFwdIdeal.main_arg1)
      ∧ m' ((c.tc : Thread Cert.BMixFwdRefIdeal.nD Cert.BMixFwdRefIdeal.τ).loc Cert.BMixFwdRefIdeal.main_arg2) = m ((c.tc : Thread Cert.BMixFwdIdeal.nD Cert.BMixFwdIdeal.τ).loc Cert.BMixFwdIdeal.main_arg2)) →
    ∃ (v0 : (c : Dev Cert.BMixFwdIdeal.nD) → Buf (Elt Ideal) ((c.tc : Thread Cert.BMixFwdIdeal.nD Cert.BMixFwdIdeal.τ).loc Cert.BMixFwdIdeal.main_v4_0)) (v1 : (c : Dev Cert.BMixFwdIdeal.nD) → Buf (Elt Ideal) ((c.tc : Thread Cert.BMixFwdIdeal.nD Cert.BMixFwdIdeal.τ).loc Cert.BMixFwdIdeal.main_v4_1)),
      θ_run (Cert.BMixFwdIdeal.defs (F := Ideal)) (onTc (τ := Cert.BMixFwdIdeal.τ) (Cert.BMixFwdIdeal.main (F := Ideal))) ⟨m, fun _ => 0, g⟩ (fun r => ∀ c : Dev Cert.BMixFwdIdeal.nD,
          r.2.mem ((c.tc : Thread Cert.BMixFwdIdeal.nD Cert.BMixFwdIdeal.τ).loc Cert.BMixFwdIdeal.main_v4_0) = v0 c
          ∧ r.2.mem ((c.tc : Thread Cert.BMixFwdIdeal.nD Cert.BMixFwdIdeal.τ).loc Cert.BMixFwdIdeal.main_v4_1) = v1 c
          ∧ r.2.mem ((c.tc : Thread Cert.BMixFwdIdeal.nD Cert.BMixFwdIdeal.τ).loc Cert.BMixFwdIdeal.main_arg0) = m ((c.tc : Thread Cert.BMixFwdIdeal.nD Cert.BMixFwdIdeal.τ).loc Cert.BMixFwdIdeal.main_arg0)
          ∧ r.2.mem ((c.tc : Thread Cert.BMixFwdIdeal.nD Cert.BMixFwdIdeal.τ).loc Cert.BMixFwdIdeal.main_arg1) = m ((c.tc : Thread Cert.BMixFwdIdeal.nD Cert.BMixFwdIdeal.τ).loc Cert.BMixFwdIdeal.main_arg1)
          ∧ r.2.mem ((c.tc : Thread Cert.BMixFwdIdeal.nD Cert.BMixFwdIdeal.τ).loc Cert.BMixFwdIdeal.main_arg2) = m ((c.tc : Thread Cert.BMixFwdIdeal.nD Cert.BMixFwdIdeal.τ).loc Cert.BMixFwdIdeal.main_arg2))
      ∧ θ_run (Cert.BMixFwdRefIdeal.defs (F := Ideal)) (onTc (τ := Cert.BMixFwdRefIdeal.τ) (Cert.BMixFwdRefIdeal.main (F := Ideal))) ⟨m', fun _ => 0, g'⟩ (fun r => ∀ c : Dev Cert.BMixFwdRefIdeal.nD,
          r.2.mem ((c.tc : Thread Cert.BMixFwdRefIdeal.nD Cert.BMixFwdRefIdeal.τ).loc Cert.BMixFwdRefIdeal.main_v84) = v0 c
          ∧ r.2.mem ((c.tc : Thread Cert.BMixFwdRefIdeal.nD Cert.BMixFwdRefIdeal.τ).loc Cert.BMixFwdRefIdeal.main_v160) = v1 c
          ∧ r.2.mem ((c.tc : Thread Cert.BMixFwdRefIdeal.nD Cert.BMixFwdRefIdeal.τ).loc Cert.BMixFwdRefIdeal.main_arg0) = m' ((c.tc : Thread Cert.BMixFwdRefIdeal.nD Cert.BMixFwdRefIdeal.τ).loc Cert.BMixFwdRefIdeal.main_arg0)
          ∧ r.2.mem ((c.tc : Thread Cert.BMixFwdRefIdeal.nD Cert.BMixFwdRefIdeal.τ).loc Cert.BMixFwdRefIdeal.main_arg1) = m' ((c.tc : Thread Cert.BMixFwdRefIdeal.nD Cert.BMixFwdRefIdeal.τ).loc Cert.BMixFwdRefIdeal.main_arg1)
          ∧ r.2.mem ((c.tc : Thread Cert.BMixFwdRefIdeal.nD Cert.BMixFwdRefIdeal.τ).loc Cert.BMixFwdRefIdeal.main_arg2) = m' ((c.tc : Thread Cert.BMixFwdRefIdeal.nD Cert.BMixFwdRefIdeal.τ).loc Cert.BMixFwdRefIdeal.main_arg2))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v4_0)) (v1 : (c : Dev Cert.OutFwdIdeal.nD) → Buf (Elt Ideal) ((c.tc : Thread Cert.OutFwdIdeal.nD Cert.OutFwdIdeal.τ).loc Cert.OutFwdIdeal.main_v4_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v4_0) = v0 c
          ∧ r.2.mem ((c.tc : Thread Cert.OutFwdIdeal.nD Cert.OutFwdIdeal.τ).loc Cert.OutFwdIdeal.main_v4_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v17) = v0 c
          ∧ r.2.mem ((c.tc : Thread Cert.OutFwdRefIdeal.nD Cert.OutFwdRefIdeal.τ).loc Cert.OutFwdRefIdeal.main_v18) = v1 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v9_0)) (v1 : (c : Dev Cert.InFwdIdeal.nD) → Buf (Elt Ideal) ((c.tc : Thread Cert.InFwdIdeal.nD Cert.InFwdIdeal.τ).loc Cert.InFwdIdeal.main_v9_1)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v9_0) = v0 c
          ∧ r.2.mem ((c.tc : Thread Cert.InFwdIdeal.nD Cert.InFwdIdeal.τ).loc Cert.InFwdIdeal.main_v9_1) = v1 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v15) = v0 c
          ∧ r.2.mem ((c.tc : Thread Cert.InFwdRefIdeal.nD Cert.InFwdRefIdeal.τ).loc Cert.InFwdRefIdeal.main_v17) = v1 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def preserves_InFwdB_InFwdBIdeal : Prop :=
  True

def algebraic_InFwdBIdeal_InFwdBRefIdeal [hInFwdBIdeal : Cert.InFwdBIdeal.Facts] [hInFwdBRefIdeal : Cert.InFwdBRefIdeal.Facts] : Prop :=
  ∀ (m : (ℓ : Loc Cert.InFwdBIdeal.nD Cert.InFwdBIdeal.τ Cert.InFwdBIdeal.sig) → Buf (Elt Ideal) ℓ) (g : Dev Cert.InFwdBIdeal.nD → PrngReg)
    (m' : (ℓ : Loc Cert.InFwdBRefIdeal.nD Cert.InFwdBRefIdeal.τ Cert.InFwdBRefIdeal.sig) → Buf (Elt Ideal) ℓ) (g' : Dev Cert.InFwdBRefIdeal.nD → PrngReg), Pre_InFwdBIdeal m →
    (∀ c : Dev Cert.InFwdBIdeal.nD,
      m' ((c.tc : Thread Cert.InFwdBRefIdeal.nD Cert.InFwdBRefIdeal.τ).loc Cert.InFwdBRefIdeal.main_arg0) = m ((c.tc : Thread Cert.InFwdBIdeal.nD Cert.InFwdBIdeal.τ).loc Cert.InFwdBIdeal.main_arg0)
      ∧ m' ((c.tc : Thread Cert.InFwdBRefIdeal.nD Cert.InFwdBRefIdeal.τ).loc Cert.InFwdBRefIdeal.main_arg1) = m ((c.tc : Thread Cert.InFwdBIdeal.nD Cert.InFwdBIdeal.τ).loc Cert.InFwdBIdeal.main_arg1)
      ∧ m' ((c.tc : Thread Cert.InFwdBRefIdeal.nD Cert.InFwdBRefIdeal.τ).loc Cert.InFwdBRefIdeal.main_arg2) = m ((c.tc : Thread Cert.InFwdBIdeal.nD Cert.InFwdBIdeal.τ).loc Cert.InFwdBIdeal.main_arg2)) →
    ∃ (v0 : (c : Dev Cert.InFwdBIdeal.nD) → Buf (Elt Ideal) ((c.tc : Thread Cert.InFwdBIdeal.nD Cert.InFwdBIdeal.τ).loc Cert.InFwdBIdeal.main_v5_0)) (v1 : (c : Dev Cert.InFwdBIdeal.nD) → Buf (Elt Ideal) ((c.tc : Thread Cert.InFwdBIdeal.nD Cert.InFwdBIdeal.τ).loc Cert.InFwdBIdeal.main_v5_1)),
      θ_run (Cert.InFwdBIdeal.defs (F := Ideal)) (onTc (τ := Cert.InFwdBIdeal.τ) (Cert.InFwdBIdeal.main (F := Ideal))) ⟨m, fun _ => 0, g⟩ (fun r => ∀ c : Dev Cert.InFwdBIdeal.nD,
          r.2.mem ((c.tc : Thread Cert.InFwdBIdeal.nD Cert.InFwdBIdeal.τ).loc Cert.InFwdBIdeal.main_v5_0) = v0 c
          ∧ r.2.mem ((c.tc : Thread Cert.InFwdBIdeal.nD Cert.InFwdBIdeal.τ).loc Cert.InFwdBIdeal.main_v5_1) = v1 c
          ∧ r.2.mem ((c.tc : Thread Cert.InFwdBIdeal.nD Cert.InFwdBIdeal.τ).loc Cert.InFwdBIdeal.main_arg0) = m ((c.tc : Thread Cert.InFwdBIdeal.nD Cert.InFwdBIdeal.τ).loc Cert.InFwdBIdeal.main_arg0)
          ∧ r.2.mem ((c.tc : Thread Cert.InFwdBIdeal.nD Cert.InFwdBIdeal.τ).loc Cert.InFwdBIdeal.main_arg1) = m ((c.tc : Thread Cert.InFwdBIdeal.nD Cert.InFwdBIdeal.τ).loc Cert.InFwdBIdeal.main_arg1)
          ∧ r.2.mem ((c.tc : Thread Cert.InFwdBIdeal.nD Cert.InFwdBIdeal.τ).loc Cert.InFwdBIdeal.main_arg2) = m ((c.tc : Thread Cert.InFwdBIdeal.nD Cert.InFwdBIdeal.τ).loc Cert.InFwdBIdeal.main_arg2))
      ∧ θ_run (Cert.InFwdBRefIdeal.defs (F := Ideal)) (onTc (τ := Cert.InFwdBRefIdeal.τ) (Cert.InFwdBRefIdeal.main (F := Ideal))) ⟨m', fun _ => 0, g'⟩ (fun r => ∀ c : Dev Cert.InFwdBRefIdeal.nD,
          r.2.mem ((c.tc : Thread Cert.InFwdBRefIdeal.nD Cert.InFwdBRefIdeal.τ).loc Cert.InFwdBRefIdeal.main_v15) = v0 c
          ∧ r.2.mem ((c.tc : Thread Cert.InFwdBRefIdeal.nD Cert.InFwdBRefIdeal.τ).loc Cert.InFwdBRefIdeal.main_v17) = v1 c
          ∧ r.2.mem ((c.tc : Thread Cert.InFwdBRefIdeal.nD Cert.InFwdBRefIdeal.τ).loc Cert.InFwdBRefIdeal.main_arg0) = m' ((c.tc : Thread Cert.InFwdBRefIdeal.nD Cert.InFwdBRefIdeal.τ).loc Cert.InFwdBRefIdeal.main_arg0)
          ∧ r.2.mem ((c.tc : Thread Cert.InFwdBRefIdeal.nD Cert.InFwdBRefIdeal.τ).loc Cert.InFwdBRefIdeal.main_arg1) = m' ((c.tc : Thread Cert.InFwdBRefIdeal.nD Cert.InFwdBRefIdeal.τ).loc Cert.InFwdBRefIdeal.main_arg1)
          ∧ r.2.mem ((c.tc : Thread Cert.InFwdBRefIdeal.nD Cert.InFwdBRefIdeal.τ).loc Cert.InFwdBRefIdeal.main_arg2) = m' ((c.tc : Thread Cert.InFwdBRefIdeal.nD Cert.InFwdBRefIdeal.τ).loc Cert.InFwdBRefIdeal.main_arg2))

def preserves_BMixDsc_BMixDscIdeal : Prop :=
  True

def algebraic_BMixDscIdeal_BMixDscRefIdeal [hBMixDscIdeal : Cert.BMixDscIdeal.Facts] [hBMixDscRefIdeal : Cert.BMixDscRefIdeal.Facts] : Prop :=
  ∀ (m : (ℓ : Loc Cert.BMixDscIdeal.nD Cert.BMixDscIdeal.τ Cert.BMixDscIdeal.sig) → Buf (Elt Ideal) ℓ) (g : Dev Cert.BMixDscIdeal.nD → PrngReg)
    (m' : (ℓ : Loc Cert.BMixDscRefIdeal.nD Cert.BMixDscRefIdeal.τ Cert.BMixDscRefIdeal.sig) → Buf (Elt Ideal) ℓ) (g' : Dev Cert.BMixDscRefIdeal.nD → PrngReg), Pre_BMixDscIdeal m →
    (∀ c : Dev Cert.BMixDscIdeal.nD,
      m' ((c.tc : Thread Cert.BMixDscRefIdeal.nD Cert.BMixDscRefIdeal.τ).loc Cert.BMixDscRefIdeal.main_arg0) = m ((c.tc : Thread Cert.BMixDscIdeal.nD Cert.BMixDscIdeal.τ).loc Cert.BMixDscIdeal.main_arg0)
      ∧ m' ((c.tc : Thread Cert.BMixDscRefIdeal.nD Cert.BMixDscRefIdeal.τ).loc Cert.BMixDscRefIdeal.main_arg1) = m ((c.tc : Thread Cert.BMixDscIdeal.nD Cert.BMixDscIdeal.τ).loc Cert.BMixDscIdeal.main_arg1)
      ∧ m' ((c.tc : Thread Cert.BMixDscRefIdeal.nD Cert.BMixDscRefIdeal.τ).loc Cert.BMixDscRefIdeal.main_arg2) = m ((c.tc : Thread Cert.BMixDscIdeal.nD Cert.BMixDscIdeal.τ).loc Cert.BMixDscIdeal.main_arg2)
      ∧ m' ((c.tc : Thread Cert.BMixDscRefIdeal.nD Cert.BMixDscRefIdeal.τ).loc Cert.BMixDscRefIdeal.main_arg3) = m ((c.tc : Thread Cert.BMixDscIdeal.nD Cert.BMixDscIdeal.τ).loc Cert.BMixDscIdeal.main_arg3)) →
    ∃ (v0 : (c : Dev Cert.BMixDscIdeal.nD) → Buf (Elt Ideal) ((c.tc : Thread Cert.BMixDscIdeal.nD Cert.BMixDscIdeal.τ).loc Cert.BMixDscIdeal.main_v82_1)),
      θ_run (Cert.BMixDscIdeal.defs (F := Ideal)) (onTc (τ := Cert.BMixDscIdeal.τ) (Cert.BMixDscIdeal.main (F := Ideal))) ⟨m, fun _ => 0, g⟩ (fun r => ∀ c : Dev Cert.BMixDscIdeal.nD,
          r.2.mem ((c.tc : Thread Cert.BMixDscIdeal.nD Cert.BMixDscIdeal.τ).loc Cert.BMixDscIdeal.main_v82_1) = v0 c
          ∧ r.2.mem ((c.tc : Thread Cert.BMixDscIdeal.nD Cert.BMixDscIdeal.τ).loc Cert.BMixDscIdeal.main_arg0) = m ((c.tc : Thread Cert.BMixDscIdeal.nD Cert.BMixDscIdeal.τ).loc Cert.BMixDscIdeal.main_arg0)
          ∧ r.2.mem ((c.tc : Thread Cert.BMixDscIdeal.nD Cert.BMixDscIdeal.τ).loc Cert.BMixDscIdeal.main_arg1) = m ((c.tc : Thread Cert.BMixDscIdeal.nD Cert.BMixDscIdeal.τ).loc Cert.BMixDscIdeal.main_arg1)
          ∧ r.2.mem ((c.tc : Thread Cert.BMixDscIdeal.nD Cert.BMixDscIdeal.τ).loc Cert.BMixDscIdeal.main_arg2) = m ((c.tc : Thread Cert.BMixDscIdeal.nD Cert.BMixDscIdeal.τ).loc Cert.BMixDscIdeal.main_arg2)
          ∧ r.2.mem ((c.tc : Thread Cert.BMixDscIdeal.nD Cert.BMixDscIdeal.τ).loc Cert.BMixDscIdeal.main_arg3) = m ((c.tc : Thread Cert.BMixDscIdeal.nD Cert.BMixDscIdeal.τ).loc Cert.BMixDscIdeal.main_arg3))
      ∧ θ_run (Cert.BMixDscRefIdeal.defs (F := Ideal)) (onTc (τ := Cert.BMixDscRefIdeal.τ) (Cert.BMixDscRefIdeal.main (F := Ideal))) ⟨m', fun _ => 0, g'⟩ (fun r => ∀ c : Dev Cert.BMixDscRefIdeal.nD,
          r.2.mem ((c.tc : Thread Cert.BMixDscRefIdeal.nD Cert.BMixDscRefIdeal.τ).loc Cert.BMixDscRefIdeal.main_v90) = v0 c
          ∧ r.2.mem ((c.tc : Thread Cert.BMixDscRefIdeal.nD Cert.BMixDscRefIdeal.τ).loc Cert.BMixDscRefIdeal.main_arg0) = m' ((c.tc : Thread Cert.BMixDscRefIdeal.nD Cert.BMixDscRefIdeal.τ).loc Cert.BMixDscRefIdeal.main_arg0)
          ∧ r.2.mem ((c.tc : Thread Cert.BMixDscRefIdeal.nD Cert.BMixDscRefIdeal.τ).loc Cert.BMixDscRefIdeal.main_arg1) = m' ((c.tc : Thread Cert.BMixDscRefIdeal.nD Cert.BMixDscRefIdeal.τ).loc Cert.BMixDscRefIdeal.main_arg1)
          ∧ r.2.mem ((c.tc : Thread Cert.BMixDscRefIdeal.nD Cert.BMixDscRefIdeal.τ).loc Cert.BMixDscRefIdeal.main_arg2) = m' ((c.tc : Thread Cert.BMixDscRefIdeal.nD Cert.BMixDscRefIdeal.τ).loc Cert.BMixDscRefIdeal.main_arg2)
          ∧ r.2.mem ((c.tc : Thread Cert.BMixDscRefIdeal.nD Cert.BMixDscRefIdeal.τ).loc Cert.BMixDscRefIdeal.main_arg3) = m' ((c.tc : Thread Cert.BMixDscRefIdeal.nD Cert.BMixDscRefIdeal.τ).loc Cert.BMixDscRefIdeal.main_arg3))

def preserves_BMixDwg_BMixDwgIdeal : Prop :=
  True

def algebraic_BMixDwgIdeal_BMixDwgRefIdeal_pre_finite13 [hBMixDwgIdeal : Cert.BMixDwgIdeal.Facts] [hBMixDwgRefIdeal : Cert.BMixDwgRefIdeal.Facts] [hPre_finite13 : Cert.Pre_finite13.Facts] : Prop :=
  ∀ (m : (ℓ : Loc Cert.BMixDwgIdeal.nD Cert.BMixDwgIdeal.τ Cert.BMixDwgIdeal.sig) → Buf (Elt Ideal) ℓ) (g : Dev Cert.BMixDwgIdeal.nD → PrngReg)
    (m' : (ℓ : Loc Cert.BMixDwgRefIdeal.nD Cert.BMixDwgRefIdeal.τ Cert.BMixDwgRefIdeal.sig) → Buf (Elt Ideal) ℓ) (g' : Dev Cert.BMixDwgRefIdeal.nD → PrngReg), Pre_BMixDwgIdeal_finite13 m →
    (∀ c : Dev Cert.BMixDwgIdeal.nD,
      m' ((c.tc : Thread Cert.BMixDwgRefIdeal.nD Cert.BMixDwgRefIdeal.τ).loc Cert.BMixDwgRefIdeal.main_arg0) = m ((c.tc : Thread Cert.BMixDwgIdeal.nD Cert.BMixDwgIdeal.τ).loc Cert.BMixDwgIdeal.main_arg0)
      ∧ m' ((c.tc : Thread Cert.BMixDwgRefIdeal.nD Cert.BMixDwgRefIdeal.τ).loc Cert.BMixDwgRefIdeal.main_arg1) = m ((c.tc : Thread Cert.BMixDwgIdeal.nD Cert.BMixDwgIdeal.τ).loc Cert.BMixDwgIdeal.main_arg1)
      ∧ m' ((c.tc : Thread Cert.BMixDwgRefIdeal.nD Cert.BMixDwgRefIdeal.τ).loc Cert.BMixDwgRefIdeal.main_arg2) = m ((c.tc : Thread Cert.BMixDwgIdeal.nD Cert.BMixDwgIdeal.τ).loc Cert.BMixDwgIdeal.main_arg2)
      ∧ m' ((c.tc : Thread Cert.BMixDwgRefIdeal.nD Cert.BMixDwgRefIdeal.τ).loc Cert.BMixDwgRefIdeal.main_arg3) = m ((c.tc : Thread Cert.BMixDwgIdeal.nD Cert.BMixDwgIdeal.τ).loc Cert.BMixDwgIdeal.main_arg3)) →
    ∃ (v0 : (c : Dev Cert.BMixDwgIdeal.nD) → Buf (Elt Ideal) ((c.tc : Thread Cert.BMixDwgIdeal.nD Cert.BMixDwgIdeal.τ).loc Cert.BMixDwgIdeal.main_v82_2)),
      θ_run (Cert.BMixDwgIdeal.defs (F := Ideal)) (onTc (τ := Cert.BMixDwgIdeal.τ) (Cert.BMixDwgIdeal.main (F := Ideal))) ⟨m, fun _ => 0, g⟩ (fun r => ∀ c : Dev Cert.BMixDwgIdeal.nD,
          r.2.mem ((c.tc : Thread Cert.BMixDwgIdeal.nD Cert.BMixDwgIdeal.τ).loc Cert.BMixDwgIdeal.main_v82_2) = v0 c
          ∧ r.2.mem ((c.tc : Thread Cert.BMixDwgIdeal.nD Cert.BMixDwgIdeal.τ).loc Cert.BMixDwgIdeal.main_arg0) = m ((c.tc : Thread Cert.BMixDwgIdeal.nD Cert.BMixDwgIdeal.τ).loc Cert.BMixDwgIdeal.main_arg0)
          ∧ r.2.mem ((c.tc : Thread Cert.BMixDwgIdeal.nD Cert.BMixDwgIdeal.τ).loc Cert.BMixDwgIdeal.main_arg1) = m ((c.tc : Thread Cert.BMixDwgIdeal.nD Cert.BMixDwgIdeal.τ).loc Cert.BMixDwgIdeal.main_arg1)
          ∧ r.2.mem ((c.tc : Thread Cert.BMixDwgIdeal.nD Cert.BMixDwgIdeal.τ).loc Cert.BMixDwgIdeal.main_arg2) = m ((c.tc : Thread Cert.BMixDwgIdeal.nD Cert.BMixDwgIdeal.τ).loc Cert.BMixDwgIdeal.main_arg2)
          ∧ r.2.mem ((c.tc : Thread Cert.BMixDwgIdeal.nD Cert.BMixDwgIdeal.τ).loc Cert.BMixDwgIdeal.main_arg3) = m ((c.tc : Thread Cert.BMixDwgIdeal.nD Cert.BMixDwgIdeal.τ).loc Cert.BMixDwgIdeal.main_arg3))
      ∧ θ_run (Cert.BMixDwgRefIdeal.defs (F := Ideal)) (onTc (τ := Cert.BMixDwgRefIdeal.τ) (Cert.BMixDwgRefIdeal.main (F := Ideal))) ⟨m', fun _ => 0, g'⟩ (fun r => ∀ c : Dev Cert.BMixDwgRefIdeal.nD,
          r.2.mem ((c.tc : Thread Cert.BMixDwgRefIdeal.nD Cert.BMixDwgRefIdeal.τ).loc Cert.BMixDwgRefIdeal.main_v187) = v0 c
          ∧ r.2.mem ((c.tc : Thread Cert.BMixDwgRefIdeal.nD Cert.BMixDwgRefIdeal.τ).loc Cert.BMixDwgRefIdeal.main_arg0) = m' ((c.tc : Thread Cert.BMixDwgRefIdeal.nD Cert.BMixDwgRefIdeal.τ).loc Cert.BMixDwgRefIdeal.main_arg0)
          ∧ r.2.mem ((c.tc : Thread Cert.BMixDwgRefIdeal.nD Cert.BMixDwgRefIdeal.τ).loc Cert.BMixDwgRefIdeal.main_arg1) = m' ((c.tc : Thread Cert.BMixDwgRefIdeal.nD Cert.BMixDwgRefIdeal.τ).loc Cert.BMixDwgRefIdeal.main_arg1)
          ∧ r.2.mem ((c.tc : Thread Cert.BMixDwgRefIdeal.nD Cert.BMixDwgRefIdeal.τ).loc Cert.BMixDwgRefIdeal.main_arg2) = m' ((c.tc : Thread Cert.BMixDwgRefIdeal.nD Cert.BMixDwgRefIdeal.τ).loc Cert.BMixDwgRefIdeal.main_arg2)
          ∧ r.2.mem ((c.tc : Thread Cert.BMixDwgRefIdeal.nD Cert.BMixDwgRefIdeal.τ).loc Cert.BMixDwgRefIdeal.main_arg3) = m' ((c.tc : Thread Cert.BMixDwgRefIdeal.nD Cert.BMixDwgRefIdeal.τ).loc Cert.BMixDwgRefIdeal.main_arg3))

def Claim : Prop :=
  ∃ (hInBwd : Cert.InBwd.Facts) (hInBwdIdeal : Cert.InBwdIdeal.Facts) (hInBwdRefIdeal : Cert.InBwdRefIdeal.Facts) (hInBwdA : Cert.InBwdA.Facts) (hInBwdAIdeal : Cert.InBwdAIdeal.Facts) (hInBwdARefIdeal : Cert.InBwdARefIdeal.Facts) (hAMix : Cert.AMix.Facts) (hAMixIdeal : Cert.AMixIdeal.Facts) (hAMixRefIdeal : Cert.AMixRefIdeal.Facts) (hBMix : Cert.BMix.Facts) (hBMixIdeal : Cert.BMixIdeal.Facts) (hBMixRefIdeal : Cert.BMixRefIdeal.Facts) (hOutBwd : Cert.OutBwd.Facts) (hOutBwdIdeal : Cert.OutBwdIdeal.Facts) (hOutBwdRefIdeal : Cert.OutBwdRefIdeal.Facts) (hLoss : Cert.Loss.Facts) (hLossIdeal : Cert.LossIdeal.Facts) (hLossRefIdeal : Cert.LossRefIdeal.Facts) (hAMixFwd : Cert.AMixFwd.Facts) (hAMixFwdIdeal : Cert.AMixFwdIdeal.Facts) (hAMixFwdRefIdeal : Cert.AMixFwdRefIdeal.Facts) (hBMixFwd : Cert.BMixFwd.Facts) (hBMixFwdIdeal : Cert.BMixFwdIdeal.Facts) (hBMixFwdRefIdeal : Cert.BMixFwdRefIdeal.Facts) (hOutFwd : Cert.OutFwd.Facts) (hOutFwdIdeal : Cert.OutFwdIdeal.Facts) (hOutFwdRefIdeal : Cert.OutFwdRefIdeal.Facts) (hInFwd : Cert.InFwd.Facts) (hInFwdIdeal : Cert.InFwdIdeal.Facts) (hInFwdRefIdeal : Cert.InFwdRefIdeal.Facts) (hInFwdB : Cert.InFwdB.Facts) (hInFwdBIdeal : Cert.InFwdBIdeal.Facts) (hInFwdBRefIdeal : Cert.InFwdBRefIdeal.Facts) (hBMixDsc : Cert.BMixDsc.Facts) (hBMixDscIdeal : Cert.BMixDscIdeal.Facts) (hBMixDscRefIdeal : Cert.BMixDscRefIdeal.Facts) (hBMixDwg : Cert.BMixDwg.Facts) (hBMixDwgIdeal : Cert.BMixDwgIdeal.Facts) (hBMixDwgRefIdeal : Cert.BMixDwgRefIdeal.Facts) (hPre_finite1 : Cert.Pre_finite1.Facts) (hPre_finite2 : Cert.Pre_finite2.Facts) (hPre_finite3 : Cert.Pre_finite3.Facts) (hPre_finite5 : Cert.Pre_finite5.Facts) (hPre_finite6 : Cert.Pre_finite6.Facts) (hPre_finite7 : Cert.Pre_finite7.Facts) (hPre_finite8 : Cert.Pre_finite8.Facts) (hPre_finite13 : Cert.Pre_finite13.Facts),
    quiescent_InBwd (hInBwd := hInBwd)
    ∧ quiescent_InBwdIdeal (hInBwdIdeal := hInBwdIdeal)
    ∧ quiescent_InBwdIdeal_pre_finite1 (hInBwdIdeal := hInBwdIdeal) (hPre_finite1 := hPre_finite1)
    ∧ quiescent_InBwdRefIdeal (hInBwdRefIdeal := hInBwdRefIdeal)
    ∧ quiescent_InBwdRefIdeal_pre_finite1 (hInBwdRefIdeal := hInBwdRefIdeal) (hPre_finite1 := hPre_finite1)
    ∧ quiescent_InBwdA (hInBwdA := hInBwdA)
    ∧ quiescent_InBwdAIdeal (hInBwdAIdeal := hInBwdAIdeal)
    ∧ quiescent_InBwdAIdeal_pre_finite2 (hInBwdAIdeal := hInBwdAIdeal) (hPre_finite2 := hPre_finite2)
    ∧ quiescent_InBwdARefIdeal (hInBwdARefIdeal := hInBwdARefIdeal)
    ∧ quiescent_InBwdARefIdeal_pre_finite2 (hInBwdARefIdeal := hInBwdARefIdeal) (hPre_finite2 := hPre_finite2)
    ∧ quiescent_AMix (hAMix := hAMix)
    ∧ quiescent_AMixIdeal (hAMixIdeal := hAMixIdeal)
    ∧ quiescent_AMixIdeal_pre_finite3 (hAMixIdeal := hAMixIdeal) (hPre_finite3 := hPre_finite3)
    ∧ quiescent_AMixRefIdeal (hAMixRefIdeal := hAMixRefIdeal)
    ∧ quiescent_AMixRefIdeal_pre_finite3 (hAMixRefIdeal := hAMixRefIdeal) (hPre_finite3 := hPre_finite3)
    ∧ quiescent_BMix (hBMix := hBMix)
    ∧ quiescent_BMixIdeal (hBMixIdeal := hBMixIdeal)
    ∧ quiescent_BMixRefIdeal (hBMixRefIdeal := hBMixRefIdeal)
    ∧ quiescent_OutBwd (hOutBwd := hOutBwd)
    ∧ quiescent_OutBwdIdeal (hOutBwdIdeal := hOutBwdIdeal)
    ∧ quiescent_OutBwdIdeal_pre_finite5 (hOutBwdIdeal := hOutBwdIdeal) (hPre_finite5 := hPre_finite5)
    ∧ quiescent_OutBwdRefIdeal (hOutBwdRefIdeal := hOutBwdRefIdeal)
    ∧ quiescent_OutBwdRefIdeal_pre_finite5 (hOutBwdRefIdeal := hOutBwdRefIdeal) (hPre_finite5 := hPre_finite5)
    ∧ quiescent_Loss (hLoss := hLoss)
    ∧ quiescent_LossIdeal (hLossIdeal := hLossIdeal)
    ∧ quiescent_LossIdeal_pre_finite6 (hLossIdeal := hLossIdeal) (hPre_finite6 := hPre_finite6)
    ∧ quiescent_LossRefIdeal (hLossRefIdeal := hLossRefIdeal)
    ∧ quiescent_LossRefIdeal_pre_finite6 (hLossRefIdeal := hLossRefIdeal) (hPre_finite6 := hPre_finite6)
    ∧ quiescent_AMixFwd (hAMixFwd := hAMixFwd)
    ∧ quiescent_AMixFwdIdeal (hAMixFwdIdeal := hAMixFwdIdeal)
    ∧ quiescent_AMixFwdIdeal_pre_finite7 (hAMixFwdIdeal := hAMixFwdIdeal) (hPre_finite7 := hPre_finite7)
    ∧ quiescent_AMixFwdRefIdeal (hAMixFwdRefIdeal := hAMixFwdRefIdeal)
    ∧ quiescent_AMixFwdRefIdeal_pre_finite7 (hAMixFwdRefIdeal := hAMixFwdRefIdeal) (hPre_finite7 := hPre_finite7)
    ∧ quiescent_BMixFwd (hBMixFwd := hBMixFwd)
    ∧ quiescent_BMixFwdIdeal (hBMixFwdIdeal := hBMixFwdIdeal)
    ∧ quiescent_BMixFwdIdeal_pre_finite8 (hBMixFwdIdeal := hBMixFwdIdeal) (hPre_finite8 := hPre_finite8)
    ∧ quiescent_BMixFwdRefIdeal (hBMixFwdRefIdeal := hBMixFwdRefIdeal)
    ∧ quiescent_BMixFwdRefIdeal_pre_finite8 (hBMixFwdRefIdeal := hBMixFwdRefIdeal) (hPre_finite8 := hPre_finite8)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_InFwdB (hInFwdB := hInFwdB)
    ∧ quiescent_InFwdBIdeal (hInFwdBIdeal := hInFwdBIdeal)
    ∧ quiescent_InFwdBRefIdeal (hInFwdBRefIdeal := hInFwdBRefIdeal)
    ∧ quiescent_BMixDsc (hBMixDsc := hBMixDsc)
    ∧ quiescent_BMixDscIdeal (hBMixDscIdeal := hBMixDscIdeal)
    ∧ quiescent_BMixDscRefIdeal (hBMixDscRefIdeal := hBMixDscRefIdeal)
    ∧ quiescent_BMixDwg (hBMixDwg := hBMixDwg)
    ∧ quiescent_BMixDwgIdeal (hBMixDwgIdeal := hBMixDwgIdeal)
    ∧ quiescent_BMixDwgIdeal_pre_finite13 (hBMixDwgIdeal := hBMixDwgIdeal) (hPre_finite13 := hPre_finite13)
    ∧ quiescent_BMixDwgRefIdeal (hBMixDwgRefIdeal := hBMixDwgRefIdeal)
    ∧ quiescent_BMixDwgRefIdeal_pre_finite13 (hBMixDwgRefIdeal := hBMixDwgRefIdeal) (hPre_finite13 := hPre_finite13)
    ∧ preserves_InBwd_InBwdIdeal
    ∧ algebraic_InBwdIdeal_InBwdRefIdeal_pre_finite1 (hInBwdIdeal := hInBwdIdeal) (hInBwdRefIdeal := hInBwdRefIdeal) (hPre_finite1 := hPre_finite1)
    ∧ preserves_InBwdA_InBwdAIdeal
    ∧ algebraic_InBwdAIdeal_InBwdARefIdeal_pre_finite2 (hInBwdAIdeal := hInBwdAIdeal) (hInBwdARefIdeal := hInBwdARefIdeal) (hPre_finite2 := hPre_finite2)
    ∧ preserves_AMix_AMixIdeal
    ∧ algebraic_AMixIdeal_AMixRefIdeal_pre_finite3 (hAMixIdeal := hAMixIdeal) (hAMixRefIdeal := hAMixRefIdeal) (hPre_finite3 := hPre_finite3)
    ∧ preserves_BMix_BMixIdeal
    ∧ preserves_OutBwd_OutBwdIdeal
    ∧ algebraic_OutBwdIdeal_OutBwdRefIdeal_pre_finite5 (hOutBwdIdeal := hOutBwdIdeal) (hOutBwdRefIdeal := hOutBwdRefIdeal) (hPre_finite5 := hPre_finite5)
    ∧ preserves_Loss_LossIdeal
    ∧ algebraic_LossIdeal_LossRefIdeal_pre_finite6 (hLossIdeal := hLossIdeal) (hLossRefIdeal := hLossRefIdeal) (hPre_finite6 := hPre_finite6)
    ∧ preserves_AMixFwd_AMixFwdIdeal
    ∧ algebraic_AMixFwdIdeal_AMixFwdRefIdeal_pre_finite7 (hAMixFwdIdeal := hAMixFwdIdeal) (hAMixFwdRefIdeal := hAMixFwdRefIdeal) (hPre_finite7 := hPre_finite7)
    ∧ preserves_BMixFwd_BMixFwdIdeal
    ∧ algebraic_BMixFwdIdeal_BMixFwdRefIdeal_pre_finite8 (hBMixFwdIdeal := hBMixFwdIdeal) (hBMixFwdRefIdeal := hBMixFwdRefIdeal) (hPre_finite8 := hPre_finite8)
    ∧ preserves_OutFwd_OutFwdIdeal
    ∧ algebraic_OutFwdIdeal_OutFwdRefIdeal (hOutFwdIdeal := hOutFwdIdeal) (hOutFwdRefIdeal := hOutFwdRefIdeal)
    ∧ preserves_InFwd_InFwdIdeal
    ∧ algebraic_InFwdIdeal_InFwdRefIdeal (hInFwdIdeal := hInFwdIdeal) (hInFwdRefIdeal := hInFwdRefIdeal)
    ∧ preserves_InFwdB_InFwdBIdeal
    ∧ algebraic_InFwdBIdeal_InFwdBRefIdeal (hInFwdBIdeal := hInFwdBIdeal) (hInFwdBRefIdeal := hInFwdBRefIdeal)
    ∧ preserves_BMixDsc_BMixDscIdeal
    ∧ algebraic_BMixDscIdeal_BMixDscRefIdeal (hBMixDscIdeal := hBMixDscIdeal) (hBMixDscRefIdeal := hBMixDscRefIdeal)
    ∧ preserves_BMixDwg_BMixDwgIdeal
    ∧ algebraic_BMixDwgIdeal_BMixDwgRefIdeal_pre_finite13 (hBMixDwgIdeal := hBMixDwgIdeal) (hBMixDwgRefIdeal := hBMixDwgRefIdeal) (hPre_finite13 := hPre_finite13)
-- ==== Pre_finite1.lean ====
abbrev S1x4096x1024 : Shape := ⟨3, ![1, 4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩

class Facts : Prop where
  bcast_S_S1x4096x1024 : S_.BroadcastsInDim S1x4096x1024 (![] : Fin 0 → Fin S1x4096x1024.rank)
  bcast_S_S1024 : S_.BroadcastsInDim S1024 (![] : Fin 0 → Fin S1024.rank)
  bcast_S_S1024x4096 : S_.BroadcastsInDim S1024x4096 (![] : Fin 0 → Fin S1024x4096.rank)
  bitsLt_bf16_f32 : FTy.bits .bf16 < FTy.bits .f32
  bcast_S_S4096x4096 : S_.BroadcastsInDim S4096x4096 (![] : Fin 0 → Fin S4096x4096.rank)

variable [Facts]

def fn {F : FTy → Type} [FloatOps F] (main_arg0 : FVec F S1x4096x1024 .f32) (main_arg1 : FVec F S1024 .f32) (main_arg2 : FVec F S1024x4096 .f32) (main_arg3 : FVec F S4096x4096 .bf16) (main_arg4 : FVec F S1x4096x1024 .f32) : IVec S1x4096x1024 1 × IVec S1024 1 × IVec S1024x4096 1 × IVec S4096x4096 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S4096x4096 .f32 := (extf .f32 · bitsLt_bf16_f32) main_arg3
  let main_v10 : FVec F S4096x4096 .f32 := Host.absf main_v9
  let main_cst_2 : FVec F S_ .f32 := constant S_ .f32 0x7F800000#32
  let main_v11 : FVec F S4096x4096 .f32 := broadcastInDim S4096x4096 ![] bcast_S_S4096x4096 main_cst_2
  let main_v12 : IVec S4096x4096 1 := cmpf .olt main_v10 main_v11
  (main_v2, main_v5, main_v8, main_v12)
-- ==== Pre_finite13.lean ====
abbrev S4096x4096 : Shape := ⟨2, ![4096, 4096]⟩
abbrev S4x512x512 : Shape := ⟨3, ![4, 512, 512]⟩
abbrev S2048 : Shape := ⟨1, ![2048]⟩
abbrev S4096x2048 : Shape := ⟨2, ![4096, 2048]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)

variable [Facts]

def fn {F : FTy → Type} [FloatOps F] (main_arg0 : FVec F S4096x4096 .bf16) (main_arg1 : FVec F S4x512x512 .f32) (main_arg2 : FVec F S2048 .f32) (main_arg3 : FVec F S4096x2048 .bf16) : IVec S4096x4096 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  main_v3
-- ==== Pre_finite2.lean ====
abbrev S1x4096x1024 : Shape := ⟨3, ![1, 4096, 1024]⟩
abbrev S1024 : Shape := ⟨1, ![1024]⟩
abbrev S1024x6144 : Shape := ⟨2, ![1024, 6144]⟩
abbrev S4096x6144 : Shape := ⟨2, ![4096, 6144]⟩
abbrev S_ : Shape := ⟨0, ![]⟩

class Facts : Prop where
  bcast_S_S1x4096x1024 : S_.BroadcastsInDim S1x4096x1024 (![] : Fin 0 → Fin S1x4096x1024.rank)
  bcast_S_S1024 : S_.BroadcastsInDim S1024 (![] : Fin 0 → Fin S1024.rank)
  bcast_S_S1024x6144 : S_.BroadcastsInDim S1024x6144 (![] : Fin 0 → Fin S1024x6144.rank)
  bitsLt_bf16_f32 : FTy.bits .bf16 < FTy.bits .f32
  bcast_S_S4096x6144 : S_.BroadcastsInDim S4096x6144 (![] : Fin 0 → Fin S4096x6144.rank)

variable [Facts]

def fn {F : FTy → Type} [FloatOps F] (main_arg0 : FVec F S1x4096x1024 .f32) (main_arg1 : FVec F S1024 .f32) (main_arg2 : FVec F S1024x6144 .f32) (main_arg3 : FVec F S4096x6144 .bf16) (main_arg4 : FVec F S1x4096x1024 .f32) : IVec S1x4096x1024 1 × IVec S1024 1 × IVec S1024x6144 1 × IVec S4096x6144 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x6144 .f32 := Host.absf main_arg2
  let main_cst_1 : FVec F S_ .f32 := constant S_ .f32 0x7F800000#32
  let main_v7 : FVec F S1024x6144 .f32 := broadcastInDim S1024x6144 ![] bcast_S_S1024x6144 main_cst_1
  let main_v8 : IVec S1024x6144 1 := cmpf .olt main_v6 main_v7
  let main_v9 : FVec F S4096x6144 .f32 := (extf .f32 · bitsLt_bf16_f32) main_arg3
  let main_v10 : FVec F S4096x6144 .f32 := Host.absf main_v9
  let main_cst_2 : FVec F S_ .f32 := constant S_ .f32 0x7F800000#32
  let main_v11 : FVec F S4096x6144 .f32 := broadcastInDim S4096x6144 ![] bcast_S_S4096x6144 main_cst_2
  let main_v12 : IVec S4096x6144 1 := cmpf .olt main_v10 main_v11
  (main_v2, main_v5, main_v8, main_v12)
-- ==== Pre_finite3.lean ====
abbrev S4096x6144 : Shape := ⟨2, ![4096, 6144]⟩
abbrev S2048 : Shape := ⟨1, ![2048]⟩
abbrev S8x128x128 : Shape := ⟨3, ![8, 128, 128]⟩
abbrev S8x128 : Shape := ⟨2, ![8, 128]⟩
abbrev S4096x2048 : Shape := ⟨2, ![4096, 2048]⟩
abbrev S_ : Shape := ⟨0, ![]⟩

class Facts : Prop where
  bitsLt_bf16_f32 : FTy.bits .bf16 < FTy.bits .f32
  bcast_S_S4096x6144 : S_.BroadcastsInDim S4096x6144 (![] : Fin 0 → Fin S4096x6144.rank)
  bcast_S_S2048 : S_.BroadcastsInDim S2048 (![] : Fin 0 → Fin S2048.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S4096x2048 : S_.BroadcastsInDim S4096x2048 (![] : Fin 0 → Fin S4096x2048.rank)

variable [Facts]

def fn_part1 {F : FTy → Type} [FloatOps F] (main_v3 : IVec S4096x6144 1) (main_v6 : IVec S2048 1) (main_v9 : IVec S2048 1) (main_v12 : IVec S8x128x128 1) (main_v15 : IVec S8x128 1) (main_v17 : FVec F S4096x2048 .f32) (main_cst_4 : FVec F S_ .f32) : IVec S4096x6144 1 × IVec S2048 1 × IVec S2048 1 × IVec S8x128x128 1 × IVec S8x128 1 × IVec S4096x2048 1 :=
  let main_v18 : FVec F S4096x2048 .f32 := broadcastInDim S4096x2048 ![] bcast_S_S4096x2048 main_cst_4
  let main_v19 : IVec S4096x2048 1 := cmpf .olt main_v17 main_v18
  (main_v3, main_v6, main_v9, main_v12, main_v15, main_v19)

def fn {F : FTy → Type} [FloatOps F] (main_arg0 : FVec F S4096x6144 .bf16) (main_arg1 : FVec F S2048 .f32) (main_arg2 : FVec F S2048 .f32) (main_arg3 : FVec F S8x128x128 .f32) (main_arg4 : FVec F S8x128 .f32) (main_arg5 : FVec F S4096x2048 .bf16) : IVec S4096x6144 1 × IVec S2048 1 × IVec S2048 1 × IVec S8x128x128 1 × IVec S8x128 1 × IVec S4096x2048 1 :=
  let main_v0 : FVec F S4096x6144 .f32 := (extf .f32 · bitsLt_bf16_f32) main_arg0
  let main_v1 : FVec F S4096x6144 .f32 := Host.absf main_v0
  let main_cst : FVec F S_ .f32 := constant S_ .f32 0x7F800000#32
  let main_v2 : FVec F S4096x6144 .f32 := broadcastInDim S4096x6144 ![] bcast_S_S4096x6144 main_cst
  let main_v3 : IVec S4096x6144 1 := cmpf .olt main_v1 main_v2
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_v7 : FVec F S2048 .f32 := Host.absf main_arg2
  let main_cst_1 : FVec F S_ .f32 := constant S_ .f32 0x7F800000#32
  let main_v8 : FVec F S2048 .f32 := broadcastInDim S2048 ![] bcast_S_S2048 main_cst_1
  let main_v9 : IVec S2048 1 := cmpf .olt main_v7 main_v8
  let main_v10 : FVec F S8x128x128 .f32 := Host.absf main_arg3
  let main_cst_2 : FVec F S_ .f32 := constant S_ .f32 0x7F800000#32
  let main_v11 : FVec F S8x128x128 .f32 := broadcastInDim S8x128x128 ![] bcast_S_S8x128x128 main_cst_2
  let main_v12 : IVec S8x128x128 1 := cmpf .olt main_v10 main_v11
  let main_v13 : FVec F S8x128 .f32 := Host.absf main_arg4
  let main_cst_3 : FVec F S_ .f32 := constant S_ .f32 0x7F800000#32
  let main_v14 : FVec F S8x128 .f32 := broadcastInDim S8x128 ![] bcast_S_S8x128 main_cst_3
  let main_v15 : IVec S8x128 1 := cmpf .olt main_v13 main_v14
  let main_v16 : FVec F S4096x2048 .f32 := (extf .f32 · bitsLt_bf16_f32) main_arg5
  let main_v17 : FVec F S4096x2048 .f32 := Host.absf main_v16
  let main_cst_4 : FVec F S_ .f32 := constant S_ .f32 0x7F800000#32
  fn_part1 (F := F) main_v3 main_v6 main_v9 main_v12 main_v15 main_v17 main_cst_4
-- ==== Pre_finite5.lean ====
abbrev S4096x2048 : Shape := ⟨2, ![4096, 2048]⟩
abbrev S2048x1024 : Shape := ⟨2, ![2048, 1024]⟩
abbrev S1024 : Shape := ⟨1, ![1024]⟩
abbrev S1x4096x1024 : Shape := ⟨3, ![1, 4096, 1024]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S2048x1024 : S_.BroadcastsInDim S2048x1024 (![] : Fin 0 → Fin S2048x1024.rank)
  bcast_S_S1024 : S_.BroadcastsInDim S1024 (![] : Fin 0 → Fin S1024.rank)
  bcast_S_S1x4096x1024 : S_.BroadcastsInDim S1x4096x1024 (![] : Fin 0 → Fin S1x4096x1024.rank)

variable [Facts]

def fn {F : FTy → Type} [FloatOps F] (main_arg0 : FVec F S4096x2048 .bf16) (main_arg1 : FVec F S2048x1024 .f32) (main_arg2 : FVec F S1024 .f32) (main_arg3 : FVec F S1x4096x1024 .f32) : IVec S4096x2048 1 × IVec S2048x1024 1 × IVec S1024 1 × IVec S1x4096x1024 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_v7 : FVec F S1024 .f32 := Host.absf main_arg2
  let main_cst_1 : FVec F S_ .f32 := constant S_ .f32 0x7F800000#32
  let main_v8 : FVec F S1024 .f32 := broadcastInDim S1024 ![] bcast_S_S1024 main_cst_1
  let main_v9 : IVec S1024 1 := cmpf .olt main_v7 main_v8
  let main_v10 : FVec F S1x4096x1024 .f32 := Host.absf main_arg3
  let main_cst_2 : FVec F S_ .f32 := constant S_ .f32 0x7F800000#32
  let main_v11 : FVec F S1x4096x1024 .f32 := broadcastInDim S1x4096x1024 ![] bcast_S_S1x4096x1024 main_cst_2
  let main_v12 : IVec S1x4096x1024 1 := cmpf .olt main_v10 main_v11
  (main_v3, main_v6, main_v9, main_v12)
-- ==== Pre_finite6.lean ====
abbrev S4096x2048 : Shape := ⟨2, ![4096, 2048]⟩
abbrev S2048x1024 : Shape := ⟨2, ![2048, 1024]⟩
abbrev S1024 : Shape := ⟨1, ![1024]⟩
abbrev S1x4096x1024 : Shape := ⟨3, ![1, 4096, 1024]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S2048x1024 : S_.BroadcastsInDim S2048x1024 (![] : Fin 0 → Fin S2048x1024.rank)
  bcast_S_S1024 : S_.BroadcastsInDim S1024 (![] : Fin 0 → Fin S1024.rank)
  bcast_S_S1x4096x1024 : S_.BroadcastsInDim S1x4096x1024 (![] : Fin 0 → Fin S1x4096x1024.rank)

variable [Facts]

def fn {F : FTy → Type} [FloatOps F] (main_arg0 : FVec F S4096x2048 .bf16) (main_arg1 : FVec F S2048x1024 .f32) (main_arg2 : FVec F S1024 .f32) (main_arg3 : FVec F S1x4096x1024 .f32) (main_arg4 : FVec F S1x4096x1024 .f32) : IVec S4096x2048 1 × IVec S2048x1024 1 × IVec S1024 1 × IVec S1x4096x1024 1 × IVec S1x4096x1024 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_v7 : FVec F S1024 .f32 := Host.absf main_arg2
  let main_cst_1 : FVec F S_ .f32 := constant S_ .f32 0x7F800000#32
  let main_v8 : FVec F S1024 .f32 := broadcastInDim S1024 ![] bcast_S_S1024 main_cst_1
  let main_v9 : IVec S1024 1 := cmpf .olt main_v7 main_v8
  let main_v10 : FVec F S1x4096x1024 .f32 := Host.absf main_arg3
  let main_cst_2 : FVec F S_ .f32 := constant S_ .f32 0x7F800000#32
  let main_v11 : FVec F S1x4096x1024 .f32 := broadcastInDim S1x4096x1024 ![] bcast_S_S1x4096x1024 main_cst_2
  let main_v12 : IVec S1x4096x1024 1 := cmpf .olt main_v10 main_v11
  let main_v13 : FVec F S1x4096x1024 .f32 := Host.absf main_arg4
  let main_cst_3 : FVec F S_ .f32 := constant S_ .f32 0x7F800000#32
  let main_v14 : FVec F S1x4096x1024 .f32 := broadcastInDim S1x4096x1024 ![] bcast_S_S1x4096x1024 main_cst_3
  let main_v15 : IVec S1x4096x1024 1 := cmpf .olt main_v13 main_v14
  (main_v3, main_v6, main_v9, main_v12, main_v15)
-- ==== Pre_finite7.lean ====
abbrev S4096x6144 : Shape := ⟨2, ![4096, 6144]⟩
abbrev S2048 : Shape := ⟨1, ![2048]⟩
abbrev S8x128x128 : Shape := ⟨3, ![8, 128, 128]⟩
abbrev S8x128 : Shape := ⟨2, ![8, 128]⟩
abbrev S_ : Shape := ⟨0, ![]⟩

class Facts : Prop where
  bitsLt_bf16_f32 : FTy.bits .bf16 < FTy.bits .f32
  bcast_S_S4096x6144 : S_.BroadcastsInDim S4096x6144 (![] : Fin 0 → Fin S4096x6144.rank)

variable [Facts]

def fn {F : FTy → Type} [FloatOps F] (main_arg0 : FVec F S4096x6144 .bf16) (main_arg1 : FVec F S2048 .f32) (main_arg2 : FVec F S2048 .f32) (main_arg3 : FVec F S8x128x128 .f32) (main_arg4 : FVec F S8x128 .f32) : IVec S4096x6144 1 :=
  let main_v0 : FVec F S4096x6144 .f32 := (extf .f32 · bitsLt_bf16_f32) main_arg0
  let main_v1 : FVec F S4096x6144 .f32 := Host.absf main_v0
  let main_cst : FVec F S_ .f32 := constant S_ .f32 0x7F800000#32
  let main_v2 : FVec F S4096x6144 .f32 := broadcastInDim S4096x6144 ![] bcast_S_S4096x6144 main_cst
  let main_v3 : IVec S4096x6144 1 := cmpf .olt main_v1 main_v2
  main_v3
-- ==== Pre_finite8.lean ====
abbrev S4096x4096 : Shape := ⟨2, ![4096, 4096]⟩
abbrev S4x512x512 : Shape := ⟨3, ![4, 512, 512]⟩
abbrev S2048 : Shape := ⟨1, ![2048]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)

variable [Facts]

def fn {F : FTy → Type} [FloatOps F] (main_arg0 : FVec F S4096x4096 .bf16) (main_arg1 : FVec F S4x512x512 .f32) (main_arg2 : FVec F S2048 .f32) : IVec S4096x4096 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  main_v3
-- ==== InBwd.lean ====
abbrev S1x4096x1024 : Shape := ⟨3, ![1, 4096, 1024]⟩
abbrev S1024 : Shape := ⟨1, ![1024]⟩
abbrev S1024x4096 : Shape := ⟨2, ![1024, 4096]⟩
abbrev S4096x4096 : Shape := ⟨2, ![4096, 4096]⟩
abbrev S1024x8x512 : Shape := ⟨3, ![1024, 8, 512]⟩
abbrev S8x1024x512 : Shape := ⟨3, ![8, 1024, 512]⟩
abbrev S4096x1024 : Shape := ⟨2, ![4096, 1024]⟩
abbrev S1x1x1024 : Shape := ⟨3, ![1, 1, 1024]⟩
abbrev S1x1024 : Shape := ⟨2, ![1, 1024]⟩
abbrev S512x4096 : Shape := ⟨2, ![512, 4096]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x4096, .f32⟩
  | .hbm, ⟨3, _⟩ => ⟨S4096x4096, .bf16⟩
  | .hbm, ⟨4, _⟩ => ⟨S1x4096x1024, .f32⟩
  | .hbm, ⟨5, _⟩ => ⟨S1024x8x512, .f32⟩
  | .hbm, ⟨6, _⟩ => ⟨S8x1024x512, .f32⟩
  | .hbm, ⟨7, _⟩ => ⟨S8x1024x512, .bf16⟩
  | .hbm, ⟨8, _⟩ => ⟨S4096x1024, .f32⟩
  | .hbm, ⟨9, _⟩ => ⟨S1x1x1024, .f32⟩
  | .hbm, ⟨10, _⟩ => ⟨S4096x1024, .f32⟩
  | .hbm, ⟨11, _⟩ => ⟨S4096x1024, .f32⟩
  | .hbm, ⟨12, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InBwdRefIdeal.lean ====
abbrev S1x4096x1024 : Shape := ⟨3, ![1, 4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x4096 : Shape := ⟨3, ![1, 4096, 4096]⟩
abbrev S1x1024 : Shape := ⟨2, ![1, 1024]⟩
abbrev S4096 : Shape := ⟨1, ![4096]⟩
abbrev S4096x1024 : Shape := ⟨2, ![4096, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x4096, .f32⟩
  | .hbm, ⟨3, _⟩ => ⟨S4096x4096, .bf16⟩
  | .hbm, ⟨4, _⟩ => ⟨S1x4096x1024, .f32⟩
  | .hbm, ⟨5, _⟩ => ⟨S1x4096x1024, .f32⟩
  | .hbm, ⟨6, _⟩ => ⟨S_, .f32⟩
  | .hbm, ⟨7, _⟩ => ⟨S1x4096, .f32⟩
  | .hbm, ⟨8, _⟩ => ⟨S1x4096x1, .f32⟩
  | .hbm, ⟨9, _⟩ => ⟨S_, .f32⟩
  | .hbm, ⟨10, _⟩ => ⟨S1x4096x1, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S_, .f32⟩
  | .hbm, ⟨18, _⟩ => ⟨S1x4096x1, .f32⟩
  | .hbm, ⟨19, _⟩ => ⟨S1x4096x1, .f32⟩
  | .hbm, ⟨20, _⟩ => ⟨S1x4096x1024, .f32⟩
  | .hbm, ⟨21, _⟩ => ⟨S1x4096x1024, .f32⟩
  | .hbm, ⟨22, _⟩ => ⟨S1x1x1024, .f32⟩
  | .hbm, ⟨23, _⟩ => ⟨S1x4096x1024, .f32⟩
  | .hbm, ⟨24, _⟩ => ⟨S1x4096x1024, .f32⟩
  | .hbm, ⟨25, _⟩ => ⟨S1x4096x4096, .f32⟩
  | .hbm, ⟨26, _⟩ => ⟨S4096x4096, .f32⟩
  | .hbm, ⟨27, _⟩ => ⟨S1x4096x4096, .f32⟩
  | .hbm, ⟨28, _⟩ => ⟨S1x4096x1024, .f32⟩
  | .hbm, ⟨29, _⟩ => ⟨S1x4096x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x4096x1024, .f32⟩
  | .hbm, ⟨34, _⟩ => ⟨S1x4096x1024, .f32⟩
  | .hbm, ⟨35, _⟩ => ⟨S_, .f32⟩
  | .hbm, ⟨36, _⟩ => ⟨S1024, .f32⟩
  | .hbm, ⟨37, _⟩ => ⟨S1x4096x1024, .f32⟩
  | .hbm, ⟨38, _⟩ => ⟨S_, .f32⟩
  | .hbm, ⟨39, _⟩ => ⟨S1x4096, .f32⟩
  | .hbm, ⟨40, _⟩ => ⟨S1x4096x1, .f32⟩
  | .hbm, ⟨41, _⟩ => ⟨S1x4096x1024, .f32⟩
  | .hbm, ⟨42, _⟩ => ⟨S1x4096x1024, .f32⟩
  | .hbm, ⟨43, _⟩ => ⟨S1x4096x1024, .f32⟩
  | .hbm, ⟨44, _⟩ => ⟨S1x4096x1, .f32⟩
  | .hbm, ⟨45, _⟩ => ⟨S_, .f32⟩
  | .hbm, ⟨46, _⟩ => ⟨S1x4096x1, .f32⟩
  | .hbm, ⟨47, _⟩ => ⟨S1x4096x1, .f32⟩
  | .hbm, ⟨48, _⟩ => ⟨S_, .f32⟩
  | .hbm, ⟨49, _⟩ => ⟨S4096, .f32⟩
  | .hbm, ⟨50, _⟩ => ⟨S1x4096, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S1x4096x1024, .f32⟩
  | .hbm, ⟨55, _⟩ => ⟨S1x4096x1024, .f32⟩
  | .hbm, ⟨56, _⟩ => ⟨S4096x1024, .f32⟩
  | .hbm, ⟨57, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== InBwdA.lean ====
abbrev S1x4096x1024 : Shape := ⟨3, ![1, 4096, 1024]⟩
abbrev S1024 : Shape := ⟨1, ![1024]⟩
abbrev S1024x6144 : Shape := ⟨2, ![1024, 6144]⟩
abbrev S4096x6144 : Shape := ⟨2, ![4096, 6144]⟩
abbrev S1024x8x768 : Shape := ⟨3, ![1024, 8, 768]⟩
abbrev S8x1024x768 : Shape := ⟨3, ![8, 1024, 768]⟩
abbrev S8x256x768 : Shape := ⟨3, ![8, 256, 768]⟩
abbrev S4096x1024 : Shape := ⟨2, ![4096, 1024]⟩
abbrev S1x1x1024 : Shape := ⟨3, ![1, 1, 1024]⟩
abbrev S1x1024 : Shape := ⟨2, ![1, 1024]⟩
abbrev S512x6144 : Shape := ⟨2, ![512, 6144]⟩
abbrev S512x1024 : Shape := ⟨2, ![512, 1024]⟩
abbrev S512x768 : Shape := ⟨2, ![512, 768]⟩
abbrev S1x256x768 : Shape := ⟨3, ![1, 256, 768]⟩
abbrev S256x768 : Shape := ⟨2, ![256, 768]⟩
abbrev S512x256 : Shape := ⟨2, ![512, 256]⟩
abbrev S512 : Shape := ⟨1, ![512]⟩
abbrev S512x1 : Shape := ⟨2, ![512, 1]⟩

abbrev nBuf : Space → Nat
  | .hbm => 17
  | .vmem => 14
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x6144, .f32⟩
  | .hbm, ⟨3, _⟩ => ⟨S4096x6144, .bf16⟩
  | .hbm, ⟨4, _⟩ => ⟨S1x4096x1024, .f32⟩
  | .hbm, ⟨5, _⟩ => ⟨S1024x8x768, .f32⟩
  | .hbm, ⟨6, _⟩ => ⟨S8x1024x768, .f32⟩
  | .hbm, ⟨7, _⟩ => ⟨S8x1024x768, .bf16⟩
  | .hbm, ⟨8, _⟩ => ⟨S8x256x768, .bf16⟩
  | .hbm, ⟨9, _⟩ => ⟨S8x256x768, .bf16⟩
  | .hbm, ⟨10, _⟩ => ⟨S8x256x768, .bf16⟩
  | .hbm, ⟨11, _⟩ => ⟨S8x256x768, .bf16⟩
  | .hbm, ⟨12, _⟩ => ⟨S4096x1024, .f32⟩
  | .hbm, ⟨13, _⟩ => ⟨S1x1x1024, .f32⟩
  | .hbm, ⟨14, _⟩ => ⟨S4096x1024, .f32⟩
  | .hbm, ⟨15, _⟩ => ⟨S4096x1024, .f32⟩
  | .hbm, ⟨16, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S8x256x768, .bf16⟩
  | .local _ .vmem, ⟨3, _⟩ => ⟨S8x256x768, .bf16⟩
  | .local _ .vmem, ⟨4, _⟩ => ⟨S8x256x768, .bf16⟩
  | .local _ .vmem, ⟨5, _⟩ => ⟨S8x256x768, .bf16⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InBwdARefIdeal.lean ====
abbrev S1x4096x1024 : Shape := ⟨3, ![1, 4096, 1024]⟩
abbrev S1024 : Shape := ⟨1, ![1024]⟩
abbrev S1024x6144 : Shape := ⟨2, ![1024, 6144]⟩
abbrev S4096x6144 : Shape := ⟨2, ![4096, 6144]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x6144 : Shape := ⟨3, ![1, 4096, 6144]⟩
abbrev S1x1024 : Shape := ⟨2, ![1, 1024]⟩
abbrev S4096 : Shape := ⟨1, ![4096]⟩
abbrev S4096x1024 : Shape := ⟨2, ![4096, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x6144, .f32⟩
  | .hbm, ⟨3, _⟩ => ⟨S4096x6144, .bf16⟩
  | .hbm, ⟨4, _⟩ => ⟨S1x4096x1024, .f32⟩
  | .hbm, ⟨5, _⟩ => ⟨S1x4096x1024, .f32⟩
  | .hbm, ⟨6, _⟩ => ⟨S_, .f32⟩
  | .hbm, ⟨7, _⟩ => ⟨S1x4096, .f32⟩
  | .hbm, ⟨8, _⟩ => ⟨S1x4096x1, .f32⟩
  | .hbm, ⟨9, _⟩ => ⟨S_, .f32⟩
  | .hbm, ⟨10, _⟩ => ⟨S1x4096x1, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S_, .f32⟩
  | .hbm, ⟨18, _⟩ => ⟨S1x4096x1, .f32⟩
  | .hbm, ⟨19, _⟩ => ⟨S1x4096x1, .f32⟩
  | .hbm, ⟨20, _⟩ => ⟨S1x4096x1024, .f32⟩
  | .hbm, ⟨21, _⟩ => ⟨S1x4096x1024, .f32⟩
  | .hbm, ⟨22, _⟩ => ⟨S1x1x1024, .f32⟩
  | .hbm, ⟨23, _⟩ => ⟨S1x4096x1024, .f32⟩
  | .hbm, ⟨24, _⟩ => ⟨S1x4096x1024, .f32⟩
  | .hbm, ⟨25, _⟩ => ⟨S1x4096x6144, .f32⟩
  | .hbm, ⟨26, _⟩ => ⟨S4096x6144, .f32⟩
  | .hbm, ⟨27, _⟩ => ⟨S1x4096x6144, .f32⟩
  | .hbm, ⟨28, _⟩ => ⟨S1x4096x1024, .f32⟩
  | .hbm, ⟨29, _⟩ => ⟨S1x4096x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x4096x1024, .f32⟩
  | .hbm, ⟨34, _⟩ => ⟨S1x4096x1024, .f32⟩
  | .hbm, ⟨35, _⟩ => ⟨S_, .f32⟩
  | .hbm, ⟨36, _⟩ => ⟨S1024, .f32⟩
  | .hbm, ⟨37, _⟩ => ⟨S1x4096x1024, .f32⟩
  | .hbm, ⟨38, _⟩ => ⟨S_, .f32⟩
  | .hbm, ⟨39, _⟩ => ⟨S1x4096, .f32⟩
  | .hbm, ⟨40, _⟩ => ⟨S1x4096x1, .f32⟩
  | .hbm, ⟨41, _⟩ => ⟨S1x4096x1024, .f32⟩
  | .hbm, ⟨42, _⟩ => ⟨S1x4096x1024, .f32⟩
  | .hbm, ⟨43, _⟩ => ⟨S1x4096x1024, .f32⟩
  | .hbm, ⟨44, _⟩ => ⟨S1x4096x1, .f32⟩
  | .hbm, ⟨45, _⟩ => ⟨S_, .f32⟩
  | .hbm, ⟨46, _⟩ => ⟨S1x4096x1, .f32⟩
  | .hbm, ⟨47, _⟩ => ⟨S1x4096x1, .f32⟩
  | .hbm, ⟨48, _⟩ => ⟨S_, .f32⟩
  | .hbm, ⟨49, _⟩ => ⟨S4096, .f32⟩
  | .hbm, ⟨50, _⟩ => ⟨S1x4096, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S1x4096x1024, .f32⟩
  | .hbm, ⟨55, _⟩ => ⟨S1x4096x1024, .f32⟩
  | .hbm, ⟨56, _⟩ => ⟨S4096x1024, .f32⟩
  | .hbm, ⟨57, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== AMix.lean ====
abbrev S4096x6144 : Shape := ⟨2, ![4096, 6144]⟩
abbrev S2048 : Shape := ⟨1, ![2048]⟩
abbrev S8x128x128 : Shape := ⟨3, ![8, 128, 128]⟩
abbrev S8x128 : Shape := ⟨2, ![8, 128]⟩
abbrev S4096x2048 : Shape := ⟨2, ![4096, 2048]⟩
abbrev S1x1x2048 : Shape := ⟨3, ![1, 1, 2048]⟩
abbrev S1x8x128x1 : Shape := ⟨4, ![1, 8, 128, 1]⟩
abbrev S1x8x128x128 : Shape := ⟨4, ![1, 8, 128, 128]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S256x2048 : Shape := ⟨2, ![256, 2048]⟩
abbrev S256x1 : Shape := ⟨2, ![256, 1]⟩
abbrev S256x6144 : Shape := ⟨2, ![256, 6144]⟩
abbrev S16x2048 : Shape := ⟨2, ![16, 2048]⟩
abbrev S128x128 : Shape := ⟨2, ![128, 128]⟩
abbrev S1x1x128x128 : Shape := ⟨4, ![1, 1, 128, 128]⟩
abbrev S128x256 : Shape := ⟨2, ![128, 256]⟩
abbrev S1x1x128x1 : Shape := ⟨4, ![1, 1, 128, 1]⟩
abbrev S128x1 : Shape := ⟨2, ![128, 1]⟩
abbrev S8x256 : Shape := ⟨2, ![8, 256]⟩
abbrev S1x128x128 : Shape := ⟨3, ![1, 128, 128]⟩
abbrev S1x128 : Shape := ⟨2, ![1, 128]⟩
abbrev S16x1 : Shape := ⟨2, ![16, 1]⟩
abbrev S16 : Shape := ⟨1, ![16]⟩

abbrev nBuf : Space → Nat
  | .hbm => 86
  | .vmem => 27
  | .smem => 0
  | _ => 0

abbrev bufTy : (tb : Table) → Fin (tcTables nBuf tb) → BufTy
  | .hbm, ⟨0, _⟩ => ⟨S4096x6144, .bf16⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S4096x2048, .bf16⟩
  | .hbm, ⟨6, _⟩ => ⟨S1x1x2048, .f32⟩
  | .hbm, ⟨7, _⟩ => ⟨S1x1x2048, .f32⟩
  | .hbm, ⟨8, _⟩ => ⟨S1x8x128x1, .f32⟩
  | .hbm, ⟨9, _⟩ => ⟨S1x8x128x128, .f32⟩
  | .hbm, ⟨10, _⟩ => ⟨S4096x2048, .bf16⟩
  | .hbm, ⟨11, _⟩ => ⟨S4096x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S4096x1, .f32⟩
  | .hbm, ⟨77, _⟩ => ⟨S4096x2048, .f32⟩
  | .hbm, ⟨78, _⟩ => ⟨S4096x2048, .f32⟩
  | .hbm, ⟨79, _⟩ => ⟨S4096x2048, .bf16⟩
  | .hbm, ⟨80, _⟩ => ⟨S4096x2048, .bf16⟩
  | .hbm, ⟨81, _⟩ => ⟨S4096x6144, .bf16⟩
  | .hbm, ⟨82, _⟩ => ⟨S8x128x128, .f32⟩
  | .hbm, ⟨83, _⟩ => ⟨S8x128, .f32⟩
  | .hbm, ⟨84, _⟩ => ⟨S1x2048, .f32⟩
  | .hbm, ⟨85, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x1, .f32⟩
  | .local _ .vmem, ⟨11, _⟩ => ⟨S256x1, .f32⟩
  | .local _ .vmem, ⟨12, _⟩ => ⟨S1x1x2048, .f32⟩
  | .local _ .vmem, ⟨13, _⟩ => ⟨S1x1x2048, .f32⟩
  | .local _ .vmem, ⟨14, _⟩ => ⟨S1x8x128x128, .f32⟩
  | .local _ .vmem, ⟨15, _⟩ => ⟨S1x8x128x1, .f32⟩
  | .local _ .vmem, ⟨16, _⟩ => ⟨S256x6144, .bf16⟩
  | .local _ .vmem, ⟨17, _⟩ => ⟨S256x6144, .bf16⟩
  | .local _ .vmem, ⟨18, _⟩ => ⟨S8x128x128, .f32⟩
  | .local _ .vmem, ⟨19, _⟩ => ⟨S8x128, .f32⟩
  | .local _ .vmem, ⟨20, _⟩ => ⟨S1x2048, .f32⟩
  | .local _ .vmem, ⟨21, _⟩ => ⟨S1x2048, .f32⟩
  | .local _ .vmem, ⟨22, _⟩ => ⟨S256x2048, .bf16⟩
  | .local _ .vmem, ⟨23, _⟩ => ⟨S256x2048, .f32⟩
  | .local _ .vmem, ⟨24, _⟩ => ⟨S256x2048, .f32⟩
  | .local _ .vmem, ⟨25, _⟩ => ⟨S256x2048, .bf16⟩
  | .local _ .vmem, ⟨26, _⟩ => ⟨S256x2048, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_9 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩
abbrev main_cst_11 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_12 : Ref sig .tc := ⟨.hbm, 58, rfl⟩
abbrev main_v39 : Ref sig .tc := ⟨.hbm, 59, rfl⟩
abbrev main_v40 : Ref sig .tc := ⟨.hbm, 60, rfl⟩
abbrev main_cst_13 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_14 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_cst_16 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57_0 : Ref sig .tc := ⟨.hbm, 81, rfl⟩
abbrev main_v57_1 : Ref sig .tc := ⟨.hbm, 82, rfl⟩
abbrev main_v57_2 : Ref sig .tc := ⟨.hbm, 83, rfl⟩
abbrev main_v57_3 : Ref sig .tc := ⟨.hbm, 84, rfl⟩
abbrev main_v57_4 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_2 : BitVec 32 := 0#32
  let c16_i32 : BitVec 32 := 16#32
  let v5 : BitVec 32 := Scalar.addi c0_i32_2 c16_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg21 : BitVec 32 := Scf.iv c0_i32_2 c1_i32 k0_t1
  let c16_i32_532 : BitVec 32 := 16#32
  let v685 : BitVec 32 := Scalar.muli arg21 c16_i32_532
  v685
def k0_off1 (k0_t1 : Fin k0_t1_loop.trips) : Fin 2 → Nat :=
  let c0_i32_2 : BitVec 32 := 0#32
  let c1_i32 : BitVec 32 := 1#32
  let arg21 : BitVec 32 := Scf.iv c0_i32_2 c1_i32 k0_t1
  let c16_i32_532 : BitVec 32 := 16#32
  let v685 : BitVec 32 := Scalar.muli arg21 c16_i32_532
  let v686 : BitVec 32 := v685
  let v687 : Index := Scalar.indexCast v686
  let c0_533 : Index := 0#32
  ![v687.toNat, 0]
@[reducible] def k0_t2_loop : Scf.Loop 32 :=
  let c0_i32_528 : BitVec 32 := 0#32
  let c16_i32_529 : BitVec 32 := 16#32
  let v684 : BitVec 32 := Scalar.addi c0_i32_528 c16_i32_529
  let c1_i32_530 : BitVec 32 := 1#32
  ⟨c0_i32_528, v684, c1_i32_530⟩
def k0_mult2 (k0_t2 : Fin k0_t2_loop.trips) : BitVec 32 :=
  let c0_i32_528 : BitVec 32 := 0#32
  let c1_i32_530 : BitVec 32 := 1#32
  let arg21 : BitVec 32 := Scf.iv c0_i32_528 c1_i32_530 k0_t2
  let c16_i32_532 : BitVec 32 := 16#32
  let v685 : BitVec 32 := Scalar.muli arg21 c16_i32_532
  v685
def k0_off2 (k0_t2 : Fin k0_t2_loop.trips) : Fin 2 → Nat :=
  let c0_i32_528 : BitVec 32 := 0#32
  let c1_i32_530 : BitVec 32 := 1#32
  let arg21 : BitVec 32 := Scf.iv c0_i32_528 c1_i32_530 k0_t2
  let c16_i32_532 : BitVec 32 := 16#32
  let v685 : BitVec 32 := Scalar.muli arg21 c16_i32_532
  let v686 : BitVec 32 := v685
  let v687 : Index := Scalar.indexCast v686
  let c0_533 : Index := 0#32
  ![v687.toNat, 0]
def k0_off3 (k0_t2 : Fin k0_t2_loop.trips) : Fin 2 → Nat :=
  let c0_i32_528 : BitVec 32 := 0#32
  let c1_i32_530 : BitVec 32 := 1#32
  let arg21 : BitVec 32 := Scf.iv c0_i32_528 c1_i32_530 k0_t2
  let c16_i32_532 : BitVec 32 := 16#32
  let v685 : BitVec 32 := Scalar.muli arg21 c16_i32_532
  let v686 : BitVec 32 := v685
  let v710 : Index := Scalar.indexCast v686
  let c0_548 : Index := 0#32
  ![v710.toNat, 0]
def k0_off4 (k0_t2 : Fin k0_t2_loop.trips) : Fin 2 → Nat :=
  let c0_i32_528 : BitVec 32 := 0#32
  let c1_i32_530 : BitVec 32 := 1#32
  let arg21 : BitVec 32 := Scf.iv c0_i32_528 c1_i32_530 k0_t2
  let c16_i32_532 : BitVec 32 := 16#32
  let v685 : BitVec 32 := Scalar.muli arg21 c16_i32_532
  let v686 : BitVec 32 := v685
  let v735 : Index := Scalar.indexCast v686
  let c2048 : Index := 2048#32
  ![v735.toNat, 2048]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8x128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x6144 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== AMixIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== AMixRefIdeal.lean ====
abbrev S4096x6144 : Shape := ⟨2, ![4096, 6144]⟩
abbrev S2048 : Shape := ⟨1, ![2048]⟩
abbrev S8x128x128 : Shape := ⟨3, ![8, 128, 128]⟩
abbrev S8x128 : Shape := ⟨2, ![8, 128]⟩
abbrev S4096x2048 : Shape := ⟨2, ![4096, 2048]⟩
abbrev S1x4096x6144 : Shape := ⟨3, ![1, 4096, 6144]⟩
abbrev S1x4096x2048 : Shape := ⟨3, ![1, 4096, 2048]⟩
abbrev S_ : Shape := ⟨0, ![]⟩
abbrev S1x4096 : Shape := ⟨2, ![1, 4096]⟩
abbrev S1x4096x1 : Shape := ⟨3, ![1, 4096, 1]⟩
abbrev S1x1x2048 : Shape := ⟨3, ![1, 1, 2048]⟩
abbrev S1x32x128x8x256 : Shape := ⟨5, ![1, 32, 128, 8, 256]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x1x32x256x128 : Shape := ⟨5, ![8, 1, 32, 256, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S1x2048 : Shape := ⟨2, ![1, 2048]⟩
abbrev S4096 : Shape := ⟨1, ![4096]⟩

abbrev nBuf : Space → Nat
  | .hbm => 275
  | .vmem => 0
  | .smem => 0
  | _ => 0

abbrev hbmTy0_0 (i : Nat) : BufTy := match i % 128 with
  | 0 => ⟨S4096x6144, .bf16⟩
  | 1 => ⟨S2048, .f32⟩
  | 2 => ⟨S2048, .f32⟩
  | 3 => ⟨S8x128x128, .f32⟩
  | 4 => ⟨S8x128, .f32⟩
  | 5 => ⟨S4096x2048, .bf16⟩
  | 6 => ⟨S4096x6144, .f32⟩
  | 7 => ⟨S1x4096x6144, .f32⟩
  | 8 => ⟨S1x4096x2048, .f32⟩
  | 9 => ⟨S1x4096x2048, .f32⟩
  | 10 => ⟨S1x4096x2048, .f32⟩
  | 11 => ⟨S_, .f32⟩
  | 12 => ⟨S_, .f32⟩
  | 13 => ⟨S_, .f32⟩
  | 14 => ⟨S1x4096x2048, .f32⟩
  | 15 => ⟨S1x4096x2048, .f32⟩
  | 16 => ⟨S1x4096x2048, .f32⟩
  | 17 => ⟨S_, .f32⟩
  | 18 => ⟨S1x4096x2048, .f32⟩
  | 19 => ⟨S1x4096x2048, .f32⟩
  | 20 => ⟨S1x4096x2048, .f32⟩
  | 21 => ⟨S1x4096x2048, .f32⟩
  | 22 => ⟨S1x4096x2048, .f32⟩
  | 23 => ⟨S_, .f32⟩
  | 24 => ⟨S1x4096x2048, .f32⟩
  | 25 => ⟨S1x4096x2048, .f32⟩
  | 26 => ⟨S1x4096x2048, .f32⟩
  | 27 => ⟨S_, .f32⟩
  | 28 => ⟨S1x4096x2048, .f32⟩
  | 29 => ⟨S1x4096x2048, .f32⟩
  | 30 => ⟨S_, .f32⟩
  | 31 => ⟨S1x4096x2048, .f32⟩
  | 32 => ⟨S1x4096x2048, .f32⟩
  | 33 => ⟨S1x4096x2048, .f32⟩
  | 34 => ⟨S_, .f32⟩
  | 35 => ⟨S1x4096x2048, .f32⟩
  | 36 => ⟨S1x4096x2048, .f32⟩
  | 37 => ⟨S_, .f32⟩
  | 38 => ⟨S1x4096x2048, .f32⟩
  | 39 => ⟨S1x4096x2048, .f32⟩
  | 40 => ⟨S1x4096x2048, .f32⟩
  | 41 => ⟨S_, .f32⟩
  | 42 => ⟨S_, .f32⟩
  | 43 => ⟨S_, .f32⟩
  | 44 => ⟨S1x4096x2048, .f32⟩
  | 45 => ⟨S1x4096x2048, .f32⟩
  | 46 => ⟨S1x4096x2048, .f32⟩
  | 47 => ⟨S_, .f32⟩
  | 48 => ⟨S1x4096x2048, .f32⟩
  | 49 => ⟨S1x4096x2048, .f32⟩
  | 50 => ⟨S1x4096x2048, .f32⟩
  | 51 => ⟨S1x4096x2048, .f32⟩
  | 52 => ⟨S1x4096x2048, .f32⟩
  | 53 => ⟨S_, .f32⟩
  | 54 => ⟨S1x4096x2048, .f32⟩
  | 55 => ⟨S1x4096x2048, .f32⟩
  | 56 => ⟨S1x4096x2048, .f32⟩
  | 57 => ⟨S_, .f32⟩
  | 58 => ⟨S1x4096x2048, .f32⟩
  | 59 => ⟨S1x4096x2048, .f32⟩
  | 60 => ⟨S_, .f32⟩
  | 61 => ⟨S1x4096x2048, .f32⟩
  | 62 => ⟨S1x4096x2048, .f32⟩
  | 63 => ⟨S1x4096x2048, .f32⟩
  | 64 => ⟨S_, .f32⟩
  | 65 => ⟨S1x4096x2048, .f32⟩
  | 66 => ⟨S1x4096x2048, .f32⟩
  | 67 => ⟨S_, .f32⟩
  | 68 => ⟨S1x4096x2048, .f32⟩
  | 69 => ⟨S1x4096x2048, .f32⟩
  | 70 => ⟨S1x4096x2048, .f32⟩
  | 71 => ⟨S_, .f32⟩
  | 72 => ⟨S1x4096, .f32⟩
  | 73 => ⟨S1x4096x1, .f32⟩
  | 74 => ⟨S_, .f32⟩
  | 75 => ⟨S1x4096x1, .f32⟩
  | 76 => ⟨S1x4096x1, .f32⟩
  | 77 => ⟨S1x4096x2048, .f32⟩
  | 78 => ⟨S1x4096x2048, .f32⟩
  | 79 => ⟨S1x4096x2048, .f32⟩
  | 80 => ⟨S_, .f32⟩
  | 81 => ⟨S1x4096, .f32⟩
  | 82 => ⟨S1x4096x1, .f32⟩
  | 83 => ⟨S_, .f32⟩
  | 84 => ⟨S1x4096x1, .f32⟩
  | 85 => ⟨S1x4096x1, .f32⟩
  | 86 => ⟨S_, .f32⟩
  | 87 => ⟨S1x4096x1, .f32⟩
  | 88 => ⟨S1x4096x1, .f32⟩
  | 89 => ⟨S1x4096x1, .f32⟩
  | 90 => ⟨S1x4096x1, .f32⟩
  | 91 => ⟨S_, .f32⟩
  | 92 => ⟨S1x4096x1, .f32⟩
  | 93 => ⟨S1x4096x1, .f32⟩
  | 94 => ⟨S1x4096x2048, .f32⟩
  | 95 => ⟨S1x4096x2048, .f32⟩
  | 96 => ⟨S1x1x2048, .f32⟩
  | 97 => ⟨S1x4096x2048, .f32⟩
  | 98 => ⟨S1x4096x2048, .f32⟩
  | 99 => ⟨S1x1x2048, .f32⟩
  | 100 => ⟨S1x4096x2048, .f32⟩
  | 101 => ⟨S1x4096x2048, .f32⟩
  | 102 => ⟨S1x32x128x8x256, .f32⟩
  | 103 => ⟨S128, .i32⟩
  | 104 => ⟨S1x128, .i32⟩
  | 105 => ⟨S_, .i32⟩
  | 106 => ⟨S_, .i32⟩
  | 107 => ⟨S1x128, .i32⟩
  | 108 => ⟨S1x128, .i32⟩
  | 109 => ⟨S1x128, .i32⟩
  | 110 => ⟨S_, .i32⟩
  | 111 => ⟨S1x128, .i32⟩
  | 112 => ⟨S1x128, .i1⟩
  | 113 => ⟨S1x128, .i32⟩
  | 114 => ⟨S1x128, .i32⟩
  | 115 => ⟨S_, .i32⟩
  | 116 => ⟨S1x128, .i32⟩
  | 117 => ⟨S1x128, .i1⟩
  | 118 => ⟨S1x128, .i1⟩
  | 119 => ⟨S_, .i32⟩
  | 120 => ⟨S1x128, .i32⟩
  | 121 => ⟨S1x128, .i32⟩
  | 122 => ⟨S1x128, .i32⟩
  | 123 => ⟨S128x1, .i32⟩
  | 124 => ⟨S_, .i32⟩
  | 125 => ⟨S_, .i32⟩
  | 126 => ⟨S128x1, .i32⟩
  | 127 => ⟨S128x1, .i32⟩
  | _ => ⟨S4096x6144, .bf16⟩

abbrev hbmTy0_1 (i : Nat) : BufTy := match i % 128 with
  | 0 => ⟨S128x1, .i32⟩
  | 1 => ⟨S_, .i32⟩
  | 2 => ⟨S128x1, .i32⟩
  | 3 => ⟨S128x1, .i1⟩
  | 4 => ⟨S128x1, .i32⟩
  | 5 => ⟨S128x1, .i32⟩
  | 6 => ⟨S_, .i32⟩
  | 7 => ⟨S128x1, .i32⟩
  | 8 => ⟨S128x1, .i1⟩
  | 9 => ⟨S128x1, .i1⟩
  | 10 => ⟨S_, .i32⟩
  | 11 => ⟨S128x1, .i32⟩
  | 12 => ⟨S128x1, .i32⟩
  | 13 => ⟨S128x1, .i32⟩
  | 14 => ⟨S128x128, .i32⟩
  | 15 => ⟨S128x128, .i32⟩
  | 16 => ⟨S128x128, .i1⟩
  | 17 => ⟨S1x128x128, .i1⟩
  | 18 => ⟨S_, .f32⟩
  | 19 => ⟨S8x128x128, .f32⟩
  | 20 => ⟨S8x128x128, .i1⟩
  | 21 => ⟨S8x128x128, .f32⟩
  | 22 => ⟨S_, .f32⟩
  | 23 => ⟨S8x128x128, .f32⟩
  | 24 => ⟨S8x1x32x256x128, .f32⟩
  | 25 => ⟨S1x32x128x8x256, .f32⟩
  | 26 => ⟨S128x8, .f32⟩
  | 27 => ⟨S1x1x128x8x1, .f32⟩
  | 28 => ⟨S1x32x128x8x256, .f32⟩
  | 29 => ⟨S1x32x128x8x256, .f32⟩
  | 30 => ⟨S1x4096x2048, .f32⟩
  | 31 => ⟨S1x4096x2048, .f32⟩
  | 32 => ⟨S1x4096x2048, .f32⟩
  | 33 => ⟨S1x4096x2048, .f32⟩
  | 34 => ⟨S_, .f32⟩
  | 35 => ⟨S1x4096x2048, .f32⟩
  | 36 => ⟨S1x4096x2048, .f32⟩
  | 37 => ⟨S_, .f32⟩
  | 38 => ⟨S1x4096x2048, .f32⟩
  | 39 => ⟨S1x4096x2048, .f32⟩
  | 40 => ⟨S_, .f32⟩
  | 41 => ⟨S1x4096x2048, .f32⟩
  | 42 => ⟨S1x4096x2048, .f32⟩
  | 43 => ⟨S1x4096x2048, .f32⟩
  | 44 => ⟨S1x4096x2048, .f32⟩
  | 45 => ⟨S1x4096x2048, .f32⟩
  | 46 => ⟨S4096x2048, .f32⟩
  | 47 => ⟨S1x4096x2048, .f32⟩
  | 48 => ⟨S1x4096x2048, .f32⟩
  | 49 => ⟨S1x4096x2048, .f32⟩
  | 50 => ⟨S1x4096x2048, .f32⟩
  | 51 => ⟨S1x4096x2048, .f32⟩
  | 52 => ⟨S1x4096x2048, .f32⟩
  | 53 => ⟨S1x4096x2048, .f32⟩
  | 54 => ⟨S1x4096x2048, .f32⟩
  | 55 => ⟨S1x4096x2048, .f32⟩
  | 56 => ⟨S1x32x128x8x256, .f32⟩
  | 57 => ⟨S_, .f32⟩
  | 58 => ⟨S1x128x8, .f32⟩
  | 59 => ⟨S1x1x128x8x1, .f32⟩
  | 60 => ⟨S_, .f32⟩
  | 61 => ⟨S128x8, .f32⟩
  | 62 => ⟨S8x128, .f32⟩
  | 63 => ⟨S8x1x32x256x128, .f32⟩
  | 64 => ⟨S8x128x128, .f32⟩
  | 65 => ⟨S8x1x32x256x128, .f32⟩
  | 66 => ⟨S1x32x128x8x256, .f32⟩
  | 67 => ⟨S_, .f32⟩
  | 68 => ⟨S8x128x128, .f32⟩
  | 69 => ⟨S8x128x128, .f32⟩
  | 70 => ⟨S1x4096x2048, .f32⟩
  | 71 => ⟨S_, .f32⟩
  | 72 => ⟨S1x2048, .f32⟩
  | 73 => ⟨S1x1x2048, .f32⟩
  | 74 => ⟨S_, .f32⟩
  | 75 => ⟨S2048, .f32⟩
  | 76 => ⟨S1x4096x2048, .f32⟩
  | 77 => ⟨S_, .f32⟩
  | 78 => ⟨S1x2048, .f32⟩
  | 79 => ⟨S1x1x2048, .f32⟩
  | 80 => ⟨S1x4096x2048, .f32⟩
  | 81 => ⟨S1x4096x2048, .f32⟩
  | 82 => ⟨S_, .f32⟩
  | 83 => ⟨S2048, .f32⟩
  | 84 => ⟨S1x4096x2048, .f32⟩
  | 85 => ⟨S_, .f32⟩
  | 86 => ⟨S1x4096, .f32⟩
  | 87 => ⟨S1x4096x1, .f32⟩
  | 88 => ⟨S1x4096x2048, .f32⟩
  | 89 => ⟨S1x4096x2048, .f32⟩
  | 90 => ⟨S1x4096x1, .f32⟩
  | 91 => ⟨S_, .f32⟩
  | 92 => ⟨S1x4096x1, .f32⟩
  | 93 => ⟨S1x4096x1, .f32⟩
  | 94 => ⟨S_, .f32⟩
  | 95 => ⟨S4096, .f32⟩
  | 96 => ⟨S1x4096, .f32⟩
  | 97 => ⟨S1x4096x2048, .f32⟩
  | 98 => ⟨S1x4096x2048, .f32⟩
  | 99 => ⟨S1x4096x2048, .f32⟩
  | 100 => ⟨S1x4096x2048, .f32⟩
  | 101 => ⟨S1x4096x2048, .f32⟩
  | 102 => ⟨S1x4096x2048, .f32⟩
  | 103 => ⟨S_, .f32⟩
  | 104 => ⟨S1x4096, .f32⟩
  | 105 => ⟨S1x4096x1, .f32⟩
  | 106 => ⟨S_, .f32⟩
  | 107 => ⟨S1x4096x1, .f32⟩
  | 108 => ⟨S1x4096x1, .f32⟩
  | 109 => ⟨S_, .f32⟩
  | 110 => ⟨S4096, .f32⟩
  | 111 => ⟨S1x4096, .f32⟩
  | 112 => ⟨S1x4096x2048, .f32⟩
  | 113 => ⟨S1x4096x2048, .f32⟩
  | 114 => ⟨S1x4096x2048, .f32⟩
  | 115 => ⟨S1x4096x2048, .f32⟩
  | 116 => ⟨S_, .f32⟩
  | 117 => ⟨S1x4096x2048, .f32⟩
  | 118 => ⟨S1x4096x2048, .f32⟩
  | 119 => ⟨S1x4096x2048, .f32⟩
  | 120 => ⟨S_, .f32⟩
  | 121 => ⟨S1x4096x2048, .f32⟩
  | 122 => ⟨S1x4096x2048, .f32⟩
  | 123 => ⟨S1x4096x2048, .f32⟩
  | 124 => ⟨S1x4096x2048, .f32⟩
  | 125 => ⟨S1x4096x2048, .f32⟩
  | 126 => ⟨S1x4096x2048, .f32⟩
  | 127 => ⟨S1x4096x2048, .f32⟩
  | _ => ⟨S4096x6144, .bf16⟩

abbrev hbmTy0_2 (i : Nat) : BufTy := match i % 128 with
  | 0 => ⟨S1x4096x2048, .f32⟩
  | 1 => ⟨S1x4096x2048, .f32⟩
  | 2 => ⟨S_, .f32⟩
  | 3 => ⟨S1x4096x2048, .f32⟩
  | 4 => ⟨S1x4096x2048, .f32⟩
  | 5 => ⟨S1x4096x2048, .f32⟩
  | 6 => ⟨S_, .f32⟩
  | 7 => ⟨S1x4096x2048, .f32⟩
  | 8 => ⟨S1x4096x2048, .f32⟩
  | 9 => ⟨S1x4096x2048, .f32⟩
  | 10 => ⟨S1x4096x2048, .f32⟩
  | 11 => ⟨S1x4096x2048, .f32⟩
  | 12 => ⟨S1x4096x2048, .f32⟩
  | 13 => ⟨S1x4096x2048, .f32⟩
  | 14 => ⟨S1x4096x6144, .f32⟩
  | 15 => ⟨S4096x6144, .f32⟩
  | 16 => ⟨S4096x6144, .bf16⟩
  | 17 => ⟨S1x2048, .f32⟩
  | 18 => ⟨S1x2048, .f32⟩
  | _ => ⟨S4096x6144, .bf16⟩

abbrev hbmTy (i : Nat) : BufTy := match i / 128 with
  | 0 => hbmTy0_0 i
  | 1 => hbmTy0_1 i
  | 2 => hbmTy0_2 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_13 : Ref sig .tc := ⟨.hbm, 64, rfl⟩
abbrev main_v44 : Ref sig .tc := ⟨.hbm, 65, rfl⟩
abbrev main_v45 : Ref sig .tc := ⟨.hbm, 66, rfl⟩
abbrev main_cst_14 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_15 : Ref sig .tc := ⟨.hbm, 71, rfl⟩
abbrev main_v49 : Ref sig .tc := ⟨.hbm, 72, rfl⟩
abbrev main_v50 : Ref sig .tc := ⟨.hbm, 73, rfl⟩
abbrev main_cst_16 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_17 : Ref sig .tc := ⟨.hbm, 80, rfl⟩
abbrev main_v56 : Ref sig .tc := ⟨.hbm, 81, rfl⟩
abbrev main_v57 : Ref sig .tc := ⟨.hbm, 82, rfl⟩
abbrev main_cst_18 : Ref sig .tc := ⟨.hbm, 83, rfl⟩
abbrev main_v58 : Ref sig .tc := ⟨.hbm, 84, rfl⟩
abbrev main_v59 : Ref sig .tc := ⟨.hbm, 85, rfl⟩
abbrev main_cst_19 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_20 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c : Ref sig .tc := ⟨.hbm, 105, rfl⟩
abbrev main_call0_v0 : Ref sig .tc := ⟨.hbm, 106, rfl⟩
abbrev main_call0_v1 : Ref sig .tc := ⟨.hbm, 107, rfl⟩
abbrev main_call0_v2 : Ref sig .tc := ⟨.hbm, 108, rfl⟩
abbrev main_call0_v3 : Ref sig .tc := ⟨.hbm, 109, rfl⟩
abbrev main_call0_v4 : Ref sig .tc := ⟨.hbm, 110, rfl⟩
abbrev main_call0_v5 : Ref sig .tc := ⟨.hbm, 111, rfl⟩
abbrev main_call0_v6 : Ref sig .tc := ⟨.hbm, 112, rfl⟩
abbrev main_call0_v7 : Ref sig .tc := ⟨.hbm, 113, rfl⟩
abbrev main_call0_v8 : Ref sig .tc := ⟨.hbm, 114, rfl⟩
abbrev main_call0_c : Ref sig .tc := ⟨.hbm, 115, rfl⟩
abbrev main_call0_v9 : Ref sig .tc := ⟨.hbm, 116, rfl⟩
abbrev main_call0_v10 : Ref sig .tc := ⟨.hbm, 117, rfl⟩
abbrev main_call0_v11 : Ref sig .tc := ⟨.hbm, 118, rfl⟩
abbrev main_call0_c_0 : Ref sig .tc := ⟨.hbm, 119, rfl⟩
abbrev main_call0_v12 : Ref sig .tc := ⟨.hbm, 120, rfl⟩
abbrev main_call0_v13 : Ref sig .tc := ⟨.hbm, 121, rfl⟩
abbrev main_v77 : Ref sig .tc := ⟨.hbm, 122, rfl⟩
abbrev main_v78 : Ref sig .tc := ⟨.hbm, 123, rfl⟩
abbrev main_c_21 : Ref sig .tc := ⟨.hbm, 124, rfl⟩
abbrev main_call1_v0 : Ref sig .tc := ⟨.hbm, 125, rfl⟩
abbrev main_call1_v1 : Ref sig .tc := ⟨.hbm, 126, rfl⟩
abbrev main_call1_v2 : Ref sig .tc := ⟨.hbm, 127, rfl⟩
abbrev main_call1_v3 : Ref sig .tc := ⟨.hbm, 128, rfl⟩
abbrev main_call1_v4 : Ref sig .tc := ⟨.hbm, 129, rfl⟩
abbrev main_call1_v5 : Ref sig .tc := ⟨.hbm, 130, rfl⟩
abbrev main_call1_v6 : Ref sig .tc := ⟨.hbm, 131, rfl⟩
abbrev main_call1_v7 : Ref sig .tc := ⟨.hbm, 132, rfl⟩
abbrev main_call1_v8 : Ref sig .tc := ⟨.hbm, 133, rfl⟩
abbrev main_call1_c : Ref sig .tc := ⟨.hbm, 134, rfl⟩
abbrev main_call1_v9 : Ref sig .tc := ⟨.hbm, 135, rfl⟩
abbrev main_call1_v10 : Ref sig .tc := ⟨.hbm, 136, rfl⟩
abbrev main_call1_v11 : Ref sig .tc := ⟨.hbm, 137, rfl⟩
abbrev main_call1_c_0 : Ref sig .tc := ⟨.hbm, 138, rfl⟩
abbrev main_call1_v12 : Ref sig .tc := ⟨.hbm, 139, rfl⟩
abbrev main_call1_v13 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_cst_22 : Ref sig .tc := ⟨.hbm, 146, rfl⟩
abbrev main_v84 : Ref sig .tc := ⟨.hbm, 147, rfl⟩
abbrev main_v85_1 : Ref sig .tc := ⟨.hbm, 148, rfl⟩
abbrev main_v85_0 : Ref sig .tc := ⟨.hbm, 149, rfl⟩
abbrev main_call2_cst : Ref sig .tc := ⟨.hbm, 150, rfl⟩
abbrev main_v85_2 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_call3_v0 : Ref sig .tc := ⟨.hbm, 160, rfl⟩
abbrev main_call3_v1 : Ref sig .tc := ⟨.hbm, 161, rfl⟩
abbrev main_call3_cst : Ref sig .tc := ⟨.hbm, 162, rfl⟩
abbrev main_call3_v2 : Ref sig .tc := ⟨.hbm, 163, rfl⟩
abbrev main_call3_v3 : Ref sig .tc := ⟨.hbm, 164, rfl⟩
abbrev main_call3_cst_0 : Ref sig .tc := ⟨.hbm, 165, rfl⟩
abbrev main_call3_v4 : Ref sig .tc := ⟨.hbm, 166, rfl⟩
abbrev main_v94_2 : Ref sig .tc := ⟨.hbm, 167, rfl⟩
abbrev main_call3_cst_1 : Ref sig .tc := ⟨.hbm, 168, rfl⟩
abbrev main_call3_v6 : Ref sig .tc := ⟨.hbm, 169, rfl⟩
abbrev main_call3_v7 : Ref sig .tc := ⟨.hbm, 170, rfl⟩
abbrev main_v94_1 : Ref sig .tc := ⟨.hbm, 171, rfl⟩
abbrev main_v94_0 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_call4_v0 : Ref sig .tc := ⟨.hbm, 178, rfl⟩
abbrev main_call4_v1 : Ref sig .tc := ⟨.hbm, 179, rfl⟩
abbrev main_call4_v2 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_cst_23 : Ref sig .tc := ⟨.hbm, 185, rfl⟩
abbrev main_v104 : Ref sig .tc := ⟨.hbm, 186, rfl⟩
abbrev main_v105 : Ref sig .tc := ⟨.hbm, 187, rfl⟩
abbrev main_cst_24 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_call5_cst : Ref sig .tc := ⟨.hbm, 195, rfl⟩
abbrev main_call5_v0 : Ref sig .tc := ⟨.hbm, 196, rfl⟩
abbrev main_v112 : Ref sig .tc := ⟨.hbm, 197, rfl⟩
abbrev main_v113 : Ref sig .tc := ⟨.hbm, 198, rfl⟩
abbrev main_cst_25 : Ref sig .tc := ⟨.hbm, 199, rfl⟩
abbrev main_v114 : Ref sig .tc := ⟨.hbm, 200, rfl⟩
abbrev main_v115 : Ref sig .tc := ⟨.hbm, 201, rfl⟩
abbrev main_cst_26 : Ref sig .tc := ⟨.hbm, 202, rfl⟩
abbrev main_v116 : Ref sig .tc := ⟨.hbm, 203, rfl⟩
abbrev main_v117 : Ref sig .tc := ⟨.hbm, 204, rfl⟩
abbrev main_cst_27 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_cst_28 : Ref sig .tc := ⟨.hbm, 210, rfl⟩
abbrev main_v122 : Ref sig .tc := ⟨.hbm, 211, rfl⟩
abbrev main_v123 : Ref sig .tc := ⟨.hbm, 212, rfl⟩
abbrev main_cst_29 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_cst_30 : Ref sig .tc := ⟨.hbm, 219, rfl⟩
abbrev main_v129 : Ref sig .tc := ⟨.hbm, 220, rfl⟩
abbrev main_v130 : Ref sig .tc := ⟨.hbm, 221, rfl⟩
abbrev main_cst_31 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_cst_32 : Ref sig .tc := ⟨.hbm, 231, rfl⟩
abbrev main_v139 : Ref sig .tc := ⟨.hbm, 232, rfl⟩
abbrev main_v140 : Ref sig .tc := ⟨.hbm, 233, rfl⟩
abbrev main_cst_33 : Ref sig .tc := ⟨.hbm, 234, rfl⟩
abbrev main_v141 : Ref sig .tc := ⟨.hbm, 235, rfl⟩
abbrev main_v142 : Ref sig .tc := ⟨.hbm, 236, rfl⟩
abbrev main_cst_34 : Ref sig .tc := ⟨.hbm, 237, rfl⟩
abbrev main_v143 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_cst_35 : Ref sig .tc := ⟨.hbm, 244, rfl⟩
abbrev main_v149 : Ref sig .tc := ⟨.hbm, 245, rfl⟩
abbrev main_v150 : Ref sig .tc := ⟨.hbm, 246, rfl⟩
abbrev main_v151 : Ref sig .tc := ⟨.hbm, 247, rfl⟩
abbrev main_cst_36 : Ref sig .tc := ⟨.hbm, 248, rfl⟩
abbrev main_v152 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_v156 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_v160 : Ref sig .tc := ⟨.hbm, 257, rfl⟩
abbrev main_cst_37 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_cst_38 : Ref sig .tc := ⟨.hbm, 262, rfl⟩
abbrev main_v164 : Ref sig .tc := ⟨.hbm, 263, rfl⟩
abbrev main_v165 : Ref sig .tc := ⟨.hbm, 264, rfl⟩
abbrev main_v166 : Ref sig .tc := ⟨.hbm, 265, rfl⟩
abbrev main_v167 : Ref sig .tc := ⟨.hbm, 266, rfl⟩
abbrev main_v168 : Ref sig .tc := ⟨.hbm, 267, rfl⟩
abbrev main_v169 : Ref sig .tc := ⟨.hbm, 268, rfl⟩
abbrev main_v170 : Ref sig .tc := ⟨.hbm, 269, rfl⟩
abbrev main_v171 : Ref sig .tc := ⟨.hbm, 270, rfl⟩
abbrev main_v172 : Ref sig .tc := ⟨.hbm, 271, rfl⟩
abbrev main_v173 : Ref sig .tc := ⟨.hbm, 272, rfl⟩
abbrev main_v174 : Ref sig .tc := ⟨.hbm, 273, rfl⟩
abbrev main_v175 : Ref sig .tc := ⟨.hbm, 274, rfl⟩

abbrev nD : Nat := 1
abbrev τ : Topo := Topo.v7x

variable {F : FTy → Type} [FloatOps F]
-- ==== BMix.lean ====
abbrev S4096x4096 : Shape := ⟨2, ![4096, 4096]⟩
abbrev S4x512x512 : Shape := ⟨3, ![4, 512, 512]⟩
abbrev S2048 : Shape := ⟨1, ![2048]⟩
abbrev S4096x2048 : Shape := ⟨2, ![4096, 2048]⟩
abbrev S4x8x64x512 : Shape := ⟨4, ![4, 8, 64, 512]⟩
abbrev S8x4x64x512 : Shape := ⟨4, ![8, 4, 64, 512]⟩
abbrev S1x2048 : Shape := ⟨2, ![1, 2048]⟩
abbrev S1x4096x4096 : Shape := ⟨3, ![1, 4096, 4096]⟩
abbrev S1x4096x2048 : Shape := ⟨3, ![1, 4096, 2048]⟩
abbrev S_ : Shape := ⟨0, ![]⟩
abbrev S1x1x2048 : Shape := ⟨3, ![1, 1, 2048]⟩
abbrev S1x4097x2048 : Shape := ⟨3, ![1, 4097, 2048]⟩
abbrev S4096 : Shape := ⟨1, ![4096]⟩
abbrev S1x1x512 : Shape := ⟨3, ![1, 1, 512]⟩
abbrev S1x4095x512 : Shape := ⟨3, ![1, 4095, 512]⟩
abbrev S1x4096x512 : Shape := ⟨3, ![1, 4096, 512]⟩
abbrev S1x4096x1 : Shape := ⟨3, ![1, 4096, 1]⟩
abbrev S1x512x512 : Shape := ⟨3, ![1, 512, 512]⟩
abbrev S512x512 : Shape := ⟨2, ![512, 512]⟩
abbrev S1x3x512 : Shape := ⟨3, ![1, 3, 512]⟩
abbrev S1x4093x512 : Shape := ⟨3, ![1, 4093, 512]⟩
abbrev S1x7x512 : Shape := ⟨3, ![1, 7, 512]⟩
abbrev S1x4089x512 : Shape := ⟨3, ![1, 4089, 512]⟩
abbrev S1x15x512 : Shape := ⟨3, ![1, 15, 512]⟩
abbrev S1x4081x512 : Shape := ⟨3, ![1, 4081, 512]⟩
abbrev S256x4096 : Shape := ⟨2, ![256, 4096]⟩
abbrev S16x2048 : Shape := ⟨2, ![16, 2048]⟩
abbrev S256x2048 : Shape := ⟨2, ![256, 2048]⟩
abbrev S256x1 : Shape := ⟨2, ![256, 1]⟩
abbrev S256x512 : Shape := ⟨2, ![256, 512]⟩
abbrev S16x512 : Shape := ⟨2, ![16, 512]⟩
abbrev S272x512 : Shape := ⟨2, ![272, 512]⟩
abbrev S1x512 : Shape := ⟨2, ![1, 512]⟩
abbrev S512 : Shape := ⟨1, ![512]⟩
abbrev S8x1x64x512 : Shape := ⟨4, ![8, 1, 64, 512]⟩
abbrev S8x64x512 : Shape := ⟨3, ![8, 64, 512]⟩
abbrev S1x4x64x512 : Shape := ⟨4, ![1, 4, 64, 512]⟩
abbrev S4x64x512 : Shape := ⟨3, ![4, 64, 512]⟩

abbrev nBuf : Space → Nat
  | .hbm => 101
  | .vmem => 16
  | .smem => 0
  | _ => 0

abbrev bufTy : (tb : Table) → Fin (tcTables nBuf tb) → BufTy
  | .hbm, ⟨0, _⟩ => ⟨S4096x4096, .bf16⟩
  | .hbm, ⟨1, _⟩ => ⟨S4x512x512, .f32⟩
  | .hbm, ⟨2, _⟩ => ⟨S2048, .f32⟩
  | .hbm, ⟨3, _⟩ => ⟨S4096x2048, .bf16⟩
  | .hbm, ⟨4, _⟩ => ⟨S4x8x64x512, .f32⟩
  | .hbm, ⟨5, _⟩ => ⟨S8x4x64x512, .f32⟩
  | .hbm, ⟨6, _⟩ => ⟨S8x4x64x512, .bf16⟩
  | .hbm, ⟨7, _⟩ => ⟨S1x2048, .f32⟩
  | .hbm, ⟨8, _⟩ => ⟨S4096x4096, .f32⟩
  | .hbm, ⟨9, _⟩ => ⟨S1x4096x4096, .f32⟩
  | .hbm, ⟨10, _⟩ => ⟨S1x4096x2048, .f32⟩
  | .hbm, ⟨11, _⟩ => ⟨S1x4096x2048, .f32⟩
  | .hbm, ⟨12, _⟩ => ⟨S_, .f32⟩
  | .hbm, ⟨13, _⟩ => ⟨S1x1x2048, .f32⟩
  | .hbm, ⟨14, _⟩ => ⟨S_, .f32⟩
  | .hbm, ⟨15, _⟩ => ⟨S_, .f32⟩
  | .hbm, ⟨16, _⟩ => ⟨S1x4096x2048, .f32⟩
  | .hbm, ⟨17, _⟩ => ⟨S1x4097x2048, .f32⟩
  | .hbm, ⟨18, _⟩ => ⟨S1x4096x2048, .f32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S_, .f32⟩
  | .hbm, ⟨24, _⟩ => ⟨S1x1x512, .f32⟩
  | .hbm, ⟨25, _⟩ => ⟨S1x4095x512, .f32⟩
  | .hbm, ⟨26, _⟩ => ⟨S1x4096x512, .f32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .f32⟩
  | .hbm, ⟨31, _⟩ => ⟨S1x4096x1, .f32⟩
  | .hbm, ⟨32, _⟩ => ⟨S1x4096x512, .f32⟩
  | .hbm, ⟨33, _⟩ => ⟨S1x4096x512, .f32⟩
  | .hbm, ⟨34, _⟩ => ⟨S1x4096x512, .f32⟩
  | .hbm, ⟨35, _⟩ => ⟨S1x4096x512, .f32⟩
  | .hbm, ⟨36, _⟩ => ⟨S1x4096x512, .f32⟩
  | .hbm, ⟨37, _⟩ => ⟨S1x4096x512, .f32⟩
  | .hbm, ⟨38, _⟩ => ⟨S1x512x512, .f32⟩
  | .hbm, ⟨39, _⟩ => ⟨S512x512, .f32⟩
  | .hbm, ⟨40, _⟩ => ⟨S1x4096x512, .f32⟩
  | .hbm, ⟨41, _⟩ => ⟨S_, .f32⟩
  | .hbm, ⟨42, _⟩ => ⟨S1x3x512, .f32⟩
  | .hbm, ⟨43, _⟩ => ⟨S1x4093x512, .f32⟩
  | .hbm, ⟨44, _⟩ => ⟨S1x4096x512, .f32⟩
  | .hbm, ⟨45, _⟩ => ⟨S_, .i32⟩
  | .hbm, ⟨46, _⟩ => ⟨S4096, .i32⟩
  | .hbm, ⟨47, _⟩ => ⟨S4096, .i32⟩
  | .hbm, ⟨48, _⟩ => ⟨S4096, .f32⟩
  | .hbm, ⟨49, _⟩ => ⟨S1x4096x1, .f32⟩
  | .hbm, ⟨50, _⟩ => ⟨S1x4096x512, .f32⟩
  | .hbm, ⟨51, _⟩ => ⟨S1x4096x512, .f32⟩
  | .hbm, ⟨52, _⟩ => ⟨S1x4096x512, .f32⟩
  | .hbm, ⟨53, _⟩ => ⟨S1x4096x512, .f32⟩
  | .hbm, ⟨54, _⟩ => ⟨S1x4096x512, .f32⟩
  | .hbm, ⟨55, _⟩ => ⟨S1x4096x512, .f32⟩
  | .hbm, ⟨56, _⟩ => ⟨S1x512x512, .f32⟩
  | .hbm, ⟨57, _⟩ => ⟨S512x512, .f32⟩
  | .hbm, ⟨58, _⟩ => ⟨S1x4096x512, .f32⟩
  | .hbm, ⟨59, _⟩ => ⟨S_, .f32⟩
  | .hbm, ⟨60, _⟩ => ⟨S1x7x512, .f32⟩
  | .hbm, ⟨61, _⟩ => ⟨S1x4089x512, .f32⟩
  | .hbm, ⟨62, _⟩ => ⟨S1x4096x512, .f32⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .f32⟩
  | .hbm, ⟨67, _⟩ => ⟨S1x4096x1, .f32⟩
  | .hbm, ⟨68, _⟩ => ⟨S1x4096x512, .f32⟩
  | .hbm, ⟨69, _⟩ => ⟨S1x4096x512, .f32⟩
  | .hbm, ⟨70, _⟩ => ⟨S1x4096x512, .f32⟩
  | .hbm, ⟨71, _⟩ => ⟨S1x4096x512, .f32⟩
  | .hbm, ⟨72, _⟩ => ⟨S1x4096x512, .f32⟩
  | .hbm, ⟨73, _⟩ => ⟨S1x4096x512, .f32⟩
  | .hbm, ⟨74, _⟩ => ⟨S1x512x512, .f32⟩
  | .hbm, ⟨75, _⟩ => ⟨S512x512, .f32⟩
  | .hbm, ⟨76, _⟩ => ⟨S1x4096x512, .f32⟩
  | .hbm, ⟨77, _⟩ => ⟨S_, .f32⟩
  | .hbm, ⟨78, _⟩ => ⟨S1x15x512, .f32⟩
  | .hbm, ⟨79, _⟩ => ⟨S1x4081x512, .f32⟩
  | .hbm, ⟨80, _⟩ => ⟨S1x4096x512, .f32⟩
  | .hbm, ⟨81, _⟩ => ⟨S_, .i32⟩
  | .hbm, ⟨82, _⟩ => ⟨S4096, .i32⟩
  | .hbm, ⟨83, _⟩ => ⟨S4096, .i32⟩
  | .hbm, ⟨84, _⟩ => ⟨S4096, .f32⟩
  | .hbm, ⟨85, _⟩ => ⟨S1x4096x1, .f32⟩
  | .hbm, ⟨86, _⟩ => ⟨S1x4096x512, .f32⟩
  | .hbm, ⟨87, _⟩ => ⟨S1x4096x512, .f32⟩
  | .hbm, ⟨88, _⟩ => ⟨S1x4096x512, .f32⟩
  | .hbm, ⟨89, _⟩ => ⟨S1x4096x512, .f32⟩
  | .hbm, ⟨90, _⟩ => ⟨S1x4096x512, .f32⟩
  | .hbm, ⟨91, _⟩ => ⟨S1x4096x512, .f32⟩
  | .hbm, ⟨92, _⟩ => ⟨S1x512x512, .f32⟩
  | .hbm, ⟨93, _⟩ => ⟨S512x512, .f32⟩
  | .hbm, ⟨94, _⟩ => ⟨S1x4096x512, .f32⟩
  | .hbm, ⟨95, _⟩ => ⟨S1x4096x2048, .f32⟩
  | .hbm, ⟨96, _⟩ => ⟨S4096x2048, .f32⟩
  | .hbm, ⟨97, _⟩ => ⟨S4096x2048, .bf16⟩
  | .hbm, ⟨98, _⟩ => ⟨S4096x4096, .bf16⟩
  | .hbm, ⟨99, _⟩ => ⟨S1x2048, .f32⟩
  | .hbm, ⟨100, _⟩ => ⟨S8x4x64x512, .bf16⟩
  | .local _ .vmem, ⟨0, _⟩ => ⟨S256x4096, .bf16⟩
  | .local _ .vmem, ⟨1, _⟩ => ⟨S256x4096, .bf16⟩
  | .local _ .vmem, ⟨2, _⟩ => ⟨S16x2048, .bf16⟩
  | .local _ .vmem, ⟨3, _⟩ => ⟨S16x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S8x4x64x512, .bf16⟩
  | .local _ .vmem, ⟨10, _⟩ => ⟨S256x4096, .bf16⟩
  | .local _ .vmem, ⟨11, _⟩ => ⟨S256x4096, .bf16⟩
  | .local _ .vmem, ⟨12, _⟩ => ⟨S1x2048, .f32⟩
  | .local _ .vmem, ⟨13, _⟩ => ⟨S8x4x64x512, .bf16⟩
  | .local _ .vmem, ⟨14, _⟩ => ⟨S8x4x64x512, .f32⟩
  | .local _ .vmem, ⟨15, _⟩ => ⟨S16x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_call0_call0_cst : Ref sig .tc := ⟨.hbm, 14, rfl⟩
abbrev main_call0_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_c_5 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_6 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_c_7 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82_0 : Ref sig .tc := ⟨.hbm, 98, rfl⟩
abbrev main_v82_1 : Ref sig .tc := ⟨.hbm, 99, rfl⟩
abbrev main_v82_2 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_192 : BitVec 32 := 15#32
  let v391 : BitVec 1 := Scalar.cmpi .eq arg0 c15_i32_192
  let v392 : BitVec 32 := Scalar.extui v391
  let c0_i32_193 : BitVec 32 := 0#32
  let v393 : BitVec 1 := Scalar.cmpi .ne v392 c0_i32_193
  v393

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x4x64x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x4x64x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== BMixRefIdeal.lean ====
abbrev S4096x4096 : Shape := ⟨2, ![4096, 4096]⟩
abbrev S4x512x512 : Shape := ⟨3, ![4, 512, 512]⟩
abbrev S2048 : Shape := ⟨1, ![2048]⟩
abbrev S4096x2048 : Shape := ⟨2, ![4096, 2048]⟩
abbrev S1x4096x4096 : Shape := ⟨3, ![1, 4096, 4096]⟩
abbrev S1x4096x2048 : Shape := ⟨3, ![1, 4096, 2048]⟩
abbrev S_ : Shape := ⟨0, ![]⟩
abbrev S1x1x2048 : Shape := ⟨3, ![1, 1, 2048]⟩
abbrev S1x4097x2048 : Shape := ⟨3, ![1, 4097, 2048]⟩
abbrev S4096 : Shape := ⟨1, ![4096]⟩
abbrev S1x1x512 : Shape := ⟨3, ![1, 1, 512]⟩
abbrev S1x4095x512 : Shape := ⟨3, ![1, 4095, 512]⟩
abbrev S1x4096x512 : Shape := ⟨3, ![1, 4096, 512]⟩
abbrev S1x4096x1 : Shape := ⟨3, ![1, 4096, 1]⟩
abbrev S1x512x512 : Shape := ⟨3, ![1, 512, 512]⟩
abbrev S512x512 : Shape := ⟨2, ![512, 512]⟩
abbrev S1x3x512 : Shape := ⟨3, ![1, 3, 512]⟩
abbrev S1x4093x512 : Shape := ⟨3, ![1, 4093, 512]⟩
abbrev S1x7x512 : Shape := ⟨3, ![1, 7, 512]⟩
abbrev S1x4089x512 : Shape := ⟨3, ![1, 4089, 512]⟩
abbrev S1x15x512 : Shape := ⟨3, ![1, 15, 512]⟩
abbrev S1x4081x512 : Shape := ⟨3, ![1, 4081, 512]⟩
abbrev S1x2048 : Shape := ⟨2, ![1, 2048]⟩
abbrev S4x8x64x512 : Shape := ⟨4, ![4, 8, 64, 512]⟩
abbrev S8x4x64x512 : Shape := ⟨4, ![8, 4, 64, 512]⟩

abbrev nBuf : Space → Nat
  | .hbm => 247
  | .vmem => 0
  | .smem => 0
  | _ => 0

abbrev hbmTy0_0 (i : Nat) : BufTy := match i % 128 with
  | 0 => ⟨S4096x4096, .bf16⟩
  | 1 => ⟨S4x512x512, .f32⟩
  | 2 => ⟨S2048, .f32⟩
  | 3 => ⟨S4096x2048, .bf16⟩
  | 4 => ⟨S4096x4096, .f32⟩
  | 5 => ⟨S1x4096x4096, .f32⟩
  | 6 => ⟨S1x4096x2048, .f32⟩
  | 7 => ⟨S1x4096x2048, .f32⟩
  | 8 => ⟨S1x4096x2048, .f32⟩
  | 9 => ⟨S1x4096x2048, .f32⟩
  | 10 => ⟨S_, .f32⟩
  | 11 => ⟨S1x1x2048, .f32⟩
  | 12 => ⟨S_, .f32⟩
  | 13 => ⟨S_, .f32⟩
  | 14 => ⟨S1x4096x2048, .f32⟩
  | 15 => ⟨S1x4097x2048, .f32⟩
  | 16 => ⟨S_, .f32⟩
  | 17 => ⟨S1x1x2048, .f32⟩
  | 18 => ⟨S1x4096x2048, .f32⟩
  | 19 => ⟨S4096, .i32⟩
  | 20 => ⟨S_, .i32⟩
  | 21 => ⟨S4096, .i32⟩
  | 22 => ⟨S4096, .i32⟩
  | 23 => ⟨S_, .f32⟩
  | 24 => ⟨S1x1x512, .f32⟩
  | 25 => ⟨S1x4095x512, .f32⟩
  | 26 => ⟨S1x4096x512, .f32⟩
  | 27 => ⟨S_, .f32⟩
  | 28 => ⟨S1x1x512, .f32⟩
  | 29 => ⟨S_, .i32⟩
  | 30 => ⟨S4096, .i32⟩
  | 31 => ⟨S4096, .i32⟩
  | 32 => ⟨S4096, .f32⟩
  | 33 => ⟨S1x4096x1, .f32⟩
  | 34 => ⟨S1x4096x512, .f32⟩
  | 35 => ⟨S1x4096x512, .f32⟩
  | 36 => ⟨S1x4096x512, .f32⟩
  | 37 => ⟨S1x4096x512, .f32⟩
  | 38 => ⟨S1x4096x512, .f32⟩
  | 39 => ⟨S1x4096x512, .f32⟩
  | 40 => ⟨S1x512x512, .f32⟩
  | 41 => ⟨S512x512, .f32⟩
  | 42 => ⟨S1x4096x512, .f32⟩
  | 43 => ⟨S_, .f32⟩
  | 44 => ⟨S1x3x512, .f32⟩
  | 45 => ⟨S1x4093x512, .f32⟩
  | 46 => ⟨S1x4096x512, .f32⟩
  | 47 => ⟨S_, .f32⟩
  | 48 => ⟨S1x3x512, .f32⟩
  | 49 => ⟨S_, .i32⟩
  | 50 => ⟨S4096, .i32⟩
  | 51 => ⟨S4096, .i32⟩
  | 52 => ⟨S4096, .f32⟩
  | 53 => ⟨S1x4096x1, .f32⟩
  | 54 => ⟨S1x4096x512, .f32⟩
  | 55 => ⟨S1x4096x512, .f32⟩
  | 56 => ⟨S1x4096x512, .f32⟩
  | 57 => ⟨S1x4096x512, .f32⟩
  | 58 => ⟨S1x4096x512, .f32⟩
  | 59 => ⟨S1x4096x512, .f32⟩
  | 60 => ⟨S1x512x512, .f32⟩
  | 61 => ⟨S512x512, .f32⟩
  | 62 => ⟨S1x4096x512, .f32⟩
  | 63 => ⟨S_, .f32⟩
  | 64 => ⟨S1x7x512, .f32⟩
  | 65 => ⟨S1x4089x512, .f32⟩
  | 66 => ⟨S1x4096x512, .f32⟩
  | 67 => ⟨S_, .f32⟩
  | 68 => ⟨S1x7x512, .f32⟩
  | 69 => ⟨S_, .i32⟩
  | 70 => ⟨S4096, .i32⟩
  | 71 => ⟨S4096, .i32⟩
  | 72 => ⟨S4096, .f32⟩
  | 73 => ⟨S1x4096x1, .f32⟩
  | 74 => ⟨S1x4096x512, .f32⟩
  | 75 => ⟨S1x4096x512, .f32⟩
  | 76 => ⟨S1x4096x512, .f32⟩
  | 77 => ⟨S1x4096x512, .f32⟩
  | 78 => ⟨S1x4096x512, .f32⟩
  | 79 => ⟨S1x4096x512, .f32⟩
  | 80 => ⟨S1x512x512, .f32⟩
  | 81 => ⟨S512x512, .f32⟩
  | 82 => ⟨S1x4096x512, .f32⟩
  | 83 => ⟨S_, .f32⟩
  | 84 => ⟨S1x15x512, .f32⟩
  | 85 => ⟨S1x4081x512, .f32⟩
  | 86 => ⟨S1x4096x512, .f32⟩
  | 87 => ⟨S_, .f32⟩
  | 88 => ⟨S1x15x512, .f32⟩
  | 89 => ⟨S_, .i32⟩
  | 90 => ⟨S4096, .i32⟩
  | 91 => ⟨S4096, .i32⟩
  | 92 => ⟨S4096, .f32⟩
  | 93 => ⟨S1x4096x1, .f32⟩
  | 94 => ⟨S1x4096x512, .f32⟩
  | 95 => ⟨S1x4096x512, .f32⟩
  | 96 => ⟨S1x4096x512, .f32⟩
  | 97 => ⟨S1x4096x512, .f32⟩
  | 98 => ⟨S1x4096x512, .f32⟩
  | 99 => ⟨S1x4096x512, .f32⟩
  | 100 => ⟨S1x512x512, .f32⟩
  | 101 => ⟨S512x512, .f32⟩
  | 102 => ⟨S1x4096x512, .f32⟩
  | 103 => ⟨S1x4096x2048, .f32⟩
  | 104 => ⟨S1x1x2048, .f32⟩
  | 105 => ⟨S1x4096x2048, .f32⟩
  | 106 => ⟨S1x4096x2048, .f32⟩
  | 107 => ⟨S1x4096x2048, .f32⟩
  | 108 => ⟨S1x4096x2048, .f32⟩
  | 109 => ⟨S_, .f32⟩
  | 110 => ⟨S1x4096x2048, .f32⟩
  | 111 => ⟨S1x4096x2048, .f32⟩
  | 112 => ⟨S_, .f32⟩
  | 113 => ⟨S1x4096x2048, .f32⟩
  | 114 => ⟨S1x4096x2048, .f32⟩
  | 115 => ⟨S_, .f32⟩
  | 116 => ⟨S1x4096x2048, .f32⟩
  | 117 => ⟨S1x4096x2048, .f32⟩
  | 118 => ⟨S1x4096x2048, .f32⟩
  | 119 => ⟨S1x4096x2048, .f32⟩
  | 120 => ⟨S1x4096x2048, .f32⟩
  | 121 => ⟨S4096x2048, .f32⟩
  | 122 => ⟨S1x4096x2048, .f32⟩
  | 123 => ⟨S1x4096x2048, .f32⟩
  | 124 => ⟨S1x4096x2048, .f32⟩
  | 125 => ⟨S1x4096x2048, .f32⟩
  | 126 => ⟨S1x4096x2048, .f32⟩
  | 127 => ⟨S1x4096x2048, .f32⟩
  | _ => ⟨S4096x4096, .bf16⟩

abbrev hbmTy0_1 (i : Nat) : BufTy := match i % 128 with
  | 0 => ⟨S1x4096x2048, .f32⟩
  | 1 => ⟨S1x4096x2048, .f32⟩
  | 2 => ⟨S_, .f32⟩
  | 3 => ⟨S1x2048, .f32⟩
  | 4 => ⟨S1x1x2048, .f32⟩
  | 5 => ⟨S1x4096x2048, .f32⟩
  | 6 => ⟨S1x4096x2048, .f32⟩
  | 7 => ⟨S_, .f32⟩
  | 8 => ⟨S2048, .f32⟩
  | 9 => ⟨S1x4096x512, .f32⟩
  | 10 => ⟨S1x4096x512, .f32⟩
  | 11 => ⟨S1x4096x512, .f32⟩
  | 12 => ⟨S1x4096x512, .f32⟩
  | 13 => ⟨S512x512, .f32⟩
  | 14 => ⟨S512x512, .f32⟩
  | 15 => ⟨S1x4096x512, .f32⟩
  | 16 => ⟨S1x512x512, .f32⟩
  | 17 => ⟨S_, .f32⟩
  | 18 => ⟨S4x512x512, .f32⟩
  | 19 => ⟨S1x4096x512, .f32⟩
  | 20 => ⟨S_, .f32⟩
  | 21 => ⟨S1x4096x2048, .f32⟩
  | 22 => ⟨S1x4096x512, .f32⟩
  | 23 => ⟨S1x4096x512, .f32⟩
  | 24 => ⟨S1x4096x512, .f32⟩
  | 25 => ⟨S_, .f32⟩
  | 26 => ⟨S1x4096x2048, .f32⟩
  | 27 => ⟨S1x15x512, .f32⟩
  | 28 => ⟨S1x4081x512, .f32⟩
  | 29 => ⟨S_, .f32⟩
  | 30 => ⟨S1x4097x2048, .f32⟩
  | 31 => ⟨S512x512, .f32⟩
  | 32 => ⟨S512x512, .f32⟩
  | 33 => ⟨S1x4096x512, .f32⟩
  | 34 => ⟨S1x512x512, .f32⟩
  | 35 => ⟨S_, .f32⟩
  | 36 => ⟨S4x512x512, .f32⟩
  | 37 => ⟨S4x512x512, .f32⟩
  | 38 => ⟨S1x4096x512, .f32⟩
  | 39 => ⟨S_, .f32⟩
  | 40 => ⟨S1x4096x2048, .f32⟩
  | 41 => ⟨S1x4096x2048, .f32⟩
  | 42 => ⟨S1x4096x512, .f32⟩
  | 43 => ⟨S1x4096x512, .f32⟩
  | 44 => ⟨S1x4096x512, .f32⟩
  | 45 => ⟨S_, .f32⟩
  | 46 => ⟨S1x4096x2048, .f32⟩
  | 47 => ⟨S1x4096x2048, .f32⟩
  | 48 => ⟨S1x7x512, .f32⟩
  | 49 => ⟨S1x4089x512, .f32⟩
  | 50 => ⟨S_, .f32⟩
  | 51 => ⟨S1x4097x2048, .f32⟩
  | 52 => ⟨S1x4097x2048, .f32⟩
  | 53 => ⟨S512x512, .f32⟩
  | 54 => ⟨S512x512, .f32⟩
  | 55 => ⟨S1x4096x512, .f32⟩
  | 56 => ⟨S1x512x512, .f32⟩
  | 57 => ⟨S_, .f32⟩
  | 58 => ⟨S4x512x512, .f32⟩
  | 59 => ⟨S4x512x512, .f32⟩
  | 60 => ⟨S1x4096x512, .f32⟩
  | 61 => ⟨S_, .f32⟩
  | 62 => ⟨S1x4096x2048, .f32⟩
  | 63 => ⟨S1x4096x2048, .f32⟩
  | 64 => ⟨S1x4096x512, .f32⟩
  | 65 => ⟨S1x4096x512, .f32⟩
  | 66 => ⟨S1x4096x512, .f32⟩
  | 67 => ⟨S_, .f32⟩
  | 68 => ⟨S1x4096x2048, .f32⟩
  | 69 => ⟨S1x4096x2048, .f32⟩
  | 70 => ⟨S1x3x512, .f32⟩
  | 71 => ⟨S1x4093x512, .f32⟩
  | 72 => ⟨S_, .f32⟩
  | 73 => ⟨S1x4097x2048, .f32⟩
  | 74 => ⟨S1x4097x2048, .f32⟩
  | 75 => ⟨S512x512, .f32⟩
  | 76 => ⟨S512x512, .f32⟩
  | 77 => ⟨S1x4096x512, .f32⟩
  | 78 => ⟨S1x512x512, .f32⟩
  | 79 => ⟨S_, .f32⟩
  | 80 => ⟨S4x512x512, .f32⟩
  | 81 => ⟨S4x512x512, .f32⟩
  | 82 => ⟨S1x4096x512, .f32⟩
  | 83 => ⟨S_, .f32⟩
  | 84 => ⟨S1x4096x2048, .f32⟩
  | 85 => ⟨S1x4096x2048, .f32⟩
  | 86 => ⟨S1x4096x512, .f32⟩
  | 87 => ⟨S1x4096x512, .f32⟩
  | 88 => ⟨S1x4096x512, .f32⟩
  | 89 => ⟨S_, .f32⟩
  | 90 => ⟨S1x4096x2048, .f32⟩
  | 91 => ⟨S1x4096x2048, .f32⟩
  | 92 => ⟨S1x1x512, .f32⟩
  | 93 => ⟨S1x4095x512, .f32⟩
  | 94 => ⟨S_, .f32⟩
  | 95 => ⟨S1x4097x2048, .f32⟩
  | 96 => ⟨S1x4097x2048, .f32⟩
  | 97 => ⟨S_, .f32⟩
  | 98 => ⟨S1x4097x2048, .f32⟩
  | 99 => ⟨S1x4097x2048, .f32⟩
  | 100 => ⟨S1x1x2048, .f32⟩
  | 101 => ⟨S1x4096x2048, .f32⟩
  | 102 => ⟨S_, .f32⟩
  | 103 => ⟨S_, .f32⟩
  | 104 => ⟨S1x4096x2048, .f32⟩
  | 105 => ⟨S1x4096x2048, .f32⟩
  | 106 => ⟨S_, .f32⟩
  | 107 => ⟨S1x4096x2048, .f32⟩
  | 108 => ⟨S1x4096x4096, .f32⟩
  | 109 => ⟨S_, .f32⟩
  | 110 => ⟨S1x4096x2048, .f32⟩
  | 111 => ⟨S1x4096x4096, .f32⟩
  | 112 => ⟨S1x4096x4096, .f32⟩
  | 113 => ⟨S4x8x64x512, .f32⟩
  | 114 => ⟨S8x4x64x512, .f32⟩
  | 115 => ⟨S4096x4096, .f32⟩
  | 116 => ⟨S4096x4096, .bf16⟩
  | 117 => ⟨S1x2048, .f32⟩
  | 118 => ⟨S8x4x64x512, .bf16⟩
  | _ => ⟨S4096x4096, .bf16⟩

abbrev hbmTy (i : Nat) : BufTy := match i / 128 with
  | 0 => hbmTy0_0 i
  | 1 => hbmTy0_1 i
  | _ => ⟨S4096x4096, .bf16⟩

abbrev bufTy : (tb : Table) → Fin (tcTables nBuf tb) → BufTy
  | .hbm, ⟨i, _⟩ => hbmTy i
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_call0_call0_cst : Ref sig .tc := ⟨.hbm, 12, rfl⟩
abbrev main_call0_call0_v0 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_c_9 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_10 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_11 : Ref sig .tc := ⟨.hbm, 87, rfl⟩
abbrev main_v68 : Ref sig .tc := ⟨.hbm, 88, rfl⟩
abbrev main_c_12 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_call1_v0 : Ref sig .tc := ⟨.hbm, 107, rfl⟩
abbrev main_call1_v1 : Ref sig .tc := ⟨.hbm, 108, rfl⟩
abbrev main_call1_cst : Ref sig .tc := ⟨.hbm, 109, rfl⟩
abbrev main_call1_v2 : Ref sig .tc := ⟨.hbm, 110, rfl⟩
abbrev main_call1_v3 : Ref sig .tc := ⟨.hbm, 111, rfl⟩
abbrev main_call1_cst_0 : Ref sig .tc := ⟨.hbm, 112, rfl⟩
abbrev main_call1_v4 : Ref sig .tc := ⟨.hbm, 113, rfl⟩
abbrev main_v86_2 : Ref sig .tc := ⟨.hbm, 114, rfl⟩
abbrev main_call1_cst_1 : Ref sig .tc := ⟨.hbm, 115, rfl⟩
abbrev main_call1_v6 : Ref sig .tc := ⟨.hbm, 116, rfl⟩
abbrev main_call1_v7 : Ref sig .tc := ⟨.hbm, 117, rfl⟩
abbrev main_v86_1 : Ref sig .tc := ⟨.hbm, 118, rfl⟩
abbrev main_v86_0 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_call2_v0 : Ref sig .tc := ⟨.hbm, 125, rfl⟩
abbrev main_call2_v1 : Ref sig .tc := ⟨.hbm, 126, rfl⟩
abbrev main_call2_v2 : Ref sig .tc := ⟨.hbm, 127, rfl⟩
abbrev main_v92 : Ref sig .tc := ⟨.hbm, 128, rfl⟩
abbrev main_v93 : Ref sig .tc := ⟨.hbm, 129, rfl⟩
abbrev main_cst_13 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_14 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_15 : Ref sig .tc := ⟨.hbm, 145, rfl⟩
abbrev main_v107 : Ref sig .tc := ⟨.hbm, 146, rfl⟩
abbrev main_v108 : Ref sig .tc := ⟨.hbm, 147, rfl⟩
abbrev main_cst_16 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_17 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_cst_18 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_cst_19 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_20 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_cst_21 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_cst_22 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_cst_23 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_cst_24 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_cst_25 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_cst_26 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_cst_27 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_cst_28 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_cst_29 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_cst_30 : Ref sig .tc := ⟨.hbm, 222, rfl⟩
abbrev main_v169 : Ref sig .tc := ⟨.hbm, 223, rfl⟩
abbrev main_v170 : Ref sig .tc := ⟨.hbm, 224, rfl⟩
abbrev main_cst_31 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_call3_call0_cst : Ref sig .tc := ⟨.hbm, 230, rfl⟩
abbrev main_call3_call0_v0 : Ref sig .tc := ⟨.hbm, 231, rfl⟩
abbrev main_v175 : Ref sig .tc := ⟨.hbm, 232, rfl⟩
abbrev main_v176 : Ref sig .tc := ⟨.hbm, 233, rfl⟩
abbrev main_cst_32 : Ref sig .tc := ⟨.hbm, 234, rfl⟩
abbrev main_v177 : Ref sig .tc := ⟨.hbm, 235, rfl⟩
abbrev main_v178 : Ref sig .tc := ⟨.hbm, 236, rfl⟩
abbrev main_cst_33 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩

abbrev nD : Nat := 1
abbrev τ : Topo := Topo.v7x

variable {F : FTy → Type} [FloatOps F]
-- ==== OutBwd.lean ====
abbrev S4096x2048 : Shape := ⟨2, ![4096, 2048]⟩
abbrev S2048x1024 : Shape := ⟨2, ![2048, 1024]⟩
abbrev S1024 : Shape := ⟨1, ![1024]⟩
abbrev S1x4096x1024 : Shape := ⟨3, ![1, 4096, 1024]⟩
abbrev S8x256x1024 : Shape := ⟨3, ![8, 256, 1024]⟩
abbrev S1x1x1024 : Shape := ⟨3, ![1, 1, 1024]⟩
abbrev S4096x1024 : Shape := ⟨2, ![4096, 1024]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S256x1024 : Shape := ⟨2, ![256, 1024]⟩
abbrev S1x256x1024 : Shape := ⟨3, ![1, 256, 1024]⟩

abbrev nBuf : Space → Nat
  | .hbm => 13
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .f32⟩
  | .hbm, ⟨2, _⟩ => ⟨S1024, .f32⟩
  | .hbm, ⟨3, _⟩ => ⟨S1x4096x1024, .f32⟩
  | .hbm, ⟨4, _⟩ => ⟨S8x256x1024, .f32⟩
  | .hbm, ⟨5, _⟩ => ⟨S8x256x1024, .bf16⟩
  | .hbm, ⟨6, _⟩ => ⟨S1x1x1024, .f32⟩
  | .hbm, ⟨7, _⟩ => ⟨S4096x2048, .f32⟩
  | .hbm, ⟨8, _⟩ => ⟨S4096x1024, .f32⟩
  | .hbm, ⟨9, _⟩ => ⟨S4096x1024, .f32⟩
  | .hbm, ⟨10, _⟩ => ⟨S4096x2048, .bf16⟩
  | .hbm, ⟨11, _⟩ => ⟨S8x256x1024, .bf16⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S8x256x1024, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S8x256x1024, .bf16⟩
  | .local _ .vmem, ⟨11, _⟩ => ⟨S1x1024, .f32⟩
  | .local _ .vmem, ⟨12, _⟩ => ⟨S2048x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v52 : BitVec 1 := Scalar.cmpi .eq arg0 c7_i32
  let v53 : BitVec 32 := Scalar.extui v52
  let c0_i32_29 : BitVec 32 := 0#32
  let v54 : BitVec 1 := Scalar.cmpi .ne v53 c0_i32_29
  v54

def k0_mult1 : BitVec 32 :=
  let c0_i32_30 : BitVec 32 := 0#32
  c0_i32_30
def k0_mult2 : BitVec 32 :=
  let c256_i32 : BitVec 32 := 256#32
  c256_i32
def k0_mult3 : BitVec 32 :=
  let c512_i32 : BitVec 32 := 512#32
  c512_i32
def k0_mult4 : BitVec 32 :=
  let c768_i32 : BitVec 32 := 768#32
  c768_i32
def k0_mult5 : BitVec 32 :=
  let c1024_i32 : BitVec 32 := 1024#32
  c1024_i32
def k0_mult6 : BitVec 32 :=
  let c1280_i32 : BitVec 32 := 1280#32
  c1280_i32
def k0_mult7 : BitVec 32 :=
  let c1536_i32 : BitVec 32 := 1536#32
  c1536_i32
def k0_mult8 : BitVec 32 :=
  let c1792_i32 : BitVec 32 := 1792#32
  c1792_i32
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== OutBwdRefIdeal.lean ====
abbrev S4096x2048 : Shape := ⟨2, ![4096, 2048]⟩
abbrev S2048x1024 : Shape := ⟨2, ![2048, 1024]⟩
abbrev S1024 : Shape := ⟨1, ![1024]⟩
abbrev S1x4096x1024 : Shape := ⟨3, ![1, 4096, 1024]⟩
abbrev S1x4096x2048 : Shape := ⟨3, ![1, 4096, 2048]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S1024x2048 : Shape := ⟨2, ![1024, 2048]⟩
abbrev S8x256x1024 : Shape := ⟨3, ![8, 256, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .f32⟩
  | .hbm, ⟨2, _⟩ => ⟨S1024, .f32⟩
  | .hbm, ⟨3, _⟩ => ⟨S1x4096x1024, .f32⟩
  | .hbm, ⟨4, _⟩ => ⟨S4096x2048, .f32⟩
  | .hbm, ⟨5, _⟩ => ⟨S1x4096x2048, .f32⟩
  | .hbm, ⟨6, _⟩ => ⟨S1x4096x1024, .f32⟩
  | .hbm, ⟨7, _⟩ => ⟨S1x4096x1024, .f32⟩
  | .hbm, ⟨8, _⟩ => ⟨S_, .f32⟩
  | .hbm, ⟨9, _⟩ => ⟨S1x4096, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S1x4096x1, .f32⟩
  | .hbm, ⟨19, _⟩ => ⟨S_, .f32⟩
  | .hbm, ⟨20, _⟩ => ⟨S1x4096x1, .f32⟩
  | .hbm, ⟨21, _⟩ => ⟨S1x4096x1, .f32⟩
  | .hbm, ⟨22, _⟩ => ⟨S1x4096x1024, .f32⟩
  | .hbm, ⟨23, _⟩ => ⟨S1x4096x1024, .f32⟩
  | .hbm, ⟨24, _⟩ => ⟨S1x1x1024, .f32⟩
  | .hbm, ⟨25, _⟩ => ⟨S1x4096x1024, .f32⟩
  | .hbm, ⟨26, _⟩ => ⟨S1x4096x1024, .f32⟩
  | .hbm, ⟨27, _⟩ => ⟨S1x4096x1024, .f32⟩
  | .hbm, ⟨28, _⟩ => ⟨S_, .f32⟩
  | .hbm, ⟨29, _⟩ => ⟨S1x1024, .f32⟩
  | .hbm, ⟨30, _⟩ => ⟨S1x1x1024, .f32⟩
  | .hbm, ⟨31, _⟩ => ⟨S1x4096x1024, .f32⟩
  | .hbm, ⟨32, _⟩ => ⟨S1x4096x1024, .f32⟩
  | .hbm, ⟨33, _⟩ => ⟨S_, .f32⟩
  | .hbm, ⟨34, _⟩ => ⟨S1024, .f32⟩
  | .hbm, ⟨35, _⟩ => ⟨S1x4096x1024, .f32⟩
  | .hbm, ⟨36, _⟩ => ⟨S_, .f32⟩
  | .hbm, ⟨37, _⟩ => ⟨S1x4096, .f32⟩
  | .hbm, ⟨38, _⟩ => ⟨S1x4096x1, .f32⟩
  | .hbm, ⟨39, _⟩ => ⟨S1x4096x1024, .f32⟩
  | .hbm, ⟨40, _⟩ => ⟨S1x4096x1024, .f32⟩
  | .hbm, ⟨41, _⟩ => ⟨S1x4096x1, .f32⟩
  | .hbm, ⟨42, _⟩ => ⟨S_, .f32⟩
  | .hbm, ⟨43, _⟩ => ⟨S1x4096x1, .f32⟩
  | .hbm, ⟨44, _⟩ => ⟨S1x4096x1, .f32⟩
  | .hbm, ⟨45, _⟩ => ⟨S_, .f32⟩
  | .hbm, ⟨46, _⟩ => ⟨S4096, .f32⟩
  | .hbm, ⟨47, _⟩ => ⟨S1x4096, .f32⟩
  | .hbm, ⟨48, _⟩ => ⟨S1x4096x1024, .f32⟩
  | .hbm, ⟨49, _⟩ => ⟨S1x4096x1024, .f32⟩
  | .hbm, ⟨50, _⟩ => ⟨S1x4096x1024, .f32⟩
  | .hbm, ⟨51, _⟩ => ⟨S1x4096x1024, .f32⟩
  | .hbm, ⟨52, _⟩ => ⟨S1x4096x1024, .f32⟩
  | .hbm, ⟨53, _⟩ => ⟨S1024x2048, .f32⟩
  | .hbm, ⟨54, _⟩ => ⟨S2048x1024, .f32⟩
  | .hbm, ⟨55, _⟩ => ⟨S1x4096x2048, .f32⟩
  | .hbm, ⟨56, _⟩ => ⟨S4096x2048, .f32⟩
  | .hbm, ⟨57, _⟩ => ⟨S4096x2048, .bf16⟩
  | .hbm, ⟨58, _⟩ => ⟨S8x256x1024, .f32⟩
  | .hbm, ⟨59, _⟩ => ⟨S8x256x1024, .bf16⟩
  | .hbm, ⟨60, _⟩ => ⟨S1x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== Loss.lean ====
abbrev S4096x2048 : Shape := ⟨2, ![4096, 2048]⟩
abbrev S2048x1024 : Shape := ⟨2, ![2048, 1024]⟩
abbrev S1024 : Shape := ⟨1, ![1024]⟩
abbrev S1x4096x1024 : Shape := ⟨3, ![1, 4096, 1024]⟩
abbrev S8x256x1024 : Shape := ⟨3, ![8, 256, 1024]⟩
abbrev S4096x1024 : Shape := ⟨2, ![4096, 1024]⟩
abbrev S1x1x1024 : Shape := ⟨3, ![1, 1, 1024]⟩
abbrev S1x128 : Shape := ⟨2, ![1, 128]⟩
abbrev S512x2048 : Shape := ⟨2, ![512, 2048]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 13
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .f32⟩
  | .hbm, ⟨2, _⟩ => ⟨S1024, .f32⟩
  | .hbm, ⟨3, _⟩ => ⟨S1x4096x1024, .f32⟩
  | .hbm, ⟨4, _⟩ => ⟨S1x4096x1024, .f32⟩
  | .hbm, ⟨5, _⟩ => ⟨S8x256x1024, .f32⟩
  | .hbm, ⟨6, _⟩ => ⟨S8x256x1024, .bf16⟩
  | .hbm, ⟨7, _⟩ => ⟨S4096x1024, .f32⟩
  | .hbm, ⟨8, _⟩ => ⟨S1x1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S1x128, .f32⟩
  | .local _ .vmem, ⟨0, _⟩ => ⟨S512x2048, .bf16⟩
  | .local _ .vmem, ⟨1, _⟩ => ⟨S512x2048, .bf16⟩
  | .local _ .vmem, ⟨2, _⟩ => ⟨S8x256x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x128, .f32⟩
  | .local _ .vmem, ⟨13, _⟩ => ⟨S1x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v40 : BitVec 1 := Scalar.cmpi .eq arg0 c7_i32
  let v41 : BitVec 32 := Scalar.extui v40
  let c0_i32_25 : BitVec 32 := 0#32
  let v42 : BitVec 1 := Scalar.cmpi .ne v41 c0_i32_25
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S4096x2048 : Shape := ⟨2, ![4096, 2048]⟩
abbrev S2048x1024 : Shape := ⟨2, ![2048, 1024]⟩
abbrev S1024 : Shape := ⟨1, ![1024]⟩
abbrev S1x4096x1024 : Shape := ⟨3, ![1, 4096, 1024]⟩
abbrev S1x4096x2048 : Shape := ⟨3, ![1, 4096, 2048]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S4096x1024 : Shape := ⟨2, ![4096, 1024]⟩
abbrev S1x128 : Shape := ⟨2, ![1, 128]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .f32⟩
  | .hbm, ⟨2, _⟩ => ⟨S1024, .f32⟩
  | .hbm, ⟨3, _⟩ => ⟨S1x4096x1024, .f32⟩
  | .hbm, ⟨4, _⟩ => ⟨S1x4096x1024, .f32⟩
  | .hbm, ⟨5, _⟩ => ⟨S4096x2048, .f32⟩
  | .hbm, ⟨6, _⟩ => ⟨S1x4096x2048, .f32⟩
  | .hbm, ⟨7, _⟩ => ⟨S1x4096x1024, .f32⟩
  | .hbm, ⟨8, _⟩ => ⟨S1x4096x1024, .f32⟩
  | .hbm, ⟨9, _⟩ => ⟨S_, .f32⟩
  | .hbm, ⟨10, _⟩ => ⟨S1x4096, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S1x4096x1, .f32⟩
  | .hbm, ⟨19, _⟩ => ⟨S1x4096x1024, .f32⟩
  | .hbm, ⟨20, _⟩ => ⟨S1x4096x1024, .f32⟩
  | .hbm, ⟨21, _⟩ => ⟨S1x1x1024, .f32⟩
  | .hbm, ⟨22, _⟩ => ⟨S1x4096x1024, .f32⟩
  | .hbm, ⟨23, _⟩ => ⟨S1x4096x1024, .f32⟩
  | .hbm, ⟨24, _⟩ => ⟨S1x4096x1024, .f32⟩
  | .hbm, ⟨25, _⟩ => ⟨S1x4096x1024, .f32⟩
  | .hbm, ⟨26, _⟩ => ⟨S1x4096x1024, .f32⟩
  | .hbm, ⟨27, _⟩ => ⟨S_, .f32⟩
  | .hbm, ⟨28, _⟩ => ⟨S1x4096x1024, .f32⟩
  | .hbm, ⟨29, _⟩ => ⟨S1x4096x1024, .f32⟩
  | .hbm, ⟨30, _⟩ => ⟨S_, .f32⟩
  | .hbm, ⟨31, _⟩ => ⟨S1x4096, .f32⟩
  | .hbm, ⟨32, _⟩ => ⟨S_, .f32⟩
  | .hbm, ⟨33, _⟩ => ⟨S1x4096, .f32⟩
  | .hbm, ⟨34, _⟩ => ⟨S1x4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1x4096, .f32⟩
  | .hbm, ⟨43, _⟩ => ⟨S_, .f32⟩
  | .hbm, ⟨44, _⟩ => ⟨S1x4096, .f32⟩
  | .hbm, ⟨45, _⟩ => ⟨S1x4096, .f32⟩
  | .hbm, ⟨46, _⟩ => ⟨S1x4096x1024, .f32⟩
  | .hbm, ⟨47, _⟩ => ⟨S1x4096x1024, .f32⟩
  | .hbm, ⟨48, _⟩ => ⟨S4096x1024, .f32⟩
  | .hbm, ⟨49, _⟩ => ⟨S4096x1024, .f32⟩
  | .hbm, ⟨50, _⟩ => ⟨S1x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== AMixFwd.lean ====
abbrev S4096x6144 : Shape := ⟨2, ![4096, 6144]⟩
abbrev S2048 : Shape := ⟨1, ![2048]⟩
abbrev S8x128x128 : Shape := ⟨3, ![8, 128, 128]⟩
abbrev S8x128 : Shape := ⟨2, ![8, 128]⟩
abbrev S1x1x2048 : Shape := ⟨3, ![1, 1, 2048]⟩
abbrev S1x8x128x1 : Shape := ⟨4, ![1, 8, 128, 1]⟩
abbrev S1x8x128x128 : Shape := ⟨4, ![1, 8, 128, 128]⟩
abbrev S4096x2048 : Shape := ⟨2, ![4096, 2048]⟩
abbrev S4096x1 : Shape := ⟨2, ![4096, 1]⟩
abbrev S512x6144 : Shape := ⟨2, ![512, 6144]⟩
abbrev S512x2048 : Shape := ⟨2, ![512, 2048]⟩
abbrev S512x1 : Shape := ⟨2, ![512, 1]⟩
abbrev S16x2048 : Shape := ⟨2, ![16, 2048]⟩
abbrev S16 : Shape := ⟨1, ![16]⟩
abbrev S16x1 : Shape := ⟨2, ![16, 1]⟩
abbrev S1x2048 : Shape := ⟨2, ![1, 2048]⟩
abbrev S128x128 : Shape := ⟨2, ![128, 128]⟩
abbrev S1x1x128x128 : Shape := ⟨4, ![1, 1, 128, 128]⟩
abbrev S128x256 : Shape := ⟨2, ![128, 256]⟩
abbrev S1x1x128x1 : Shape := ⟨4, ![1, 1, 128, 1]⟩
abbrev S128x1 : Shape := ⟨2, ![128, 1]⟩

abbrev nBuf : Space → Nat
  | .hbm => 13
  | .vmem => 16
  | .smem => 0
  | _ => 0

abbrev bufTy : (tb : Table) → Fin (tcTables nBuf tb) → BufTy
  | .hbm, ⟨0, _⟩ => ⟨S4096x6144, .bf16⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S1x1x2048, .f32⟩
  | .hbm, ⟨6, _⟩ => ⟨S1x1x2048, .f32⟩
  | .hbm, ⟨7, _⟩ => ⟨S1x8x128x1, .f32⟩
  | .hbm, ⟨8, _⟩ => ⟨S1x8x128x128, .f32⟩
  | .hbm, ⟨9, _⟩ => ⟨S4096x2048, .bf16⟩
  | .hbm, ⟨10, _⟩ => ⟨S4096x2048, .bf16⟩
  | .hbm, ⟨11, _⟩ => ⟨S4096x2048, .bf16⟩
  | .hbm, ⟨12, _⟩ => ⟨S4096x1, .f32⟩
  | .local _ .vmem, ⟨0, _⟩ => ⟨S512x6144, .bf16⟩
  | .local _ .vmem, ⟨1, _⟩ => ⟨S512x6144, .bf16⟩
  | .local _ .vmem, ⟨2, _⟩ => ⟨S1x1x2048, .f32⟩
  | .local _ .vmem, ⟨3, _⟩ => ⟨S1x1x2048, .f32⟩
  | .local _ .vmem, ⟨4, _⟩ => ⟨S1x8x128x128, .f32⟩
  | .local _ .vmem, ⟨5, _⟩ => ⟨S1x8x128x1, .f32⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x1, .f32⟩
  | .local _ .vmem, ⟨13, _⟩ => ⟨S512x1, .f32⟩
  | .local _ .vmem, ⟨14, _⟩ => ⟨S512x2048, .bf16⟩
  | .local _ .vmem, ⟨15, _⟩ => ⟨S512x2048, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c16_i32 : BitVec 32 := 16#32
  let v413 : BitVec 32 := Scalar.muli arg12 c16_i32
  v413
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c16_i32 : BitVec 32 := 16#32
  let v413 : BitVec 32 := Scalar.muli arg12 c16_i32
  let v414 : BitVec 32 := v413
  let v415 : Index := Scalar.indexCast v414
  let c2048 : Index := 2048#32
  ![v415.toNat, 2048]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c16_i32 : BitVec 32 := 16#32
  let v413 : BitVec 32 := Scalar.muli arg12 c16_i32
  let v414 : BitVec 32 := v413
  let v450 : Index := Scalar.indexCast v414
  let c0_403 : Index := 0#32
  ![v450.toNat, 0]
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c16_i32 : BitVec 32 := 16#32
  let v413 : BitVec 32 := Scalar.muli arg12 c16_i32
  let v414 : BitVec 32 := v413
  let v466 : Index := Scalar.indexCast v414
  let c0_409 : Index := 0#32
  ![v466.toNat, 0]
@[reducible] def k0_t2_loop : Scf.Loop 32 :=
  let c0_i32_1 : BitVec 32 := 0#32
  let c32_i32_2 : BitVec 32 := 32#32
  let v1 : BitVec 32 := Scalar.addi c0_i32_1 c32_i32_2
  let c1_i32_3 : BitVec 32 := 1#32
  ⟨c0_i32_1, v1, c1_i32_3⟩
def k0_mult2 (k0_t2 : Fin k0_t2_loop.trips) : BitVec 32 :=
  let c0_i32_1 : BitVec 32 := 0#32
  let c1_i32_3 : BitVec 32 := 1#32
  let arg12 : BitVec 32 := Scf.iv c0_i32_1 c1_i32_3 k0_t2
  let c16_i32 : BitVec 32 := 16#32
  let v413 : BitVec 32 := Scalar.muli arg12 c16_i32
  v413
def k0_off4 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c16_i32 : BitVec 32 := 16#32
  let v413 : BitVec 32 := Scalar.muli arg12 c16_i32
  let v414 : BitVec 32 := v413
  let v415 : Index := Scalar.indexCast v414
  let c4096 : Index := 4096#32
  ![v415.toNat, 4096]
def k0_off5 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c16_i32 : BitVec 32 := 16#32
  let v413 : BitVec 32 := Scalar.muli arg12 c16_i32
  let v414 : BitVec 32 := v413
  let v418 : Index := Scalar.indexCast v414
  let c0_392 : Index := 0#32
  ![v418.toNat, 0]
def k0_off6 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c16_i32 : BitVec 32 := 16#32
  let v413 : BitVec 32 := Scalar.muli arg12 c16_i32
  let v414 : BitVec 32 := v413
  let v443 : Index := Scalar.indexCast v414
  let c0_400 : Index := 0#32
  ![v443.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AMixFwdIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== AMixFwdRefIdeal.lean ====
abbrev S4096x6144 : Shape := ⟨2, ![4096, 6144]⟩
abbrev S2048 : Shape := ⟨1, ![2048]⟩
abbrev S8x128x128 : Shape := ⟨3, ![8, 128, 128]⟩
abbrev S8x128 : Shape := ⟨2, ![8, 128]⟩
abbrev S1x4096x6144 : Shape := ⟨3, ![1, 4096, 6144]⟩
abbrev S1x4096x2048 : Shape := ⟨3, ![1, 4096, 2048]⟩
abbrev S_ : Shape := ⟨0, ![]⟩
abbrev S1x4096 : Shape := ⟨2, ![1, 4096]⟩
abbrev S1x4096x1 : Shape := ⟨3, ![1, 4096, 1]⟩
abbrev S1x1x2048 : Shape := ⟨3, ![1, 1, 2048]⟩
abbrev S1x32x128x8x256 : Shape := ⟨5, ![1, 32, 128, 8, 256]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x1x32x256x128 : Shape := ⟨5, ![8, 1, 32, 256, 128]⟩
abbrev S128x8 : Shape := ⟨2, ![128, 8]⟩
abbrev S1x1x128x8x1 : Shape := ⟨5, ![1, 1, 128, 8, 1]⟩
abbrev S4096x2048 : Shape := ⟨2, ![4096, 2048]⟩
abbrev S4096x1 : Shape := ⟨2, ![4096, 1]⟩

abbrev nBuf : Space → Nat
  | .hbm => 218
  | .vmem => 0
  | .smem => 0
  | _ => 0

abbrev hbmTy0_0 (i : Nat) : BufTy := match i % 128 with
  | 0 => ⟨S4096x6144, .bf16⟩
  | 1 => ⟨S2048, .f32⟩
  | 2 => ⟨S2048, .f32⟩
  | 3 => ⟨S8x128x128, .f32⟩
  | 4 => ⟨S8x128, .f32⟩
  | 5 => ⟨S4096x6144, .f32⟩
  | 6 => ⟨S1x4096x6144, .f32⟩
  | 7 => ⟨S1x4096x2048, .f32⟩
  | 8 => ⟨S1x4096x2048, .f32⟩
  | 9 => ⟨S1x4096x2048, .f32⟩
  | 10 => ⟨S_, .f32⟩
  | 11 => ⟨S_, .f32⟩
  | 12 => ⟨S_, .f32⟩
  | 13 => ⟨S1x4096x2048, .f32⟩
  | 14 => ⟨S1x4096x2048, .f32⟩
  | 15 => ⟨S1x4096x2048, .f32⟩
  | 16 => ⟨S1x4096x2048, .f32⟩
  | 17 => ⟨S1x4096x2048, .f32⟩
  | 18 => ⟨S_, .f32⟩
  | 19 => ⟨S1x4096x2048, .f32⟩
  | 20 => ⟨S1x4096x2048, .f32⟩
  | 21 => ⟨S1x4096x2048, .f32⟩
  | 22 => ⟨S_, .f32⟩
  | 23 => ⟨S1x4096x2048, .f32⟩
  | 24 => ⟨S1x4096x2048, .f32⟩
  | 25 => ⟨S_, .f32⟩
  | 26 => ⟨S1x4096x2048, .f32⟩
  | 27 => ⟨S1x4096x2048, .f32⟩
  | 28 => ⟨S1x4096x2048, .f32⟩
  | 29 => ⟨S_, .f32⟩
  | 30 => ⟨S_, .f32⟩
  | 31 => ⟨S_, .f32⟩
  | 32 => ⟨S1x4096x2048, .f32⟩
  | 33 => ⟨S1x4096x2048, .f32⟩
  | 34 => ⟨S1x4096x2048, .f32⟩
  | 35 => ⟨S1x4096x2048, .f32⟩
  | 36 => ⟨S1x4096x2048, .f32⟩
  | 37 => ⟨S_, .f32⟩
  | 38 => ⟨S1x4096x2048, .f32⟩
  | 39 => ⟨S1x4096x2048, .f32⟩
  | 40 => ⟨S1x4096x2048, .f32⟩
  | 41 => ⟨S_, .f32⟩
  | 42 => ⟨S1x4096x2048, .f32⟩
  | 43 => ⟨S1x4096x2048, .f32⟩
  | 44 => ⟨S_, .f32⟩
  | 45 => ⟨S1x4096x2048, .f32⟩
  | 46 => ⟨S1x4096x2048, .f32⟩
  | 47 => ⟨S1x4096x2048, .f32⟩
  | 48 => ⟨S_, .f32⟩
  | 49 => ⟨S1x4096, .f32⟩
  | 50 => ⟨S1x4096x1, .f32⟩
  | 51 => ⟨S_, .f32⟩
  | 52 => ⟨S1x4096x1, .f32⟩
  | 53 => ⟨S1x4096x1, .f32⟩
  | 54 => ⟨S1x4096x2048, .f32⟩
  | 55 => ⟨S1x4096x2048, .f32⟩
  | 56 => ⟨S1x4096x2048, .f32⟩
  | 57 => ⟨S_, .f32⟩
  | 58 => ⟨S1x4096, .f32⟩
  | 59 => ⟨S1x4096x1, .f32⟩
  | 60 => ⟨S_, .f32⟩
  | 61 => ⟨S1x4096x1, .f32⟩
  | 62 => ⟨S1x4096x1, .f32⟩
  | 63 => ⟨S_, .f32⟩
  | 64 => ⟨S1x4096x1, .f32⟩
  | 65 => ⟨S1x4096x1, .f32⟩
  | 66 => ⟨S1x4096x1, .f32⟩
  | 67 => ⟨S1x4096x2048, .f32⟩
  | 68 => ⟨S1x4096x2048, .f32⟩
  | 69 => ⟨S1x1x2048, .f32⟩
  | 70 => ⟨S1x4096x2048, .f32⟩
  | 71 => ⟨S1x4096x2048, .f32⟩
  | 72 => ⟨S1x1x2048, .f32⟩
  | 73 => ⟨S1x4096x2048, .f32⟩
  | 74 => ⟨S1x4096x2048, .f32⟩
  | 75 => ⟨S1x32x128x8x256, .f32⟩
  | 76 => ⟨S128, .i32⟩
  | 77 => ⟨S1x128, .i32⟩
  | 78 => ⟨S_, .i32⟩
  | 79 => ⟨S_, .i32⟩
  | 80 => ⟨S1x128, .i32⟩
  | 81 => ⟨S1x128, .i32⟩
  | 82 => ⟨S1x128, .i32⟩
  | 83 => ⟨S_, .i32⟩
  | 84 => ⟨S1x128, .i32⟩
  | 85 => ⟨S1x128, .i1⟩
  | 86 => ⟨S1x128, .i32⟩
  | 87 => ⟨S1x128, .i32⟩
  | 88 => ⟨S_, .i32⟩
  | 89 => ⟨S1x128, .i32⟩
  | 90 => ⟨S1x128, .i1⟩
  | 91 => ⟨S1x128, .i1⟩
  | 92 => ⟨S_, .i32⟩
  | 93 => ⟨S1x128, .i32⟩
  | 94 => ⟨S1x128, .i32⟩
  | 95 => ⟨S1x128, .i32⟩
  | 96 => ⟨S128x1, .i32⟩
  | 97 => ⟨S_, .i32⟩
  | 98 => ⟨S_, .i32⟩
  | 99 => ⟨S128x1, .i32⟩
  | 100 => ⟨S128x1, .i32⟩
  | 101 => ⟨S128x1, .i32⟩
  | 102 => ⟨S_, .i32⟩
  | 103 => ⟨S128x1, .i32⟩
  | 104 => ⟨S128x1, .i1⟩
  | 105 => ⟨S128x1, .i32⟩
  | 106 => ⟨S128x1, .i32⟩
  | 107 => ⟨S_, .i32⟩
  | 108 => ⟨S128x1, .i32⟩
  | 109 => ⟨S128x1, .i1⟩
  | 110 => ⟨S128x1, .i1⟩
  | 111 => ⟨S_, .i32⟩
  | 112 => ⟨S128x1, .i32⟩
  | 113 => ⟨S128x1, .i32⟩
  | 114 => ⟨S128x1, .i32⟩
  | 115 => ⟨S128x128, .i32⟩
  | 116 => ⟨S128x128, .i32⟩
  | 117 => ⟨S128x128, .i1⟩
  | 118 => ⟨S1x128x128, .i1⟩
  | 119 => ⟨S_, .f32⟩
  | 120 => ⟨S8x128x128, .f32⟩
  | 121 => ⟨S8x128x128, .i1⟩
  | 122 => ⟨S8x128x128, .f32⟩
  | 123 => ⟨S8x1x32x256x128, .f32⟩
  | 124 => ⟨S1x32x128x8x256, .f32⟩
  | 125 => ⟨S128x8, .f32⟩
  | 126 => ⟨S1x1x128x8x1, .f32⟩
  | 127 => ⟨S1x32x128x8x256, .f32⟩
  | _ => ⟨S4096x6144, .bf16⟩

abbrev hbmTy0_1 (i : Nat) : BufTy := match i % 128 with
  | 0 => ⟨S1x32x128x8x256, .f32⟩
  | 1 => ⟨S1x4096x2048, .f32⟩
  | 2 => ⟨S1x4096x2048, .f32⟩
  | 3 => ⟨S1x4096x2048, .f32⟩
  | 4 => ⟨S1x4096x2048, .f32⟩
  | 5 => ⟨S_, .f32⟩
  | 6 => ⟨S1x4096x2048, .f32⟩
  | 7 => ⟨S1x4096x2048, .f32⟩
  | 8 => ⟨S_, .f32⟩
  | 9 => ⟨S1x4096x2048, .f32⟩
  | 10 => ⟨S1x4096x2048, .f32⟩
  | 11 => ⟨S1x4096x2048, .f32⟩
  | 12 => ⟨S1x4096x2048, .f32⟩
  | 13 => ⟨S1x4096x2048, .f32⟩
  | 14 => ⟨S1x4096x2048, .f32⟩
  | 15 => ⟨S1x4096x2048, .f32⟩
  | 16 => ⟨S_, .f32⟩
  | 17 => ⟨S_, .f32⟩
  | 18 => ⟨S_, .f32⟩
  | 19 => ⟨S1x4096x2048, .f32⟩
  | 20 => ⟨S1x4096x2048, .f32⟩
  | 21 => ⟨S1x4096x2048, .f32⟩
  | 22 => ⟨S_, .f32⟩
  | 23 => ⟨S1x4096x2048, .f32⟩
  | 24 => ⟨S1x4096x2048, .f32⟩
  | 25 => ⟨S1x4096x2048, .f32⟩
  | 26 => ⟨S1x4096x2048, .f32⟩
  | 27 => ⟨S1x4096x2048, .f32⟩
  | 28 => ⟨S_, .f32⟩
  | 29 => ⟨S1x4096x2048, .f32⟩
  | 30 => ⟨S1x4096x2048, .f32⟩
  | 31 => ⟨S1x4096x2048, .f32⟩
  | 32 => ⟨S_, .f32⟩
  | 33 => ⟨S1x4096x2048, .f32⟩
  | 34 => ⟨S1x4096x2048, .f32⟩
  | 35 => ⟨S_, .f32⟩
  | 36 => ⟨S1x4096x2048, .f32⟩
  | 37 => ⟨S1x4096x2048, .f32⟩
  | 38 => ⟨S1x4096x2048, .f32⟩
  | 39 => ⟨S_, .f32⟩
  | 40 => ⟨S1x4096x2048, .f32⟩
  | 41 => ⟨S1x4096x2048, .f32⟩
  | 42 => ⟨S_, .f32⟩
  | 43 => ⟨S1x4096x2048, .f32⟩
  | 44 => ⟨S1x4096x2048, .f32⟩
  | 45 => ⟨S1x4096x2048, .f32⟩
  | 46 => ⟨S_, .f32⟩
  | 47 => ⟨S1x4096x2048, .f32⟩
  | 48 => ⟨S1x4096x2048, .f32⟩
  | 49 => ⟨S1x4096x2048, .f32⟩
  | 50 => ⟨S_, .f32⟩
  | 51 => ⟨S1x4096x2048, .f32⟩
  | 52 => ⟨S1x4096x2048, .f32⟩
  | 53 => ⟨S1x4096x2048, .f32⟩
  | 54 => ⟨S_, .f32⟩
  | 55 => ⟨S1x4096x2048, .f32⟩
  | 56 => ⟨S1x4096x2048, .f32⟩
  | 57 => ⟨S1x4096x2048, .f32⟩
  | 58 => ⟨S1x4096x2048, .f32⟩
  | 59 => ⟨S1x4096x2048, .f32⟩
  | 60 => ⟨S1x4096x2048, .f32⟩
  | 61 => ⟨S1x4096x2048, .f32⟩
  | 62 => ⟨S_, .f32⟩
  | 63 => ⟨S1x4096, .f32⟩
  | 64 => ⟨S1x4096x1, .f32⟩
  | 65 => ⟨S_, .f32⟩
  | 66 => ⟨S1x4096x1, .f32⟩
  | 67 => ⟨S1x4096x1, .f32⟩
  | 68 => ⟨S1x4096x2048, .f32⟩
  | 69 => ⟨S1x4096x2048, .f32⟩
  | 70 => ⟨S1x4096x2048, .f32⟩
  | 71 => ⟨S_, .f32⟩
  | 72 => ⟨S1x4096, .f32⟩
  | 73 => ⟨S1x4096x1, .f32⟩
  | 74 => ⟨S_, .f32⟩
  | 75 => ⟨S1x4096x1, .f32⟩
  | 76 => ⟨S1x4096x1, .f32⟩
  | 77 => ⟨S_, .f32⟩
  | 78 => ⟨S1x4096x1, .f32⟩
  | 79 => ⟨S1x4096x1, .f32⟩
  | 80 => ⟨S1x4096x1, .f32⟩
  | 81 => ⟨S4096x2048, .f32⟩
  | 82 => ⟨S4096x2048, .bf16⟩
  | 83 => ⟨S1x4096x2048, .f32⟩
  | 84 => ⟨S1x4096x2048, .f32⟩
  | 85 => ⟨S4096x2048, .f32⟩
  | 86 => ⟨S4096x2048, .bf16⟩
  | 87 => ⟨S4096x2048, .f32⟩
  | 88 => ⟨S4096x2048, .bf16⟩
  | 89 => ⟨S4096x1, .f32⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_v41 : Ref sig .tc := ⟨.hbm, 59, rfl⟩
abbrev main_cst_12 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_v8 : Ref sig .tc := ⟨.hbm, 87, rfl⟩
abbrev main_call0_c : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_call0_c_0 : Ref sig .tc := ⟨.hbm, 92, rfl⟩
abbrev main_call0_v12 : Ref sig .tc := ⟨.hbm, 93, rfl⟩
abbrev main_call0_v13 : Ref sig .tc := ⟨.hbm, 94, rfl⟩
abbrev main_v58 : Ref sig .tc := ⟨.hbm, 95, rfl⟩
abbrev main_v59 : Ref sig .tc := ⟨.hbm, 96, rfl⟩
abbrev main_c_14 : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_call1_v5 : Ref sig .tc := ⟨.hbm, 103, rfl⟩
abbrev main_call1_v6 : Ref sig .tc := ⟨.hbm, 104, rfl⟩
abbrev main_call1_v7 : Ref sig .tc := ⟨.hbm, 105, rfl⟩
abbrev main_call1_v8 : Ref sig .tc := ⟨.hbm, 106, rfl⟩
abbrev main_call1_c : Ref sig .tc := ⟨.hbm, 107, rfl⟩
abbrev main_call1_v9 : Ref sig .tc := ⟨.hbm, 108, rfl⟩
abbrev main_call1_v10 : Ref sig .tc := ⟨.hbm, 109, rfl⟩
abbrev main_call1_v11 : Ref sig .tc := ⟨.hbm, 110, rfl⟩
abbrev main_call1_c_0 : Ref sig .tc := ⟨.hbm, 111, rfl⟩
abbrev main_call1_v12 : Ref sig .tc := ⟨.hbm, 112, rfl⟩
abbrev main_call1_v13 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_cst_15 : Ref sig .tc := ⟨.hbm, 119, rfl⟩
abbrev main_v65 : Ref sig .tc := ⟨.hbm, 120, rfl⟩
abbrev main_call2_v0 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_call3_v0 : Ref sig .tc := ⟨.hbm, 131, rfl⟩
abbrev main_call3_v1 : Ref sig .tc := ⟨.hbm, 132, rfl⟩
abbrev main_call3_cst : Ref sig .tc := ⟨.hbm, 133, rfl⟩
abbrev main_call3_v2 : Ref sig .tc := ⟨.hbm, 134, rfl⟩
abbrev main_call3_v3 : Ref sig .tc := ⟨.hbm, 135, rfl⟩
abbrev main_call3_cst_0 : Ref sig .tc := ⟨.hbm, 136, rfl⟩
abbrev main_call3_v4 : Ref sig .tc := ⟨.hbm, 137, rfl⟩
abbrev main_call3_v5 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_cst_16 : Ref sig .tc := ⟨.hbm, 144, rfl⟩
abbrev main_cst_17 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_cst_18 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_cst_19 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_cst_20 : Ref sig .tc := ⟨.hbm, 160, rfl⟩
abbrev main_v92 : Ref sig .tc := ⟨.hbm, 161, rfl⟩
abbrev main_v93 : Ref sig .tc := ⟨.hbm, 162, rfl⟩
abbrev main_cst_21 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_cst_22 : Ref sig .tc := ⟨.hbm, 167, rfl⟩
abbrev main_v97 : Ref sig .tc := ⟨.hbm, 168, rfl⟩
abbrev main_v98 : Ref sig .tc := ⟨.hbm, 169, rfl⟩
abbrev main_cst_23 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_cst_24 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_cst_25 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_cst_26 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_cst_27 : Ref sig .tc := ⟨.hbm, 190, rfl⟩
abbrev main_v115 : Ref sig .tc := ⟨.hbm, 191, rfl⟩
abbrev main_v116 : Ref sig .tc := ⟨.hbm, 192, rfl⟩
abbrev main_cst_28 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_cst_29 : Ref sig .tc := ⟨.hbm, 199, rfl⟩
abbrev main_v122 : Ref sig .tc := ⟨.hbm, 200, rfl⟩
abbrev main_v123 : Ref sig .tc := ⟨.hbm, 201, rfl⟩
abbrev main_cst_30 : Ref sig .tc := ⟨.hbm, 202, rfl⟩
abbrev main_v124 : Ref sig .tc := ⟨.hbm, 203, rfl⟩
abbrev main_v125 : Ref sig .tc := ⟨.hbm, 204, rfl⟩
abbrev main_cst_31 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩

abbrev nD : Nat := 1
abbrev τ : Topo := Topo.v7x

variable {F : FTy → Type} [FloatOps F]
-- ==== BMixFwd.lean ====
abbrev S4096x4096 : Shape := ⟨2, ![4096, 4096]⟩
abbrev S4x512x512 : Shape := ⟨3, ![4, 512, 512]⟩
abbrev S2048 : Shape := ⟨1, ![2048]⟩
abbrev S4x8x64x512 : Shape := ⟨4, ![4, 8, 64, 512]⟩
abbrev S8x4x64x512 : Shape := ⟨4, ![8, 4, 64, 512]⟩
abbrev S1x2048 : Shape := ⟨2, ![1, 2048]⟩
abbrev S4096x2048 : Shape := ⟨2, ![4096, 2048]⟩
abbrev S256x4096 : Shape := ⟨2, ![256, 4096]⟩
abbrev S256x2048 : Shape := ⟨2, ![256, 2048]⟩
abbrev S16x2048 : Shape := ⟨2, ![16, 2048]⟩
abbrev S256x512 : Shape := ⟨2, ![256, 512]⟩
abbrev S16x512 : Shape := ⟨2, ![16, 512]⟩
abbrev S272x512 : Shape := ⟨2, ![272, 512]⟩
abbrev S256x1 : Shape := ⟨2, ![256, 1]⟩
abbrev S8x1x64x512 : Shape := ⟨4, ![8, 1, 64, 512]⟩
abbrev S8x64x512 : Shape := ⟨3, ![8, 64, 512]⟩
abbrev S512x512 : Shape := ⟨2, ![512, 512]⟩
abbrev S1x512 : Shape := ⟨2, ![1, 512]⟩

abbrev nBuf : Space → Nat
  | .hbm => 9
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4x512x512, .f32⟩
  | .hbm, ⟨2, _⟩ => ⟨S2048, .f32⟩
  | .hbm, ⟨3, _⟩ => ⟨S4x8x64x512, .f32⟩
  | .hbm, ⟨4, _⟩ => ⟨S8x4x64x512, .f32⟩
  | .hbm, ⟨5, _⟩ => ⟨S8x4x64x512, .bf16⟩
  | .hbm, ⟨6, _⟩ => ⟨S1x2048, .f32⟩
  | .hbm, ⟨7, _⟩ => ⟨S4096x2048, .bf16⟩
  | .hbm, ⟨8, _⟩ => ⟨S4096x2048, .bf16⟩
  | .local _ .vmem, ⟨0, _⟩ => ⟨S256x4096, .bf16⟩
  | .local _ .vmem, ⟨1, _⟩ => ⟨S256x4096, .bf16⟩
  | .local _ .vmem, ⟨2, _⟩ => ⟨S1x2048, .f32⟩
  | .local _ .vmem, ⟨3, _⟩ => ⟨S8x4x64x512, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S16x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x4x64x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== BMixFwdRefIdeal.lean ====
abbrev S4096x4096 : Shape := ⟨2, ![4096, 4096]⟩
abbrev S4x512x512 : Shape := ⟨3, ![4, 512, 512]⟩
abbrev S2048 : Shape := ⟨1, ![2048]⟩
abbrev S1x4096x4096 : Shape := ⟨3, ![1, 4096, 4096]⟩
abbrev S1x4096x2048 : Shape := ⟨3, ![1, 4096, 2048]⟩
abbrev S_ : Shape := ⟨0, ![]⟩
abbrev S1x1x2048 : Shape := ⟨3, ![1, 1, 2048]⟩
abbrev S1x4097x2048 : Shape := ⟨3, ![1, 4097, 2048]⟩
abbrev S4096 : Shape := ⟨1, ![4096]⟩
abbrev S1x1x512 : Shape := ⟨3, ![1, 1, 512]⟩
abbrev S1x4095x512 : Shape := ⟨3, ![1, 4095, 512]⟩
abbrev S1x4096x512 : Shape := ⟨3, ![1, 4096, 512]⟩
abbrev S1x4096x1 : Shape := ⟨3, ![1, 4096, 1]⟩
abbrev S1x512x512 : Shape := ⟨3, ![1, 512, 512]⟩
abbrev S512x512 : Shape := ⟨2, ![512, 512]⟩
abbrev S1x3x512 : Shape := ⟨3, ![1, 3, 512]⟩
abbrev S1x4093x512 : Shape := ⟨3, ![1, 4093, 512]⟩
abbrev S1x7x512 : Shape := ⟨3, ![1, 7, 512]⟩
abbrev S1x4089x512 : Shape := ⟨3, ![1, 4089, 512]⟩
abbrev S1x15x512 : Shape := ⟨3, ![1, 15, 512]⟩
abbrev S1x4081x512 : Shape := ⟨3, ![1, 4081, 512]⟩
abbrev S4096x2048 : Shape := ⟨2, ![4096, 2048]⟩

abbrev nBuf : Space → Nat
  | .hbm => 196
  | .vmem => 0
  | .smem => 0
  | _ => 0

abbrev hbmTy0_0 (i : Nat) : BufTy := match i % 128 with
  | 0 => ⟨S4096x4096, .bf16⟩
  | 1 => ⟨S4x512x512, .f32⟩
  | 2 => ⟨S2048, .f32⟩
  | 3 => ⟨S4096x4096, .f32⟩
  | 4 => ⟨S1x4096x4096, .f32⟩
  | 5 => ⟨S1x4096x2048, .f32⟩
  | 6 => ⟨S1x4096x2048, .f32⟩
  | 7 => ⟨S1x4096x2048, .f32⟩
  | 8 => ⟨S1x4096x2048, .f32⟩
  | 9 => ⟨S_, .f32⟩
  | 10 => ⟨S1x1x2048, .f32⟩
  | 11 => ⟨S_, .f32⟩
  | 12 => ⟨S_, .f32⟩
  | 13 => ⟨S1x4096x2048, .f32⟩
  | 14 => ⟨S1x4097x2048, .f32⟩
  | 15 => ⟨S1x4096x2048, .f32⟩
  | 16 => ⟨S4096, .i32⟩
  | 17 => ⟨S_, .i32⟩
  | 18 => ⟨S4096, .i32⟩
  | 19 => ⟨S4096, .i32⟩
  | 20 => ⟨S_, .f32⟩
  | 21 => ⟨S1x1x512, .f32⟩
  | 22 => ⟨S1x4095x512, .f32⟩
  | 23 => ⟨S1x4096x512, .f32⟩
  | 24 => ⟨S_, .i32⟩
  | 25 => ⟨S4096, .i32⟩
  | 26 => ⟨S4096, .i32⟩
  | 27 => ⟨S4096, .f32⟩
  | 28 => ⟨S1x4096x1, .f32⟩
  | 29 => ⟨S1x4096x512, .f32⟩
  | 30 => ⟨S1x4096x512, .f32⟩
  | 31 => ⟨S1x4096x512, .f32⟩
  | 32 => ⟨S1x4096x512, .f32⟩
  | 33 => ⟨S1x4096x512, .f32⟩
  | 34 => ⟨S1x4096x512, .f32⟩
  | 35 => ⟨S1x512x512, .f32⟩
  | 36 => ⟨S512x512, .f32⟩
  | 37 => ⟨S1x4096x512, .f32⟩
  | 38 => ⟨S_, .f32⟩
  | 39 => ⟨S1x3x512, .f32⟩
  | 40 => ⟨S1x4093x512, .f32⟩
  | 41 => ⟨S1x4096x512, .f32⟩
  | 42 => ⟨S_, .i32⟩
  | 43 => ⟨S4096, .i32⟩
  | 44 => ⟨S4096, .i32⟩
  | 45 => ⟨S4096, .f32⟩
  | 46 => ⟨S1x4096x1, .f32⟩
  | 47 => ⟨S1x4096x512, .f32⟩
  | 48 => ⟨S1x4096x512, .f32⟩
  | 49 => ⟨S1x4096x512, .f32⟩
  | 50 => ⟨S1x4096x512, .f32⟩
  | 51 => ⟨S1x4096x512, .f32⟩
  | 52 => ⟨S1x4096x512, .f32⟩
  | 53 => ⟨S1x512x512, .f32⟩
  | 54 => ⟨S512x512, .f32⟩
  | 55 => ⟨S1x4096x512, .f32⟩
  | 56 => ⟨S_, .f32⟩
  | 57 => ⟨S1x7x512, .f32⟩
  | 58 => ⟨S1x4089x512, .f32⟩
  | 59 => ⟨S1x4096x512, .f32⟩
  | 60 => ⟨S_, .i32⟩
  | 61 => ⟨S4096, .i32⟩
  | 62 => ⟨S4096, .i32⟩
  | 63 => ⟨S4096, .f32⟩
  | 64 => ⟨S1x4096x1, .f32⟩
  | 65 => ⟨S1x4096x512, .f32⟩
  | 66 => ⟨S1x4096x512, .f32⟩
  | 67 => ⟨S1x4096x512, .f32⟩
  | 68 => ⟨S1x4096x512, .f32⟩
  | 69 => ⟨S1x4096x512, .f32⟩
  | 70 => ⟨S1x4096x512, .f32⟩
  | 71 => ⟨S1x512x512, .f32⟩
  | 72 => ⟨S512x512, .f32⟩
  | 73 => ⟨S1x4096x512, .f32⟩
  | 74 => ⟨S_, .f32⟩
  | 75 => ⟨S1x15x512, .f32⟩
  | 76 => ⟨S1x4081x512, .f32⟩
  | 77 => ⟨S1x4096x512, .f32⟩
  | 78 => ⟨S_, .i32⟩
  | 79 => ⟨S4096, .i32⟩
  | 80 => ⟨S4096, .i32⟩
  | 81 => ⟨S4096, .f32⟩
  | 82 => ⟨S1x4096x1, .f32⟩
  | 83 => ⟨S1x4096x512, .f32⟩
  | 84 => ⟨S1x4096x512, .f32⟩
  | 85 => ⟨S1x4096x512, .f32⟩
  | 86 => ⟨S1x4096x512, .f32⟩
  | 87 => ⟨S1x4096x512, .f32⟩
  | 88 => ⟨S1x4096x512, .f32⟩
  | 89 => ⟨S1x512x512, .f32⟩
  | 90 => ⟨S512x512, .f32⟩
  | 91 => ⟨S1x4096x512, .f32⟩
  | 92 => ⟨S1x4096x2048, .f32⟩
  | 93 => ⟨S1x1x2048, .f32⟩
  | 94 => ⟨S1x4096x2048, .f32⟩
  | 95 => ⟨S1x4096x2048, .f32⟩
  | 96 => ⟨S1x4096x2048, .f32⟩
  | 97 => ⟨S1x4096x2048, .f32⟩
  | 98 => ⟨S_, .f32⟩
  | 99 => ⟨S1x4096x2048, .f32⟩
  | 100 => ⟨S1x4096x2048, .f32⟩
  | 101 => ⟨S_, .f32⟩
  | 102 => ⟨S1x4096x2048, .f32⟩
  | 103 => ⟨S1x4096x2048, .f32⟩
  | 104 => ⟨S1x4096x2048, .f32⟩
  | 105 => ⟨S1x4096x2048, .f32⟩
  | 106 => ⟨S4096x2048, .f32⟩
  | 107 => ⟨S4096x2048, .bf16⟩
  | 108 => ⟨S1x4096x2048, .f32⟩
  | 109 => ⟨S1x4096x2048, .f32⟩
  | 110 => ⟨S_, .f32⟩
  | 111 => ⟨S1x1x2048, .f32⟩
  | 112 => ⟨S_, .f32⟩
  | 113 => ⟨S_, .f32⟩
  | 114 => ⟨S1x4096x2048, .f32⟩
  | 115 => ⟨S1x4097x2048, .f32⟩
  | 116 => ⟨S1x4096x2048, .f32⟩
  | 117 => ⟨S4096, .i32⟩
  | 118 => ⟨S_, .i32⟩
  | 119 => ⟨S4096, .i32⟩
  | 120 => ⟨S4096, .i32⟩
  | 121 => ⟨S_, .f32⟩
  | 122 => ⟨S1x1x512, .f32⟩
  | 123 => ⟨S1x4095x512, .f32⟩
  | 124 => ⟨S1x4096x512, .f32⟩
  | 125 => ⟨S_, .i32⟩
  | 126 => ⟨S4096, .i32⟩
  | 127 => ⟨S4096, .i32⟩
  | _ => ⟨S4096x4096, .bf16⟩

abbrev hbmTy0_1 (i : Nat) : BufTy := match i % 128 with
  | 0 => ⟨S4096, .f32⟩
  | 1 => ⟨S1x4096x1, .f32⟩
  | 2 => ⟨S1x4096x512, .f32⟩
  | 3 => ⟨S1x4096x512, .f32⟩
  | 4 => ⟨S1x4096x512, .f32⟩
  | 5 => ⟨S1x4096x512, .f32⟩
  | 6 => ⟨S1x4096x512, .f32⟩
  | 7 => ⟨S1x4096x512, .f32⟩
  | 8 => ⟨S1x512x512, .f32⟩
  | 9 => ⟨S512x512, .f32⟩
  | 10 => ⟨S1x4096x512, .f32⟩
  | 11 => ⟨S_, .f32⟩
  | 12 => ⟨S1x3x512, .f32⟩
  | 13 => ⟨S1x4093x512, .f32⟩
  | 14 => ⟨S1x4096x512, .f32⟩
  | 15 => ⟨S_, .i32⟩
  | 16 => ⟨S4096, .i32⟩
  | 17 => ⟨S4096, .i32⟩
  | 18 => ⟨S4096, .f32⟩
  | 19 => ⟨S1x4096x1, .f32⟩
  | 20 => ⟨S1x4096x512, .f32⟩
  | 21 => ⟨S1x4096x512, .f32⟩
  | 22 => ⟨S1x4096x512, .f32⟩
  | 23 => ⟨S1x4096x512, .f32⟩
  | 24 => ⟨S1x4096x512, .f32⟩
  | 25 => ⟨S1x4096x512, .f32⟩
  | 26 => ⟨S1x512x512, .f32⟩
  | 27 => ⟨S512x512, .f32⟩
  | 28 => ⟨S1x4096x512, .f32⟩
  | 29 => ⟨S_, .f32⟩
  | 30 => ⟨S1x7x512, .f32⟩
  | 31 => ⟨S1x4089x512, .f32⟩
  | 32 => ⟨S1x4096x512, .f32⟩
  | 33 => ⟨S_, .i32⟩
  | 34 => ⟨S4096, .i32⟩
  | 35 => ⟨S4096, .i32⟩
  | 36 => ⟨S4096, .f32⟩
  | 37 => ⟨S1x4096x1, .f32⟩
  | 38 => ⟨S1x4096x512, .f32⟩
  | 39 => ⟨S1x4096x512, .f32⟩
  | 40 => ⟨S1x4096x512, .f32⟩
  | 41 => ⟨S1x4096x512, .f32⟩
  | 42 => ⟨S1x4096x512, .f32⟩
  | 43 => ⟨S1x4096x512, .f32⟩
  | 44 => ⟨S1x512x512, .f32⟩
  | 45 => ⟨S512x512, .f32⟩
  | 46 => ⟨S1x4096x512, .f32⟩
  | 47 => ⟨S_, .f32⟩
  | 48 => ⟨S1x15x512, .f32⟩
  | 49 => ⟨S1x4081x512, .f32⟩
  | 50 => ⟨S1x4096x512, .f32⟩
  | 51 => ⟨S_, .i32⟩
  | 52 => ⟨S4096, .i32⟩
  | 53 => ⟨S4096, .i32⟩
  | 54 => ⟨S4096, .f32⟩
  | 55 => ⟨S1x4096x1, .f32⟩
  | 56 => ⟨S1x4096x512, .f32⟩
  | 57 => ⟨S1x4096x512, .f32⟩
  | 58 => ⟨S1x4096x512, .f32⟩
  | 59 => ⟨S1x4096x512, .f32⟩
  | 60 => ⟨S1x4096x512, .f32⟩
  | 61 => ⟨S1x4096x512, .f32⟩
  | 62 => ⟨S1x512x512, .f32⟩
  | 63 => ⟨S512x512, .f32⟩
  | 64 => ⟨S1x4096x512, .f32⟩
  | 65 => ⟨S1x4096x2048, .f32⟩
  | 66 => ⟨S4096x2048, .f32⟩
  | 67 => ⟨S4096x2048, .bf16⟩
  | _ => ⟨S4096x4096, .bf16⟩

abbrev hbmTy (i : Nat) : BufTy := match i / 128 with
  | 0 => hbmTy0_0 i
  | 1 => hbmTy0_1 i
  | _ => ⟨S4096x4096, .bf16⟩

abbrev bufTy : (tb : Table) → Fin (tcTables nBuf tb) → BufTy
  | .hbm, ⟨i, _⟩ => hbmTy i
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_call0_call0_cst : Ref sig .tc := ⟨.hbm, 11, rfl⟩
abbrev main_call0_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c_5 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_6 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_c_7 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_call1_v0 : Ref sig .tc := ⟨.hbm, 96, rfl⟩
abbrev main_call1_v1 : Ref sig .tc := ⟨.hbm, 97, rfl⟩
abbrev main_call1_cst : Ref sig .tc := ⟨.hbm, 98, rfl⟩
abbrev main_call1_v2 : Ref sig .tc := ⟨.hbm, 99, rfl⟩
abbrev main_call1_v3 : Ref sig .tc := ⟨.hbm, 100, rfl⟩
abbrev main_call1_cst_0 : Ref sig .tc := ⟨.hbm, 101, rfl⟩
abbrev main_call1_v4 : Ref sig .tc := ⟨.hbm, 102, rfl⟩
abbrev main_call1_v5 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_8 : Ref sig .tc := ⟨.hbm, 110, rfl⟩
abbrev main_v87 : Ref sig .tc := ⟨.hbm, 111, rfl⟩
abbrev main_call2_call0_cst : Ref sig .tc := ⟨.hbm, 112, rfl⟩
abbrev main_call2_call0_v0 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_c_9 : Ref sig .tc := ⟨.hbm, 118, rfl⟩
abbrev main_v92 : Ref sig .tc := ⟨.hbm, 119, rfl⟩
abbrev main_v93 : Ref sig .tc := ⟨.hbm, 120, rfl⟩
abbrev main_cst_10 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_c_11 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_12 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_c_13 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_14 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_c_15 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_cst_16 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_c_17 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩

abbrev nD : Nat := 1
abbrev τ : Topo := Topo.v7x

variable {F : FTy → Type} [FloatOps F]
-- ==== OutFwd.lean ====
abbrev S4096x2048 : Shape := ⟨2, ![4096, 2048]⟩
abbrev S2048x1024 : Shape := ⟨2, ![2048, 1024]⟩
abbrev S1x4096x1024 : Shape := ⟨3, ![1, 4096, 1024]⟩
abbrev S1024 : Shape := ⟨1, ![1024]⟩
abbrev S8x256x1024 : Shape := ⟨3, ![8, 256, 1024]⟩
abbrev S4096x1024 : Shape := ⟨2, ![4096, 1024]⟩
abbrev S1x1x1024 : Shape := ⟨3, ![1, 1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩

abbrev nBuf : Space → Nat
  | .hbm => 10
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .f32⟩
  | .hbm, ⟨2, _⟩ => ⟨S1x4096x1024, .f32⟩
  | .hbm, ⟨3, _⟩ => ⟨S1024, .f32⟩
  | .hbm, ⟨4, _⟩ => ⟨S8x256x1024, .f32⟩
  | .hbm, ⟨5, _⟩ => ⟨S8x256x1024, .bf16⟩
  | .hbm, ⟨6, _⟩ => ⟨S4096x1024, .f32⟩
  | .hbm, ⟨7, _⟩ => ⟨S1x1x1024, .f32⟩
  | .hbm, ⟨8, _⟩ => ⟨S4096x1024, .f32⟩
  | .hbm, ⟨9, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S8x256x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutFwdRefIdeal.lean ====
abbrev S4096x2048 : Shape := ⟨2, ![4096, 2048]⟩
abbrev S2048x1024 : Shape := ⟨2, ![2048, 1024]⟩
abbrev S1x4096x1024 : Shape := ⟨3, ![1, 4096, 1024]⟩
abbrev S1024 : Shape := ⟨1, ![1024]⟩
abbrev S1x4096x2048 : Shape := ⟨3, ![1, 4096, 2048]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S4096x1024 : Shape := ⟨2, ![4096, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .f32⟩
  | .hbm, ⟨2, _⟩ => ⟨S1x4096x1024, .f32⟩
  | .hbm, ⟨3, _⟩ => ⟨S1024, .f32⟩
  | .hbm, ⟨4, _⟩ => ⟨S4096x2048, .f32⟩
  | .hbm, ⟨5, _⟩ => ⟨S1x4096x2048, .f32⟩
  | .hbm, ⟨6, _⟩ => ⟨S1x4096x1024, .f32⟩
  | .hbm, ⟨7, _⟩ => ⟨S1x4096x1024, .f32⟩
  | .hbm, ⟨8, _⟩ => ⟨S_, .f32⟩
  | .hbm, ⟨9, _⟩ => ⟨S1x4096, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S1x4096x1024, .f32⟩
  | .hbm, ⟨19, _⟩ => ⟨S1x4096x1024, .f32⟩
  | .hbm, ⟨20, _⟩ => ⟨S1x1x1024, .f32⟩
  | .hbm, ⟨21, _⟩ => ⟨S1x4096x1024, .f32⟩
  | .hbm, ⟨22, _⟩ => ⟨S1x4096x1024, .f32⟩
  | .hbm, ⟨23, _⟩ => ⟨S1x4096x1024, .f32⟩
  | .hbm, ⟨24, _⟩ => ⟨S4096x1024, .f32⟩
  | .hbm, ⟨25, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== InFwd.lean ====
abbrev S1x4096x1024 : Shape := ⟨3, ![1, 4096, 1024]⟩
abbrev S1024 : Shape := ⟨1, ![1024]⟩
abbrev S1024x6144 : Shape := ⟨2, ![1024, 6144]⟩
abbrev S1024x8x768 : Shape := ⟨3, ![1024, 8, 768]⟩
abbrev S8x1024x768 : Shape := ⟨3, ![8, 1024, 768]⟩
abbrev S4096x1024 : Shape := ⟨2, ![4096, 1024]⟩
abbrev S1x1x1024 : Shape := ⟨3, ![1, 1, 1024]⟩
abbrev S8x256x768 : Shape := ⟨3, ![8, 256, 768]⟩
abbrev S4096x6144 : Shape := ⟨2, ![4096, 6144]⟩
abbrev S512x1024 : Shape := ⟨2, ![512, 1024]⟩
abbrev S512x6144 : Shape := ⟨2, ![512, 6144]⟩
abbrev S512 : Shape := ⟨1, ![512]⟩
abbrev S512x1 : Shape := ⟨2, ![512, 1]⟩
abbrev S1x1024 : Shape := ⟨2, ![1, 1024]⟩
abbrev S512x256 : Shape := ⟨2, ![512, 256]⟩
abbrev S1x256x768 : Shape := ⟨3, ![1, 256, 768]⟩
abbrev S256x768 : Shape := ⟨2, ![256, 768]⟩
abbrev S512x768 : Shape := ⟨2, ![512, 768]⟩

abbrev nBuf : Space → Nat
  | .hbm => 14
  | .vmem => 11
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x6144, .f32⟩
  | .hbm, ⟨3, _⟩ => ⟨S1024x8x768, .f32⟩
  | .hbm, ⟨4, _⟩ => ⟨S8x1024x768, .f32⟩
  | .hbm, ⟨5, _⟩ => ⟨S8x1024x768, .bf16⟩
  | .hbm, ⟨6, _⟩ => ⟨S4096x1024, .f32⟩
  | .hbm, ⟨7, _⟩ => ⟨S1x1x1024, .f32⟩
  | .hbm, ⟨8, _⟩ => ⟨S8x256x768, .bf16⟩
  | .hbm, ⟨9, _⟩ => ⟨S8x256x768, .bf16⟩
  | .hbm, ⟨10, _⟩ => ⟨S8x256x768, .bf16⟩
  | .hbm, ⟨11, _⟩ => ⟨S8x256x768, .bf16⟩
  | .hbm, ⟨12, _⟩ => ⟨S4096x6144, .bf16⟩
  | .hbm, ⟨13, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S8x256x768, .bf16⟩
  | .local _ .vmem, ⟨4, _⟩ => ⟨S8x256x768, .bf16⟩
  | .local _ .vmem, ⟨5, _⟩ => ⟨S8x256x768, .bf16⟩
  | .local _ .vmem, ⟨6, _⟩ => ⟨S8x256x768, .bf16⟩
  | .local _ .vmem, ⟨7, _⟩ => ⟨S512x6144, .bf16⟩
  | .local _ .vmem, ⟨8, _⟩ => ⟨S512x6144, .bf16⟩
  | .local _ .vmem, ⟨9, _⟩ => ⟨S512x1024, .bf16⟩
  | .local _ .vmem, ⟨10, _⟩ => ⟨S512x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InFwdRefIdeal.lean ====
abbrev S1x4096x1024 : Shape := ⟨3, ![1, 4096, 1024]⟩
abbrev S1024 : Shape := ⟨1, ![1024]⟩
abbrev S1024x6144 : Shape := ⟨2, ![1024, 6144]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x6144 : Shape := ⟨3, ![1, 4096, 6144]⟩
abbrev S4096x6144 : Shape := ⟨2, ![4096, 6144]⟩
abbrev S4096x1024 : Shape := ⟨2, ![4096, 1024]⟩

abbrev nBuf : Space → Nat
  | .hbm => 24
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x6144, .f32⟩
  | .hbm, ⟨3, _⟩ => ⟨S1x4096x1024, .f32⟩
  | .hbm, ⟨4, _⟩ => ⟨S_, .f32⟩
  | .hbm, ⟨5, _⟩ => ⟨S1x4096, .f32⟩
  | .hbm, ⟨6, _⟩ => ⟨S1x4096x1, .f32⟩
  | .hbm, ⟨7, _⟩ => ⟨S_, .f32⟩
  | .hbm, ⟨8, _⟩ => ⟨S1x4096x1, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S1x4096x1, .f32⟩
  | .hbm, ⟨14, _⟩ => ⟨S1x4096x1024, .f32⟩
  | .hbm, ⟨15, _⟩ => ⟨S1x4096x1024, .f32⟩
  | .hbm, ⟨16, _⟩ => ⟨S1x1x1024, .f32⟩
  | .hbm, ⟨17, _⟩ => ⟨S1x4096x1024, .f32⟩
  | .hbm, ⟨18, _⟩ => ⟨S1x4096x1024, .f32⟩
  | .hbm, ⟨19, _⟩ => ⟨S1x4096x6144, .f32⟩
  | .hbm, ⟨20, _⟩ => ⟨S4096x6144, .f32⟩
  | .hbm, ⟨21, _⟩ => ⟨S4096x6144, .bf16⟩
  | .hbm, ⟨22, _⟩ => ⟨S4096x1024, .f32⟩
  | .hbm, ⟨23, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== InFwdB.lean ====
abbrev S1x4096x1024 : Shape := ⟨3, ![1, 4096, 1024]⟩
abbrev S1024 : Shape := ⟨1, ![1024]⟩
abbrev S1024x4096 : Shape := ⟨2, ![1024, 4096]⟩
abbrev S1024x8x512 : Shape := ⟨3, ![1024, 8, 512]⟩
abbrev S8x1024x512 : Shape := ⟨3, ![8, 1024, 512]⟩
abbrev S4096x1024 : Shape := ⟨2, ![4096, 1024]⟩
abbrev S1x1x1024 : Shape := ⟨3, ![1, 1, 1024]⟩
abbrev S4096x4096 : Shape := ⟨2, ![4096, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024 : Shape := ⟨2, ![1, 1024]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 10
  | .vmem => 8
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x4096, .f32⟩
  | .hbm, ⟨3, _⟩ => ⟨S1024x8x512, .f32⟩
  | .hbm, ⟨4, _⟩ => ⟨S8x1024x512, .f32⟩
  | .hbm, ⟨5, _⟩ => ⟨S8x1024x512, .bf16⟩
  | .hbm, ⟨6, _⟩ => ⟨S4096x1024, .f32⟩
  | .hbm, ⟨7, _⟩ => ⟨S1x1x1024, .f32⟩
  | .hbm, ⟨8, _⟩ => ⟨S4096x4096, .bf16⟩
  | .hbm, ⟨9, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S8x1024x512, .bf16⟩
  | .local _ .vmem, ⟨4, _⟩ => ⟨S512x4096, .bf16⟩
  | .local _ .vmem, ⟨5, _⟩ => ⟨S512x4096, .bf16⟩
  | .local _ .vmem, ⟨6, _⟩ => ⟨S512x1024, .bf16⟩
  | .local _ .vmem, ⟨7, _⟩ => ⟨S512x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InFwdBRefIdeal.lean ====
abbrev S1x4096x1024 : Shape := ⟨3, ![1, 4096, 1024]⟩
abbrev S1024 : Shape := ⟨1, ![1024]⟩
abbrev S1024x4096 : Shape := ⟨2, ![1024, 4096]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x4096 : Shape := ⟨3, ![1, 4096, 4096]⟩
abbrev S4096x4096 : Shape := ⟨2, ![4096, 4096]⟩
abbrev S4096x1024 : Shape := ⟨2, ![4096, 1024]⟩

abbrev nBuf : Space → Nat
  | .hbm => 24
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x4096, .f32⟩
  | .hbm, ⟨3, _⟩ => ⟨S1x4096x1024, .f32⟩
  | .hbm, ⟨4, _⟩ => ⟨S_, .f32⟩
  | .hbm, ⟨5, _⟩ => ⟨S1x4096, .f32⟩
  | .hbm, ⟨6, _⟩ => ⟨S1x4096x1, .f32⟩
  | .hbm, ⟨7, _⟩ => ⟨S_, .f32⟩
  | .hbm, ⟨8, _⟩ => ⟨S1x4096x1, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S1x4096x1, .f32⟩
  | .hbm, ⟨14, _⟩ => ⟨S1x4096x1024, .f32⟩
  | .hbm, ⟨15, _⟩ => ⟨S1x4096x1024, .f32⟩
  | .hbm, ⟨16, _⟩ => ⟨S1x1x1024, .f32⟩
  | .hbm, ⟨17, _⟩ => ⟨S1x4096x1024, .f32⟩
  | .hbm, ⟨18, _⟩ => ⟨S1x4096x1024, .f32⟩
  | .hbm, ⟨19, _⟩ => ⟨S1x4096x4096, .f32⟩
  | .hbm, ⟨20, _⟩ => ⟨S4096x4096, .f32⟩
  | .hbm, ⟨21, _⟩ => ⟨S4096x4096, .bf16⟩
  | .hbm, ⟨22, _⟩ => ⟨S4096x1024, .f32⟩
  | .hbm, ⟨23, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== BMixDsc.lean ====
abbrev S4096x4096 : Shape := ⟨2, ![4096, 4096]⟩
abbrev S4x512x512 : Shape := ⟨3, ![4, 512, 512]⟩
abbrev S2048 : Shape := ⟨1, ![2048]⟩
abbrev S4096x2048 : Shape := ⟨2, ![4096, 2048]⟩
abbrev S4x8x64x512 : Shape := ⟨4, ![4, 8, 64, 512]⟩
abbrev S8x4x64x512 : Shape := ⟨4, ![8, 4, 64, 512]⟩
abbrev S1x2048 : Shape := ⟨2, ![1, 2048]⟩
abbrev S1x4096x4096 : Shape := ⟨3, ![1, 4096, 4096]⟩
abbrev S1x4096x2048 : Shape := ⟨3, ![1, 4096, 2048]⟩
abbrev S_ : Shape := ⟨0, ![]⟩
abbrev S1x1x2048 : Shape := ⟨3, ![1, 1, 2048]⟩
abbrev S1x4097x2048 : Shape := ⟨3, ![1, 4097, 2048]⟩
abbrev S4096 : Shape := ⟨1, ![4096]⟩
abbrev S1x1x512 : Shape := ⟨3, ![1, 1, 512]⟩
abbrev S1x4095x512 : Shape := ⟨3, ![1, 4095, 512]⟩
abbrev S1x4096x512 : Shape := ⟨3, ![1, 4096, 512]⟩
abbrev S1x4096x1 : Shape := ⟨3, ![1, 4096, 1]⟩
abbrev S1x512x512 : Shape := ⟨3, ![1, 512, 512]⟩
abbrev S512x512 : Shape := ⟨2, ![512, 512]⟩
abbrev S1x3x512 : Shape := ⟨3, ![1, 3, 512]⟩
abbrev S1x4093x512 : Shape := ⟨3, ![1, 4093, 512]⟩
abbrev S1x7x512 : Shape := ⟨3, ![1, 7, 512]⟩
abbrev S1x4089x512 : Shape := ⟨3, ![1, 4089, 512]⟩
abbrev S1x15x512 : Shape := ⟨3, ![1, 15, 512]⟩
abbrev S1x4081x512 : Shape := ⟨3, ![1, 4081, 512]⟩
abbrev S256x4096 : Shape := ⟨2, ![256, 4096]⟩
abbrev S16x2048 : Shape := ⟨2, ![16, 2048]⟩
abbrev S256x2048 : Shape := ⟨2, ![256, 2048]⟩
abbrev S256x1 : Shape := ⟨2, ![256, 1]⟩
abbrev S256x512 : Shape := ⟨2, ![256, 512]⟩
abbrev S16x512 : Shape := ⟨2, ![16, 512]⟩
abbrev S272x512 : Shape := ⟨2, ![272, 512]⟩
abbrev S1x512 : Shape := ⟨2, ![1, 512]⟩
abbrev S512 : Shape := ⟨1, ![512]⟩
abbrev S8x1x64x512 : Shape := ⟨4, ![8, 1, 64, 512]⟩
abbrev S8x64x512 : Shape := ⟨3, ![8, 64, 512]⟩
abbrev S1x4x64x512 : Shape := ⟨4, ![1, 4, 64, 512]⟩
abbrev S4x64x512 : Shape := ⟨3, ![4, 64, 512]⟩

abbrev nBuf : Space → Nat
  | .hbm => 101
  | .vmem => 16
  | .smem => 0
  | _ => 0

abbrev bufTy : (tb : Table) → Fin (tcTables nBuf tb) → BufTy
  | .hbm, ⟨0, _⟩ => ⟨S4096x4096, .bf16⟩
  | .hbm, ⟨1, _⟩ => ⟨S4x512x512, .f32⟩
  | .hbm, ⟨2, _⟩ => ⟨S2048, .f32⟩
  | .hbm, ⟨3, _⟩ => ⟨S4096x2048, .bf16⟩
  | .hbm, ⟨4, _⟩ => ⟨S4x8x64x512, .f32⟩
  | .hbm, ⟨5, _⟩ => ⟨S8x4x64x512, .f32⟩
  | .hbm, ⟨6, _⟩ => ⟨S8x4x64x512, .bf16⟩
  | .hbm, ⟨7, _⟩ => ⟨S1x2048, .f32⟩
  | .hbm, ⟨8, _⟩ => ⟨S4096x4096, .f32⟩
  | .hbm, ⟨9, _⟩ => ⟨S1x4096x4096, .f32⟩
  | .hbm, ⟨10, _⟩ => ⟨S1x4096x2048, .f32⟩
  | .hbm, ⟨11, _⟩ => ⟨S1x4096x2048, .f32⟩
  | .hbm, ⟨12, _⟩ => ⟨S_, .f32⟩
  | .hbm, ⟨13, _⟩ => ⟨S1x1x2048, .f32⟩
  | .hbm, ⟨14, _⟩ => ⟨S_, .f32⟩
  | .hbm, ⟨15, _⟩ => ⟨S_, .f32⟩
  | .hbm, ⟨16, _⟩ => ⟨S1x4096x2048, .f32⟩
  | .hbm, ⟨17, _⟩ => ⟨S1x4097x2048, .f32⟩
  | .hbm, ⟨18, _⟩ => ⟨S1x4096x2048, .f32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S_, .f32⟩
  | .hbm, ⟨24, _⟩ => ⟨S1x1x512, .f32⟩
  | .hbm, ⟨25, _⟩ => ⟨S1x4095x512, .f32⟩
  | .hbm, ⟨26, _⟩ => ⟨S1x4096x512, .f32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .f32⟩
  | .hbm, ⟨31, _⟩ => ⟨S1x4096x1, .f32⟩
  | .hbm, ⟨32, _⟩ => ⟨S1x4096x512, .f32⟩
  | .hbm, ⟨33, _⟩ => ⟨S1x4096x512, .f32⟩
  | .hbm, ⟨34, _⟩ => ⟨S1x4096x512, .f32⟩
  | .hbm, ⟨35, _⟩ => ⟨S1x4096x512, .f32⟩
  | .hbm, ⟨36, _⟩ => ⟨S1x4096x512, .f32⟩
  | .hbm, ⟨37, _⟩ => ⟨S1x4096x512, .f32⟩
  | .hbm, ⟨38, _⟩ => ⟨S1x512x512, .f32⟩
  | .hbm, ⟨39, _⟩ => ⟨S512x512, .f32⟩
  | .hbm, ⟨40, _⟩ => ⟨S1x4096x512, .f32⟩
  | .hbm, ⟨41, _⟩ => ⟨S_, .f32⟩
  | .hbm, ⟨42, _⟩ => ⟨S1x3x512, .f32⟩
  | .hbm, ⟨43, _⟩ => ⟨S1x4093x512, .f32⟩
  | .hbm, ⟨44, _⟩ => ⟨S1x4096x512, .f32⟩
  | .hbm, ⟨45, _⟩ => ⟨S_, .i32⟩
  | .hbm, ⟨46, _⟩ => ⟨S4096, .i32⟩
  | .hbm, ⟨47, _⟩ => ⟨S4096, .i32⟩
  | .hbm, ⟨48, _⟩ => ⟨S4096, .f32⟩
  | .hbm, ⟨49, _⟩ => ⟨S1x4096x1, .f32⟩
  | .hbm, ⟨50, _⟩ => ⟨S1x4096x512, .f32⟩
  | .hbm, ⟨51, _⟩ => ⟨S1x4096x512, .f32⟩
  | .hbm, ⟨52, _⟩ => ⟨S1x4096x512, .f32⟩
  | .hbm, ⟨53, _⟩ => ⟨S1x4096x512, .f32⟩
  | .hbm, ⟨54, _⟩ => ⟨S1x4096x512, .f32⟩
  | .hbm, ⟨55, _⟩ => ⟨S1x4096x512, .f32⟩
  | .hbm, ⟨56, _⟩ => ⟨S1x512x512, .f32⟩
  | .hbm, ⟨57, _⟩ => ⟨S512x512, .f32⟩
  | .hbm, ⟨58, _⟩ => ⟨S1x4096x512, .f32⟩
  | .hbm, ⟨59, _⟩ => ⟨S_, .f32⟩
  | .hbm, ⟨60, _⟩ => ⟨S1x7x512, .f32⟩
  | .hbm, ⟨61, _⟩ => ⟨S1x4089x512, .f32⟩
  | .hbm, ⟨62, _⟩ => ⟨S1x4096x512, .f32⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .f32⟩
  | .hbm, ⟨67, _⟩ => ⟨S1x4096x1, .f32⟩
  | .hbm, ⟨68, _⟩ => ⟨S1x4096x512, .f32⟩
  | .hbm, ⟨69, _⟩ => ⟨S1x4096x512, .f32⟩
  | .hbm, ⟨70, _⟩ => ⟨S1x4096x512, .f32⟩
  | .hbm, ⟨71, _⟩ => ⟨S1x4096x512, .f32⟩
  | .hbm, ⟨72, _⟩ => ⟨S1x4096x512, .f32⟩
  | .hbm, ⟨73, _⟩ => ⟨S1x4096x512, .f32⟩
  | .hbm, ⟨74, _⟩ => ⟨S1x512x512, .f32⟩
  | .hbm, ⟨75, _⟩ => ⟨S512x512, .f32⟩
  | .hbm, ⟨76, _⟩ => ⟨S1x4096x512, .f32⟩
  | .hbm, ⟨77, _⟩ => ⟨S_, .f32⟩
  | .hbm, ⟨78, _⟩ => ⟨S1x15x512, .f32⟩
  | .hbm, ⟨79, _⟩ => ⟨S1x4081x512, .f32⟩
  | .hbm, ⟨80, _⟩ => ⟨S1x4096x512, .f32⟩
  | .hbm, ⟨81, _⟩ => ⟨S_, .i32⟩
  | .hbm, ⟨82, _⟩ => ⟨S4096, .i32⟩
  | .hbm, ⟨83, _⟩ => ⟨S4096, .i32⟩
  | .hbm, ⟨84, _⟩ => ⟨S4096, .f32⟩
  | .hbm, ⟨85, _⟩ => ⟨S1x4096x1, .f32⟩
  | .hbm, ⟨86, _⟩ => ⟨S1x4096x512, .f32⟩
  | .hbm, ⟨87, _⟩ => ⟨S1x4096x512, .f32⟩
  | .hbm, ⟨88, _⟩ => ⟨S1x4096x512, .f32⟩
  | .hbm, ⟨89, _⟩ => ⟨S1x4096x512, .f32⟩
  | .hbm, ⟨90, _⟩ => ⟨S1x4096x512, .f32⟩
  | .hbm, ⟨91, _⟩ => ⟨S1x4096x512, .f32⟩
  | .hbm, ⟨92, _⟩ => ⟨S1x512x512, .f32⟩
  | .hbm, ⟨93, _⟩ => ⟨S512x512, .f32⟩
  | .hbm, ⟨94, _⟩ => ⟨S1x4096x512, .f32⟩
  | .hbm, ⟨95, _⟩ => ⟨S1x4096x2048, .f32⟩
  | .hbm, ⟨96, _⟩ => ⟨S4096x2048, .f32⟩
  | .hbm, ⟨97, _⟩ => ⟨S4096x2048, .bf16⟩
  | .hbm, ⟨98, _⟩ => ⟨S4096x4096, .bf16⟩
  | .hbm, ⟨99, _⟩ => ⟨S1x2048, .f32⟩
  | .hbm, ⟨100, _⟩ => ⟨S8x4x64x512, .bf16⟩
  | .local _ .vmem, ⟨0, _⟩ => ⟨S256x4096, .bf16⟩
  | .local _ .vmem, ⟨1, _⟩ => ⟨S256x4096, .bf16⟩
  | .local _ .vmem, ⟨2, _⟩ => ⟨S16x2048, .bf16⟩
  | .local _ .vmem, ⟨3, _⟩ => ⟨S16x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S8x4x64x512, .bf16⟩
  | .local _ .vmem, ⟨10, _⟩ => ⟨S256x4096, .bf16⟩
  | .local _ .vmem, ⟨11, _⟩ => ⟨S256x4096, .bf16⟩
  | .local _ .vmem, ⟨12, _⟩ => ⟨S1x2048, .f32⟩
  | .local _ .vmem, ⟨13, _⟩ => ⟨S8x4x64x512, .bf16⟩
  | .local _ .vmem, ⟨14, _⟩ => ⟨S8x4x64x512, .f32⟩
  | .local _ .vmem, ⟨15, _⟩ => ⟨S16x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_call0_call0_cst : Ref sig .tc := ⟨.hbm, 14, rfl⟩
abbrev main_call0_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_c_5 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_6 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_c_7 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82_0 : Ref sig .tc := ⟨.hbm, 98, rfl⟩
abbrev main_v82_1 : Ref sig .tc := ⟨.hbm, 99, rfl⟩
abbrev main_v82_2 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_192 : BitVec 32 := 15#32
  let v391 : BitVec 1 := Scalar.cmpi .eq arg0 c15_i32_192
  let v392 : BitVec 32 := Scalar.extui v391
  let c0_i32_193 : BitVec 32 := 0#32
  let v393 : BitVec 1 := Scalar.cmpi .ne v392 c0_i32_193
  v393

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x4x64x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x4x64x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== BMixDscRefIdeal.lean ====
abbrev S4096x4096 : Shape := ⟨2, ![4096, 4096]⟩
abbrev S4x512x512 : Shape := ⟨3, ![4, 512, 512]⟩
abbrev S2048 : Shape := ⟨1, ![2048]⟩
abbrev S4096x2048 : Shape := ⟨2, ![4096, 2048]⟩
abbrev S1x4096x4096 : Shape := ⟨3, ![1, 4096, 4096]⟩
abbrev S1x4096x2048 : Shape := ⟨3, ![1, 4096, 2048]⟩
abbrev S_ : Shape := ⟨0, ![]⟩
abbrev S1x1x2048 : Shape := ⟨3, ![1, 1, 2048]⟩
abbrev S1x4097x2048 : Shape := ⟨3, ![1, 4097, 2048]⟩
abbrev S4096 : Shape := ⟨1, ![4096]⟩
abbrev S1x1x512 : Shape := ⟨3, ![1, 1, 512]⟩
abbrev S1x4095x512 : Shape := ⟨3, ![1, 4095, 512]⟩
abbrev S1x4096x512 : Shape := ⟨3, ![1, 4096, 512]⟩
abbrev S1x4096x1 : Shape := ⟨3, ![1, 4096, 1]⟩
abbrev S1x512x512 : Shape := ⟨3, ![1, 512, 512]⟩
abbrev S512x512 : Shape := ⟨2, ![512, 512]⟩
abbrev S1x3x512 : Shape := ⟨3, ![1, 3, 512]⟩
abbrev S1x4093x512 : Shape := ⟨3, ![1, 4093, 512]⟩
abbrev S1x7x512 : Shape := ⟨3, ![1, 7, 512]⟩
abbrev S1x4089x512 : Shape := ⟨3, ![1, 4089, 512]⟩
abbrev S1x15x512 : Shape := ⟨3, ![1, 15, 512]⟩
abbrev S1x4081x512 : Shape := ⟨3, ![1, 4081, 512]⟩
abbrev S1x2048 : Shape := ⟨2, ![1, 2048]⟩

abbrev nBuf : Space → Nat
  | .hbm => 117
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x512x512, .f32⟩
  | .hbm, ⟨2, _⟩ => ⟨S2048, .f32⟩
  | .hbm, ⟨3, _⟩ => ⟨S4096x2048, .bf16⟩
  | .hbm, ⟨4, _⟩ => ⟨S4096x4096, .f32⟩
  | .hbm, ⟨5, _⟩ => ⟨S1x4096x4096, .f32⟩
  | .hbm, ⟨6, _⟩ => ⟨S1x4096x2048, .f32⟩
  | .hbm, ⟨7, _⟩ => ⟨S1x4096x2048, .f32⟩
  | .hbm, ⟨8, _⟩ => ⟨S1x4096x2048, .f32⟩
  | .hbm, ⟨9, _⟩ => ⟨S1x4096x2048, .f32⟩
  | .hbm, ⟨10, _⟩ => ⟨S_, .f32⟩
  | .hbm, ⟨11, _⟩ => ⟨S1x1x2048, .f32⟩
  | .hbm, ⟨12, _⟩ => ⟨S_, .f32⟩
  | .hbm, ⟨13, _⟩ => ⟨S_, .f32⟩
  | .hbm, ⟨14, _⟩ => ⟨S1x4096x2048, .f32⟩
  | .hbm, ⟨15, _⟩ => ⟨S1x4097x2048, .f32⟩
  | .hbm, ⟨16, _⟩ => ⟨S1x4096x2048, .f32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S_, .f32⟩
  | .hbm, ⟨22, _⟩ => ⟨S1x1x512, .f32⟩
  | .hbm, ⟨23, _⟩ => ⟨S1x4095x512, .f32⟩
  | .hbm, ⟨24, _⟩ => ⟨S1x4096x512, .f32⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .f32⟩
  | .hbm, ⟨29, _⟩ => ⟨S1x4096x1, .f32⟩
  | .hbm, ⟨30, _⟩ => ⟨S1x4096x512, .f32⟩
  | .hbm, ⟨31, _⟩ => ⟨S1x4096x512, .f32⟩
  | .hbm, ⟨32, _⟩ => ⟨S1x4096x512, .f32⟩
  | .hbm, ⟨33, _⟩ => ⟨S1x4096x512, .f32⟩
  | .hbm, ⟨34, _⟩ => ⟨S1x4096x512, .f32⟩
  | .hbm, ⟨35, _⟩ => ⟨S1x4096x512, .f32⟩
  | .hbm, ⟨36, _⟩ => ⟨S1x512x512, .f32⟩
  | .hbm, ⟨37, _⟩ => ⟨S512x512, .f32⟩
  | .hbm, ⟨38, _⟩ => ⟨S1x4096x512, .f32⟩
  | .hbm, ⟨39, _⟩ => ⟨S_, .f32⟩
  | .hbm, ⟨40, _⟩ => ⟨S1x3x512, .f32⟩
  | .hbm, ⟨41, _⟩ => ⟨S1x4093x512, .f32⟩
  | .hbm, ⟨42, _⟩ => ⟨S1x4096x512, .f32⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .f32⟩
  | .hbm, ⟨47, _⟩ => ⟨S1x4096x1, .f32⟩
  | .hbm, ⟨48, _⟩ => ⟨S1x4096x512, .f32⟩
  | .hbm, ⟨49, _⟩ => ⟨S1x4096x512, .f32⟩
  | .hbm, ⟨50, _⟩ => ⟨S1x4096x512, .f32⟩
  | .hbm, ⟨51, _⟩ => ⟨S1x4096x512, .f32⟩
  | .hbm, ⟨52, _⟩ => ⟨S1x4096x512, .f32⟩
  | .hbm, ⟨53, _⟩ => ⟨S1x4096x512, .f32⟩
  | .hbm, ⟨54, _⟩ => ⟨S1x512x512, .f32⟩
  | .hbm, ⟨55, _⟩ => ⟨S512x512, .f32⟩
  | .hbm, ⟨56, _⟩ => ⟨S1x4096x512, .f32⟩
  | .hbm, ⟨57, _⟩ => ⟨S_, .f32⟩
  | .hbm, ⟨58, _⟩ => ⟨S1x7x512, .f32⟩
  | .hbm, ⟨59, _⟩ => ⟨S1x4089x512, .f32⟩
  | .hbm, ⟨60, _⟩ => ⟨S1x4096x512, .f32⟩
  | .hbm, ⟨61, _⟩ => ⟨S_, .i32⟩
  | .hbm, ⟨62, _⟩ => ⟨S4096, .i32⟩
  | .hbm, ⟨63, _⟩ => ⟨S4096, .i32⟩
  | .hbm, ⟨64, _⟩ => ⟨S4096, .f32⟩
  | .hbm, ⟨65, _⟩ => ⟨S1x4096x1, .f32⟩
  | .hbm, ⟨66, _⟩ => ⟨S1x4096x512, .f32⟩
  | .hbm, ⟨67, _⟩ => ⟨S1x4096x512, .f32⟩
  | .hbm, ⟨68, _⟩ => ⟨S1x4096x512, .f32⟩
  | .hbm, ⟨69, _⟩ => ⟨S1x4096x512, .f32⟩
  | .hbm, ⟨70, _⟩ => ⟨S1x4096x512, .f32⟩
  | .hbm, ⟨71, _⟩ => ⟨S1x4096x512, .f32⟩
  | .hbm, ⟨72, _⟩ => ⟨S1x512x512, .f32⟩
  | .hbm, ⟨73, _⟩ => ⟨S512x512, .f32⟩
  | .hbm, ⟨74, _⟩ => ⟨S1x4096x512, .f32⟩
  | .hbm, ⟨75, _⟩ => ⟨S_, .f32⟩
  | .hbm, ⟨76, _⟩ => ⟨S1x15x512, .f32⟩
  | .hbm, ⟨77, _⟩ => ⟨S1x4081x512, .f32⟩
  | .hbm, ⟨78, _⟩ => ⟨S1x4096x512, .f32⟩
  | .hbm, ⟨79, _⟩ => ⟨S_, .i32⟩
  | .hbm, ⟨80, _⟩ => ⟨S4096, .i32⟩
  | .hbm, ⟨81, _⟩ => ⟨S4096, .i32⟩
  | .hbm, ⟨82, _⟩ => ⟨S4096, .f32⟩
  | .hbm, ⟨83, _⟩ => ⟨S1x4096x1, .f32⟩
  | .hbm, ⟨84, _⟩ => ⟨S1x4096x512, .f32⟩
  | .hbm, ⟨85, _⟩ => ⟨S1x4096x512, .f32⟩
  | .hbm, ⟨86, _⟩ => ⟨S1x4096x512, .f32⟩
  | .hbm, ⟨87, _⟩ => ⟨S1x4096x512, .f32⟩
  | .hbm, ⟨88, _⟩ => ⟨S1x4096x512, .f32⟩
  | .hbm, ⟨89, _⟩ => ⟨S1x4096x512, .f32⟩
  | .hbm, ⟨90, _⟩ => ⟨S1x512x512, .f32⟩
  | .hbm, ⟨91, _⟩ => ⟨S512x512, .f32⟩
  | .hbm, ⟨92, _⟩ => ⟨S1x4096x512, .f32⟩
  | .hbm, ⟨93, _⟩ => ⟨S1x4096x2048, .f32⟩
  | .hbm, ⟨94, _⟩ => ⟨S1x1x2048, .f32⟩
  | .hbm, ⟨95, _⟩ => ⟨S1x4096x2048, .f32⟩
  | .hbm, ⟨96, _⟩ => ⟨S1x4096x2048, .f32⟩
  | .hbm, ⟨97, _⟩ => ⟨S1x4096x2048, .f32⟩
  | .hbm, ⟨98, _⟩ => ⟨S1x4096x2048, .f32⟩
  | .hbm, ⟨99, _⟩ => ⟨S_, .f32⟩
  | .hbm, ⟨100, _⟩ => ⟨S1x4096x2048, .f32⟩
  | .hbm, ⟨101, _⟩ => ⟨S1x4096x2048, .f32⟩
  | .hbm, ⟨102, _⟩ => ⟨S_, .f32⟩
  | .hbm, ⟨103, _⟩ => ⟨S1x4096x2048, .f32⟩
  | .hbm, ⟨104, _⟩ => ⟨S1x4096x2048, .f32⟩
  | .hbm, ⟨105, _⟩ => ⟨S1x4096x2048, .f32⟩
  | .hbm, ⟨106, _⟩ => ⟨S1x4096x2048, .f32⟩
  | .hbm, ⟨107, _⟩ => ⟨S4096x2048, .f32⟩
  | .hbm, ⟨108, _⟩ => ⟨S1x4096x2048, .f32⟩
  | .hbm, ⟨109, _⟩ => ⟨S1x4096x2048, .f32⟩
  | .hbm, ⟨110, _⟩ => ⟨S1x4096x2048, .f32⟩
  | .hbm, ⟨111, _⟩ => ⟨S_, .f32⟩
  | .hbm, ⟨112, _⟩ => ⟨S1x2048, .f32⟩
  | .hbm, ⟨113, _⟩ => ⟨S1x1x2048, .f32⟩
  | .hbm, ⟨114, _⟩ => ⟨S_, .f32⟩
  | .hbm, ⟨115, _⟩ => ⟨S2048, .f32⟩
  | .hbm, ⟨116, _⟩ => ⟨S1x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_call0_call0_cst : Ref sig .tc := ⟨.hbm, 12, rfl⟩
abbrev main_call0_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_6 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_c_7 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_call1_v0 : Ref sig .tc := ⟨.hbm, 97, rfl⟩
abbrev main_call1_v1 : Ref sig .tc := ⟨.hbm, 98, rfl⟩
abbrev main_call1_cst : Ref sig .tc := ⟨.hbm, 99, rfl⟩
abbrev main_call1_v2 : Ref sig .tc := ⟨.hbm, 100, rfl⟩
abbrev main_call1_v3 : Ref sig .tc := ⟨.hbm, 101, rfl⟩
abbrev main_call1_cst_0 : Ref sig .tc := ⟨.hbm, 102, rfl⟩
abbrev main_call1_v4 : Ref sig .tc := ⟨.hbm, 103, rfl⟩
abbrev main_call1_v5 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_8 : Ref sig .tc := ⟨.hbm, 111, rfl⟩
abbrev main_v87 : Ref sig .tc := ⟨.hbm, 112, rfl⟩
abbrev main_v88 : Ref sig .tc := ⟨.hbm, 113, rfl⟩
abbrev main_cst_9 : Ref sig .tc := ⟨.hbm, 114, rfl⟩
abbrev main_v89 : Ref sig .tc := ⟨.hbm, 115, rfl⟩
abbrev main_v90 : Ref sig .tc := ⟨.hbm, 116, rfl⟩

abbrev nD : Nat := 1
abbrev τ : Topo := Topo.v7x

variable {F : FTy → Type} [FloatOps F]
-- ==== BMixDwg.lean ====
abbrev S4096x4096 : Shape := ⟨2, ![4096, 4096]⟩
abbrev S4x512x512 : Shape := ⟨3, ![4, 512, 512]⟩
abbrev S2048 : Shape := ⟨1, ![2048]⟩
abbrev S4096x2048 : Shape := ⟨2, ![4096, 2048]⟩
abbrev S4x8x64x512 : Shape := ⟨4, ![4, 8, 64, 512]⟩
abbrev S8x4x64x512 : Shape := ⟨4, ![8, 4, 64, 512]⟩
abbrev S1x2048 : Shape := ⟨2, ![1, 2048]⟩
abbrev S1x4096x4096 : Shape := ⟨3, ![1, 4096, 4096]⟩
abbrev S1x4096x2048 : Shape := ⟨3, ![1, 4096, 2048]⟩
abbrev S_ : Shape := ⟨0, ![]⟩
abbrev S1x1x2048 : Shape := ⟨3, ![1, 1, 2048]⟩
abbrev S1x4097x2048 : Shape := ⟨3, ![1, 4097, 2048]⟩
abbrev S4096 : Shape := ⟨1, ![4096]⟩
abbrev S1x1x512 : Shape := ⟨3, ![1, 1, 512]⟩
abbrev S1x4095x512 : Shape := ⟨3, ![1, 4095, 512]⟩
abbrev S1x4096x512 : Shape := ⟨3, ![1, 4096, 512]⟩
abbrev S1x4096x1 : Shape := ⟨3, ![1, 4096, 1]⟩
abbrev S1x512x512 : Shape := ⟨3, ![1, 512, 512]⟩
abbrev S512x512 : Shape := ⟨2, ![512, 512]⟩
abbrev S1x3x512 : Shape := ⟨3, ![1, 3, 512]⟩
abbrev S1x4093x512 : Shape := ⟨3, ![1, 4093, 512]⟩
abbrev S1x7x512 : Shape := ⟨3, ![1, 7, 512]⟩
abbrev S1x4089x512 : Shape := ⟨3, ![1, 4089, 512]⟩
abbrev S1x15x512 : Shape := ⟨3, ![1, 15, 512]⟩
abbrev S1x4081x512 : Shape := ⟨3, ![1, 4081, 512]⟩
abbrev S256x4096 : Shape := ⟨2, ![256, 4096]⟩
abbrev S16x2048 : Shape := ⟨2, ![16, 2048]⟩
abbrev S256x2048 : Shape := ⟨2, ![256, 2048]⟩
abbrev S256x1 : Shape := ⟨2, ![256, 1]⟩
abbrev S256x512 : Shape := ⟨2, ![256, 512]⟩
abbrev S16x512 : Shape := ⟨2, ![16, 512]⟩
abbrev S272x512 : Shape := ⟨2, ![272, 512]⟩
abbrev S1x512 : Shape := ⟨2, ![1, 512]⟩
abbrev S512 : Shape := ⟨1, ![512]⟩
abbrev S8x1x64x512 : Shape := ⟨4, ![8, 1, 64, 512]⟩
abbrev S8x64x512 : Shape := ⟨3, ![8, 64, 512]⟩
abbrev S1x4x64x512 : Shape := ⟨4, ![1, 4, 64, 512]⟩
abbrev S4x64x512 : Shape := ⟨3, ![4, 64, 512]⟩

abbrev nBuf : Space → Nat
  | .hbm => 101
  | .vmem => 16
  | .smem => 0
  | _ => 0

abbrev bufTy : (tb : Table) → Fin (tcTables nBuf tb) → BufTy
  | .hbm, ⟨0, _⟩ => ⟨S4096x4096, .bf16⟩
  | .hbm, ⟨1, _⟩ => ⟨S4x512x512, .f32⟩
  | .hbm, ⟨2, _⟩ => ⟨S2048, .f32⟩
  | .hbm, ⟨3, _⟩ => ⟨S4096x2048, .bf16⟩
  | .hbm, ⟨4, _⟩ => ⟨S4x8x64x512, .f32⟩
  | .hbm, ⟨5, _⟩ => ⟨S8x4x64x512, .f32⟩
  | .hbm, ⟨6, _⟩ => ⟨S8x4x64x512, .bf16⟩
  | .hbm, ⟨7, _⟩ => ⟨S1x2048, .f32⟩
  | .hbm, ⟨8, _⟩ => ⟨S4096x4096, .f32⟩
  | .hbm, ⟨9, _⟩ => ⟨S1x4096x4096, .f32⟩
  | .hbm, ⟨10, _⟩ => ⟨S1x4096x2048, .f32⟩
  | .hbm, ⟨11, _⟩ => ⟨S1x4096x2048, .f32⟩
  | .hbm, ⟨12, _⟩ => ⟨S_, .f32⟩
  | .hbm, ⟨13, _⟩ => ⟨S1x1x2048, .f32⟩
  | .hbm, ⟨14, _⟩ => ⟨S_, .f32⟩
  | .hbm, ⟨15, _⟩ => ⟨S_, .f32⟩
  | .hbm, ⟨16, _⟩ => ⟨S1x4096x2048, .f32⟩
  | .hbm, ⟨17, _⟩ => ⟨S1x4097x2048, .f32⟩
  | .hbm, ⟨18, _⟩ => ⟨S1x4096x2048, .f32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S_, .f32⟩
  | .hbm, ⟨24, _⟩ => ⟨S1x1x512, .f32⟩
  | .hbm, ⟨25, _⟩ => ⟨S1x4095x512, .f32⟩
  | .hbm, ⟨26, _⟩ => ⟨S1x4096x512, .f32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .f32⟩
  | .hbm, ⟨31, _⟩ => ⟨S1x4096x1, .f32⟩
  | .hbm, ⟨32, _⟩ => ⟨S1x4096x512, .f32⟩
  | .hbm, ⟨33, _⟩ => ⟨S1x4096x512, .f32⟩
  | .hbm, ⟨34, _⟩ => ⟨S1x4096x512, .f32⟩
  | .hbm, ⟨35, _⟩ => ⟨S1x4096x512, .f32⟩
  | .hbm, ⟨36, _⟩ => ⟨S1x4096x512, .f32⟩
  | .hbm, ⟨37, _⟩ => ⟨S1x4096x512, .f32⟩
  | .hbm, ⟨38, _⟩ => ⟨S1x512x512, .f32⟩
  | .hbm, ⟨39, _⟩ => ⟨S512x512, .f32⟩
  | .hbm, ⟨40, _⟩ => ⟨S1x4096x512, .f32⟩
  | .hbm, ⟨41, _⟩ => ⟨S_, .f32⟩
  | .hbm, ⟨42, _⟩ => ⟨S1x3x512, .f32⟩
  | .hbm, ⟨43, _⟩ => ⟨S1x4093x512, .f32⟩
  | .hbm, ⟨44, _⟩ => ⟨S1x4096x512, .f32⟩
  | .hbm, ⟨45, _⟩ => ⟨S_, .i32⟩
  | .hbm, ⟨46, _⟩ => ⟨S4096, .i32⟩
  | .hbm, ⟨47, _⟩ => ⟨S4096, .i32⟩
  | .hbm, ⟨48, _⟩ => ⟨S4096, .f32⟩
  | .hbm, ⟨49, _⟩ => ⟨S1x4096x1, .f32⟩
  | .hbm, ⟨50, _⟩ => ⟨S1x4096x512, .f32⟩
  | .hbm, ⟨51, _⟩ => ⟨S1x4096x512, .f32⟩
  | .hbm, ⟨52, _⟩ => ⟨S1x4096x512, .f32⟩
  | .hbm, ⟨53, _⟩ => ⟨S1x4096x512, .f32⟩
  | .hbm, ⟨54, _⟩ => ⟨S1x4096x512, .f32⟩
  | .hbm, ⟨55, _⟩ => ⟨S1x4096x512, .f32⟩
  | .hbm, ⟨56, _⟩ => ⟨S1x512x512, .f32⟩
  | .hbm, ⟨57, _⟩ => ⟨S512x512, .f32⟩
  | .hbm, ⟨58, _⟩ => ⟨S1x4096x512, .f32⟩
  | .hbm, ⟨59, _⟩ => ⟨S_, .f32⟩
  | .hbm, ⟨60, _⟩ => ⟨S1x7x512, .f32⟩
  | .hbm, ⟨61, _⟩ => ⟨S1x4089x512, .f32⟩
  | .hbm, ⟨62, _⟩ => ⟨S1x4096x512, .f32⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .f32⟩
  | .hbm, ⟨67, _⟩ => ⟨S1x4096x1, .f32⟩
  | .hbm, ⟨68, _⟩ => ⟨S1x4096x512, .f32⟩
  | .hbm, ⟨69, _⟩ => ⟨S1x4096x512, .f32⟩
  | .hbm, ⟨70, _⟩ => ⟨S1x4096x512, .f32⟩
  | .hbm, ⟨71, _⟩ => ⟨S1x4096x512, .f32⟩
  | .hbm, ⟨72, _⟩ => ⟨S1x4096x512, .f32⟩
  | .hbm, ⟨73, _⟩ => ⟨S1x4096x512, .f32⟩
  | .hbm, ⟨74, _⟩ => ⟨S1x512x512, .f32⟩
  | .hbm, ⟨75, _⟩ => ⟨S512x512, .f32⟩
  | .hbm, ⟨76, _⟩ => ⟨S1x4096x512, .f32⟩
  | .hbm, ⟨77, _⟩ => ⟨S_, .f32⟩
  | .hbm, ⟨78, _⟩ => ⟨S1x15x512, .f32⟩
  | .hbm, ⟨79, _⟩ => ⟨S1x4081x512, .f32⟩
  | .hbm, ⟨80, _⟩ => ⟨S1x4096x512, .f32⟩
  | .hbm, ⟨81, _⟩ => ⟨S_, .i32⟩
  | .hbm, ⟨82, _⟩ => ⟨S4096, .i32⟩
  | .hbm, ⟨83, _⟩ => ⟨S4096, .i32⟩
  | .hbm, ⟨84, _⟩ => ⟨S4096, .f32⟩
  | .hbm, ⟨85, _⟩ => ⟨S1x4096x1, .f32⟩
  | .hbm, ⟨86, _⟩ => ⟨S1x4096x512, .f32⟩
  | .hbm, ⟨87, _⟩ => ⟨S1x4096x512, .f32⟩
  | .hbm, ⟨88, _⟩ => ⟨S1x4096x512, .f32⟩
  | .hbm, ⟨89, _⟩ => ⟨S1x4096x512, .f32⟩
  | .hbm, ⟨90, _⟩ => ⟨S1x4096x512, .f32⟩
  | .hbm, ⟨91, _⟩ => ⟨S1x4096x512, .f32⟩
  | .hbm, ⟨92, _⟩ => ⟨S1x512x512, .f32⟩
  | .hbm, ⟨93, _⟩ => ⟨S512x512, .f32⟩
  | .hbm, ⟨94, _⟩ => ⟨S1x4096x512, .f32⟩
  | .hbm, ⟨95, _⟩ => ⟨S1x4096x2048, .f32⟩
  | .hbm, ⟨96, _⟩ => ⟨S4096x2048, .f32⟩
  | .hbm, ⟨97, _⟩ => ⟨S4096x2048, .bf16⟩
  | .hbm, ⟨98, _⟩ => ⟨S4096x4096, .bf16⟩
  | .hbm, ⟨99, _⟩ => ⟨S1x2048, .f32⟩
  | .hbm, ⟨100, _⟩ => ⟨S8x4x64x512, .bf16⟩
  | .local _ .vmem, ⟨0, _⟩ => ⟨S256x4096, .bf16⟩
  | .local _ .vmem, ⟨1, _⟩ => ⟨S256x4096, .bf16⟩
  | .local _ .vmem, ⟨2, _⟩ => ⟨S16x2048, .bf16⟩
  | .local _ .vmem, ⟨3, _⟩ => ⟨S16x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S8x4x64x512, .bf16⟩
  | .local _ .vmem, ⟨10, _⟩ => ⟨S256x4096, .bf16⟩
  | .local _ .vmem, ⟨11, _⟩ => ⟨S256x4096, .bf16⟩
  | .local _ .vmem, ⟨12, _⟩ => ⟨S1x2048, .f32⟩
  | .local _ .vmem, ⟨13, _⟩ => ⟨S8x4x64x512, .bf16⟩
  | .local _ .vmem, ⟨14, _⟩ => ⟨S8x4x64x512, .f32⟩
  | .local _ .vmem, ⟨15, _⟩ => ⟨S16x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_call0_call0_cst : Ref sig .tc := ⟨.hbm, 14, rfl⟩
abbrev main_call0_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_c_5 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_6 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_c_7 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82_0 : Ref sig .tc := ⟨.hbm, 98, rfl⟩
abbrev main_v82_1 : Ref sig .tc := ⟨.hbm, 99, rfl⟩
abbrev main_v82_2 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_192 : BitVec 32 := 15#32
  let v391 : BitVec 1 := Scalar.cmpi .eq arg0 c15_i32_192
  let v392 : BitVec 32 := Scalar.extui v391
  let c0_i32_193 : BitVec 32 := 0#32
  let v393 : BitVec 1 := Scalar.cmpi .ne v392 c0_i32_193
  v393

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x4x64x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x4x64x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== BMixDwgRefIdeal.lean ====
abbrev S4096x4096 : Shape := ⟨2, ![4096, 4096]⟩
abbrev S4x512x512 : Shape := ⟨3, ![4, 512, 512]⟩
abbrev S2048 : Shape := ⟨1, ![2048]⟩
abbrev S4096x2048 : Shape := ⟨2, ![4096, 2048]⟩
abbrev S1x4096x4096 : Shape := ⟨3, ![1, 4096, 4096]⟩
abbrev S1x4096x2048 : Shape := ⟨3, ![1, 4096, 2048]⟩
abbrev S_ : Shape := ⟨0, ![]⟩
abbrev S1x1x2048 : Shape := ⟨3, ![1, 1, 2048]⟩
abbrev S1x4097x2048 : Shape := ⟨3, ![1, 4097, 2048]⟩
abbrev S4096 : Shape := ⟨1, ![4096]⟩
abbrev S1x1x512 : Shape := ⟨3, ![1, 1, 512]⟩
abbrev S1x4095x512 : Shape := ⟨3, ![1, 4095, 512]⟩
abbrev S1x4096x512 : Shape := ⟨3, ![1, 4096, 512]⟩
abbrev S1x4096x1 : Shape := ⟨3, ![1, 4096, 1]⟩
abbrev S1x512x512 : Shape := ⟨3, ![1, 512, 512]⟩
abbrev S512x512 : Shape := ⟨2, ![512, 512]⟩
abbrev S1x3x512 : Shape := ⟨3, ![1, 3, 512]⟩
abbrev S1x4093x512 : Shape := ⟨3, ![1, 4093, 512]⟩
abbrev S1x7x512 : Shape := ⟨3, ![1, 7, 512]⟩
abbrev S1x4089x512 : Shape := ⟨3, ![1, 4089, 512]⟩
abbrev S1x15x512 : Shape := ⟨3, ![1, 15, 512]⟩
abbrev S1x4081x512 : Shape := ⟨3, ![1, 4081, 512]⟩
abbrev S1x2048 : Shape := ⟨2, ![1, 2048]⟩
abbrev S4x8x64x512 : Shape := ⟨4, ![4, 8, 64, 512]⟩
abbrev S8x4x64x512 : Shape := ⟨4, ![8, 4, 64, 512]⟩

abbrev nBuf : Space → Nat
  | .hbm => 247
  | .vmem => 0
  | .smem => 0
  | _ => 0

abbrev hbmTy0_0 (i : Nat) : BufTy := match i % 128 with
  | 0 => ⟨S4096x4096, .bf16⟩
  | 1 => ⟨S4x512x512, .f32⟩
  | 2 => ⟨S2048, .f32⟩
  | 3 => ⟨S4096x2048, .bf16⟩
  | 4 => ⟨S4096x4096, .f32⟩
  | 5 => ⟨S1x4096x4096, .f32⟩
  | 6 => ⟨S1x4096x2048, .f32⟩
  | 7 => ⟨S1x4096x2048, .f32⟩
  | 8 => ⟨S1x4096x2048, .f32⟩
  | 9 => ⟨S1x4096x2048, .f32⟩
  | 10 => ⟨S_, .f32⟩
  | 11 => ⟨S1x1x2048, .f32⟩
  | 12 => ⟨S_, .f32⟩
  | 13 => ⟨S_, .f32⟩
  | 14 => ⟨S1x4096x2048, .f32⟩
  | 15 => ⟨S1x4097x2048, .f32⟩
  | 16 => ⟨S_, .f32⟩
  | 17 => ⟨S1x1x2048, .f32⟩
  | 18 => ⟨S1x4096x2048, .f32⟩
  | 19 => ⟨S4096, .i32⟩
  | 20 => ⟨S_, .i32⟩
  | 21 => ⟨S4096, .i32⟩
  | 22 => ⟨S4096, .i32⟩
  | 23 => ⟨S_, .f32⟩
  | 24 => ⟨S1x1x512, .f32⟩
  | 25 => ⟨S1x4095x512, .f32⟩
  | 26 => ⟨S1x4096x512, .f32⟩
  | 27 => ⟨S_, .f32⟩
  | 28 => ⟨S1x1x512, .f32⟩
  | 29 => ⟨S_, .i32⟩
  | 30 => ⟨S4096, .i32⟩
  | 31 => ⟨S4096, .i32⟩
  | 32 => ⟨S4096, .f32⟩
  | 33 => ⟨S1x4096x1, .f32⟩
  | 34 => ⟨S1x4096x512, .f32⟩
  | 35 => ⟨S1x4096x512, .f32⟩
  | 36 => ⟨S1x4096x512, .f32⟩
  | 37 => ⟨S1x4096x512, .f32⟩
  | 38 => ⟨S1x4096x512, .f32⟩
  | 39 => ⟨S1x4096x512, .f32⟩
  | 40 => ⟨S1x512x512, .f32⟩
  | 41 => ⟨S512x512, .f32⟩
  | 42 => ⟨S1x4096x512, .f32⟩
  | 43 => ⟨S_, .f32⟩
  | 44 => ⟨S1x3x512, .f32⟩
  | 45 => ⟨S1x4093x512, .f32⟩
  | 46 => ⟨S1x4096x512, .f32⟩
  | 47 => ⟨S_, .f32⟩
  | 48 => ⟨S1x3x512, .f32⟩
  | 49 => ⟨S_, .i32⟩
  | 50 => ⟨S4096, .i32⟩
  | 51 => ⟨S4096, .i32⟩
  | 52 => ⟨S4096, .f32⟩
  | 53 => ⟨S1x4096x1, .f32⟩
  | 54 => ⟨S1x4096x512, .f32⟩
  | 55 => ⟨S1x4096x512, .f32⟩
  | 56 => ⟨S1x4096x512, .f32⟩
  | 57 => ⟨S1x4096x512, .f32⟩
  | 58 => ⟨S1x4096x512, .f32⟩
  | 59 => ⟨S1x4096x512, .f32⟩
  | 60 => ⟨S1x512x512, .f32⟩
  | 61 => ⟨S512x512, .f32⟩
  | 62 => ⟨S1x4096x512, .f32⟩
  | 63 => ⟨S_, .f32⟩
  | 64 => ⟨S1x7x512, .f32⟩
  | 65 => ⟨S1x4089x512, .f32⟩
  | 66 => ⟨S1x4096x512, .f32⟩
  | 67 => ⟨S_, .f32⟩
  | 68 => ⟨S1x7x512, .f32⟩
  | 69 => ⟨S_, .i32⟩
  | 70 => ⟨S4096, .i32⟩
  | 71 => ⟨S4096, .i32⟩
  | 72 => ⟨S4096, .f32⟩
  | 73 => ⟨S1x4096x1, .f32⟩
  | 74 => ⟨S1x4096x512, .f32⟩
  | 75 => ⟨S1x4096x512, .f32⟩
  | 76 => ⟨S1x4096x512, .f32⟩
  | 77 => ⟨S1x4096x512, .f32⟩
  | 78 => ⟨S1x4096x512, .f32⟩
  | 79 => ⟨S1x4096x512, .f32⟩
  | 80 => ⟨S1x512x512, .f32⟩
  | 81 => ⟨S512x512, .f32⟩
  | 82 => ⟨S1x4096x512, .f32⟩
  | 83 => ⟨S_, .f32⟩
  | 84 => ⟨S1x15x512, .f32⟩
  | 85 => ⟨S1x4081x512, .f32⟩
  | 86 => ⟨S1x4096x512, .f32⟩
  | 87 => ⟨S_, .f32⟩
  | 88 => ⟨S1x15x512, .f32⟩
  | 89 => ⟨S_, .i32⟩
  | 90 => ⟨S4096, .i32⟩
  | 91 => ⟨S4096, .i32⟩
  | 92 => ⟨S4096, .f32⟩
  | 93 => ⟨S1x4096x1, .f32⟩
  | 94 => ⟨S1x4096x512, .f32⟩
  | 95 => ⟨S1x4096x512, .f32⟩
  | 96 => ⟨S1x4096x512, .f32⟩
  | 97 => ⟨S1x4096x512, .f32⟩
  | 98 => ⟨S1x4096x512, .f32⟩
  | 99 => ⟨S1x4096x512, .f32⟩
  | 100 => ⟨S1x512x512, .f32⟩
  | 101 => ⟨S512x512, .f32⟩
  | 102 => ⟨S1x4096x512, .f32⟩
  | 103 => ⟨S1x4096x2048, .f32⟩
  | 104 => ⟨S1x1x2048, .f32⟩
  | 105 => ⟨S1x4096x2048, .f32⟩
  | 106 => ⟨S1x4096x2048, .f32⟩
  | 107 => ⟨S1x4096x2048, .f32⟩
  | 108 => ⟨S1x4096x2048, .f32⟩
  | 109 => ⟨S_, .f32⟩
  | 110 => ⟨S1x4096x2048, .f32⟩
  | 111 => ⟨S1x4096x2048, .f32⟩
  | 112 => ⟨S_, .f32⟩
  | 113 => ⟨S1x4096x2048, .f32⟩
  | 114 => ⟨S1x4096x2048, .f32⟩
  | 115 => ⟨S_, .f32⟩
  | 116 => ⟨S1x4096x2048, .f32⟩
  | 117 => ⟨S1x4096x2048, .f32⟩
  | 118 => ⟨S1x4096x2048, .f32⟩
  | 119 => ⟨S1x4096x2048, .f32⟩
  | 120 => ⟨S1x4096x2048, .f32⟩
  | 121 => ⟨S4096x2048, .f32⟩
  | 122 => ⟨S1x4096x2048, .f32⟩
  | 123 => ⟨S1x4096x2048, .f32⟩
  | 124 => ⟨S1x4096x2048, .f32⟩
  | 125 => ⟨S1x4096x2048, .f32⟩
  | 126 => ⟨S1x4096x2048, .f32⟩
  | 127 => ⟨S1x4096x2048, .f32⟩
  | _ => ⟨S4096x4096, .bf16⟩

abbrev hbmTy0_1 (i : Nat) : BufTy := match i % 128 with
  | 0 => ⟨S1x4096x2048, .f32⟩
  | 1 => ⟨S1x4096x2048, .f32⟩
  | 2 => ⟨S_, .f32⟩
  | 3 => ⟨S1x2048, .f32⟩
  | 4 => ⟨S1x1x2048, .f32⟩
  | 5 => ⟨S1x4096x2048, .f32⟩
  | 6 => ⟨S1x4096x2048, .f32⟩
  | 7 => ⟨S_, .f32⟩
  | 8 => ⟨S2048, .f32⟩
  | 9 => ⟨S1x4096x512, .f32⟩
  | 10 => ⟨S1x4096x512, .f32⟩
  | 11 => ⟨S1x4096x512, .f32⟩
  | 12 => ⟨S1x4096x512, .f32⟩
  | 13 => ⟨S512x512, .f32⟩
  | 14 => ⟨S512x512, .f32⟩
  | 15 => ⟨S1x4096x512, .f32⟩
  | 16 => ⟨S1x512x512, .f32⟩
  | 17 => ⟨S_, .f32⟩
  | 18 => ⟨S4x512x512, .f32⟩
  | 19 => ⟨S1x4096x512, .f32⟩
  | 20 => ⟨S_, .f32⟩
  | 21 => ⟨S1x4096x2048, .f32⟩
  | 22 => ⟨S1x4096x512, .f32⟩
  | 23 => ⟨S1x4096x512, .f32⟩
  | 24 => ⟨S1x4096x512, .f32⟩
  | 25 => ⟨S_, .f32⟩
  | 26 => ⟨S1x4096x2048, .f32⟩
  | 27 => ⟨S1x15x512, .f32⟩
  | 28 => ⟨S1x4081x512, .f32⟩
  | 29 => ⟨S_, .f32⟩
  | 30 => ⟨S1x4097x2048, .f32⟩
  | 31 => ⟨S512x512, .f32⟩
  | 32 => ⟨S512x512, .f32⟩
  | 33 => ⟨S1x4096x512, .f32⟩
  | 34 => ⟨S1x512x512, .f32⟩
  | 35 => ⟨S_, .f32⟩
  | 36 => ⟨S4x512x512, .f32⟩
  | 37 => ⟨S4x512x512, .f32⟩
  | 38 => ⟨S1x4096x512, .f32⟩
  | 39 => ⟨S_, .f32⟩
  | 40 => ⟨S1x4096x2048, .f32⟩
  | 41 => ⟨S1x4096x2048, .f32⟩
  | 42 => ⟨S1x4096x512, .f32⟩
  | 43 => ⟨S1x4096x512, .f32⟩
  | 44 => ⟨S1x4096x512, .f32⟩
  | 45 => ⟨S_, .f32⟩
  | 46 => ⟨S1x4096x2048, .f32⟩
  | 47 => ⟨S1x4096x2048, .f32⟩
  | 48 => ⟨S1x7x512, .f32⟩
  | 49 => ⟨S1x4089x512, .f32⟩
  | 50 => ⟨S_, .f32⟩
  | 51 => ⟨S1x4097x2048, .f32⟩
  | 52 => ⟨S1x4097x2048, .f32⟩
  | 53 => ⟨S512x512, .f32⟩
  | 54 => ⟨S512x512, .f32⟩
  | 55 => ⟨S1x4096x512, .f32⟩
  | 56 => ⟨S1x512x512, .f32⟩
  | 57 => ⟨S_, .f32⟩
  | 58 => ⟨S4x512x512, .f32⟩
  | 59 => ⟨S4x512x512, .f32⟩
  | 60 => ⟨S1x4096x512, .f32⟩
  | 61 => ⟨S_, .f32⟩
  | 62 => ⟨S1x4096x2048, .f32⟩
  | 63 => ⟨S1x4096x2048, .f32⟩
  | 64 => ⟨S1x4096x512, .f32⟩
  | 65 => ⟨S1x4096x512, .f32⟩
  | 66 => ⟨S1x4096x512, .f32⟩
  | 67 => ⟨S_, .f32⟩
  | 68 => ⟨S1x4096x2048, .f32⟩
  | 69 => ⟨S1x4096x2048, .f32⟩
  | 70 => ⟨S1x3x512, .f32⟩
  | 71 => ⟨S1x4093x512, .f32⟩
  | 72 => ⟨S_, .f32⟩
  | 73 => ⟨S1x4097x2048, .f32⟩
  | 74 => ⟨S1x4097x2048, .f32⟩
  | 75 => ⟨S512x512, .f32⟩
  | 76 => ⟨S512x512, .f32⟩
  | 77 => ⟨S1x4096x512, .f32⟩
  | 78 => ⟨S1x512x512, .f32⟩
  | 79 => ⟨S_, .f32⟩
  | 80 => ⟨S4x512x512, .f32⟩
  | 81 => ⟨S4x512x512, .f32⟩
  | 82 => ⟨S1x4096x512, .f32⟩
  | 83 => ⟨S_, .f32⟩
  | 84 => ⟨S1x4096x2048, .f32⟩
  | 85 => ⟨S1x4096x2048, .f32⟩
  | 86 => ⟨S1x4096x512, .f32⟩
  | 87 => ⟨S1x4096x512, .f32⟩
  | 88 => ⟨S1x4096x512, .f32⟩
  | 89 => ⟨S_, .f32⟩
  | 90 => ⟨S1x4096x2048, .f32⟩
  | 91 => ⟨S1x4096x2048, .f32⟩
  | 92 => ⟨S1x1x512, .f32⟩
  | 93 => ⟨S1x4095x512, .f32⟩
  | 94 => ⟨S_, .f32⟩
  | 95 => ⟨S1x4097x2048, .f32⟩
  | 96 => ⟨S1x4097x2048, .f32⟩
  | 97 => ⟨S_, .f32⟩
  | 98 => ⟨S1x4097x2048, .f32⟩
  | 99 => ⟨S1x4097x2048, .f32⟩
  | 100 => ⟨S1x1x2048, .f32⟩
  | 101 => ⟨S1x4096x2048, .f32⟩
  | 102 => ⟨S_, .f32⟩
  | 103 => ⟨S_, .f32⟩
  | 104 => ⟨S1x4096x2048, .f32⟩
  | 105 => ⟨S1x4096x2048, .f32⟩
  | 106 => ⟨S_, .f32⟩
  | 107 => ⟨S1x4096x2048, .f32⟩
  | 108 => ⟨S1x4096x4096, .f32⟩
  | 109 => ⟨S_, .f32⟩
  | 110 => ⟨S1x4096x2048, .f32⟩
  | 111 => ⟨S1x4096x4096, .f32⟩
  | 112 => ⟨S1x4096x4096, .f32⟩
  | 113 => ⟨S4x8x64x512, .f32⟩
  | 114 => ⟨S8x4x64x512, .f32⟩
  | 115 => ⟨S4096x4096, .f32⟩
  | 116 => ⟨S4096x4096, .bf16⟩
  | 117 => ⟨S1x2048, .f32⟩
  | 118 => ⟨S8x4x64x512, .bf16⟩
  | _ => ⟨S4096x4096, .bf16⟩

abbrev hbmTy (i : Nat) : BufTy := match i / 128 with
  | 0 => hbmTy0_0 i
  | 1 => hbmTy0_1 i
  | _ => ⟨S4096x4096, .bf16⟩

abbrev bufTy : (tb : Table) → Fin (tcTables nBuf tb) → BufTy
  | .hbm, ⟨i, _⟩ => hbmTy i
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_call0_call0_cst : Ref sig .tc := ⟨.hbm, 12, rfl⟩
abbrev main_call0_call0_v0 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_c_9 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_10 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_11 : Ref sig .tc := ⟨.hbm, 87, rfl⟩
abbrev main_v68 : Ref sig .tc := ⟨.hbm, 88, rfl⟩
abbrev main_c_12 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_call1_v0 : Ref sig .tc := ⟨.hbm, 107, rfl⟩
abbrev main_call1_v1 : Ref sig .tc := ⟨.hbm, 108, rfl⟩
abbrev main_call1_cst : Ref sig .tc := ⟨.hbm, 109, rfl⟩
abbrev main_call1_v2 : Ref sig .tc := ⟨.hbm, 110, rfl⟩
abbrev main_call1_v3 : Ref sig .tc := ⟨.hbm, 111, rfl⟩
abbrev main_call1_cst_0 : Ref sig .tc := ⟨.hbm, 112, rfl⟩
abbrev main_call1_v4 : Ref sig .tc := ⟨.hbm, 113, rfl⟩
abbrev main_v86_2 : Ref sig .tc := ⟨.hbm, 114, rfl⟩
abbrev main_call1_cst_1 : Ref sig .tc := ⟨.hbm, 115, rfl⟩
abbrev main_call1_v6 : Ref sig .tc := ⟨.hbm, 116, rfl⟩
abbrev main_call1_v7 : Ref sig .tc := ⟨.hbm, 117, rfl⟩
abbrev main_v86_1 : Ref sig .tc := ⟨.hbm, 118, rfl⟩
abbrev main_v86_0 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_call2_v0 : Ref sig .tc := ⟨.hbm, 125, rfl⟩
abbrev main_call2_v1 : Ref sig .tc := ⟨.hbm, 126, rfl⟩
abbrev main_call2_v2 : Ref sig .tc := ⟨.hbm, 127, rfl⟩
abbrev main_v92 : Ref sig .tc := ⟨.hbm, 128, rfl⟩
abbrev main_v93 : Ref sig .tc := ⟨.hbm, 129, rfl⟩
abbrev main_cst_13 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_14 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_15 : Ref sig .tc := ⟨.hbm, 145, rfl⟩
abbrev main_v107 : Ref sig .tc := ⟨.hbm, 146, rfl⟩
abbrev main_v108 : Ref sig .tc := ⟨.hbm, 147, rfl⟩
abbrev main_cst_16 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_17 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_cst_18 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_cst_19 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_20 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_cst_21 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_cst_22 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_cst_23 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_cst_24 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_cst_25 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_cst_26 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_cst_27 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_cst_28 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_cst_29 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_cst_30 : Ref sig .tc := ⟨.hbm, 222, rfl⟩
abbrev main_v169 : Ref sig .tc := ⟨.hbm, 223, rfl⟩
abbrev main_v170 : Ref sig .tc := ⟨.hbm, 224, rfl⟩
abbrev main_cst_31 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_call3_call0_cst : Ref sig .tc := ⟨.hbm, 230, rfl⟩
abbrev main_call3_call0_v0 : Ref sig .tc := ⟨.hbm, 231, rfl⟩
abbrev main_v175 : Ref sig .tc := ⟨.hbm, 232, rfl⟩
abbrev main_v176 : Ref sig .tc := ⟨.hbm, 233, rfl⟩
abbrev main_cst_32 : Ref sig .tc := ⟨.hbm, 234, rfl⟩
abbrev main_v177 : Ref sig .tc := ⟨.hbm, 235, rfl⟩
abbrev main_v178 : Ref sig .tc := ⟨.hbm, 236, rfl⟩
abbrev main_cst_33 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩

abbrev nD : Nat := 1
abbrev τ : Topo := Topo.v7x

variable {F : FTy → Type} [FloatOps F]
-- ==== Proof.Lift.lean ====
module
public import Idealize.ShloMosaic.Lib.Pipeline.ValueKit
public import Idealize.ShloMosaic.Lib.Pointwise
public import Idealize.ShloMosaic.Lib.Claim

/-! # From extended reals to reals

The claims compare two programs over the extended reals, under a precondition that the arguments are finite. This
module has the steps by which a term over the extended reals whose leaves are all reals is seen to be a real: the
constants that the programs write, sums, quotients, the reciprocal square root, and what the precondition says of one
element. -/

@[expose] public section

noncomputable section

namespace Cert.Lift

open Idealize.ShloMosaic

/-- A finite sum of reals, taken over the extended reals, is the real sum. -/
theorem coe_sum {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- A quotient of two reals with a nonzero denominator is the real quotient. -/
theorem div_coe_coe (a b : ℝ) (h : b ≠ 0) : Ideal.div (a : EReal) (b : EReal) = ((a / b : ℝ) : EReal) := by
  rw [Ideal.div_coe h, ← EReal.coe_mul]; congr 1; field_simp

/-- The reciprocal square root of a positive real. -/
theorem rsqrt_pos (a : ℝ) (h : 0 < a) : Ideal.rsqrt (a : EReal) = (((Real.sqrt a)⁻¹ : ℝ) : EReal) := by
  rw [Ideal.rsqrt_coe, if_neg (not_lt.mpr h.le), if_neg h.ne']

/-- The constant added under the root of every norm: the `f32` nearest to one millionth. -/
def eps : ℝ := 8796093 / 8796093022208

theorem eps_pos : 0 < eps := by norm_num [eps]

theorem ofBits_eps : Ideal.ofBits .f32 0x358637BD#32 = ((eps : ℝ) : EReal) := by
  simp [Ideal.ofBits, Ideal.ieee, eps, -EReal.coe_mul]; norm_num

theorem ofBits_1024 : Ideal.ofBits .f32 0x44800000#32 = ((1024 : ℝ) : EReal) := by
  simp [Ideal.ofBits, Ideal.ieee, -EReal.coe_mul]; norm_num

theorem ofBits_2048 : Ideal.ofBits .f32 0x45000000#32 = ((2048 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_inf : Ideal.ofBits .f32 0x7F800000#32 = ⊤ := by
  simp [Ideal.ofBits, Ideal.ieee]

/-- What the precondition tests of one element, that its absolute value is below infinity, makes it a real. -/
theorem real_of_abs_lt (a : EReal) (h : Ideal.cmp .olt (max a (-a)) ⊤ = 1#1) : ∃ r : ℝ, a = (r : EReal) := by
  induction a with
  | bot => exfalso; simp [Ideal.cmp] at h
  | top => exfalso; simp [Ideal.cmp] at h
  | coe r => exact ⟨r, rfl⟩

/-- The same of a whole array: there is a real array that it lifts. -/
theorem exists_real {ι : Type*} (X : ι → EReal) (h : ∀ i, Ideal.cmp .olt (max (X i) (-(X i))) ⊤ = 1#1) :
    ∃ x : ι → ℝ, ∀ i, X i = ((x i : ℝ) : EReal) :=
  ⟨fun i => (real_of_abs_lt _ (h i)).choose, fun i => (real_of_abs_lt _ (h i)).choose_spec⟩

/-! ## Sums over unit axes -/

/-- A sum along the first and last axes of a `[1, n, 1]` array picks the one element. -/
theorem hostReduceAdd_unit_a02 {n : Nat} (h : (⟨3, ![1, n, 1]⟩ : Shape).ReducesTo [0, 2] ⟨1, ![n]⟩)
    (v : (⟨3, ![1, n, 1]⟩ : Shape).Idx → EReal) (init : EReal) (j : Fin n) :
    Ideal.hostReduceAdd h v init (ix1 j) = init + v (ix3 0 j 0) := by
  unfold Ideal.hostReduceAdd
  congr 1
  rw [Finset.sum_eq_single (ix3 0 j 0)]
  · intro i hi hne
    rw [Finset.mem_filter] at hi
    exfalso; apply hne
    have h1 : (i 1).val = j.val := congrArg Fin.val (congrFun hi.2 0)
    funext a; apply Fin.ext
    match a with
    | ⟨0, _⟩ => exact Nat.lt_one_iff.mp (i 0).isLt
    | ⟨1, _⟩ => exact h1
    | ⟨2, _⟩ => exact Nat.lt_one_iff.mp (i 2).isLt
  · intro hn
    exfalso; apply hn
    rw [Finset.mem_filter]
    refine ⟨Finset.mem_univ _, ?_⟩
    funext b; apply Fin.ext
    match b with
    | ⟨0, _⟩ => rfl

/-- A sum along the two leading axes of a `[1, 1, n]` array picks the one element. -/
theorem hostReduceAdd_unit_a01 {n : Nat} (h : (⟨3, ![1, 1, n]⟩ : Shape).ReducesTo [0, 1] ⟨1, ![n]⟩)
    (v : (⟨3, ![1, 1, n]⟩ : Shape).Idx → EReal) (init : EReal) (j : Fin n) :
    Ideal.hostReduceAdd h v init (ix1 j) = init + v (ix3 0 0 j) := by
  unfold Ideal.hostReduceAdd
  congr 1
  rw [Finset.sum_eq_single (ix3 0 0 j)]
  · intro i hi hne
    rw [Finset.mem_filter] at hi
    exfalso; apply hne
    have h1 : (i 2).val = j.val := congrArg Fin.val (congrFun hi.2 0)
    funext a; apply Fin.ext
    match a with
    | ⟨0, _⟩ => exact Nat.lt_one_iff.mp (i 0).isLt
    | ⟨1, _⟩ => exact Nat.lt_one_iff.mp (i 1).isLt
    | ⟨2, _⟩ => exact h1
  · intro hn
    exfalso; apply hn
    rw [Finset.mem_filter]
    refine ⟨Finset.mem_univ _, ?_⟩
    funext b; apply Fin.ext
    match b with
    | ⟨0, _⟩ => rfl

end Cert.Lift

end
-- ==== Proof.Rms.lean ====
module
public import proofs.«01_k».proof.Proof.Lift

/-! # The gradient of the root-mean-square norm, over the reals

`v` is one row of 1024 entries, `u` the cotangent of the normed row times the norm's weight. -/

@[expose] public section

noncomputable section

namespace Cert.Rms

open Idealize.ShloMosaic Cert.Lift

variable (v u : Fin 1024 → ℝ)

/-- The mean square of the row with the constant that keeps it off zero. -/
def ms : ℝ := (∑ k, v k * v k) / 1024 + eps

/-- The factor by which the norm scales the row. -/
def inv : ℝ := (Real.sqrt (ms v))⁻¹

theorem ms_pos : 0 < ms v :=
  add_pos_of_nonneg_of_pos (div_nonneg (Finset.sum_nonneg fun k _ => mul_self_nonneg _) (by norm_num)) eps_pos

theorem inv_mul_inv : inv v * inv v = (ms v)⁻¹ := by
  rw [inv, ← mul_inv, Real.mul_self_sqrt (ms_pos v).le]

/-- The gradient with respect to the row. -/
def grad (k : Fin 1024) : ℝ := inv v * (u k - v k * inv v * ((∑ j, u j * (v j * inv v)) / 1024))

/-- The gradient as differentiation line by line gives it: through the scaled row, and through the mean square of
    the row, once for each factor of the square. -/
theorem grad_eq (k : Fin 1024) :
    u k * inv v + (v k * ((∑ j, v j * u j) * (-(1 / 2) * (inv v / ms v)) / 1024)
      + (∑ j, v j * u j) * (-(1 / 2) * (inv v / ms v)) / 1024 * v k) = grad v u k := by
  have h : ∑ j, u j * (v j * inv v) = (∑ j, v j * u j) * inv v := by
    rw [Finset.sum_mul]; exact Finset.sum_congr rfl fun j _ => by ring
  rw [grad, h, div_eq_mul_inv (inv v) (ms v), ← inv_mul_inv]
  ring

theorem ms_coe : Ideal.div (∑ k, ((v k : ℝ) : EReal) * (v k : EReal)) (Ideal.ofBits .f32 0x44800000#32)
    + Ideal.ofBits .f32 0x358637BD#32 = ((ms v : ℝ) : EReal) := by
  simp only [← EReal.coe_mul, coe_sum, ofBits_1024, ofBits_eps, div_coe_coe _ _ (by norm_num : (1024 : ℝ) ≠ 0),
    ← EReal.coe_add, ms]

theorem inv_coe : Ideal.rsqrt (Ideal.div (∑ k, ((v k : ℝ) : EReal) * (v k : EReal)) (Ideal.ofBits .f32 0x44800000#32)
    + Ideal.ofBits .f32 0x358637BD#32) = ((inv v : ℝ) : EReal) := by
  rw [ms_coe, rsqrt_pos _ (ms_pos v), inv]

/-- The gradient as the kernels compute it, over the extended reals. -/
theorem grad_coe (k : Fin 1024) : ((inv v : ℝ) : EReal) * (((u k : ℝ) : EReal) - (v k : EReal) * (inv v : EReal)
      * Ideal.div (∑ j, ((u j : ℝ) : EReal) * ((v j : EReal) * (inv v : EReal))) (Ideal.ofBits .f32 0x44800000#32))
    = ((grad v u k : ℝ) : EReal) := by
  simp only [← EReal.coe_mul, coe_sum, ofBits_1024, div_coe_coe _ _ (by norm_num : (1024 : ℝ) ≠ 0),
    ← EReal.coe_sub, grad]

/-- The bracket through the mean square, as differentiation line by line computes it over the extended reals. -/
theorem chain_coe : Ideal.div ((∑ j, ((v j : ℝ) : EReal) * ((u j : ℝ) : EReal)) * (Ideal.ofBits .f32 0xBF000000#32
      * Ideal.div (inv v : EReal) (ms v : EReal))) (Ideal.ofBits .f32 0x44800000#32)
    = (((∑ j, v j * u j) * (-(1 / 2) * (inv v / ms v)) / 1024 : ℝ) : EReal) := by
  simp only [← EReal.coe_mul, coe_sum, ofBits_1024, ofBits_neg_half, div_coe_coe _ _ (by norm_num : (1024 : ℝ) ≠ 0),
    div_coe_coe _ _ (ms_pos v).ne']

/-! ## Sums cut into blocks -/

/-- A sum over `8 * n` places is the eight sums over `n` places, added in order. -/
theorem sum_eight {M : Type*} [AddCommMonoid M] (n : ℕ) {N : ℕ} (hN : N = 8 * n) (f : Fin N → M) :
    ∑ j, f j = (∑ x : Fin n, f ⟨x.val, by omega⟩) + (∑ x : Fin n, f ⟨n + x.val, by omega⟩)
      + (∑ x : Fin n, f ⟨2 * n + x.val, by omega⟩) + (∑ x : Fin n, f ⟨3 * n + x.val, by omega⟩)
      + (∑ x : Fin n, f ⟨4 * n + x.val, by omega⟩) + (∑ x : Fin n, f ⟨5 * n + x.val, by omega⟩)
      + (∑ x : Fin n, f ⟨6 * n + x.val, by omega⟩) + (∑ x : Fin n, f ⟨7 * n + x.val, by omega⟩) := by
  subst hN
  rw [← Fin.sum_mul_add_fin (S := 8) (n := n) (L := 8 * n) f, Fin.sum_univ_eight]
  simp only [Fin.val_zero, Fin.val_one, zero_mul, one_mul, zero_add]
  rfl

end Cert.Rms

end
-- ==== Proof.Wide.lean ====
module
public import proofs.«01_k».proof.Proof.Rms

/-! # Arrays over plain numbers

A block's place in its array is arithmetic on numbers; `wide` lets an array of reals be read at such a number without
a proof that the place is inside. -/

@[expose] public section

noncomputable section

namespace Cert.Lift

open Idealize.ShloMosaic

/-- An array over plain numbers, zero beyond its ends. -/
def wide {n k : ℕ} (f : (⟨2, ![n, k]⟩ : Shape).Idx → ℝ) (a b : ℕ) : ℝ :=
  if h : a < n ∧ b < k then f (ix2 ⟨a, h.1⟩ ⟨b, h.2⟩) else 0

theorem wide_at {n k : ℕ} (f : (⟨2, ![n, k]⟩ : Shape).Idx → ℝ) (a : Fin n) (b : Fin k) : wide f a.val b.val = f (ix2 a b) := by
  simp [wide]

end Cert.Lift

end
-- ==== Proof.AMixSpec.lean ====
module
public import proofs.«01_k».proof.Proof.Wide

/-! # The gradient of the chunked spatial gating mixer, over the reals

Every token row `t` carries three vectors of 2048 entries: `u`, `v` and `z`. `v` goes through a GELU and a layer norm,
is mixed along the 128 places of its chunk by a masked matrix per group of 256 columns, and gates `gelu u * silu z`. -/

@[expose] public section
noncomputable section
namespace Cert.AMixSpec
open Idealize.ShloMosaic Cert.Lift

/-! ## The scalar functions -/

/-- The constant of the GELU's cubic term. -/
def ca : ℝ := 8943 / 200000
/-- The constant of the GELU's argument: the `f32` nearest to `√(2/π)`. -/
def cc : ℝ := 6693141 / 8388608

def th (x : ℝ) : ℝ := Real.tanh (cc * (x + ca * (x * x * x)))
/-- The GELU, in its form with the hyperbolic tangent. -/
def ge (x : ℝ) : ℝ := x * (1 / 2 * (1 + th x))
/-- Its derivative. -/
def ge' (x : ℝ) : ℝ := 1 / 2 * (1 + th x) + 1 / 2 * x * (1 - th x * th x) * (cc * (1 + 3 * ca * (x * x)))
/-- The logistic function. -/
def sg (x : ℝ) : ℝ := 1 / (1 + Real.exp (-x))
/-- The SiLU. -/
def si (x : ℝ) : ℝ := x * sg x
/-- Its derivative. -/
def si' (x : ℝ) : ℝ := sg x * (1 + x * (1 - sg x))

/-- The logistic function by the hyperbolic tangent of half the argument. -/
theorem sg_eq (x : ℝ) : 1 / 2 * Real.tanh (1 / 2 * x) + 1 / 2 = sg x := by
  rw [sg, Real.tanh_eq_sinh_div_cosh, Real.sinh_eq, Real.cosh_eq]
  have h : Real.exp (-x) = Real.exp (-(1 / 2 * x)) * Real.exp (-(1 / 2 * x)) := by rw [← Real.exp_add]; congr 1; ring
  have h' : Real.exp (1 / 2 * x) * Real.exp (-(1 / 2 * x)) = 1 := by rw [← Real.exp_add]; simp
  have p := Real.exp_pos (-(1 / 2 * x))
  have q := Real.exp_pos (1 / 2 * x)
  rw [h]
  generalize Real.exp (-(1 / 2 * x)) = a at *
  generalize Real.exp (1 / 2 * x) = b at *
  have hb : b = 1 / a := by field_simp; exact h'
  subst hb
  field_simp
  ring

/-! ## The layer norm of one row -/

section Row
variable (v d : Fin 2048 → ℝ)

def mean : ℝ := (∑ k, v k) / 2048
def cen (k : Fin 2048) : ℝ := v k - mean v
def var : ℝ := (∑ k, cen v k * cen v k) / 2048 + eps
def inv : ℝ := (Real.sqrt (var v))⁻¹
def nrm (k : Fin 2048) : ℝ := cen v k * inv v

theorem var_pos : 0 < var v :=
  add_pos_of_nonneg_of_pos (div_nonneg (Finset.sum_nonneg fun k _ => mul_self_nonneg _) (by norm_num)) eps_pos

theorem inv_mul_inv : inv v * inv v = (var v)⁻¹ := by
  rw [inv, ← mul_inv, Real.mul_self_sqrt (var_pos v).le]

theorem sum_cen : ∑ k, cen v k = 0 := by
  simp only [cen, Finset.sum_sub_distrib, Finset.sum_const, Finset.card_univ, Fintype.card_fin, mean]
  simp; ring

/-- The norm's gradient with respect to the row, `d` the cotangent of the normed row. -/
def lnGrad (k : Fin 2048) : ℝ := inv v * (d k - (∑ j, d j) / 2048 - nrm v k * ((∑ j, d j * nrm v j) / 2048))

/-- The part of the line by line gradient that comes before the mean's share. -/
def lnChain (k : Fin 2048) : ℝ := d k * inv v + cen v k * ((∑ j, cen v j * d j) * (-(1 / 2) * (inv v / var v)) / 2048)
  + (∑ j, cen v j * d j) * (-(1 / 2) * (inv v / var v)) / 2048 * cen v k

/-- The gradient as differentiation line by line gives it. -/
theorem lnGrad_eq (k : Fin 2048) : lnChain v d k + (∑ j, -lnChain v d j) / 2048 = lnGrad v d k := by
  have h : ∑ j, d j * nrm v j = (∑ j, cen v j * d j) * inv v := by
    rw [Finset.sum_mul]; exact Finset.sum_congr rfl fun j _ => by rw [nrm]; ring
  have e : ∀ j, lnChain v d j = d j * inv v - cen v j * ((∑ j, cen v j * d j) * (inv v * (inv v * inv v)) / 2048) := fun j => by
    rw [lnChain, inv_mul_inv, ← div_eq_mul_inv]; ring
  have s : ∑ j, -lnChain v d j = -((∑ j, d j) * inv v) := by
    simp only [e, neg_sub, Finset.sum_sub_distrib, ← Finset.sum_mul, sum_cen]
    ring
  rw [s, e, lnGrad, h, nrm]
  ring

end Row

/-! ## The mixer -/

variable (P : (⟨2, ![4096, 6144]⟩ : Shape).Idx → ℝ) (LG LB : (⟨1, ![2048]⟩ : Shape).Idx → ℝ)
variable (W : (⟨3, ![8, 128, 128]⟩ : Shape).Idx → ℝ) (BS : (⟨2, ![8, 128]⟩ : Shape).Idx → ℝ)
variable (DY : (⟨2, ![4096, 2048]⟩ : Shape).Idx → ℝ)

/-- Entry `e` of a vector over plain numbers. -/
def wide1 {n : ℕ} (f : (⟨1, ![n]⟩ : Shape).Idx → ℝ) (a : ℕ) : ℝ := if h : a < n then f (ix1 ⟨a, h⟩) else 0
theorem wide1_at {n : ℕ} (f : (⟨1, ![n]⟩ : Shape).Idx → ℝ) (a : Fin n) : wide1 f a.val = f (ix1 a) := by simp [wide1]
/-- A stack of matrices over plain numbers. -/
def wide3 {l n k : ℕ} (f : (⟨3, ![l, n, k]⟩ : Shape).Idx → ℝ) (g a b : ℕ) : ℝ :=
  if h : g < l ∧ a < n ∧ b < k then f (ix3 ⟨g, h.1⟩ ⟨a, h.2.1⟩ ⟨b, h.2.2⟩) else 0
theorem wide3_at {l n k : ℕ} (f : (⟨3, ![l, n, k]⟩ : Shape).Idx → ℝ) (g : Fin l) (a : Fin n) (b : Fin k) :
    wide3 f g.val a.val b.val = f (ix3 g a b) := by simp [wide3]

/-- The GELU of `v`, row `t`. -/
def vg (t : ℕ) (k : Fin 2048) : ℝ := ge (wide P t (2048 + k.val))
/-- The normed row. -/
def xh (t e : ℕ) : ℝ := (ge (wide P t (2048 + e)) - mean (vg P t)) * inv (vg P t)
theorem xh_at (t : ℕ) (k : Fin 2048) : xh P t k.val = nrm (vg P t) k := rfl
/-- The normed row, scaled and shifted. -/
def vn (t e : ℕ) : ℝ := xh P t e * wide1 LG e + wide1 LB e
/-- The masked mixing matrix: a place sees the places of its own half chunk and of those before. -/
def wm (g p q : ℕ) : ℝ := if q / 64 ≤ p / 64 then wide3 W g p q else 0
/-- The mixed rows: row `t` is place `t % 128` of its chunk. -/
def mixed (t e : ℕ) : ℝ :=
  (∑ q : Fin 128, wm W (e / 256) (t % 128) q.val * vn P LG LB (t / 128 * 128 + q.val) e) + wide BS (e / 256) (t % 128)
/-- What multiplies the mixed row in the gradient of `u`. -/
def fu (t e : ℕ) : ℝ := wide DY t e * si (wide P t (4096 + e)) * ge' (wide P t e)
/-- What multiplies the mixed row in the gradient of `z`. -/
def fz (t e : ℕ) : ℝ := wide DY t e * ge (wide P t e) * si' (wide P t (4096 + e))
/-- The cotangent of the mixed row. -/
def dm (t e : ℕ) : ℝ := wide DY t e * ge (wide P t e) * si (wide P t (4096 + e))
/-- The cotangent of the scaled and shifted normed row. -/
def dv (t e : ℕ) : ℝ := ∑ p : Fin 128, wm W (e / 256) p.val (t % 128) * dm P DY (t / 128 * 128 + p.val) e
/-- The cotangent of the normed row. -/
def dxh (t : ℕ) (k : Fin 2048) : ℝ := dv P W DY t k.val * wide1 LG k.val
/-- The gradient of `v`. -/
def dvv (t : ℕ) (k : Fin 2048) : ℝ := lnGrad (vg P t) (dxh P LG W DY t) k * ge' (wide P t (2048 + k.val))

/-- The gradient of the projection, over plain numbers. -/
def dprojR (t e : ℕ) : ℝ :=
  if h : e < 2048 then fu P DY t e * mixed P LG LB W BS t e
  else if h : e < 4096 then dvv P LG W DY t ⟨e - 2048, by omega⟩
  else fz P DY t (e - 4096) * mixed P LG LB W BS t (e - 4096)

/-- What chunk `n` adds to the gradient of the mixing matrix. -/
def dwsR (g p q n : ℕ) : ℝ := ∑ k : Fin 256, dm P DY (n * 128 + p) (g * 256 + k.val) * vn P LG LB (n * 128 + q) (g * 256 + k.val)
/-- What chunk `n` adds to the gradient of the bias. -/
def dbsR (g p n : ℕ) : ℝ := ∑ k : Fin 256, dm P DY (n * 128 + p) (g * 256 + k.val)

def dproj : (⟨2, ![4096, 6144]⟩ : Shape).Idx → EReal := fun i => ((dprojR P LG LB W BS DY (i 0).val (i 1).val : ℝ) : EReal)
def dws : (⟨3, ![8, 128, 128]⟩ : Shape).Idx → EReal := fun i =>
  ((if (i 2).val / 64 ≤ (i 1).val / 64 then ∑ n : Fin 32, dwsR P LG LB DY (i 0).val (i 1).val (i 2).val n.val else 0 : ℝ) : EReal)
def dbs : (⟨2, ![8, 128]⟩ : Shape).Idx → EReal := fun i => ((∑ n : Fin 32, dbsR P DY (i 0).val (i 1).val n.val : ℝ) : EReal)
def dlg : (⟨2, ![1, 2048]⟩ : Shape).Idx → EReal := fun i =>
  ((∑ t : Fin 4096, dv P W DY t.val (i 1).val * xh P t.val (i 1).val : ℝ) : EReal)
def dlb : (⟨2, ![1, 2048]⟩ : Shape).Idx → EReal := fun i => ((∑ t : Fin 4096, dv P W DY t.val (i 1).val : ℝ) : EReal)

end Cert.AMixSpec

end
-- ==== Proof.AMixLoop1.lean ====
module
public import proofs.«01_k».proof.Proof.Gen.AMixIdeal.Loops
public import proofs.«01_k».proof.Proof.AMixSpec
public import Idealize.ShloMosaic.Lib.Pipeline.ReadBack
public import Idealize.ShloMosaic.Lib.WholeRead

/-! # The spatial gating mixer's gradient: what the first loop leaves in the scratch buffers

The loop goes over the grid point's 256 rows, 16 at a time, and recomputes the scaled and shifted normed row and the
three factors made of `u`, `z` and the cotangent. -/

@[expose] public section
set_option maxRecDepth 16384
noncomputable section
namespace Cert.AMixIdeal.Pair
open Cert.AMixIdeal Cert.AMixIdeal.Gen Idealize.ShloMosaic Idealize.ShloMosaic.TcCoe Idealize.SL.Sem
open Cert.Lift Cert.AMixSpec

theorem trips1 : k0_t1_loop.trips = 16 := by decide +kernel
theorem off1 : ∀ k : Fin k0_t1_loop.trips, k0_off1 k = ![16 * k.val, 0] := by decide +kernel

theorem ofBits_one : Ideal.ofBits .f32 0x3F800000#32 = ((1 : ℝ) : EReal) := by
  simp [Ideal.ofBits, Ideal.ieee, -EReal.coe_mul]; norm_num
theorem ofBits_cc : Ideal.ofBits .f32 0x3F4C422A#32 = ((cc : ℝ) : EReal) := by
  simp [Ideal.ofBits, Ideal.ieee, cc, -EReal.coe_mul]; norm_num
theorem named_a : Named.named (F := Ideal) Cert.AMixIdeal.κ "gelu_a" (φ := .f32) 0x3D372713#32 = ((ca : ℝ) : EReal) := by
  rw [IdealRules.named_const.ideal_named_scalar _ _ _ _ rfl]; norm_num [ca]
theorem named_3a : Named.named (F := Ideal) Cert.AMixIdeal.κ "gelu_3a" (φ := .f32) 0x3E095D4F#32 = ((3 * ca : ℝ) : EReal) := by
  rw [IdealRules.named_const.ideal_named_scalar _ _ _ _ rfl]; norm_num [ca]

variable (P : S4096x6144.Idx → ℝ) (LG LB : S2048.Idx → ℝ) (DY : S4096x2048.Idx → ℝ) (r0 : ℕ)

/-- What the blocks that the first loop reads hold, over the reals; `r0` is the grid point's first row. -/
structure In1 (B0 B1 B2 B3 : S256x2048.Idx → EReal) (B6 B7 : S1x1x2048.Idx → EReal) : Prop where
  b0 : ∀ a e, B0 (ix2 a e) = (wide P (r0 + a.val) e.val : EReal)
  b1 : ∀ a e, B1 (ix2 a e) = (wide P (r0 + a.val) (4096 + e.val) : EReal)
  b2 : ∀ a e, B2 (ix2 a e) = (wide DY (r0 + a.val) e.val : EReal)
  b3 : ∀ a e, B3 (ix2 a e) = (xh P (r0 + a.val) e.val : EReal)
  b6 : ∀ e, B6 (ix3 0 0 e) = (wide1 LG e.val : EReal)
  b7 : ∀ e, B7 (ix3 0 0 e) = (wide1 LB e.val : EReal)

/-- What the first loop leaves: `v`, and the factors of the three gradients. -/
def gV (i : S256x2048.Idx) : EReal := (vn P LG LB (r0 + (i 0).val) (i 1).val : ℝ)
def gA (i : S256x2048.Idx) : EReal := (fu P DY (r0 + (i 0).val) (i 1).val : ℝ)
def gZ (i : S256x2048.Idx) : EReal := (fz P DY (r0 + (i 0).val) (i 1).val : ℝ)
def gC (i : S256x2048.Idx) : EReal := (dm P DY (r0 + (i 0).val) (i 1).val : ℝ)

/-- Row `x` of trip `k`. -/
def row1 (k : Fin k0_t1_loop.trips) (x : Fin 16) : Fin 256 := ⟨16 * k.val + x.val, by have := k.isLt; have := trips1; omega⟩

theorem emb1 (k : Fin k0_t1_loop.trips) (h : ∀ a, (k0_off1 k) a + (![16, 2048] : Fin 2 → ℕ) a ≤ S256x2048.size a) (x : Fin 16) (y : Fin 2048) :
    (Rect.unit (s := S256x2048) (k0_off1 k) ![16, 2048] h).emb (ix2 x y) = ix2 (row1 k x) y := by
  refine Shape.idx_ext₂ ?_ ?_ <;> simp [Rect.emb, Rect.unit, off1, row1]

theorem read1 {e : EltTy} (k : Fin k0_t1_loop.trips) (h : ∀ a, (k0_off1 k) a + (![16, 2048] : Fin 2 → ℕ) a ≤ S256x2048.size a) (x : Fin 16) (y : Fin 2048)
    (m : Memref sig .tc .vmem S256x2048 e) (hm : m.IsWhole) (B : S256x2048.Idx → Elt Ideal e) :
    View.readAt (Elt Ideal) m.view (Rect.unit (s := S256x2048) (k0_off1 k) ![16, 2048] h).toLoadRect (hm.unread B) (ix2 x y) = B (ix2 (row1 k x) y) :=
  (hm.readAt_unread B _ _).trans (congrArg B (emb1 k h x y))

theorem read3 {e : EltTy} (y : Fin 2048) (m : Memref sig .tc .vmem S1x1x2048 e) (hm : m.IsWhole) (B : S1x1x2048.Idx → Elt Ideal e) :
    View.readAt (Elt Ideal) m.view (Rect.unit (s := S1x1x2048) ![0, 0, 0] ![1, 1, 2048] inb_S1x1x2048_S1x1x2048_0_0_0).toLoadRect (hm.unread B) (ix3 0 0 y)
      = B (ix3 0 0 y) := by
  refine (hm.readAt_unread B _ _).trans (congrArg B (funext fun a => Fin.ext ?_))
  match a with
  | ⟨0, _⟩ => simp [Rect.unit, Rect.toLoadRect, LoadRect.idx]
  | ⟨1, _⟩ => simp [Rect.unit, Rect.toLoadRect, LoadRect.idx]
  | ⟨2, _⟩ => simp [Rect.unit, Rect.toLoadRect, LoadRect.idx]

set_option maxHeartbeats 1000000 in
theorem trip1 {B0 B1 B2 B3 : S256x2048.Idx → EReal} {B6 B7 : S1x1x2048.Idx → EReal} (h : In1 P LG LB DY r0 B0 B1 B2 B3 B6 B7)
    (𝒱 : Variants) (c : Dev nD) (bd : Option 𝒱.V) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x1 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x8x128x128 .f32) (harg9 : arg9.IsWhole) (arg10 : Memref sig .tc .vmem S1x8x128x1 .f32) (harg10 : arg10.IsWhole) (arg11 : Memref sig .tc .vmem S256x6144 .bf16) (harg11 : arg11.IsWhole) (arg12 : Memref sig .tc .vmem S8x128x128 .f32) (harg12 : arg12.IsWhole) (arg13 : Memref sig .tc .vmem S8x128 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S256x2048 .bf16) (harg16 : arg16.IsWhole) (arg17 : Memref sig .tc .vmem S256x2048 .f32) (harg17 : arg17.IsWhole) (arg18 : Memref sig .tc .vmem S256x2048 .f32) (harg18 : arg18.IsWhole) (arg19 : Memref sig .tc .vmem S256x2048 .bf16) (harg19 : arg19.IsWhole) (arg20 : Memref sig .tc .vmem S256x2048 .f32) (harg20 : arg20.IsWhole) (k : Fin k0_t1_loop.trips) (T) (hT : tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg1.unread B0) (harg2.unread B1) (harg3.unread B2) (harg4.unread B3) (harg7.unread B6) (harg8.unread B7) k = T) :
    View.PiecesOf (Val := Elt Ideal) (gV P LG LB r0) T.1 ∧ View.PiecesOf (Val := Elt Ideal) (gA P DY r0) T.2.1
      ∧ View.PiecesOf (Val := Elt Ideal) (gZ P DY r0) T.2.2.1 ∧ View.PiecesOf (Val := Elt Ideal) (gC P DY r0) T.2.2.2 := by
  subst hT
  unfold tripL_k0_t1 trip_k0_t1
  dsimp only
  refine ⟨⟨fun x => ?_, trivial⟩, ⟨fun x => ?_, trivial⟩, ⟨fun x => ?_, trivial⟩, ⟨fun x => ?_, trivial⟩⟩
  all_goals
    idx_vars x
    unfold_payloads
  all_goals
    try simp only [trip_k0_t1.sl.r, trip_k0_t1.sl.r_1, trip_k0_t1.sl.r_2, trip_k0_t1.sl.r_3, trip_k0_t1.sl.r_4, trip_k0_t1.sl.r_5, trip_k0_t1.sl.r_6]
    try unfold_payloads
    pointwise []
    simp only [read1, read3, emb1, h.b0, h.b1, h.b2, h.b3, h.b6, h.b7]
    simp only [ofBits_half, ofBits_cc, named_a, named_3a, ← EReal.coe_one, ← EReal.coe_mul, ← EReal.coe_add, ← EReal.coe_sub, Ideal.tanh_coe, sg_eq]
  · rfl
  · refine congrArg (Real.toEReal) (a₂ := fu P DY (r0 + (row1 k x0).val) x1.val) ?_
    simp only [fu, si, ge', th]
    try ring
  · refine congrArg (Real.toEReal) (a₂ := fz P DY (r0 + (row1 k x0).val) x1.val) ?_
    simp only [fz, ge, si', th]
    ring
  · refine congrArg (Real.toEReal) (a₂ := dm P DY (r0 + (row1 k x0).val) x1.val) ?_
    simp only [dm, ge, si, th]
    ring

/-- The stores of a list agree with `G`, and cover the first `n` rows. -/
def Filled {s : Shape} {e : EltTy} (G : s.Idx → Elt Ideal e) (rows : s.Idx → ℕ) (n : ℕ) (L : List (View.Piece (Elt Ideal) s e)) : Prop :=
  View.PiecesOf G L ∧ ∀ y, rows y < n → ∃ p ∈ L, y ∈ p.1.set

theorem piecesOf_append {s : Shape} {e : EltTy} {G : s.Idx → Elt Ideal e} : ∀ {L L' : List (View.Piece (Elt Ideal) s e)},
    View.PiecesOf G L → View.PiecesOf G L' → View.PiecesOf G (L ++ L')
  | [], _, _, h => h
  | _ :: _, _, h, h' => ⟨h.1, piecesOf_append h.2 h'⟩

theorem Filled.step {s : Shape} {e : EltTy} {G : s.Idx → Elt Ideal e} {rows : s.Idx → ℕ} {n n' : ℕ} {L L' : List (View.Piece (Elt Ideal) s e)}
    (hL : View.PiecesOf G L) (h : Filled G rows n L') (hc : ∀ y, n ≤ rows y → rows y < n' → ∃ p ∈ L, y ∈ p.1.set) : Filled G rows n' (L ++ L') :=
  ⟨piecesOf_append hL h.1, fun y hy => by
    by_cases hn : rows y < n
    · obtain ⟨p, hp, hm⟩ := h.2 y hn
      exact ⟨p, List.mem_append_right _ hp, hm⟩
    · obtain ⟨p, hp, hm⟩ := hc y (not_lt.mp hn) hy
      exact ⟨p, List.mem_append_left _ hp, hm⟩⟩

theorem Filled.canon {s : Shape} {e : EltTy} {G : s.Idx → Elt Ideal e} {rows : s.Idx → ℕ} {n : ℕ} {L : List (View.Piece (Elt Ideal) s e)}
    (h : Filled G rows n L) (hn : ∀ y, rows y < n) (L' : List (View.Piece (Elt Ideal) s e)) : View.canon (L ++ L') = G :=
  funext fun y => View.canon_append_of_piecesOf G L' L h.1 y (h.2 y (hn y))

/-- The row of an index of a block of 256 rows. -/
abbrev rows (y : S256x2048.Idx) : ℕ := (y 0).val

theorem inb1 (k : Fin k0_t1_loop.trips) : ∀ a, (k0_off1 k) a + (![16, 2048] : Fin 2 → ℕ) a ≤ S256x2048.size a := by
  have := k.isLt
  have := trips1
  rw [off1]
  intro a
  match a with
  | ⟨0, _⟩ => show 16 * k.val + 16 ≤ 256; omega
  | ⟨1, _⟩ => show 0 + 2048 ≤ 2048; omega

theorem mem1 (k : Fin k0_t1_loop.trips) (h : ∀ a, (k0_off1 k) a + (![16, 2048] : Fin 2 → ℕ) a ≤ S256x2048.size a) (y : S256x2048.Idx)
    (h1 : 16 * k.val ≤ rows y) (h2 : rows y < 16 * (k.val + 1)) : y ∈ (Rect.unit (s := S256x2048) (k0_off1 k) ![16, 2048] h).set := by
  rw [Rect.mem_set_unit]
  intro a
  rw [off1]
  match a with
  | ⟨0, _⟩ => exact ⟨h1, by show (y 0).val < 16 * k.val + 16; have : (y 0).val < 16 * (k.val + 1) := h2; omega⟩
  | ⟨1, _⟩ => exact ⟨Nat.zero_le _, by show (y 1).val < 0 + 2048; have : (y 1).val < 2048 := (y 1).isLt; omega⟩

set_option maxHeartbeats 1000000 in
theorem loop1 {B0 B1 B2 B3 : S256x2048.Idx → EReal} {B6 B7 : S1x1x2048.Idx → EReal} (h : In1 P LG LB DY r0 B0 B1 B2 B3 B6 B7)
    (𝒱 : Variants) (c : Dev nD) (bd : Option 𝒱.V) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x1 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x8x128x128 .f32) (harg9 : arg9.IsWhole) (arg10 : Memref sig .tc .vmem S1x8x128x1 .f32) (harg10 : arg10.IsWhole) (arg11 : Memref sig .tc .vmem S256x6144 .bf16) (harg11 : arg11.IsWhole) (arg12 : Memref sig .tc .vmem S8x128x128 .f32) (harg12 : arg12.IsWhole) (arg13 : Memref sig .tc .vmem S8x128 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S256x2048 .bf16) (harg16 : arg16.IsWhole) (arg17 : Memref sig .tc .vmem S256x2048 .f32) (harg17 : arg17.IsWhole) (arg18 : Memref sig .tc .vmem S256x2048 .f32) (harg18 : arg18.IsWhole) (arg19 : Memref sig .tc .vmem S256x2048 .bf16) (harg19 : arg19.IsWhole) (arg20 : Memref sig .tc .vmem S256x2048 .f32) (harg20 : arg20.IsWhole) : ∀ (n : ℕ) (hn : n ≤ 16) (L) (hL : pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg1.unread B0) (harg2.unread B1) (harg3.unread B2) (harg4.unread B3) (harg7.unread B6) (harg8.unread B7) n = L),
    Filled (gV P LG LB r0) rows (16 * n) L.1 ∧ Filled (gA P DY r0) rows (16 * n) L.2.1
      ∧ Filled (gZ P DY r0) rows (16 * n) L.2.2.1 ∧ Filled (gC P DY r0) rows (16 * n) L.2.2.2 := by
  intro n
  induction n with
  | zero => rintro - L rfl; exact ⟨⟨trivial, fun y hy => absurd hy (by simp)⟩, ⟨trivial, fun y hy => absurd hy (by simp)⟩,
      ⟨trivial, fun y hy => absurd hy (by simp)⟩, ⟨trivial, fun y hy => absurd hy (by simp)⟩⟩
  | succ n ih =>
    rintro hn L rfl
    have hk : n < k0_t1_loop.trips := by rw [trips1]; omega
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg1.unread B0) (harg2.unread B1) (harg3.unread B2) (harg4.unread B3) (harg7.unread B6) (harg8.unread B7) ⟨n, hk⟩
    obtain ⟨i1, i2, i3, i4⟩ := ih (by omega) _ rfl
    have T := trip1 P LG LB DY r0 h 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 ⟨n, hk⟩ _ rfl
    obtain ⟨t1, t2, t3, t4⟩ := T
    rw [e]
    refine ⟨i1.step t1 ?_, i2.step t2 ?_, i3.step t3 ?_, i4.step t4 ?_⟩
    all_goals
      intro y h1 h2
      unfold tripL_k0_t1 trip_k0_t1
      refine ⟨_, List.mem_singleton.mpr rfl, ?_⟩
      exact mem1 ⟨n, hk⟩ (inb1 _) y h1 h2

end Cert.AMixIdeal.Pair

end
-- ==== Proof.AMixLoop2.lean ====
module
public import proofs.«01_k».proof.Proof.AMixLoop1
public import Idealize.ShloMosaic.Lib.VecWindow

/-! # The second loop of a grid point: the layer norm's gradient, and the sums over the rows

The loop reads the cotangent `dv` of the scaled and shifted normed rows sixteen rows at a time, stores the gradient of `v` in the
middle third of the projection's gradient, and adds the rows to the gradients of the layer norm's two vectors. -/

@[expose] public section
set_option maxRecDepth 16384
noncomputable section
namespace Cert.AMixIdeal.Pair
open Idealize.ShloMosaic Idealize.ShloMosaic.Pointwise Idealize.SL Cert.AMixIdeal.Gen Cert.AMixSpec Cert.Lift

theorem trips2 : k0_t2_loop.trips = 16 := by decide +kernel
theorem off2 : ∀ k : Fin k0_t2_loop.trips, k0_off2 k = ![16 * k.val, 0] := by decide +kernel
theorem off3 : ∀ k : Fin k0_t2_loop.trips, k0_off3 k = ![16 * k.val, 0] := by decide +kernel
theorem off4 : ∀ k : Fin k0_t2_loop.trips, k0_off4 k = ![16 * k.val, 2048] := by decide +kernel

variable (P : S4096x6144.Idx → ℝ) (LG LB : S2048.Idx → ℝ) (W : S8x128x128.Idx → ℝ) (BS : S8x128.Idx → ℝ) (DY : S4096x2048.Idx → ℝ) (r0 : ℕ)

/-- Row `x` of trip `k`. -/
def row2 (k : Fin k0_t2_loop.trips) (x : Fin 16) : Fin 256 := ⟨16 * k.val + x.val, by have := k.isLt; have := trips2; omega⟩

/-- What the second loop finds, over the reals. -/
structure In2 (B3 B4 : S256x2048.Idx → EReal) (B5 : S256x1.Idx → EReal) (B6 : S1x1x2048.Idx → EReal) : Prop where
  b3 : ∀ a e, B3 (ix2 a e) = (xh P (r0 + a.val) e.val : EReal)
  b4 : ∀ a e, B4 (ix2 a e) = (ge' (wide P (r0 + a.val) (2048 + e.val)) : EReal)
  b5 : ∀ a, B5 (ix2 a 0) = (inv (vg P (r0 + a.val)) : EReal)
  b6 : ∀ e, B6 (ix3 0 0 e) = (wide1 LG e.val : EReal)

/-- The projection's gradient on the grid point's rows. -/
def gD (i : S256x6144.Idx) : EReal := (dprojR P LG LB W BS DY (r0 + (i 0).val) (i 1).val : ℝ)

theorem emb2 (k : Fin k0_t2_loop.trips) (h : ∀ a, (k0_off2 k) a + (![16, 2048] : Fin 2 → ℕ) a ≤ S256x2048.size a) (x : Fin 16) (y : Fin 2048) :
    (Rect.unit (s := S256x2048) (k0_off2 k) ![16, 2048] h).emb (ix2 x y) = ix2 (row2 k x) y := by
  refine Shape.idx_ext₂ ?_ ?_ <;> simp [Rect.emb, Rect.unit, off2, row2]

theorem emb3 (k : Fin k0_t2_loop.trips) (h : ∀ a, (k0_off3 k) a + (![16, 1] : Fin 2 → ℕ) a ≤ S256x1.size a) (x : Fin 16) :
    (Rect.unit (s := S256x1) (k0_off3 k) ![16, 1] h).emb (ix2 x 0) = ix2 (row2 k x) 0 := by
  refine Shape.idx_ext₂ ?_ ?_ <;> simp [Rect.emb, Rect.unit, off3, row2]

theorem read2 {e : EltTy} (k : Fin k0_t2_loop.trips) (h : ∀ a, (k0_off2 k) a + (![16, 2048] : Fin 2 → ℕ) a ≤ S256x2048.size a) (x : Fin 16) (y : Fin 2048)
    (m : Memref sig .tc .vmem S256x2048 e) (hm : m.IsWhole) (B : S256x2048.Idx → Elt Ideal e) :
    View.readAt (Elt Ideal) m.view (Rect.unit (s := S256x2048) (k0_off2 k) ![16, 2048] h).toLoadRect (hm.unread B) (ix2 x y) = B (ix2 (row2 k x) y) :=
  (hm.readAt_unread B _ _).trans (congrArg B (emb2 k h x y))

theorem read2' {e : EltTy} (k : Fin k0_t2_loop.trips) (h : ∀ a, (k0_off3 k) a + (![16, 1] : Fin 2 → ℕ) a ≤ S256x1.size a) (x : Fin 16)
    (m : Memref sig .tc .vmem S256x1 e) (hm : m.IsWhole) (B : S256x1.Idx → Elt Ideal e) :
    View.readAt (Elt Ideal) m.view (Rect.unit (s := S256x1) (k0_off3 k) ![16, 1] h).toLoadRect (hm.unread B) (ix2 x 0) = B (ix2 (row2 k x) 0) :=
  (hm.readAt_unread B _ _).trans (congrArg B (emb3 k h x))

/-- What the second loop finds in the memory of `dv`. -/
def ReadsDv (arg20 : Memref sig .tc .vmem S256x2048 .f32) (X20 : BufTy.Contents (Elt Ideal) arg20.view.ty) : Prop :=
  ∀ (k : Fin k0_t2_loop.trips) (h : ∀ a, (k0_off2 k) a + (![16, 2048] : Fin 2 → ℕ) a ≤ S256x2048.size a) (x : Fin 16) (y : Fin 2048),
    View.readAt (Elt Ideal) arg20.view (Rect.unit (s := S256x2048) (k0_off2 k) ![16, 2048] h).toLoadRect X20 (ix2 x y)
      = (dv P W DY (r0 + (row2 k x).val) y.val : EReal)

theorem emb4 (k : Fin k0_t2_loop.trips) (h : ∀ a, (k0_off4 k) a + (![16, 2048] : Fin 2 → ℕ) a ≤ S256x6144.size a) (x : Fin 16) (y : Fin 2048) :
    (Rect.unit (s := S256x6144) (k0_off4 k) ![16, 2048] h).emb (ix2 x y) = ix2 (row2 k x) ⟨2048 + y.val, by omega⟩ := by
  refine Shape.idx_ext₂ ?_ ?_ <;> simp [Rect.emb, Rect.unit, off4, row2]

theorem dprojR_mid (t : ℕ) (y : Fin 2048) : dprojR P LG LB W BS DY t (2048 + y.val) = dvv P LG W DY t y := by
  have h := y.isLt
  rw [dprojR, dif_neg (by omega), dif_pos (by omega)]
  exact congrArg _ (Fin.ext (by simp))

set_option maxHeartbeats 1000000 in
theorem trip2 {B3 B4 : S256x2048.Idx → EReal} {B5 : S256x1.Idx → EReal} {B6 : S1x1x2048.Idx → EReal} (h : In2 P LG r0 B3 B4 B5 B6)
    (𝒱 : Variants) (c : Dev nD) (bd : Option 𝒱.V) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x1 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x8x128x128 .f32) (harg9 : arg9.IsWhole) (arg10 : Memref sig .tc .vmem S1x8x128x1 .f32) (harg10 : arg10.IsWhole) (arg11 : Memref sig .tc .vmem S256x6144 .bf16) (harg11 : arg11.IsWhole) (arg12 : Memref sig .tc .vmem S8x128x128 .f32) (harg12 : arg12.IsWhole) (arg13 : Memref sig .tc .vmem S8x128 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S256x2048 .bf16) (harg16 : arg16.IsWhole) (arg17 : Memref sig .tc .vmem S256x2048 .f32) (harg17 : arg17.IsWhole) (arg18 : Memref sig .tc .vmem S256x2048 .f32) (harg18 : arg18.IsWhole) (arg19 : Memref sig .tc .vmem S256x2048 .bf16) (harg19 : arg19.IsWhole) (arg20 : Memref sig .tc .vmem S256x2048 .f32) (harg20 : arg20.IsWhole) (X20 : BufTy.Contents (Elt Ideal) arg20.view.ty) (hX : ReadsDv P W DY r0 arg20 X20) (k : Fin k0_t2_loop.trips) (f11 f14 f15) (T) (hT : tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg4.unread B3) (harg5.unread B4) (harg6.unread B5) (harg7.unread B6) X20 k f11 f14 f15 = T) :
    View.PiecesOf (Val := Elt Ideal) (gD P LG LB W BS DY r0) T.1 := by
  subst hT
  unfold tripL_k0_t2 trip_k0_t2
  dsimp only
  refine ⟨fun x => ?_, trivial⟩
  idx_vars x
  unfold_payloads
  simp only [trip_k0_t2.sl.v692, trip_k0_t2.sl.v712, trip_k0_t2.sl.v718, trip_k0_t2.sl.v721, trip_k0_t2.sl.v709, trip_k0_t2.sl.v717, trip_k0_t2.sl.v720, trip_k0_t2.sl.v691, trip_k0_t2.sl.v708, trip_k0_t2.sl.v716, trip_k0_t2.sl.v719, trip_k0_t2.sl.v715, trip_k0_t2.sl.v714, trip_k0_t2.sl.v707, trip_k0_t2.sl.v713, trip_k0_t2.sl.cst_550]
  unfold_payloads
  pointwise []
  simp only [read2, read2', read3, hX k, h.b3, h.b4, h.b5, h.b6]
  simp only [Lift.ofBits_2048, ← EReal.coe_mul, coe_sum]
  simp only [div_coe_coe _ (2048 : ℝ) (by norm_num), ← EReal.coe_mul, ← EReal.coe_sub]
  rw [emb4, gD]
  refine congrArg Real.toEReal (Eq.trans ?_ (dprojR_mid P LG LB W BS DY (r0 + (row2 k x0).val) x1).symm)
  simp only [dvv, lnGrad, dxh, ← xh_at]

set_option maxHeartbeats 1000000 in
theorem trip2b {B3 B4 : S256x2048.Idx → EReal} {B5 : S256x1.Idx → EReal} {B6 : S1x1x2048.Idx → EReal} (h : In2 P LG r0 B3 B4 B5 B6)
    (𝒱 : Variants) (c : Dev nD) (bd : Option 𝒱.V) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x1 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x8x128x128 .f32) (harg9 : arg9.IsWhole) (arg10 : Memref sig .tc .vmem S1x8x128x1 .f32) (harg10 : arg10.IsWhole) (arg11 : Memref sig .tc .vmem S256x6144 .bf16) (harg11 : arg11.IsWhole) (arg12 : Memref sig .tc .vmem S8x128x128 .f32) (harg12 : arg12.IsWhole) (arg13 : Memref sig .tc .vmem S8x128 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S256x2048 .bf16) (harg16 : arg16.IsWhole) (arg17 : Memref sig .tc .vmem S256x2048 .f32) (harg17 : arg17.IsWhole) (arg18 : Memref sig .tc .vmem S256x2048 .f32) (harg18 : arg18.IsWhole) (arg19 : Memref sig .tc .vmem S256x2048 .bf16) (harg19 : arg19.IsWhole) (arg20 : Memref sig .tc .vmem S256x2048 .f32) (harg20 : arg20.IsWhole) (X20 : BufTy.Contents (Elt Ideal) arg20.view.ty) (hX : ReadsDv P W DY r0 arg20 X20) (k : Fin k0_t2_loop.trips) (f11 f14 f15) (T) (hT : tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg4.unread B3) (harg5.unread B4) (harg6.unread B5) (harg7.unread B6) X20 k f11 f14 f15 = T) :
    T.2.1 = [⟨Rect.unit ![0, 0] ![1, 2048] inb_S1x2048_S1x2048_0_0, fun e => View.readAt (Elt Ideal) arg14.view (Rect.unit (s := S1x2048) ![0, 0] ![1, 2048] inb_S1x2048_S1x2048_0_0).toLoadRect f14 e + (∑ x : Fin 16, dv P W DY (r0 + (row2 k x).val) (e 1).val * xh P (r0 + (row2 k x).val) (e 1).val : ℝ)⟩]
      ∧ T.2.2 = [⟨Rect.unit ![0, 0] ![1, 2048] inb_S1x2048_S1x2048_0_0, fun e => View.readAt (Elt Ideal) arg15.view (Rect.unit (s := S1x2048) ![0, 0] ![1, 2048] inb_S1x2048_S1x2048_0_0).toLoadRect f15 e + (∑ x : Fin 16, dv P W DY (r0 + (row2 k x).val) (e 1).val : ℝ)⟩] := by
  subst hT
  unfold tripL_k0_t2 trip_k0_t2
  dsimp only
  refine ⟨congrArg (fun f => [(⟨Rect.unit ![0, 0] ![1, 2048] inb_S1x2048_S1x2048_0_0, f⟩ : View.Piece (Elt Ideal) S1x2048 .f32)]) (funext fun x => ?_),
    congrArg (fun f => [(⟨Rect.unit ![0, 0] ![1, 2048] inb_S1x2048_S1x2048_0_0, f⟩ : View.Piece (Elt Ideal) S1x2048 .f32)]) (funext fun x => ?_)⟩
  all_goals
    idx_vars x
    simp only [trip_k0_t2.sl.v698, trip_k0_t2.sl.v704, trip_k0_t2.sl.v691]
    try unfold_payloads
    pointwise []
    simp only [trip_k0_t2.sl.v694, trip_k0_t2.sl.v701, trip_k0_t2.sl.v697, trip_k0_t2.sl.v703]
    try unfold_payloads
    pointwise []
    simp only [trip_k0_t2.sl.v696, trip_k0_t2.sl.v702]
    try unfold_payloads
    try pointwise []
    try (simp only [trip_k0_t2.sl.v695]; pointwise [])
    try (simp only [trip_k0_t2.sl.v692]; pointwise [])
    try (simp only [trip_k0_t2.sl.v691]; pointwise [])
    simp only [read2, hX k, h.b3, ← EReal.coe_mul, coe_sum]

/-- The sum of `D` over the first `n` rows of the grid point. -/
def part (D : ℕ → ℕ → ℝ) (n e : ℕ) : ℝ := ∑ m ∈ Finset.range n, D (r0 + m) e

theorem part_succ (D : ℕ → ℕ → ℝ) (k : Fin k0_t2_loop.trips) (e : ℕ) :
    part r0 D (16 * (k.val + 1)) e = part r0 D (16 * k.val) e + ∑ x : Fin 16, D (r0 + (row2 k x).val) e := by
  rw [part, part, show 16 * (k.val + 1) = 16 * k.val + 16 by ring, Finset.sum_range_add, Finset.sum_range (n := 16)]
  rfl

/-- The stores of a list leave, over what stood there (`A`), the sums over the first `16 * n` rows. -/
def Summed (D : ℕ → ℕ → ℝ) (A : S1x2048.Idx → EReal) (m : Memref sig .tc .vmem S1x2048 .f32) (G : BufTy.Contents (Elt Ideal) m.view.ty) (n : ℕ)
    (L : List (View.Piece (Elt Ideal) S1x2048 .f32)) : Prop :=
  (∀ y, View.readAt (Elt Ideal) m.view (Rect.unit (s := S1x2048) ![0, 0] ![1, 2048] inb_S1x2048_S1x2048_0_0).toLoadRect (m.view.writes (Elt Ideal) G L) y
      = A y + (part r0 D (16 * n) (y 1).val : EReal))
    ∧ (0 < n → ∀ L', View.canon (L ++ L') = fun y => A y + (part r0 D (16 * n) (y 1).val : EReal))

theorem Summed.step {D : ℕ → ℕ → ℝ} {A : S1x2048.Idx → EReal} {m : Memref sig .tc .vmem S1x2048 .f32} {G : BufTy.Contents (Elt Ideal) m.view.ty}
    (k : Fin k0_t2_loop.trips) {L : List (View.Piece (Elt Ideal) S1x2048 .f32)} (h : Summed r0 D A m G k.val L) (L1) (h1 : L1 = [⟨Rect.unit ![0, 0] ![1, 2048] inb_S1x2048_S1x2048_0_0, fun e =>
      View.readAt (Elt Ideal) m.view (Rect.unit (s := S1x2048) ![0, 0] ![1, 2048] inb_S1x2048_S1x2048_0_0).toLoadRect (m.view.writes (Elt Ideal) G L) e
        + (∑ x : Fin 16, D (r0 + (row2 k x).val) (e 1).val : ℝ)⟩]) : Summed r0 D A m G (k.val + 1) (L1 ++ L) := by
  subst h1
  have e : (fun e : S1x2048.Idx => View.readAt (Elt Ideal) m.view (Rect.unit (s := S1x2048) ![0, 0] ![1, 2048] inb_S1x2048_S1x2048_0_0).toLoadRect (m.view.writes (Elt Ideal) G L) e
        + (∑ x : Fin 16, D (r0 + (row2 k x).val) (e 1).val : ℝ)) = fun y => A y + (part r0 D (16 * (k.val + 1)) (y 1).val : EReal) := funext fun y => by
    rw [h.1 y, part_succ, EReal.coe_add, add_assoc]
  refine ⟨fun y => ?_, fun _ L' => ?_⟩
  · exact (congrFun (View.readAt_writes_full m.view G (off := ![0, 0]) (off' := ![0, 0]) inb_S1x2048_S1x2048_0_0 inb_S1x2048_S1x2048_0_0 _ L) y).trans (congrFun e y)
  · exact (View.canon_cons_unit_lit (S := S1x2048) (off := ![0, 0]) inb_S1x2048_S1x2048_0_0 _ (L ++ L') (by decide)).trans e

theorem mem4 (k : Fin k0_t2_loop.trips) (h : ∀ a, (k0_off4 k) a + (![16, 2048] : Fin 2 → ℕ) a ≤ S256x6144.size a) (y : S256x6144.Idx)
    (h1 : 16 * k.val ≤ (y 0).val) (h2 : (y 0).val < 16 * (k.val + 1)) (h3 : 2048 ≤ (y 1).val) (h4 : (y 1).val < 4096) :
    y ∈ (Rect.unit (s := S256x6144) (k0_off4 k) ![16, 2048] h).set := by
  rw [Rect.mem_set_unit]
  intro a
  rw [off4]
  match a with
  | ⟨0, _⟩ => exact ⟨h1, by show (y 0).val < 16 * k.val + 16; omega⟩
  | ⟨1, _⟩ => exact ⟨h3, by show (y 1).val < 2048 + 2048; omega⟩

theorem inb4 (k : Fin k0_t2_loop.trips) : ∀ a, (k0_off4 k) a + (![16, 2048] : Fin 2 → ℕ) a ≤ S256x6144.size a := by
  have := k.isLt
  have := trips2
  rw [off4]
  intro a
  match a with
  | ⟨0, _⟩ => show 16 * k.val + 16 ≤ 256; omega
  | ⟨1, _⟩ => show 2048 + 2048 ≤ 6144; omega

set_option maxHeartbeats 1000000 in
theorem loop2 {B3 B4 : S256x2048.Idx → EReal} {B5 : S256x1.Idx → EReal} {B6 : S1x1x2048.Idx → EReal} (h : In2 P LG r0 B3 B4 B5 B6)
    (𝒱 : Variants) (c : Dev nD) (bd : Option 𝒱.V) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x1 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x8x128x128 .f32) (harg9 : arg9.IsWhole) (arg10 : Memref sig .tc .vmem S1x8x128x1 .f32) (harg10 : arg10.IsWhole) (arg11 : Memref sig .tc .vmem S256x6144 .bf16) (harg11 : arg11.IsWhole) (arg12 : Memref sig .tc .vmem S8x128x128 .f32) (harg12 : arg12.IsWhole) (arg13 : Memref sig .tc .vmem S8x128 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S256x2048 .bf16) (harg16 : arg16.IsWhole) (arg17 : Memref sig .tc .vmem S256x2048 .f32) (harg17 : arg17.IsWhole) (arg18 : Memref sig .tc .vmem S256x2048 .f32) (harg18 : arg18.IsWhole) (arg19 : Memref sig .tc .vmem S256x2048 .bf16) (harg19 : arg19.IsWhole) (arg20 : Memref sig .tc .vmem S256x2048 .f32) (harg20 : arg20.IsWhole) (X20 : BufTy.Contents (Elt Ideal) arg20.view.ty) (hX : ReadsDv P W DY r0 arg20 X20)
    (G11 : BufTy.Contents (Elt Ideal) arg11.view.ty) (G14 : BufTy.Contents (Elt Ideal) arg14.view.ty) (G15 : BufTy.Contents (Elt Ideal) arg15.view.ty) (A14 A15 : S1x2048.Idx → EReal)
    (h14 : View.readAt (Elt Ideal) arg14.view (Rect.unit (s := S1x2048) ![0, 0] ![1, 2048] inb_S1x2048_S1x2048_0_0).toLoadRect G14 = A14)
    (h15 : View.readAt (Elt Ideal) arg15.view (Rect.unit (s := S1x2048) ![0, 0] ![1, 2048] inb_S1x2048_S1x2048_0_0).toLoadRect G15 = A15) :
    ∀ (n : ℕ) (hn : n ≤ 16) (L) (hL : pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg4.unread B3) (harg5.unread B4) (harg6.unread B5) (harg7.unread B6) X20 G11 G14 G15 n = L),
    (View.PiecesOf (Val := Elt Ideal) (gD P LG LB W BS DY r0) L.1 ∧ ∀ y : S256x6144.Idx, (y 0).val < 16 * n → 2048 ≤ (y 1).val → (y 1).val < 4096 → ∃ p ∈ L.1, y ∈ p.1.set)
      ∧ Summed r0 (fun t e => dv P W DY t e * xh P t e) A14 arg14 G14 n L.2.1 ∧ Summed r0 (fun t e => dv P W DY t e) A15 arg15 G15 n L.2.2 := by
  intro n
  induction n with
  | zero =>
    rintro - L rfl
    refine ⟨⟨trivial, fun y hy => absurd hy (by simp)⟩, ⟨fun y => ?_, fun h => absurd h (by simp)⟩, ⟨fun y => ?_, fun h => absurd h (by simp)⟩⟩
    · simp only [part, Nat.mul_zero, Finset.range_zero, Finset.sum_empty, EReal.coe_zero, add_zero]; exact congrFun h14 y
    · simp only [part, Nat.mul_zero, Finset.range_zero, Finset.sum_empty, EReal.coe_zero, add_zero]; exact congrFun h15 y
  | succ n ih =>
    rintro hn L rfl
    have hk : n < k0_t2_loop.trips := by rw [trips2]; omega
    have e := pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg4.unread B3) (harg5.unread B4) (harg6.unread B5) (harg7.unread B6) X20 G11 G14 G15 ⟨n, hk⟩
    obtain ⟨⟨i1, i1'⟩, i2, i3⟩ := ih (by omega) _ rfl
    have T := trip2 P LG LB W BS DY r0 h 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X20 hX ⟨n, hk⟩
    have T' := trip2b P LG W DY r0 h 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X20 hX ⟨n, hk⟩
    rw [e]
    refine ⟨⟨piecesOf_append (T _ _ _ _ rfl) i1, fun y h1 h2 h3 => ?_⟩, i2.step r0 ⟨n, hk⟩ _ (T' _ _ _ _ rfl).1, i3.step r0 ⟨n, hk⟩ _ (T' _ _ _ _ rfl).2⟩
    by_cases h0 : (y 0).val < 16 * n
    · obtain ⟨p, hp, hm⟩ := i1' y h0 h2 h3
      exact ⟨p, List.mem_append_right _ hp, hm⟩
    · unfold tripL_k0_t2 trip_k0_t2
      refine ⟨_, List.mem_append_left _ (List.mem_singleton.mpr rfl), ?_⟩
      exact mem4 ⟨n, hk⟩ (inb4 _) y (not_lt.mp h0) h1 h2 h3

end Cert.AMixIdeal.Pair

end
-- ==== Proof.AMixScalar.lean ====
module
public import proofs.«01_k».proof.Proof.AMixSpec

/-! # The mixer's scalar functions and its norm's statistics in extended reals

The programs' formulas with their constants' words, at real arguments. -/

@[expose] public section
noncomputable section

namespace Cert.AMixSpec
open Idealize.ShloMosaic Cert.Lift

theorem ofBits_cc : Ideal.ofBits .f32 0x3F4C422A#32 = ((cc : ℝ) : EReal) := by
  simp [Ideal.ofBits, Ideal.ieee, cc, -EReal.coe_mul]; norm_num

theorem coef_a : Ideal.div (Ideal.ofBits .f32 0x472EAB00#32) (Ideal.ofBits .f32 0x49742400#32) = ((ca : ℝ) : EReal) := by
  have e : Ideal.ofBits .f32 0x472EAB00#32 = ((44715 : ℝ) : EReal) := by
    simp [Ideal.ofBits, Ideal.ieee, -EReal.coe_mul]; norm_num
  have f : Ideal.ofBits .f32 0x49742400#32 = ((1000000 : ℝ) : EReal) := by
    simp [Ideal.ofBits, Ideal.ieee, -EReal.coe_mul]; norm_num
  rw [e, f, div_coe_coe _ _ (by norm_num), ca]; norm_num

theorem coef_3a : Ideal.div (Ideal.ofBits .f32 0x48030040#32) (Ideal.ofBits .f32 0x49742400#32) = ((3 * ca : ℝ) : EReal) := by
  have e : Ideal.ofBits .f32 0x48030040#32 = ((134145 : ℝ) : EReal) := by
    simp [Ideal.ofBits, Ideal.ieee, -EReal.coe_mul]; norm_num
  have f : Ideal.ofBits .f32 0x49742400#32 = ((1000000 : ℝ) : EReal) := by
    simp [Ideal.ofBits, Ideal.ieee, -EReal.coe_mul]; norm_num
  rw [e, f, div_coe_coe _ _ (by norm_num), ca]; norm_num

/-- The hyperbolic tangent in the GELU. -/
theorem th_coe (x : ℝ) : Ideal.tanh (Ideal.ofBits .f32 0x3F4C422A#32 * ((x : EReal)
    + Ideal.div (Ideal.ofBits .f32 0x472EAB00#32) (Ideal.ofBits .f32 0x49742400#32) * ((x : EReal) * x * x)))
    = ((th x : ℝ) : EReal) := by
  simp only [ofBits_cc, coef_a, ← EReal.coe_mul, ← EReal.coe_add, Ideal.tanh_coe, th]

/-- The GELU as the kernel's side computes it. -/
theorem ge_coe (x : ℝ) : Ideal.ofBits .f32 0x3F000000#32 * (x : EReal) * (1 + ((th x : ℝ) : EReal)) = ((ge x : ℝ) : EReal) := by
  simp only [ofBits_half, ← EReal.coe_one, ← EReal.coe_mul, ← EReal.coe_add]
  congr 1; rw [ge]; ring

/-- The GELU's derivative as the kernel's side computes it. -/
theorem ge'_coe (x : ℝ) : Ideal.ofBits .f32 0x3F000000#32 * (1 + ((th x : ℝ) : EReal)) + Ideal.ofBits .f32 0x3F000000#32 * (x : EReal)
    * (1 - ((th x : ℝ) : EReal) * ((th x : ℝ) : EReal)) * (Ideal.ofBits .f32 0x3F4C422A#32 * (1
      + Ideal.div (Ideal.ofBits .f32 0x48030040#32) (Ideal.ofBits .f32 0x49742400#32) * ((x : EReal) * x))) = ((ge' x : ℝ) : EReal) := by
  simp only [ofBits_half, ofBits_cc, coef_3a, ← EReal.coe_one, ← EReal.coe_mul, ← EReal.coe_add, ← EReal.coe_sub]
  rfl

theorem mean_coe (v : Fin 2048 → ℝ) : Ideal.div (∑ k, (v k : EReal)) (Ideal.ofBits .f32 0x45000000#32) = ((mean v : ℝ) : EReal) := by
  rw [coe_sum, ofBits_2048, div_coe_coe _ _ (by norm_num)]; rfl

theorem inv_coe (v : Fin 2048 → ℝ) : Ideal.rsqrt (Ideal.div (∑ k, ((v k : EReal) - (mean v : EReal)) * ((v k : EReal) - (mean v : EReal)))
    (Ideal.ofBits .f32 0x45000000#32) + Ideal.ofBits .f32 0x358637BD#32) = ((inv v : ℝ) : EReal) := by
  simp only [← EReal.coe_sub, ← EReal.coe_mul]
  rw [coe_sum, ofBits_2048, ofBits_eps, div_coe_coe _ _ (by norm_num), ← EReal.coe_add]
  exact rsqrt_pos _ (var_pos v)

theorem sle_ofNat : ∀ x y : Fin 2, IntOp.cmpi CmpIPredicate.sle (BitVec.ofNat 32 x.val) (BitVec.ofNat 32 y.val) = if x.val ≤ y.val then 1#1 else 0#1 := by
  decide +kernel

/-- A choice by the mask. -/
theorem sel (x y : Fin 128) (a b : EReal) :
    Scalar.select (IntOp.cmpi CmpIPredicate.sle (BitVec.ofNat 32 (x.val / 64)) (BitVec.ofNat 32 (y.val / 64))) a b
      = if x.val / 64 ≤ y.val / 64 then a else b := by
  have e := sle_ofNat ⟨x.val / 64, by omega⟩ ⟨y.val / 64, by omega⟩
  rw [e]
  by_cases h : x.val / 64 ≤ y.val / 64
  · rw [if_pos h, if_pos h]; rfl
  · rw [if_neg h, if_neg h]; rfl

end Cert.AMixSpec

end
-- ==== Proof.AMixMid.lean ====
module
public import proofs.«01_k».proof.Proof.AMixLoop2
public import proofs.«01_k».proof.Proof.AMixScalar
public import proofs.«01_k».proof.Proof.Gen.AMixIdeal.Value

/-! # What a grid point leaves, from the two loops and the stores between them -/

@[expose] public section
set_option maxRecDepth 16384
noncomputable section
namespace Cert.AMixIdeal.Pair
open Idealize.ShloMosaic Idealize.ShloMosaic.Pointwise Idealize.SL Cert.AMixIdeal.Gen Cert.AMixSpec Cert.Lift

variable (P : S4096x6144.Idx → ℝ) (LG LB : S2048.Idx → ℝ) (W : S8x128x128.Idx → ℝ) (BS : S8x128.Idx → ℝ) (DY : S4096x2048.Idx → ℝ) (r0 : ℕ)

/-- What the blocks of the mixing matrices and the biases hold, over the reals. -/
structure In8 (B8 : S1x8x128x128.Idx → EReal) (B9 : S1x8x128x1.Idx → EReal) : Prop where
  b8 : ∀ g p q, B8 (ix4 0 g p q) = (wide3 W g.val p.val q.val : EReal)
  b9 : ∀ g p, B9 (ix4 0 g p 0) = (wide BS g.val p.val : EReal)

/-- The cotangents `dv` of the grid point's rows. -/
def gDv (i : S256x2048.Idx) : EReal := (dv P W DY (r0 + (i 0).val) (i 1).val : ℝ)

/-- The stores of `dv` cover its memory, so that the second loop finds them. -/
theorem readsDv (L : List (View.Piece (Elt Ideal) S256x2048 .f32)) (h : View.PiecesOf (Val := Elt Ideal) (gDv P W DY r0) L)
    (hc : ∀ y : S256x2048.Idx, ∃ p ∈ L, y ∈ p.1.set) :
    ReadsDv P W DY r0 scM0_4 ((View.whole cc0_scratch4).writes (Elt Ideal) (View.whole cc0_scratch4).junk L) := by
  intro k hi x y
  refine (congrFun (View.readAt_writes_junk_eq_canon (Val := Elt Ideal) (View.whole cc0_scratch4) L _) _).trans ?_
  refine (congrArg (View.canon L) (emb2 k hi x y)).trans ?_
  have e := View.canon_append_of_piecesOf (gDv P W DY r0) [] L h (ix2 (row2 k x) y) (hc _)
  rw [List.append_nil] at e
  exact e

/-- The two thirds stored between the loops and the third stored by the second loop together are the projection's gradient. -/
theorem dp_of {B3 B4 : S256x2048.Idx → EReal} {B5 : S256x1.Idx → EReal} {B6 : S1x1x2048.Idx → EReal} (h : In2 P LG r0 B3 B4 B5 B6)
    (𝒱 : Variants) (c : Dev nD) (bd : Option 𝒱.V) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x1 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x8x128x128 .f32) (harg9 : arg9.IsWhole) (arg10 : Memref sig .tc .vmem S1x8x128x1 .f32) (harg10 : arg10.IsWhole) (arg11 : Memref sig .tc .vmem S256x6144 .bf16) (harg11 : arg11.IsWhole) (arg12 : Memref sig .tc .vmem S8x128x128 .f32) (harg12 : arg12.IsWhole) (arg13 : Memref sig .tc .vmem S8x128 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S256x2048 .bf16) (harg16 : arg16.IsWhole) (arg17 : Memref sig .tc .vmem S256x2048 .f32) (harg17 : arg17.IsWhole) (arg18 : Memref sig .tc .vmem S256x2048 .f32) (harg18 : arg18.IsWhole) (arg19 : Memref sig .tc .vmem S256x2048 .bf16) (harg19 : arg19.IsWhole) (arg20 : Memref sig .tc .vmem S256x2048 .f32) (harg20 : arg20.IsWhole) (X20 : BufTy.Contents (Elt Ideal) arg20.view.ty) (hX : ReadsDv P W DY r0 arg20 X20)
    (G11 : BufTy.Contents (Elt Ideal) arg11.view.ty) (G14 : BufTy.Contents (Elt Ideal) arg14.view.ty) (G15 : BufTy.Contents (Elt Ideal) arg15.view.ty)
    (L : List (View.Piece (Elt Ideal) S256x6144 .bf16)) (hL : View.PiecesOf (Val := Elt Ideal) (gD P LG LB W BS DY r0) (L.take 32))
    (hc : ∀ y : S256x6144.Idx, (y 1).val < 2048 ∨ 4096 ≤ (y 1).val → ∃ p ∈ L.take 32, y ∈ p.1.set) :
    View.canon ((pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg4.unread B3) (harg5.unread B4) (harg6.unread B5) (harg7.unread B6) X20 G11 G14 G15 16).1 ++ L) = gD P LG LB W BS DY r0 := by
  obtain ⟨⟨h1, h2⟩, -⟩ := loop2 P LG LB W BS DY r0 h 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X20 hX G11 G14 G15 _ _ rfl rfl 16 le_rfl _ rfl
  rw [← List.take_append_drop 32 L, ← List.append_assoc]
  refine funext fun y => View.canon_append_of_piecesOf _ _ _ (piecesOf_append h1 hL) y ?_
  have hy : (y 0).val < 256 := (y 0).isLt
  by_cases hm : (y 1).val < 2048 ∨ 4096 ≤ (y 1).val
  · obtain ⟨p, hp, hm⟩ := hc y hm
    exact ⟨p, List.mem_append_right _ hp, hm⟩
  · obtain ⟨p, hp, hm⟩ := h2 y (by omega) (by omega) (by omega)
    exact ⟨p, List.mem_append_left _ hp, hm⟩

/-- A read of a filled memory. -/
theorem readCov_filled {κ sp} {e : EltTy} {v : View sig κ sp S256x2048 e} {G : S256x2048.Idx → Elt Ideal e} {L : List (View.Piece (Elt Ideal) S256x2048 e)}
    (h : Filled G rows 256 L) (a b : ℕ) (hi : ∀ x, (![a, b] : Fin 2 → ℕ) x + (![128, 256] : Fin 2 → ℕ) x ≤ S256x2048.size x) (p : Fin 128) (c : Fin 256) (hp hc) :
    v.readCov L (Rect.unit (s := S256x2048) ![a, b] ![128, 256] hi).toLoadRect (ix2 p c) = G (ix2 ⟨a + p.val, hp⟩ ⟨b + c.val, hc⟩) := by
  rw [View.readCov_eq_canon']
  have e := h.canon (fun y => (y 0).isLt) []
  rw [List.append_nil] at e
  rw [e]
  refine congrArg G (Shape.idx_ext₂ ?_ ?_) <;> simp [Rect.unit, Rect.toLoadRect, LoadRect.idx]

/-! ## The mask -/

/-- The kernel's floor division of a place by 64. -/
theorem fd : ∀ x : Fin 128, Scalar.select
    (IntOp.andi
      (IntOp.cmpi CmpIPredicate.ne
        (IntOp.subi (BitVec.setWidth 32 (IntOp.cmpi CmpIPredicate.sgt (BitVec.ofNat 32 x.val) 0#32))
          (BitVec.setWidth 32 (IntOp.cmpi CmpIPredicate.slt (BitVec.ofNat 32 x.val) 0#32))) 1#32)
      (IntOp.cmpi CmpIPredicate.ne (IntOp.remsi ArithUnit.vector (BitVec.ofNat 32 x.val) 64#32) 0#32))
    (IntOp.subi (IntOp.divsi ArithUnit.vector (BitVec.ofNat 32 x.val) 64#32) 1#32)
    (IntOp.divsi ArithUnit.vector (BitVec.ofNat 32 x.val) 64#32) = BitVec.ofNat 32 (x.val / 64) := by decide +kernel

theorem fd' (x : Fin 128) : Scalar.select
    (IntOp.andi
      (IntOp.cmpi CmpIPredicate.ne
        (IntOp.subi (BitVec.setWidth 32 (IntOp.cmpi CmpIPredicate.sgt (BitVec.ofNat 32 x.val) 0#32))
          (BitVec.setWidth 32 (IntOp.cmpi CmpIPredicate.slt (BitVec.ofNat 32 x.val) 0#32)))
          (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector (BitVec.ofNat 32 x.val) 64#32) 0#32))
    (IntOp.subi (IntOp.divsi ArithUnit.vector (BitVec.ofNat 32 x.val) 64#32) 1#32)
    (IntOp.divsi ArithUnit.vector (BitVec.ofNat 32 x.val) 64#32) = BitVec.ofNat 32 (x.val / 64) := fd x

/-! ## The stores between the loops -/

section Pieces
variable {P LG LB W BS DY r0}

theorem mixed_at (hr : r0 % 128 = 0) {a b g : ℕ} (ha : a % 128 = 0) (hb : b = 256 * g) (p : Fin 128) (c : Fin 256) :
    mixed P LG LB W BS (r0 + (a + p.val)) (b + c.val)
      = (∑ q : Fin 128, wm W g p.val q.val * vn P LG LB (r0 + (a + q.val)) (b + c.val)) + wide BS g p.val := by
  have h1 : (b + c.val) / 256 = g := by omega
  have h2 : (r0 + (a + p.val)) % 128 = p.val := by omega
  have h3 : ∀ q, (r0 + (a + p.val)) / 128 * 128 + q = r0 + (a + q) := by intro q; omega
  rw [mixed, h1, h2]
  simp only [h3]

theorem dv_at (hr : r0 % 128 = 0) {a b g : ℕ} (ha : a % 128 = 0) (hb : b = 256 * g) (p : Fin 128) (c : Fin 256) :
    dv P W DY (r0 + (a + p.val)) (b + c.val) = ∑ q : Fin 128, wm W g q.val p.val * dm P DY (r0 + (a + q.val)) (b + c.val) := by
  have h1 : (b + c.val) / 256 = g := by omega
  have h2 : (r0 + (a + p.val)) % 128 = p.val := by omega
  have h3 : ∀ q, (r0 + (a + p.val)) / 128 * 128 + q = r0 + (a + q) := by intro q; omega
  rw [dv, h1, h2]
  simp only [h3]

theorem ite_mul_coe {c : Prop} [Decidable c] (a b : ℝ) : (if c then (a : EReal) * (b : EReal) else 0) = (((if c then a else 0) * b : ℝ) : EReal) := by
  by_cases h : c
  · simp only [if_pos h, EReal.coe_mul]
  · simp only [if_neg h, zero_mul, EReal.coe_zero]

theorem embAt {r cmax a b : ℕ} (hi : ∀ x, (![a, b] : Fin 2 → ℕ) x + (![128, 256] : Fin 2 → ℕ) x ≤ (⟨2, ![r, cmax]⟩ : Shape).size x) (p : Fin 128) (c : Fin 256) (h1 h2) :
    (Rect.unit (s := ⟨2, ![r, cmax]⟩) ![a, b] ![128, 256] hi).emb (ix2 p c) = ix2 ⟨a + p.val, h1⟩ ⟨b + c.val, h2⟩ := by
  refine Shape.idx_ext₂ ?_ ?_ <;> simp [Rect.emb, Rect.unit]

theorem dv_piece {B8 B9} (h8 : In8 W BS B8 B9) (hr : r0 % 128 = 0) {κ sp} {v : View sig κ sp S256x2048 .bf16}
    {L : List (View.Piece (Elt Ideal) S256x2048 .bf16)} (hL : Filled (gC P DY r0) rows 256 L) (g : Fin 8) (a b : ℕ) (ha : a % 128 = 0) (hb : b = 256 * g.val) (hi hi')
    (p : Fin 128) (c : Fin 256) :
    (∑ x : Fin 128, if p.val / 64 ≤ x.val / 64 then B8 (ix4 0 g x p) * v.readCov L (Rect.unit (s := S256x2048) ![a, b] ![128, 256] hi).toLoadRect (ix2 x c) else 0)
      = gDv P W DY r0 ((Rect.unit (s := S256x2048) ![a, b] ![128, 256] hi').emb (ix2 p c)) := by
  have h1 : a + 128 ≤ 256 := hi 0
  have h2 : b + 256 ≤ 2048 := hi 1
  rw [embAt hi' p c (by omega) (by omega)]
  have e : ∀ x : Fin 128, v.readCov L (Rect.unit (s := S256x2048) ![a, b] ![128, 256] hi).toLoadRect (ix2 x c) = (dm P DY (r0 + (a + x.val)) (b + c.val) : EReal) :=
    fun x => readCov_filled hL a b hi x c (by omega) (by omega)
  simp only [e, h8.b8, ite_mul_coe, coe_sum]
  exact congrArg Real.toEReal (dv_at hr ha hb p c).symm

theorem mixed_piece {B8 B9} (h8 : In8 W BS B8 B9) (hr : r0 % 128 = 0) {κ sp κ' sp'} {v : View sig κ sp S256x2048 .bf16} {v' : View sig κ' sp' S256x2048 .f32}
    {L : List (View.Piece (Elt Ideal) S256x2048 .bf16)} (hL : Filled (gV P LG LB r0) rows 256 L)
    {L' : List (View.Piece (Elt Ideal) S256x2048 .f32)} {f : ℕ → ℕ → ℝ} (hL' : Filled (e := .f32) (fun i => (f (r0 + (i 0).val) (i 1).val : EReal)) rows 256 L')
    (g : Fin 8) (a b b' : ℕ) (ha : a % 128 = 0) (hb : b = 256 * g.val)
    (hf : ∀ (t : ℕ) (c : Fin 256), dprojR P LG LB W BS DY t (b' + c.val) = f t (b + c.val) * mixed P LG LB W BS t (b + c.val)) (hi hi' hi'')
    (p : Fin 128) (c : Fin 256) :
    v'.readCov L' (Rect.unit (s := S256x2048) ![a, b] ![128, 256] hi').toLoadRect (ix2 p c)
        * ((∑ x : Fin 128, if x.val / 64 ≤ p.val / 64 then B8 (ix4 0 g p x) * v.readCov L (Rect.unit (s := S256x2048) ![a, b] ![128, 256] hi).toLoadRect (ix2 x c) else 0)
          + B9 (ix4 0 g p 0))
      = gD P LG LB W BS DY r0 ((Rect.unit (s := S256x6144) ![a, b'] ![128, 256] hi'').emb (ix2 p c)) := by
  have h1 : a + 128 ≤ 256 := hi 0
  have h2 : b + 256 ≤ 2048 := hi 1
  have h3 : b' + 256 ≤ 6144 := hi'' 1
  rw [embAt hi'' p c (by omega) (by omega)]
  have e : ∀ x : Fin 128, v.readCov L (Rect.unit (s := S256x2048) ![a, b] ![128, 256] hi).toLoadRect (ix2 x c) = (vn P LG LB (r0 + (a + x.val)) (b + c.val) : EReal) :=
    fun x => readCov_filled hL a b hi x c (by omega) (by omega)
  have e' : v'.readCov L' (Rect.unit (s := S256x2048) ![a, b] ![128, 256] hi').toLoadRect (ix2 p c) = (f (r0 + (a + p.val)) (b + c.val) : EReal) :=
    readCov_filled hL' a b hi' p c (by omega) (by omega)
  simp only [e, e', h8.b8, h8.b9, ite_mul_coe, coe_sum]
  rw [← EReal.coe_add, ← EReal.coe_mul]
  exact congrArg Real.toEReal (((hf _ c).trans (congrArg _ (mixed_at hr ha hb p c))).symm)

theorem dprojR_u (t e : ℕ) (h : e < 2048) : dprojR P LG LB W BS DY t e = fu P DY t e * mixed P LG LB W BS t e := by rw [dprojR, dif_pos h]
theorem dprojR_z (t e : ℕ) : dprojR P LG LB W BS DY t (4096 + e) = fz P DY t e * mixed P LG LB W BS t e := by
  rw [dprojR, dif_neg (by omega), dif_neg (by omega), show 4096 + e - 4096 = e by omega]

theorem u_third {b : ℕ} (hb : b + 256 ≤ 2048) (t : ℕ) (c : Fin 256) : dprojR P LG LB W BS DY t (b + c.val) = fu P DY t (b + c.val) * mixed P LG LB W BS t (b + c.val) :=
  dprojR_u t _ (by omega)
theorem z_third {b b' : ℕ} (hb : b' = 4096 + b) (t : ℕ) (c : Fin 256) : dprojR P LG LB W BS DY t (b' + c.val) = fz P DY t (b + c.val) * mixed P LG LB W BS t (b + c.val) := by
  rw [hb, Nat.add_assoc, dprojR_z]

theorem mem_tile {r cmax a b : ℕ} {hi : ∀ x, (![a, b] : Fin 2 → ℕ) x + (![128, 256] : Fin 2 → ℕ) x ≤ (⟨2, ![r, cmax]⟩ : Shape).size x} {y : (⟨2, ![r, cmax]⟩ : Shape).Idx}
    (h : a ≤ (y 0).val ∧ (y 0).val < a + 128 ∧ b ≤ (y 1).val ∧ (y 1).val < b + 256) :
    y ∈ (Rect.unit (s := ⟨2, ![r, cmax]⟩) ![a, b] ![128, 256] hi).set := by
  rw [Rect.mem_set_unit]
  intro x
  match x with
  | ⟨0, _⟩ => exact ⟨h.1, h.2.1⟩
  | ⟨1, _⟩ => exact h.2.2

theorem mem_of_map {s : Shape} {e : EltTy} {L : List (View.Piece (Elt Ideal) s e)} {R : List (Rect s)} (h : L.map (fun p => p.1) = R) {y : s.Idx} {r : Rect s}
    (hr : r ∈ R) (hy : y ∈ r.set) : ∃ p ∈ L, y ∈ p.1.set := by
  rw [← h] at hr
  obtain ⟨p, hp, e⟩ := List.mem_map.mp hr
  exact ⟨p, hp, e ▸ hy⟩

/-- The order in which the stores between the loops go over the groups and the chunks, the last store first. -/
def order : List (Fin 8 × Fin 2) := [(7, 1), (7, 0), (6, 1), (6, 0), (5, 1), (5, 0), (4, 1), (4, 0), (3, 1), (3, 0), (2, 1), (2, 0), (1, 1), (1, 0), (0, 1), (0, 0)]
theorem order_mem : ∀ g b, (g, b) ∈ order := by decide

/-- The tile of `dv` of a group and a chunk. -/
def tile (q : Fin 8 × Fin 2) : Rect S256x2048 := Rect.unit ![128 * q.2.val, 256 * q.1.val] ![128, 256] (by
  intro x
  have := q.1.isLt
  have := q.2.isLt
  match x with
  | ⟨0, _⟩ => show 128 * q.2.val + 128 ≤ 256; omega
  | ⟨1, _⟩ => show 256 * q.1.val + 256 ≤ 2048; omega)

/-- The tile of a group and a chunk in the third of the projection's gradient that begins at column `4096 * s`. -/
def tileD (s : Fin 2) (q : Fin 8 × Fin 2) : Rect S256x6144 := Rect.unit ![128 * q.2.val, 4096 * s.val + 256 * q.1.val] ![128, 256] (by
  intro x
  have := q.1.isLt
  have := q.2.isLt
  have := s.isLt
  match x with
  | ⟨0, _⟩ => show 128 * q.2.val + 128 ≤ 256; omega
  | ⟨1, _⟩ => show 4096 * s.val + 256 * q.1.val + 256 ≤ 6144; omega)

theorem cov_dv {L : List (View.Piece (Elt Ideal) S256x2048 .f32)} (h : L.map (fun p => p.1) = order.map tile) (y : S256x2048.Idx) : ∃ p ∈ L, y ∈ p.1.set := by
  have h0 : (y 0).val < 256 := (y 0).isLt
  have h1 : (y 1).val < 2048 := (y 1).isLt
  refine mem_of_map h (List.mem_map_of_mem (order_mem ⟨(y 1).val / 256, by omega⟩ ⟨(y 0).val / 128, by omega⟩)) (mem_tile ?_)
  dsimp only
  omega

theorem cov_dp {L : List (View.Piece (Elt Ideal) S256x6144 .bf16)} (h : L.map (fun p => p.1) = order.flatMap (fun q => [tileD 1 q, tileD 0 q])) (y : S256x6144.Idx)
    (hy : (y 1).val < 2048 ∨ 4096 ≤ (y 1).val) : ∃ p ∈ L, y ∈ p.1.set := by
  have h0 : (y 0).val < 256 := (y 0).isLt
  have h1 : (y 1).val < 6144 := (y 1).isLt
  rcases hy with hy | hy
  · refine mem_of_map h (List.mem_flatMap.mpr ⟨_, order_mem ⟨(y 1).val / 256, by omega⟩ ⟨(y 0).val / 128, by omega⟩, List.mem_cons_of_mem _ List.mem_cons_self⟩) (mem_tile ?_)
    dsimp only
    show _ ∧ _ ∧ 4096 * 0 + _ ≤ _ ∧ _ < 4096 * 0 + _ + _
    omega
  · refine mem_of_map h (List.mem_flatMap.mpr ⟨_, order_mem ⟨((y 1).val - 4096) / 256, by omega⟩ ⟨(y 0).val / 128, by omega⟩, List.mem_cons_self⟩) (mem_tile ?_)
    dsimp only
    show _ ∧ _ ∧ 4096 * 1 + _ ≤ _ ∧ _ < 4096 * 1 + _ + _
    omega

/-- What a chunk of 128 rows beginning at row `r` adds to the gradient of the mixing matrices. -/
def pairW (P : S4096x6144.Idx → ℝ) (LG LB : S2048.Idx → ℝ) (DY : S4096x2048.Idx → ℝ) (r g p q : ℕ) : ℝ :=
  ∑ k : Fin 256, dm P DY (r + p) (256 * g + k.val) * vn P LG LB (r + q) (256 * g + k.val)
/-- What it adds to the gradient of the biases. -/
def pairB (P : S4096x6144.Idx → ℝ) (DY : S4096x2048.Idx → ℝ) (r g p : ℕ) : ℝ := ∑ k : Fin 256, dm P DY (r + p) (256 * g + k.val)

/-- What a grid point adds to the two gradients. -/
def addW (P : S4096x6144.Idx → ℝ) (LG LB : S2048.Idx → ℝ) (DY : S4096x2048.Idx → ℝ) (r0 : ℕ) (i : S8x128x128.Idx) : ℝ :=
  if (i 2).val / 64 ≤ (i 1).val / 64 then
    pairW P LG LB DY r0 (i 0).val (i 1).val (i 2).val + pairW P LG LB DY (r0 + 128) (i 0).val (i 1).val (i 2).val else 0
def addB (P : S4096x6144.Idx → ℝ) (DY : S4096x2048.Idx → ℝ) (r0 : ℕ) (i : S8x128.Idx) : ℝ :=
  pairB P DY r0 (i 0).val (i 1).val + pairB P DY (r0 + 128) (i 0).val (i 1).val

theorem embW {g : ℕ} (hi : ∀ x, (![g, 0, 0] : Fin 3 → ℕ) x + (![1, 128, 128] : Fin 3 → ℕ) x ≤ S8x128x128.size x) (o : Fin 1) (p q : Fin 128) :
    (Rect.unit (s := S8x128x128) ![g, 0, 0] ![1, 128, 128] hi).emb (ix3 o p q) = ix3 ⟨g, hi 0⟩ p q := by
  funext x
  refine Fin.ext ?_
  match x with
  | ⟨0, _⟩ => have := o.isLt; simp [Rect.emb, Rect.unit]
  | ⟨1, _⟩ => simp [Rect.emb, Rect.unit]
  | ⟨2, _⟩ => simp [Rect.emb, Rect.unit]

theorem embB {g : ℕ} (hi : ∀ x, (![g, 0] : Fin 2 → ℕ) x + (![1, 128] : Fin 2 → ℕ) x ≤ S8x128.size x) (o : Fin 1) (p : Fin 128) :
    (Rect.unit (s := S8x128) ![g, 0] ![1, 128] hi).emb (ix2 o p) = ix2 ⟨g, hi 0⟩ p := by
  have := o.isLt
  refine Shape.idx_ext₂ ?_ ?_ <;> simp [Rect.emb, Rect.unit]

section
variable {κ sp κ' sp'} {v : View sig κ sp S256x2048 .bf16} {v' : View sig κ' sp' S256x2048 .bf16} {L L' : List (View.Piece (Elt Ideal) S256x2048 .bf16)}
  (hL : Filled (gC P DY r0) rows 256 L) (hL' : Filled (gV P LG LB r0) rows 256 L') (g : Fin 8) (b : ℕ) (hb : b = 256 * g.val)
include hL hb
include hL' in
theorem w_piece (hi hi' hi1 hi1') (p q : Fin 128) :
    (if q.val / 64 ≤ p.val / 64 then
      ∑ x : Fin 256, v.readCov L (Rect.unit (s := S256x2048) ![0, b] ![128, 256] hi).toLoadRect (ix2 p x) * v'.readCov L' (Rect.unit (s := S256x2048) ![0, b] ![128, 256] hi').toLoadRect (ix2 q x)
      + ∑ x : Fin 256, v.readCov L (Rect.unit (s := S256x2048) ![128, b] ![128, 256] hi1).toLoadRect (ix2 p x) * v'.readCov L' (Rect.unit (s := S256x2048) ![128, b] ![128, 256] hi1').toLoadRect (ix2 q x)
      else 0) = (addW P LG LB DY r0 (ix3 g p q) : EReal) := by
  have h2 : b + 256 ≤ 2048 := hi 1
  have e0 : ∀ p (x : Fin 256), v.readCov L (Rect.unit (s := S256x2048) ![0, b] ![128, 256] hi).toLoadRect (ix2 p x) = (dm P DY (r0 + (0 + p.val)) (b + x.val) : EReal) :=
    fun p x => readCov_filled hL 0 b hi p x (by omega) (by omega)
  have e1 : ∀ p (x : Fin 256), v.readCov L (Rect.unit (s := S256x2048) ![128, b] ![128, 256] hi1).toLoadRect (ix2 p x) = (dm P DY (r0 + (128 + p.val)) (b + x.val) : EReal) :=
    fun p x => readCov_filled hL 128 b hi1 p x (by omega) (by omega)
  have e0' : ∀ p (x : Fin 256), v'.readCov L' (Rect.unit (s := S256x2048) ![0, b] ![128, 256] hi').toLoadRect (ix2 p x) = (vn P LG LB (r0 + (0 + p.val)) (b + x.val) : EReal) :=
    fun p x => readCov_filled hL' 0 b hi' p x (by omega) (by omega)
  have e1' : ∀ p (x : Fin 256), v'.readCov L' (Rect.unit (s := S256x2048) ![128, b] ![128, 256] hi1').toLoadRect (ix2 p x) = (vn P LG LB (r0 + (128 + p.val)) (b + x.val) : EReal) :=
    fun p x => readCov_filled hL' 128 b hi1' p x (by omega) (by omega)
  simp only [e0, e1, e0', e1', ← EReal.coe_mul, coe_sum, ← EReal.coe_add]
  subst hb
  simp only [addW, pairW, Nat.zero_add, Nat.add_assoc]
  show _ = (((if q.val / 64 ≤ p.val / 64 then _ else _) : ℝ) : EReal)
  by_cases h : q.val / 64 ≤ p.val / 64
  · rw [if_pos h, if_pos h]; rfl
  · rw [if_neg h, if_neg h]; rfl

theorem b_piece (hi hi1) (p : Fin 128) :
    (∑ x : Fin 256, v.readCov L (Rect.unit (s := S256x2048) ![0, b] ![128, 256] hi).toLoadRect (ix2 p x)
      + ∑ x : Fin 256, v.readCov L (Rect.unit (s := S256x2048) ![128, b] ![128, 256] hi1).toLoadRect (ix2 p x)) = (addB P DY r0 (ix2 g p) : EReal) := by
  have h2 : b + 256 ≤ 2048 := hi 1
  have e0 : ∀ p (x : Fin 256), v.readCov L (Rect.unit (s := S256x2048) ![0, b] ![128, 256] hi).toLoadRect (ix2 p x) = (dm P DY (r0 + (0 + p.val)) (b + x.val) : EReal) :=
    fun p x => readCov_filled hL 0 b hi p x (by omega) (by omega)
  have e1 : ∀ p (x : Fin 256), v.readCov L (Rect.unit (s := S256x2048) ![128, b] ![128, 256] hi1).toLoadRect (ix2 p x) = (dm P DY (r0 + (128 + p.val)) (b + x.val) : EReal) :=
    fun p x => readCov_filled hL 128 b hi1 p x (by omega) (by omega)
  simp only [e0, e1, coe_sum, ← EReal.coe_add]
  subst hb
  simp only [addB, pairB, Nat.zero_add, Nat.add_assoc]
  rfl
end

/-- The tile of a group in the gradient of the mixing matrices. -/
def tileW (g : Fin 8) : Rect S8x128x128 := Rect.unit ![g.val, 0, 0] ![1, 128, 128] (by
  intro x
  have := g.isLt
  match x with
  | ⟨0, _⟩ => show g.val + 1 ≤ 8; omega
  | ⟨1, _⟩ => exact le_refl 128
  | ⟨2, _⟩ => exact le_refl 128)
/-- The tile of a group in the gradient of the biases. -/
def tileB (g : Fin 8) : Rect S8x128 := Rect.unit ![g.val, 0] ![1, 128] (by
  intro x
  have := g.isLt
  match x with
  | ⟨0, _⟩ => show g.val + 1 ≤ 8; omega
  | ⟨1, _⟩ => exact le_refl 128)

def groups : List (Fin 8) := [7, 6, 5, 4, 3, 2, 1, 0]
theorem groups_mem : ∀ g, g ∈ groups := by decide

theorem cov_w {L : List (View.Piece (Elt Ideal) S8x128x128 .f32)} (h : L.map (fun p => p.1) = groups.map tileW) (y : S8x128x128.Idx) : ∃ p ∈ L, y ∈ p.1.set := by
  refine mem_of_map h (List.mem_map_of_mem (groups_mem (y 0))) ?_
  refine Rect.mem_set_unit.mpr ?_
  intro x
  match x with
  | ⟨0, _⟩ => exact ⟨le_refl _, Nat.lt_succ_self _⟩
  | ⟨1, _⟩ => exact ⟨Nat.zero_le _, by show (y 1).val < 0 + 128; have : (y 1).val < 128 := (y 1).isLt; omega⟩
  | ⟨2, _⟩ => exact ⟨Nat.zero_le _, by show (y 2).val < 0 + 128; have : (y 2).val < 128 := (y 2).isLt; omega⟩

theorem cov_b {L : List (View.Piece (Elt Ideal) S8x128 .f32)} (h : L.map (fun p => p.1) = groups.map tileB) (y : S8x128.Idx) : ∃ p ∈ L, y ∈ p.1.set := by
  refine mem_of_map h (List.mem_map_of_mem (groups_mem (y 0))) ?_
  refine Rect.mem_set_unit.mpr ?_
  intro x
  match x with
  | ⟨0, _⟩ => exact ⟨le_refl _, Nat.lt_succ_self _⟩
  | ⟨1, _⟩ => exact ⟨Nat.zero_le _, by show (y 1).val < 0 + 128; have : (y 1).val < 128 := (y 1).isLt; omega⟩

/-- The last `n` stores, where they cover all, decide the contents. -/
theorem canon_take {s : Shape} {e : EltTy} (n : ℕ) {G : s.Idx → Elt Ideal e} {L : List (View.Piece (Elt Ideal) s e)} (h : View.PiecesOf G (L.take n))
    (hc : ∀ y, ∃ p ∈ L.take n, y ∈ p.1.set) : View.canon L = G := by
  rw [← List.take_append_drop n L]
  exact funext fun y => View.canon_append_of_piecesOf G _ _ h y (hc y)

end Pieces

/-- The layer norm's two vector gradients after the second loop. -/
theorem sums_of {B3 B4 : S256x2048.Idx → EReal} {B5 : S256x1.Idx → EReal} {B6 : S1x1x2048.Idx → EReal} (h : In2 P LG r0 B3 B4 B5 B6)
    (𝒱 : Variants) (c : Dev nD) (bd : Option 𝒱.V) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x1 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x8x128x128 .f32) (harg9 : arg9.IsWhole) (arg10 : Memref sig .tc .vmem S1x8x128x1 .f32) (harg10 : arg10.IsWhole) (arg11 : Memref sig .tc .vmem S256x6144 .bf16) (harg11 : arg11.IsWhole) (arg12 : Memref sig .tc .vmem S8x128x128 .f32) (harg12 : arg12.IsWhole) (arg13 : Memref sig .tc .vmem S8x128 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S256x2048 .bf16) (harg16 : arg16.IsWhole) (arg17 : Memref sig .tc .vmem S256x2048 .f32) (harg17 : arg17.IsWhole) (arg18 : Memref sig .tc .vmem S256x2048 .f32) (harg18 : arg18.IsWhole) (arg19 : Memref sig .tc .vmem S256x2048 .bf16) (harg19 : arg19.IsWhole) (arg20 : Memref sig .tc .vmem S256x2048 .f32) (harg20 : arg20.IsWhole) (X20 : BufTy.Contents (Elt Ideal) arg20.view.ty) (hX : ReadsDv P W DY r0 arg20 X20)
    (G11 : BufTy.Contents (Elt Ideal) arg11.view.ty) (G14 : BufTy.Contents (Elt Ideal) arg14.view.ty) (G15 : BufTy.Contents (Elt Ideal) arg15.view.ty) :
    (∀ (A14 : S1x2048.Idx → EReal) (h14 : View.readAt (Elt Ideal) arg14.view (Rect.unit (s := S1x2048) ![0, 0] ![1, 2048] inb_S1x2048_S1x2048_0_0).toLoadRect G14 = A14) (L'),
      View.canon ((pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg4.unread B3) (harg5.unread B4) (harg6.unread B5) (harg7.unread B6) X20 G11 G14 G15 16).2.1 ++ L') = fun y => A14 y + (part r0 (fun t e => dv P W DY t e * xh P t e) 256 (y 1).val : EReal))
    ∧ (∀ (A15 : S1x2048.Idx → EReal) (h15 : View.readAt (Elt Ideal) arg15.view (Rect.unit (s := S1x2048) ![0, 0] ![1, 2048] inb_S1x2048_S1x2048_0_0).toLoadRect G15 = A15) (L'),
      View.canon ((pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg4.unread B3) (harg5.unread B4) (harg6.unread B5) (harg7.unread B6) X20 G11 G14 G15 16).2.2 ++ L') = fun y => A15 y + (part r0 (fun t e => dv P W DY t e) 256 (y 1).val : EReal)) := by
  refine ⟨fun A14 h14 L' => ?_, fun A15 h15 L' => ?_⟩
  · exact (loop2 P LG (fun _ => 0) W (fun _ => 0) DY r0 h 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X20 hX G11 G14 G15 _ _ h14 rfl 16 le_rfl _ rfl).2.1.2 (by decide) L'
  · exact (loop2 P LG (fun _ => 0) W (fun _ => 0) DY r0 h 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X20 hX G11 G14 G15 _ _ rfl h15 16 le_rfl _ rfl).2.2.2 (by decide) L'

end Cert.AMixIdeal.Pair

end
-- ==== Proof.AMixOut.lean ====
module
public import proofs.«01_k».proof.Proof.AMixMid

/-! # What each grid point leaves in the five results

The first point (case A) starts the four sums; every later point (case B) adds to what the point before left. -/

@[expose] public section
set_option maxRecDepth 16384
noncomputable section
namespace Cert.AMixIdeal.Pair
open Idealize.ShloMosaic Idealize.ShloMosaic.Pointwise Idealize.SL Cert.AMixIdeal.Gen Cert.AMixSpec Cert.Lift

variable (P : S4096x6144.Idx → ℝ) (LG LB : S2048.Idx → ℝ) (W : S8x128x128.Idx → ℝ) (BS : S8x128.Idx → ℝ) (DY : S4096x2048.Idx → ℝ) (r0 : ℕ)

theorem trips_eq : Scf.trips (0#32) (Scalar.addi 0#32 16#32) 1#32 = 16 := by decide

set_option maxHeartbeats 2000000 in
theorem outsA (m) (c : Dev nD) (t : Fin cfg0.N) (hr : r0 % 128 = 0) (h0 : t.val % 16 = 0)
    (h1 : In1 P LG LB DY r0 (iblk m c 0 t) (iblk m c 1 t) (iblk m c 2 t) (iblk m c 3 t) (iblk m c 6 t) (iblk m c 7 t))
    (h2 : In2 P LG r0 (iblk m c 3 t) (iblk m c 4 t) (iblk m c 5 t) (iblk m c 6 t)) (h8 : In8 W BS (iblk m c 8 t) (iblk m c 9 t)) :
    (outsAt0 (F := Ideal) m c t.val t.isLt).1 = gD P LG LB W BS DY r0
      ∧ (outsAt0 (F := Ideal) m c t.val t.isLt).2.1 = (fun i => (addW P LG LB DY r0 i : EReal))
      ∧ (outsAt0 (F := Ideal) m c t.val t.isLt).2.2.1 = (fun i => (addB P DY r0 i : EReal))
      ∧ (outsAt0 (F := Ideal) m c t.val t.isLt).2.2.2.1 = (fun i => 0 + (part r0 (fun t e => dv P W DY t e * xh P t e) 256 (i 1).val : EReal))
      ∧ (outsAt0 (F := Ideal) m c t.val t.isLt).2.2.2.2 = (fun i => 0 + (part r0 (fun t e => dv P W DY t e) 256 (i 1).val : EReal)) := by
  rw [outsAt0_A m c t h0]
  obtain ⟨f1, f2, f3, f4⟩ := loop1 P LG LB DY r0 h1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) 16 le_rfl _ rfl
  refine ⟨?dp, ?w, ?b, ?lg, ?lb⟩
  all_goals
    frame_out
    simp only [trips_eq]
    generalize pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) ((hs0_0 t).unread (iblk m c 0 t)) ((hs0_1 t).unread (iblk m c 1 t)) ((hs0_2 t).unread (iblk m c 2 t)) ((hs0_3 t).unread (iblk m c 3 t)) ((hs0_6 t).unread (iblk m c 6 t)) ((hs0_7 t).unread (iblk m c 7 t)) 16 = L1 at f1 f2 f3 f4 ⊢
  case' dp => refine dp_of P LG LB W BS DY r0 h2 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) _ (readsDv P W DY r0 _ ?_ ?_) _ _ _ _ ?pieces (cov_dp rfl)
  case' w => refine canon_take 8 ?_ (cov_w rfl)
  case' b => refine canon_take 8 ?_ (cov_b rfl)
  case' lg => refine (sums_of P LG W DY r0 h2 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) _ (readsDv P W DY r0 _ ?_ ?_) _ _ _).1 (fun _ => 0) ?_ _
  case' lb => refine (sums_of P LG W DY r0 h2 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) _ (readsDv P W DY r0 _ ?_ ?_) _ _ _).2 (fun _ => 0) ?_ _
  case pieces =>
    simp only [List.take]
    refine ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, trivial⟩⟩⟩⟩⟩⟩⟩⟩⟩⟩⟩⟩⟩⟩⟩⟩⟩⟩⟩⟩⟩⟩⟩⟩⟩⟩⟩⟩⟩⟩⟩⟩
    all_goals
      idx_vars x
      unfold_payloads
      pointwise []
      simp only [fd, fd', sel]
      first
      | (refine mixed_piece (f := fz P DY) h8 hr f1 f3 _ _ _ _ ?_ ?_ ?_ _ _ _ _ _
         · rfl
         · rfl
         · exact z_third rfl)
      | (refine mixed_piece (f := fu P DY) h8 hr f1 f2 _ _ _ _ ?_ ?_ ?_ _ _ _ _ _
         · rfl
         · rfl
         · exact u_third (by decide))
  case w =>
    simp (disch := decide) only [↓ View.readCov_skip, ↓ View.readCov_cons_toLoadRect, ↓ View.readCov_fill]
    simp only [List.take]
    refine ⟨fun x => ?_, ⟨fun x => ?_, ⟨fun x => ?_, ⟨fun x => ?_, ⟨fun x => ?_, ⟨fun x => ?_, ⟨fun x => ?_, ⟨fun x => ?_, trivial⟩⟩⟩⟩⟩⟩⟩⟩
    all_goals
      idx_vars x
      unfold_payloads
      pointwise []
      simp only [fd, fd', sel]
      refine Eq.trans ?_ (congrArg (fun i => (addW P LG LB DY r0 i : EReal)) (embW _ _ _ _).symm)
      beta_reduce
      refine w_piece f4 f1 _ _ ?_ _ _ _ _ _ _
      rfl
  case b =>
    simp (disch := decide) only [↓ View.readCov_skip, ↓ View.readCov_cons_toLoadRect, ↓ View.readCov_fill]
    simp only [List.take]
    refine ⟨fun x => ?_, ⟨fun x => ?_, ⟨fun x => ?_, ⟨fun x => ?_, ⟨fun x => ?_, ⟨fun x => ?_, ⟨fun x => ?_, ⟨fun x => ?_, trivial⟩⟩⟩⟩⟩⟩⟩⟩
    all_goals
      idx_vars x
      unfold_payloads
      pointwise []
      refine Eq.trans ?_ (congrArg (fun i => (addB P DY r0 i : EReal)) (embB _ _ _).symm)
      beta_reduce
      refine b_piece f4 _ _ ?_ _ _ _
      rfl
  all_goals
    first
    | exact cov_dv rfl
    | exact (View.readAt_writes_full (ms0_13 t).view _ (off := ![0, 0]) (off' := ![0, 0]) inb_S1x2048_S1x2048_0_0 inb_S1x2048_S1x2048_0_0 _ []).trans (funext fun x => by unfold k0_pay26; pointwise [])
    | exact (View.readAt_writes_full (ms0_14 t).view _ (off := ![0, 0]) (off' := ![0, 0]) inb_S1x2048_S1x2048_0_0 inb_S1x2048_S1x2048_0_0 _ []).trans (funext fun x => by unfold k0_pay27; pointwise [])
    | skip
  all_goals
    refine ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, trivial⟩⟩⟩⟩⟩⟩⟩⟩⟩⟩⟩⟩⟩⟩⟩⟩
    all_goals
      idx_vars x
      unfold_payloads
      pointwise []
      simp only [fd, sel]
      exact dv_piece h8 hr f4 _ _ _ rfl rfl _ _ _ _

set_option maxHeartbeats 2000000 in
theorem outsB (m) (c : Dev nD) (t : Fin cfg0.N) (hr : r0 % 128 = 0) (h0 : ¬ t.val % 16 = 0)
    (h1 : In1 P LG LB DY r0 (iblk m c 0 t) (iblk m c 1 t) (iblk m c 2 t) (iblk m c 3 t) (iblk m c 6 t) (iblk m c 7 t))
    (h2 : In2 P LG r0 (iblk m c 3 t) (iblk m c 4 t) (iblk m c 5 t) (iblk m c 6 t)) (h8 : In8 W BS (iblk m c 8 t) (iblk m c 9 t)) :
    (outsAt0 (F := Ideal) m c t.val t.isLt).1 = gD P LG LB W BS DY r0
      ∧ (outsAt0 (F := Ideal) m c t.val t.isLt).2.1 = (fun i => (outsAt0 (F := Ideal) m c (t.val - 1) (Nat.lt_of_le_of_lt (Nat.sub_le _ _) t.isLt)).2.1 i + (addW P LG LB DY r0 i : EReal))
      ∧ (outsAt0 (F := Ideal) m c t.val t.isLt).2.2.1 = (fun i => (outsAt0 (F := Ideal) m c (t.val - 1) (Nat.lt_of_le_of_lt (Nat.sub_le _ _) t.isLt)).2.2.1 i + (addB P DY r0 i : EReal))
      ∧ (outsAt0 (F := Ideal) m c t.val t.isLt).2.2.2.1 = (fun i => (outsAt0 (F := Ideal) m c (t.val - 1) (Nat.lt_of_le_of_lt (Nat.sub_le _ _) t.isLt)).2.2.2.1 i + (part r0 (fun t e => dv P W DY t e * xh P t e) 256 (i 1).val : EReal))
      ∧ (outsAt0 (F := Ideal) m c t.val t.isLt).2.2.2.2 = (fun i => (outsAt0 (F := Ideal) m c (t.val - 1) (Nat.lt_of_le_of_lt (Nat.sub_le _ _) t.isLt)).2.2.2.2 i + (part r0 (fun t e => dv P W DY t e) 256 (i 1).val : EReal)) := by
  rw [outsAt0_B m c t h0]
  obtain ⟨f1, f2, f3, f4⟩ := loop1 P LG LB DY r0 h1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) 16 le_rfl _ rfl
  refine ⟨?dp, ?w, ?b, ?lg, ?lb⟩
  all_goals
    frame_out
    simp only [trips_eq]
    generalize pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) ((hs0_0 t).unread (iblk m c 0 t)) ((hs0_1 t).unread (iblk m c 1 t)) ((hs0_2 t).unread (iblk m c 2 t)) ((hs0_3 t).unread (iblk m c 3 t)) ((hs0_6 t).unread (iblk m c 6 t)) ((hs0_7 t).unread (iblk m c 7 t)) 16 = L1 at f1 f2 f3 f4 ⊢
  case' dp => refine dp_of P LG LB W BS DY r0 h2 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) _ (readsDv P W DY r0 _ ?_ ?_) _ _ _ _ ?pieces (cov_dp rfl)
  case' w => refine canon_take 8 ?_ (cov_w rfl)
  case' b => refine canon_take 8 ?_ (cov_b rfl)
  case' lg => refine (congrArg View.canon (List.append_nil _).symm).trans ((sums_of P LG W DY r0 h2 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) _ (readsDv P W DY r0 _ ?_ ?_) _ _ _).1 (outsAt0 (F := Ideal) m c (t.val - 1) (Nat.lt_of_le_of_lt (Nat.sub_le _ _) t.isLt)).2.2.2.1 ?_ [])
  case' lb => refine (congrArg View.canon (List.append_nil _).symm).trans ((sums_of P LG W DY r0 h2 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) _ (readsDv P W DY r0 _ ?_ ?_) _ _ _).2 (outsAt0 (F := Ideal) m c (t.val - 1) (Nat.lt_of_le_of_lt (Nat.sub_le _ _) t.isLt)).2.2.2.2 ?_ [])
  case pieces =>
    simp only [List.take]
    refine ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, trivial⟩⟩⟩⟩⟩⟩⟩⟩⟩⟩⟩⟩⟩⟩⟩⟩⟩⟩⟩⟩⟩⟩⟩⟩⟩⟩⟩⟩⟩⟩⟩⟩
    all_goals
      idx_vars x
      unfold_payloads
      pointwise []
      simp only [fd, fd', sel]
      first
      | (refine mixed_piece (f := fz P DY) h8 hr f1 f3 _ _ _ _ ?_ ?_ ?_ _ _ _ _ _
         · rfl
         · rfl
         · exact z_third rfl)
      | (refine mixed_piece (f := fu P DY) h8 hr f1 f2 _ _ _ _ ?_ ?_ ?_ _ _ _ _ _
         · rfl
         · rfl
         · exact u_third (by decide))
  case w =>
    skip
    simp only [List.take]
    refine ⟨fun x => ?_, ⟨fun x => ?_, ⟨fun x => ?_, ⟨fun x => ?_, ⟨fun x => ?_, ⟨fun x => ?_, ⟨fun x => ?_, ⟨fun x => ?_, trivial⟩⟩⟩⟩⟩⟩⟩⟩
    all_goals
      idx_vars x
      unfold_payloads
      pointwise []
      simp only [fd, fd', sel]
      refine Eq.trans ?_ (congrArg (fun i => (outsAt0 (F := Ideal) m c (t.val - 1) (Nat.lt_of_le_of_lt (Nat.sub_le _ _) t.isLt)).2.1 i + (addW P LG LB DY r0 i : EReal)) (embW _ _ _ _).symm)
      beta_reduce
      refine congrArg (HAdd.hAdd _) (w_piece f4 f1 _ _ ?_ _ _ _ _ _ _)
      rfl
  case b =>
    skip
    simp only [List.take]
    refine ⟨fun x => ?_, ⟨fun x => ?_, ⟨fun x => ?_, ⟨fun x => ?_, ⟨fun x => ?_, ⟨fun x => ?_, ⟨fun x => ?_, ⟨fun x => ?_, trivial⟩⟩⟩⟩⟩⟩⟩⟩
    all_goals
      idx_vars x
      unfold_payloads
      pointwise []
      refine Eq.trans ?_ (congrArg (fun i => (outsAt0 (F := Ideal) m c (t.val - 1) (Nat.lt_of_le_of_lt (Nat.sub_le _ _) t.isLt)).2.2.1 i + (addB P DY r0 i : EReal)) (embB _ _ _).symm)
      beta_reduce
      refine congrArg (HAdd.hAdd _) (b_piece f4 _ _ ?_ _ _ _)
      rfl
  all_goals
    first
    | exact cov_dv rfl
    | exact funext fun x => ((hs0_13 t).readAt_unread _ _ x).trans (congrArg _ (Shape.idx_ext₂ (by simp [Rect.unit, Rect.toLoadRect, LoadRect.idx]) (by simp [Rect.unit, Rect.toLoadRect, LoadRect.idx])))
    | exact funext fun x => ((hs0_14 t).readAt_unread _ _ x).trans (congrArg _ (Shape.idx_ext₂ (by simp [Rect.unit, Rect.toLoadRect, LoadRect.idx]) (by simp [Rect.unit, Rect.toLoadRect, LoadRect.idx])))
    | skip
  all_goals
    refine ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, trivial⟩⟩⟩⟩⟩⟩⟩⟩⟩⟩⟩⟩⟩⟩⟩⟩
    all_goals
      idx_vars x
      unfold_payloads
      pointwise []
      simp only [fd, sel]
      exact dv_piece h8 hr f4 _ _ _ rfl rfl _ _ _ _

end Cert.AMixIdeal.Pair

end
-- ==== Proof.AMixBlk.lean ====
module
public import proofs.«01_k».proof.Proof.AMixOut
public import proofs.«01_k».proof.Proof.AMixScalar

/-! # The mixer's gradient: what the blocks of a grid point hold

Some of the kernel's operands are computed before it from the projection: the normed rows, the derivative of their GELU
and the reciprocal square roots of the variances. -/

@[expose] public section
set_option maxRecDepth 16384
noncomputable section

namespace Cert.AMixIdeal.Pair
open Cert.AMixIdeal Cert.AMixIdeal.Gen Idealize.ShloMosaic Idealize.ShloMosaic.TcCoe Idealize.SL.Sem
open Idealize.ShloMosaic.Pipeline (Dat)
open Cert.Lift Cert.Rms Cert.AMixSpec

theorem idx0 : ∀ t : Fin cfg0.N, win0_0.index t 0 = t.val ∧ win0_0.index t 1 = 0 :=
  (by decide +kernel : ∀ t : Fin grid0.N, _)
theorem idx1 : ∀ t : Fin cfg0.N, win0_1.index t 0 = t.val ∧ win0_1.index t 1 = 2 :=
  (by decide +kernel : ∀ t : Fin grid0.N, _)
theorem idx2 : ∀ t : Fin cfg0.N, win0_2.index t 0 = t.val ∧ win0_2.index t 1 = 0 :=
  (by decide +kernel : ∀ t : Fin grid0.N, _)
theorem idx3 : ∀ t : Fin cfg0.N, win0_3.index t 0 = t.val ∧ win0_3.index t 1 = 0 :=
  (by decide +kernel : ∀ t : Fin grid0.N, _)
theorem idx4 : ∀ t : Fin cfg0.N, win0_4.index t 0 = t.val ∧ win0_4.index t 1 = 0 :=
  (by decide +kernel : ∀ t : Fin grid0.N, _)
theorem idx5 : ∀ t : Fin cfg0.N, win0_5.index t 0 = t.val ∧ win0_5.index t 1 = 0 :=
  (by decide +kernel : ∀ t : Fin grid0.N, _)
theorem idx6 : ∀ t : Fin cfg0.N, win0_6.index t 0 = 0 ∧ win0_6.index t 1 = 0 ∧ win0_6.index t 2 = 0 :=
  (by decide +kernel : ∀ t : Fin grid0.N, _)
theorem idx7 : ∀ t : Fin cfg0.N, win0_7.index t 0 = 0 ∧ win0_7.index t 1 = 0 ∧ win0_7.index t 2 = 0 :=
  (by decide +kernel : ∀ t : Fin grid0.N, _)
theorem idx8 : ∀ t : Fin cfg0.N, win0_8.index t 0 = 0 ∧ win0_8.index t 1 = 0 ∧ win0_8.index t 2 = 0 ∧ win0_8.index t 3 = 0 :=
  (by decide +kernel : ∀ t : Fin grid0.N, _)
theorem idx9 : ∀ t : Fin cfg0.N, win0_9.index t 0 = 0 ∧ win0_9.index t 1 = 0 ∧ win0_9.index t 2 = 0 ∧ win0_9.index t 3 = 0 :=
  (by decide +kernel : ∀ t : Fin grid0.N, _)

theorem lt16 (t : Fin cfg0.N) : t.val < 16 := lt_of_lt_of_eq t.isLt N_0

/-- The row of the whole array that row `a` of grid point `t`'s block is. -/
def row (t : Fin cfg0.N) (a : Fin 256) : Fin 4096 := ⟨t.val * 256 + a.val, by have := lt16 t; omega⟩

variable (m : (ℓ : Loc nD τ sig) → Buf (Elt Ideal) ℓ) (c : Dev nD)

abbrev argP : S4096x6144.Idx → EReal := m ((c : Thread nD τ).loc main_arg0)
abbrev argLG : S2048.Idx → EReal := m ((c : Thread nD τ).loc main_arg1)
abbrev argLB : S2048.Idx → EReal := m ((c : Thread nD τ).loc main_arg2)
abbrev argW : S8x128x128.Idx → EReal := m ((c : Thread nD τ).loc main_arg3)
abbrev argBS : S8x128.Idx → EReal := m ((c : Thread nD τ).loc main_arg4)
abbrev argDY : S4096x2048.Idx → EReal := m ((c : Thread nD τ).loc main_arg5)

theorem blk0 (t : Fin cfg0.N) (a : Fin 256) (j : Fin 2048) : iblk m c 0 t (ix2 a j) = argP m c (ix2 (row t a) ⟨j.val, by omega⟩) := by
  blk_ext! [iblk, V, idx0 t, row]
theorem blk1 (t : Fin cfg0.N) (a : Fin 256) (j : Fin 2048) : iblk m c 1 t (ix2 a j) = argP m c (ix2 (row t a) ⟨4096 + j.val, by omega⟩) := by
  blk_ext! [iblk, V, idx1 t, row]
theorem blk2 (t : Fin cfg0.N) (a : Fin 256) (j : Fin 2048) : iblk m c 2 t (ix2 a j) = argDY m c (ix2 (row t a) j) := by
  blk_ext! [iblk, V, idx2 t, row]
theorem blk3 (t : Fin cfg0.N) (a : Fin 256) (j : Fin 2048) : iblk m c 3 t (ix2 a j) = (V m c main_v55 : S4096x2048.Idx → EReal) (ix2 (row t a) j) := by
  blk_ext [iblk, idx3 t, row]
theorem blk4 (t : Fin cfg0.N) (a : Fin 256) (j : Fin 2048) : iblk m c 4 t (ix2 a j) = (V m c main_v56 : S4096x2048.Idx → EReal) (ix2 (row t a) j) := by
  blk_ext [iblk, idx4 t, row]
theorem blk5 (t : Fin cfg0.N) (a : Fin 256) : iblk m c 5 t (ix2 a 0) = (V m c main_v52 : S4096x1.Idx → EReal) (ix2 (row t a) 0) := by
  blk_ext [iblk, idx5 t, row]
theorem blk6 (t : Fin cfg0.N) (j : Fin 2048) : iblk m c 6 t (ix3 0 0 j) = argLG m c (ix1 j) := by
  blk_ext! [iblk, V, idx6 t]
theorem blk7 (t : Fin cfg0.N) (j : Fin 2048) : iblk m c 7 t (ix3 0 0 j) = argLB m c (ix1 j) := by
  blk_ext! [iblk, V, idx7 t]
theorem blk8 (t : Fin cfg0.N) (g : Fin 8) (p q : Fin 128) : iblk m c 8 t (ix4 0 g p q) = argW m c (ix3 g p q) := by
  blk_ext! [iblk, V, idx8 t]
theorem blk9 (t : Fin cfg0.N) (g : Fin 8) (p : Fin 128) : iblk m c 9 t (ix4 0 g p 0) = argBS m c (ix2 g p) := by
  blk_ext! [iblk, V, idx9 t]

variable (P : S4096x6144.Idx → ℝ) (LG LB : S2048.Idx → ℝ) (W : S8x128x128.Idx → ℝ) (BS : S8x128.Idx → ℝ) (DY : S4096x2048.Idx → ℝ)

section Host
variable (hP : ∀ i, argP m c i = (P i : EReal))
include hP

theorem argP_v (r : Fin 4096) (k : Fin 2048) (h : 2048 + k.val < 6144) : m (c, Proc.tc.devRef main_arg0) (ix2 r ⟨2048 + k.val, h⟩)
    = ((wide P r.val (2048 + k.val) : ℝ) : EReal) := (hP _).trans (congrArg _ (wide_at P r ⟨2048 + k.val, h⟩).symm)

theorem host52 (r : Fin 4096) : (V m c main_v52 : S4096x1.Idx → EReal) (ix2 r 0) = ((inv (vg P r.val) : ℝ) : EReal) := by
  have e : (V m c main_v52 : S4096x1.Idx → EReal) = fun i => ((inv (vg P (i 0).val) : ℝ) : EReal) := by
    entry_read
    funext i
    idx_vars i
    pointwise []
    simp only [argP_v m c P hP, th_coe, ge_coe, mean_coe, AMixSpec.inv_coe]
    rfl
  rw [e]; rfl

theorem host55 (r : Fin 4096) (k : Fin 2048) : (V m c main_v55 : S4096x2048.Idx → EReal) (ix2 r k) = ((xh P r.val k.val : ℝ) : EReal) := by
  have e : (V m c main_v55 : S4096x2048.Idx → EReal) = fun i => ((xh P (i 0).val (i 1).val : ℝ) : EReal) := by
    entry_read
    funext i
    idx_vars i
    pointwise []
    simp only [argP_v m c P hP, th_coe, ge_coe, mean_coe, AMixSpec.inv_coe]
    simp only [← EReal.coe_mul, ← EReal.coe_sub]
    rfl
  rw [e]; rfl

theorem host56 (r : Fin 4096) (k : Fin 2048) : (V m c main_v56 : S4096x2048.Idx → EReal) (ix2 r k) = ((ge' (wide P r.val (2048 + k.val)) : ℝ) : EReal) := by
  have e : (V m c main_v56 : S4096x2048.Idx → EReal) = fun i => ((ge' (wide P (i 0).val (2048 + (i 1).val)) : ℝ) : EReal) := by
    entry_read
    funext i
    idx_vars i
    pointwise []
    simp only [argP_v m c P hP, th_coe, ge'_coe]
  rw [e]; rfl
end Host

variable (hP : ∀ i, argP m c i = (P i : EReal)) (hLG : ∀ i, argLG m c i = (LG i : EReal)) (hLB : ∀ i, argLB m c i = (LB i : EReal))
  (hW : ∀ i, argW m c i = (W i : EReal)) (hBS : ∀ i, argBS m c i = (BS i : EReal)) (hDY : ∀ i, argDY m c i = (DY i : EReal))

include hP hLG hLB hDY in
theorem in1 (t : Fin cfg0.N) : In1 P LG LB DY (t.val * 256) (iblk m c 0 t) (iblk m c 1 t) (iblk m c 2 t) (iblk m c 3 t)
    (iblk m c 6 t) (iblk m c 7 t) where
  b0 a e := (blk0 m c t a e).trans ((hP _).trans (congrArg _ (wide_at P (row t a) ⟨e.val, by omega⟩).symm))
  b1 a e := (blk1 m c t a e).trans ((hP _).trans (congrArg _ (wide_at P (row t a) ⟨4096 + e.val, by omega⟩).symm))
  b2 a e := (blk2 m c t a e).trans ((hDY _).trans (congrArg _ (wide_at DY (row t a) e).symm))
  b3 a e := (blk3 m c t a e).trans (host55 m c P hP _ _)
  b6 e := (blk6 m c t e).trans ((hLG _).trans (congrArg _ (wide1_at LG e).symm))
  b7 e := (blk7 m c t e).trans ((hLB _).trans (congrArg _ (wide1_at LB e).symm))

include hP hLG in
theorem in2 (t : Fin cfg0.N) : In2 P LG (t.val * 256) (iblk m c 3 t) (iblk m c 4 t) (iblk m c 5 t) (iblk m c 6 t) where
  b3 a e := (blk3 m c t a e).trans (host55 m c P hP _ _)
  b4 a e := (blk4 m c t a e).trans (host56 m c P hP _ _)
  b5 a := (blk5 m c t a).trans (host52 m c P hP _)
  b6 e := (blk6 m c t e).trans ((hLG _).trans (congrArg _ (wide1_at LG e).symm))

include hW hBS in
theorem in8 (t : Fin cfg0.N) : In8 W BS (iblk m c 8 t) (iblk m c 9 t) where
  b8 g p q := (blk8 m c t g p q).trans ((hW _).trans (congrArg _ (wide3_at W g p q).symm))
  b9 g p := (blk9 m c t g p).trans ((hBS _).trans (congrArg _ (wide_at BS g p).symm))

end Cert.AMixIdeal.Pair

end
-- ==== Proof.AMixArr.lean ====
module
public import Idealize.ShloMosaic.Lib.Pipeline.ReadBack
public import proofs.«01_k».proof.Proof.AMixBlk

/-! # The mixer's gradient: the five results as the kernel leaves them

Each grid point takes two chunks of 128 rows. The projection's gradient is written block by block; the other four
gradients are accumulated over the grid points. -/

@[expose] public section
set_option maxRecDepth 16384
noncomputable section
namespace Cert.AMixIdeal.Pair
open Cert.AMixIdeal Cert.AMixIdeal.Gen Idealize.ShloMosaic Idealize.ShloMosaic.TcCoe Idealize.SL.Sem
open Idealize.ShloMosaic.Pipeline (Dat)
open Cert.Lift Cert.Rms Cert.AMixSpec

theorem idx10 : ∀ t : Fin cfg0.N, win0_10.index t 0 = t.val ∧ win0_10.index t 1 = 0 :=
  (by decide +kernel : ∀ t : Fin grid0.N, _)
theorem idx11 : win0_11.index t0_15 0 = 0 ∧ win0_11.index t0_15 1 = 0 ∧ win0_11.index t0_15 2 = 0 := by decide +kernel
theorem idx12 : win0_12.index t0_15 0 = 0 ∧ win0_12.index t0_15 1 = 0 := by decide +kernel
theorem idx13 : win0_13.index t0_15 0 = 0 ∧ win0_13.index t0_15 1 = 0 := by decide +kernel
theorem idx14 : win0_14.index t0_15 0 = 0 ∧ win0_14.index t0_15 1 = 0 := by decide +kernel

/-- The grid points' rows are all rows. -/
theorem sum_rows (D : ℕ → ℕ → ℝ) (e : ℕ) : ∑ t : Fin cfg0.N, part (t.val * 256) D 256 e = ∑ r : Fin 4096, D r.val e := by
  refine Eq.trans (Finset.sum_congr rfl fun t _ => ?_)
    (Fin.sum_mul_add_fin cfg0.N 256 (fun r : Fin 4096 => D r.val e) (by rw [show cfg0.N = 16 from N_0]))
  rw [part, Finset.sum_range]

/-- The grid points' pairs of chunks are all chunks. -/
theorem sum_chunks (f : ℕ → ℝ) : ∑ t : Fin cfg0.N, (f (t.val * 2) + f (t.val * 2 + 1)) = ∑ n : Fin 32, f n.val := by
  refine Eq.trans (Finset.sum_congr rfl fun t _ => ?_)
    (Fin.sum_mul_add_fin cfg0.N 2 (fun n : Fin 32 => f n.val) (by rw [show cfg0.N = 16 from N_0]))
  rw [Fin.sum_univ_two]; rfl

theorem pairW_eq (P : S4096x6144.Idx → ℝ) (LG LB : S2048.Idx → ℝ) (DY : S4096x2048.Idx → ℝ) (r n g p q : ℕ) (h : r = n * 128) :
    pairW P LG LB DY r g p q = dwsR P LG LB DY g p q n := by
  subst h; rw [pairW, dwsR, mul_comm 256 g]
theorem pairB_eq (P : S4096x6144.Idx → ℝ) (DY : S4096x2048.Idx → ℝ) (r n g p : ℕ) (h : r = n * 128) :
    pairB P DY r g p = dbsR P DY g p n := by
  subst h; rw [pairB, dbsR, mul_comm 256 g]

theorem sum_addW (P : S4096x6144.Idx → ℝ) (LG LB : S2048.Idx → ℝ) (DY : S4096x2048.Idx → ℝ) (i : S8x128x128.Idx) :
    ∑ t : Fin cfg0.N, addW P LG LB DY (t.val * 256) i
      = if (i 2).val / 64 ≤ (i 1).val / 64 then ∑ n : Fin 32, dwsR P LG LB DY (i 0).val (i 1).val (i 2).val n.val else 0 := by
  by_cases h : (i 2).val / 64 ≤ (i 1).val / 64
  · simp only [addW, if_pos h]
    rw [← sum_chunks]
    exact Finset.sum_congr rfl fun t _ => congrArg₂ (· + ·) (pairW_eq _ _ _ _ _ _ _ _ _ (by ring)) (pairW_eq _ _ _ _ _ _ _ _ _ (by ring))
  · simp only [addW, if_neg h, Finset.sum_const_zero]

theorem sum_addB (P : S4096x6144.Idx → ℝ) (DY : S4096x2048.Idx → ℝ) (i : S8x128.Idx) :
    ∑ t : Fin cfg0.N, addB P DY (t.val * 256) i = ∑ n : Fin 32, dbsR P DY (i 0).val (i 1).val n.val := by
  rw [← sum_chunks]
  exact Finset.sum_congr rfl fun t _ => congrArg₂ (· + ·) (pairB_eq _ _ _ _ _ _ (by ring)) (pairB_eq _ _ _ _ _ _ (by ring))

variable (m : (ℓ : Loc nD τ sig) → Buf (Elt Ideal) ℓ) (c : Dev nD)
variable (P : S4096x6144.Idx → ℝ) (LG LB : S2048.Idx → ℝ) (W : S8x128x128.Idx → ℝ) (BS : S8x128.Idx → ℝ) (DY : S4096x2048.Idx → ℝ)
variable (hP : ∀ i, argP m c i = (P i : EReal)) (hLG : ∀ i, argLG m c i = (LG i : EReal)) (hLB : ∀ i, argLB m c i = (LB i : EReal))
  (hW : ∀ i, argW m c i = (W i : EReal)) (hBS : ∀ i, argBS m c i = (BS i : EReal)) (hDY : ∀ i, argDY m c i = (DY i : EReal))
include hP hLG hLB hW hBS hDY

theorem arr10 : (dats m 0 c).arrAt 10 cfg0.N = dproj P LG LB W BS DY := by
  refine (dats m 0 c).arrAt_eq_of_covers 10 _ (by decide +kernel) fun t hf i => ?_
  blk_simp
  rw [after0_10]
  have h : (outsAt0 m c t.val t.isLt).1 = gD P LG LB W BS DY (t.val * 256) := by
    by_cases h0 : t.val % 16 = 0
    · exact (outsA P LG LB W BS DY (t.val * 256) m c t (by omega) h0 (in1 m c P LG LB DY hP hLG hLB hDY t) (in2 m c P LG hP hLG t)
        (in8 m c W BS hW hBS t)).1
    · exact (outsB P LG LB W BS DY (t.val * 256) m c t (by omega) h0 (in1 m c P LG LB DY hP hLG hLB hDY t) (in2 m c P LG hP hLG t)
        (in8 m c W BS hW hBS t)).1
  rw [h]
  idx_vars i
  refine Eq.trans (b := dproj P LG LB W BS DY (ix2 (row t i0) i1)) rfl (congrArg _ ?_)
  blk_ext [idx10 t, row]

theorem acc11 (i : S8x128x128.Idx) : (outsAt0 m c t0_15.val t0_15.isLt).2.1 i = 0 + ∑ t : Fin cfg0.N, (((addW P LG LB DY (t.val * 256) i : ℝ)) : EReal) := by
  refine Pipeline.eq_sum_fin_of_reset_step_apply_last (fun k h => (outsAt0 m c k h).2.1) 16 (fun _ => (0 : EReal))
    (fun t i => ((addW P LG LB DY (t.val * 256) i : ℝ) : EReal)) ?_ ?_ (le_of_eq N_0) t0_15 N_0.symm i
  · intro t h0 i
    exact (congrFun (outsA P LG LB W BS DY (t.val * 256) m c t (by omega) h0 (in1 m c P LG LB DY hP hLG hLB hDY t) (in2 m c P LG hP hLG t)
        (in8 m c W BS hW hBS t)).2.1 i).trans (zero_add _).symm
  · intro t h0 i
    exact congrFun (outsB P LG LB W BS DY (t.val * 256) m c t (by omega) h0 (in1 m c P LG LB DY hP hLG hLB hDY t) (in2 m c P LG hP hLG t)
        (in8 m c W BS hW hBS t)).2.1 i

theorem arr11 : (dats m 0 c).arrAt 11 cfg0.N = dws P LG LB DY := by
  refine (dats m 0 c).arrAt_eq_of_after_last 11 t0_15 (by decide +kernel) _ fun i => ?_
  blk_simp
  rw [after0_11, acc11 m c P LG LB W BS DY hP hLG hLB hW hBS hDY]
  idx_vars i
  refine Eq.trans (b := dws P LG LB DY (ix3 i0 i1 i2)) ?_ (congrArg _ ?_)
  · rw [zero_add, coe_sum]
    exact congrArg _ (sum_addW P LG LB DY _)
  · blk_ext [idx11]

theorem acc12 (i : S8x128.Idx) : (outsAt0 m c t0_15.val t0_15.isLt).2.2.1 i = 0 + ∑ t : Fin cfg0.N, (((addB P DY (t.val * 256) i : ℝ)) : EReal) := by
  refine Pipeline.eq_sum_fin_of_reset_step_apply_last (fun k h => (outsAt0 m c k h).2.2.1) 16 (fun _ => (0 : EReal))
    (fun t i => ((addB P DY (t.val * 256) i : ℝ) : EReal)) ?_ ?_ (le_of_eq N_0) t0_15 N_0.symm i
  · intro t h0 i
    exact (congrFun (outsA P LG LB W BS DY (t.val * 256) m c t (by omega) h0 (in1 m c P LG LB DY hP hLG hLB hDY t) (in2 m c P LG hP hLG t)
        (in8 m c W BS hW hBS t)).2.2.1 i).trans (zero_add _).symm
  · intro t h0 i
    exact congrFun (outsB P LG LB W BS DY (t.val * 256) m c t (by omega) h0 (in1 m c P LG LB DY hP hLG hLB hDY t) (in2 m c P LG hP hLG t)
        (in8 m c W BS hW hBS t)).2.2.1 i

theorem arr12 : (dats m 0 c).arrAt 12 cfg0.N = dbs P DY := by
  refine (dats m 0 c).arrAt_eq_of_after_last 12 t0_15 (by decide +kernel) _ fun i => ?_
  blk_simp
  rw [after0_12, acc12 m c P LG LB W BS DY hP hLG hLB hW hBS hDY]
  idx_vars i
  refine Eq.trans (b := dbs P DY (ix2 i0 i1)) ?_ (congrArg _ ?_)
  · rw [zero_add, coe_sum]
    exact congrArg _ (sum_addB P DY _)
  · blk_ext [idx12]

theorem acc13 (i : S1x2048.Idx) : (outsAt0 m c t0_15.val t0_15.isLt).2.2.2.1 i = 0 + ∑ t : Fin cfg0.N, (((part (t.val * 256) (fun t e => dv P W DY t e * xh P t e) 256 (i 1).val : ℝ)) : EReal) := by
  refine Pipeline.eq_sum_fin_of_reset_step_apply_last (fun k h => (outsAt0 m c k h).2.2.2.1) 16 (fun _ => (0 : EReal))
    (fun t i => ((part (t.val * 256) (fun t e => dv P W DY t e * xh P t e) 256 (i 1).val : ℝ) : EReal)) ?_ ?_ (le_of_eq N_0) t0_15 N_0.symm i
  · intro t h0 i
    exact (congrFun (outsA P LG LB W BS DY (t.val * 256) m c t (by omega) h0 (in1 m c P LG LB DY hP hLG hLB hDY t) (in2 m c P LG hP hLG t)
        (in8 m c W BS hW hBS t)).2.2.2.1 i)
  · intro t h0 i
    exact congrFun (outsB P LG LB W BS DY (t.val * 256) m c t (by omega) h0 (in1 m c P LG LB DY hP hLG hLB hDY t) (in2 m c P LG hP hLG t)
        (in8 m c W BS hW hBS t)).2.2.2.1 i

theorem arr13 : (dats m 0 c).arrAt 13 cfg0.N = dlg P W DY := by
  refine (dats m 0 c).arrAt_eq_of_after_last 13 t0_15 (by decide +kernel) _ fun i => ?_
  blk_simp
  rw [after0_13, acc13 m c P LG LB W BS DY hP hLG hLB hW hBS hDY]
  idx_vars i
  refine Eq.trans (b := dlg P W DY (ix2 i0 i1)) ?_ (congrArg _ ?_)
  · rw [zero_add, coe_sum]
    exact congrArg _ (sum_rows (fun t e => dv P W DY t e * xh P t e) _)
  · blk_ext [idx13]

theorem acc14 (i : S1x2048.Idx) : (outsAt0 m c t0_15.val t0_15.isLt).2.2.2.2 i = 0 + ∑ t : Fin cfg0.N, (((part (t.val * 256) (fun t e => dv P W DY t e) 256 (i 1).val : ℝ)) : EReal) := by
  refine Pipeline.eq_sum_fin_of_reset_step_apply_last (fun k h => (outsAt0 m c k h).2.2.2.2) 16 (fun _ => (0 : EReal))
    (fun t i => ((part (t.val * 256) (fun t e => dv P W DY t e) 256 (i 1).val : ℝ) : EReal)) ?_ ?_ (le_of_eq N_0) t0_15 N_0.symm i
  · intro t h0 i
    exact (congrFun (outsA P LG LB W BS DY (t.val * 256) m c t (by omega) h0 (in1 m c P LG LB DY hP hLG hLB hDY t) (in2 m c P LG hP hLG t)
        (in8 m c W BS hW hBS t)).2.2.2.2 i)
  · intro t h0 i
    exact congrFun (outsB P LG LB W BS DY (t.val * 256) m c t (by omega) h0 (in1 m c P LG LB DY hP hLG hLB hDY t) (in2 m c P LG hP hLG t)
        (in8 m c W BS hW hBS t)).2.2.2.2 i

theorem arr14 : (dats m 0 c).arrAt 14 cfg0.N = dlb P W DY := by
  refine (dats m 0 c).arrAt_eq_of_after_last 14 t0_15 (by decide +kernel) _ fun i => ?_
  blk_simp
  rw [after0_14, acc14 m c P LG LB W BS DY hP hLG hLB hW hBS hDY]
  idx_vars i
  refine Eq.trans (b := dlb P W DY (ix2 i0 i1)) ?_ (congrArg _ ?_)
  · rw [zero_add, coe_sum]
    exact congrArg _ (sum_rows (fun t e => dv P W DY t e) _)
  · blk_ext [idx14]

end Cert.AMixIdeal.Pair

end
-- ==== Proof.AMixRef.lean ====
module
public import proofs.«01_k».proof.Proof.Gen.AMixRefIdeal.Read
public import proofs.«01_k».proof.Proof.AMixScalar

/-! # What the reference of the mixer's gradient computes: the scalar functions and the norm, stage by stage -/

@[expose] public section
set_option maxRecDepth 16384
noncomputable section
namespace Cert.AMixRefIdeal.Pair
open Cert.AMixRefIdeal Cert.AMixRefIdeal.Gen Idealize.ShloMosaic Idealize.ShloMosaic.TcCoe Idealize.SL.Sem
open Cert.AMixRefIdeal.Read Cert.Lift Cert.AMixSpec

variable (x0 : S4096x6144.Idx → EReal) (x1 x2 : S2048.Idx → EReal) (x3 : S8x128x128.Idx → EReal) (x4 : S8x128.Idx → EReal)
  (x5 : S4096x2048.Idx → EReal)
variable (P : S4096x6144.Idx → ℝ) (LG LB : S2048.Idx → ℝ) (W : S8x128x128.Idx → ℝ) (BS : S8x128.Idx → ℝ) (DY : S4096x2048.Idx → ℝ)
variable (hP : ∀ i, x0 i = (P i : EReal)) (hLG : ∀ i, x1 i = (LG i : EReal)) (hLB : ∀ i, x2 i = (LB i : EReal))
  (hW : ∀ i, x3 i = (W i : EReal)) (hBS : ∀ i, x4 i = (BS i : EReal)) (hDY : ∀ i, x5 i = (DY i : EReal))

theorem ofBits_three : Ideal.ofBits .f32 0x40400000#32 = ((3 : ℝ) : EReal) := by
  simp [Ideal.ofBits, Ideal.ieee, -EReal.coe_mul]; norm_num

section Proj
include hP

/-! ## The three parts of the projection -/

theorem v2_at (r : Fin 4096) (e : Fin 2048) : val_main_v2 (F := Ideal) x0 (ix3 0 r e) = ((wide P r.val e.val : ℝ) : EReal) := by
  pointwise [val_main_v2, val_main_v1, val_main_v0]
  exact (hP _).trans (congrArg _ (wide_at P r ⟨e.val, by omega⟩).symm)
theorem v3_at (r : Fin 4096) (e : Fin 2048) : val_main_v3 (F := Ideal) x0 (ix3 0 r e) = ((wide P r.val (2048 + e.val) : ℝ) : EReal) := by
  pointwise [val_main_v3, val_main_v1, val_main_v0]
  exact (hP _).trans (congrArg _ (wide_at P r ⟨2048 + e.val, by omega⟩).symm)
theorem v4_at (r : Fin 4096) (e : Fin 2048) : val_main_v4 (F := Ideal) x0 (ix3 0 r e) = ((wide P r.val (4096 + e.val) : ℝ) : EReal) := by
  pointwise [val_main_v4, val_main_v1, val_main_v0]
  exact (hP _).trans (congrArg _ (wide_at P r ⟨4096 + e.val, by omega⟩).symm)

/-! ## The GELU of `u` and of `v` -/

theorem v16_at (r : Fin 4096) (e : Fin 2048) : val_main_v16 (F := Ideal) x0 (ix3 0 r e) = ((th (wide P r.val e.val) : ℝ) : EReal) := by
  pointwise [val_main_v16, val_main_v15, val_main_v14, val_main_v13, val_main_v12, val_main_v11, val_main_v7, val_main_v6, val_main_v5,
    val_main_cst, val_main_cst_0, val_main_cst_2]
  simp only [v2_at x0 P hP, th_coe]
theorem v25_at (r : Fin 4096) (e : Fin 2048) : val_main_v25 (F := Ideal) x0 (ix3 0 r e)
    = ((1 / 2 * (1 + th (wide P r.val e.val)) : ℝ) : EReal) := by
  pointwise [val_main_v25, val_main_v24, val_main_v23, val_main_v22, val_main_cst_5, val_main_cst_6]
  simp only [v16_at x0 P hP, ofBits_half, ← EReal.coe_one, ← EReal.coe_add, ← EReal.coe_mul]
theorem v26_at (r : Fin 4096) (e : Fin 2048) : val_main_v26 (F := Ideal) x0 (ix3 0 r e) = ((ge (wide P r.val e.val) : ℝ) : EReal) := by
  pointwise [val_main_v26]
  rw [v2_at x0 P hP, v25_at x0 P hP, ← EReal.coe_mul, ge]
theorem v38_at (r : Fin 4096) (e : Fin 2048) : val_main_v38 (F := Ideal) x0 (ix3 0 r e)
    = ((th (wide P r.val (2048 + e.val)) : ℝ) : EReal) := by
  pointwise [val_main_v38, val_main_v37, val_main_v36, val_main_v35, val_main_v34, val_main_v33, val_main_v29, val_main_v28, val_main_v27,
    val_main_cst_7, val_main_cst_8, val_main_cst_10]
  simp only [v3_at x0 P hP, th_coe]
theorem v47_at (r : Fin 4096) (e : Fin 2048) : val_main_v47 (F := Ideal) x0 (ix3 0 r e)
    = ((1 / 2 * (1 + th (wide P r.val (2048 + e.val))) : ℝ) : EReal) := by
  pointwise [val_main_v47, val_main_v46, val_main_v45, val_main_v44, val_main_cst_13, val_main_cst_14]
  simp only [v38_at x0 P hP, ofBits_half, ← EReal.coe_one, ← EReal.coe_add, ← EReal.coe_mul]
theorem v48_at (r : Fin 4096) (e : Fin 2048) : val_main_v48 (F := Ideal) x0 (ix3 0 r e) = ((vg P r.val e : ℝ) : EReal) := by
  pointwise [val_main_v48]
  rw [v3_at x0 P hP, v47_at x0 P hP, ← EReal.coe_mul, vg, ge]

/-- The line by line gradient of the GELU of `u`, at the cotangent `d`. -/
theorem gelu_u (r : Fin 4096) (e : Fin 2048) (d : ℝ) (h : val_main_v102 (F := Ideal) x0 x1 x2 x3 x4 x5 (ix3 0 r e) = (d : EReal)) :
    val_main_v170 (F := Ideal) x0 x1 x2 x3 x4 x5 (ix3 0 r e) = ((d * ge' (wide P r.val e.val) : ℝ) : EReal) := by
  pointwise [val_main_v170, val_main_v169, val_main_v168, val_main_v167, val_main_v166, val_main_v165, val_main_v164, val_main_v163, val_main_v162,
    val_main_v161, val_main_v160, val_main_v159, val_main_v21, val_main_v20, val_main_v19, val_main_v18, val_main_v17, val_main_v10, val_main_v9,
    val_main_v8, val_main_v5, val_main_cst, val_main_cst_0, val_main_cst_1, val_main_cst_3, val_main_cst_4, val_main_cst_37, val_main_cst_38]
  simp only [h, v2_at x0 P hP, v16_at x0 P hP, v25_at x0 P hP, coef_a, ofBits_cc, ofBits_half, ofBits_three, ← EReal.coe_one]
  simp only [← EReal.coe_add, ← EReal.coe_mul, ← EReal.coe_sub]
  congr 1
  rw [ge']
  ring

/-- The line by line gradient of the GELU of `v`, at the cotangent `d`. -/
theorem gelu_v (r : Fin 4096) (e : Fin 2048) (d : ℝ) (h : val_main_v146 (F := Ideal) x0 x1 x3 x5 (ix3 0 r e) = (d : EReal)) :
    val_main_v158 (F := Ideal) x0 x1 x3 x5 (ix3 0 r e) = ((d * ge' (wide P r.val (2048 + e.val)) : ℝ) : EReal) := by
  pointwise [val_main_v158, val_main_v157, val_main_v156, val_main_v155, val_main_v154, val_main_v153, val_main_v152, val_main_v151, val_main_v150,
    val_main_v149, val_main_v148, val_main_v147, val_main_v43, val_main_v42, val_main_v41, val_main_v40, val_main_v39, val_main_v32, val_main_v31,
    val_main_v30, val_main_v27, val_main_cst_7, val_main_cst_8, val_main_cst_9, val_main_cst_11, val_main_cst_12, val_main_cst_35, val_main_cst_36]
  simp only [h, v3_at x0 P hP, v38_at x0 P hP, v47_at x0 P hP, coef_a, ofBits_cc, ofBits_half, ofBits_three, ← EReal.coe_one]
  simp only [← EReal.coe_add, ← EReal.coe_mul, ← EReal.coe_sub]
  congr 1
  rw [ge']
  ring

/-! ## The norm of `v` -/

theorem v52_at (r : Fin 4096) : val_main_v52 (F := Ideal) x0 (ix3 0 r 0) = ((mean (vg P r.val) : ℝ) : EReal) := by
  pointwise [val_main_v52, val_main_v51, val_main_v50, val_main_v49, val_main_cst_15, val_main_cst_16]
  simp only [v48_at x0 P hP, mean_coe]
theorem v54_at (r : Fin 4096) (k : Fin 2048) : val_main_v54 (F := Ideal) x0 (ix3 0 r k) = ((cen (vg P r.val) k : ℝ) : EReal) := by
  pointwise [val_main_v54, val_main_v53]
  rw [v48_at x0 P hP, v52_at x0 P hP, ← EReal.coe_sub, cen]
theorem v61_at (r : Fin 4096) : val_main_v61 (F := Ideal) x0 (ix3 0 r 0) = ((var (vg P r.val) : ℝ) : EReal) := by
  pointwise [val_main_v61, val_main_v60, val_main_v59, val_main_v58, val_main_v57, val_main_v56, val_main_v55, val_main_cst_17, val_main_cst_18,
    val_main_cst_19]
  simp only [v54_at x0 P hP, ← EReal.coe_mul, coe_sum, ofBits_2048, ofBits_eps]
  rw [div_coe_coe _ _ (by norm_num), ← EReal.coe_add, var]
theorem v62_at (r : Fin 4096) : val_main_v62 (F := Ideal) x0 (ix3 0 r 0) = ((inv (vg P r.val) : ℝ) : EReal) := by
  pointwise [val_main_v62]
  rw [v61_at x0 P hP, rsqrt_pos _ (var_pos _), AMixSpec.inv]
theorem v65_at (r : Fin 4096) : val_main_v65 (F := Ideal) x0 (ix3 0 r 0) = ((-(1 / 2) * (inv (vg P r.val) / var (vg P r.val)) : ℝ) : EReal) := by
  pointwise [val_main_v65, val_main_v64, val_main_v63, val_main_cst_20]
  rw [v61_at x0 P hP, v62_at x0 P hP, ofBits_neg_half, div_coe_coe _ _ (var_pos _).ne', ← EReal.coe_mul]
theorem v67_at (r : Fin 4096) (k : Fin 2048) : val_main_v67 (F := Ideal) x0 (ix3 0 r k) = ((xh P r.val k.val : ℝ) : EReal) := by
  pointwise [val_main_v67, val_main_v66]
  rw [v54_at x0 P hP, v62_at x0 P hP, ← EReal.coe_mul, xh_at, nrm]

include hLG hLB in
theorem v73_at (r : Fin 4096) (k : Fin 2048) : val_main_v73 (F := Ideal) x0 x1 x2 (ix3 0 r k) = ((vn P LG LB r.val k.val : ℝ) : EReal) := by
  pointwise [val_main_v73, val_main_v72, val_main_v71, val_main_v70, val_main_v69, val_main_v68]
  rw [v67_at x0 P hP, hLG, hLB, ← EReal.coe_mul, ← EReal.coe_add, vn, wide1_at, wide1_at]

/-! ## The gate -/

theorem v94_2_at (r : Fin 4096) (e : Fin 2048) : val_main_v94_2 (F := Ideal) x0 (ix3 0 r e) = ((sg (wide P r.val (4096 + e.val)) : ℝ) : EReal) := by
  pointwise [val_main_v94_2, val_main_call3_v4, val_main_call3_v3, val_main_call3_v2, val_main_call3_v1, val_main_call3_v0, val_main_call3_cst,
    val_main_call3_cst_0]
  rw [v4_at x0 P hP, ← EReal.coe_neg, Ideal.exp_coe, ← EReal.coe_one, ← EReal.coe_add, div_coe_coe _ _ (by positivity), sg]
theorem v94_0_at (r : Fin 4096) (e : Fin 2048) : val_main_v94_0 (F := Ideal) x0 (ix3 0 r e) = ((si (wide P r.val (4096 + e.val)) : ℝ) : EReal) := by
  pointwise [val_main_v94_0]
  rw [v4_at x0 P hP, v94_2_at x0 P hP, ← EReal.coe_mul, si]

end Proj

end Cert.AMixRefIdeal.Pair

end
-- ==== Proof.AMixRefSum.lean ====
module
public import proofs.«01_k».proof.Proof.Gen.AMixRefIdeal.Read
public import proofs.«01_k».proof.Proof.AMixScalar

/-! # Sums of the mixer's reference over several axes

A contraction of three axes, a reduction over the chunks and a group's columns, and a reduction over axes of one entry. -/

@[expose] public section
set_option maxRecDepth 16384
noncomputable section
namespace Cert.AMixRefIdeal.Pair
open Cert.AMixRefIdeal Cert.AMixRefIdeal.Gen Idealize.ShloMosaic Idealize.ShloMosaic.TcCoe

/-- An index of three contracted axes as its three coordinates. -/
def contr3 {sl sr so : Shape} (D : DotDims sl sr so) (n0 n1 n2 : ℕ) (hr : D.contr.rank = 3) (h0 : D.contr.size ⟨0, by omega⟩ = n0)
    (h1 : D.contr.size ⟨1, by omega⟩ = n1) (h2 : D.contr.size ⟨2, by omega⟩ = n2) : D.contr.Idx ≃ Fin n0 × Fin n1 × Fin n2 where
  toFun q := ((q ⟨0, by omega⟩).cast h0, (q ⟨1, by omega⟩).cast h1, (q ⟨2, by omega⟩).cast h2)
  invFun p := fun a =>
    if ha : a.val = 0 then p.1.cast (h0.symm.trans (congrArg D.contr.size (Fin.ext ha.symm)))
    else if hb : a.val = 1 then p.2.1.cast (h1.symm.trans (congrArg D.contr.size (Fin.ext hb.symm)))
    else p.2.2.cast (h2.symm.trans (congrArg D.contr.size (Fin.ext (by have := a.isLt; show 2 = a.val; omega))))
  left_inv q := by
    have p0 : 0 < D.contr.rank := by omega
    have p1 : 1 < D.contr.rank := by omega
    have p2 : 2 < D.contr.rank := by omega
    funext a
    by_cases ha : a.val = 0
    · obtain rfl : a = ⟨0, p0⟩ := Fin.ext ha
      simp
    · by_cases hb : a.val = 1
      · obtain rfl : a = ⟨1, p1⟩ := Fin.ext hb
        simp
      · obtain rfl : a = ⟨2, p2⟩ := Fin.ext (by have := a.isLt; show a.val = 2; omega)
        simp
  right_inv p := by
    refine Prod.ext (Fin.ext ?_) (Prod.ext (Fin.ext ?_) (Fin.ext ?_)) <;> simp

/-- A sum over three contracted axes. -/
theorem sum_contr3 {M : Type*} [AddCommMonoid M] {sl sr so : Shape} (D : DotDims sl sr so) (n0 n1 n2 : ℕ) (hr : D.contr.rank = 3)
    (h0 : D.contr.size ⟨0, by omega⟩ = n0) (h1 : D.contr.size ⟨1, by omega⟩ = n1) (h2 : D.contr.size ⟨2, by omega⟩ = n2)
    (f : D.contr.Idx → M) (g : Fin n0 → Fin n1 → Fin n2 → M)
    (h : ∀ q : D.contr.Idx, f q = g ((q ⟨0, by omega⟩).cast h0) ((q ⟨1, by omega⟩).cast h1) ((q ⟨2, by omega⟩).cast h2)) :
    ∑ q, f q = ∑ a, ∑ b, ∑ c, g a b c := by
  rw [Fintype.sum_equiv (contr3 D n0 n1 n2 hr h0 h1 h2) f (fun p => g p.1 p.2.1 p.2.2) h, Fintype.sum_prod_type]
  exact Finset.sum_congr rfl fun a _ => Fintype.sum_prod_type _

local notation "D109" => dot_S8x1x32x256x128_S1x32x128x8x256_S8x128x128_123_014_4_2_0_3

/-- The product over the chunks and a group's columns. -/
theorem dot109 (a : S8x1x32x256x128.Idx → EReal) (b : S1x32x128x8x256.Idx → EReal) (g : Fin 8) (p q : Fin 128) :
    Host.dotGeneral (F := Ideal) (φ₁ := .f32) (φ₂ := .f32) D109 none a b (ix3 g p q)
      = ∑ n : Fin 32, ∑ k : Fin 256, a (ix5 g 0 n k p) * b (ix5 0 n q g k) := by
  simp only [Host.dotGeneral]
  rw [Ideal.dotGeneral_apply, sum_contr3 D109 1 32 256 rfl rfl rfl rfl _ (fun o n k => a (ix5 g o n k p) * b (ix5 o n q g k)) ?_,
    Fin.sum_univ_one]
  intro s
  refine congrArg₂ _ (congrArg a (funext fun x => Fin.ext ?_)) (congrArg b (funext fun x => Fin.ext ?_))
  · match x with
    | ⟨0, _⟩ => rfl
    | ⟨1, _⟩ => rfl
    | ⟨2, _⟩ => rfl
    | ⟨3, _⟩ => rfl
    | ⟨4, _⟩ => rfl
  · match x with
    | ⟨0, _⟩ => rfl
    | ⟨1, _⟩ => rfl
    | ⟨2, _⟩ => rfl
    | ⟨3, _⟩ => rfl
    | ⟨4, _⟩ => rfl

/-- The sum over the chunks and a group's columns. -/
theorem reduce14 (h : S1x32x128x8x256.ReducesTo [1, 4] S1x128x8) (v : S1x32x128x8x256.Idx → EReal) (init : EReal) (o : Fin 1) (p : Fin 128)
    (g : Fin 8) : Ideal.hostReduceAdd h v init (ix3 o p g) = init + ∑ n : Fin 32, ∑ k : Fin 256, v (ix5 0 n p g k) := by
  unfold Ideal.hostReduceAdd
  congr 1
  rw [← Fintype.sum_prod_type (fun x : Fin 32 × Fin 256 => v (ix5 0 x.1 p g x.2))]
  refine Finset.sum_nbij' (fun i => (i 1, i 4)) (fun x => ix5 0 x.1 p g x.2) (fun i _ => Finset.mem_univ _) (fun x _ => ?_) (fun i hi => ?_)
    (fun x _ => rfl) (fun i hi => ?_)
  · rw [Finset.mem_filter]
    refine ⟨Finset.mem_univ _, ?_⟩
    funext b; apply Fin.ext
    match b with
    | ⟨0, _⟩ => show 0 = o.val; omega
    | ⟨1, _⟩ => rfl
    | ⟨2, _⟩ => rfl
  all_goals
    rw [Finset.mem_filter] at hi
    have h1 : (i 2).val = p.val := congrArg Fin.val (congrFun hi.2 1)
    have h2 : (i 3).val = g.val := congrArg Fin.val (congrFun hi.2 2)
    have e : ix5 0 (i 1) p g (i 4) = i := by
      funext b; apply Fin.ext
      match b with
      | ⟨0, _⟩ => exact (Nat.lt_one_iff.mp (i 0).isLt).symm
      | ⟨1, _⟩ => rfl
      | ⟨2, _⟩ => exact h1.symm
      | ⟨3, _⟩ => exact h2.symm
      | ⟨4, _⟩ => rfl
  · exact e
  · exact congrArg v e.symm

/-- The sum over three axes of one entry each. -/
theorem reduce014 (h : S1x1x128x8x1.ReducesTo [0, 1, 4] S128x8) (v : S1x1x128x8x1.Idx → EReal) (init : EReal) (p : Fin 128)
    (g : Fin 8) : Ideal.hostReduceAdd h v init (ix2 p g) = init + v (ix5 0 0 p g 0) := by
  unfold Ideal.hostReduceAdd
  congr 1
  rw [Finset.sum_eq_single (ix5 0 0 p g 0)]
  · intro i hi hne
    rw [Finset.mem_filter] at hi
    exfalso; apply hne
    have h1 : (i 2).val = p.val := congrArg Fin.val (congrFun hi.2 0)
    have h2 : (i 3).val = g.val := congrArg Fin.val (congrFun hi.2 1)
    funext a; apply Fin.ext
    match a with
    | ⟨0, _⟩ => exact Nat.lt_one_iff.mp (i 0).isLt
    | ⟨1, _⟩ => exact Nat.lt_one_iff.mp (i 1).isLt
    | ⟨2, _⟩ => exact h1
    | ⟨3, _⟩ => exact h2
    | ⟨4, _⟩ => exact Nat.lt_one_iff.mp (i 4).isLt
  · intro hn
    exfalso; apply hn
    rw [Finset.mem_filter]
    refine ⟨Finset.mem_univ _, ?_⟩
    funext b; apply Fin.ext
    match b with
    | ⟨0, _⟩ => rfl
    | ⟨1, _⟩ => rfl

end Cert.AMixRefIdeal.Pair

end
-- ==== Proof.AMixRefMix.lean ====
module
public import proofs.«01_k».proof.Proof.AMixRef
public import proofs.«01_k».proof.Proof.AMixRefSum

/-! # What the reference of the mixer's gradient computes: the mixing and the five gradients, stage by stage -/

@[expose] public section
set_option maxRecDepth 16384
noncomputable section
namespace Cert.AMixRefIdeal.Pair
open Cert.AMixRefIdeal Cert.AMixRefIdeal.Gen Idealize.ShloMosaic Idealize.ShloMosaic.TcCoe Idealize.SL.Sem
open Cert.AMixRefIdeal.Read Cert.Lift Cert.AMixSpec

variable (x0 : S4096x6144.Idx → EReal) (x1 x2 : S2048.Idx → EReal) (x3 : S8x128x128.Idx → EReal) (x4 : S8x128.Idx → EReal)
  (x5 : S4096x2048.Idx → EReal)
variable (P : S4096x6144.Idx → ℝ) (LG LB : S2048.Idx → ℝ) (W : S8x128x128.Idx → ℝ) (BS : S8x128.Idx → ℝ) (DY : S4096x2048.Idx → ℝ)
variable (hP : ∀ i, x0 i = (P i : EReal)) (hLG : ∀ i, x1 i = (LG i : EReal)) (hLB : ∀ i, x2 i = (LB i : EReal))
  (hW : ∀ i, x3 i = (W i : EReal)) (hBS : ∀ i, x4 i = (BS i : EReal)) (hDY : ∀ i, x5 i = (DY i : EReal))

/-! ## The masked mixing matrix -/

theorem v77_at : ∀ q : Fin 128, val_main_v77 (F := Ideal) (ix2 0 q) = BitVec.ofNat 32 (q.val / 64) := by decide +kernel
theorem v79_at : ∀ p : Fin 128, val_main_v79 (F := Ideal) (ix2 p 0) = BitVec.ofNat 32 (p.val / 64) := by decide +kernel

/-- A choice by the mask. -/
theorem mask_at (g : Fin 8) (p q : Fin 128) (a b : EReal) : Scalar.select (val_main_v85_1 (F := Ideal) (ix3 g p q)) a b
    = if q.val / 64 ≤ p.val / 64 then a else b := by
  pointwise [val_main_v85_1, val_main_v83, val_main_v82, val_main_v81, val_main_v80]
  rw [v77_at, v79_at, sel]

include hW in
theorem v85_at (g : Fin 8) (p q : Fin 128) : val_main_v85_0 (F := Ideal) x3 (ix3 g p q) = ((wm W g.val p.val q.val : ℝ) : EReal) := by
  rw [val_main_v85_0_apply, mask_at, hW, wm, wide3_at]
  pointwise [val_main_v84, val_main_cst_22]
  split_ifs <;> rfl

/-! ## The mixed rows -/

include hP hLG hLB in
theorem v74_at (n : Fin 32) (p : Fin 128) (g : Fin 8) (k : Fin 256) : val_main_v74 (F := Ideal) x0 x1 x2 (ix5 0 n p g k)
    = ((vn P LG LB (n.val * 128 + p.val) (g.val * 256 + k.val) : ℝ) : EReal) := by
  pointwise [val_main_v74]
  rw [v73_at x0 x1 x2 P LG LB hP hLG hLB]

include hP hLG hLB hW hBS in
theorem v92_at (r : Fin 4096) (e : Fin 2048) : val_main_v92 (F := Ideal) x0 x1 x2 x3 x4 (ix3 0 r e)
    = ((mixed P LG LB W BS r.val e.val : ℝ) : EReal) := by
  pointwise [val_main_v92, val_main_v91, val_main_v90, val_main_v89, val_main_v88, val_main_v87, val_main_v86]
  simp only [v74_at x0 x1 x2 P LG LB hP hLG hLB, v85_at x3 W hW, hBS, Nat.div_add_mod', ← EReal.coe_mul, coe_sum]
  rw [← EReal.coe_add, mixed]
  congr 1
  refine congrArg₂ (· + ·) (Finset.sum_congr rfl fun q _ => mul_comm _ _) ?_
  exact (wide_at BS ⟨e.val / 256, by omega⟩ ⟨r.val % 128, by omega⟩).symm

/-! ## The cotangents of the gate's and the mixing's results -/

include hDY in
theorem v97_at (r : Fin 4096) (e : Fin 2048) : val_main_v97 (F := Ideal) x5 (ix3 0 r e) = ((wide DY r.val e.val : ℝ) : EReal) := by
  pointwise [val_main_v97, val_main_v96]
  rw [hDY, wide_at]

include hP hDY

theorem v99_at (r : Fin 4096) (e : Fin 2048) : val_main_v99 (F := Ideal) x0 x5 (ix3 0 r e)
    = ((wide DY r.val e.val * si (wide P r.val (4096 + e.val)) : ℝ) : EReal) := by
  pointwise [val_main_v99]
  rw [v97_at x5 DY hDY, v94_0_at x0 P hP, ← EReal.coe_mul]

theorem v101_at (r : Fin 4096) (e : Fin 2048) : val_main_v101 (F := Ideal) x0 x5 (ix3 0 r e) = ((dm P DY r.val e.val : ℝ) : EReal) := by
  pointwise [val_main_v101]
  rw [v99_at x0 x5 P DY hP hDY, v26_at x0 P hP, ← EReal.coe_mul, dm]
  congr 1; ring

theorem v103_at (n : Fin 32) (p : Fin 128) (g : Fin 8) (k : Fin 256) : val_main_v103 (F := Ideal) x0 x5 (ix5 0 n p g k)
    = ((dm P DY (n.val * 128 + p.val) (g.val * 256 + k.val) : ℝ) : EReal) := by
  pointwise [val_main_v103]
  rw [v101_at x0 x5 P DY hP hDY]

/-- The gradient of the bias. -/
theorem v107_at (g : Fin 8) (p : Fin 128) : val_main_v107 (F := Ideal) x0 x5 (ix2 g p) = dbs P DY (ix2 g p) := by
  pointwise [val_main_v107, val_main_v106, reduce014, val_main_v105, val_main_v104, reduce14, val_main_cst_23, val_main_cst_24]
  simp only [v103_at x0 x5 P DY hP hDY, coe_sum]
  rfl

include hLG hLB in
/-- The gradient of the mixing matrix. -/
theorem v112_at (g : Fin 8) (p q : Fin 128) : val_main_v112 (F := Ideal) x0 x1 x2 x5 (ix3 g p q) = dws P LG LB DY (ix3 g p q) := by
  rw [val_main_v112_apply, mask_at]
  unfold val_main_v109
  rw [dot109]
  pointwise [val_main_v108, val_main_call5_v0, val_main_call5_cst]
  simp only [v103_at x0 x5 P DY hP hDY, v74_at x0 x1 x2 P LG LB hP hLG hLB, ← EReal.coe_mul, coe_sum]
  show _ = ((if q.val / 64 ≤ p.val / 64 then ∑ n : Fin 32, dwsR P LG LB DY g.val p.val q.val n.val else 0 : ℝ) : EReal)
  split_ifs <;> rfl

section V
include hW

theorem v113_at (r : Fin 4096) (e : Fin 2048) : val_main_v113 (F := Ideal) x0 x3 x5 (ix3 0 r e) = ((dv P W DY r.val e.val : ℝ) : EReal) := by
  pointwise [val_main_v113, val_main_v111, val_main_v110, val_main_v108]
  simp only [v103_at x0 x5 P DY hP hDY, v85_at x3 W hW, Nat.div_add_mod', ← EReal.coe_mul, coe_sum]
  exact congrArg _ (Finset.sum_congr rfl fun p _ => mul_comm _ _)

/-- The gradient of the norm's shift. -/
theorem v175_at (o : Fin 1) (e : Fin 2048) : val_main_v175 (F := Ideal) x0 x3 x5 (ix2 o e) = dlb P W DY (ix2 o e) := by
  pointwise [val_main_v175, val_main_v116, hostReduceAdd_unit_a01, val_main_v115, val_main_v114, val_main_cst_25, val_main_cst_26]
  simp only [v113_at x0 x3 x5 P W DY hP hW hDY, coe_sum]
  rfl

/-- The gradient of the norm's scale. -/
theorem v174_at (o : Fin 1) (e : Fin 2048) : val_main_v174 (F := Ideal) x0 x3 x5 (ix2 o e) = dlg P W DY (ix2 o e) := by
  pointwise [val_main_v174, val_main_v122, hostReduceAdd_unit_a01, val_main_v119, val_main_v118, val_main_v117, val_main_cst_27, val_main_cst_28]
  simp only [v113_at x0 x3 x5 P W DY hP hW hDY, v67_at x0 P hP, ← EReal.coe_mul, coe_sum]
  exact congrArg _ (Finset.sum_congr rfl fun r _ => mul_comm _ _)

include hLG

theorem v121_at (r : Fin 4096) (k : Fin 2048) : val_main_v121 (F := Ideal) x0 x1 x3 x5 (ix3 0 r k) = ((dxh P LG W DY r.val k : ℝ) : EReal) := by
  pointwise [val_main_v121, val_main_v120, val_main_v68]
  rw [v113_at x0 x3 x5 P W DY hP hW hDY, hLG, ← EReal.coe_mul, dxh, wide1_at]

/-- The norm's gradient before the mean's share. -/
theorem v137_at (r : Fin 4096) (k : Fin 2048) : val_main_v137 (F := Ideal) x0 x1 x3 x5 (ix3 0 r k)
    = ((lnChain (vg P r.val) (dxh P LG W DY r.val) k : ℝ) : EReal) := by
  pointwise [val_main_v137, val_main_v136, val_main_v135, val_main_v134, val_main_v133, val_main_v132, val_main_v131, hostReduceAdd_unit_a02,
    val_main_v130, val_main_v129, val_main_v128, val_main_v127, val_main_v126, val_main_v125, val_main_v124, val_main_v123, val_main_cst_29,
    val_main_cst_30, val_main_cst_31]
  simp only [v121_at x0 x1 x3 x5 P LG W DY hP hLG hW hDY, v54_at x0 P hP, v62_at x0 P hP, v65_at x0 P hP, ← EReal.coe_mul, coe_sum, ofBits_2048]
  rw [div_coe_coe _ _ (by norm_num)]
  simp only [zero_add, ← EReal.coe_mul, ← EReal.coe_add]
  rfl

/-- The norm's gradient. -/
theorem v146_at (r : Fin 4096) (k : Fin 2048) : val_main_v146 (F := Ideal) x0 x1 x3 x5 (ix3 0 r k)
    = ((lnGrad (vg P r.val) (dxh P LG W DY r.val) k : ℝ) : EReal) := by
  pointwise [val_main_v146, val_main_v145, val_main_v144, val_main_v143, hostReduceAdd_unit_a02, val_main_v142, val_main_v141, val_main_v140,
    val_main_v139, val_main_v138, val_main_cst_32, val_main_cst_33, val_main_cst_34]
  simp only [v137_at x0 x1 x3 x5 P LG W DY hP hLG hW hDY, ← EReal.coe_neg, coe_sum, ofBits_2048]
  rw [div_coe_coe _ _ (by norm_num)]
  simp only [zero_add, ← EReal.coe_add, lnGrad_eq]

theorem v158_at (r : Fin 4096) (k : Fin 2048) : val_main_v158 (F := Ideal) x0 x1 x3 x5 (ix3 0 r k) = ((dvv P LG W DY r.val k : ℝ) : EReal) :=
  gelu_v x0 x1 x3 x5 P hP r k _ (v146_at x0 x1 x3 x5 P LG W DY hP hLG hW hDY r k)

end V

section U
include hLG hLB hW hBS

theorem v170_at (r : Fin 4096) (e : Fin 2048) : val_main_v170 (F := Ideal) x0 x1 x2 x3 x4 x5 (ix3 0 r e)
    = ((fu P DY r.val e.val * mixed P LG LB W BS r.val e.val : ℝ) : EReal) := by
  refine (gelu_u x0 x1 x2 x3 x4 x5 P hP r e
    (wide DY r.val e.val * si (wide P r.val (4096 + e.val)) * mixed P LG LB W BS r.val e.val) ?_).trans ?_
  · pointwise [val_main_v102]
    rw [v99_at x0 x5 P DY hP hDY, v92_at x0 x1 x2 x3 x4 P LG LB W BS hP hLG hLB hW hBS, ← EReal.coe_mul]
  · rw [fu]; congr 1; ring

theorem v100_at (r : Fin 4096) (e : Fin 2048) : val_main_v100 (F := Ideal) x0 x1 x2 x3 x4 x5 (ix3 0 r e)
    = ((fz P DY r.val e.val * mixed P LG LB W BS r.val e.val : ℝ) : EReal) := by
  pointwise [val_main_v100, val_main_call4_v2, val_main_call4_v1, val_main_call4_v0, val_main_v98, val_main_v93, val_main_v94_1, val_main_call3_v7,
    val_main_call3_v6, val_main_call3_cst_1]
  simp only [v26_at x0 P hP, v92_at x0 x1 x2 x3 x4 P LG LB W BS hP hLG hLB hW hBS, v97_at x5 DY hDY, v94_2_at x0 P hP, v4_at x0 P hP,
    ← EReal.coe_one]
  simp only [← EReal.coe_mul, ← EReal.coe_sub, ← EReal.coe_add]
  rw [fz, si']
  congr 1; ring

/-- The gradient of the projection. -/
theorem v173_at (r : Fin 4096) (e : Fin 6144) : val_main_v173 (F := Ideal) x0 x1 x2 x3 x4 x5 (ix2 r e) = dproj P LG LB W BS DY (ix2 r e) := by
  pointwise [val_main_v173, val_main_v172, val_main_v171]
  show _ = ((dprojR P LG LB W BS DY r.val e.val : ℝ) : EReal)
  have u := fun k => v170_at x0 x1 x2 x3 x4 x5 P LG LB W BS DY hP hLG hLB hW hBS hDY r k
  have v := fun k => v158_at x0 x1 x3 x5 P LG W DY hP hLG hW hDY r k
  have z := fun k => v100_at x0 x1 x2 x3 x4 x5 P LG LB W BS DY hP hLG hLB hW hBS hDY r k
  rw [dprojR]
  by_cases h : e.val < 2048
  · rw [dif_pos h, dif_pos h, u]
  · by_cases h' : e.val < 4096
    · rw [dif_neg h, dif_neg h, dif_pos h', dif_pos (show e.val - 2048 < 2048 by omega), v]
    · rw [dif_neg h, dif_neg h, dif_neg h', dif_neg (show ¬ e.val - 2048 < 2048 by omega), z]
      simp only [show e.val - 2048 - 2048 = e.val - 4096 by omega]

end U

end Cert.AMixRefIdeal.Pair

end
-- ==== Proof.AMixClaim.lean ====
module

public import proofs.«01_k».proof.Defs
public import proofs.«01_k».proof.Proof.AMixArr
public import proofs.«01_k».proof.Proof.AMixRefMix
public import proofs.«01_k».proof.Proof.Gen.Pre_finite3
public import Idealize.ShloMosaic.Lib.Quiescent

/-! # The gradient through mixer A: the kernel and the reference agree over the reals -/

@[expose] public section

noncomputable section

namespace Cert.AMixClaim

open Idealize.ShloMosaic Idealize.ShloMosaic.TcCoe Idealize.SL.Sem Cert.Lift Cert.AMixSpec

/-- The reference runs and leaves its arguments as they were; it has no semaphore. -/
theorem frame_ref : Cert.quiescent_AMixRefIdeal := fun m ρ _ =>
  (θ_run Cert.AMixRefIdeal.defs _ _).mono (fun r h => ⟨fun c => (h c).2.2.2.2.2, sem_eq_zero_of_no_sems (by decide) r.2⟩)
    (Cert.AMixRefIdeal.Value.run (F := Ideal) m ρ)

/-- The two named constants of the gate's derivative are the reals they were rounded from. -/
theorem preserves : Cert.preserves_AMix_AMixIdeal :=
  ⟨IdealRules.named_const.statement Cert.AMixIdeal.κ "gelu_a" .f32 0x3D372713#32 ((8943 / 200000 : ℝ) : EReal) rfl,
    IdealRules.named_const.statement Cert.AMixIdeal.κ "gelu_3a" .f32 0x3E095D4F#32 ((26829 / 200000 : ℝ) : EReal) rfl⟩

/-- Finite arguments are reals. -/
theorem reals [Cert.Pre_finite3.Facts] (m) (h : Cert.Pre_AMixIdeal_finite3 m) (c : Dev Cert.AMixIdeal.nD) :
    ((∃ x : _ → ℝ, ∀ i, AMixIdeal.Pair.argP m c i = (x i : EReal)) ∧ (∃ x : _ → ℝ, ∀ i, AMixIdeal.Pair.argLG m c i = (x i : EReal))
    ∧ (∃ x : _ → ℝ, ∀ i, AMixIdeal.Pair.argLB m c i = (x i : EReal))) ∧ (∃ x : _ → ℝ, ∀ i, AMixIdeal.Pair.argW m c i = (x i : EReal))
    ∧ (∃ x : _ → ℝ, ∀ i, AMixIdeal.Pair.argBS m c i = (x i : EReal)) ∧ (∃ x : _ → ℝ, ∀ i, AMixIdeal.Pair.argDY m c i = (x i : EReal)) := by
  obtain ⟨h0, h1, h2, h3, h4, h5⟩ := h c
  exact ⟨⟨exists_real _ fun i => ofBits_inf ▸ congrFun h0 i, exists_real _ fun i => ofBits_inf ▸ congrFun h1 i,
    exists_real _ fun i => ofBits_inf ▸ congrFun h2 i⟩, exists_real _ fun i => ofBits_inf ▸ congrFun h3 i,
    exists_real _ fun i => ofBits_inf ▸ congrFun h4 i, exists_real _ fun i => ofBits_inf ▸ congrFun h5 i⟩

/-- Both programs leave the same five gradients. -/
theorem algebraic : Cert.algebraic_AMixIdeal_AMixRefIdeal_pre_finite3 := by
  intro m ρ m' ρ' hpre hagree
  refine ⟨_, _, _, _, _, Cert.AMixIdeal.Value.run_blocks m ρ, (θ_run _ _ _).mono (fun r h c => ?_) (Cert.AMixRefIdeal.Value.run m' ρ')⟩
  obtain ⟨⟨⟨P, hP⟩, ⟨LG, hLG⟩, ⟨LB, hLB⟩⟩, ⟨W, hW⟩, ⟨BS, hBS⟩, ⟨DY, hDY⟩⟩ := reals m hpre c
  obtain ⟨e0, e1, e2, e3, e4, e5⟩ := hagree c
  obtain ⟨r0, r1, r2, r3, r4, ra⟩ := h c
  refine ⟨r0.trans ?_, r1.trans ?_, r2.trans ?_, r3.trans ?_, r4.trans ?_, ra⟩ <;> clear r0 r1 r2 r3 r4 ra h
  · rw [AMixRefIdeal.Read.val_main_v173_eq, AMixIdeal.Pair.arr10 m c P LG LB W BS DY hP hLG hLB hW hBS hDY]
    funext i
    idx_vars i
    exact AMixRefIdeal.Pair.v173_at _ _ _ _ _ _ P LG LB W BS DY (fun i => (congrFun e0 i).trans (hP i)) (fun i => (congrFun e1 i).trans (hLG i)) (fun i => (congrFun e2 i).trans (hLB i)) (fun i => (congrFun e3 i).trans (hW i)) (fun i => (congrFun e4 i).trans (hBS i)) (fun i => (congrFun e5 i).trans (hDY i)) i0 i1
  · rw [AMixRefIdeal.Read.val_main_v112_eq, AMixIdeal.Pair.arr11 m c P LG LB W BS DY hP hLG hLB hW hBS hDY]
    funext i
    idx_vars i
    exact AMixRefIdeal.Pair.v112_at _ _ _ _ P LG LB DY (fun i => (congrFun e0 i).trans (hP i)) (fun i => (congrFun e1 i).trans (hLG i)) (fun i => (congrFun e2 i).trans (hLB i)) (fun i => (congrFun e5 i).trans (hDY i)) i0 i1 i2
  · rw [AMixRefIdeal.Read.val_main_v107_eq, AMixIdeal.Pair.arr12 m c P LG LB W BS DY hP hLG hLB hW hBS hDY]
    funext i
    idx_vars i
    exact AMixRefIdeal.Pair.v107_at _ _ P DY (fun i => (congrFun e0 i).trans (hP i)) (fun i => (congrFun e5 i).trans (hDY i)) i0 i1
  · rw [AMixRefIdeal.Read.val_main_v174_eq, AMixIdeal.Pair.arr13 m c P LG LB W BS DY hP hLG hLB hW hBS hDY]
    funext i
    idx_vars i
    exact AMixRefIdeal.Pair.v174_at _ _ _ P W DY (fun i => (congrFun e0 i).trans (hP i)) (fun i => (congrFun e3 i).trans (hW i)) (fun i => (congrFun e5 i).trans (hDY i)) i0 i1
  · rw [AMixRefIdeal.Read.val_main_v175_eq, AMixIdeal.Pair.arr14 m c P LG LB W BS DY hP hLG hLB hW hBS hDY]
    funext i
    idx_vars i
    exact AMixRefIdeal.Pair.v175_at _ _ _ P W DY (fun i => (congrFun e0 i).trans (hP i)) (fun i => (congrFun e3 i).trans (hW i)) (fun i => (congrFun e5 i).trans (hDY i)) i0 i1

end Cert.AMixClaim

end
-- ==== Proof.BMixClaim.lean ====
module

public import proofs.«01_k».proof.Defs
public import proofs.«01_k».proof.Proof.Gen.BMixRefIdeal.Run
public import Idealize.ShloMosaic.Lib.Quiescent

/-! # The gradient through mixer B: the claims -/

@[expose] public section

noncomputable section

namespace Cert.BMixClaim

open Idealize.ShloMosaic Idealize.ShloMosaic.TcCoe Idealize.SL.Sem

/-- The reference runs and leaves its arguments as they were; it has no semaphore. -/
theorem frame_ref : Cert.quiescent_BMixRefIdeal := fun m ρ _ =>
  (θ_run Cert.BMixRefIdeal.defs _ _).mono (fun r h => ⟨fun c => (h c).2.2.2, sem_eq_zero_of_no_sems (by decide) r.2⟩)
    (Cert.BMixRefIdeal.Value.run (F := Ideal) m ρ)

end Cert.BMixClaim

end
-- ==== Proof.InBwdSpec.lean ====
module
public import proofs.«01_k».proof.Proof.Rms

/-! # What the gradient through the input projection and its norm is

`x` is the array that the forward step normed, `g` the norm's weight, `w` the projection, `d` the cotangent of the
projection's result, `n` the cotangent that reaches `x` past the block. -/

@[expose] public section

noncomputable section

namespace Cert.InBwdSpec

open Idealize.ShloMosaic Cert.Rms

variable {J : ℕ} (x : (⟨3, ![1, 4096, 1024]⟩ : Shape).Idx → ℝ) (g : (⟨1, ![1024]⟩ : Shape).Idx → ℝ)
  (w : (⟨2, ![1024, J]⟩ : Shape).Idx → ℝ) (d : (⟨2, ![4096, J]⟩ : Shape).Idx → ℝ)

/-- The cotangent of the normed row: the cotangent of the projection times the projection's transpose. -/
def dh (r : Fin 4096) (k : Fin 1024) : ℝ := ∑ j : Fin J, d (ix2 r j) * w (ix2 k j)

/-- One row of `x`. -/
abbrev xrow (r : Fin 4096) : Fin 1024 → ℝ := fun k => x (ix3 0 r k)

/-- One row of the cotangent, times the norm's weight. -/
abbrev urow (r : Fin 4096) : Fin 1024 → ℝ := fun k => dh w d r k * g (ix1 k)

/-- The gradient with respect to `x`. -/
def dx (n : (⟨3, ![1, 4096, 1024]⟩ : Shape).Idx → EReal) : (⟨2, ![4096, 1024]⟩ : Shape).Idx → EReal := fun i =>
  n (ix3 0 (i 0) (i 1)) + ((grad (xrow x (i 0)) (urow g w d (i 0)) (i 1) : ℝ) : EReal)

theorem dx_at (n : (⟨3, ![1, 4096, 1024]⟩ : Shape).Idx → EReal) (r : Fin 4096) (k : Fin 1024) :
    dx x g w d n (ix2 r k) = n (ix3 0 r k) + ((grad (xrow x r) (urow g w d r) k : ℝ) : EReal) := rfl

/-- One row's term of the weight's gradient. -/
def dgTerm (r : Fin 4096) (k : Fin 1024) : ℝ := dh w d r k * (x (ix3 0 r k) * inv (xrow x r))

/-- The weight's gradient: the rows' terms summed. -/
def dg : (⟨2, ![1, 1024]⟩ : Shape).Idx → EReal := fun i => ((∑ r, dgTerm x w d r (i 1) : ℝ) : EReal)

end Cert.InBwdSpec

end
-- ==== Proof.InBwdA.lean ====
module
public import proofs.«01_k».proof.Proof.Gen.InBwdAIdeal.Value
public import proofs.«01_k».proof.Proof.InBwdSpec
/-! # The gradient through mixer A's input projection and its norm: the kernel's `dx`

The weight comes in four row parts, and each product in eight column blocks. -/

@[expose] public section
set_option maxRecDepth 16384
noncomputable section
namespace Cert.InBwdAIdeal.Pair
open Cert.InBwdAIdeal Cert.InBwdAIdeal.Gen Idealize.ShloMosaic Idealize.ShloMosaic.TcCoe Idealize.SL.Sem
open Idealize.ShloMosaic.Pipeline (Dat)
open Cert.Lift Cert.Rms Cert.InBwdSpec

theorem idx0 : ∀ t : Fin cfg0.N, win0_0.index t 0 = t.val ∧ win0_0.index t 1 = 0 :=
  (by decide +kernel : ∀ t : Fin grid0.N, _)
theorem idx5 : ∀ t : Fin cfg0.N, win0_5.index t 0 = t.val ∧ win0_5.index t 1 = 0 :=
  (by decide +kernel : ∀ t : Fin grid0.N, _)
theorem idx7 : ∀ t : Fin cfg0.N, win0_7.index t 0 = t.val ∧ win0_7.index t 1 = 0 :=
  (by decide +kernel : ∀ t : Fin grid0.N, _)
theorem idx8 : ∀ t : Fin cfg0.N, win0_8.index t 0 = t.val ∧ win0_8.index t 1 = 0 :=
  (by decide +kernel : ∀ t : Fin grid0.N, _)
theorem idx1 : ∀ t : Fin cfg0.N, win0_1.index t 0 = 0 ∧ win0_1.index t 1 = 0 ∧ win0_1.index t 2 = 0 :=
  (by decide +kernel : ∀ t : Fin grid0.N, _)
theorem idx2 : ∀ t : Fin cfg0.N, win0_2.index t 0 = 0 ∧ win0_2.index t 1 = 0 ∧ win0_2.index t 2 = 0 :=
  (by decide +kernel : ∀ t : Fin grid0.N, _)
theorem idx3 : ∀ t : Fin cfg0.N, win0_3.index t 0 = 0 ∧ win0_3.index t 1 = 0 ∧ win0_3.index t 2 = 0 :=
  (by decide +kernel : ∀ t : Fin grid0.N, _)
theorem idx4 : ∀ t : Fin cfg0.N, win0_4.index t 0 = 0 ∧ win0_4.index t 1 = 0 ∧ win0_4.index t 2 = 0 :=
  (by decide +kernel : ∀ t : Fin grid0.N, _)
theorem idx6 : ∀ t : Fin cfg0.N, win0_6.index t 0 = 0 ∧ win0_6.index t 1 = 0 ∧ win0_6.index t 2 = 0 :=
  (by decide +kernel : ∀ t : Fin grid0.N, _)

theorem lt8 (t : Fin cfg0.N) : t.val < 8 := lt_of_lt_of_eq t.isLt N_0

/-- The row of the whole array that row `a` of grid point `t`'s block is. -/
def row (t : Fin cfg0.N) (a : Fin 512) : Fin 4096 := ⟨t.val * 512 + a.val, by have := lt8 t; omega⟩

variable (m : (ℓ : Loc nD τ sig) → Buf (Elt Ideal) ℓ) (c : Dev nD)

abbrev argX : S1x4096x1024.Idx → EReal := m ((c : Thread nD τ).loc main_arg0)
abbrev argG : S1024.Idx → EReal := m ((c : Thread nD τ).loc main_arg1)
abbrev argW : S1024x6144.Idx → EReal := m ((c : Thread nD τ).loc main_arg2)
abbrev argD : S4096x6144.Idx → EReal := m ((c : Thread nD τ).loc main_arg3)
abbrev argN : S1x4096x1024.Idx → EReal := m ((c : Thread nD τ).loc main_arg4)

theorem blk0 (t : Fin cfg0.N) (a : Fin 512) (j : Fin 6144) : iblk m c 0 t (ix2 a j) = argD m c (ix2 (row t a) j) := by
  blk_ext! [iblk, V, idx0 t, row]
theorem blk1 (t : Fin cfg0.N) (s : Fin 8) (k : Fin 256) (a : Fin 768) :
    iblk m c 1 t (ix3 s k a) = argW m c (ix2 ⟨0 + k.val, by omega⟩ ⟨s.val * 768 + a.val, by omega⟩) := by
  blk_ext! [iblk, V, idx1 t]
theorem blk2 (t : Fin cfg0.N) (s : Fin 8) (k : Fin 256) (a : Fin 768) :
    iblk m c 2 t (ix3 s k a) = argW m c (ix2 ⟨256 + k.val, by omega⟩ ⟨s.val * 768 + a.val, by omega⟩) := by
  blk_ext! [iblk, V, idx2 t]
theorem blk3 (t : Fin cfg0.N) (s : Fin 8) (k : Fin 256) (a : Fin 768) :
    iblk m c 3 t (ix3 s k a) = argW m c (ix2 ⟨512 + k.val, by omega⟩ ⟨s.val * 768 + a.val, by omega⟩) := by
  blk_ext! [iblk, V, idx3 t]
theorem blk4 (t : Fin cfg0.N) (s : Fin 8) (k : Fin 256) (a : Fin 768) :
    iblk m c 4 t (ix3 s k a) = argW m c (ix2 ⟨768 + k.val, by omega⟩ ⟨s.val * 768 + a.val, by omega⟩) := by
  blk_ext! [iblk, V, idx4 t]
theorem blk5 (t : Fin cfg0.N) (a : Fin 512) (j : Fin 1024) : iblk m c 5 t (ix2 a j) = argX m c (ix3 0 (row t a) j) := by
  blk_ext! [iblk, V, idx5 t, row]
theorem blk6 (t : Fin cfg0.N) (j : Fin 1024) : iblk m c 6 t (ix3 0 0 j) = argG m c (ix1 j) := by
  blk_ext! [iblk, V, idx6 t]
theorem blk7 (t : Fin cfg0.N) (a : Fin 512) (j : Fin 1024) : iblk m c 7 t (ix2 a j) = argN m c (ix3 0 (row t a) j) := by
  blk_ext! [iblk, V, idx7 t, row]

variable (x : S1x4096x1024.Idx → ℝ) (g : S1024.Idx → ℝ) (w : S1024x6144.Idx → ℝ) (d : S4096x6144.Idx → ℝ)

/-- A product's cotangent row over blocks written with plain numbers for places: row `r` of `D` against row `k` of `W`. -/
def nat (D W : ℕ → ℕ → ℝ) (r k : ℕ) : ℝ := ∑ j : Fin 6144, D r j.val * W k j.val

variable (D W : ℕ → ℕ → ℝ)

/-- The product's eight partial sums are the whole product. -/
theorem nat8 (r k : ℕ) :
    (∑ x : Fin 768, (D r x.val : EReal) * (W k ((0 : Fin 8).val * 768 + x.val) : EReal))
      + (∑ x : Fin 768, (D r (768 + x.val) : EReal) * (W k ((1 : Fin 8).val * 768 + x.val) : EReal))
      + (∑ x : Fin 768, (D r (1536 + x.val) : EReal) * (W k ((2 : Fin 8).val * 768 + x.val) : EReal))
      + (∑ x : Fin 768, (D r (2304 + x.val) : EReal) * (W k ((3 : Fin 8).val * 768 + x.val) : EReal))
      + (∑ x : Fin 768, (D r (3072 + x.val) : EReal) * (W k ((4 : Fin 8).val * 768 + x.val) : EReal))
      + (∑ x : Fin 768, (D r (3840 + x.val) : EReal) * (W k ((5 : Fin 8).val * 768 + x.val) : EReal))
      + (∑ x : Fin 768, (D r (4608 + x.val) : EReal) * (W k ((6 : Fin 8).val * 768 + x.val) : EReal))
      + (∑ x : Fin 768, (D r (5376 + x.val) : EReal) * (W k ((7 : Fin 8).val * 768 + x.val) : EReal))
    = ((nat D W r k : ℝ) : EReal) := by
  have h := sum_eight 768 (by rfl : 6144 = 8 * 768) fun j => (D r j.val : EReal) * (W k j.val : EReal)
  simp only [← EReal.coe_mul, coe_sum] at h ⊢
  refine Eq.trans ?_ h.symm
  congr!
  simp

/-- The four row blocks of the weight, put together, are its rows. -/
theorem ladder (r k : ℕ) :
    (if k < 256 then ((nat D W r (0 + k) : ℝ) : EReal)
      else if k - 256 < 256 then ((nat D W r (256 + (k - 256)) : ℝ) : EReal)
      else if k - 256 - 256 < 256 then ((nat D W r (512 + (k - 256 - 256)) : ℝ) : EReal)
      else ((nat D W r (768 + (k - 256 - 256 - 256)) : ℝ) : EReal)) = ((nat D W r k : ℝ) : EReal) := by
  split_ifs
  all_goals
    congr 2
    omega

/-- An array over plain numbers, zero beyond its ends. -/
def wide {n k : ℕ} (f : (⟨2, ![n, k]⟩ : Shape).Idx → ℝ) (a b : ℕ) : ℝ :=
  if h : a < n ∧ b < k then f (ix2 ⟨a, h.1⟩ ⟨b, h.2⟩) else 0

theorem wide_at {n k : ℕ} (f : (⟨2, ![n, k]⟩ : Shape).Idx → ℝ) (a : Fin n) (b : Fin k) : wide f a.val b.val = f (ix2 a b) := by
  simp [wide]

/-- What the blocks of grid point `t` hold, over the reals. -/
theorem blks (hx : ∀ i, argX m c i = (x i : EReal)) (hg : ∀ i, argG m c i = (g i : EReal))
    (hw : ∀ i, argW m c i = (w i : EReal)) (hd : ∀ i, argD m c i = (d i : EReal)) (t : Fin cfg0.N) :
    (∀ a j, iblk m c 0 t (ix2 a j) = ((wide d (t.val * 512 + a.val) j.val : ℝ) : EReal))
      ∧ (∀ s k a, iblk m c 1 t (ix3 s k a) = ((wide w (0 + k.val) (s.val * 768 + a.val) : ℝ) : EReal))
      ∧ (∀ s k a, iblk m c 2 t (ix3 s k a) = ((wide w (256 + k.val) (s.val * 768 + a.val) : ℝ) : EReal))
      ∧ (∀ s k a, iblk m c 3 t (ix3 s k a) = ((wide w (512 + k.val) (s.val * 768 + a.val) : ℝ) : EReal))
      ∧ (∀ s k a, iblk m c 4 t (ix3 s k a) = ((wide w (768 + k.val) (s.val * 768 + a.val) : ℝ) : EReal))
      ∧ (∀ a j, iblk m c 5 t (ix2 a j) = (x (ix3 0 (row t a) j) : EReal))
      ∧ (∀ j, iblk m c 6 t (ix3 0 0 j) = (g (ix1 j) : EReal)) :=
  ⟨fun a j => (blk0 m c t a j).trans ((hd _).trans (congrArg _ (wide_at d (row t a) j).symm)),
    fun s k a => (blk1 m c t s k a).trans ((hw _).trans (congrArg _ (wide_at w ⟨_, _⟩ ⟨_, _⟩).symm)),
    fun s k a => (blk2 m c t s k a).trans ((hw _).trans (congrArg _ (wide_at w ⟨_, _⟩ ⟨_, _⟩).symm)),
    fun s k a => (blk3 m c t s k a).trans ((hw _).trans (congrArg _ (wide_at w ⟨_, _⟩ ⟨_, _⟩).symm)),
    fun s k a => (blk4 m c t s k a).trans ((hw _).trans (congrArg _ (wide_at w ⟨_, _⟩ ⟨_, _⟩).symm)),
    fun a j => (blk5 m c t a j).trans (hx _), fun j => (blk6 m c t j).trans (hg _)⟩

theorem nat_wide (r : Fin 4096) (k : Fin 1024) : nat (wide d) (wide w) r.val k.val = dh w d r k :=
  Finset.sum_congr rfl fun j _ => congrArg₂ _ (wide_at d r j) (wide_at w k j)

theorem inv_x (r : Fin 4096) : Ideal.rsqrt (Ideal.div (∑ k, (x (ix3 0 r k) : EReal) * (x (ix3 0 r k) : EReal))
    (Ideal.ofBits .f32 0x44800000#32) + Ideal.ofBits .f32 0x358637BD#32) = ((inv (xrow x r) : ℝ) : EReal) :=
  inv_coe (xrow x r)

set_option maxHeartbeats 1000000 in
theorem arr8 (hx : ∀ i, argX m c i = (x i : EReal)) (hg : ∀ i, argG m c i = (g i : EReal))
    (hw : ∀ i, argW m c i = (w i : EReal)) (hd : ∀ i, argD m c i = (d i : EReal)) :
    (dats m 0 c).arrAt 8 cfg0.N = dx x g w d (argN m c) := by
  refine (dats m 0 c).arrAt_eq_of_covers 8 _ (by decide +kernel) fun t hf y => ?_
  blk_simp
  rw [after0_8]
  by_cases h : t.val % 8 = 0
  all_goals
    first | rw [outsAt0_A m c t h] | rw [outsAt0_B m c t h]
    frame_out
    unfold_payloads
    idx_vars y
    obtain ⟨b0, b1, b2, b3, b4, b5, b6⟩ := blks m c x g w d hx hg hw hd t
    have b7 := blk7 m c t
    generalize iblk m c 0 t = B0 at b0 ⊢
    generalize iblk m c 1 t = B1 at b1 ⊢
    generalize iblk m c 2 t = B2 at b2 ⊢
    generalize iblk m c 3 t = B3 at b3 ⊢
    generalize iblk m c 4 t = B4 at b4 ⊢
    generalize iblk m c 5 t = B5 at b5 ⊢
    generalize iblk m c 6 t = B6 at b6 ⊢
    generalize iblk m c 7 t = B7 at b7 ⊢
    pointwise []
    simp only [b0, b1, b2, b3, b4, b5, b6, b7]
    simp only [nat8, dite_eq_ite, ladder]
    have hn : ∀ k : Fin 1024, nat (wide d) (wide w) (t.val * 512 + y0.val) k.val = dh w d (row t y0) k :=
      fun k => nat_wide w d (row t y0) k
    simp only [hn, inv_x]
    refine Eq.trans (b := dx x g w d (argN m c) (ix2 (row t y0) y1)) ?_ (congrArg _ ?_)
    · rw [dx_at, ← grad_coe]
      simp only [EReal.coe_mul]
    · blk_ext [idx8 t, row]

end Cert.InBwdAIdeal.Pair

end
-- ==== Proof.InBwdADg.lean ====
module
public import proofs.«01_k».proof.Proof.InBwdA

/-! # The gradient through mixer A's input projection and its norm: the kernel's gradient of the norm's weight

Each grid point adds its rows' terms to one accumulated row. -/

@[expose] public section
set_option maxRecDepth 16384
noncomputable section
namespace Cert.InBwdAIdeal.Pair
open Cert.InBwdAIdeal Cert.InBwdAIdeal.Gen Idealize.ShloMosaic Idealize.ShloMosaic.TcCoe Idealize.SL.Sem
open Idealize.ShloMosaic.Pipeline (Dat)
open Cert.Lift Cert.Rms Cert.InBwdSpec
variable (m : (ℓ : Loc nD τ sig) → Buf (Elt Ideal) ℓ) (c : Dev nD)
variable (x : S1x4096x1024.Idx → ℝ) (g : S1024.Idx → ℝ) (w : S1024x6144.Idx → ℝ) (d : S4096x6144.Idx → ℝ)
/-- What grid point `t` adds to the weight's gradient: its rows' terms. -/
def dgPart (t : Fin cfg0.N) (i : S1x1024.Idx) : EReal := ((∑ a : Fin 512, dgTerm x w d (row t a) (i 1) : ℝ) : EReal)

set_option maxHeartbeats 1000000 in
theorem acc9 (hx : ∀ i, argX m c i = (x i : EReal)) (hg : ∀ i, argG m c i = (g i : EReal))
    (hw : ∀ i, argW m c i = (w i : EReal)) (hd : ∀ i, argD m c i = (d i : EReal)) (i : S1x1024.Idx) :
    (outsAt0 m c t0_7.val t0_7.isLt).2 i = 0 + ∑ p : Fin cfg0.N, dgPart x w d p i := by
  refine Pipeline.eq_sum_fin_of_reset_step_apply_last (fun n h => (outsAt0 m c n h).2) 8 (fun _ => (0 : EReal)) (dgPart x w d) ?_ ?_
    (le_of_eq N_0) t0_7 N_0.symm i
  all_goals
    intro t h i
    first | rw [outsAt0_A m c t h] | rw [outsAt0_B m c t h]
    frame_out
    unfold_payloads
    idx_vars i
    obtain ⟨b0, b1, b2, b3, b4, b5, -⟩ := blks m c x g w d hx hg hw hd t
    generalize iblk m c 0 t = B0 at b0 ⊢
    generalize iblk m c 1 t = B1 at b1 ⊢
    generalize iblk m c 2 t = B2 at b2 ⊢
    generalize iblk m c 3 t = B3 at b3 ⊢
    generalize iblk m c 4 t = B4 at b4 ⊢
    generalize iblk m c 5 t = B5 at b5 ⊢
    generalize iblk m c 6 t = B6
    generalize iblk m c 7 t = B7
    pointwise []
    simp only [b0, b1, b2, b3, b4, b5]
    simp only [nat8, dite_eq_ite, ladder]
    have hn : ∀ (a : Fin 512) (k : Fin 1024), nat (wide d) (wide w) (t.val * 512 + a.val) k.val = dh w d (row t a) k :=
      fun a k => nat_wide w d (row t a) k
    simp only [hn, inv_x]
    simp only [← EReal.coe_mul, coe_sum]
    rfl

/-- The grid points' rows are all rows. -/
theorem sum_rows (f : Fin 4096 → ℝ) : ∑ p : Fin cfg0.N, ∑ a : Fin 512, f (row p a) = ∑ r, f r :=
  Fin.sum_mul_add_fin cfg0.N 512 f (by rw [show cfg0.N = 8 from N_0])

theorem idx9 : win0_9.index t0_7 0 = 0 ∧ win0_9.index t0_7 1 = 0 := by decide +kernel

theorem arr9 (hx : ∀ i, argX m c i = (x i : EReal)) (hg : ∀ i, argG m c i = (g i : EReal)) (hw : ∀ i, argW m c i = (w i : EReal))
    (hd : ∀ i, argD m c i = (d i : EReal)) : (dats m 0 c).arrAt 9 cfg0.N = dg x w d := by
  refine (dats m 0 c).arrAt_eq_of_after_last 9 t0_7 (by decide +kernel) _ fun y => ?_
  blk_simp
  rw [after0_9, acc9 m c x g w d hx hg hw hd]
  idx_vars y
  refine Eq.trans (b := dg x w d (ix2 y0 y1)) ?_ (congrArg _ ?_)
  · simp only [dgPart, dg, coe_sum, zero_add]
    exact congrArg _ (sum_rows fun r => dgTerm x w d r y1)
  · blk_ext [idx9]

end Cert.InBwdAIdeal.Pair

end
-- ==== Proof.InBwdARef.lean ====
module
public import proofs.«01_k».proof.Proof.Gen.InBwdARefIdeal.Read
public import proofs.«01_k».proof.Proof.InBwdSpec
@[expose] public section
set_option maxRecDepth 16384
noncomputable section
namespace Cert.InBwdARefIdeal.Pair
open Cert.InBwdARefIdeal Cert.InBwdARefIdeal.Gen Idealize.ShloMosaic Idealize.ShloMosaic.TcCoe Idealize.SL.Sem
open Cert.InBwdARefIdeal.Read Cert.Lift Cert.Rms Cert.InBwdSpec
variable (x0 : S1x4096x1024.Idx → EReal) (x1 : S1024.Idx → EReal) (x2 : S1024x6144.Idx → EReal) (x3 : S4096x6144.Idx → EReal) (x4 : S1x4096x1024.Idx → EReal)
variable (x : S1x4096x1024.Idx → ℝ) (g : S1024.Idx → ℝ) (w : S1024x6144.Idx → ℝ) (d : S4096x6144.Idx → ℝ)

variable (hx : ∀ i, x0 i = (x i : EReal)) (hg : ∀ i, x1 i = (g i : EReal)) (hw : ∀ i, x2 i = (w i : EReal)) (hd : ∀ i, x3 i = (d i : EReal))
include hx
theorem v6_at (r : Fin 4096) : val_main_v6 (F := Ideal) x0 (ix3 0 r 0) = ((ms (xrow x r) : ℝ) : EReal) := by
  pointwise [val_main_v6, val_main_v5, val_main_v4, val_main_v3, val_main_v2, val_main_v1, val_main_v0, val_main_cst, val_main_cst_0, val_main_cst_1]
  simp only [hx]
  exact ms_coe (xrow x r)
theorem v7_at (r : Fin 4096) : val_main_v7 (F := Ideal) x0 (ix3 0 r 0) = ((inv (xrow x r) : ℝ) : EReal) := by
  pointwise [val_main_v7]
  rw [v6_at x0 x hx, rsqrt_pos _ (ms_pos _), Rms.inv]
omit hx
include hw hd
theorem v19_at (r : Fin 4096) (k : Fin 1024) : val_main_v19 (F := Ideal) x2 x3 (ix3 0 r k) = ((dh w d r k : ℝ) : EReal) := by
  pointwise [val_main_v19, val_main_v18, val_main_v17]
  simp only [hw, hd, ← EReal.coe_mul, coe_sum, dh]
include hx hg
theorem v42_at (r : Fin 4096) (k : Fin 1024) :
    val_main_v42 (F := Ideal) x0 x1 x2 x3 x4 (ix2 r k) = dx x g w d x4 (ix2 r k) := by
  pointwise [val_main_v42, val_main_v41, val_main_v40, val_main_v39, val_main_v38, val_main_v37, val_main_v36, val_main_v35,
    val_main_v34, val_main_v33, val_main_v32, hostReduceAdd_unit_a02, val_main_v31, val_main_v30, val_main_v29, val_main_v28,
    val_main_v27, val_main_v26, val_main_v24, val_main_v23, val_main_v13, val_main_v10, val_main_v9, val_main_v8,
    val_main_cst_2, val_main_cst_3, val_main_cst_4, val_main_cst_5, val_main_cst_6, val_main_cst_7]
  simp only [v6_at x0 x hx, v7_at x0 x hx, v19_at x2 x3 w d hw hd, hx, hg, hw, hd]
  have h := chain_coe (xrow x r) (urow g w d r)
  simp only [EReal.coe_mul (dh w d _ _)] at h
  rw [h, dx_at, ← grad_eq, add_assoc, add_assoc]
  simp only [EReal.coe_add, EReal.coe_mul, add_assoc]

omit hg in
theorem v43_at (r : Fin 1) (k : Fin 1024) : val_main_v43 (F := Ideal) x0 x2 x3 (ix2 r k) = dg x w d (ix2 r k) := by
  pointwise [val_main_v43, val_main_v25, hostReduceAdd_unit_a01, val_main_v22, val_main_v21, val_main_v20, val_main_v12,
    val_main_v11, val_main_cst_3, val_main_cst_4]
  simp only [v7_at x0 x hx, v19_at x2 x3 w d hw hd, hx, ← EReal.coe_mul, coe_sum]
  exact congrArg _ (Finset.sum_congr rfl fun r _ => mul_comm _ _)

end Cert.InBwdARefIdeal.Pair

end
-- ==== Proof.InBwdAClaim.lean ====
module
public import proofs.«01_k».proof.Defs
public import proofs.«01_k».proof.Proof.InBwdADg
public import proofs.«01_k».proof.Proof.InBwdARef
public import proofs.«01_k».proof.Proof.Gen.Pre_finite2
public import Idealize.ShloMosaic.Lib.Quiescent
@[expose] public section
noncomputable section
namespace Cert.InBwdAClaim
open Idealize.ShloMosaic Idealize.ShloMosaic.TcCoe Idealize.SL.Sem Cert.Lift Cert.InBwdSpec

theorem reals [Cert.Pre_finite2.Facts] (m) (h : Cert.Pre_InBwdAIdeal_finite2 m) (c : Dev Cert.InBwdAIdeal.nD) :
    (∃ x : _ → ℝ, ∀ i, InBwdAIdeal.Pair.argX m c i = (x i : EReal)) ∧ (∃ x : _ → ℝ, ∀ i, InBwdAIdeal.Pair.argG m c i = (x i : EReal))
    ∧ (∃ x : _ → ℝ, ∀ i, InBwdAIdeal.Pair.argW m c i = (x i : EReal)) ∧ (∃ x : _ → ℝ, ∀ i, InBwdAIdeal.Pair.argD m c i = (x i : EReal)) := by
  obtain ⟨h0, h1, h2, h3⟩ := h c
  exact ⟨exists_real _ fun i => ofBits_inf ▸ congrFun h0 i, exists_real _ fun i => ofBits_inf ▸ congrFun h1 i,
    exists_real _ fun i => ofBits_inf ▸ congrFun h2 i, exists_real _ fun i => ofBits_inf ▸ congrFun h3 i⟩

/-- The reference runs and leaves its arguments as they were; it has no semaphore. -/
theorem frame_ref : Cert.quiescent_InBwdARefIdeal := fun m ρ _ =>
  (θ_run Cert.InBwdARefIdeal.defs _ _).mono (fun r h => ⟨fun c => (h c).2.2, sem_eq_zero_of_no_sems (by decide) r.2⟩)
    (Cert.InBwdARefIdeal.Value.run (F := Ideal) m ρ)

theorem algebraic : Cert.algebraic_InBwdAIdeal_InBwdARefIdeal_pre_finite2 := by
  intro m ρ m' ρ' hpre hagree
  refine ⟨_, _, Cert.InBwdAIdeal.Value.run_blocks m ρ, (θ_run _ _ _).mono (fun r h c => ?_) (Cert.InBwdARefIdeal.Value.run m' ρ')⟩
  obtain ⟨⟨x, hx⟩, ⟨g, hg⟩, ⟨w, hw⟩, ⟨d, hd⟩⟩ := reals m hpre c
  obtain ⟨e0, e1, e2, e3, e4⟩ := hagree c
  obtain ⟨r0, r1, ra⟩ := h c
  refine ⟨r0.trans ?_, r1.trans ?_, ra⟩
  · rw [InBwdARefIdeal.Read.val_main_v42_eq, InBwdAIdeal.Pair.arr8 m c x g w d hx hg hw hd]
    funext i
    idx_vars i
    rw [e0, e1, e2, e3, e4]
    exact InBwdARefIdeal.Pair.v42_at _ _ _ _ _ x g w d hx hg hw hd i0 i1
  · rw [InBwdARefIdeal.Read.val_main_v43_eq, InBwdAIdeal.Pair.arr9 m c x g w d hx hg hw hd]
    funext i
    idx_vars i
    rw [e0, e2, e3]
    exact InBwdARefIdeal.Pair.v43_at _ _ _ x w d hx hw hd i0 i1

end Cert.InBwdAClaim

end
-- ==== Proof.InBwd.lean ====
module
public import proofs.«01_k».proof.Proof.Gen.InBwdIdeal.Value
public import proofs.«01_k».proof.Proof.InBwdSpec
@[expose] public section
set_option maxRecDepth 16384
noncomputable section
namespace Cert.InBwdIdeal.Pair
open Cert.InBwdIdeal Cert.InBwdIdeal.Gen Idealize.ShloMosaic Idealize.ShloMosaic.TcCoe Idealize.SL.Sem
open Idealize.ShloMosaic.Pipeline (Dat)
open Cert.Lift Cert.Rms Cert.InBwdSpec

theorem idx0 : ∀ t : Fin cfg0.N, win0_0.index t 0 = t.val ∧ win0_0.index t 1 = 0 :=
  (by decide +kernel : ∀ t : Fin grid0.N, _)
theorem idx1 : ∀ t : Fin cfg0.N, win0_1.index t 0 = 0 ∧ win0_1.index t 1 = 0 ∧ win0_1.index t 2 = 0 :=
  (by decide +kernel : ∀ t : Fin grid0.N, _)
theorem idx2 : ∀ t : Fin cfg0.N, win0_2.index t 0 = t.val ∧ win0_2.index t 1 = 0 :=
  (by decide +kernel : ∀ t : Fin grid0.N, _)
theorem idx3 : ∀ t : Fin cfg0.N, win0_3.index t 0 = 0 ∧ win0_3.index t 1 = 0 ∧ win0_3.index t 2 = 0 :=
  (by decide +kernel : ∀ t : Fin grid0.N, _)
theorem idx4 : ∀ t : Fin cfg0.N, win0_4.index t 0 = t.val ∧ win0_4.index t 1 = 0 :=
  (by decide +kernel : ∀ t : Fin grid0.N, _)
theorem idx5 : ∀ t : Fin cfg0.N, win0_5.index t 0 = t.val ∧ win0_5.index t 1 = 0 :=
  (by decide +kernel : ∀ t : Fin grid0.N, _)

theorem lt8 (t : Fin cfg0.N) : t.val < 8 := lt_of_lt_of_eq t.isLt N_0

/-- The row of the whole array that row `a` of grid point `t`'s block is. -/
def row (t : Fin cfg0.N) (a : Fin 512) : Fin 4096 := ⟨t.val * 512 + a.val, by have := lt8 t; omega⟩

variable (m : (ℓ : Loc nD τ sig) → Buf (Elt Ideal) ℓ) (c : Dev nD)

abbrev argX : S1x4096x1024.Idx → EReal := m ((c : Thread nD τ).loc main_arg0)
abbrev argG : S1024.Idx → EReal := m ((c : Thread nD τ).loc main_arg1)
abbrev argW : S1024x4096.Idx → EReal := m ((c : Thread nD τ).loc main_arg2)
abbrev argD : S4096x4096.Idx → EReal := m ((c : Thread nD τ).loc main_arg3)
abbrev argN : S1x4096x1024.Idx → EReal := m ((c : Thread nD τ).loc main_arg4)

theorem blk0 (t : Fin cfg0.N) (a : Fin 512) (j : Fin 4096) : iblk m c 0 t (ix2 a j) = argD m c (ix2 (row t a) j) := by
  blk_ext! [iblk, V, idx0 t, row]
theorem blk1 (t : Fin cfg0.N) (s : Fin 8) (k : Fin 1024) (a : Fin 512) :
    iblk m c 1 t (ix3 s k a) = argW m c (ix2 k ⟨s.val * 512 + a.val, by omega⟩) := by
  blk_ext! [iblk, V, idx1 t]
theorem blk2 (t : Fin cfg0.N) (a : Fin 512) (j : Fin 1024) : iblk m c 2 t (ix2 a j) = argX m c (ix3 0 (row t a) j) := by
  blk_ext! [iblk, V, idx2 t, row]
theorem blk3 (t : Fin cfg0.N) (j : Fin 1024) : iblk m c 3 t (ix3 0 0 j) = argG m c (ix1 j) := by
  blk_ext! [iblk, V, idx3 t]
theorem blk4 (t : Fin cfg0.N) (a : Fin 512) (j : Fin 1024) : iblk m c 4 t (ix2 a j) = argN m c (ix3 0 (row t a) j) := by
  blk_ext! [iblk, V, idx4 t, row]

variable (x : S1x4096x1024.Idx → ℝ) (g : S1024.Idx → ℝ) (w : S1024x4096.Idx → ℝ) (d : S4096x4096.Idx → ℝ)

/-- The product's eight partial sums are the whole product. -/
theorem dh8 (r : Fin 4096) (k : Fin 1024) :
    (∑ x : Fin 512, (d (ix2 r ⟨x.val, by omega⟩) : EReal) * (w (ix2 k ⟨(0 : Fin 8).val * 512 + x.val, by omega⟩) : EReal))
      + (∑ x : Fin 512, (d (ix2 r ⟨512 + x.val, by omega⟩) : EReal) * (w (ix2 k ⟨(1 : Fin 8).val * 512 + x.val, by omega⟩) : EReal))
      + (∑ x : Fin 512, (d (ix2 r ⟨1024 + x.val, by omega⟩) : EReal) * (w (ix2 k ⟨(2 : Fin 8).val * 512 + x.val, by omega⟩) : EReal))
      + (∑ x : Fin 512, (d (ix2 r ⟨1536 + x.val, by omega⟩) : EReal) * (w (ix2 k ⟨(3 : Fin 8).val * 512 + x.val, by omega⟩) : EReal))
      + (∑ x : Fin 512, (d (ix2 r ⟨2048 + x.val, by omega⟩) : EReal) * (w (ix2 k ⟨(4 : Fin 8).val * 512 + x.val, by omega⟩) : EReal))
      + (∑ x : Fin 512, (d (ix2 r ⟨2560 + x.val, by omega⟩) : EReal) * (w (ix2 k ⟨(5 : Fin 8).val * 512 + x.val, by omega⟩) : EReal))
      + (∑ x : Fin 512, (d (ix2 r ⟨3072 + x.val, by omega⟩) : EReal) * (w (ix2 k ⟨(6 : Fin 8).val * 512 + x.val, by omega⟩) : EReal))
      + (∑ x : Fin 512, (d (ix2 r ⟨3584 + x.val, by omega⟩) : EReal) * (w (ix2 k ⟨(7 : Fin 8).val * 512 + x.val, by omega⟩) : EReal))
    = ((dh w d r k : ℝ) : EReal) := by
  have h := sum_eight 512 (by rfl : 4096 = 8 * 512) fun j => (d (ix2 r j) : EReal) * (w (ix2 k j) : EReal)
  simp only [← EReal.coe_mul, coe_sum] at h ⊢
  refine Eq.trans ?_ h.symm
  congr!
  simp

set_option maxHeartbeats 1000000 in
theorem arr5 (hx : ∀ i, argX m c i = (x i : EReal)) (hg : ∀ i, argG m c i = (g i : EReal))
    (hw : ∀ i, argW m c i = (w i : EReal)) (hd : ∀ i, argD m c i = (d i : EReal)) :
    (dats m 0 c).arrAt 5 cfg0.N = dx x g w d (argN m c) := by
  have hi : ∀ r, Ideal.rsqrt (Ideal.div (∑ k, (x (ix3 0 r k) : EReal) * (x (ix3 0 r k) : EReal)) (Ideal.ofBits .f32 0x44800000#32)
    + Ideal.ofBits .f32 0x358637BD#32) = ((inv (xrow x r) : ℝ) : EReal) := fun r => inv_coe (xrow x r)
  refine (dats m 0 c).arrAt_eq_of_covers 5 _ (by decide +kernel) fun t hf y => ?_
  blk_simp
  rw [after0_5]
  by_cases h : t.val % 8 = 0
  all_goals
    first | rw [outsAt0_A m c t h] | rw [outsAt0_B m c t h]
    frame_out
    unfold_payloads
    idx_vars y
    pointwise []
    simp only [blk0, blk1, blk2, blk3, blk4, hx, hg, hw, hd, dh8, hi]
    refine Eq.trans (b := dx x g w d (argN m c) (ix2 (row t y0) y1)) ?_ (congrArg _ ?_)
    · rw [dx_at, ← grad_coe]
      simp only [EReal.coe_mul]
    · blk_ext [idx5 t, row]
-- ==== Proof.InBwdDg.lean ====
module
public import proofs.«01_k».proof.Proof.InBwd
@[expose] public section
set_option maxRecDepth 16384
noncomputable section
namespace Cert.InBwdIdeal.Pair
open Cert.InBwdIdeal Cert.InBwdIdeal.Gen Idealize.ShloMosaic Idealize.ShloMosaic.TcCoe Idealize.SL.Sem
open Idealize.ShloMosaic.Pipeline (Dat)
open Cert.Lift Cert.Rms Cert.InBwdSpec
variable (m : (ℓ : Loc nD τ sig) → Buf (Elt Ideal) ℓ) (c : Dev nD)
variable (x : S1x4096x1024.Idx → ℝ) (g : S1024.Idx → ℝ) (w : S1024x4096.Idx → ℝ) (d : S4096x4096.Idx → ℝ)
/-- What grid point `t` adds to the weight's gradient: its rows' terms. -/
def dgPart (t : Fin cfg0.N) (i : S1x1024.Idx) : EReal := ((∑ a : Fin 512, dgTerm x w d (row t a) (i 1) : ℝ) : EReal)

set_option maxHeartbeats 1000000 in
theorem acc6 (hx : ∀ i, argX m c i = (x i : EReal))
    (hw : ∀ i, argW m c i = (w i : EReal)) (hd : ∀ i, argD m c i = (d i : EReal)) (i : S1x1024.Idx) :
    (outsAt0 m c t0_7.val t0_7.isLt).2 i = 0 + ∑ p : Fin cfg0.N, dgPart x w d p i := by
  have hi : ∀ r, Ideal.rsqrt (Ideal.div (∑ k, (x (ix3 0 r k) : EReal) * (x (ix3 0 r k) : EReal)) (Ideal.ofBits .f32 0x44800000#32)
    + Ideal.ofBits .f32 0x358637BD#32) = ((inv (xrow x r) : ℝ) : EReal) := fun r => inv_coe (xrow x r)
  refine Pipeline.eq_sum_fin_of_reset_step_apply_last (fun n h => (outsAt0 m c n h).2) 8 (fun _ => (0 : EReal)) (dgPart x w d) ?_ ?_
    (le_of_eq N_0) t0_7 N_0.symm i
  · intro t h i
    rw [outsAt0_A m c t h]
    frame_out
    unfold_payloads
    idx_vars i
    pointwise []
    simp only [blk0, blk1, blk2, blk3, blk4, hx, hw, hd, dh8, hi]
    simp only [← EReal.coe_mul, coe_sum]
    rfl
  · intro t h i
    rw [outsAt0_B m c t h]
    frame_out
    unfold_payloads
    idx_vars i
    pointwise []
    simp only [blk0, blk1, blk2, blk3, blk4, hx, hw, hd, dh8, hi]
    simp only [← EReal.coe_mul, coe_sum]
    rfl

/-- The grid points' rows are all rows. -/
theorem sum_rows (f : Fin 4096 → ℝ) : ∑ p : Fin cfg0.N, ∑ a : Fin 512, f (row p a) = ∑ r, f r :=
  Fin.sum_mul_add_fin cfg0.N 512 f (by rw [show cfg0.N = 8 from N_0])

theorem idx6 : win0_6.index t0_7 0 = 0 ∧ win0_6.index t0_7 1 = 0 := by decide +kernel

theorem arr6 (hx : ∀ i, argX m c i = (x i : EReal)) (hw : ∀ i, argW m c i = (w i : EReal))
    (hd : ∀ i, argD m c i = (d i : EReal)) : (dats m 0 c).arrAt 6 cfg0.N = dg x w d := by
  refine (dats m 0 c).arrAt_eq_of_after_last 6 t0_7 (by decide +kernel) _ fun y => ?_
  blk_simp
  rw [after0_6, acc6 m c x w d hx hw hd]
  idx_vars y
  refine Eq.trans (b := dg x w d (ix2 y0 y1)) ?_ (congrArg _ ?_)
  · simp only [dgPart, dg, coe_sum, zero_add]
    exact congrArg _ (sum_rows fun r => dgTerm x w d r y1)
  · blk_ext [idx6]

end Cert.InBwdIdeal.Pair

end
-- ==== Proof.InBwdRef.lean ====
module
public import proofs.«01_k».proof.Proof.Gen.InBwdRefIdeal.Read
public import proofs.«01_k».proof.Proof.InBwdSpec
@[expose] public section
set_option maxRecDepth 16384
noncomputable section
namespace Cert.InBwdRefIdeal.Pair
open Cert.InBwdRefIdeal Cert.InBwdRefIdeal.Gen Idealize.ShloMosaic Idealize.ShloMosaic.TcCoe Idealize.SL.Sem
open Cert.InBwdRefIdeal.Read Cert.Lift Cert.Rms Cert.InBwdSpec
variable (x0 : S1x4096x1024.Idx → EReal) (x1 : S1024.Idx → EReal) (x2 : S1024x4096.Idx → EReal) (x3 : S4096x4096.Idx → EReal) (x4 : S1x4096x1024.Idx → EReal)
variable (x : S1x4096x1024.Idx → ℝ) (g : S1024.Idx → ℝ) (w : S1024x4096.Idx → ℝ) (d : S4096x4096.Idx → ℝ)

variable (hx : ∀ i, x0 i = (x i : EReal)) (hg : ∀ i, x1 i = (g i : EReal)) (hw : ∀ i, x2 i = (w i : EReal)) (hd : ∀ i, x3 i = (d i : EReal))
include hx
theorem v6_at (r : Fin 4096) : val_main_v6 (F := Ideal) x0 (ix3 0 r 0) = ((ms (xrow x r) : ℝ) : EReal) := by
  pointwise [val_main_v6, val_main_v5, val_main_v4, val_main_v3, val_main_v2, val_main_v1, val_main_v0, val_main_cst, val_main_cst_0, val_main_cst_1]
  simp only [hx]
  exact ms_coe (xrow x r)
theorem v7_at (r : Fin 4096) : val_main_v7 (F := Ideal) x0 (ix3 0 r 0) = ((inv (xrow x r) : ℝ) : EReal) := by
  pointwise [val_main_v7]
  rw [v6_at x0 x hx, rsqrt_pos _ (ms_pos _), Rms.inv]
omit hx
include hw hd
theorem v19_at (r : Fin 4096) (k : Fin 1024) : val_main_v19 (F := Ideal) x2 x3 (ix3 0 r k) = ((dh w d r k : ℝ) : EReal) := by
  pointwise [val_main_v19, val_main_v18, val_main_v17]
  simp only [hw, hd, ← EReal.coe_mul, coe_sum, dh]
include hx hg
theorem v42_at (r : Fin 4096) (k : Fin 1024) :
    val_main_v42 (F := Ideal) x0 x1 x2 x3 x4 (ix2 r k) = dx x g w d x4 (ix2 r k) := by
  pointwise [val_main_v42, val_main_v41, val_main_v40, val_main_v39, val_main_v38, val_main_v37, val_main_v36, val_main_v35,
    val_main_v34, val_main_v33, val_main_v32, hostReduceAdd_unit_a02, val_main_v31, val_main_v30, val_main_v29, val_main_v28,
    val_main_v27, val_main_v26, val_main_v24, val_main_v23, val_main_v13, val_main_v10, val_main_v9, val_main_v8,
    val_main_cst_2, val_main_cst_3, val_main_cst_4, val_main_cst_5, val_main_cst_6, val_main_cst_7]
  simp only [v6_at x0 x hx, v7_at x0 x hx, v19_at x2 x3 w d hw hd, hx, hg, hw, hd]
  have h := chain_coe (xrow x r) (urow g w d r)
  simp only [EReal.coe_mul (dh w d _ _)] at h
  rw [h, dx_at, ← grad_eq, add_assoc, add_assoc]
  simp only [EReal.coe_add, EReal.coe_mul, add_assoc]

omit hg in
theorem v43_at (r : Fin 1) (k : Fin 1024) : val_main_v43 (F := Ideal) x0 x2 x3 (ix2 r k) = dg x w d (ix2 r k) := by
  pointwise [val_main_v43, val_main_v25, hostReduceAdd_unit_a01, val_main_v22, val_main_v21, val_main_v20, val_main_v12,
    val_main_v11, val_main_cst_3, val_main_cst_4]
  simp only [v7_at x0 x hx, v19_at x2 x3 w d hw hd, hx, ← EReal.coe_mul, coe_sum]
  exact congrArg _ (Finset.sum_congr rfl fun r _ => mul_comm _ _)

end Cert.InBwdRefIdeal.Pair

end
-- ==== Proof.InBwdClaim.lean ====
module
public import proofs.«01_k».proof.Defs
public import proofs.«01_k».proof.Proof.InBwdDg
public import proofs.«01_k».proof.Proof.InBwdRef
public import proofs.«01_k».proof.Proof.Gen.Pre_finite1
public import Idealize.ShloMosaic.Lib.Quiescent
@[expose] public section
noncomputable section
namespace Cert.InBwdClaim
open Idealize.ShloMosaic Idealize.ShloMosaic.TcCoe Idealize.SL.Sem Cert.Lift Cert.InBwdSpec

theorem reals [Cert.Pre_finite1.Facts] (m) (h : Cert.Pre_InBwdIdeal_finite1 m) (c : Dev Cert.InBwdIdeal.nD) :
    (∃ x : _ → ℝ, ∀ i, InBwdIdeal.Pair.argX m c i = (x i : EReal)) ∧ (∃ x : _ → ℝ, ∀ i, InBwdIdeal.Pair.argG m c i = (x i : EReal))
    ∧ (∃ x : _ → ℝ, ∀ i, InBwdIdeal.Pair.argW m c i = (x i : EReal)) ∧ (∃ x : _ → ℝ, ∀ i, InBwdIdeal.Pair.argD m c i = (x i : EReal)) := by
  obtain ⟨h0, h1, h2, h3⟩ := h c
  exact ⟨exists_real _ fun i => ofBits_inf ▸ congrFun h0 i, exists_real _ fun i => ofBits_inf ▸ congrFun h1 i,
    exists_real _ fun i => ofBits_inf ▸ congrFun h2 i, exists_real _ fun i => ofBits_inf ▸ congrFun h3 i⟩

/-- The reference runs and leaves its arguments as they were; it has no semaphore. -/
theorem frame_ref : Cert.quiescent_InBwdRefIdeal := fun m ρ _ =>
  (θ_run Cert.InBwdRefIdeal.defs _ _).mono (fun r h => ⟨fun c => (h c).2.2, sem_eq_zero_of_no_sems (by decide) r.2⟩)
    (Cert.InBwdRefIdeal.Value.run (F := Ideal) m ρ)

theorem algebraic : Cert.algebraic_InBwdIdeal_InBwdRefIdeal_pre_finite1 := by
  intro m ρ m' ρ' hpre hagree
  refine ⟨_, _, Cert.InBwdIdeal.Value.run_blocks m ρ, (θ_run _ _ _).mono (fun r h c => ?_) (Cert.InBwdRefIdeal.Value.run m' ρ')⟩
  obtain ⟨⟨x, hx⟩, ⟨g, hg⟩, ⟨w, hw⟩, ⟨d, hd⟩⟩ := reals m hpre c
  obtain ⟨e0, e1, e2, e3, e4⟩ := hagree c
  obtain ⟨r0, r1, ra⟩ := h c
  refine ⟨r0.trans ?_, r1.trans ?_, ra⟩
  · rw [InBwdRefIdeal.Read.val_main_v42_eq, InBwdIdeal.Pair.arr5 m c x g w d hx hg hw hd]
    funext i
    idx_vars i
    rw [e0, e1, e2, e3, e4]
    exact InBwdRefIdeal.Pair.v42_at _ _ _ _ _ x g w d hx hg hw hd i0 i1
  · rw [InBwdRefIdeal.Read.val_main_v43_eq, InBwdIdeal.Pair.arr6 m c x w d hx hw hd]
    funext i
    idx_vars i
    rw [e0, e2, e3]
    exact InBwdRefIdeal.Pair.v43_at _ _ _ x w d hx hw hd i0 i1

end Cert.InBwdClaim

end
-- ==== Proof.OutBwdSpec.lean ====
module
public import proofs.«01_k».proof.Proof.Wide

/-! # What the gradient through a block's output projection and its norm is

`y` is the gated branch, `w` the output projection, `g` the weight of the norm that follows it, `n` the cotangent of the
normed result. -/

@[expose] public section

noncomputable section

namespace Cert.OutBwdSpec

open Idealize.ShloMosaic Cert.Rms

variable (y : (⟨2, ![4096, 2048]⟩ : Shape).Idx → ℝ) (w : (⟨2, ![2048, 1024]⟩ : Shape).Idx → ℝ)
  (g : (⟨1, ![1024]⟩ : Shape).Idx → ℝ) (n : (⟨3, ![1, 4096, 1024]⟩ : Shape).Idx → ℝ)

/-- One row of the projection's result, which the norm takes. -/
def orow (r : Fin 4096) (k : Fin 1024) : ℝ := ∑ e : Fin 2048, y (ix2 r e) * w (ix2 e k)

/-- One row of the cotangent, times the norm's weight. -/
def urow (r : Fin 4096) (k : Fin 1024) : ℝ := n (ix3 0 r k) * g (ix1 k)

/-- The cotangent of the projection's result: the cotangent through the norm. -/
def dout (r : Fin 4096) (k : Fin 1024) : ℝ := grad (orow y w r) (urow g n r) k

/-- The gradient with respect to the branch. -/
def dy (i : (⟨2, ![4096, 2048]⟩ : Shape).Idx) : EReal := ((∑ k, dout y w g n (i 0) k * w (ix2 (i 1) k) : ℝ) : EReal)

theorem dy_at (r : Fin 4096) (e : Fin 2048) :
    dy y w g n (ix2 r e) = ((∑ k, dout y w g n r k * w (ix2 e k) : ℝ) : EReal) := rfl

/-- The gradient with respect to the projection, at its row `e`. -/
def dwAt (e : Fin 2048) (k : Fin 1024) : ℝ := ∑ r, y (ix2 r e) * dout y w g n r k

/-- The gradient with respect to the projection, in eight slabs of 256 rows. -/
def dw (i : (⟨3, ![8, 256, 1024]⟩ : Shape).Idx) : EReal :=
  ((dwAt y w g n ⟨(i 0).val * 256 + (i 1).val, by have : (i 0).val < 8 := (i 0).isLt; have : (i 1).val < 256 := (i 1).isLt; omega⟩ (i 2) : ℝ) : EReal)

/-- One row's term of the weight's gradient. -/
def dgTerm (r : Fin 4096) (k : Fin 1024) : ℝ := n (ix3 0 r k) * (orow y w r k * inv (orow y w r))

/-- The weight's gradient: the rows' terms summed. -/
def dg (i : (⟨2, ![1, 1024]⟩ : Shape).Idx) : EReal := ((∑ r, dgTerm y w n r (i 1) : ℝ) : EReal)

end Cert.OutBwdSpec

end
-- ==== Proof.LossSpec.lean ====
module

public import proofs.«01_k».proof.Proof.Wide
public import proofs.«01_k».proof.Proof.OutBwdSpec

/-! # What the last block's projection, its norm, the loss and the loss's gradient are

`y` is the gated branch, `w` the output projection, `g` the norm's weight, `x` the stream the normed projection is added
to and `z` the target. -/

@[expose] public section

noncomputable section

namespace Cert.LossSpec

open Idealize.ShloMosaic Cert.Rms Cert.OutBwdSpec Cert.Lift

variable (y : (⟨2, ![4096, 2048]⟩ : Shape).Idx → ℝ) (w : (⟨2, ![2048, 1024]⟩ : Shape).Idx → ℝ)
  (g : (⟨1, ![1024]⟩ : Shape).Idx → ℝ) (x z : (⟨3, ![1, 4096, 1024]⟩ : Shape).Idx → ℝ)

/-- What the stream misses the target by. -/
def err (r : Fin 4096) (k : Fin 1024) : ℝ :=
  x (ix3 0 r k) + orow y w r k * inv (orow y w r) * g (ix1 k) - z (ix3 0 r k)

/-- The loss's gradient with respect to the stream. -/
def dx (i : (⟨2, ![4096, 1024]⟩ : Shape).Idx) : EReal := ((err y w g x z (i 0) (i 1) / 1024 : ℝ) : EReal)

theorem dx_at (r : Fin 4096) (k : Fin 1024) : dx y w g x z (ix2 r k) = ((err y w g x z r k / 1024 : ℝ) : EReal) := rfl

/-- The projection. -/
def out (i : (⟨2, ![4096, 1024]⟩ : Shape).Idx) : EReal := ((orow y w (i 0) (i 1) : ℝ) : EReal)

theorem out_at (r : Fin 4096) (k : Fin 1024) : out y w (ix2 r k) = ((orow y w r k : ℝ) : EReal) := rfl

/-- The loss: half the sum over the rows of the mean squared error. -/
def total : ℝ := 1 / 2 * ∑ r, (∑ k, err y w g x z r k * err y w g x z r k) / 1024

/-- The loss, in every lane of a row. -/
def loss (_ : (⟨2, ![1, 128]⟩ : Shape).Idx) : EReal := ((total y w g x z : ℝ) : EReal)

/-- The loss with the sums over the rows taken first. -/
theorem total_eq : total y w g x z = (∑ k, ∑ r, err y w g x z r k * err y w g x z r k) * (1 / 2048) := by
  rw [total, Finset.sum_comm, ← Finset.sum_div]
  ring

end Cert.LossSpec

end
-- ==== Proof.Loss.lean ====
module

public import proofs.«01_k».proof.Proof.Gen.LossIdeal.Value
public import proofs.«01_k».proof.Proof.LossSpec
public import Idealize.ShloMosaic.Lib.Pipeline.ReadBack

/-! # The last block's projection, norm and loss: what the kernel computes -/

@[expose] public section

set_option maxRecDepth 16384

noncomputable section

namespace Cert.LossIdeal.Pair

open Cert.LossIdeal Cert.LossIdeal.Gen Idealize.ShloMosaic Idealize.ShloMosaic.TcCoe Idealize.SL.Sem
open Idealize.ShloMosaic.Pipeline (Dat)
open Cert.Lift Cert.Rms Cert.OutBwdSpec Cert.LossSpec

theorem idx0 : ∀ t : Fin cfg0.N, win0_0.index t 0 = t.val ∧ win0_0.index t 1 = 0 :=
  (by decide +kernel : ∀ t : Fin grid0.N, _)
theorem idx1 : ∀ t : Fin cfg0.N, win0_1.index t 0 = 0 ∧ win0_1.index t 1 = 0 ∧ win0_1.index t 2 = 0 :=
  (by decide +kernel : ∀ t : Fin grid0.N, _)
theorem idx2 : ∀ t : Fin cfg0.N, win0_2.index t 0 = t.val ∧ win0_2.index t 1 = 0 :=
  (by decide +kernel : ∀ t : Fin grid0.N, _)
theorem idx3 : ∀ t : Fin cfg0.N, win0_3.index t 0 = 0 ∧ win0_3.index t 1 = 0 ∧ win0_3.index t 2 = 0 :=
  (by decide +kernel : ∀ t : Fin grid0.N, _)
theorem idx4 : ∀ t : Fin cfg0.N, win0_4.index t 0 = t.val ∧ win0_4.index t 1 = 0 :=
  (by decide +kernel : ∀ t : Fin grid0.N, _)
theorem idx5 : ∀ t : Fin cfg0.N, win0_5.index t 0 = t.val ∧ win0_5.index t 1 = 0 :=
  (by decide +kernel : ∀ t : Fin grid0.N, _)
theorem idx6 : ∀ t : Fin cfg0.N, win0_6.index t 0 = t.val ∧ win0_6.index t 1 = 0 :=
  (by decide +kernel : ∀ t : Fin grid0.N, _)

theorem lt8 (t : Fin cfg0.N) : t.val < 8 := lt_of_lt_of_eq t.isLt N_0

/-- The row of the whole array that row `a` of grid point `t`'s block is. -/
def row (t : Fin cfg0.N) (a : Fin 512) : Fin 4096 := ⟨t.val * 512 + a.val, by have := lt8 t; omega⟩

variable (m : (ℓ : Loc nD τ sig) → Buf (Elt Ideal) ℓ) (c : Dev nD)

abbrev argY : S4096x2048.Idx → EReal := m ((c : Thread nD τ).loc main_arg0)
abbrev argW : S2048x1024.Idx → EReal := m ((c : Thread nD τ).loc main_arg1)
abbrev argG : S1024.Idx → EReal := m ((c : Thread nD τ).loc main_arg2)
abbrev argX : S1x4096x1024.Idx → EReal := m ((c : Thread nD τ).loc main_arg3)
abbrev argZ : S1x4096x1024.Idx → EReal := m ((c : Thread nD τ).loc main_arg4)

theorem blk0 (t : Fin cfg0.N) (a : Fin 512) (j : Fin 2048) : iblk m c 0 t (ix2 a j) = argY m c (ix2 (row t a) j) := by
  blk_ext! [iblk, V, idx0 t, row]
theorem blk1 (t : Fin cfg0.N) (s : Fin 8) (k : Fin 256) (a : Fin 1024) :
    iblk m c 1 t (ix3 s k a) = argW m c (ix2 ⟨s.val * 256 + k.val, by omega⟩ a) := by
  blk_ext! [iblk, V, idx1 t]
theorem blk2 (t : Fin cfg0.N) (a : Fin 512) (j : Fin 1024) : iblk m c 2 t (ix2 a j) = argX m c (ix3 0 (row t a) j) := by
  blk_ext! [iblk, V, idx2 t, row]
theorem blk3 (t : Fin cfg0.N) (j : Fin 1024) : iblk m c 3 t (ix3 0 0 j) = argG m c (ix1 j) := by
  blk_ext! [iblk, V, idx3 t]
theorem blk4 (t : Fin cfg0.N) (a : Fin 512) (j : Fin 1024) : iblk m c 4 t (ix2 a j) = argZ m c (ix3 0 (row t a) j) := by
  blk_ext! [iblk, V, idx4 t, row]

variable (y : S4096x2048.Idx → ℝ) (w : S2048x1024.Idx → ℝ) (g : S1024.Idx → ℝ) (x z : S1x4096x1024.Idx → ℝ)
variable (hy : ∀ i, argY m c i = (y i : EReal)) (hw : ∀ i, argW m c i = (w i : EReal))
    (hg : ∀ i, argG m c i = (g i : EReal)) (hx : ∀ i, argX m c i = (x i : EReal)) (hz : ∀ i, argZ m c i = (z i : EReal))
include hy hw hg hx hz

/-- What the blocks of grid point `t` hold, over the reals. -/
theorem blks (t : Fin cfg0.N) :
    (∀ a j, iblk m c 0 t (ix2 a j) = (y (ix2 (row t a) j) : EReal))
      ∧ (∀ s k a, iblk m c 1 t (ix3 s k a) = ((wide w (s.val * 256 + k.val) a.val : ℝ) : EReal))
      ∧ (∀ a j, iblk m c 2 t (ix2 a j) = (x (ix3 0 (row t a) j) : EReal))
      ∧ (∀ j, iblk m c 3 t (ix3 0 0 j) = (g (ix1 j) : EReal))
      ∧ (∀ a j, iblk m c 4 t (ix2 a j) = (z (ix3 0 (row t a) j) : EReal)) :=
  ⟨fun a j => (blk0 m c t a j).trans (hy _),
    fun s k a => (blk1 m c t s k a).trans ((hw _).trans (congrArg _ (wide_at w ⟨_, _⟩ _).symm)),
    fun a j => (blk2 m c t a j).trans (hx _),
    fun j => (blk3 m c t j).trans (hg _),
    fun a j => (blk4 m c t a j).trans (hz _)⟩

omit hy hw hg hx hz in
/-- A row of the projection, from the products as the kernel adds them. -/
theorem orow_coe (r : Fin 4096) (k : Fin 1024) :
    ∑ e, (y (ix2 r e) : EReal) * (w (ix2 e k) : EReal) = ((orow y w r k : ℝ) : EReal) := by
  simp only [← EReal.coe_mul, coe_sum, orow]

omit hy hw hg hx hz in
theorem inv_o (r : Fin 4096) : Ideal.rsqrt (Ideal.div (∑ k, (orow y w r k : EReal) * (orow y w r k : EReal))
    (Ideal.ofBits .f32 0x44800000#32) + Ideal.ofBits .f32 0x358637BD#32) = ((inv (orow y w r) : ℝ) : EReal) :=
  inv_coe (orow y w r)

omit hy hw hg hx hz in
theorem ofBits_inv1024 : Ideal.ofBits .f32 0x3A800000#32 = ((1 / 1024 : ℝ) : EReal) := by
  simp [Ideal.ofBits, Ideal.ieee, -EReal.coe_mul]; norm_num

omit hy hw hg hx hz in
theorem ofBits_inv2048 : Ideal.ofBits .f32 0x3A000000#32 = ((1 / 2048 : ℝ) : EReal) := by
  simp [Ideal.ofBits, Ideal.ieee, -EReal.coe_mul]; norm_num

set_option maxHeartbeats 1000000 in
/-- The kernel's gradient of the stream. -/
theorem arr5 : (dats m 0 c).arrAt 5 cfg0.N = dx y w g x z := by
  refine (dats m 0 c).arrAt_eq_of_covers 5 _ (by decide +kernel) fun t hf i => ?_
  blk_simp
  rw [after0_5]
  by_cases h0 : t.val % 8 = 0 <;> by_cases h1 : t.val % 8 = 7
  · omega
  all_goals
    first | rw [outsAt0_A m c t h0 h1] | rw [outsAt0_B m c t h0 h1] | rw [outsAt0_C m c t h0 h1]
    frame_out
    unfold_payloads
    idx_vars i
    obtain ⟨b0, b1, b2, b3, b4⟩ := blks m c y w g x z hy hw hg hx hz t
    generalize iblk m c 0 t = B0 at b0 ⊢
    generalize iblk m c 1 t = B1 at b1 ⊢
    generalize iblk m c 2 t = B2 at b2 ⊢
    generalize iblk m c 3 t = B3 at b3 ⊢
    generalize iblk m c 4 t = B4 at b4 ⊢
    pointwise []
    simp only [b0, b1, b2, b3, b4, Nat.div_add_mod', wide_at w, orow_coe, inv_o, ofBits_inv1024]
    refine Eq.trans (b := dx y w g x z (ix2 (row t i0) i1)) ?_ (congrArg _ ?_)
    · simp only [dx_at, ← EReal.coe_mul, ← EReal.coe_add, ← EReal.coe_sub, err]
      exact congrArg _ (by ring)
    · blk_ext [idx5 t, row]

set_option maxHeartbeats 1000000 in
/-- The kernel's projection. -/
theorem arr6 : (dats m 0 c).arrAt 6 cfg0.N = out y w := by
  refine (dats m 0 c).arrAt_eq_of_covers 6 _ (by decide +kernel) fun t hf i => ?_
  blk_simp
  rw [after0_6]
  by_cases h0 : t.val % 8 = 0 <;> by_cases h1 : t.val % 8 = 7
  · omega
  all_goals
    first | rw [outsAt0_A m c t h0 h1] | rw [outsAt0_B m c t h0 h1] | rw [outsAt0_C m c t h0 h1]
    frame_out
    unfold_payloads
    idx_vars i
    obtain ⟨b0, b1, -⟩ := blks m c y w g x z hy hw hg hx hz t
    generalize iblk m c 0 t = B0 at b0 ⊢
    generalize iblk m c 1 t = B1 at b1 ⊢
    pointwise []
    simp only [b0, b1, Nat.div_add_mod', wide_at w, orow_coe]
    refine Eq.trans (b := out y w (ix2 (row t i0) i1)) ?_ (congrArg _ ?_)
    · simp only [out_at]
    · blk_ext [idx6 t, row]

omit hy hw hg hx hz in
/-- What grid point `t` adds to the squared error of a column. -/
def sqPart (t : Fin cfg0.N) (i : S1x1024.Idx) : EReal :=
  ((∑ a : Fin 512, err y w g x z (row t a) (i 1) * err y w g x z (row t a) (i 1) : ℝ) : EReal)

set_option maxHeartbeats 1000000 in
/-- The scratch after the last point: every grid point's part. -/
theorem accS (i : S1x1024.Idx) :
    (outsAt0 m c t0_7.val t0_7.isLt).2.2.2 i = 0 + ∑ p : Fin cfg0.N, sqPart y w g x z p i := by
  refine Pipeline.eq_sum_fin_of_reset_step_apply_last (fun k h => (outsAt0 m c k h).2.2.2) 8 (fun _ => (0 : EReal)) (sqPart y w g x z) ?_ ?_
    (le_of_eq N_0) t0_7 N_0.symm i
  all_goals
    intro t h0 i
    by_cases h1 : t.val % 8 = 7
  · omega
  all_goals
    first | rw [outsAt0_A m c t h0 h1] | rw [outsAt0_B m c t h0 h1] | rw [outsAt0_C m c t h0 h1]
    frame_out
    unfold_payloads
    idx_vars i
    obtain ⟨b0, b1, b2, b3, b4⟩ := blks m c y w g x z hy hw hg hx hz t
    generalize iblk m c 0 t = B0 at b0 ⊢
    generalize iblk m c 1 t = B1 at b1 ⊢
    generalize iblk m c 2 t = B2 at b2 ⊢
    generalize iblk m c 3 t = B3 at b3 ⊢
    generalize iblk m c 4 t = B4 at b4 ⊢
    pointwise []
    simp only [b0, b1, b2, b3, b4, Nat.div_add_mod', wide_at w, orow_coe, inv_o, read_unread_whole]
    simp only [← EReal.coe_mul, ← EReal.coe_add, ← EReal.coe_sub, coe_sum]
    rfl

omit hy hw hg hx hz in
set_option maxHeartbeats 1000000 in
/-- The loss stored at the last point, from the accumulated columns. -/
theorem last (j : Fin 128) : (outsAt0 m c t0_7.val t0_7.isLt).2.2.1 (ix2 0 j)
    = (∑ k : Fin 1024, (outsAt0 m c t0_7.val t0_7.isLt).2.2.2 (ix2 0 k)) * Ideal.ofBits .f32 0x3A000000#32 := by
  rw [outsAt0_C m c t0_7 (by decide) (by decide)]
  frame_out
  generalize k0_pay1 (F := Idealize.ShloMosaic.Ideal) _ _ = X
  pointwise [k0_pay2]

omit hy hw hg hx hz in
/-- The grid points' rows are all rows. -/
theorem sum_rows (f : Fin 4096 → ℝ) : ∑ p : Fin cfg0.N, ∑ a : Fin 512, f (row p a) = ∑ r, f r :=
  Fin.sum_mul_add_fin cfg0.N 512 f (by rw [show cfg0.N = 8 from N_0])

/-- The accumulated columns: the squared error's sums over the rows. -/
theorem accS_at (k : Fin 1024) : (outsAt0 m c t0_7.val t0_7.isLt).2.2.2 (ix2 0 k)
    = ((∑ r, err y w g x z r k * err y w g x z r k : ℝ) : EReal) := by
  rw [accS m c y w g x z hy hw hg hx hz, zero_add]
  simp only [sqPart, coe_sum]
  exact congrArg _ (sum_rows fun r => err y w g x z r k * err y w g x z r k)

/-- The stored loss. -/
theorem last_at (j : Fin 128) : (outsAt0 m c t0_7.val t0_7.isLt).2.2.1 (ix2 0 j) = loss y w g x z (ix2 0 j) := by
  rw [last]
  simp only [accS_at m c y w g x z hy hw hg hx hz, coe_sum, ofBits_inv2048, ← EReal.coe_mul]
  exact congrArg _ (total_eq y w g x z).symm

/-- The kernel's loss. -/
theorem arr7 : (dats m 0 c).arrAt 7 cfg0.N = loss y w g x z := by
  refine (dats m 0 c).arrAt_eq_of_after_last 7 t0_7 (by decide +kernel) _ fun i => ?_
  blk_simp
  rw [after0_7]
  idx_vars i
  rw [Subsingleton.elim i0 0, last_at m c y w g x z hy hw hg hx hz]

end Cert.LossIdeal.Pair

end
-- ==== Proof.LossRef.lean ====
module

public import proofs.«01_k».proof.Proof.Gen.LossRefIdeal.Read
public import proofs.«01_k».proof.Proof.LossSpec

/-! # What the reference of the loss and its gradient computes, stage by stage -/

@[expose] public section

set_option maxRecDepth 16384

noncomputable section

namespace Cert.LossRefIdeal.Pair

open Cert.LossRefIdeal Cert.LossRefIdeal.Gen Idealize.ShloMosaic Idealize.ShloMosaic.TcCoe Idealize.SL.Sem
open Cert.LossRefIdeal.Read Cert.Lift Cert.Rms Cert.OutBwdSpec Cert.LossSpec

variable (x0 : S4096x2048.Idx → EReal) (x1 : S2048x1024.Idx → EReal) (x2 : S1024.Idx → EReal) (x3 x4 : S1x4096x1024.Idx → EReal)
variable (y : S4096x2048.Idx → ℝ) (w : S2048x1024.Idx → ℝ) (g : S1024.Idx → ℝ) (x z : S1x4096x1024.Idx → ℝ)

variable (hy : ∀ i, x0 i = (y i : EReal)) (hw : ∀ i, x1 i = (w i : EReal)) (hg : ∀ i, x2 i = (g i : EReal))
  (hx : ∀ i, x3 i = (x i : EReal)) (hz : ∀ i, x4 i = (z i : EReal))

include hy hw

/-- A row of the projection. -/
theorem v2_at (r : Fin 4096) (k : Fin 1024) : val_main_v2 (F := Ideal) x0 x1 (ix3 0 r k) = ((orow y w r k : ℝ) : EReal) := by
  pointwise [val_main_v2, val_main_v1, val_main_v0]
  simp only [hy, hw, ← EReal.coe_mul, coe_sum, orow]

/-- The norm's factor of a row. -/
theorem v10_at (r : Fin 4096) : val_main_v10 (F := Ideal) x0 x1 (ix3 0 r 0) = ((inv (orow y w r) : ℝ) : EReal) := by
  pointwise [val_main_v10, val_main_v9, val_main_v8, val_main_v7, val_main_v6, val_main_v5, val_main_v4, val_main_v3, val_main_cst,
    val_main_cst_0, val_main_cst_1]
  simp only [v2_at x0 x1 y w hy hw]
  exact inv_coe (orow y w r)

/-- The projection. -/
theorem v33_at (r : Fin 4096) (k : Fin 1024) : val_main_v33 (F := Ideal) x0 x1 (ix2 r k) = out y w (ix2 r k) := by
  pointwise [val_main_v33]
  rw [v2_at x0 x1 y w hy hw, out_at]

include hg hx hz

/-- What the stream misses the target by. -/
theorem v17_at (r : Fin 4096) (k : Fin 1024) :
    val_main_v17 (F := Ideal) x0 x1 x2 x3 x4 (ix3 0 r k) = ((err y w g x z r k : ℝ) : EReal) := by
  pointwise [val_main_v17, val_main_v16, val_main_v15, val_main_v14, val_main_v13, val_main_v12, val_main_v11]
  simp only [v2_at x0 x1 y w hy hw, v10_at x0 x1 y w hy hw, hg, hx, hz, ← EReal.coe_mul, ← EReal.coe_add, ← EReal.coe_sub, err]

/-- The loss's gradient with respect to the stream. -/
theorem v32_at (r : Fin 4096) (k : Fin 1024) : val_main_v32 (F := Ideal) x0 x1 x2 x3 x4 (ix2 r k) = dx y w g x z (ix2 r k) := by
  pointwise [val_main_v32, val_main_v31, val_main_v30, val_main_v29, val_main_v28, val_main_v27, val_main_v26, val_main_v20,
    val_main_v19, val_main_cst_2, val_main_cst_7, val_main_cst_8, val_main_cst_9]
  simp only [v17_at x0 x1 x2 x3 x4 y w g x z hy hw hg hx hz, ofBits_half, ofBits_two, ofBits_1024, dx_at, ← EReal.coe_mul,
    div_coe_coe _ _ (by norm_num : (1024 : ℝ) ≠ 0)]
  exact congrArg _ (by ring)

/-- The mean squared error of a row. -/
theorem v23_at (r : Fin 4096) : val_main_v23 (F := Ideal) x0 x1 x2 x3 x4 (ix2 0 r)
    = (((∑ k, err y w g x z r k * err y w g x z r k) / 1024 : ℝ) : EReal) := by
  pointwise [val_main_v23, val_main_v22, val_main_v21, val_main_v18, val_main_cst_3, val_main_cst_4]
  simp only [v17_at x0 x1 x2 x3 x4 y w g x z hy hw hg hx hz, ofBits_1024, ← EReal.coe_mul, coe_sum,
    div_coe_coe _ _ (by norm_num : (1024 : ℝ) ≠ 0)]

/-- The loss. -/
theorem v34_at (a : Fin 1) (j : Fin 128) : val_main_v34 (F := Ideal) x0 x1 x2 x3 x4 (ix2 a j) = loss y w g x z (ix2 a j) := by
  pointwise [val_main_v34, val_main_v25, val_main_v24, val_main_cst_5, val_main_cst_6]
  simp only [Fin.sum_univ_one, Fin.isValue, v23_at x0 x1 x2 x3 x4 y w g x z hy hw hg hx hz, ofBits_half, coe_sum, ← EReal.coe_mul]
  rfl

end Cert.LossRefIdeal.Pair

end
-- ==== Proof.LossClaim.lean ====
module

public import proofs.«01_k».proof.Defs
public import proofs.«01_k».proof.Proof.Loss
public import proofs.«01_k».proof.Proof.LossRef
public import proofs.«01_k».proof.Proof.Gen.Pre_finite6
public import Idealize.ShloMosaic.Lib.Quiescent

/-! # The last projection, the loss and its gradient: the kernel and the reference agree over the reals -/

@[expose] public section

noncomputable section

namespace Cert.LossClaim

open Idealize.ShloMosaic Idealize.ShloMosaic.TcCoe Idealize.SL.Sem Cert.Lift Cert.LossSpec

/-- Finite arguments are reals. -/
theorem reals [Cert.Pre_finite6.Facts] (m) (h : Cert.Pre_LossIdeal_finite6 m) (c : Dev Cert.LossIdeal.nD) :
    (∃ x : _ → ℝ, ∀ i, LossIdeal.Pair.argY m c i = (x i : EReal)) ∧ (∃ x : _ → ℝ, ∀ i, LossIdeal.Pair.argW m c i = (x i : EReal))
    ∧ (∃ x : _ → ℝ, ∀ i, LossIdeal.Pair.argG m c i = (x i : EReal)) ∧ (∃ x : _ → ℝ, ∀ i, LossIdeal.Pair.argX m c i = (x i : EReal))
    ∧ (∃ x : _ → ℝ, ∀ i, LossIdeal.Pair.argZ m c i = (x i : EReal)) := by
  obtain ⟨h0, h1, h2, h3, h4⟩ := h c
  exact ⟨exists_real _ fun i => ofBits_inf ▸ congrFun h0 i, exists_real _ fun i => ofBits_inf ▸ congrFun h1 i,
    exists_real _ fun i => ofBits_inf ▸ congrFun h2 i, exists_real _ fun i => ofBits_inf ▸ congrFun h3 i,
    exists_real _ fun i => ofBits_inf ▸ congrFun h4 i⟩

/-- The reference runs and leaves its arguments as they were; it has no semaphore. -/
theorem frame_ref : Cert.quiescent_LossRefIdeal := fun m ρ _ =>
  (θ_run Cert.LossRefIdeal.defs _ _).mono (fun r h => ⟨fun c => (h c).2.2.2, sem_eq_zero_of_no_sems (by decide) r.2⟩)
    (Cert.LossRefIdeal.Value.run (F := Ideal) m ρ)

/-- Both programs leave the same gradient, projection and loss. -/
theorem algebraic : Cert.algebraic_LossIdeal_LossRefIdeal_pre_finite6 := by
  intro m ρ m' ρ' hpre hagree
  refine ⟨_, _, _, Cert.LossIdeal.Value.run_blocks m ρ, (θ_run _ _ _).mono (fun r h c => ?_) (Cert.LossRefIdeal.Value.run m' ρ')⟩
  obtain ⟨⟨y, hy⟩, ⟨w, hw⟩, ⟨g, hg⟩, ⟨x, hx⟩, ⟨z, hz⟩⟩ := reals m hpre c
  obtain ⟨e0, e1, e2, e3, e4⟩ := hagree c
  obtain ⟨r0, r1, r2, ra⟩ := h c
  refine ⟨r0.trans ?_, r1.trans ?_, r2.trans ?_, ra⟩
  · rw [LossRefIdeal.Read.val_main_v32_eq, LossIdeal.Pair.arr5 m c y w g x z hy hw hg hx hz]
    funext i
    idx_vars i
    rw [e0, e1, e2, e3, e4]
    exact LossRefIdeal.Pair.v32_at _ _ _ _ _ y w g x z hy hw hg hx hz i0 i1
  · rw [LossRefIdeal.Read.val_main_v33_eq, LossIdeal.Pair.arr6 m c y w g x z hy hw hg hx hz]
    funext i
    idx_vars i
    rw [e0, e1]
    exact LossRefIdeal.Pair.v33_at _ _ y w hy hw i0 i1
  · rw [LossRefIdeal.Read.val_main_v34_eq, LossIdeal.Pair.arr7 m c y w g x z hy hw hg hx hz]
    funext i
    idx_vars i
    rw [e0, e1, e2, e3, e4]
    exact LossRefIdeal.Pair.v34_at _ _ _ _ _ y w g x z hy hw hg hx hz i0 i1

end Cert.LossClaim

end
-- ==== Proof.OutBwd.lean ====
module
public import proofs.«01_k».proof.Proof.Gen.OutBwdIdeal.Value
public import proofs.«01_k».proof.Proof.OutBwdSpec

/-! # The gradient through the output projection and its norm: the kernel's gradient of the branch -/

@[expose] public section
set_option maxRecDepth 16384
noncomputable section
namespace Cert.OutBwdIdeal.Pair
open Cert.OutBwdIdeal Cert.OutBwdIdeal.Gen Idealize.ShloMosaic Idealize.ShloMosaic.TcCoe Idealize.SL.Sem
open Idealize.ShloMosaic.Pipeline (Dat)
open Cert.Lift Cert.Rms Cert.OutBwdSpec

theorem idx0 : ∀ t : Fin cfg0.N, win0_0.index t 0 = t.val ∧ win0_0.index t 1 = 0 :=
  (by decide +kernel : ∀ t : Fin grid0.N, _)
theorem idx1 : ∀ t : Fin cfg0.N, win0_1.index t 0 = t.val ∧ win0_1.index t 1 = 0 :=
  (by decide +kernel : ∀ t : Fin grid0.N, _)
theorem idx2 : ∀ t : Fin cfg0.N, win0_2.index t 0 = 0 ∧ win0_2.index t 1 = 0 ∧ win0_2.index t 2 = 0 :=
  (by decide +kernel : ∀ t : Fin grid0.N, _)
theorem idx3 : ∀ t : Fin cfg0.N, win0_3.index t 0 = 0 ∧ win0_3.index t 1 = 0 ∧ win0_3.index t 2 = 0 :=
  (by decide +kernel : ∀ t : Fin grid0.N, _)
theorem idx4 : ∀ t : Fin cfg0.N, win0_4.index t 0 = t.val ∧ win0_4.index t 1 = 0 :=
  (by decide +kernel : ∀ t : Fin grid0.N, _)
theorem idx5 : ∀ t : Fin cfg0.N, win0_5.index t 0 = t.val ∧ win0_5.index t 1 = 0 :=
  (by decide +kernel : ∀ t : Fin grid0.N, _)

theorem lt8 (t : Fin cfg0.N) : t.val < 8 := lt_of_lt_of_eq t.isLt N_0

/-- The row of the whole array that row `a` of grid point `t`'s block is. -/
def row (t : Fin cfg0.N) (a : Fin 512) : Fin 4096 := ⟨t.val * 512 + a.val, by have := lt8 t; omega⟩

variable (m : (ℓ : Loc nD τ sig) → Buf (Elt Ideal) ℓ) (c : Dev nD)

abbrev argY : S4096x2048.Idx → EReal := m ((c : Thread nD τ).loc main_arg0)
abbrev argW : S2048x1024.Idx → EReal := m ((c : Thread nD τ).loc main_arg1)
abbrev argG : S1024.Idx → EReal := m ((c : Thread nD τ).loc main_arg2)
abbrev argN : S1x4096x1024.Idx → EReal := m ((c : Thread nD τ).loc main_arg3)

theorem blk0 (t : Fin cfg0.N) (a : Fin 512) (j : Fin 1024) : iblk m c 0 t (ix2 a j) = argN m c (ix3 0 (row t a) j) := by
  blk_ext! [iblk, V, idx0 t, row]
theorem blk1 (t : Fin cfg0.N) (a : Fin 512) (j : Fin 1024) :
    iblk m c 1 t (ix2 a j) = ∑ e : Fin 2048, argY m c (ix2 (row t a) e) * argW m c (ix2 e j) := by
  have e : (V m c main_v4 : S4096x1024.Idx → EReal) = fun i => ∑ e : Fin 2048, argY m c (ix2 (i 0) e) * argW m c (ix2 e (i 1)) := by
    entry_read
    funext i
    idx_vars i
    pointwise []
  have h1 : iblk m c 1 t (ix2 a j) = (V m c main_v4 : S4096x1024.Idx → EReal) (ix2 (row t a) j) := by
    blk_ext [iblk, idx1 t, row]
  rw [h1, e]
  rfl
theorem blk2 (t : Fin cfg0.N) (j : Fin 1024) : iblk m c 2 t (ix3 0 0 j) = argG m c (ix1 j) := by
  blk_ext! [iblk, V, idx2 t]
theorem blk3 (t : Fin cfg0.N) (s : Fin 8) (k : Fin 256) (a : Fin 1024) :
    iblk m c 3 t (ix3 s k a) = argW m c (ix2 ⟨s.val * 256 + k.val, by omega⟩ a) := by
  blk_ext! [iblk, V, idx3 t]
theorem blk4 (t : Fin cfg0.N) (a : Fin 512) (j : Fin 2048) : iblk m c 4 t (ix2 a j) = argY m c (ix2 (row t a) j) := by
  blk_ext! [iblk, V, idx4 t, row]

variable (y : S4096x2048.Idx → ℝ) (w : S2048x1024.Idx → ℝ) (g : S1024.Idx → ℝ) (n : S1x4096x1024.Idx → ℝ)

/-- What the blocks of grid point `t` hold, over the reals. -/
theorem blks (hy : ∀ i, argY m c i = (y i : EReal)) (hw : ∀ i, argW m c i = (w i : EReal))
    (hg : ∀ i, argG m c i = (g i : EReal)) (hn : ∀ i, argN m c i = (n i : EReal)) (t : Fin cfg0.N) :
    (∀ a j, iblk m c 0 t (ix2 a j) = (n (ix3 0 (row t a) j) : EReal))
      ∧ (∀ a j, iblk m c 1 t (ix2 a j) = (orow y w (row t a) j : EReal))
      ∧ (∀ j, iblk m c 2 t (ix3 0 0 j) = (g (ix1 j) : EReal))
      ∧ (∀ s k a, iblk m c 3 t (ix3 s k a) = ((wide w (s.val * 256 + k.val) a.val : ℝ) : EReal))
      ∧ (∀ a j, iblk m c 4 t (ix2 a j) = (y (ix2 (row t a) j) : EReal)) :=
  ⟨fun a j => (blk0 m c t a j).trans (hn _),
    fun a j => (blk1 m c t a j).trans (by simp only [hy, hw, ← EReal.coe_mul, coe_sum, orow]),
    fun j => (blk2 m c t j).trans (hg _),
    fun s k a => (blk3 m c t s k a).trans ((hw _).trans (congrArg _ (wide_at w ⟨_, _⟩ _).symm)),
    fun a j => (blk4 m c t a j).trans (hy _)⟩

theorem inv_o (r : Fin 4096) : Ideal.rsqrt (Ideal.div (∑ k, (orow y w r k : EReal) * (orow y w r k : EReal))
    (Ideal.ofBits .f32 0x44800000#32) + Ideal.ofBits .f32 0x358637BD#32) = ((inv (orow y w r) : ℝ) : EReal) :=
  inv_coe (orow y w r)

theorem dout_coe (r : Fin 4096) (k : Fin 1024) :
    ((inv (orow y w r) : ℝ) : EReal) * ((n (ix3 0 r k) : EReal) * (g (ix1 k) : EReal) - (orow y w r k : EReal)
      * (inv (orow y w r) : EReal) * Ideal.div (∑ j, (n (ix3 0 r j) : EReal) * (g (ix1 j) : EReal)
        * ((orow y w r j : EReal) * (inv (orow y w r) : EReal))) (Ideal.ofBits .f32 0x44800000#32))
    = ((dout y w g n r k : ℝ) : EReal) := by
  have h := grad_coe (orow y w r) (urow g n r) k
  simp only [urow, EReal.coe_mul] at h
  exact h

set_option maxHeartbeats 1000000 in
theorem arr5 (hy : ∀ i, argY m c i = (y i : EReal)) (hw : ∀ i, argW m c i = (w i : EReal))
    (hg : ∀ i, argG m c i = (g i : EReal)) (hn : ∀ i, argN m c i = (n i : EReal)) :
    (dats m 0 c).arrAt 5 cfg0.N = dy y w g n := by
  refine (dats m 0 c).arrAt_eq_of_covers 5 _ (by decide +kernel) fun t hf i => ?_
  blk_simp
  rw [after0_5]
  by_cases h0 : t.val % 8 = 0 <;> by_cases h1 : t.val % 8 = 7
  · omega
  all_goals
    first | rw [outsAt0_A m c t h0 h1] | rw [outsAt0_B m c t h0 h1] | rw [outsAt0_C m c t h0 h1]
    frame_out
    unfold_payloads
    idx_vars i
    obtain ⟨b0, b1, b2, b3, -⟩ := blks m c y w g n hy hw hg hn t
    generalize iblk m c 0 t = B0 at b0 ⊢
    generalize iblk m c 1 t = B1 at b1 ⊢
    generalize iblk m c 2 t = B2 at b2 ⊢
    generalize iblk m c 3 t = B3 at b3 ⊢
    generalize iblk m c 4 t = B4
    pointwise []
    simp only [b0, b1, b2, b3, inv_o, dout_coe, Nat.div_add_mod', wide_at w]
    refine Eq.trans (b := dy y w g n (ix2 (row t i0) i1)) ?_ (congrArg _ ?_)
    · simp only [dy_at, ← EReal.coe_mul, coe_sum]
    · blk_ext [idx5 t, row]

end Cert.OutBwdIdeal.Pair

end
-- ==== Proof.OutBwdAcc.lean ====
module
public import Idealize.ShloMosaic.Lib.Pipeline.ReadBack
public import proofs.«01_k».proof.Proof.OutBwd

/-! # The gradient through the output projection and its norm: what the kernel accumulates

The projection's gradient is accumulated over the grid points in a scratch buffer and stored in eight slabs at the last
point; the norm's weight's gradient is accumulated in its own block. -/

@[expose] public section
set_option maxRecDepth 16384
noncomputable section
namespace Cert.OutBwdIdeal.Pair
open Cert.OutBwdIdeal Cert.OutBwdIdeal.Gen Idealize.ShloMosaic Idealize.ShloMosaic.TcCoe Idealize.SL.Sem
open Idealize.ShloMosaic.Pipeline (Dat)
open Cert.Lift Cert.Rms Cert.OutBwdSpec

variable (m : (ℓ : Loc nD τ sig) → Buf (Elt Ideal) ℓ) (c : Dev nD)
variable (y : S4096x2048.Idx → ℝ) (w : S2048x1024.Idx → ℝ) (g : S1024.Idx → ℝ) (n : S1x4096x1024.Idx → ℝ)

/-- What grid point `t` adds to the projection's gradient: its rows' terms. -/
def dwPart (t : Fin cfg0.N) (i : S2048x1024.Idx) : EReal :=
  ((∑ a : Fin 512, y (ix2 (row t a) (i 0)) * dout y w g n (row t a) (i 1) : ℝ) : EReal)

/-- What grid point `t` adds to the weight's gradient: its rows' terms. -/
def dgPart (t : Fin cfg0.N) (i : S1x1024.Idx) : EReal := ((∑ a : Fin 512, dgTerm y w n (row t a) (i 1) : ℝ) : EReal)

variable (hy : ∀ i, argY m c i = (y i : EReal)) (hw : ∀ i, argW m c i = (w i : EReal))
    (hg : ∀ i, argG m c i = (g i : EReal)) (hn : ∀ i, argN m c i = (n i : EReal))
include hy hw hg hn

set_option maxHeartbeats 1000000 in
theorem acc7 (i : S1x1024.Idx) :
    (outsAt0 m c t0_7.val t0_7.isLt).2.2.1 i = 0 + ∑ p : Fin cfg0.N, dgPart y w n p i := by
  refine Pipeline.eq_sum_fin_of_reset_step_apply_last (fun k h => (outsAt0 m c k h).2.2.1) 8 (fun _ => (0 : EReal)) (dgPart y w n) ?_ ?_
    (le_of_eq N_0) t0_7 N_0.symm i
  all_goals
    intro t h0 i
    by_cases h1 : t.val % 8 = 7
  · omega
  all_goals
    first | rw [outsAt0_A m c t h0 h1] | rw [outsAt0_B m c t h0 h1] | rw [outsAt0_C m c t h0 h1]
    frame_out
    unfold_payloads
    idx_vars i
    obtain ⟨b0, b1, -⟩ := blks m c y w g n hy hw hg hn t
    generalize iblk m c 0 t = B0 at b0 ⊢
    generalize iblk m c 1 t = B1 at b1 ⊢
    pointwise []
    simp only [b0, b1, inv_o]
    simp only [← EReal.coe_mul, coe_sum]
    rfl

set_option maxHeartbeats 1000000 in
theorem accS (i : S2048x1024.Idx) :
    (outsAt0 m c t0_7.val t0_7.isLt).2.2.2 i = 0 + ∑ p : Fin cfg0.N, dwPart y w g n p i := by
  refine Pipeline.eq_sum_fin_of_reset_step_apply_last (fun k h => (outsAt0 m c k h).2.2.2) 8 (fun _ => (0 : EReal)) (dwPart y w g n) ?_ ?_
    (le_of_eq N_0) t0_7 N_0.symm i
  all_goals
    intro t h0 i
    by_cases h1 : t.val % 8 = 7
  · omega
  all_goals
    first | rw [outsAt0_A m c t h0 h1] | rw [outsAt0_B m c t h0 h1] | rw [outsAt0_C m c t h0 h1]
    frame_out
    unfold_payloads
    idx_vars i
    obtain ⟨b0, b1, b2, -, b4⟩ := blks m c y w g n hy hw hg hn t
    generalize iblk m c 0 t = B0 at b0 ⊢
    generalize iblk m c 1 t = B1 at b1 ⊢
    generalize iblk m c 2 t = B2 at b2 ⊢
    generalize iblk m c 4 t = B4 at b4 ⊢
    pointwise []
    simp only [b0, b1, b2, b4, inv_o, dout_coe]
    simp only [← EReal.coe_mul, coe_sum, read_unread_whole]
    rfl

omit hy hw hg hn in
/-- A slab read back from the filled scratch. -/
theorem fill_slab (X : FVec Idealize.ShloMosaic.Ideal S2048x1024 .f32) (o : ℕ) (inb : ∀ a, (![o, 0] : Fin 2 → ℕ) a + (![256, 1024] : Fin 2 → ℕ) a ≤ S2048x1024.size a) (a : Fin 256) (b : Fin 1024) (ho : o + 256 ≤ 2048) :
    View.readCov (Val := Elt Idealize.ShloMosaic.Ideal) (View.whole cc0_scratch0) [⟨Rect.unit ![0, 0] ![2048, 1024] inb_S2048x1024_S2048x1024_0_0, X⟩]
      (Rect.unit (s := S2048x1024) ![o, 0] ![256, 1024] inb).toLoadRect (ix2 a b) = X (ix2 ⟨o + a.val, by omega⟩ b) := by
  have e := View.readCov_fill (Val := Elt Idealize.ShloMosaic.Ideal) (View.whole cc0_scratch0) (off := ![0, 0]) inb_S2048x1024_S2048x1024_0_0 X [] (Rect.unit ![o, 0] ![256, 1024] inb)
    (by decide)
  refine (congrFun e (ix2 a b)).trans (congrArg X (Shape.idx_ext₂ ?_ ?_))
  · simp [Rect.unit, Rect.toLoadRect, LoadRect.idx]
  · simp [Rect.unit, Rect.toLoadRect, LoadRect.idx]

omit hy hw hg hn in
set_option maxHeartbeats 1000000 in
/-- The slabs stored at the last point are the accumulated rows. -/
theorem slabs (s : Fin 8) (k : Fin 256) (j : Fin 1024) : (outsAt0 m c t0_7.val t0_7.isLt).2.1 (ix3 s k j)
    = (outsAt0 m c t0_7.val t0_7.isLt).2.2.2 (ix2 ⟨s.val * 256 + k.val, by omega⟩ j) := by
  rw [outsAt0_C m c t0_7 (by decide) (by decide)]
  frame_out
  canon_tiles x h
  all_goals
    idx_vars x
    simp only [k0_pay4, k0_pay5, k0_pay6, k0_pay7, k0_pay8, k0_pay9, k0_pay10, k0_pay11, k0_pay12]
    generalize k0_pay3 (F := Idealize.ShloMosaic.Ideal) _ _ _ = X
    pointwise []
    refine (fill_slab X _ _ x1 x2 (by omega)).trans (congrArg X (congrArg₂ ix2 (Fin.ext ?_) (Fin.ext ?_)))
    · simp only; omega
    · omega

omit hy hw hg hn in
/-- The grid points' rows are all rows. -/
theorem sum_rows (f : Fin 4096 → ℝ) : ∑ p : Fin cfg0.N, ∑ a : Fin 512, f (row p a) = ∑ r, f r :=
  Fin.sum_mul_add_fin cfg0.N 512 f (by rw [show cfg0.N = 8 from N_0])

theorem idx7 : win0_7.index t0_7 0 = 0 ∧ win0_7.index t0_7 1 = 0 := by decide +kernel
theorem idx6 : win0_6.index t0_7 0 = 0 ∧ win0_6.index t0_7 1 = 0 ∧ win0_6.index t0_7 2 = 0 := by decide +kernel

theorem arr7 : (dats m 0 c).arrAt 7 cfg0.N = dg y w n := by
  refine (dats m 0 c).arrAt_eq_of_after_last 7 t0_7 (by decide +kernel) _ fun i => ?_
  blk_simp
  rw [after0_7, acc7 m c y w g n hy hw hg hn]
  idx_vars i
  refine Eq.trans (b := dg y w n (ix2 i0 i1)) ?_ (congrArg _ ?_)
  · simp only [dgPart, dg, coe_sum, zero_add]
    exact congrArg _ (sum_rows fun r => dgTerm y w n r i1)
  · blk_ext [idx7]

theorem arr6 : (dats m 0 c).arrAt 6 cfg0.N = dw y w g n := by
  refine (dats m 0 c).arrAt_eq_of_after_last 6 t0_7 (by decide +kernel) _ fun i => ?_
  blk_simp
  rw [after0_6]
  idx_vars i
  rw [slabs m c, accS m c y w g n hy hw hg hn]
  refine Eq.trans (b := dw y w g n (ix3 i0 i1 i2)) ?_ (congrArg _ ?_)
  · simp only [dwPart, dw, coe_sum, zero_add]
    exact congrArg _ (sum_rows fun r => y (ix2 r ⟨i0.val * 256 + i1.val, by omega⟩) * dout y w g n r i2)
  · blk_ext [idx6]

end Cert.OutBwdIdeal.Pair

end
-- ==== Proof.OutBwdRef.lean ====
module

public import proofs.«01_k».proof.Proof.Gen.OutBwdRefIdeal.Read
public import proofs.«01_k».proof.Proof.OutBwdSpec
public import Idealize.ShloMosaic.Lib.TwoAxisContraction

/-! # What the reference of the output projection's gradient computes, stage by stage -/

@[expose] public section

set_option maxRecDepth 16384

noncomputable section

namespace Cert.OutBwdRefIdeal.Pair

open Cert.OutBwdRefIdeal Cert.OutBwdRefIdeal.Gen Idealize.ShloMosaic Idealize.ShloMosaic.TcCoe Idealize.SL.Sem
open Cert.OutBwdRefIdeal.Read Cert.Lift Cert.Rms Cert.OutBwdSpec

variable (x0 : S4096x2048.Idx → EReal) (x1 : S2048x1024.Idx → EReal) (x2 : S1024.Idx → EReal) (x3 : S1x4096x1024.Idx → EReal)
variable (y : S4096x2048.Idx → ℝ) (w : S2048x1024.Idx → ℝ) (g : S1024.Idx → ℝ) (n : S1x4096x1024.Idx → ℝ)

variable (hy : ∀ i, x0 i = (y i : EReal)) (hw : ∀ i, x1 i = (w i : EReal)) (hg : ∀ i, x2 i = (g i : EReal))
  (hn : ∀ i, x3 i = (n i : EReal))

local notation "D40" => dot_S1x4096x1024_S1x4096x2048_S1024x2048_01_01_2_2_n_n

/-- The product over the batch and the rows, as a sum over the rows. -/
theorem dot_at (a : S1x4096x1024.Idx → EReal) (b : S1x4096x2048.Idx → EReal) (k : Fin 1024) (e : Fin 2048) :
    Host.dotGeneral (F := Ideal) (φ₁ := .f32) (φ₂ := .f32) D40 none a b (ix2 k e) = ∑ r : Fin 4096, a (ix3 0 r k) * b (ix3 0 r e) := by
  simp only [Host.dotGeneral]
  rw [Ideal.dotGeneral_apply, ValueIdx.sum_contr2 D40 1 4096 rfl rfl rfl, Fin.sum_univ_one]
  refine Finset.sum_congr rfl fun r _ => ?_
  have h0 := ValueIdx.contrEquiv2_symm_val0 D40 1 4096 rfl rfl rfl (0, r)
  have h1 := ValueIdx.contrEquiv2_symm_val1 D40 1 4096 rfl rfl rfl (0, r)
  generalize (ValueIdx.contrEquiv2 D40 1 4096 rfl rfl rfl).symm (0, r) = q at h0 h1 ⊢
  refine congrArg₂ _ (congrArg a (funext fun x => Fin.ext ?_)) (congrArg b (funext fun x => Fin.ext ?_))
  · match x with
    | ⟨0, _⟩ => exact h0
    | ⟨1, _⟩ => exact h1
    | ⟨2, _⟩ => rfl
  · match x with
    | ⟨0, _⟩ => exact h0
    | ⟨1, _⟩ => exact h1
    | ⟨2, _⟩ => rfl

include hy hw

/-- A row of the projection. -/
theorem v2_at (r : Fin 4096) (k : Fin 1024) : val_main_v2 (F := Ideal) x0 x1 (ix3 0 r k) = ((orow y w r k : ℝ) : EReal) := by
  pointwise [val_main_v2, val_main_v1, val_main_v0]
  simp only [hy, hw, ← EReal.coe_mul, coe_sum, orow]

/-- The mean of a row's squares, and ε. -/
theorem v9_at (r : Fin 4096) : val_main_v9 (F := Ideal) x0 x1 (ix3 0 r 0) = ((ms (orow y w r) : ℝ) : EReal) := by
  pointwise [val_main_v9, val_main_v8, val_main_v7, val_main_v6, val_main_v5, val_main_v4, val_main_v3, val_main_cst, val_main_cst_0, val_main_cst_1]
  simp only [v2_at x0 x1 y w hy hw]
  exact ms_coe (orow y w r)

/-- The norm's factor of a row. -/
theorem v10_at (r : Fin 4096) : val_main_v10 (F := Ideal) x0 x1 (ix3 0 r 0) = ((inv (orow y w r) : ℝ) : EReal) := by
  pointwise [val_main_v10]
  rw [v9_at x0 x1 y w hy hw, rsqrt_pos _ (ms_pos _), Rms.inv]

include hg hn

/-- The cotangent of the projection's result. -/
theorem v39_at (r : Fin 4096) (k : Fin 1024) : val_main_v39 (F := Ideal) x0 x1 x2 x3 (ix3 0 r k) = ((dout y w g n r k : ℝ) : EReal) := by
  pointwise [val_main_v39, val_main_v38, val_main_v37, val_main_v36, val_main_v35, val_main_v34, val_main_v33, hostReduceAdd_unit_a02,
    val_main_v32, val_main_v31, val_main_v30, val_main_v29, val_main_v28, val_main_v27, val_main_v26, val_main_v25, val_main_v23, val_main_v22,
    val_main_v16, val_main_v13, val_main_v12, val_main_v11, val_main_cst_2, val_main_cst_5, val_main_cst_6, val_main_cst_7]
  simp only [v2_at x0 x1 y w hy hw, v9_at x0 x1 y w hy hw, v10_at x0 x1 y w hy hw, hg, hn]
  have h := chain_coe (orow y w r) (urow g n r)
  simp only [urow, EReal.coe_mul (n _) (g _)] at h
  rw [h, dout, ← grad_eq, add_assoc]
  simp only [urow, EReal.coe_add, EReal.coe_mul]

/-- The gradient with respect to the branch. -/
theorem v44_at (r : Fin 4096) (e : Fin 2048) : val_main_v44 (F := Ideal) x0 x1 x2 x3 (ix2 r e) = dy y w g n (ix2 r e) := by
  pointwise [val_main_v44, val_main_v43, val_main_v42]
  simp only [v39_at x0 x1 x2 x3 y w g n hy hw hg hn, hw, ← EReal.coe_mul, coe_sum, dy_at]

/-- The gradient with respect to the projection. -/
theorem v46_at (s : Fin 8) (a : Fin 256) (k : Fin 1024) : val_main_v46 (F := Ideal) x0 x1 x2 x3 (ix3 s a k) = dw y w g n (ix3 s a k) := by
  pointwise [val_main_v46, val_main_v45, val_main_v41]
  unfold val_main_v40
  rw [dot_at]
  pointwise [val_main_v1, val_main_v0]
  simp only [v39_at x0 x1 x2 x3 y w g n hy hw hg hn, hy, ← EReal.coe_mul, coe_sum]
  exact congrArg _ (Finset.sum_congr rfl fun r _ => mul_comm _ _)

omit hg in
/-- The gradient of the norm's weight. -/
theorem v47_at (a : Fin 1) (k : Fin 1024) : val_main_v47 (F := Ideal) x0 x1 x3 (ix2 a k) = dg y w n (ix2 a k) := by
  pointwise [val_main_v47, val_main_v24, hostReduceAdd_unit_a01, val_main_v21, val_main_v20, val_main_v19, val_main_v15,
    val_main_v14, val_main_cst_3, val_main_cst_4]
  simp only [v2_at x0 x1 y w hy hw, v10_at x0 x1 y w hy hw, hn, ← EReal.coe_mul, coe_sum]
  exact congrArg _ (Finset.sum_congr rfl fun r _ => mul_comm _ _)

end Cert.OutBwdRefIdeal.Pair

end
-- ==== Proof.OutBwdClaim.lean ====
module

public import proofs.«01_k».proof.Defs
public import proofs.«01_k».proof.Proof.OutBwdAcc
public import proofs.«01_k».proof.Proof.OutBwdRef
public import proofs.«01_k».proof.Proof.Gen.Pre_finite5
public import Idealize.ShloMosaic.Lib.Quiescent

/-! # The gradient through an output projection: the kernel and the reference agree over the reals -/

@[expose] public section

noncomputable section

namespace Cert.OutBwdClaim

open Idealize.ShloMosaic Idealize.ShloMosaic.TcCoe Idealize.SL.Sem Cert.Lift Cert.OutBwdSpec

/-- Finite arguments are reals. -/
theorem reals [Cert.Pre_finite5.Facts] (m) (h : Cert.Pre_OutBwdIdeal_finite5 m) (c : Dev Cert.OutBwdIdeal.nD) :
    (∃ x : _ → ℝ, ∀ i, OutBwdIdeal.Pair.argY m c i = (x i : EReal)) ∧ (∃ x : _ → ℝ, ∀ i, OutBwdIdeal.Pair.argW m c i = (x i : EReal))
    ∧ (∃ x : _ → ℝ, ∀ i, OutBwdIdeal.Pair.argG m c i = (x i : EReal)) ∧ (∃ x : _ → ℝ, ∀ i, OutBwdIdeal.Pair.argN m c i = (x i : EReal)) := by
  obtain ⟨h0, h1, h2, h3⟩ := h c
  exact ⟨exists_real _ fun i => ofBits_inf ▸ congrFun h0 i, exists_real _ fun i => ofBits_inf ▸ congrFun h1 i,
    exists_real _ fun i => ofBits_inf ▸ congrFun h2 i, exists_real _ fun i => ofBits_inf ▸ congrFun h3 i⟩

/-- The reference runs and leaves its arguments as they were; it has no semaphore. -/
theorem frame_ref : Cert.quiescent_OutBwdRefIdeal := fun m ρ _ =>
  (θ_run Cert.OutBwdRefIdeal.defs _ _).mono (fun r h => ⟨fun c => (h c).2.2.2, sem_eq_zero_of_no_sems (by decide) r.2⟩)
    (Cert.OutBwdRefIdeal.Value.run (F := Ideal) m ρ)

/-- Both programs leave the same three gradients. -/
theorem algebraic : Cert.algebraic_OutBwdIdeal_OutBwdRefIdeal_pre_finite5 := by
  intro m ρ m' ρ' hpre hagree
  refine ⟨_, _, _, Cert.OutBwdIdeal.Value.run_blocks m ρ, (θ_run _ _ _).mono (fun r h c => ?_) (Cert.OutBwdRefIdeal.Value.run m' ρ')⟩
  obtain ⟨⟨y, hy⟩, ⟨w, hw⟩, ⟨g, hg⟩, ⟨n, hn⟩⟩ := reals m hpre c
  obtain ⟨e0, e1, e2, e3⟩ := hagree c
  obtain ⟨r0, r1, r2, ra⟩ := h c
  refine ⟨r0.trans ?_, r1.trans ?_, r2.trans ?_, ra⟩
  · rw [OutBwdRefIdeal.Read.val_main_v44_eq, OutBwdIdeal.Pair.arr5 m c y w g n hy hw hg hn]
    funext i
    idx_vars i
    rw [e0, e1, e2, e3]
    exact OutBwdRefIdeal.Pair.v44_at _ _ _ _ y w g n hy hw hg hn i0 i1
  · rw [OutBwdRefIdeal.Read.val_main_v46_eq, OutBwdIdeal.Pair.arr6 m c y w g n hy hw hg hn]
    funext i
    idx_vars i
    rw [e0, e1, e2, e3]
    exact OutBwdRefIdeal.Pair.v46_at _ _ _ _ y w g n hy hw hg hn i0 i1 i2
  · rw [OutBwdRefIdeal.Read.val_main_v47_eq, OutBwdIdeal.Pair.arr7 m c y w g n hy hw hg hn]
    funext i
    idx_vars i
    rw [e0, e1, e3]
    exact OutBwdRefIdeal.Pair.v47_at _ _ _ y w n hy hw hn i0 i1

end Cert.OutBwdClaim

end
-- ==== Proof.AMixFwdSpec.lean ====
module
public import proofs.«01_k».proof.Proof.AMixScalar

/-! # The chunked spatial gating mixer's forward pass

The projection is real; the norm's scale and shift, the mixing matrices and the biases may be infinite, so the mixed row
and the output are over the extended reals. -/

@[expose] public section
noncomputable section
namespace Cert.AMixSpec
open Idealize.ShloMosaic Cert.Lift

variable (P : (⟨2, ![4096, 6144]⟩ : Shape).Idx → ℝ) (LG LB : (⟨1, ![2048]⟩ : Shape).Idx → EReal)
variable (W : (⟨3, ![8, 128, 128]⟩ : Shape).Idx → EReal) (BS : (⟨2, ![8, 128]⟩ : Shape).Idx → EReal)

/-- The group of a column. -/
def grp (e : Fin 2048) : Fin 8 := ⟨e.val / 256, by omega⟩
/-- The place of a row in its chunk. -/
def plc (t : ℕ) : Fin 128 := ⟨t % 128, Nat.mod_lt _ (by decide)⟩

/-- The normed row, scaled and shifted. -/
def vE (t : ℕ) (e : Fin 2048) : EReal := ((xh P t e.val : ℝ) : EReal) * LG (ix1 e) + LB (ix1 e)
/-- The mixed row. -/
def mixE (t : ℕ) (e : Fin 2048) : EReal :=
  (∑ q : Fin 128, if q.val / 64 ≤ (plc t).val / 64 then W (ix3 (grp e) (plc t) q) * vE P LG LB (t / 128 * 128 + q.val) e else 0)
    + BS (ix2 (grp e) (plc t))
/-- The two gates of a row. -/
def gate (t e : ℕ) : ℝ := ge (wide P t e) * si (wide P t (4096 + e))

def outY : (⟨2, ![4096, 2048]⟩ : Shape).Idx → EReal := fun i => ((gate P (i 0).val (i 1).val : ℝ) : EReal) * mixE P LG LB W BS (i 0).val (i 1)
def outX : (⟨2, ![4096, 2048]⟩ : Shape).Idx → EReal := fun i => ((xh P (i 0).val (i 1).val : ℝ) : EReal)
def outD : (⟨2, ![4096, 2048]⟩ : Shape).Idx → EReal := fun i => ((ge' (wide P (i 0).val (2048 + (i 1).val)) : ℝ) : EReal)
def outR : (⟨2, ![4096, 1]⟩ : Shape).Idx → EReal := fun i => ((inv (vg P (i 0).val) : ℝ) : EReal)

/-- The hyperbolic tangent in the GELU, the cubic term's constant named. -/
theorem th_named (x : ℝ) : Ideal.tanh (Ideal.ofBits .f32 0x3F4C422A#32 * ((x : EReal) + ((ca : ℝ) : EReal) * ((x : EReal) * x * x)))
    = ((th x : ℝ) : EReal) := by
  simp only [ofBits_cc, ← EReal.coe_mul, ← EReal.coe_add, Ideal.tanh_coe, th]

/-- The GELU's derivative, its constants named. -/
theorem ge'_named (x : ℝ) : Ideal.ofBits .f32 0x3F000000#32 * (1 + ((th x : ℝ) : EReal)) + Ideal.ofBits .f32 0x3F000000#32 * (x : EReal)
    * (1 - ((th x : ℝ) : EReal) * ((th x : ℝ) : EReal)) * (Ideal.ofBits .f32 0x3F4C422A#32 * (1
      + ((3 * ca : ℝ) : EReal) * ((x : EReal) * x))) = ((ge' x : ℝ) : EReal) := by
  simp only [ofBits_half, ofBits_cc, ← EReal.coe_one, ← EReal.coe_mul, ← EReal.coe_add, ← EReal.coe_sub]
  rfl

/-- The logistic function by the hyperbolic tangent. -/
theorem si_coe (x : ℝ) : (x : EReal) * (Ideal.ofBits .f32 0x3F000000#32 * Ideal.tanh (Ideal.ofBits .f32 0x3F000000#32 * (x : EReal))
    + Ideal.ofBits .f32 0x3F000000#32) = ((si x : ℝ) : EReal) := by
  simp only [ofBits_half, ← EReal.coe_mul, ← EReal.coe_add, Ideal.tanh_coe, sg_eq, si]

end Cert.AMixSpec

end
-- ==== Proof.AMixFwdLoop.lean ====
module
public import proofs.«01_k».proof.Proof.AMixLoop1
public import proofs.«01_k».proof.Proof.AMixFwdSpec
public import proofs.«01_k».proof.Proof.Gen.AMixFwdIdeal.Loops

/-! # The spatial gating mixer: what its two loops leave

Both loops go over the grid point's 512 rows, 16 at a time. The first norms the rows of `v` and stores the normed rows,
their GELU's derivative, the reciprocal deviations and the scaled and shifted rows; the second stores the two gates. -/

@[expose] public section
set_option maxRecDepth 16384
noncomputable section
namespace Cert.AMixFwdIdeal.Pair
open Cert.AMixFwdIdeal Cert.AMixFwdIdeal.Gen Idealize.ShloMosaic Idealize.ShloMosaic.TcCoe Idealize.SL.Sem
open Cert.Lift Cert.AMixSpec
open Cert.AMixIdeal.Pair (Filled Filled.step Filled.canon piecesOf_append ofBits_one)

theorem trips1 : k0_t1_loop.trips = 32 := by decide +kernel
theorem trips2 : k0_t2_loop.trips = 32 := by decide +kernel
theorem off1 : ∀ k : Fin k0_t1_loop.trips, k0_off1 k = ![16 * k.val, 2048] := by decide +kernel
theorem off2 : ∀ k : Fin k0_t1_loop.trips, k0_off2 k = ![16 * k.val, 0] := by decide +kernel
theorem off3 : ∀ k : Fin k0_t1_loop.trips, k0_off3 k = ![16 * k.val, 0] := by decide +kernel
theorem off4 : ∀ k : Fin k0_t2_loop.trips, k0_off4 k = ![16 * k.val, 4096] := by decide +kernel
theorem off6 : ∀ k : Fin k0_t2_loop.trips, k0_off6 k = ![16 * k.val, 0] := by decide +kernel
theorem off5 : ∀ k : Fin k0_t2_loop.trips, k0_off5 k = ![16 * k.val, 0] := by decide +kernel

theorem named_a : Named.named (F := Ideal) Cert.AMixFwdIdeal.κ "gelu_a" (φ := .f32) 0x3D372713#32 = ((ca : ℝ) : EReal) := by
  rw [IdealRules.named_const.ideal_named_scalar _ _ _ _ rfl]; norm_num [ca]
theorem named_3a : Named.named (F := Ideal) Cert.AMixFwdIdeal.κ "gelu_3a" (φ := .f32) 0x3E095D4F#32 = ((3 * ca : ℝ) : EReal) := by
  rw [IdealRules.named_const.ideal_named_scalar _ _ _ _ rfl]; norm_num [ca]

variable (P : S4096x6144.Idx → ℝ) (LG LB : S2048.Idx → EReal) (r0 : ℕ)

/-- What the blocks that the loops read hold; `r0` is the grid point's first row. -/
structure InF (B0 : S512x6144.Idx → EReal) (B1 B2 : S1x1x2048.Idx → EReal) : Prop where
  b0 : ∀ a e, B0 (ix2 a e) = ((wide P (r0 + a.val) e.val : ℝ) : EReal)
  b1 : ∀ e, B1 (ix3 0 0 e) = LG (ix1 e)
  b2 : ∀ e, B2 (ix3 0 0 e) = LB (ix1 e)

/-- What the loops leave. -/
def gX (i : S512x2048.Idx) : EReal := (xh P (r0 + (i 0).val) (i 1).val : ℝ)
def gD (i : S512x2048.Idx) : EReal := (ge' (wide P (r0 + (i 0).val) (2048 + (i 1).val)) : ℝ)
def gR (i : S512x1.Idx) : EReal := (inv (vg P (r0 + (i 0).val)) : ℝ)
def gV (i : S512x2048.Idx) : EReal := vE P LG LB (r0 + (i 0).val) (i 1)
def gU (i : S512x2048.Idx) : EReal := (gate P (r0 + (i 0).val) (i 1).val : ℝ)

/-- Row `x` of trip `k`. -/
def row16 (k : ℕ) (hk : k < 32) (x : Fin 16) : Fin 512 := ⟨16 * k + x.val, by omega⟩
theorem k1 (k : Fin k0_t1_loop.trips) : k.val < 32 := lt_of_lt_of_eq k.isLt trips1
theorem k2 (k : Fin k0_t2_loop.trips) : k.val < 32 := lt_of_lt_of_eq k.isLt trips2

theorem emb {r cs n a b : ℕ} (hi : ∀ x, (![a, b] : Fin 2 → ℕ) x + (![16, n] : Fin 2 → ℕ) x ≤ (⟨2, ![r, cs]⟩ : Shape).size x) (x : Fin 16) (y : Fin n) (h1 h2) :
    (Rect.unit (s := ⟨2, ![r, cs]⟩) ![a, b] ![16, n] hi).emb (ix2 x y) = ix2 ⟨a + x.val, h1⟩ ⟨b + y.val, h2⟩ := by
  refine Shape.idx_ext₂ ?_ ?_ <;> simp [Rect.emb, Rect.unit]

theorem emb2 (k : Fin k0_t1_loop.trips) (h : ∀ a, (k0_off2 k) a + (![16, 2048] : Fin 2 → ℕ) a ≤ S512x2048.size a) (x : Fin 16) (y : Fin 2048) :
    (Rect.unit (s := S512x2048) (k0_off2 k) ![16, 2048] h).emb (ix2 x y) = ix2 (row16 k (k1 k) x) y := by
  refine Shape.idx_ext₂ ?_ ?_ <;> simp [Rect.emb, Rect.unit, off2, row16]
theorem emb3 (k : Fin k0_t1_loop.trips) (h : ∀ a, (k0_off3 k) a + (![16, 1] : Fin 2 → ℕ) a ≤ S512x1.size a) (x : Fin 16) (y : Fin 1) :
    (Rect.unit (s := S512x1) (k0_off3 k) ![16, 1] h).emb (ix2 x y) = ix2 (row16 k (k1 k) x) y := by
  refine Shape.idx_ext₂ ?_ ?_ <;> simp [Rect.emb, Rect.unit, off3, row16]
theorem emb6 (k : Fin k0_t2_loop.trips) (h : ∀ a, (k0_off6 k) a + (![16, 2048] : Fin 2 → ℕ) a ≤ S512x2048.size a) (x : Fin 16) (y : Fin 2048) :
    (Rect.unit (s := S512x2048) (k0_off6 k) ![16, 2048] h).emb (ix2 x y) = ix2 (row16 k (k2 k) x) y := by
  refine Shape.idx_ext₂ ?_ ?_ <;> simp [Rect.emb, Rect.unit, off6, row16]

section Reads
variable (m : Memref sig .tc .vmem S512x6144 .bf16) (hm : m.IsWhole) (B : S512x6144.Idx → Elt Ideal .bf16) (x : Fin 16) (y : Fin 2048)
theorem read1 (k : Fin k0_t1_loop.trips) (h : ∀ a, (k0_off1 k) a + (![16, 2048] : Fin 2 → ℕ) a ≤ S512x6144.size a) :
    View.readAt (Elt Ideal) m.view (Rect.unit (s := S512x6144) (k0_off1 k) ![16, 2048] h).toLoadRect (hm.unread B) (ix2 x y) = B (ix2 (row16 k (k1 k) x) ⟨2048 + y.val, by omega⟩) := by
  refine (hm.readAt_unread B _ _).trans (congrArg B (Shape.idx_ext₂ ?_ ?_)) <;> simp [Rect.toLoadRect, LoadRect.idx, Rect.unit, off1, row16]
theorem read4 (k : Fin k0_t2_loop.trips) (h : ∀ a, (k0_off4 k) a + (![16, 2048] : Fin 2 → ℕ) a ≤ S512x6144.size a) :
    View.readAt (Elt Ideal) m.view (Rect.unit (s := S512x6144) (k0_off4 k) ![16, 2048] h).toLoadRect (hm.unread B) (ix2 x y) = B (ix2 (row16 k (k2 k) x) ⟨4096 + y.val, by omega⟩) := by
  refine (hm.readAt_unread B _ _).trans (congrArg B (Shape.idx_ext₂ ?_ ?_)) <;> simp [Rect.toLoadRect, LoadRect.idx, Rect.unit, off4, row16]
theorem read5 (k : Fin k0_t2_loop.trips) (h : ∀ a, (k0_off5 k) a + (![16, 2048] : Fin 2 → ℕ) a ≤ S512x6144.size a) :
    View.readAt (Elt Ideal) m.view (Rect.unit (s := S512x6144) (k0_off5 k) ![16, 2048] h).toLoadRect (hm.unread B) (ix2 x y) = B (ix2 (row16 k (k2 k) x) ⟨y.val, by omega⟩) := by
  refine (hm.readAt_unread B _ _).trans (congrArg B (Shape.idx_ext₂ ?_ ?_)) <;> simp [Rect.toLoadRect, LoadRect.idx, Rect.unit, off5, row16]
end Reads

theorem read3 {e : EltTy} (y : Fin 2048) (m : Memref sig .tc .vmem S1x1x2048 e) (hm : m.IsWhole) (B : S1x1x2048.Idx → Elt Ideal e) :
    View.readAt (Elt Ideal) m.view (Rect.unit (s := S1x1x2048) ![0, 0, 0] ![1, 1, 2048] inb_S1x1x2048_S1x1x2048_0_0_0).toLoadRect (hm.unread B) (ix3 0 0 y)
      = B (ix3 0 0 y) := by
  refine (hm.readAt_unread B _ _).trans (congrArg B (funext fun a => Fin.ext ?_))
  match a with
  | ⟨0, _⟩ => simp [Rect.unit, Rect.toLoadRect, LoadRect.idx]
  | ⟨1, _⟩ => simp [Rect.unit, Rect.toLoadRect, LoadRect.idx]
  | ⟨2, _⟩ => simp [Rect.unit, Rect.toLoadRect, LoadRect.idx]

set_option maxHeartbeats 1000000 in
theorem trip1 {B0 B1 B2} (h : InF P LG LB r0 B0 B1 B2)
    (𝒱 : Variants) (c : Dev nD) (bd : Option 𝒱.V) (i : grid0.Coords) (arg1 : Memref sig .tc .vmem S512x6144 .bf16) (harg1 : arg1.IsWhole) (arg2 : Memref sig .tc .vmem S1x1x2048 .f32) (harg2 : arg2.IsWhole) (arg3 : Memref sig .tc .vmem S1x1x2048 .f32) (harg3 : arg3.IsWhole) (arg4 : Memref sig .tc .vmem S1x8x128x128 .f32) (harg4 : arg4.IsWhole) (arg5 : Memref sig .tc .vmem S1x8x128x1 .f32) (harg5 : arg5.IsWhole) (arg6 : Memref sig .tc .vmem S512x2048 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x1 .f32) (harg9 : arg9.IsWhole) (arg10 : Memref sig .tc .vmem S512x2048 .bf16) (harg10 : arg10.IsWhole) (arg11 : Memref sig .tc .vmem S512x2048 .f32) (harg11 : arg11.IsWhole) (k : Fin k0_t1_loop.trips) (T) (hT : tripL_k0_t1 (F := Ideal) 𝒱 c bd i arg1 harg1 arg2 harg2 arg3 harg3 arg4 harg4 arg5 harg5 arg6 harg6 arg7 harg7 arg8 harg8 arg9 harg9 arg10 harg10 arg11 harg11 (harg1.unread B0) (harg2.unread B1) (harg3.unread B2) k = T) :
    View.PiecesOf (Val := Elt Ideal) (gX P r0) T.1 ∧ View.PiecesOf (Val := Elt Ideal) (gD P r0) T.2.1
      ∧ View.PiecesOf (Val := Elt Ideal) (gR P r0) T.2.2.1 ∧ View.PiecesOf (Val := Elt Ideal) (gV P LG LB r0) T.2.2.2 := by
  subst hT
  unfold tripL_k0_t1 trip_k0_t1
  dsimp only
  refine ⟨⟨fun x => ?_, trivial⟩, ⟨fun x => ?_, trivial⟩, ⟨fun x => ?_, trivial⟩, ⟨fun x => ?_, trivial⟩⟩
  all_goals
    idx_vars x
    unfold_payloads
  all_goals
    try simp only [trip_k0_t1.sl.r, trip_k0_t1.sl.r_1]
    try unfold_payloads
    pointwise []
    simp only [read1, read3, emb2, emb3, h.b0, h.b1, h.b2]
    simp only [named_a, named_3a, th_named, ge_coe, mean_coe, AMixSpec.inv_coe]
  · simp only [← EReal.coe_mul, ← EReal.coe_sub]
    rfl
  · rw [ge'_named]
    rfl
  · rfl
  · simp only [← EReal.coe_mul, ← EReal.coe_sub]
    rfl

set_option maxHeartbeats 1000000 in
theorem trip2 {B0 B1 B2} (h : InF P LG LB r0 B0 B1 B2)
    (𝒱 : Variants) (c : Dev nD) (bd : Option 𝒱.V) (i : grid0.Coords) (arg1 : Memref sig .tc .vmem S512x6144 .bf16) (harg1 : arg1.IsWhole) (arg2 : Memref sig .tc .vmem S1x1x2048 .f32) (harg2 : arg2.IsWhole) (arg3 : Memref sig .tc .vmem S1x1x2048 .f32) (harg3 : arg3.IsWhole) (arg4 : Memref sig .tc .vmem S1x8x128x128 .f32) (harg4 : arg4.IsWhole) (arg5 : Memref sig .tc .vmem S1x8x128x1 .f32) (harg5 : arg5.IsWhole) (arg6 : Memref sig .tc .vmem S512x2048 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x1 .f32) (harg9 : arg9.IsWhole) (arg10 : Memref sig .tc .vmem S512x2048 .bf16) (harg10 : arg10.IsWhole) (arg11 : Memref sig .tc .vmem S512x2048 .f32) (harg11 : arg11.IsWhole) (k : Fin k0_t2_loop.trips) (T) (hT : tripL_k0_t2 (F := Ideal) 𝒱 c bd i arg1 harg1 arg2 harg2 arg3 harg3 arg4 harg4 arg5 harg5 arg6 harg6 arg7 harg7 arg8 harg8 arg9 harg9 arg10 harg10 arg11 harg11 (harg1.unread B0) k = T) :
    View.PiecesOf (Val := Elt Ideal) (gU P r0) T := by
  subst hT
  unfold tripL_k0_t2 trip_k0_t2
  dsimp only
  refine ⟨fun x => ?_, trivial⟩
  idx_vars x
  unfold_payloads
  pointwise []
  simp only [read4, read5, emb6, h.b0]
  simp only [named_a, th_named, ge_coe, si_coe]
  simp only [← EReal.coe_mul]
  rfl

/-- The row of an index of a block of 512 rows. -/
abbrev rows {n : ℕ} (y : (⟨2, ![512, n]⟩ : Shape).Idx) : ℕ := (y 0).val

theorem mem16 {n a : ℕ} {hi : ∀ x, (![a, 0] : Fin 2 → ℕ) x + (![16, n] : Fin 2 → ℕ) x ≤ (⟨2, ![512, n]⟩ : Shape).size x} (y : (⟨2, ![512, n]⟩ : Shape).Idx)
    (h1 : a ≤ rows y) (h2 : rows y < a + 16) : y ∈ (Rect.unit (s := ⟨2, ![512, n]⟩) ![a, 0] ![16, n] hi).set := by
  rw [Rect.mem_set_unit]
  intro x
  match x with
  | ⟨0, _⟩ => exact ⟨h1, h2⟩
  | ⟨1, _⟩ => exact ⟨Nat.zero_le _, by show (y 1).val < 0 + n; have : (y 1).val < n := (y 1).isLt; omega⟩

theorem mem2 (k : Fin k0_t1_loop.trips) (h : ∀ a, (k0_off2 k) a + (![16, 2048] : Fin 2 → ℕ) a ≤ S512x2048.size a) (y : S512x2048.Idx)
    (h1 : 16 * k.val ≤ rows y) (h2 : rows y < 16 * (k.val + 1)) : y ∈ (Rect.unit (s := S512x2048) (k0_off2 k) ![16, 2048] h).set := by
  revert h; rw [off2]; exact fun h => mem16 y h1 (by omega)
theorem mem3 (k : Fin k0_t1_loop.trips) (h : ∀ a, (k0_off3 k) a + (![16, 1] : Fin 2 → ℕ) a ≤ S512x1.size a) (y : S512x1.Idx)
    (h1 : 16 * k.val ≤ rows y) (h2 : rows y < 16 * (k.val + 1)) : y ∈ (Rect.unit (s := S512x1) (k0_off3 k) ![16, 1] h).set := by
  revert h; rw [off3]; exact fun h => mem16 y h1 (by omega)
theorem mem6 (k : Fin k0_t2_loop.trips) (h : ∀ a, (k0_off6 k) a + (![16, 2048] : Fin 2 → ℕ) a ≤ S512x2048.size a) (y : S512x2048.Idx)
    (h1 : 16 * k.val ≤ rows y) (h2 : rows y < 16 * (k.val + 1)) : y ∈ (Rect.unit (s := S512x2048) (k0_off6 k) ![16, 2048] h).set := by
  revert h; rw [off6]; exact fun h => mem16 y h1 (by omega)

theorem inb2 (k : Fin k0_t1_loop.trips) : ∀ a, (k0_off2 k) a + (![16, 2048] : Fin 2 → ℕ) a ≤ S512x2048.size a := by rw [off2]; have := k1 k; intro a; fin_cases a <;> simp <;> omega
theorem inb3 (k : Fin k0_t1_loop.trips) : ∀ a, (k0_off3 k) a + (![16, 1] : Fin 2 → ℕ) a ≤ S512x1.size a := by rw [off3]; have := k1 k; intro a; fin_cases a <;> simp <;> omega
theorem inb6 (k : Fin k0_t2_loop.trips) : ∀ a, (k0_off6 k) a + (![16, 2048] : Fin 2 → ℕ) a ≤ S512x2048.size a := by rw [off6]; have := k2 k; intro a; fin_cases a <;> simp <;> omega

theorem filled_nil {s : Shape} {e : EltTy} {G : s.Idx → Elt Ideal e} {f : s.Idx → ℕ} : Filled G f (16 * 0) [] := ⟨trivial, fun y hy => absurd hy (by simp)⟩

set_option maxHeartbeats 1000000 in
theorem loop1 {B0 B1 B2} (h : InF P LG LB r0 B0 B1 B2)
    (𝒱 : Variants) (c : Dev nD) (bd : Option 𝒱.V) (i : grid0.Coords) (arg1 : Memref sig .tc .vmem S512x6144 .bf16) (harg1 : arg1.IsWhole) (arg2 : Memref sig .tc .vmem S1x1x2048 .f32) (harg2 : arg2.IsWhole) (arg3 : Memref sig .tc .vmem S1x1x2048 .f32) (harg3 : arg3.IsWhole) (arg4 : Memref sig .tc .vmem S1x8x128x128 .f32) (harg4 : arg4.IsWhole) (arg5 : Memref sig .tc .vmem S1x8x128x1 .f32) (harg5 : arg5.IsWhole) (arg6 : Memref sig .tc .vmem S512x2048 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x1 .f32) (harg9 : arg9.IsWhole) (arg10 : Memref sig .tc .vmem S512x2048 .bf16) (harg10 : arg10.IsWhole) (arg11 : Memref sig .tc .vmem S512x2048 .f32) (harg11 : arg11.IsWhole) : ∀ (n : ℕ) (hn : n ≤ 32) (L) (hL : pb_k0_t1 (F := Ideal) 𝒱 c bd i arg1 harg1 arg2 harg2 arg3 harg3 arg4 harg4 arg5 harg5 arg6 harg6 arg7 harg7 arg8 harg8 arg9 harg9 arg10 harg10 arg11 harg11 (harg1.unread B0) (harg2.unread B1) (harg3.unread B2) n = L),
    Filled (gX P r0) rows (16 * n) L.1 ∧ Filled (gD P r0) rows (16 * n) L.2.1
      ∧ Filled (gR P r0) rows (16 * n) L.2.2.1 ∧ Filled (gV P LG LB r0) rows (16 * n) L.2.2.2 := by
  intro n
  induction n with
  | zero => rintro - L rfl; exact ⟨filled_nil, filled_nil, filled_nil, filled_nil⟩
  | succ n ih =>
    rintro hn L rfl
    have hk : n < k0_t1_loop.trips := by rw [trips1]; omega
    have e := pb_k0_t1_succ (F := Ideal) 𝒱 c bd i arg1 harg1 arg2 harg2 arg3 harg3 arg4 harg4 arg5 harg5 arg6 harg6 arg7 harg7 arg8 harg8 arg9 harg9 arg10 harg10 arg11 harg11 (harg1.unread B0) (harg2.unread B1) (harg3.unread B2) ⟨n, hk⟩
    obtain ⟨i1, i2, i3, i4⟩ := ih (by omega) _ rfl
    obtain ⟨t1, t2, t3, t4⟩ := trip1 P LG LB r0 h 𝒱 c bd i arg1 harg1 arg2 harg2 arg3 harg3 arg4 harg4 arg5 harg5 arg6 harg6 arg7 harg7 arg8 harg8 arg9 harg9 arg10 harg10 arg11 harg11 ⟨n, hk⟩ _ rfl
    rw [e]
    refine ⟨i1.step t1 ?_, i2.step t2 ?_, i3.step t3 ?_, i4.step t4 ?_⟩
    · intro y h1 h2
      unfold tripL_k0_t1 trip_k0_t1
      exact ⟨_, List.mem_singleton.mpr rfl, mem2 ⟨n, hk⟩ (inb2 _) y h1 h2⟩
    · intro y h1 h2
      unfold tripL_k0_t1 trip_k0_t1
      exact ⟨_, List.mem_singleton.mpr rfl, mem2 ⟨n, hk⟩ (inb2 _) y h1 h2⟩
    · intro y h1 h2
      unfold tripL_k0_t1 trip_k0_t1
      exact ⟨_, List.mem_singleton.mpr rfl, mem3 ⟨n, hk⟩ (inb3 _) y h1 h2⟩
    · intro y h1 h2
      unfold tripL_k0_t1 trip_k0_t1
      exact ⟨_, List.mem_singleton.mpr rfl, mem2 ⟨n, hk⟩ (inb2 _) y h1 h2⟩

set_option maxHeartbeats 1000000 in
theorem loop2 {B0 B1 B2} (h : InF P LG LB r0 B0 B1 B2)
    (𝒱 : Variants) (c : Dev nD) (bd : Option 𝒱.V) (i : grid0.Coords) (arg1 : Memref sig .tc .vmem S512x6144 .bf16) (harg1 : arg1.IsWhole) (arg2 : Memref sig .tc .vmem S1x1x2048 .f32) (harg2 : arg2.IsWhole) (arg3 : Memref sig .tc .vmem S1x1x2048 .f32) (harg3 : arg3.IsWhole) (arg4 : Memref sig .tc .vmem S1x8x128x128 .f32) (harg4 : arg4.IsWhole) (arg5 : Memref sig .tc .vmem S1x8x128x1 .f32) (harg5 : arg5.IsWhole) (arg6 : Memref sig .tc .vmem S512x2048 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x1 .f32) (harg9 : arg9.IsWhole) (arg10 : Memref sig .tc .vmem S512x2048 .bf16) (harg10 : arg10.IsWhole) (arg11 : Memref sig .tc .vmem S512x2048 .f32) (harg11 : arg11.IsWhole) : ∀ (n : ℕ) (hn : n ≤ 32) (L) (hL : pb_k0_t2 (F := Ideal) 𝒱 c bd i arg1 harg1 arg2 harg2 arg3 harg3 arg4 harg4 arg5 harg5 arg6 harg6 arg7 harg7 arg8 harg8 arg9 harg9 arg10 harg10 arg11 harg11 (harg1.unread B0) n = L),
    Filled (gU P r0) rows (16 * n) L := by
  intro n
  induction n with
  | zero => rintro - L rfl; exact filled_nil
  | succ n ih =>
    rintro hn L rfl
    have hk : n < k0_t2_loop.trips := by rw [trips2]; omega
    have e := pb_k0_t2_succ (F := Ideal) 𝒱 c bd i arg1 harg1 arg2 harg2 arg3 harg3 arg4 harg4 arg5 harg5 arg6 harg6 arg7 harg7 arg8 harg8 arg9 harg9 arg10 harg10 arg11 harg11 (harg1.unread B0) ⟨n, hk⟩
    rw [e]
    refine (ih (by omega) _ rfl).step (trip2 P LG LB r0 h 𝒱 c bd i arg1 harg1 arg2 harg2 arg3 harg3 arg4 harg4 arg5 harg5 arg6 harg6 arg7 harg7 arg8 harg8 arg9 harg9 arg10 harg10 arg11 harg11 ⟨n, hk⟩ _ rfl) ?_
    intro y h1 h2
    unfold tripL_k0_t2 trip_k0_t2
    exact ⟨_, List.mem_singleton.mpr rfl, mem6 ⟨n, hk⟩ (inb6 _) y h1 h2⟩

end Cert.AMixFwdIdeal.Pair

end
-- ==== Proof.AMixFwdOut.lean ====
module
public import proofs.«01_k».proof.Proof.AMixFwdLoop
public import proofs.«01_k».proof.Proof.AMixMid
public import proofs.«01_k».proof.Proof.Gen.AMixFwdIdeal.Value

/-! # The spatial gating mixer: what each grid point leaves in its four results -/

@[expose] public section
set_option maxRecDepth 16384
noncomputable section
namespace Cert.AMixFwdIdeal.Pair
open Idealize.ShloMosaic Idealize.ShloMosaic.Pointwise Idealize.SL Cert.AMixFwdIdeal.Gen Cert.AMixSpec Cert.Lift
open Cert.AMixIdeal.Pair (Filled fd fd' embAt mem_tile mem_of_map canon_take)

variable (P : S4096x6144.Idx → ℝ) (LG LB : S2048.Idx → EReal) (W : S8x128x128.Idx → EReal) (BS : S8x128.Idx → EReal) (r0 : ℕ)

/-- What the blocks of the mixing matrices and the biases hold. -/
structure In3 (B3 : S1x8x128x128.Idx → EReal) (B4 : S1x8x128x1.Idx → EReal) : Prop where
  b3 : ∀ g p q, B3 (ix4 0 g p q) = W (ix3 g p q)
  b4 : ∀ g p, B4 (ix4 0 g p 0) = BS (ix2 g p)

/-- The output rows of a grid point. -/
def gY (i : S512x2048.Idx) : EReal := (gate P (r0 + (i 0).val) (i 1).val : EReal) * mixE P LG LB W BS (r0 + (i 0).val) (i 1)

/-- A read of a filled memory. -/
theorem readCov_filled {κ sp} {e : EltTy} {v : View sig κ sp S512x2048 e} {G : S512x2048.Idx → Elt Ideal e} {L : List (View.Piece (Elt Ideal) S512x2048 e)}
    (h : Filled G rows 512 L) (a b : ℕ) (hi : ∀ x, (![a, b] : Fin 2 → ℕ) x + (![128, 256] : Fin 2 → ℕ) x ≤ S512x2048.size x) (p : Fin 128) (c : Fin 256) (hp hc) :
    v.readCov L (Rect.unit (s := S512x2048) ![a, b] ![128, 256] hi).toLoadRect (ix2 p c) = G (ix2 ⟨a + p.val, hp⟩ ⟨b + c.val, hc⟩) := by
  rw [View.readCov_eq_canon']
  have e := h.canon (fun y => (y 0).isLt) []
  rw [List.append_nil] at e
  rw [e]
  refine congrArg G (Shape.idx_ext₂ ?_ ?_) <;> simp [Rect.unit, Rect.toLoadRect, LoadRect.idx]

/-- The floor division once more, with one of the two signs already worked out. -/
theorem fd'' (x : Fin 128) : Scalar.select
    (IntOp.andi
      (IntOp.cmpi CmpIPredicate.ne
        (IntOp.subi (BitVec.setWidth 32 (IntOp.cmpi CmpIPredicate.sgt (BitVec.ofNat 32 x.val) 0#32))
          (BitVec.setWidth 32 (IntOp.cmpi CmpIPredicate.slt (BitVec.ofNat 32 x.val) 0#32)))
          (Scalar.subi (Scalar.extui 1#1) (Scalar.extui (Scalar.cmpi CmpIPredicate.slt 64#32 0#32))))
      (IntOp.cmpi CmpIPredicate.ne (IntOp.remsi ArithUnit.vector (BitVec.ofNat 32 x.val) 64#32) 0#32))
    (IntOp.subi (IntOp.divsi ArithUnit.vector (BitVec.ofNat 32 x.val) 64#32) 1#32)
    (IntOp.divsi ArithUnit.vector (BitVec.ofNat 32 x.val) 64#32) = BitVec.ofNat 32 (x.val / 64) := fd x

section Pieces
variable {P LG LB W BS r0}

theorem mix_at (hr : r0 % 128 = 0) {a b : ℕ} {g : Fin 8} (ha : a % 128 = 0) (hb : b = 256 * g.val) (p : Fin 128) (c : Fin 256) (h) :
    mixE P LG LB W BS (r0 + (a + p.val)) ⟨b + c.val, h⟩
      = (∑ q : Fin 128, if q.val / 64 ≤ p.val / 64 then W (ix3 g p q) * vE P LG LB (r0 + (a + q.val)) ⟨b + c.val, h⟩ else 0) + BS (ix2 g p) := by
  have h1 : grp ⟨b + c.val, h⟩ = g := Fin.ext (by show (b + c.val) / 256 = g.val; omega)
  have h2 : plc (r0 + (a + p.val)) = p := Fin.ext (by show (r0 + (a + p.val)) % 128 = p.val; omega)
  have h3 : ∀ q, (r0 + (a + p.val)) / 128 * 128 + q = r0 + (a + q) := by intro q; omega
  rw [mixE, h1, h2]
  simp only [h3]

theorem y_piece {B3 B4} (h3 : In3 W BS B3 B4) (hr : r0 % 128 = 0) {κ sp κ' sp'} {v : View sig κ sp S512x2048 .bf16} {v' : View sig κ' sp' S512x2048 .f32}
    {L : List (View.Piece (Elt Ideal) S512x2048 .bf16)} (hL : Filled (gV P LG LB r0) rows 512 L)
    {L' : List (View.Piece (Elt Ideal) S512x2048 .f32)} (hL' : Filled (gU P r0) rows 512 L')
    (g : Fin 8) (a b : ℕ) (ha : a % 128 = 0) (hb : b = 256 * g.val) (hi hi' hi'') (p : Fin 128) (c : Fin 256) :
    v'.readCov L' (Rect.unit (s := S512x2048) ![a, b] ![128, 256] hi').toLoadRect (ix2 p c)
        * ((∑ x : Fin 128, if x.val / 64 ≤ p.val / 64 then B3 (ix4 0 g p x) * v.readCov L (Rect.unit (s := S512x2048) ![a, b] ![128, 256] hi).toLoadRect (ix2 x c) else 0)
          + B4 (ix4 0 g p 0))
      = gY P LG LB W BS r0 ((Rect.unit (s := S512x2048) ![a, b] ![128, 256] hi'').emb (ix2 p c)) := by
  have h1 : a + 128 ≤ 512 := hi 0
  have h2 : b + 256 ≤ 2048 := hi 1
  rw [embAt hi'' p c (by omega) (by omega)]
  have e : ∀ x : Fin 128, v.readCov L (Rect.unit (s := S512x2048) ![a, b] ![128, 256] hi).toLoadRect (ix2 x c) = vE P LG LB (r0 + (a + x.val)) ⟨b + c.val, by omega⟩ :=
    fun x => readCov_filled hL a b hi x c (by omega) (by omega)
  have e' : v'.readCov L' (Rect.unit (s := S512x2048) ![a, b] ![128, 256] hi').toLoadRect (ix2 p c) = (gate P (r0 + (a + p.val)) (b + c.val) : EReal) :=
    readCov_filled hL' a b hi' p c (by omega) (by omega)
  simp only [e, e', h3.b3, h3.b4]
  exact congrArg _ (mix_at hr ha hb p c _).symm

/-- The order in which the stores go over the groups and the chunks, the last store first. -/
def order : List (Fin 8 × Fin 4) := [7, 6, 5, 4, 3, 2, 1, 0].flatMap fun g => [(g, 3), (g, 2), (g, 1), (g, 0)]
theorem order_mem : ∀ g b, (g, b) ∈ order := by decide

/-- The tile of a group and a chunk. -/
def tile (q : Fin 8 × Fin 4) : Rect S512x2048 := Rect.unit ![128 * q.2.val, 256 * q.1.val] ![128, 256] (by
  intro x
  have := q.1.isLt
  have := q.2.isLt
  match x with
  | ⟨0, _⟩ => show 128 * q.2.val + 128 ≤ 512; omega
  | ⟨1, _⟩ => show 256 * q.1.val + 256 ≤ 2048; omega)

theorem cov_y {L : List (View.Piece (Elt Ideal) S512x2048 .bf16)} (h : L.map (fun p => p.1) = order.map tile) (y : S512x2048.Idx) : ∃ p ∈ L, y ∈ p.1.set := by
  have h0 : (y 0).val < 512 := (y 0).isLt
  have h1 : (y 1).val < 2048 := (y 1).isLt
  refine mem_of_map h (List.mem_map_of_mem (order_mem ⟨(y 1).val / 256, by omega⟩ ⟨(y 0).val / 128, by omega⟩)) (mem_tile ?_)
  dsimp only
  omega

end Pieces

theorem trips_eq : Scf.trips (0#32) (Scalar.addi 0#32 32#32) 1#32 = 32 := by decide

theorem canon_filled {s : Shape} {e : EltTy} {G : s.Idx → Elt Ideal e} {f : s.Idx → ℕ} {n : ℕ} {L : List (View.Piece (Elt Ideal) s e)} (h : Filled G f n L)
    (hn : ∀ y, f y < n) : View.canon L = G := by
  have e := h.canon hn []
  rwa [List.append_nil] at e

set_option maxHeartbeats 2000000 in
theorem outs (m) (c : Dev nD) (t : Fin cfg0.N) (hr : r0 % 128 = 0)
    (h1 : InF P LG LB r0 (iblk m c 0 t) (iblk m c 1 t) (iblk m c 2 t)) (h3 : In3 W BS (iblk m c 3 t) (iblk m c 4 t)) :
    (outsAt0 (F := Ideal) m c t).1 = gY P LG LB W BS r0 ∧ (outsAt0 (F := Ideal) m c t).2.1 = gX P r0
      ∧ (outsAt0 (F := Ideal) m c t).2.2.1 = gD P r0 ∧ (outsAt0 (F := Ideal) m c t).2.2.2 = gR P r0 := by
  obtain ⟨f1, f2, f3, f4⟩ := loop1 P LG LB r0 h1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) 32 le_rfl _ rfl
  have f5 := loop2 P LG LB r0 h1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) 32 le_rfl _ rfl
  unfold outsAt0
  dsimp only
  refine ⟨?y, ?x, ?d, ?r⟩
  all_goals
    frame_out
    try simp only [trips_eq]
    try generalize pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hs0_0 t).unread (iblk m c 0 t)) ((hs0_1 t).unread (iblk m c 1 t)) ((hs0_2 t).unread (iblk m c 2 t)) 32 = L1 at f1 f2 f3 f4 ⊢
    try generalize pb_k0_t2 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hs0_0 t).unread (iblk m c 0 t)) 32 = L2 at f5 ⊢
  case x => exact canon_filled f1 fun y => (y 0).isLt
  case d => exact canon_filled f2 fun y => (y 0).isLt
  case r => exact canon_filled f3 fun y => (y 0).isLt
  case y =>
    refine canon_take 32 ?_ (cov_y rfl)
    simp only [List.take]
    refine ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, ⟨fun x => ?_, trivial⟩⟩⟩⟩⟩⟩⟩⟩⟩⟩⟩⟩⟩⟩⟩⟩⟩⟩⟩⟩⟩⟩⟩⟩⟩⟩⟩⟩⟩⟩⟩⟩
    all_goals
      idx_vars x
      unfold_payloads
      pointwise []
      simp only [fd, fd', fd'', sel]
      refine y_piece h3 hr f4 f5 _ _ _ ?_ ?_ _ _ _ _ _
      · rfl
      · rfl

end Cert.AMixFwdIdeal.Pair

end
-- ==== Proof.AMixFwdArr.lean ====
module
public import Idealize.ShloMosaic.Lib.Pipeline.ReadBack
public import proofs.«01_k».proof.Proof.AMixFwdOut

/-! # The spatial gating mixer: its four results as the kernel leaves them

Each grid point takes four chunks of 128 rows and writes its own rows of every result. -/

@[expose] public section
set_option maxRecDepth 16384
noncomputable section
namespace Cert.AMixFwdIdeal.Pair
open Cert.AMixFwdIdeal Cert.AMixFwdIdeal.Gen Idealize.ShloMosaic Idealize.ShloMosaic.TcCoe Idealize.SL.Sem
open Idealize.ShloMosaic.Pipeline (Dat)
open Cert.Lift Cert.AMixSpec

theorem idx0 : ∀ t : Fin cfg0.N, win0_0.index t 0 = t.val ∧ win0_0.index t 1 = 0 :=
  (by decide +kernel : ∀ t : Fin grid0.N, _)
theorem idx1 : ∀ t : Fin cfg0.N, win0_1.index t 0 = 0 ∧ win0_1.index t 1 = 0 ∧ win0_1.index t 2 = 0 :=
  (by decide +kernel : ∀ t : Fin grid0.N, _)
theorem idx2 : ∀ t : Fin cfg0.N, win0_2.index t 0 = 0 ∧ win0_2.index t 1 = 0 ∧ win0_2.index t 2 = 0 :=
  (by decide +kernel : ∀ t : Fin grid0.N, _)
theorem idx3 : ∀ t : Fin cfg0.N, win0_3.index t 0 = 0 ∧ win0_3.index t 1 = 0 ∧ win0_3.index t 2 = 0 ∧ win0_3.index t 3 = 0 :=
  (by decide +kernel : ∀ t : Fin grid0.N, _)
theorem idx4 : ∀ t : Fin cfg0.N, win0_4.index t 0 = 0 ∧ win0_4.index t 1 = 0 ∧ win0_4.index t 2 = 0 ∧ win0_4.index t 3 = 0 :=
  (by decide +kernel : ∀ t : Fin grid0.N, _)
theorem idx5 : ∀ t : Fin cfg0.N, win0_5.index t 0 = t.val ∧ win0_5.index t 1 = 0 :=
  (by decide +kernel : ∀ t : Fin grid0.N, _)
theorem idx6 : ∀ t : Fin cfg0.N, win0_6.index t 0 = t.val ∧ win0_6.index t 1 = 0 :=
  (by decide +kernel : ∀ t : Fin grid0.N, _)
theorem idx7 : ∀ t : Fin cfg0.N, win0_7.index t 0 = t.val ∧ win0_7.index t 1 = 0 :=
  (by decide +kernel : ∀ t : Fin grid0.N, _)
theorem idx8 : ∀ t : Fin cfg0.N, win0_8.index t 0 = t.val ∧ win0_8.index t 1 = 0 :=
  (by decide +kernel : ∀ t : Fin grid0.N, _)

theorem lt8 (t : Fin cfg0.N) : t.val < 8 := lt_of_lt_of_eq t.isLt N_0

/-- The row of the whole array that row `a` of grid point `t`'s block is. -/
def row (t : Fin cfg0.N) (a : Fin 512) : Fin 4096 := ⟨t.val * 512 + a.val, by have := lt8 t; omega⟩

variable (m : (ℓ : Loc nD τ sig) → Buf (Elt Ideal) ℓ) (c : Dev nD)

abbrev argP : S4096x6144.Idx → EReal := m ((c : Thread nD τ).loc main_arg0)
abbrev argLG : S2048.Idx → EReal := m ((c : Thread nD τ).loc main_arg1)
abbrev argLB : S2048.Idx → EReal := m ((c : Thread nD τ).loc main_arg2)
abbrev argW : S8x128x128.Idx → EReal := m ((c : Thread nD τ).loc main_arg3)
abbrev argBS : S8x128.Idx → EReal := m ((c : Thread nD τ).loc main_arg4)

theorem blk0 (t : Fin cfg0.N) (a : Fin 512) (j : Fin 6144) : iblk m c 0 t (ix2 a j) = argP m c (ix2 (row t a) j) := by
  blk_ext! [iblk, V, idx0 t, row]
theorem blk1 (t : Fin cfg0.N) (j : Fin 2048) : iblk m c 1 t (ix3 0 0 j) = argLG m c (ix1 j) := by
  blk_ext! [iblk, V, idx1 t]
theorem blk2 (t : Fin cfg0.N) (j : Fin 2048) : iblk m c 2 t (ix3 0 0 j) = argLB m c (ix1 j) := by
  blk_ext! [iblk, V, idx2 t]
theorem blk3 (t : Fin cfg0.N) (g : Fin 8) (p q : Fin 128) : iblk m c 3 t (ix4 0 g p q) = argW m c (ix3 g p q) := by
  blk_ext! [iblk, V, idx3 t]
theorem blk4 (t : Fin cfg0.N) (g : Fin 8) (p : Fin 128) : iblk m c 4 t (ix4 0 g p 0) = argBS m c (ix2 g p) := by
  blk_ext! [iblk, V, idx4 t]

variable (P : S4096x6144.Idx → ℝ) (hP : ∀ i, argP m c i = (P i : EReal))
include hP

theorem inF (t : Fin cfg0.N) : InF P (argLG m c) (argLB m c) (t.val * 512) (iblk m c 0 t) (iblk m c 1 t) (iblk m c 2 t) where
  b0 a e := (blk0 m c t a e).trans ((hP _).trans (congrArg Real.toEReal (wide_at P (row t a) e).symm))
  b1 := blk1 m c t
  b2 := blk2 m c t

theorem outs_at (t : Fin cfg0.N) :
    (outsAt0 (F := Ideal) m c t).1 = gY P (argLG m c) (argLB m c) (argW m c) (argBS m c) (t.val * 512) ∧ (outsAt0 (F := Ideal) m c t).2.1 = gX P (t.val * 512)
      ∧ (outsAt0 (F := Ideal) m c t).2.2.1 = gD P (t.val * 512) ∧ (outsAt0 (F := Ideal) m c t).2.2.2 = gR P (t.val * 512) :=
  outs P _ _ _ _ _ m c t (by omega) (inF m c P hP t) ⟨blk3 m c t, blk4 m c t⟩

theorem arr5 : (dats m 0 c).arrAt 5 cfg0.N = outY P (argLG m c) (argLB m c) (argW m c) (argBS m c) := by
  refine (dats m 0 c).arrAt_eq_of_covers 5 _ (by decide +kernel) fun t hf i => ?_
  blk_simp
  rw [after0_5, (outs_at m c P hP t).1]
  idx_vars i
  refine Eq.trans (b := outY P (argLG m c) (argLB m c) (argW m c) (argBS m c) (ix2 (row t i0) i1)) rfl (congrArg _ ?_)
  blk_ext [idx5 t, row]

theorem arr6 : (dats m 0 c).arrAt 6 cfg0.N = outX P := by
  refine (dats m 0 c).arrAt_eq_of_covers 6 _ (by decide +kernel) fun t hf i => ?_
  blk_simp
  rw [after0_6, (outs_at m c P hP t).2.1]
  idx_vars i
  refine Eq.trans (b := outX P (ix2 (row t i0) i1)) rfl (congrArg _ ?_)
  blk_ext [idx6 t, row]

theorem arr7 : (dats m 0 c).arrAt 7 cfg0.N = outD P := by
  refine (dats m 0 c).arrAt_eq_of_covers 7 _ (by decide +kernel) fun t hf i => ?_
  blk_simp
  rw [after0_7, (outs_at m c P hP t).2.2.1]
  idx_vars i
  refine Eq.trans (b := outD P (ix2 (row t i0) i1)) rfl (congrArg _ ?_)
  blk_ext [idx7 t, row]

theorem arr8 : (dats m 0 c).arrAt 8 cfg0.N = outR P := by
  refine (dats m 0 c).arrAt_eq_of_covers 8 _ (by decide +kernel) fun t hf i => ?_
  blk_simp
  rw [after0_8, (outs_at m c P hP t).2.2.2]
  idx_vars i
  refine Eq.trans (b := outR P (ix2 (row t i0) i1)) rfl (congrArg _ ?_)
  blk_ext [idx8 t, row]

end Cert.AMixFwdIdeal.Pair

end
-- ==== Proof.AMixFwdRef.lean ====
module
public import proofs.«01_k».proof.Proof.Gen.AMixFwdRefIdeal.Read
public import proofs.«01_k».proof.Proof.AMixFwdSpec

/-! # What the reference of the spatial gating mixer computes, stage by stage -/

@[expose] public section
set_option maxRecDepth 16384
noncomputable section
namespace Cert.AMixFwdRefIdeal.Pair
open Cert.AMixFwdRefIdeal Cert.AMixFwdRefIdeal.Gen Idealize.ShloMosaic Idealize.ShloMosaic.TcCoe Idealize.SL.Sem
open Cert.AMixFwdRefIdeal.Read Cert.Lift Cert.AMixSpec

variable (x0 : S4096x6144.Idx → EReal) (x1 x2 : S2048.Idx → EReal) (x3 : S8x128x128.Idx → EReal) (x4 : S8x128.Idx → EReal)
variable (P : S4096x6144.Idx → ℝ) (hP : ∀ i, x0 i = (P i : EReal))

theorem ofBits_three : Ideal.ofBits .f32 0x40400000#32 = ((3 : ℝ) : EReal) := by
  simp [Ideal.ofBits, Ideal.ieee, -EReal.coe_mul]; norm_num

/-! ## The mask -/

theorem v58_at : ∀ q : Fin 128, val_main_v58 (F := Ideal) (ix2 0 q) = BitVec.ofNat 32 (q.val / 64) := by decide +kernel
theorem v60_at : ∀ p : Fin 128, val_main_v60 (F := Ideal) (ix2 p 0) = BitVec.ofNat 32 (p.val / 64) := by decide +kernel

theorem v66_at (g : Fin 8) (p q : Fin 128) : val_main_v66 (F := Ideal) x3 (ix3 g p q) = if q.val / 64 ≤ p.val / 64 then x3 (ix3 g p q) else 0 := by
  pointwise [val_main_v66, val_main_call2_v0, val_main_v65, val_main_v64, val_main_v63, val_main_v62, val_main_v61, val_main_cst_15]
  rw [v58_at, v60_at, sel]

include hP

/-! ## The three parts of the projection, the GELUs and the gate -/

theorem v2_at (r : Fin 4096) (e : Fin 2048) : val_main_v2 (F := Ideal) x0 (ix3 0 r e) = ((wide P r.val e.val : ℝ) : EReal) := by
  pointwise [val_main_v2, val_main_v1, val_main_v0]
  exact (hP _).trans (congrArg _ (wide_at P r ⟨e.val, by omega⟩).symm)
theorem v3_at (r : Fin 4096) (e : Fin 2048) : val_main_v3 (F := Ideal) x0 (ix3 0 r e) = ((wide P r.val (2048 + e.val) : ℝ) : EReal) := by
  pointwise [val_main_v3, val_main_v1, val_main_v0]
  exact (hP _).trans (congrArg _ (wide_at P r ⟨2048 + e.val, by omega⟩).symm)
theorem v4_at (r : Fin 4096) (e : Fin 2048) : val_main_v4 (F := Ideal) x0 (ix3 0 r e) = ((wide P r.val (4096 + e.val) : ℝ) : EReal) := by
  pointwise [val_main_v4, val_main_v1, val_main_v0]
  exact (hP _).trans (congrArg _ (wide_at P r ⟨4096 + e.val, by omega⟩).symm)
theorem v78_at (r : Fin 4096) (e : Fin 2048) : val_main_v78 (F := Ideal) x0 (ix3 0 r e) = ((wide P r.val (2048 + e.val) : ℝ) : EReal) := by
  pointwise [val_main_v78, val_main_v1, val_main_v0]
  exact (hP _).trans (congrArg _ (wide_at P r ⟨2048 + e.val, by omega⟩).symm)

theorem v18_at (r : Fin 4096) (e : Fin 2048) : val_main_v18 (F := Ideal) x0 (ix3 0 r e) = ((ge (wide P r.val e.val) : ℝ) : EReal) := by
  pointwise [val_main_v18, val_main_v17, val_main_v16, val_main_v15, val_main_v14, val_main_v13, val_main_v12, val_main_v11, val_main_v10, val_main_v9,
    val_main_v8, val_main_v7, val_main_v6, val_main_v5, val_main_cst, val_main_cst_0, val_main_cst_1, val_main_cst_2, val_main_cst_3]
  simp only [v2_at x0 P hP, th_coe]
  simp only [ofBits_half, ← EReal.coe_one, ← EReal.coe_add, ← EReal.coe_mul, ge]
theorem v32_at (r : Fin 4096) (e : Fin 2048) : val_main_v32 (F := Ideal) x0 (ix3 0 r e) = ((vg P r.val e : ℝ) : EReal) := by
  pointwise [val_main_v32, val_main_v31, val_main_v30, val_main_v29, val_main_v28, val_main_v27, val_main_v26, val_main_v25, val_main_v24, val_main_v23,
    val_main_v22, val_main_v21, val_main_v20, val_main_v19, val_main_cst_4, val_main_cst_5, val_main_cst_6, val_main_cst_7, val_main_cst_8]
  simp only [v3_at x0 P hP, th_coe]
  simp only [ofBits_half, ← EReal.coe_one, ← EReal.coe_add, ← EReal.coe_mul, vg, ge]
theorem v91_at (r : Fin 4096) (e : Fin 2048) : val_main_v91 (F := Ideal) x0 (ix3 0 r e) = ((th (wide P r.val (2048 + e.val)) : ℝ) : EReal) := by
  pointwise [val_main_v91, val_main_v90, val_main_v89, val_main_v88, val_main_v87, val_main_v86, val_main_v82, val_main_v81, val_main_v80,
    val_main_cst_16, val_main_cst_17, val_main_cst_19]
  simp only [v78_at x0 P hP, th_coe]
theorem v100_at (r : Fin 4096) (e : Fin 2048) : val_main_v100 (F := Ideal) x0 (ix3 0 r e)
    = ((1 / 2 * (1 + th (wide P r.val (2048 + e.val))) : ℝ) : EReal) := by
  pointwise [val_main_v100, val_main_v99, val_main_v98, val_main_v97, val_main_cst_22, val_main_cst_23]
  simp only [v91_at x0 P hP, ofBits_half, ← EReal.coe_one, ← EReal.coe_add, ← EReal.coe_mul]
theorem v101_at (r : Fin 4096) (e : Fin 2048) : val_main_v101 (F := Ideal) x0 (ix3 0 r e) = ((vg P r.val e : ℝ) : EReal) := by
  pointwise [val_main_v101]
  rw [v78_at x0 P hP, v100_at x0 P hP, ← EReal.coe_mul, vg, ge]

/-- The GELU's derivative, line by line. -/
theorem v114_at (r : Fin 4096) (e : Fin 2048) : val_main_v114 (F := Ideal) x0 (ix3 0 r e) = ((ge' (wide P r.val (2048 + e.val)) : ℝ) : EReal) := by
  pointwise [val_main_v114, val_main_v113, val_main_v112, val_main_v111, val_main_v110, val_main_v109, val_main_v108, val_main_v107, val_main_v106,
    val_main_v105, val_main_v104, val_main_v103, val_main_v102, val_main_v96, val_main_v95, val_main_v94, val_main_v93, val_main_v92, val_main_v85,
    val_main_v84, val_main_v83, val_main_v80, val_main_cst_16, val_main_cst_17, val_main_cst_18, val_main_cst_20, val_main_cst_21, val_main_cst_24,
    val_main_cst_25, val_main_cst_26]
  simp only [v78_at x0 P hP, v91_at x0 P hP, v100_at x0 P hP, coef_a, ofBits_cc, ofBits_half, ofBits_three, ← EReal.coe_one]
  simp only [← EReal.coe_add, ← EReal.coe_mul, ← EReal.coe_sub]
  congr 1
  rw [ge']
  ring

theorem v75_at (r : Fin 4096) (e : Fin 2048) : val_main_v75 (F := Ideal) x0 (ix3 0 r e) = ((si (wide P r.val (4096 + e.val)) : ℝ) : EReal) := by
  pointwise [val_main_v75, val_main_call3_v5, val_main_call3_v4, val_main_call3_v3, val_main_call3_v2, val_main_call3_v1, val_main_call3_v0, val_main_call3_cst,
    val_main_call3_cst_0]
  rw [v4_at x0 P hP, ← EReal.coe_neg, Ideal.exp_coe, ← EReal.coe_one, ← EReal.coe_add, div_coe_coe _ _ (by positivity), ← EReal.coe_mul, si, sg]

/-! ## The norm of `v`: for the output, and for the saved values -/

theorem v38_at (r : Fin 4096) (k : Fin 2048) : val_main_v38 (F := Ideal) x0 (ix3 0 r k) = ((cen (vg P r.val) k : ℝ) : EReal) := by
  pointwise [val_main_v38, val_main_v37, val_main_v36, val_main_v35, val_main_v34, val_main_v33, val_main_cst_9, val_main_cst_10]
  simp only [v32_at x0 P hP, mean_coe]
  rw [← EReal.coe_sub, cen]
theorem v46_at (r : Fin 4096) : val_main_v46 (F := Ideal) x0 (ix3 0 r 0) = ((inv (vg P r.val) : ℝ) : EReal) := by
  pointwise [val_main_v46, val_main_v45, val_main_v44, val_main_v43, val_main_v42, val_main_v41, val_main_v40, val_main_v39, val_main_cst_11, val_main_cst_12,
    val_main_cst_13]
  simp only [v38_at x0 P hP, ← EReal.coe_mul, coe_sum, ofBits_2048, ofBits_eps]
  rw [div_coe_coe _ _ (by norm_num), ← EReal.coe_add]
  exact (rsqrt_pos _ (var_pos (vg P r.val))).trans (by rw [AMixSpec.inv])
theorem v48_at (r : Fin 4096) (k : Fin 2048) : val_main_v48 (F := Ideal) x0 (ix3 0 r k) = ((xh P r.val k.val : ℝ) : EReal) := by
  pointwise [val_main_v48, val_main_v47]
  rw [v38_at x0 P hP, v46_at x0 P hP, ← EReal.coe_mul, xh_at, nrm]
theorem v120_at (r : Fin 4096) (k : Fin 2048) : val_main_v120 (F := Ideal) x0 (ix3 0 r k) = ((cen (vg P r.val) k : ℝ) : EReal) := by
  pointwise [val_main_v120, val_main_v119, val_main_v118, val_main_v117, val_main_v116, val_main_v115, val_main_cst_27, val_main_cst_28]
  simp only [v101_at x0 P hP, mean_coe]
  rw [← EReal.coe_sub, cen]
theorem v128_at (r : Fin 4096) : val_main_v128 (F := Ideal) x0 (ix3 0 r 0) = ((inv (vg P r.val) : ℝ) : EReal) := by
  pointwise [val_main_v128, val_main_v127, val_main_v126, val_main_v125, val_main_v124, val_main_v123, val_main_v122, val_main_v121, val_main_cst_29,
    val_main_cst_30, val_main_cst_31]
  simp only [v120_at x0 P hP, ← EReal.coe_mul, coe_sum, ofBits_2048, ofBits_eps]
  rw [div_coe_coe _ _ (by norm_num), ← EReal.coe_add]
  exact (rsqrt_pos _ (var_pos (vg P r.val))).trans (by rw [AMixSpec.inv])
theorem v132_at (r : Fin 4096) (k : Fin 2048) : val_main_v132 (F := Ideal) x0 (ix3 0 r k) = ((xh P r.val k.val : ℝ) : EReal) := by
  pointwise [val_main_v132, val_main_v131]
  rw [v120_at x0 P hP, v128_at x0 P hP, ← EReal.coe_mul, xh_at, nrm]

/-! ## The mixed rows -/

theorem v54_at (r : Fin 4096) (k : Fin 2048) : val_main_v54 (F := Ideal) x0 x1 x2 (ix3 0 r k) = vE P x1 x2 r.val k := by
  pointwise [val_main_v54, val_main_v53, val_main_v52, val_main_v51, val_main_v50, val_main_v49]
  rw [v48_at x0 P hP, vE]
theorem v55_at (n : Fin 32) (p : Fin 128) (g : Fin 8) (k : Fin 256) : val_main_v55 (F := Ideal) x0 x1 x2 (ix5 0 n p g k)
    = vE P x1 x2 (n.val * 128 + p.val) ⟨g.val * 256 + k.val, by omega⟩ := by
  pointwise [val_main_v55]
  rw [v54_at x0 x1 x2 P hP]
theorem v73_at (r : Fin 4096) (e : Fin 2048) : val_main_v73 (F := Ideal) x0 x1 x2 x3 x4 (ix3 0 r e) = mixE P x1 x2 x3 x4 r.val e := by
  pointwise [val_main_v73, val_main_v72, val_main_v71, val_main_v70, val_main_v69, val_main_v68, val_main_v67]
  simp only [v55_at x0 x1 x2 P hP, v66_at, Nat.div_add_mod', mul_ite, mul_zero]
  rw [mixE]
  refine congrArg₂ (· + ·) (Finset.sum_congr rfl fun q _ => ?_) rfl
  refine if_congr Iff.rfl (mul_comm _ _) rfl

/-! ## The four results -/

theorem v130_at (r : Fin 4096) (e : Fin 2048) : val_main_v130 (F := Ideal) x0 x1 x2 x3 x4 (ix2 r e) = outY P x1 x2 x3 x4 (ix2 r e) := by
  pointwise [val_main_v130, val_main_v129, val_main_v76, val_main_v74]
  rw [v18_at x0 P hP, v73_at x0 x1 x2 x3 x4 P hP, v75_at x0 P hP, mul_right_comm, ← EReal.coe_mul]
  rfl
theorem v134_at (r : Fin 4096) (e : Fin 2048) : val_main_v134 (F := Ideal) x0 (ix2 r e) = outX P (ix2 r e) := by
  pointwise [val_main_v134, val_main_v133]
  exact v132_at x0 P hP r e
theorem v136_at (r : Fin 4096) (e : Fin 2048) : val_main_v136 (F := Ideal) x0 (ix2 r e) = outD P (ix2 r e) := by
  pointwise [val_main_v136, val_main_v135]
  exact v114_at x0 P hP r e
theorem v137_at (r : Fin 4096) : val_main_v137 (F := Ideal) x0 (ix2 r 0) = outR P (ix2 r 0) := by
  pointwise [val_main_v137]
  exact v128_at x0 P hP r

end Cert.AMixFwdRefIdeal.Pair

end
-- ==== Proof.AMixFwdClaim.lean ====
module

public import proofs.«01_k».proof.Defs
public import proofs.«01_k».proof.Proof.AMixFwdArr
public import proofs.«01_k».proof.Proof.AMixFwdRef
public import proofs.«01_k».proof.Proof.Gen.Pre_finite7
public import Idealize.ShloMosaic.Lib.Quiescent

/-! # The forward pass of mixer A: the kernel and the reference agree over the reals -/

@[expose] public section

noncomputable section

namespace Cert.AMixFwdClaim

open Idealize.ShloMosaic Idealize.ShloMosaic.TcCoe Idealize.SL.Sem Cert.Lift Cert.AMixSpec

/-- The reference runs and leaves its arguments as they were; it has no semaphore. -/
theorem frame_ref : Cert.quiescent_AMixFwdRefIdeal := fun m ρ _ =>
  (θ_run Cert.AMixFwdRefIdeal.defs _ _).mono (fun r h => ⟨fun c => (h c).2.2.2.2, sem_eq_zero_of_no_sems (by decide) r.2⟩)
    (Cert.AMixFwdRefIdeal.Value.run (F := Ideal) m ρ)

/-- The named constants of the GELU and of its derivative are the reals they were rounded from. -/
theorem preserves : Cert.preserves_AMixFwd_AMixFwdIdeal :=
  ⟨IdealRules.named_const.statement Cert.AMixFwdIdeal.κ "gelu_a" .f32 0x3D372713#32 ((8943 / 200000 : ℝ) : EReal) rfl,
    IdealRules.named_const.statement Cert.AMixFwdIdeal.κ "gelu_3a" .f32 0x3E095D4F#32 ((26829 / 200000 : ℝ) : EReal) rfl⟩

/-- A finite projection is real. -/
theorem reals [Cert.Pre_finite7.Facts] (m) (h : Cert.Pre_AMixFwdIdeal_finite7 m) (c : Dev Cert.AMixFwdIdeal.nD) :
    ∃ x : _ → ℝ, ∀ i, AMixFwdIdeal.Pair.argP m c i = (x i : EReal) :=
  exists_real _ fun i => ofBits_inf ▸ congrFun (h c) i

/-- The output of equal arguments. -/
theorem outY_congr (P) {LG LB W BS LG' LB' W' BS'} (h1 : LG = LG') (h2 : LB = LB') (h3 : W = W') (h4 : BS = BS') :
    outY P LG LB W BS = outY P LG' LB' W' BS' := by rw [h1, h2, h3, h4]

/-- Both programs leave the same output and the same saved values. -/
theorem algebraic : Cert.algebraic_AMixFwdIdeal_AMixFwdRefIdeal_pre_finite7 := by
  intro m ρ m' ρ' hpre hagree
  refine ⟨_, _, _, _, Cert.AMixFwdIdeal.Value.run_blocks m ρ, (θ_run _ _ _).mono (fun r h c => ?_) (Cert.AMixFwdRefIdeal.Value.run m' ρ')⟩
  obtain ⟨P, hP⟩ := reals m hpre c
  obtain ⟨e0, e1, e2, e3, e4⟩ := hagree c
  obtain ⟨r0, r1, r2, r3, ra⟩ := h c
  have hP' : ∀ i, _ = (P i : EReal) := fun i => (congrFun e0 i).trans (hP i)
  refine ⟨r0.trans ?_, r1.trans ?_, r2.trans ?_, r3.trans ?_, ra⟩ <;> clear r0 r1 r2 r3 ra h
  · rw [AMixFwdRefIdeal.Read.val_main_v130_eq, AMixFwdIdeal.Pair.arr5 m c P hP]
    funext i
    idx_vars i
    exact (AMixFwdRefIdeal.Pair.v130_at _ _ _ _ _ P hP' i0 i1).trans (congrFun (outY_congr P e1 e2 e3 e4) _)
  · rw [AMixFwdRefIdeal.Read.val_main_v134_eq, AMixFwdIdeal.Pair.arr6 m c P hP]
    funext i
    idx_vars i
    exact AMixFwdRefIdeal.Pair.v134_at _ P hP' i0 i1
  · rw [AMixFwdRefIdeal.Read.val_main_v136_eq, AMixFwdIdeal.Pair.arr7 m c P hP]
    funext i
    idx_vars i
    exact AMixFwdRefIdeal.Pair.v136_at _ P hP' i0 i1
  · rw [AMixFwdRefIdeal.Read.val_main_v137_eq, AMixFwdIdeal.Pair.arr8 m c P hP]
    funext i
    idx_vars i
    obtain rfl : i1 = 0 := Subsingleton.elim _ _
    exact AMixFwdRefIdeal.Pair.v137_at _ P hP' i0

end Cert.AMixFwdClaim

end
-- ==== Proof.OutFwd.lean ====
module

public import proofs.«01_k».proof.Proof.Gen.OutFwdIdeal.Value
public import proofs.«01_k».proof.Proof.Gen.OutFwdRefIdeal.Read
public import proofs.«01_k».proof.Proof.Wide

/-! # The output projection with the norm and the residual that follow it: the kernel and the reference, row by row

`y` is the gated branch, `w` the output projection, `x` the stream, `g` the norm's weight. Nothing is asked of them: both
programs form the same extended real at each place. -/

@[expose] public section

set_option maxRecDepth 16384

noncomputable section

namespace Cert.OutFwdSpec

open Idealize.ShloMosaic Cert.Lift

variable (y : (⟨2, ![4096, 2048]⟩ : Shape).Idx → EReal) (w : (⟨2, ![2048, 1024]⟩ : Shape).Idx → EReal)
  (x : (⟨3, ![1, 4096, 1024]⟩ : Shape).Idx → EReal) (g : (⟨1, ![1024]⟩ : Shape).Idx → EReal)

/-- One row of the projection's result. -/
def orow (r : Fin 4096) (k : Fin 1024) : EReal := ∑ e : Fin 2048, y (ix2 r e) * w (ix2 e k)

/-- The norm's factor of a row. -/
def inv (v : Fin 1024 → EReal) : EReal :=
  Ideal.rsqrt (Ideal.div (∑ k, v k * v k) (Ideal.ofBits .f32 0x44800000#32) + Ideal.ofBits .f32 0x358637BD#32)

/-- The projection. -/
def out (i : (⟨2, ![4096, 1024]⟩ : Shape).Idx) : EReal := orow y w (i 0) (i 1)

/-- The stream with the normed projection added. -/
def next (i : (⟨2, ![4096, 1024]⟩ : Shape).Idx) : EReal :=
  x (ix3 0 (i 0) (i 1)) + orow y w (i 0) (i 1) * inv (orow y w (i 0)) * g (ix1 (i 1))

end Cert.OutFwdSpec

namespace Cert.OutFwdIdeal.Pair

open Cert.OutFwdIdeal Cert.OutFwdIdeal.Gen Idealize.ShloMosaic Idealize.ShloMosaic.TcCoe Idealize.SL.Sem
open Idealize.ShloMosaic.Pipeline (Dat)
open Cert.Lift Cert.OutFwdSpec

theorem idx0 : ∀ t : Fin cfg0.N, win0_0.index t 0 = t.val ∧ win0_0.index t 1 = 0 :=
  (by decide +kernel : ∀ t : Fin grid0.N, _)
theorem idx1 : ∀ t : Fin cfg0.N, win0_1.index t 0 = 0 ∧ win0_1.index t 1 = 0 ∧ win0_1.index t 2 = 0 :=
  (by decide +kernel : ∀ t : Fin grid0.N, _)
theorem idx2 : ∀ t : Fin cfg0.N, win0_2.index t 0 = t.val ∧ win0_2.index t 1 = 0 :=
  (by decide +kernel : ∀ t : Fin grid0.N, _)
theorem idx3 : ∀ t : Fin cfg0.N, win0_3.index t 0 = 0 ∧ win0_3.index t 1 = 0 ∧ win0_3.index t 2 = 0 :=
  (by decide +kernel : ∀ t : Fin grid0.N, _)
theorem idx4 : ∀ t : Fin cfg0.N, win0_4.index t 0 = t.val ∧ win0_4.index t 1 = 0 :=
  (by decide +kernel : ∀ t : Fin grid0.N, _)
theorem idx5 : ∀ t : Fin cfg0.N, win0_5.index t 0 = t.val ∧ win0_5.index t 1 = 0 :=
  (by decide +kernel : ∀ t : Fin grid0.N, _)

theorem lt8 (t : Fin cfg0.N) : t.val < 8 := lt_of_lt_of_eq t.isLt N_0

/-- The row of the whole array that row `a` of grid point `t`'s block is. -/
def row (t : Fin cfg0.N) (a : Fin 512) : Fin 4096 := ⟨t.val * 512 + a.val, by have := lt8 t; omega⟩

variable (m : (ℓ : Loc nD τ sig) → Buf (Elt Ideal) ℓ) (c : Dev nD)

abbrev argY : S4096x2048.Idx → EReal := m ((c : Thread nD τ).loc main_arg0)
abbrev argW : S2048x1024.Idx → EReal := m ((c : Thread nD τ).loc main_arg1)
abbrev argX : S1x4096x1024.Idx → EReal := m ((c : Thread nD τ).loc main_arg2)
abbrev argG : S1024.Idx → EReal := m ((c : Thread nD τ).loc main_arg3)

/-- The weight's entry at two plain numbers. -/
def wideE (e k : ℕ) : EReal := if h : e < 2048 ∧ k < 1024 then argW m c (ix2 ⟨e, h.1⟩ ⟨k, h.2⟩) else 0

theorem wideE_at (e : Fin 2048) (k : Fin 1024) : wideE m c e.val k.val = argW m c (ix2 e k) := by
  rw [wideE, dif_pos ⟨e.isLt, k.isLt⟩]

theorem blk0 (t : Fin cfg0.N) (a : Fin 512) (j : Fin 2048) : iblk m c 0 t (ix2 a j) = argY m c (ix2 (row t a) j) := by
  blk_ext! [iblk, V, idx0 t, row]
theorem blk1 (t : Fin cfg0.N) (s : Fin 8) (k : Fin 256) (a : Fin 1024) :
    iblk m c 1 t (ix3 s k a) = wideE m c (s.val * 256 + k.val) a.val := by
  refine Eq.trans ?_ (wideE_at m c ⟨s.val * 256 + k.val, by omega⟩ a).symm
  blk_ext! [iblk, V, idx1 t]
theorem blk2 (t : Fin cfg0.N) (a : Fin 512) (j : Fin 1024) : iblk m c 2 t (ix2 a j) = argX m c (ix3 0 (row t a) j) := by
  blk_ext! [iblk, V, idx2 t, row]
theorem blk3 (t : Fin cfg0.N) (j : Fin 1024) : iblk m c 3 t (ix3 0 0 j) = argG m c (ix1 j) := by
  blk_ext! [iblk, V, idx3 t]

theorem orow_fold (r : Fin 4096) (k : Fin 1024) :
    ∑ e, argY m c (ix2 r e) * argW m c (ix2 e k) = orow (argY m c) (argW m c) r k := rfl

/-- The kernel's next stream. -/
theorem arr4 : (dats m 0 c).arrAt 4 cfg0.N = next (argY m c) (argW m c) (argX m c) (argG m c) := by
  refine (dats m 0 c).arrAt_eq_of_covers 4 _ (by decide +kernel) fun t hf i => ?_
  blk_simp
  rw [after0_4, out0_4]
  frame_out
  unfold_payloads
  idx_vars i
  have b0 := blk0 m c t
  have b1 := blk1 m c t
  have b2 := blk2 m c t
  have b3 := blk3 m c t
  generalize iblk m c 0 t = B0 at b0 ⊢
  generalize iblk m c 1 t = B1 at b1 ⊢
  generalize iblk m c 2 t = B2 at b2 ⊢
  generalize iblk m c 3 t = B3 at b3 ⊢
  pointwise []
  simp only [b0, b1, b2, b3, Nat.div_add_mod', wideE_at, orow_fold]
  refine Eq.trans (b := next (argY m c) (argW m c) (argX m c) (argG m c) (ix2 (row t i0) i1)) rfl (congrArg _ ?_)
  blk_ext [idx4 t, row]

/-- The kernel's projection. -/
theorem arr5 : (dats m 0 c).arrAt 5 cfg0.N = out (argY m c) (argW m c) := by
  refine (dats m 0 c).arrAt_eq_of_covers 5 _ (by decide +kernel) fun t hf i => ?_
  blk_simp
  rw [after0_5, out0_5]
  frame_out
  unfold_payloads
  idx_vars i
  have b0 := blk0 m c t
  have b1 := blk1 m c t
  generalize iblk m c 0 t = B0 at b0 ⊢
  generalize iblk m c 1 t = B1 at b1 ⊢
  pointwise []
  simp only [b0, b1, Nat.div_add_mod', wideE_at, orow_fold]
  refine Eq.trans (b := out (argY m c) (argW m c) (ix2 (row t i0) i1)) rfl (congrArg _ ?_)
  blk_ext [idx5 t, row]

end Cert.OutFwdIdeal.Pair

namespace Cert.OutFwdRefIdeal.Pair

open Cert.OutFwdRefIdeal Cert.OutFwdRefIdeal.Gen Idealize.ShloMosaic Idealize.ShloMosaic.TcCoe Idealize.SL.Sem
open Cert.OutFwdRefIdeal.Read Cert.Lift Cert.OutFwdSpec

variable (x0 : S4096x2048.Idx → EReal) (x1 : S2048x1024.Idx → EReal) (x2 : S1x4096x1024.Idx → EReal) (x3 : S1024.Idx → EReal)

/-- A row of the projection. -/
theorem v2_at (r : Fin 4096) (k : Fin 1024) : val_main_v2 (F := Ideal) x0 x1 (ix3 0 r k) = orow x0 x1 r k := by
  pointwise [val_main_v2, val_main_v1, val_main_v0]
  rfl

/-- The projection. -/
theorem v18_at (r : Fin 4096) (k : Fin 1024) : val_main_v18 (F := Ideal) x0 x1 (ix2 r k) = out x0 x1 (ix2 r k) := by
  pointwise [val_main_v18]
  rw [v2_at]
  rfl

/-- The next stream. -/
theorem v17_at (r : Fin 4096) (k : Fin 1024) :
    val_main_v17 (F := Ideal) x0 x1 x2 x3 (ix2 r k) = next x0 x1 x2 x3 (ix2 r k) := by
  pointwise [val_main_v17, val_main_v16, val_main_v15, val_main_v14, val_main_v13, val_main_v12, val_main_v11, val_main_v10,
    val_main_v9, val_main_v8, val_main_v7, val_main_v6, val_main_v5, val_main_v4, val_main_v3, val_main_cst, val_main_cst_0,
    val_main_cst_1]
  simp only [v2_at]
  rfl

end Cert.OutFwdRefIdeal.Pair

end
-- ==== Proof.OutFwdClaim.lean ====
module

public import proofs.«01_k».proof.Defs
public import proofs.«01_k».proof.Proof.OutFwd
public import proofs.«01_k».proof.Proof.Gen.OutFwdRefIdeal.Run
public import Idealize.ShloMosaic.Lib.Quiescent

/-! # The output projection, its norm and the residual: the kernel and the reference agree over the reals -/

@[expose] public section

noncomputable section

namespace Cert.OutFwdClaim

open Idealize.ShloMosaic Idealize.ShloMosaic.TcCoe Idealize.SL.Sem Cert.Lift Cert.OutFwdSpec

/-- The reference runs and leaves its arguments as they were; it has no semaphore. -/
theorem frame_ref : Cert.quiescent_OutFwdRefIdeal := fun m ρ _ =>
  (θ_run Cert.OutFwdRefIdeal.defs _ _).mono (fun r h => ⟨fun c => (h c).2.2, sem_eq_zero_of_no_sems (by decide) r.2⟩)
    (Cert.OutFwdRefIdeal.Value.run (F := Ideal) m ρ)

/-- Both programs leave the same next stream and the same projection. -/
theorem algebraic : Cert.algebraic_OutFwdIdeal_OutFwdRefIdeal := by
  intro m ρ m' ρ' hpre hagree
  refine ⟨_, _, Cert.OutFwdIdeal.Value.run_blocks m ρ, (θ_run _ _ _).mono (fun r h c => ?_) (Cert.OutFwdRefIdeal.Value.run m' ρ')⟩
  obtain ⟨e0, e1, e2, e3⟩ := hagree c
  obtain ⟨r0, r1, ra⟩ := h c
  refine ⟨r0.trans ?_, r1.trans ?_, ra⟩
  · rw [OutFwdRefIdeal.Read.val_main_v17_eq, OutFwdIdeal.Pair.arr4 m c]
    funext i
    idx_vars i
    rw [e0, e1, e2, e3]
    exact OutFwdRefIdeal.Pair.v17_at _ _ _ _ i0 i1
  · rw [OutFwdRefIdeal.Read.val_main_v18_eq, OutFwdIdeal.Pair.arr5 m c]
    funext i
    idx_vars i
    rw [e0, e1]
    exact OutFwdRefIdeal.Pair.v18_at _ _ i0 i1

end Cert.OutFwdClaim

end
-- ==== Proof.InFwd.lean ====
module

public import proofs.«01_k».proof.Proof.Gen.InFwdIdeal.Value
public import proofs.«01_k».proof.Proof.Gen.InFwdRefIdeal.Read
public import proofs.«01_k».proof.Proof.Wide

/-! # The norm and the input projection that follows it: the kernel and the reference, row by row

`x` is the stream, `g` the norm's weight, `w` the input projection. Nothing is asked of them: both programs form the same
extended real at each place, the kernel adding each product's terms in four runs. -/

@[expose] public section

set_option maxRecDepth 16384

noncomputable section

namespace Cert.InFwdSpec

open Idealize.ShloMosaic Cert.Lift

variable (x : (⟨3, ![1, 4096, 1024]⟩ : Shape).Idx → EReal) (g : (⟨1, ![1024]⟩ : Shape).Idx → EReal)
  (w : (⟨2, ![1024, 6144]⟩ : Shape).Idx → EReal)

/-- The norm's factor of a row. -/
def inv (v : Fin 1024 → EReal) : EReal :=
  Ideal.rsqrt (Ideal.div (∑ k, v k * v k) (Ideal.ofBits .f32 0x44800000#32) + Ideal.ofBits .f32 0x358637BD#32)

/-- The normed stream. -/
def h (i : (⟨2, ![4096, 1024]⟩ : Shape).Idx) : EReal :=
  x (ix3 0 (i 0) (i 1)) * inv (fun k => x (ix3 0 (i 0) k)) * g (ix1 (i 1))

/-- The projection. -/
def proj (i : (⟨2, ![4096, 6144]⟩ : Shape).Idx) : EReal := ∑ k : Fin 1024, h x g (ix2 (i 0) k) * w (ix2 k (i 1))

/-- A product's 1024 terms, added in four runs of 256. -/
theorem sum_four (f : Fin 1024 → EReal) : ∑ k, f k = (∑ x : Fin 256, f ⟨0 + x.val, by omega⟩)
    + (∑ x : Fin 256, f ⟨256 + x.val, by omega⟩) + (∑ x : Fin 256, f ⟨512 + x.val, by omega⟩)
    + ∑ x : Fin 256, f ⟨768 + x.val, by omega⟩ := by
  rw [← Fin.sum_mul_add_fin (S := 4) (n := 256) (L := 1024) f, Fin.sum_univ_four]
  rfl

end Cert.InFwdSpec

namespace Cert.InFwdIdeal.Pair

open Cert.InFwdIdeal Cert.InFwdIdeal.Gen Idealize.ShloMosaic Idealize.ShloMosaic.TcCoe Idealize.SL.Sem
open Idealize.ShloMosaic.Pipeline (Dat)
open Cert.Lift Cert.InFwdSpec

theorem idx0 : ∀ t : Fin cfg0.N, win0_0.index t 0 = t.val ∧ win0_0.index t 1 = 0 :=
  (by decide +kernel : ∀ t : Fin grid0.N, _)
theorem idx1 : ∀ t : Fin cfg0.N, win0_1.index t 0 = 0 ∧ win0_1.index t 1 = 0 ∧ win0_1.index t 2 = 0 :=
  (by decide +kernel : ∀ t : Fin grid0.N, _)
theorem idx2 : ∀ t : Fin cfg0.N, win0_2.index t 0 = 0 ∧ win0_2.index t 1 = 0 ∧ win0_2.index t 2 = 0 :=
  (by decide +kernel : ∀ t : Fin grid0.N, _)
theorem idx3 : ∀ t : Fin cfg0.N, win0_3.index t 0 = 0 ∧ win0_3.index t 1 = 0 ∧ win0_3.index t 2 = 0 :=
  (by decide +kernel : ∀ t : Fin grid0.N, _)
theorem idx4 : ∀ t : Fin cfg0.N, win0_4.index t 0 = 0 ∧ win0_4.index t 1 = 0 ∧ win0_4.index t 2 = 0 :=
  (by decide +kernel : ∀ t : Fin grid0.N, _)
theorem idx5 : ∀ t : Fin cfg0.N, win0_5.index t 0 = 0 ∧ win0_5.index t 1 = 0 ∧ win0_5.index t 2 = 0 :=
  (by decide +kernel : ∀ t : Fin grid0.N, _)
theorem idx6 : ∀ t : Fin cfg0.N, win0_6.index t 0 = t.val ∧ win0_6.index t 1 = 0 :=
  (by decide +kernel : ∀ t : Fin grid0.N, _)
theorem idx7 : ∀ t : Fin cfg0.N, win0_7.index t 0 = t.val ∧ win0_7.index t 1 = 0 :=
  (by decide +kernel : ∀ t : Fin grid0.N, _)

theorem lt8 (t : Fin cfg0.N) : t.val < 8 := lt_of_lt_of_eq t.isLt N_0

/-- The row of the whole array that row `a` of grid point `t`'s block is. -/
def row (t : Fin cfg0.N) (a : Fin 512) : Fin 4096 := ⟨t.val * 512 + a.val, by have := lt8 t; omega⟩

variable (m : (ℓ : Loc nD τ sig) → Buf (Elt Ideal) ℓ) (c : Dev nD)

abbrev argX : S1x4096x1024.Idx → EReal := m ((c : Thread nD τ).loc main_arg0)
abbrev argG : S1024.Idx → EReal := m ((c : Thread nD τ).loc main_arg1)
abbrev argW : S1024x6144.Idx → EReal := m ((c : Thread nD τ).loc main_arg2)

theorem blk0 (t : Fin cfg0.N) (a : Fin 512) (j : Fin 1024) : iblk m c 0 t (ix2 a j) = argX m c (ix3 0 (row t a) j) := by
  blk_ext! [iblk, V, idx0 t, row]
theorem blk1 (t : Fin cfg0.N) (j : Fin 1024) : iblk m c 1 t (ix3 0 0 j) = argG m c (ix1 j) := by
  blk_ext! [iblk, V, idx1 t]
theorem blk2 (t : Fin cfg0.N) (s : Fin 8) (k : Fin 256) (a : Fin 768) :
    iblk m c 2 t (ix3 s k a) = argW m c (ix2 ⟨0 + k.val, by omega⟩ ⟨s.val * 768 + a.val, by omega⟩) := by
  blk_ext! [iblk, V, idx2 t]
theorem blk3 (t : Fin cfg0.N) (s : Fin 8) (k : Fin 256) (a : Fin 768) :
    iblk m c 3 t (ix3 s k a) = argW m c (ix2 ⟨256 + k.val, by omega⟩ ⟨s.val * 768 + a.val, by omega⟩) := by
  blk_ext! [iblk, V, idx3 t]
theorem blk4 (t : Fin cfg0.N) (s : Fin 8) (k : Fin 256) (a : Fin 768) :
    iblk m c 4 t (ix3 s k a) = argW m c (ix2 ⟨512 + k.val, by omega⟩ ⟨s.val * 768 + a.val, by omega⟩) := by
  blk_ext! [iblk, V, idx4 t]
theorem blk5 (t : Fin cfg0.N) (s : Fin 8) (k : Fin 256) (a : Fin 768) :
    iblk m c 5 t (ix3 s k a) = argW m c (ix2 ⟨768 + k.val, by omega⟩ ⟨s.val * 768 + a.val, by omega⟩) := by
  blk_ext! [iblk, V, idx5 t]

/-- The normed block. -/
theorem pay3_at (t : Fin cfg0.N) (a : Fin 512) (k : Fin 1024) :
    k0_pay3 (View.ld (iblk m c 0 t) r0_0) (View.ld (iblk m c 1 t) r0_1) (ix2 a k) = h (argX m c) (argG m c) (ix2 (row t a) k) := by
  have b0 := blk0 m c t
  have b1 := blk1 m c t
  generalize iblk m c 0 t = B0 at b0 ⊢
  generalize iblk m c 1 t = B1 at b1 ⊢
  pointwise [k0_pay3]
  simp only [b0, b1]
  rfl

/-- The kernel's normed stream. -/
theorem arr7 : (dats m 0 c).arrAt 7 cfg0.N = h (argX m c) (argG m c) := by
  refine (dats m 0 c).arrAt_eq_of_covers 7 _ (by decide +kernel) fun t hf i => ?_
  blk_simp
  rw [after0_7]
  unfold_out out0_7
  have e := pay3_at m c t
  generalize k0_pay3 (View.ld (iblk m c 0 t) r0_0) (View.ld (iblk m c 1 t) r0_1) = H at e ⊢
  frame_out
  idx_vars i
  rw [e]
  refine congrArg _ ?_
  blk_ext [idx7 t, row]

/-- Grid point `t`'s block of the projection. -/
def E (t : Fin cfg0.N) : S512x6144.Idx → Elt Ideal .bf16 := fun i => proj (argX m c) (argG m c) (argW m c) (ix2 (row t (i 0)) (i 1))

/-- An entry of the projection, summed up quarter by quarter. -/
theorem quad (t : Fin cfg0.N) (a : Fin 512) (s : Fin 8) (k : Fin 768) :
    ∑ x : Fin 256, h (argX m c) (argG m c) (ix2 (row t a) ⟨x.val, by omega⟩) * argW m c (ix2 ⟨0 + x.val, by omega⟩ ⟨s.val * 768 + k.val, by omega⟩)
      + ∑ x : Fin 256, h (argX m c) (argG m c) (ix2 (row t a) ⟨256 + x.val, by omega⟩) * argW m c (ix2 ⟨256 + x.val, by omega⟩ ⟨s.val * 768 + k.val, by omega⟩)
      + ∑ x : Fin 256, h (argX m c) (argG m c) (ix2 (row t a) ⟨512 + x.val, by omega⟩) * argW m c (ix2 ⟨512 + x.val, by omega⟩ ⟨s.val * 768 + k.val, by omega⟩)
      + ∑ x : Fin 256, h (argX m c) (argG m c) (ix2 (row t a) ⟨768 + x.val, by omega⟩) * argW m c (ix2 ⟨768 + x.val, by omega⟩ ⟨s.val * 768 + k.val, by omega⟩)
      = E m c t (ix2 a ⟨s.val * 768 + k.val, by omega⟩) := by
  refine Eq.trans ?_ (sum_four fun e : Fin 1024 => h (argX m c) (argG m c) (ix2 (row t a) e) * argW m c (ix2 e ⟨s.val * 768 + k.val, by omega⟩)).symm
  simp only [Nat.zero_add]

/-- What grid point `t` leaves in its block of the projection. -/
theorem out6 (t : Fin cfg0.N) (i : S512x6144.Idx) :
    out0_6 (iblk m c 0 t) (iblk m c 1 t) (iblk m c 2 t) (iblk m c 3 t) (iblk m c 4 t) (iblk m c 5 t) i = E m c t i := by
  have e := pay3_at m c t
  have b2 := blk2 m c t
  have b3 := blk3 m c t
  have b4 := blk4 m c t
  have b5 := blk5 m c t
  refine View.canon_apply_of_pieces (E m c t) _ ?_ i (cover0_6 _ _ _ _ _ _ _ _ i)
  unfold k0_pay20 k0_pay4 k0_pay5
  generalize k0_pay3 (View.ld (iblk m c 0 t) r0_0) (View.ld (iblk m c 1 t) r0_1) = H at e ⊢
  generalize iblk m c 2 t = B2 at b2 ⊢
  generalize iblk m c 3 t = B3 at b3 ⊢
  generalize iblk m c 4 t = B4 at b4 ⊢
  generalize iblk m c 5 t = B5 at b5 ⊢
  intro pc hpc
  simp only [List.mem_cons, List.not_mem_nil, or_false] at hpc
  rcases hpc with rfl | rfl | rfl | rfl | rfl | rfl | rfl | rfl
  all_goals
    intro x
    idx_vars x
    unfold_payloads
    pointwise []
    simp only [e, b2, b3, b4, b5]
    refine (quad m c t x0 _ x1).trans ?_
    refine congrArg (E m c t) (Shape.idx_ext₂ ?_ ?_) <;> simp [r0_3, r0_5, r0_7, r0_9, r0_11, r0_13, r0_15, r0_17, Rect.emb, Rect.unit]

/-- The kernel's projection. -/
theorem arr6 : (dats m 0 c).arrAt 6 cfg0.N = proj (argX m c) (argG m c) (argW m c) := by
  refine (dats m 0 c).arrAt_eq_of_covers 6 _ (by decide +kernel) fun t hf i => ?_
  blk_simp
  rw [after0_6, out6]
  idx_vars i
  refine congrArg (proj _ _ _) ?_
  blk_ext [idx6 t, row]

end Cert.InFwdIdeal.Pair

namespace Cert.InFwdRefIdeal.Pair

open Cert.InFwdRefIdeal Cert.InFwdRefIdeal.Gen Idealize.ShloMosaic Idealize.ShloMosaic.TcCoe Idealize.SL.Sem
open Cert.InFwdRefIdeal.Read Cert.Lift Cert.InFwdSpec

variable (x0 : S1x4096x1024.Idx → EReal) (x1 : S1024.Idx → EReal) (x2 : S1024x6144.Idx → EReal)

/-- The normed stream, in the shape the product takes. -/
theorem v12_at (r : Fin 4096) (k : Fin 1024) : val_main_v12 (F := Ideal) x0 x1 (ix3 0 r k) = h x0 x1 (ix2 r k) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The normed stream. -/
theorem v17_at (r : Fin 4096) (k : Fin 1024) : val_main_v17 (F := Ideal) x0 x1 (ix2 r k) = h x0 x1 (ix2 r k) := by
  pointwise [val_main_v17, val_main_v16]
  rw [v12_at]

/-- The projection. -/
theorem v15_at (r : Fin 4096) (k : Fin 6144) : val_main_v15 (F := Ideal) x0 x1 x2 (ix2 r k) = proj x0 x1 x2 (ix2 r k) := by
  pointwise [val_main_v15, val_main_v14, val_main_v13]
  simp only [v12_at]
  rfl

end Cert.InFwdRefIdeal.Pair

end
-- ==== Proof.InFwdClaim.lean ====
module

public import proofs.«01_k».proof.Defs
public import proofs.«01_k».proof.Proof.InFwd
public import proofs.«01_k».proof.Proof.Gen.InFwdRefIdeal.Run
public import Idealize.ShloMosaic.Lib.Quiescent

/-! # The norm and the input projection: the kernel and the reference agree over the reals -/

@[expose] public section

noncomputable section

namespace Cert.InFwdClaim

open Idealize.ShloMosaic Idealize.ShloMosaic.TcCoe Idealize.SL.Sem Cert.Lift Cert.InFwdSpec

/-- The reference runs and leaves its arguments as they were; it has no semaphore. -/
theorem frame_ref : Cert.quiescent_InFwdRefIdeal := fun m ρ _ =>
  (θ_run Cert.InFwdRefIdeal.defs _ _).mono (fun r h => ⟨fun c => (h c).2.2, sem_eq_zero_of_no_sems (by decide) r.2⟩)
    (Cert.InFwdRefIdeal.Value.run (F := Ideal) m ρ)

/-- Both programs leave the same projection and the same normed stream. -/
theorem algebraic : Cert.algebraic_InFwdIdeal_InFwdRefIdeal := by
  intro m ρ m' ρ' hpre hagree
  refine ⟨_, _, Cert.InFwdIdeal.Value.run_blocks m ρ, (θ_run _ _ _).mono (fun r h c => ?_) (Cert.InFwdRefIdeal.Value.run m' ρ')⟩
  obtain ⟨e0, e1, e2⟩ := hagree c
  obtain ⟨r0, r1, ra⟩ := h c
  refine ⟨r0.trans ?_, r1.trans ?_, ra⟩
  · rw [InFwdRefIdeal.Read.val_main_v15_eq, InFwdIdeal.Pair.arr6 m c]
    funext i
    idx_vars i
    rw [e0, e1, e2]
    exact InFwdRefIdeal.Pair.v15_at _ _ _ i0 i1
  · rw [InFwdRefIdeal.Read.val_main_v17_eq, InFwdIdeal.Pair.arr7 m c]
    funext i
    idx_vars i
    rw [e0, e1]
    exact InFwdRefIdeal.Pair.v17_at _ _ i0 i1

end Cert.InFwdClaim

end
-- ==== Proof.InFwdB.lean ====
module

public import proofs.«01_k».proof.Proof.Gen.InFwdBIdeal.Value
public import proofs.«01_k».proof.Proof.Gen.InFwdBRefIdeal.Read
public import proofs.«01_k».proof.Proof.InFwd

/-! # The norm and the input projection of a pooling block: the kernel and the reference, row by row

The same call with the weight in one piece and 4096 columns. Nothing is asked of the arguments. -/

@[expose] public section

set_option maxRecDepth 16384

noncomputable section

namespace Cert.InFwdBSpec

open Idealize.ShloMosaic Cert.Lift Cert.InFwdSpec

variable (x : (⟨3, ![1, 4096, 1024]⟩ : Shape).Idx → EReal) (g : (⟨1, ![1024]⟩ : Shape).Idx → EReal)
  (w : (⟨2, ![1024, 4096]⟩ : Shape).Idx → EReal)

/-- The projection. -/
def proj (i : (⟨2, ![4096, 4096]⟩ : Shape).Idx) : EReal := ∑ k : Fin 1024, h x g (ix2 (i 0) k) * w (ix2 k (i 1))

end Cert.InFwdBSpec

namespace Cert.InFwdBIdeal.Pair

open Cert.InFwdBIdeal Cert.InFwdBIdeal.Gen Idealize.ShloMosaic Idealize.ShloMosaic.TcCoe Idealize.SL.Sem
open Idealize.ShloMosaic.Pipeline (Dat)
open Cert.Lift Cert.InFwdSpec Cert.InFwdBSpec

theorem idx0 : ∀ t : Fin cfg0.N, win0_0.index t 0 = t.val ∧ win0_0.index t 1 = 0 :=
  (by decide +kernel : ∀ t : Fin grid0.N, _)
theorem idx1 : ∀ t : Fin cfg0.N, win0_1.index t 0 = 0 ∧ win0_1.index t 1 = 0 ∧ win0_1.index t 2 = 0 :=
  (by decide +kernel : ∀ t : Fin grid0.N, _)
theorem idx2 : ∀ t : Fin cfg0.N, win0_2.index t 0 = 0 ∧ win0_2.index t 1 = 0 ∧ win0_2.index t 2 = 0 :=
  (by decide +kernel : ∀ t : Fin grid0.N, _)
theorem idx3 : ∀ t : Fin cfg0.N, win0_3.index t 0 = t.val ∧ win0_3.index t 1 = 0 :=
  (by decide +kernel : ∀ t : Fin grid0.N, _)
theorem idx4 : ∀ t : Fin cfg0.N, win0_4.index t 0 = t.val ∧ win0_4.index t 1 = 0 :=
  (by decide +kernel : ∀ t : Fin grid0.N, _)

theorem lt8 (t : Fin cfg0.N) : t.val < 8 := lt_of_lt_of_eq t.isLt N_0

/-- The row of the whole array that row `a` of grid point `t`'s block is. -/
def row (t : Fin cfg0.N) (a : Fin 512) : Fin 4096 := ⟨t.val * 512 + a.val, by have := lt8 t; omega⟩

variable (m : (ℓ : Loc nD τ sig) → Buf (Elt Ideal) ℓ) (c : Dev nD)

abbrev argX : S1x4096x1024.Idx → EReal := m ((c : Thread nD τ).loc main_arg0)
abbrev argG : S1024.Idx → EReal := m ((c : Thread nD τ).loc main_arg1)
abbrev argW : S1024x4096.Idx → EReal := m ((c : Thread nD τ).loc main_arg2)

theorem blk0 (t : Fin cfg0.N) (a : Fin 512) (j : Fin 1024) : iblk m c 0 t (ix2 a j) = argX m c (ix3 0 (row t a) j) := by
  blk_ext! [iblk, V, idx0 t, row]
theorem blk1 (t : Fin cfg0.N) (j : Fin 1024) : iblk m c 1 t (ix3 0 0 j) = argG m c (ix1 j) := by
  blk_ext! [iblk, V, idx1 t]
theorem blk2 (t : Fin cfg0.N) (s : Fin 8) (k : Fin 1024) (a : Fin 512) :
    iblk m c 2 t (ix3 s k a) = argW m c (ix2 k ⟨s.val * 512 + a.val, by omega⟩) := by
  blk_ext! [iblk, V, idx2 t]

/-- The normed block. -/
theorem pay2_at (t : Fin cfg0.N) (a : Fin 512) (k : Fin 1024) :
    k0_pay2 (View.ld (iblk m c 0 t) r0_0) (View.ld (iblk m c 1 t) r0_1) (ix2 a k) = h (argX m c) (argG m c) (ix2 (row t a) k) := by
  have b0 := blk0 m c t
  have b1 := blk1 m c t
  generalize iblk m c 0 t = B0 at b0 ⊢
  generalize iblk m c 1 t = B1 at b1 ⊢
  pointwise [k0_pay2]
  simp only [b0, b1]
  rfl

/-- The kernel's normed stream. -/
theorem arr4 : (dats m 0 c).arrAt 4 cfg0.N = h (argX m c) (argG m c) := by
  refine (dats m 0 c).arrAt_eq_of_covers 4 _ (by decide +kernel) fun t hf i => ?_
  blk_simp
  rw [after0_4]
  unfold_out out0_4
  have e := pay2_at m c t
  generalize k0_pay2 (View.ld (iblk m c 0 t) r0_0) (View.ld (iblk m c 1 t) r0_1) = H at e ⊢
  frame_out
  idx_vars i
  rw [e]
  refine congrArg _ ?_
  blk_ext [idx4 t, row]

/-- Grid point `t`'s block of the projection. -/
def E (t : Fin cfg0.N) : S512x4096.Idx → Elt Ideal .bf16 := fun i => InFwdBSpec.proj (argX m c) (argG m c) (argW m c) (ix2 (row t (i 0)) (i 1))

/-- An entry of the projection. -/
theorem entry (t : Fin cfg0.N) (a : Fin 512) (s : Fin 8) (k : Fin 512) :
    ∑ x : Fin 1024, h (argX m c) (argG m c) (ix2 (row t a) x) * argW m c (ix2 x ⟨s.val * 512 + k.val, by omega⟩)
      = E m c t (ix2 a ⟨s.val * 512 + k.val, by omega⟩) := rfl

set_option maxHeartbeats 1000000 in
/-- What grid point `t` leaves in its block of the projection. -/
theorem out3 (t : Fin cfg0.N) (i : S512x4096.Idx) :
    out0_3 (iblk m c 0 t) (iblk m c 1 t) (iblk m c 2 t) i = E m c t i := by
  have e := pay2_at m c t
  have b2 := blk2 m c t
  refine View.canon_apply_of_pieces (E m c t) _ ?_ i (cover0_3 _ _ _ _ _ _ _ _ i)
  unfold k0_pay12 k0_pay3 k0_pay4
  generalize k0_pay2 (View.ld (iblk m c 0 t) r0_0) (View.ld (iblk m c 1 t) r0_1) = H at e ⊢
  generalize iblk m c 2 t = B2 at b2 ⊢
  intro pc hpc
  simp only [List.mem_cons, List.not_mem_nil, or_false] at hpc
  rcases hpc with rfl | rfl | rfl | rfl | rfl | rfl | rfl | rfl
  all_goals
    intro x
    idx_vars x
    unfold_payloads
    pointwise []
    simp only [e, b2]
    refine (entry m c t x0 _ x1).trans ?_
    refine congrArg (E m c t) (Shape.idx_ext₂ ?_ ?_) <;> simp [r0_3, r0_5, r0_7, r0_9, r0_11, r0_13, r0_15, r0_17, Rect.emb, Rect.unit]

/-- The kernel's projection. -/
theorem arr3 : (dats m 0 c).arrAt 3 cfg0.N = InFwdBSpec.proj (argX m c) (argG m c) (argW m c) := by
  refine (dats m 0 c).arrAt_eq_of_covers 3 _ (by decide +kernel) fun t hf i => ?_
  blk_simp
  rw [after0_3, out3]
  idx_vars i
  refine congrArg (InFwdBSpec.proj _ _ _) ?_
  blk_ext [idx3 t, row]

end Cert.InFwdBIdeal.Pair

namespace Cert.InFwdBRefIdeal.Pair

open Cert.InFwdBRefIdeal Cert.InFwdBRefIdeal.Gen Idealize.ShloMosaic Idealize.ShloMosaic.TcCoe Idealize.SL.Sem
open Cert.InFwdBRefIdeal.Read Cert.Lift Cert.InFwdSpec Cert.InFwdBSpec

variable (x0 : S1x4096x1024.Idx → EReal) (x1 : S1024.Idx → EReal) (x2 : S1024x4096.Idx → EReal)

/-- The normed stream, in the shape the product takes. -/
theorem v12_at (r : Fin 4096) (k : Fin 1024) : val_main_v12 (F := Ideal) x0 x1 (ix3 0 r k) = h x0 x1 (ix2 r k) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The normed stream. -/
theorem v17_at (r : Fin 4096) (k : Fin 1024) : val_main_v17 (F := Ideal) x0 x1 (ix2 r k) = h x0 x1 (ix2 r k) := by
  pointwise [val_main_v17, val_main_v16]
  rw [v12_at]

/-- The projection. -/
theorem v15_at (r : Fin 4096) (k : Fin 4096) : val_main_v15 (F := Ideal) x0 x1 x2 (ix2 r k) = InFwdBSpec.proj x0 x1 x2 (ix2 r k) := by
  pointwise [val_main_v15, val_main_v14, val_main_v13]
  simp only [v12_at]
  rfl

end Cert.InFwdBRefIdeal.Pair

end
-- ==== Proof.InFwdBClaim.lean ====
module

public import proofs.«01_k».proof.Defs
public import proofs.«01_k».proof.Proof.InFwdB
public import proofs.«01_k».proof.Proof.Gen.InFwdBRefIdeal.Run
public import Idealize.ShloMosaic.Lib.Quiescent

/-! # The norm and the input projection of a pooling block: the kernel and the reference agree over the reals -/

@[expose] public section

noncomputable section

namespace Cert.InFwdBClaim

open Idealize.ShloMosaic Idealize.ShloMosaic.TcCoe Idealize.SL.Sem Cert.Lift Cert.InFwdBSpec

/-- The reference runs and leaves its arguments as they were; it has no semaphore. -/
theorem frame_ref : Cert.quiescent_InFwdBRefIdeal := fun m ρ _ =>
  (θ_run Cert.InFwdBRefIdeal.defs _ _).mono (fun r h => ⟨fun c => (h c).2.2, sem_eq_zero_of_no_sems (by decide) r.2⟩)
    (Cert.InFwdBRefIdeal.Value.run (F := Ideal) m ρ)

/-- Both programs leave the same projection and the same normed stream. -/
theorem algebraic : Cert.algebraic_InFwdBIdeal_InFwdBRefIdeal := by
  intro m ρ m' ρ' hpre hagree
  refine ⟨_, _, Cert.InFwdBIdeal.Value.run_blocks m ρ, (θ_run _ _ _).mono (fun r h c => ?_) (Cert.InFwdBRefIdeal.Value.run m' ρ')⟩
  obtain ⟨e0, e1, e2⟩ := hagree c
  obtain ⟨r0, r1, ra⟩ := h c
  refine ⟨r0.trans ?_, r1.trans ?_, ra⟩
  · rw [InFwdBRefIdeal.Read.val_main_v15_eq, InFwdBIdeal.Pair.arr3 m c]
    funext i
    idx_vars i
    rw [e0, e1, e2]
    exact InFwdBRefIdeal.Pair.v15_at _ _ _ i0 i1
  · rw [InFwdBRefIdeal.Read.val_main_v17_eq, InFwdBIdeal.Pair.arr4 m c]
    funext i
    idx_vars i
    rw [e0, e1]
    exact InFwdBRefIdeal.Pair.v17_at _ _ i0 i1

end Cert.InFwdBClaim

end
-- ==== Proof.BPool.lean ====
module

public import proofs.«01_k».proof.Proof.Wide

/-! # The pooling mixer's windows, counted out

The trailing window of `w` rows that ends at row `t`, as a sum of its `w` entries. The kernel builds it by adding a copy of the rows
shifted by 1, then by 2, 4 and 8; the reference takes the difference of two running sums. -/

@[expose] public section

set_option maxRecDepth 16384

noncomputable section

namespace Cert.BPool

open Idealize.ShloMosaic Cert.Lift

/-- An array's entry at two plain numbers. -/
def ent {n k : ℕ} (f : (⟨2, ![n, k]⟩ : Shape).Idx → EReal) (a b : ℕ) : EReal :=
  if h : a < n ∧ b < k then f (ix2 ⟨a, h.1⟩ ⟨b, h.2⟩) else 0

theorem ent_at {n k : ℕ} (f : (⟨2, ![n, k]⟩ : Shape).Idx → EReal) (a : Fin n) (b : Fin k) : ent f a.val b.val = f (ix2 a b) := by
  rw [ent, dif_pos ⟨a.isLt, b.isLt⟩]

/-- A weight's entry at three plain numbers. -/
def ent3 {n k l : ℕ} (f : (⟨3, ![n, k, l]⟩ : Shape).Idx → EReal) (a b c : ℕ) : EReal :=
  if h : a < n ∧ b < k ∧ c < l then f (ix3 ⟨a, h.1⟩ ⟨b, h.2.1⟩ ⟨c, h.2.2⟩) else 0

theorem ent3_at {n k l : ℕ} (f : (⟨3, ![n, k, l]⟩ : Shape).Idx → EReal) (a : Fin n) (b : Fin k) (c : Fin l) :
    ent3 f a.val b.val c.val = f (ix3 a b c) := by
  rw [ent3, dif_pos ⟨a.isLt, b.isLt, c.isLt⟩]

section

variable (X : ℕ → ℕ → EReal)

/-- The last `w` rows up to row `t`, added up. -/
def win (w t c : ℕ) : EReal := ∑ k ∈ Finset.range w, if k ≤ t then X (t - k) c else 0

/-- How many rows the window at row `t` has. -/
def cnt (w t : ℕ) : EReal := (((IntOp.minsi (BitVec.ofNat 32 (t + 1)) (BitVec.ofNat 32 w)).toInt : ℝ) : EReal)

/-- The window's mean less the row itself. -/
def pooled (w t c : ℕ) : EReal := win X w t c * Ideal.div 1 (cnt w t) - X t c

/-- A group's pooled row through the group's map. -/
def om (W : ℕ → ℕ → ℕ → EReal) (g t k : ℕ) : EReal := ∑ e : Fin 512, pooled X (2 ^ (g + 1)) t (512 * g + e.val) * W g e.val k

/-- The gate. -/
def gate (z : EReal) : EReal :=
  z * (Ideal.ofBits .f32 0x3F000000#32 * Ideal.tanh (Ideal.ofBits .f32 0x3F000000#32 * z) + Ideal.ofBits .f32 0x3F000000#32)

end

/-- Row `r` of the 272 rows before tile `T`: the 16 rows carried over, none before the start, then the tile's own. -/
def ext (X : ℕ → ℕ → EReal) (T c r : ℕ) : EReal := if 16 ≤ 256 * T + r then X (256 * T + r - 16) c else 0

theorem ext_win (X : ℕ → ℕ → EReal) (T c w a : ℕ) (hw : w ≤ 16) :
    ∑ k ∈ Finset.range w, ext X T c (16 + a - k) = win X w (256 * T + a) c := by
  refine Finset.sum_congr rfl fun k hk => ?_
  have := Finset.mem_range.mp hk
  unfold ext
  by_cases h : k ≤ 256 * T + a
  · rw [if_pos (by omega), if_pos h]; congr 1; omega
  · rw [if_neg (by omega), if_neg h]

/-- One doubling: adding the copy shifted by `k` turns sums of `k` rows into sums of `2 k`. -/
theorem rot_step (E : ℕ → EReal) (v : FVec Ideal ⟨2, ![272, 512]⟩ .f32) (j : Fin 512) (k lo : ℕ) (b : BitVec 32) (hb : b.toNat = k) (hk : k < 272)
    (hr : (⟨2, ![272, 512]⟩ : Shape).Rotates 0 none)
    (h : ∀ r : Fin 272, lo ≤ r.val → v (ix2 r j) = ∑ i ∈ Finset.range k, E (r.val - i)) (r : Fin 272) (hlo : lo + k ≤ r.val) :
    addf v (dynamicRotate 0 b none v hr) (ix2 r j) = ∑ i ∈ Finset.range (k + k), E (r.val - i) := by
  have e : dynamicRotate 0 b none v hr (ix2 r j) = v (ix2 ⟨r.val - k, by omega⟩ j) := by
    rw [Pointwise.dynamicRotate_apply]
    refine congrArg v (funext fun a => Fin.ext ?_)
    match a with
    | ⟨0, _⟩ =>
      show (r.val + 272 - (b.toNat + 0) % 272) % 272 = r.val - k
      rw [hb]; omega
    | ⟨1, _⟩ => rfl
  show v (ix2 r j) + dynamicRotate 0 b none v hr (ix2 r j) = _
  rw [e, h r (by omega), h ⟨r.val - k, by omega⟩ (by show lo ≤ r.val - k; omega), Finset.sum_range_add]
  refine congrArg _ (Finset.sum_congr rfl fun i _ => ?_)
  show E (r.val - k - i) = _
  rw [Nat.sub_sub]

theorem cnt_pos (w t : ℕ) (ht : t < 4096) (hw0 : 0 < w) (hw : w ≤ 16) : ∃ n : ℕ, 0 < n ∧ cnt w t = (((n : ℝ)) : EReal) := by
  have e1 : (BitVec.ofNat 32 (t + 1)).toInt = ((t + 1 : ℕ) : ℤ) := by
    rw [BitVec.toInt_eq_toNat_of_lt] <;> simp only [BitVec.toNat_ofNat] <;> omega
  have e2 : (BitVec.ofNat 32 w).toInt = ((w : ℕ) : ℤ) := by
    rw [BitVec.toInt_eq_toNat_of_lt] <;> simp only [BitVec.toNat_ofNat] <;> omega
  unfold cnt IntOp.minsi
  split
  · exact ⟨t + 1, by omega, by rw [e1]; norm_cast⟩
  · exact ⟨w, by omega, by rw [e2]; norm_cast⟩

/-- Dividing by the count and multiplying by its reciprocal. -/
theorem div_cnt (x : EReal) (w t : ℕ) (ht : t < 4096) (hw0 : 0 < w) (hw : w ≤ 16) :
    Ideal.div x (cnt w t) = x * Ideal.div 1 (cnt w t) := by
  obtain ⟨n, hn, e⟩ := cnt_pos w t ht hw0 hw
  have h0 : ¬ (((n : ℝ) : EReal) = 0) := by
    intro h; have : (n : ℝ) = 0 := by exact_mod_cast h
    exact absurd (Nat.cast_eq_zero.mp this) (by omega)
  rw [e, Ideal.div, Ideal.div, if_neg h0, if_neg h0, one_mul]

/-- The running sum of a column, up to but not including row `n`. -/
def run (X : ℕ → ℕ → ℝ) (n c : ℕ) : ℝ := ∑ s ∈ Finset.range n, X s c

/-- The difference of two running sums is the window. -/
theorem run_win (X : ℕ → ℕ → ℝ) (w t c : ℕ) :
    (((run X (t + 1) c : ℝ) : EReal)) - ((run X (t + 1 - w) c : ℝ) : EReal) = win (fun a b => ((X a b : ℝ) : EReal)) w t c := by
  have hr : run X (t + 1) c - run X (t + 1 - w) c = ∑ k ∈ Finset.range w, if k ≤ t then X (t - k) c else 0 := by
    induction w with
    | zero => simp
    | succ w ih =>
      rw [Finset.sum_range_succ, ← ih]
      by_cases h : w ≤ t
      · rw [if_pos h]
        have e : t + 1 - w = (t + 1 - (w + 1)) + 1 := by omega
        have e' : t - w = t + 1 - (w + 1) := by omega
        rw [e, e']
        simp only [run, Finset.sum_range_succ]
        ring
      · rw [if_neg h, show t + 1 - w = t + 1 - (w + 1) by omega, add_zero]
  rw [← EReal.coe_sub, hr, ← coe_sum]
  refine Finset.sum_congr rfl fun k _ => ?_
  split <;> rfl

end Cert.BPool
-- ==== Proof.BMixDscHost.lean ====
module

public import proofs.«01_k».proof.Proof.Gen.BMixDscIdeal.Value
public import proofs.«01_k».proof.Proof.Gen.BMixDscRefIdeal.Read
public import proofs.«01_k».proof.Proof.BPool
public import Idealize.ShloMosaic.Lib.Pipeline.ReadBack

/-! # The pooling mixer's group maps, as the host saves them for the backward call

The lines of the host and the reference's are the same operations; read off in stretches: the running sums, then one group's map after another. -/

@[expose] public section
set_option maxRecDepth 16384

noncomputable section

namespace Cert.BMixDscIdeal.Pair

open Cert.BMixDscIdeal Cert.BMixDscIdeal.Gen Idealize.ShloMosaic Idealize.ShloMosaic.TcCoe Idealize.SL.Sem
open Idealize.ShloMosaic.Pipeline (Dat)
open Cert.Lift Cert.BPool
open Idealize.ShloMosaic.Tactic

variable (P : S4096x4096.Idx → EReal) (A : S4x512x512.Idx → EReal)

open Cert.BMixDscRefIdeal.Read (val_main_v4 val_main_v6 val_main_v7 val_main_v8 val_main_v9 val_main_v12 val_main_v28 val_main_v44 val_main_v60 val_main_v76 val_main_v77)

set_option maxHeartbeats 1000000 in
/-- The running sums with a zero in front and the row numbers. -/
theorem head (W : Valuation τ sig (Elt Ideal))
    (e8 : W (Proc.devRef .tc main_v8) = val_main_v6 (F := Ideal))
    (e9 : W (Proc.devRef .tc main_v9) = val_main_v7 (F := Ideal) P)
    (e6 : W (Proc.devRef .tc main_v6) = val_main_v4 (F := Ideal) P)
    (ea : W (Proc.devRef .tc main_arg1) = A) :
    StableHlo.after (hostOps0_2.take 6) W (Proc.devRef .tc main_v10) = val_main_v8 (F := Ideal) P ∧
    StableHlo.after (hostOps0_2.take 6) W (Proc.devRef .tc main_v11) = val_main_v9 (F := Ideal) P ∧
    StableHlo.after (hostOps0_2.take 6) W (Proc.devRef .tc main_v14) = val_main_v12 (F := Ideal) ∧
    StableHlo.after (hostOps0_2.take 6) W (Proc.devRef .tc main_v6) = val_main_v4 (F := Ideal) P ∧
    StableHlo.after (hostOps0_2.take 6) W (Proc.devRef .tc main_arg1) = A := by
  simp only [hostOps0_2, List.drop_succ_cons, List.drop_zero, List.take_succ_cons, List.take_zero]
  refine ⟨?_, ?_, ?_, ?_, ?_⟩
  all_goals
    entry_read
    first
    | assumption
    | try (generalize W (Proc.devRef .tc main_v8) = y8 at e8 ⊢; subst e8)
      try (generalize W (Proc.devRef .tc main_v9) = y9 at e9 ⊢; subst e9)
      try (generalize W (Proc.devRef .tc main_v6) = y6 at e6 ⊢; subst e6)
      try (generalize W (Proc.devRef .tc main_arg1) = ya at ea ⊢; subst ea)
      rfl

set_option maxHeartbeats 1000000 in
/-- The first group's map; what is read later stays. -/
theorem group0 (W : Valuation τ sig (Elt Ideal))
    (e10 : W (Proc.devRef .tc main_v10) = val_main_v8 (F := Ideal) P)
    (e11 : W (Proc.devRef .tc main_v11) = val_main_v9 (F := Ideal) P)
    (e14 : W (Proc.devRef .tc main_v14) = val_main_v12 (F := Ideal))
    (e6 : W (Proc.devRef .tc main_v6) = val_main_v4 (F := Ideal) P)
    (ea : W (Proc.devRef .tc main_arg1) = A) :
    StableHlo.after ((hostOps0_2.drop 6).take 18) W (Proc.devRef .tc main_v10) = val_main_v8 (F := Ideal) P ∧
    StableHlo.after ((hostOps0_2.drop 6).take 18) W (Proc.devRef .tc main_v11) = val_main_v9 (F := Ideal) P ∧
    StableHlo.after ((hostOps0_2.drop 6).take 18) W (Proc.devRef .tc main_v14) = val_main_v12 (F := Ideal) ∧
    StableHlo.after ((hostOps0_2.drop 6).take 18) W (Proc.devRef .tc main_v6) = val_main_v4 (F := Ideal) P ∧
    StableHlo.after ((hostOps0_2.drop 6).take 18) W (Proc.devRef .tc main_arg1) = A ∧
    StableHlo.after ((hostOps0_2.drop 6).take 18) W (Proc.devRef .tc main_v30) = val_main_v28 (F := Ideal) P A := by
  simp only [hostOps0_2, List.drop_succ_cons, List.drop_zero, List.take_succ_cons, List.take_zero]
  refine ⟨?_, ?_, ?_, ?_, ?_, ?_⟩
  all_goals
    entry_read
    first
    | assumption
    | try (generalize W (Proc.devRef .tc main_v10) = y10 at e10 ⊢; subst e10)
      try (generalize W (Proc.devRef .tc main_v11) = y11 at e11 ⊢; subst e11)
      try (generalize W (Proc.devRef .tc main_v14) = y14 at e14 ⊢; subst e14)
      try (generalize W (Proc.devRef .tc main_v6) = y6 at e6 ⊢; subst e6)
      try (generalize W (Proc.devRef .tc main_arg1) = ya at ea ⊢; subst ea)
      rfl

set_option maxHeartbeats 1000000 in
/-- The second group's map; what is read later stays. -/
theorem group1 (W : Valuation τ sig (Elt Ideal))
    (e10 : W (Proc.devRef .tc main_v10) = val_main_v8 (F := Ideal) P)
    (e11 : W (Proc.devRef .tc main_v11) = val_main_v9 (F := Ideal) P)
    (e14 : W (Proc.devRef .tc main_v14) = val_main_v12 (F := Ideal))
    (e6 : W (Proc.devRef .tc main_v6) = val_main_v4 (F := Ideal) P)
    (ea : W (Proc.devRef .tc main_arg1) = A)
    (e30 : W (Proc.devRef .tc main_v30) = val_main_v28 (F := Ideal) P A) :
    StableHlo.after ((hostOps0_2.drop 24).take 18) W (Proc.devRef .tc main_v10) = val_main_v8 (F := Ideal) P ∧
    StableHlo.after ((hostOps0_2.drop 24).take 18) W (Proc.devRef .tc main_v11) = val_main_v9 (F := Ideal) P ∧
    StableHlo.after ((hostOps0_2.drop 24).take 18) W (Proc.devRef .tc main_v14) = val_main_v12 (F := Ideal) ∧
    StableHlo.after ((hostOps0_2.drop 24).take 18) W (Proc.devRef .tc main_v6) = val_main_v4 (F := Ideal) P ∧
    StableHlo.after ((hostOps0_2.drop 24).take 18) W (Proc.devRef .tc main_arg1) = A ∧
    StableHlo.after ((hostOps0_2.drop 24).take 18) W (Proc.devRef .tc main_v30) = val_main_v28 (F := Ideal) P A ∧
    StableHlo.after ((hostOps0_2.drop 24).take 18) W (Proc.devRef .tc main_v46) = val_main_v44 (F := Ideal) P A := by
  simp only [hostOps0_2, List.drop_succ_cons, List.drop_zero, List.take_succ_cons, List.take_zero]
  refine ⟨?_, ?_, ?_, ?_, ?_, ?_, ?_⟩
  all_goals
    entry_read
    first
    | assumption
    | try (generalize W (Proc.devRef .tc main_v10) = y10 at e10 ⊢; subst e10)
      try (generalize W (Proc.devRef .tc main_v11) = y11 at e11 ⊢; subst e11)
      try (generalize W (Proc.devRef .tc main_v14) = y14 at e14 ⊢; subst e14)
      try (generalize W (Proc.devRef .tc main_v6) = y6 at e6 ⊢; subst e6)
      try (generalize W (Proc.devRef .tc main_arg1) = ya at ea ⊢; subst ea)
      try (generalize W (Proc.devRef .tc main_v30) = y30 at e30 ⊢; subst e30)
      rfl

set_option maxHeartbeats 1000000 in
/-- The third group's map; what is read later stays. -/
theorem group2 (W : Valuation τ sig (Elt Ideal))
    (e10 : W (Proc.devRef .tc main_v10) = val_main_v8 (F := Ideal) P)
    (e11 : W (Proc.devRef .tc main_v11) = val_main_v9 (F := Ideal) P)
    (e14 : W (Proc.devRef .tc main_v14) = val_main_v12 (F := Ideal))
    (e6 : W (Proc.devRef .tc main_v6) = val_main_v4 (F := Ideal) P)
    (ea : W (Proc.devRef .tc main_arg1) = A)
    (e30 : W (Proc.devRef .tc main_v30) = val_main_v28 (F := Ideal) P A)
    (e46 : W (Proc.devRef .tc main_v46) = val_main_v44 (F := Ideal) P A) :
    StableHlo.after ((hostOps0_2.drop 42).take 18) W (Proc.devRef .tc main_v10) = val_main_v8 (F := Ideal) P ∧
    StableHlo.after ((hostOps0_2.drop 42).take 18) W (Proc.devRef .tc main_v11) = val_main_v9 (F := Ideal) P ∧
    StableHlo.after ((hostOps0_2.drop 42).take 18) W (Proc.devRef .tc main_v14) = val_main_v12 (F := Ideal) ∧
    StableHlo.after ((hostOps0_2.drop 42).take 18) W (Proc.devRef .tc main_v6) = val_main_v4 (F := Ideal) P ∧
    StableHlo.after ((hostOps0_2.drop 42).take 18) W (Proc.devRef .tc main_arg1) = A ∧
    StableHlo.after ((hostOps0_2.drop 42).take 18) W (Proc.devRef .tc main_v30) = val_main_v28 (F := Ideal) P A ∧
    StableHlo.after ((hostOps0_2.drop 42).take 18) W (Proc.devRef .tc main_v46) = val_main_v44 (F := Ideal) P A ∧
    StableHlo.after ((hostOps0_2.drop 42).take 18) W (Proc.devRef .tc main_v62) = val_main_v60 (F := Ideal) P A := by
  simp only [hostOps0_2, List.drop_succ_cons, List.drop_zero, List.take_succ_cons, List.take_zero]
  refine ⟨?_, ?_, ?_, ?_, ?_, ?_, ?_, ?_⟩
  all_goals
    entry_read
    first
    | assumption
    | try (generalize W (Proc.devRef .tc main_v10) = y10 at e10 ⊢; subst e10)
      try (generalize W (Proc.devRef .tc main_v11) = y11 at e11 ⊢; subst e11)
      try (generalize W (Proc.devRef .tc main_v14) = y14 at e14 ⊢; subst e14)
      try (generalize W (Proc.devRef .tc main_v6) = y6 at e6 ⊢; subst e6)
      try (generalize W (Proc.devRef .tc main_arg1) = ya at ea ⊢; subst ea)
      try (generalize W (Proc.devRef .tc main_v30) = y30 at e30 ⊢; subst e30)
      try (generalize W (Proc.devRef .tc main_v46) = y46 at e46 ⊢; subst e46)
      rfl

set_option maxHeartbeats 1000000 in
/-- The fourth group's map; what is read later stays. -/
theorem group3 (W : Valuation τ sig (Elt Ideal))
    (e10 : W (Proc.devRef .tc main_v10) = val_main_v8 (F := Ideal) P)
    (e11 : W (Proc.devRef .tc main_v11) = val_main_v9 (F := Ideal) P)
    (e14 : W (Proc.devRef .tc main_v14) = val_main_v12 (F := Ideal))
    (e6 : W (Proc.devRef .tc main_v6) = val_main_v4 (F := Ideal) P)
    (ea : W (Proc.devRef .tc main_arg1) = A)
    (e30 : W (Proc.devRef .tc main_v30) = val_main_v28 (F := Ideal) P A)
    (e46 : W (Proc.devRef .tc main_v46) = val_main_v44 (F := Ideal) P A)
    (e62 : W (Proc.devRef .tc main_v62) = val_main_v60 (F := Ideal) P A) :
    StableHlo.after ((hostOps0_2.drop 60).take 18) W (Proc.devRef .tc main_v30) = val_main_v28 (F := Ideal) P A ∧
    StableHlo.after ((hostOps0_2.drop 60).take 18) W (Proc.devRef .tc main_v46) = val_main_v44 (F := Ideal) P A ∧
    StableHlo.after ((hostOps0_2.drop 60).take 18) W (Proc.devRef .tc main_v62) = val_main_v60 (F := Ideal) P A ∧
    StableHlo.after ((hostOps0_2.drop 60).take 18) W (Proc.devRef .tc main_v78) = val_main_v76 (F := Ideal) P A := by
  simp only [hostOps0_2, List.drop_succ_cons, List.drop_zero, List.take_succ_cons, List.take_zero]
  refine ⟨?_, ?_, ?_, ?_⟩
  all_goals
    entry_read
    first
    | assumption
    | try (generalize W (Proc.devRef .tc main_v10) = y10 at e10 ⊢; subst e10)
      try (generalize W (Proc.devRef .tc main_v11) = y11 at e11 ⊢; subst e11)
      try (generalize W (Proc.devRef .tc main_v14) = y14 at e14 ⊢; subst e14)
      try (generalize W (Proc.devRef .tc main_v6) = y6 at e6 ⊢; subst e6)
      try (generalize W (Proc.devRef .tc main_arg1) = ya at ea ⊢; subst ea)
      try (generalize W (Proc.devRef .tc main_v30) = y30 at e30 ⊢; subst e30)
      try (generalize W (Proc.devRef .tc main_v46) = y46 at e46 ⊢; subst e46)
      try (generalize W (Proc.devRef .tc main_v62) = y62 at e62 ⊢; subst e62)
      rfl

set_option maxHeartbeats 1000000 in
/-- The maps side by side. -/
theorem tail (W : Valuation τ sig (Elt Ideal))
    (e30 : W (Proc.devRef .tc main_v30) = val_main_v28 (F := Ideal) P A)
    (e46 : W (Proc.devRef .tc main_v46) = val_main_v44 (F := Ideal) P A)
    (e62 : W (Proc.devRef .tc main_v62) = val_main_v60 (F := Ideal) P A)
    (e78 : W (Proc.devRef .tc main_v78) = val_main_v76 (F := Ideal) P A) (i : Fin 4096) (j : Fin 2048) :
    (StableHlo.after (hostOps0_2.drop 78) W (Proc.devRef .tc main_v81) : S4096x2048.Idx → EReal) (ix2 i j) = val_main_v77 (F := Ideal) P A (ix3 0 i j) := by
  simp only [hostOps0_2, List.drop_succ_cons, List.drop_zero]
  entry_read
  show shapeCast S4096x2048 (concatenate S1x4096x2048 2 [⟨S1x4096x512, W (Proc.devRef .tc main_v30)⟩, ⟨S1x4096x512, W (Proc.devRef .tc main_v46)⟩,
    ⟨S1x4096x512, W (Proc.devRef .tc main_v62)⟩, ⟨S1x4096x512, W (Proc.devRef .tc main_v78)⟩]
    concatenates_S1x4096x512_S1x4096x512_S1x4096x512_S1x4096x512_S1x4096x2048_d2) shapeCasts_S1x4096x2048_S4096x2048 (ix2 i j) = _
  generalize W (Proc.devRef .tc main_v30) = y30 at e30 ⊢
  generalize W (Proc.devRef .tc main_v46) = y46 at e46 ⊢
  generalize W (Proc.devRef .tc main_v62) = y62 at e62 ⊢
  generalize W (Proc.devRef .tc main_v78) = y78 at e78 ⊢
  subst e30 e46 e62 e78
  refine Eq.trans (b := shapeCast S4096x2048 (val_main_v77 (F := Ideal) P A) shapeCasts_S1x4096x2048_S4096x2048 (ix2 i j)) rfl ?_
  generalize val_main_v77 (F := Ideal) P A = y
  pointwise []

variable (m : (ℓ : Loc nD τ sig) → Buf (Elt Ideal) ℓ) (c : Dev nD)

abbrev argP : S4096x4096.Idx → EReal := m ((c : Thread nD τ).loc main_arg0)
abbrev argW : S4x512x512.Idx → EReal := m ((c : Thread nD τ).loc main_arg1)
abbrev argD : S4096x2048.Idx → EReal := m ((c : Thread nD τ).loc main_arg3)

/-- The saved group maps, as the reference forms them. -/
def maps : S4096x2048.Idx → EReal := fun i => BMixDscRefIdeal.Read.val_main_v77 (F := Ideal) (argP m c) (argW m c) (ix3 0 (i 0) (i 1))

set_option maxHeartbeats 1000000 in
/-- The saved maps are the reference's. -/
theorem saved : (V m c main_v81 : S4096x2048.Idx → EReal) = maps m c := by
  have e0 : V m c main_v81 = StableHlo.after (hostOps0_2.drop 78) (StableHlo.after ((hostOps0_2.drop 60).take 18) (StableHlo.after ((hostOps0_2.drop 42).take 18)
      (StableHlo.after ((hostOps0_2.drop 24).take 18) (StableHlo.after ((hostOps0_2.drop 6).take 18) (StableHlo.after (hostOps0_2.take 6)
      (StableHlo.after hostOps0_1 (StableHlo.after hostOps0 (fun b => m (c, b))))))))) (Proc.devRef .tc main_v81) := by
    rw [← StableHlo.after_append, ← StableHlo.after_append, ← StableHlo.after_append, ← StableHlo.after_append, ← StableHlo.after_append, ← StableHlo.after_append,
      ← StableHlo.after_append]
    rfl
  have e6 : StableHlo.after hostOps0_1 (StableHlo.after hostOps0 (fun b => m (c, b))) (Proc.devRef .tc main_v6) = val_main_v4 (F := Ideal) (argP m c) := by
    entry_read
    rfl
  have e8 : StableHlo.after hostOps0_1 (StableHlo.after hostOps0 (fun b => m (c, b))) (Proc.devRef .tc main_v8) = val_main_v6 (F := Ideal) := by
    entry_read
    rfl
  have e9 : StableHlo.after hostOps0_1 (StableHlo.after hostOps0 (fun b => m (c, b))) (Proc.devRef .tc main_v9) = val_main_v7 (F := Ideal) (argP m c) := by
    entry_read
    rfl
  have ea : StableHlo.after hostOps0_1 (StableHlo.after hostOps0 (fun b => m (c, b))) (Proc.devRef .tc main_arg1) = argW m c := by
    entry_read
    rfl
  rw [e0]
  obtain ⟨a10, a11, a14, a6, aa⟩ := head (argP m c) (argW m c) _ e8 e9 e6 ea
  obtain ⟨b10, b11, b14, b6, ba, b30⟩ := group0 (argP m c) (argW m c) _ a10 a11 a14 a6 aa
  obtain ⟨c10, c11, c14, c6, ca, c30, c46⟩ := group1 (argP m c) (argW m c) _ b10 b11 b14 b6 ba b30
  obtain ⟨d10, d11, d14, d6, da, d30, d46, d62⟩ := group2 (argP m c) (argW m c) _ c10 c11 c14 c6 ca c30 c46
  obtain ⟨f30, f46, f62, f78⟩ := group3 (argP m c) (argW m c) _ d10 d11 d14 d6 da d30 d46 d62
  funext i
  idx_vars i
  exact tail (argP m c) (argW m c) _ f30 f46 f62 f78 i0 i1

end Cert.BMixDscIdeal.Pair
-- ==== Proof.BMixDsc.lean ====
module

public import proofs.«01_k».proof.Proof.BMixDscHost
public import proofs.«01_k».proof.Proof.BPool
public import Idealize.ShloMosaic.Lib.Pipeline.ReadBack

/-! # The gradient of the pooling mixer's scale: what the kernel accumulates

The kernel walks the tiles of 256 tokens from the last to the first; each adds its rows' terms, group by group, to the row of sums. -/

@[expose] public section
set_option maxRecDepth 16384

noncomputable section

namespace Cert.BMixDscIdeal.Pair

open Cert.BMixDscIdeal Cert.BMixDscIdeal.Gen Idealize.ShloMosaic Idealize.ShloMosaic.TcCoe Idealize.SL.Sem
open Idealize.ShloMosaic.Pipeline (Dat)
open Cert.Lift Cert.BPool
open Idealize.ShloMosaic.Tactic

theorem idx0 : ∀ t : Fin cfg0.N, win0_0.index t 0 = 15 - t.val ∧ win0_0.index t 1 = 0 := (by decide +kernel : ∀ t : Fin grid0.N, _)
theorem idx2 : ∀ t : Fin cfg0.N, win0_2.index t 0 = 15 - t.val ∧ win0_2.index t 1 = 0 := (by decide +kernel : ∀ t : Fin grid0.N, _)
theorem idx3 : ∀ t : Fin cfg0.N, win0_3.index t 0 = 15 - t.val ∧ win0_3.index t 1 = 0 := (by decide +kernel : ∀ t : Fin grid0.N, _)
theorem lt16 (t : Fin cfg0.N) : t.val < 16 := lt_of_lt_of_eq t.isLt N_0

variable (m : (ℓ : Loc nD τ sig) → Buf (Elt Ideal) ℓ) (c : Dev nD)

theorem blk0 (t : Fin cfg0.N) (a : Fin 256) (j : Fin 4096) : iblk m c 0 t (ix2 a j) = ent (argP m c) (256 * (15 - t.val) + a.val) j.val := by
  have := lt16 t
  refine Eq.trans ?_ (ent_at (argP m c) ⟨256 * (15 - t.val) + a.val, by omega⟩ j).symm
  blk_ext! [iblk, V, idx0 t]
theorem blk2 (t : Fin cfg0.N) (a : Fin 256) (j : Fin 2048) : iblk m c 2 t (ix2 a j) = ent (argD m c) (256 * (15 - t.val) + a.val) j.val := by
  have := lt16 t
  refine Eq.trans ?_ (ent_at (argD m c) ⟨256 * (15 - t.val) + a.val, by omega⟩ j).symm
  blk_ext! [iblk, V, idx2 t]
theorem blk3 (t : Fin cfg0.N) (a : Fin 256) (j : Fin 2048) : iblk m c 3 t (ix2 a j) = ent (maps m c) (256 * (15 - t.val) + a.val) j.val := by
  have := lt16 t
  have h1 : iblk m c 3 t (ix2 a j) = (V m c main_v81 : S4096x2048.Idx → EReal) (ix2 ⟨256 * (15 - t.val) + a.val, by omega⟩ j) := by
    blk_ext [iblk, idx3 t]
  rw [h1, saved]
  exact (ent_at (maps m c) ⟨256 * (15 - t.val) + a.val, by omega⟩ j).symm

/-- One row's term. -/
def trm (t j : ℕ) : EReal := ent (argD m c) t j * gate (ent (argP m c) t (2048 + j)) * ent (maps m c) t j

/-- What grid point `t` adds: its rows' terms. -/
def part (t : Fin cfg0.N) (i : S1x2048.Idx) : EReal := ∑ a : Fin 256, trm m c (256 * (15 - t.val) + a.val) (i 1).val

omit m c in
/-- Four stores side by side decide the row, whatever was stored before. -/
theorem fill (G : S1x2048.Idx → Elt Ideal .f32) (p3 p2 p1 p0 : S1x512.Idx → Elt Ideal .f32) (L' : List (View.Piece (Elt Ideal) S1x2048 .f32))
    (h3 : ∀ (r : Fin 1) (k : Fin 512), p3 (ix2 r k) = G (ix2 r ⟨1536 + k.val, by omega⟩))
    (h2 : ∀ (r : Fin 1) (k : Fin 512), p2 (ix2 r k) = G (ix2 r ⟨1024 + k.val, by omega⟩))
    (h1 : ∀ (r : Fin 1) (k : Fin 512), p1 (ix2 r k) = G (ix2 r ⟨512 + k.val, by omega⟩))
    (h0 : ∀ (r : Fin 1) (k : Fin 512), p0 (ix2 r k) = G (ix2 r ⟨0 + k.val, by omega⟩)) (i : S1x2048.Idx) :
    View.canon (Val := Elt Ideal) ([⟨Rect.unit ![0, 1536] ![1, 512] inb_S1x2048_S1x512_0_1536, p3⟩, ⟨Rect.unit ![0, 1024] ![1, 512] inb_S1x2048_S1x512_0_1024, p2⟩,
      ⟨Rect.unit ![0, 512] ![1, 512] inb_S1x2048_S1x512_0_512, p1⟩, ⟨Rect.unit ![0, 0] ![1, 512] inb_S1x2048_S1x512_0_0, p0⟩] ++ L') i = G i := by
  refine View.canon_append_of_piecesOf G L' _ ?_ i ?_
  on_goal 2 => exact View.cover_of_tiledL (s := S1x2048) _ S1x512.size (by sl_kernel_rfl) i
  refine ⟨fun x => ?_, fun x => ?_, fun x => ?_, fun x => ?_, trivial⟩
  all_goals
    idx_vars x
    first | rw [h3] | rw [h2] | rw [h1] | rw [h0]
    refine congrArg G (Shape.idx_ext₂ ?_ ?_) <;> simp [Rect.emb, Rect.unit]

set_option maxHeartbeats 1000000 in
theorem acc (i : S1x2048.Idx) :
    (outsAt0 m c t0_15.val t0_15.isLt).2.1 i = 0 + ∑ p : Fin cfg0.N, part m c p i := by
  refine Pipeline.eq_sum_fin_of_reset_step_apply_last (fun k h => (outsAt0 m c k h).2.1) 16 (fun _ => (0 : EReal)) (part m c) ?_ ?_
    (le_of_eq N_0) t0_15 N_0.symm i
  all_goals
    intro t h0 i
    by_cases h1 : t.val % 16 = 15
  · omega
  all_goals
    have b0 := blk0 m c t
    have b2 := blk2 m c t
    have b3 := blk3 m c t
    first | rw [outsAt0_A m c t h0 h1] | rw [outsAt0_B m c t h0 h1] | rw [outsAt0_C m c t h0 h1]
    frame_out
    generalize iblk m c 0 t = B0 at b0 ⊢
    generalize iblk m c 2 t = B2 at b2 ⊢
    generalize iblk m c 3 t = B3 at b3 ⊢
  · refine fill (fun i => 0 + part m c t i) _ _ _ _ [_] ?_ ?_ ?_ ?_ i
    all_goals
      intro r k
      simp (disch := decide) only [↓ View.readCov_skip, ↓ View.readCov_fill]
      unfold_payloads
      pointwise []
      simp only [b0, b2, b3]
      refine Finset.sum_congr rfl fun x _ => ?_
      first
      | rw [show 3584 + k.val = 2048 + (1536 + k.val) by omega]
      | rw [show 3072 + k.val = 2048 + (1024 + k.val) by omega]
      | rw [show 2560 + k.val = 2048 + (512 + k.val) by omega]
      | skip
      rfl
  all_goals
    generalize (outsAt0 m c (t.val - 1) _).2.1 = D
    refine fill (fun i => D i + part m c t i) _ _ _ _ [] ?_ ?_ ?_ ?_ i
    all_goals
      intro r k
      unfold_payloads
      pointwise []
      simp only [b0, b2, b3, read_unread_whole]
      obtain rfl : r = 0 := Subsingleton.elim _ _
      refine congrArg (D _ + ·) ?_
      refine Finset.sum_congr rfl fun x _ => ?_
      first
      | rw [show 3584 + k.val = 2048 + (1536 + k.val) by omega]
      | rw [show 3072 + k.val = 2048 + (1024 + k.val) by omega]
      | rw [show 2560 + k.val = 2048 + (512 + k.val) by omega]
      | skip
      rfl
/-- The tiles' rows are all rows. -/
theorem sum_rows (f : ℕ → EReal) : ∑ p : Fin cfg0.N, ∑ a : Fin 256, f (256 * (15 - p.val) + a.val) = ∑ r : Fin 4096, f r.val := by
  have h1 : ∑ p : Fin cfg0.N, ∑ a : Fin 256, f (256 * (15 - p.val) + a.val) = ∑ p : Fin 16, ∑ a : Fin 256, f (256 * (15 - p.val) + a.val) :=
    Fintype.sum_equiv (finCongr N_0) _ _ fun p => rfl
  rw [h1, ← Fin.sum_mul_add_fin 16 256 (fun r : Fin 4096 => f r.val) rfl, ← Equiv.sum_comp Fin.revPerm]
  refine Finset.sum_congr rfl fun p _ => Finset.sum_congr rfl fun a _ => congrArg f ?_
  simp only [Fin.revPerm_apply, Fin.val_rev]
  omega

/-- The gradient of the scale. -/
def dsc : S1x2048.Idx → EReal := fun i => ∑ r : Fin 4096, trm m c r.val (i 1).val

theorem idx7_last : win0_7.index t0_15 0 = 0 ∧ win0_7.index t0_15 1 = 0 := by decide +kernel

theorem arr7 : (dats m 0 c).arrAt 7 cfg0.N = dsc m c := by
  refine (dats m 0 c).arrAt_eq_of_after_last 7 t0_15 (by decide +kernel) _ fun i => ?_
  blk_simp
  rw [after0_7, acc]
  idx_vars i
  refine Eq.trans (b := dsc m c (ix2 i0 i1)) ?_ (congrArg _ ?_)
  · rw [zero_add]
    exact sum_rows fun r => trm m c r i1.val
  · blk_ext [idx7_last]

end Cert.BMixDscIdeal.Pair
-- ==== Proof.BCum.lean ====
module

public import proofs.«01_k».proof.Proof.BPool
public import proofs.«01_k».proof.Proof.Lift

/-! # The host's running sum down the rows

The reference forms its windows as differences of running sums. A running sum prints as a window of the whole height, padded above by one row less,
added up in the window's own order from the initial value; over the reals the order does not matter. -/

@[expose] public section

noncomputable section

namespace Cert.BPool

open Idealize.ShloMosaic Cert.Lift

/-- Adding up along a list is the sum. -/
theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- The rows of the window that lie inside the array are the rows up to its last. -/
theorem sum_inside (f : ℕ → ℝ) (j : ℕ) (hj : j < 4096) :
    (∑ n : Fin 4096, if 4095 ≤ j + n.val then f (j + n.val - 4095) else 0) = ∑ s ∈ Finset.range (j + 1), f s := by
  rw [Fin.sum_univ_eq_sum_range (fun n => if 4095 ≤ j + n then f (j + n - 4095) else 0) 4096, ← Finset.sum_filter]
  refine Finset.sum_nbij' (fun n => j + n - 4095) (fun s => s + 4095 - j) ?_ ?_ ?_ ?_ ?_ <;> intro a ha <;>
    simp only [Finset.mem_filter, Finset.mem_range] at ha ⊢ <;> omega

/-- The running sum as it prints. -/
theorem cumsum (x : (⟨3, ![1, 4096, 2048]⟩ : Shape).Idx → EReal) (X : ℕ → ℕ → ℝ) (hx : ∀ (i : Fin 4096) (c : Fin 2048), x (ix3 0 i c) = (X i.val c.val : EReal))
    (v : EReal) (hv : v = 0)
    (h : (⟨3, ![1, 4096, 2048]⟩ : Shape).ReduceWindows (![1, 4096, 1] : Fin 3 → Nat) ![1, 1, 1] ![0, 4095, 0] ![0, 0, 0] ⟨3, ![1, 4096, 2048]⟩) (j : Fin 4096) (c : Fin 2048) :
    Ideal.hostReduceWindowAdd ![1, 4096, 1] ![1, 1, 1] ![0, 4095, 0] ![0, 0, 0] h x v (ix3 0 j c) = (run X (j.val + 1) c.val : EReal) := by
  subst hv
  unfold Ideal.hostReduceWindowAdd Host.reduceWindow
  dsimp only
  rw [foldl_add, zero_add, ← Fin.sum_univ_def]
  refine (Finset.sum_congr rfl fun n _ => ?_).trans ((Equiv.sum_comp (Shape.rowMajor ⟨3, ![1, 4096, 1]⟩).symm (fun w : (⟨3, ![1, 4096, 1]⟩ : Shape).Idx =>
    (((if 4095 ≤ j.val + (w 1).val then X (j.val + (w 1).val - 4095) c.val else 0 : ℝ)) : EReal))).trans ?_)
  · have h0 := ((Shape.rowMajor ⟨3, ![1, 4096, 1]⟩).symm n 0).isLt
    have h2 := ((Shape.rowMajor ⟨3, ![1, 4096, 1]⟩).symm n 2).isLt
    change _ < 1 at h0
    change _ < 1 at h2
    have hj := j.isLt
    have hc := c.isLt
    split
    · next hin =>
      have h1 := hin 1
      change 4095 ≤ j.val * 1 + ((Shape.rowMajor ⟨3, ![1, 4096, 1]⟩).symm n 1).val
        ∧ j.val * 1 + ((Shape.rowMajor ⟨3, ![1, 4096, 1]⟩).symm n 1).val - 4095 < 4096 at h1
      rw [if_pos (by omega)]
      refine (congrArg x ?_).trans (hx ⟨j.val + ((Shape.rowMajor ⟨3, ![1, 4096, 1]⟩).symm n 1).val - 4095, by omega⟩ c)
      funext a
      refine Fin.ext ?_
      match a with
      | ⟨0, _⟩ => show 0 * 1 + ((Shape.rowMajor ⟨3, ![1, 4096, 1]⟩).symm n 0).val - 0 = 0; omega
      | ⟨1, _⟩ => show j.val * 1 + ((Shape.rowMajor ⟨3, ![1, 4096, 1]⟩).symm n 1).val - 4095 = _; rw [Nat.mul_one]; rfl
      | ⟨2, _⟩ => show c.val * 1 + ((Shape.rowMajor ⟨3, ![1, 4096, 1]⟩).symm n 2).val - 0 = c.val; omega
    · next hin =>
      rw [if_neg, EReal.coe_zero]
      refine fun hle => hin fun a => ?_
      have h1 := ((Shape.rowMajor ⟨3, ![1, 4096, 1]⟩).symm n 1).isLt
      change _ < 4096 at h1
      match a with
      | ⟨0, _⟩ =>
        show 0 ≤ 0 * 1 + ((Shape.rowMajor ⟨3, ![1, 4096, 1]⟩).symm n 0).val ∧ 0 * 1 + ((Shape.rowMajor ⟨3, ![1, 4096, 1]⟩).symm n 0).val - 0 < 1
        omega
      | ⟨1, _⟩ =>
        show 4095 ≤ j.val * 1 + ((Shape.rowMajor ⟨3, ![1, 4096, 1]⟩).symm n 1).val
          ∧ j.val * 1 + ((Shape.rowMajor ⟨3, ![1, 4096, 1]⟩).symm n 1).val - 4095 < 4096
        omega
      | ⟨2, _⟩ =>
        show 0 ≤ c.val * 1 + ((Shape.rowMajor ⟨3, ![1, 4096, 1]⟩).symm n 2).val ∧ c.val * 1 + ((Shape.rowMajor ⟨3, ![1, 4096, 1]⟩).symm n 2).val - 0 < 2048
        omega
  · rw [sum_idx3, Fintype.sum_unique]
    simp only [Fintype.sum_unique, ix3_1]
    rw [coe_sum]
    exact congrArg _ (sum_inside (fun s => X s c.val) j.val j.isLt)

end Cert.BPool

end
-- ==== Proof.BMixFwdRef.lean ====
module

public import proofs.«01_k».proof.Proof.Gen.BMixFwdRefIdeal.Read
public import proofs.«01_k».proof.Proof.BCum
public import proofs.«01_k».proof.Proof.AMixFwdSpec

/-! # What the reference of the forward pooling mixer computes, stage by stage

Each group subtracts two running sums, divides by the number of rows, subtracts the row and goes through the group's map. -/

@[expose] public section

set_option maxRecDepth 16384

noncomputable section

namespace Cert.BMixFwdRefIdeal.Pair

open Cert.BMixFwdRefIdeal Cert.BMixFwdRefIdeal.Gen Idealize.ShloMosaic Idealize.ShloMosaic.TcCoe Idealize.SL.Sem
open Cert.BMixFwdRefIdeal.Read Cert.Lift Cert.BPool Cert.AMixSpec

variable (x0 : S4096x4096.Idx → EReal) (x1 : S4x512x512.Idx → EReal) (x2 : S2048.Idx → EReal)
variable (X : ℕ → ℕ → ℝ) (hX : ∀ (t : Fin 4096) (k : Fin 4096), x0 (ix2 t k) = (X t.val k.val : EReal))

include hX

theorem v4_at (t : Fin 4096) (k : Fin 2048) : val_main_v4 (F := Ideal) x0 (ix3 0 t k) = (X t.val k.val : EReal) := by
  pointwise [val_main_v4, val_main_v1, val_main_v0]
  exact hX t ⟨k.val, by omega⟩

theorem v5_at (t : Fin 4096) (k : Fin 2048) : val_main_v5 (F := Ideal) x0 (ix3 0 t k) = (X t.val (2048 + k.val) : EReal) := by
  pointwise [val_main_v5, val_main_v3, val_main_v1, val_main_v0]
  exact hX t ⟨2048 + k.val, by omega⟩

/-- The running sums. -/
theorem v7_at (t : Fin 4096) (k : Fin 2048) : val_main_v7 (F := Ideal) x0 (ix3 0 t k) = (run X (t.val + 1) k.val : EReal) := by
  have e := v4_at x0 X hX
  have z : ∀ i, val_main_call0_call0_v0 (F := Ideal) i = 0 := fun i => by
    rw [val_main_call0_call0_v0_apply, val_main_call0_call0_cst_apply]
    simp [Ideal.ofBits, Ideal.ieee]
  unfold val_main_v7
  generalize val_main_v4 (F := Ideal) x0 = v at e ⊢
  unfold Host.reduceWindowAdd
  rw [Ideal.hostReduceWindowAdd_def]
  refine cumsum v X e _ ?_ _ t k
  exact z _

/-- The running sums with a zero in front. -/
theorem v8_at (t : Fin 4097) (k : Fin 2048) : val_main_v8 (F := Ideal) x0 (ix3 0 t k) = (run X t.val k.val : EReal) := by
  unfold val_main_v8
  have e := v7_at x0 X hX
  generalize val_main_v7 (F := Ideal) x0 = v at e ⊢
  pointwise [val_main_v6, val_main_cst]
  split
  · next h =>
    rw [show t.val = 0 by omega, run, Finset.range_zero, Finset.sum_empty]
    rfl
  · next h =>
    rw [e]
    show ((run X (t.val - 1 + 1) k.val : ℝ) : EReal) = _
    rw [Nat.sub_add_cancel (by omega)]

omit hX in
/-- A difference of running sums over the number of rows, less the row, is the pooled row. -/
theorem step (w p t c : ℕ) (hp : p + 1 = w) (hw : w ≤ 16) (ht : t < 4096) :
    Ideal.div (((run X (1 + t) c : ℝ) : EReal) - if t < p then 0 else ((run X (t - p) c : ℝ) : EReal))
        (FloatOps.sitofp (F := Ideal) FTy.f32 (IntOp.minsi (IntOp.addi 1#32 (BitVec.ofNat 32 t)) (BitVec.ofNat 32 w))) - (X t c : EReal)
      = pooled (fun a b => (X a b : EReal)) w t c := by
  have e1 : (if t < p then (0 : EReal) else ((run X (t - p) c : ℝ) : EReal)) = ((run X (t + 1 - w) c : ℝ) : EReal) := by
    split
    · next h => rw [show t + 1 - w = 0 by omega, run, Finset.range_zero, Finset.sum_empty]; rfl
    · next h => rw [show t + 1 - w = t - p by omega]
  have e2 : FloatOps.sitofp (F := Ideal) FTy.f32 (IntOp.minsi (IntOp.addi 1#32 (BitVec.ofNat 32 t)) (BitVec.ofNat 32 w)) = cnt w t := by
    rw [show IntOp.addi 1#32 (BitVec.ofNat 32 t) = BitVec.ofNat 32 (t + 1) by
      refine BitVec.eq_of_toNat_eq ?_; simp only [IntOp.addi, BitVec.toNat_add, BitVec.toNat_ofNat]; omega]
    rfl
  rw [e1, e2, Nat.add_comm 1 t, run_win, div_cnt _ w t ht (by omega) hw]
  rfl

/-- The first group's pooled rows. -/
theorem v25_at (t : Fin 4096) (k : Fin 512) : val_main_v25 (F := Ideal) x0 (ix3 0 t k) = pooled (fun a b => (X a b : EReal)) 2 t.val (512 * 0 + k.val) := by
  have e8 := v8_at x0 X hX
  have e4 := v4_at x0 X hX
  unfold val_main_v25 val_main_v24 val_main_v23 val_main_v22 val_main_v21 val_main_v20 val_main_v19 val_main_v15 val_main_v14 val_main_v9
  generalize val_main_v8 (F := Ideal) x0 = v8 at e8 ⊢
  generalize val_main_v4 (F := Ideal) x0 = v4 at e4 ⊢
  pointwise [val_main_v18, val_main_v17, val_main_v16, val_main_v12, val_main_v11, val_main_v10, val_main_v13, val_main_c, val_main_c_1, val_main_cst_0]
  simp only [e8, e4, dite_eq_ite]
  exact step X 2 1 t.val _ rfl (by omega) t.isLt

/-- Through the group's map. -/
theorem v28_at (t : Fin 4096) (k : Fin 512) : val_main_v28 (F := Ideal) x0 x1 (ix3 0 t k) = om (fun a b => (X a b : EReal)) (ent3 x1) 0 t.val k.val := by
  have e := v25_at x0 X hX
  unfold val_main_v28
  generalize val_main_v25 (F := Ideal) x0 = v at e ⊢
  pointwise [val_main_v27, val_main_v26]
  simp only [e]
  refine Finset.sum_congr rfl fun n _ => congrArg _ ?_
  exact (ent3_at x1 0 n k).symm

/-- The second group's pooled rows. -/
theorem v41_at (t : Fin 4096) (k : Fin 512) : val_main_v41 (F := Ideal) x0 (ix3 0 t k) = pooled (fun a b => (X a b : EReal)) 4 t.val (512 * 1 + k.val) := by
  have e8 := v8_at x0 X hX
  have e4 := v4_at x0 X hX
  unfold val_main_v41 val_main_v40 val_main_v39 val_main_v38 val_main_v37 val_main_v36 val_main_v35 val_main_v31 val_main_v30 val_main_v9
  generalize val_main_v8 (F := Ideal) x0 = v8 at e8 ⊢
  generalize val_main_v4 (F := Ideal) x0 = v4 at e4 ⊢
  pointwise [val_main_v34, val_main_v33, val_main_v32, val_main_v12, val_main_v11, val_main_v10, val_main_v29, val_main_c, val_main_c_3, val_main_cst_2]
  simp only [e8, e4, dite_eq_ite]
  exact step X 4 3 t.val _ rfl (by omega) t.isLt

/-- Through the group's map. -/
theorem v44_at (t : Fin 4096) (k : Fin 512) : val_main_v44 (F := Ideal) x0 x1 (ix3 0 t k) = om (fun a b => (X a b : EReal)) (ent3 x1) 1 t.val k.val := by
  have e := v41_at x0 X hX
  unfold val_main_v44
  generalize val_main_v41 (F := Ideal) x0 = v at e ⊢
  pointwise [val_main_v43, val_main_v42]
  simp only [e]
  refine Finset.sum_congr rfl fun n _ => congrArg _ ?_
  exact (ent3_at x1 1 n k).symm

/-- The third group's pooled rows. -/
theorem v57_at (t : Fin 4096) (k : Fin 512) : val_main_v57 (F := Ideal) x0 (ix3 0 t k) = pooled (fun a b => (X a b : EReal)) 8 t.val (512 * 2 + k.val) := by
  have e8 := v8_at x0 X hX
  have e4 := v4_at x0 X hX
  unfold val_main_v57 val_main_v56 val_main_v55 val_main_v54 val_main_v53 val_main_v52 val_main_v51 val_main_v47 val_main_v46 val_main_v9
  generalize val_main_v8 (F := Ideal) x0 = v8 at e8 ⊢
  generalize val_main_v4 (F := Ideal) x0 = v4 at e4 ⊢
  pointwise [val_main_v50, val_main_v49, val_main_v48, val_main_v12, val_main_v11, val_main_v10, val_main_v45, val_main_c, val_main_c_5, val_main_cst_4]
  simp only [e8, e4, dite_eq_ite]
  exact step X 8 7 t.val _ rfl (by omega) t.isLt

/-- Through the group's map. -/
theorem v60_at (t : Fin 4096) (k : Fin 512) : val_main_v60 (F := Ideal) x0 x1 (ix3 0 t k) = om (fun a b => (X a b : EReal)) (ent3 x1) 2 t.val k.val := by
  have e := v57_at x0 X hX
  unfold val_main_v60
  generalize val_main_v57 (F := Ideal) x0 = v at e ⊢
  pointwise [val_main_v59, val_main_v58]
  simp only [e]
  refine Finset.sum_congr rfl fun n _ => congrArg _ ?_
  exact (ent3_at x1 2 n k).symm

/-- The fourth group's pooled rows. -/
theorem v73_at (t : Fin 4096) (k : Fin 512) : val_main_v73 (F := Ideal) x0 (ix3 0 t k) = pooled (fun a b => (X a b : EReal)) 16 t.val (512 * 3 + k.val) := by
  have e8 := v8_at x0 X hX
  have e4 := v4_at x0 X hX
  unfold val_main_v73 val_main_v72 val_main_v71 val_main_v70 val_main_v69 val_main_v68 val_main_v67 val_main_v63 val_main_v62 val_main_v9
  generalize val_main_v8 (F := Ideal) x0 = v8 at e8 ⊢
  generalize val_main_v4 (F := Ideal) x0 = v4 at e4 ⊢
  pointwise [val_main_v66, val_main_v65, val_main_v64, val_main_v12, val_main_v11, val_main_v10, val_main_v61, val_main_c, val_main_c_7, val_main_cst_6]
  simp only [e8, e4, dite_eq_ite]
  exact step X 16 15 t.val _ rfl (by omega) t.isLt

/-- Through the group's map. -/
theorem v76_at (t : Fin 4096) (k : Fin 512) : val_main_v76 (F := Ideal) x0 x1 (ix3 0 t k) = om (fun a b => (X a b : EReal)) (ent3 x1) 3 t.val k.val := by
  have e := v73_at x0 X hX
  unfold val_main_v76
  generalize val_main_v73 (F := Ideal) x0 = v at e ⊢
  pointwise [val_main_v75, val_main_v74]
  simp only [e]
  refine Finset.sum_congr rfl fun n _ => congrArg _ ?_
  exact (ent3_at x1 3 n k).symm

/-- The four groups side by side. -/
theorem v77_at (t : Fin 4096) (j : Fin 2048) : val_main_v77 (F := Ideal) x0 x1 (ix3 0 t j)
    = om (fun a b => (X a b : EReal)) (ent3 x1) (j.val / 512) t.val (j.val % 512) := by
  have e0 := v28_at x0 x1 X hX
  have e1 := v44_at x0 x1 X hX
  have e2 := v60_at x0 x1 X hX
  have e3 := v76_at x0 x1 X hX
  unfold val_main_v77
  generalize val_main_v28 (F := Ideal) x0 x1 = v0 at e0 ⊢
  generalize val_main_v44 (F := Ideal) x0 x1 = v1 at e1 ⊢
  generalize val_main_v60 (F := Ideal) x0 x1 = v2 at e2 ⊢
  generalize val_main_v76 (F := Ideal) x0 x1 = v3 at e3 ⊢
  pointwise []
  split
  · rw [e0, show j.val / 512 = 0 by omega, show j.val % 512 = j.val by omega]
  · split
    · rw [e1, show j.val / 512 = 1 by omega, show j.val % 512 = j.val - 512 by omega]
    · split
      · rw [e2, show j.val / 512 = 2 by omega, show j.val % 512 = j.val - 512 - 512 by omega]
      · rw [e3, show j.val / 512 = 3 by omega, show j.val % 512 = j.val - 512 - 512 - 512 by omega]

/-- The gate. -/
theorem v81_at (t : Fin 4096) (j : Fin 2048) : val_main_v81 (F := Ideal) x0 (ix3 0 t j) = gate (X t.val (2048 + j.val) : EReal) := by
  pointwise [val_main_v81, val_main_call1_v5, val_main_call1_v4, val_main_call1_v3, val_main_call1_v2, val_main_call1_v1, val_main_call1_v0, val_main_call1_cst,
    val_main_call1_cst_0, val_main_v3, val_main_v1, val_main_v0]
  rw [hX _ ⟨2048 + j.val, by omega⟩, ← EReal.coe_neg, Ideal.exp_coe, ← EReal.coe_one, ← EReal.coe_add, div_coe_coe _ _ (by positivity), ← EReal.coe_mul]
  exact (congrArg _ (by rw [si, sg])).trans (si_coe _).symm

omit hX in
/-- The second result forms the same maps again. -/
theorem v158_eq : val_main_v158 (F := Ideal) x0 x1 = val_main_v77 (F := Ideal) x0 x1 := rfl

/-- The reference's mixed rows. -/
theorem v84_at (t : Fin 4096) (j : Fin 2048) : val_main_v84 (F := Ideal) x0 x1 x2 (ix2 t j)
    = om (fun a b => (X a b : EReal)) (ent3 x1) (j.val / 512) t.val (j.val % 512) * x2 (ix1 j) * gate (X t.val (2048 + j.val) : EReal) := by
  have e := v77_at x0 x1 X hX
  have e' := v81_at x0 X hX
  unfold val_main_v84 val_main_v83 val_main_v82 val_main_v80
  generalize val_main_v77 (F := Ideal) x0 x1 = v at e ⊢
  generalize val_main_v81 (F := Ideal) x0 = u at e' ⊢
  pointwise [val_main_v79, val_main_v78]
  rw [e, e']

/-- The reference's group maps. -/
theorem v160_at (t : Fin 4096) (j : Fin 2048) : val_main_v160 (F := Ideal) x0 x1 (ix2 t j)
    = om (fun a b => (X a b : EReal)) (ent3 x1) (j.val / 512) t.val (j.val % 512) := by
  have e := v77_at x0 x1 X hX
  unfold val_main_v160 val_main_v159
  rw [v158_eq]
  generalize val_main_v77 (F := Ideal) x0 x1 = v at e ⊢
  pointwise []
  rw [e]

end Cert.BMixFwdRefIdeal.Pair

end
-- ==== Proof.BMixDscRef.lean ====
module

public import proofs.«01_k».proof.Proof.Gen.BMixDscRefIdeal.Read
public import proofs.«01_k».proof.Proof.BMixFwdRef

/-! # What the reference of the gradient of the pooling mixer's scale computes

A sum over all rows of the saved maps times the gated gradient. -/

@[expose] public section

set_option maxRecDepth 16384

noncomputable section

namespace Cert.BMixDscRefIdeal.Pair

open Cert.BMixDscRefIdeal Cert.BMixDscRefIdeal.Gen Idealize.ShloMosaic Idealize.ShloMosaic.TcCoe Idealize.SL.Sem
open Cert.BMixDscRefIdeal.Read Cert.Lift Cert.BPool Cert.AMixSpec

variable (x0 : S4096x4096.Idx → EReal) (x1 : S4x512x512.Idx → EReal) (x3 : S4096x2048.Idx → EReal)

omit x0 x1 x3 in
/-- The gate by the logistic function, at every extended real: at either infinity the two forms are equal as well. -/
theorem gate_eq (z : EReal) : z * Ideal.div 1 (1 + Ideal.exp (-z)) = BPool.gate z := by
  have hb : (0 : EReal) < ((1 / 2 : ℝ) : EReal) := by exact_mod_cast (by norm_num : (0 : ℝ) < 1 / 2)
  unfold BPool.gate
  induction z using EReal.rec with
  | bot =>
    have e : Ideal.tanh (⊥ : EReal) = ((-1 : ℝ) : EReal) := rfl
    rw [ofBits_half, EReal.coe_mul_bot_of_pos (by norm_num), e, ← EReal.coe_mul, ← EReal.coe_add, EReal.neg_bot]
    have e2 : Ideal.exp (⊤ : EReal) = ⊤ := rfl
    rw [e2, show (1 : EReal) + ⊤ = ⊤ from rfl, Ideal.div, if_neg (by decide)]
    norm_num
  | top =>
    have e : Ideal.tanh (⊤ : EReal) = ((1 : ℝ) : EReal) := rfl
    rw [ofBits_half, EReal.coe_mul_top_of_pos (by norm_num), e, ← EReal.coe_mul, ← EReal.coe_add, EReal.neg_top]
    have e2 : Ideal.exp (⊥ : EReal) = 0 := rfl
    rw [e2, add_zero, ← EReal.coe_one, div_coe_coe _ _ (by norm_num)]
    norm_num
  | coe x =>
    rw [← EReal.coe_neg, Ideal.exp_coe, ← EReal.coe_one, ← EReal.coe_add, div_coe_coe _ _ (by positivity), ← EReal.coe_mul]
    exact (congrArg _ (by rw [si, sg])).trans (si_coe _).symm

/-- The gate. -/
theorem v81_at (t : Fin 4096) (j : Fin 2048) : val_main_v81 (F := Ideal) x0 (ix3 0 t j) = gate (x0 (ix2 t ⟨2048 + j.val, by omega⟩)) := by
  pointwise [val_main_v81, val_main_call1_v5, val_main_call1_v4, val_main_call1_v3, val_main_call1_v2, val_main_call1_v1, val_main_call1_v0, val_main_call1_cst,
    val_main_call1_cst_0, val_main_v3, val_main_v1, val_main_v0]
  exact gate_eq _

/-- The gradient of the scale. -/
theorem v90_at (j : Fin 2048) : val_main_v90 (F := Ideal) x0 x1 x3 (ix2 0 j)
    = ∑ r : Fin 4096, val_main_v77 (F := Ideal) x0 x1 (ix3 0 r j) * (x3 (ix2 r j) * gate (x0 (ix2 r ⟨2048 + j.val, by omega⟩))) := by
  have e := v81_at x0
  unfold val_main_v90 val_main_v89 val_main_v88 val_main_v87 val_main_v86 val_main_v85
  generalize val_main_v77 (F := Ideal) x0 x1 = v
  generalize val_main_v81 (F := Ideal) x0 = u at e ⊢
  pointwise [hostReduceAdd_unit_a01, val_main_v84, val_main_v83, val_main_cst_8, val_main_cst_9]
  simp only [e]

end Cert.BMixDscRefIdeal.Pair

end
-- ==== Proof.BMixDscClaim.lean ====
module

public import proofs.«01_k».proof.Defs
public import proofs.«01_k».proof.Proof.BMixDsc
public import proofs.«01_k».proof.Proof.BMixDscRef
public import proofs.«01_k».proof.Proof.Gen.BMixDscIdeal.Value
public import proofs.«01_k».proof.Proof.Gen.BMixDscRefIdeal.Run
public import Idealize.ShloMosaic.Lib.Quiescent

/-! # The gradient of the pooling mixer's scale: the kernel and the reference agree over the reals

The kernel's gate is a hyperbolic tangent, the reference's a logistic function; they agree at every extended real, so nothing is asked of the arguments. -/

@[expose] public section

noncomputable section

namespace Cert.BMixDscClaim

open Idealize.ShloMosaic Idealize.ShloMosaic.TcCoe Idealize.SL.Sem Cert.Lift Cert.BPool

/-- The reference runs and leaves its arguments as they were; it has no semaphore. -/
theorem frame_ref : Cert.quiescent_BMixDscRefIdeal := fun m ρ _ =>
  (θ_run Cert.BMixDscRefIdeal.defs _ _).mono (fun r h => ⟨fun c => (h c).2, sem_eq_zero_of_no_sems (by decide) r.2⟩)
    (Cert.BMixDscRefIdeal.Value.run (F := Ideal) m ρ)

/-- Equal arguments give equal gradients. -/
theorem val90 {a a' : BMixDscRefIdeal.S4096x4096.Idx → EReal} {b b' : BMixDscRefIdeal.S4x512x512.Idx → EReal} {d d' : BMixDscRefIdeal.S4096x2048.Idx → EReal}
    (e0 : a = a') (e1 : b = b') (e3 : d = d') :
    BMixDscRefIdeal.Read.val_main_v90 (F := Ideal) a b d = BMixDscRefIdeal.Read.val_main_v90 (F := Ideal) a' b' d' := by
  rw [e0, e1, e3]

/-- Both programs leave the same gradient. -/
theorem algebraic : Cert.algebraic_BMixDscIdeal_BMixDscRefIdeal := by
  intro m ρ m' ρ' hpre hagree
  refine ⟨_, (θ_run _ _ _).mono (fun r h c => ⟨(h c).2.1, (h c).2.2.2⟩) (Cert.BMixDscIdeal.Value.run_blocks m ρ), (θ_run _ _ _).mono (fun r h c => ?_) (Cert.BMixDscRefIdeal.Value.run m' ρ')⟩
  obtain ⟨e0, e1, e2, e3⟩ := hagree c
  obtain ⟨r0, ra⟩ := h c
  refine ⟨r0.trans ?_, ra⟩
  rw [BMixDscRefIdeal.Read.val_main_v90_eq, BMixDscIdeal.Pair.arr7]
  funext i
  idx_vars i
  obtain rfl : i0 = 0 := Subsingleton.elim _ _
  refine (congrFun (val90 e0 e1 e3) _).trans ?_
  refine (BMixDscRefIdeal.Pair.v90_at (BMixDscIdeal.Pair.argP m c) (BMixDscIdeal.Pair.argW m c) (BMixDscIdeal.Pair.argD m c) i1).trans ?_
  refine Finset.sum_congr rfl fun r _ => ?_
  unfold BMixDscIdeal.Pair.trm
  rw [mul_comm, ← ent_at (BMixDscIdeal.Pair.argP m c) r ⟨2048 + i1.val, by omega⟩, ← ent_at (BMixDscIdeal.Pair.argD m c) r i1]
  exact congrArg _ (ent_at (BMixDscIdeal.Pair.maps m c) r i1).symm

end Cert.BMixDscClaim

end
-- ==== Proof.BMixDwg.lean ====
module

public import proofs.«01_k».proof.Proof.Gen.BMixDwgIdeal.Value
public import proofs.«01_k».proof.Proof.BPool

/-! # The gradient of the pooling mixer's group maps: one group of one tile

A tile's rows under the sixteen before it are pooled, and the pooled rows are multiplied into the gated and scaled gradient. -/

@[expose] public section
set_option maxRecDepth 16384

noncomputable section

namespace Cert.BMixDwgIdeal.Pair

open Cert.BMixDwgIdeal Cert.BMixDwgIdeal.Gen Idealize.ShloMosaic Idealize.ShloMosaic.TcCoe Idealize.SL.Sem
open Idealize.ShloMosaic.Pipeline (Dat)
open Cert.Lift Cert.BPool

/-- The tile's rows under the sixteen before it. -/
def stack (p : FVec Ideal S16x512 .f32) (q : FVec Ideal S256x512 .f32) : FVec Ideal S272x512 .f32 :=
  concatenate (α := Ideal .f32) S272x512 0 [⟨S16x512, p⟩, ⟨S256x512, q⟩] concatenates_S16x512_S256x512_S272x512_d0

theorem stack_fold (p : FVec Ideal S16x512 .f32) (q : FVec Ideal S256x512 .f32) :
    concatenate (α := Ideal .f32) S272x512 0 [⟨S16x512, p⟩, ⟨S256x512, q⟩] concatenates_S16x512_S256x512_S272x512_d0 = stack p q := rfl

/-- The stack with copies shifted by 1, by 1 and 2, … added. -/
def once (v : FVec Ideal S272x512 .f32) (b : BitVec 32) : FVec Ideal S272x512 .f32 := addf v (dynamicRotate (α := Ideal .f32) 0 b (none : Option (ℕ × Fin 2)) v rotates_S272x512_d0)

theorem once_fold (v : FVec Ideal S272x512 .f32) (b : BitVec 32) : addf v (dynamicRotate (α := Ideal .f32) 0 b (none : Option (ℕ × Fin 2)) v rotates_S272x512_d0) = once v b := rfl

theorem word (T a : ℕ) : IntOp.addi (Scalar.addi (Scalar.muli (BitVec.ofNat 32 T) 256#32) 1#32) (BitVec.ofNat 32 a) = BitVec.ofNat 32 (256 * T + a + 1) := by
  refine BitVec.eq_of_toNat_eq ?_
  simp only [IntOp.addi, Scalar.addi, Scalar.muli, IntOp.muli, BitVec.toNat_add, BitVec.toNat_mul, BitVec.toNat_ofNat]
  omega

/-- The tile has rows before it unless it is the first. -/
theorem hist (i : grid0.Coords) (n : ℕ) (hn : n < 16) (hi : (i 0).val = n) : k0_pay15 (F := Ideal) i = if n < 15 then 1 else 0 := by
  unfold k0_pay15
  rw [hi]
  show (((BitVec.toInt (Scalar.extui (Scalar.cmpi .sgt (Scalar.subi 15#32 (BitVec.ofNat 32 n)) 0#32) : BitVec 32) : ℤ) : ℝ) : EReal) = _
  have h : (Scalar.extui (Scalar.cmpi .sgt (Scalar.subi 15#32 (BitVec.ofNat 32 n)) 0#32) : BitVec 32).toInt = if n < 15 then 1 else 0 := by
    interval_cases n <;> rfl
  rw [h]
  split <;> norm_num

/-- The tile's number. -/
theorem tileno (n : ℕ) (hn : n < 16) : Scalar.subi 15#32 (BitVec.ofNat 32 n) = BitVec.ofNat 32 (15 - n) := by
  interval_cases n <;> rfl

section group

variable {X : ℕ → ℕ → EReal} {g T : ℕ} {p : FVec Ideal S16x512 .f32} {q : FVec Ideal S256x512 .f32}

variable (X g T p q) in
/-- The tile holds rows `256 T …` of group `g`'s columns, over the sixteen rows before. -/
structure Holds : Prop where
  tile : ∀ (a : Fin 256) (j : Fin 512), q (ix2 a j) = X (256 * T + a.val) (512 * g + j.val)
  before : ∀ (r : Fin 16) (j : Fin 512), p (ix2 r j) = ext X T (512 * g + j.val) r.val

theorem stack_at (h : Holds X g T p q) (r : Fin 272) (j : Fin 512) : stack p q (ix2 r j) = ext X T (512 * g + j.val) r.val := by
  unfold stack
  pointwise []
  split
  · next h1 => exact h.before ⟨r.val, by omega⟩ j
  · next h1 =>
    refine (h.tile ⟨r.val - 16, by omega⟩ j).trans ?_
    unfold ext
    rw [if_pos (by omega)]
    congr 1
    show 256 * T + (r.val - 16) = _
    omega

theorem once1 (h : Holds X g T p q) (j : Fin 512) (r : Fin 272) (hr : 1 ≤ r.val) :
    once (stack p q) 1#32 (ix2 r j) = ∑ k ∈ Finset.range 2, ext X T (512 * g + j.val) (r.val - k) :=
  rot_step _ _ j 1 0 1#32 rfl (by omega) _ (fun r _ => by rw [stack_at h, Finset.sum_range_one]; rfl) r (by omega)

theorem once2 (h : Holds X g T p q) (j : Fin 512) (r : Fin 272) (hr : 3 ≤ r.val) :
    once (once (stack p q) 1#32) 2#32 (ix2 r j) = ∑ k ∈ Finset.range 4, ext X T (512 * g + j.val) (r.val - k) :=
  rot_step _ _ j 2 1 2#32 rfl (by omega) _ (once1 h j) r (by omega)

theorem once3 (h : Holds X g T p q) (j : Fin 512) (r : Fin 272) (hr : 7 ≤ r.val) :
    once (once (once (stack p q) 1#32) 2#32) 4#32 (ix2 r j) = ∑ k ∈ Finset.range 8, ext X T (512 * g + j.val) (r.val - k) :=
  rot_step _ _ j 4 3 4#32 rfl (by omega) _ (once2 h j) r (by omega)

theorem once4 (h : Holds X g T p q) (j : Fin 512) (r : Fin 272) (hr : 15 ≤ r.val) :
    once (once (once (once (stack p q) 1#32) 2#32) 4#32) 8#32 (ix2 r j) = ∑ k ∈ Finset.range 16, ext X T (512 * g + j.val) (r.val - k) :=
  rot_step _ _ j 8 7 8#32 rfl (by omega) _ (once3 h j) r (by omega)

end group

section pools

variable (X : ℕ → ℕ → EReal) (T : ℕ) (x : Vec Ideal S256x512 .bf16) (y : Vec Ideal S16x512 .bf16) (f : Ideal .f32)

/-- What a group reads of the projection: its tile, and the sixteen rows before it, zero before the start. -/
structure Reads (g : ℕ) : Prop where
  tile : ∀ (a : Fin 256) (j : Fin 512), x (ix2 a j) = X (256 * T + a.val) (512 * g + j.val)
  before : ∀ (r : Fin 16) (j : Fin 512), (y (ix2 r j) : EReal) * f = ext X T (512 * g + j.val) r.val

variable {X T x y f}

theorem Reads.holds {g : ℕ} (h : Reads X T x y f g) :
    Holds X g T (mulf (extf .f32 y bitsLt_bf16_f32 : FVec Ideal S16x512 .f32) (broadcast S16x512 f)) (extf .f32 x bitsLt_bf16_f32) :=
  ⟨h.tile, h.before⟩

/-- Group 0: windows of 2. -/
theorem pool0 (i : grid0.Coords) (hi : Scalar.subi 15#32 (BitVec.ofNat 32 (i 0).val) = BitVec.ofNat 32 T)
    (h : Reads X T x y (k0_pay15 (F := Ideal) i) 0) (a : Fin 256) (e : Fin 512) :
    k0_pay17 (F := Ideal) i x y (ix2 a e) = pooled X 2 (256 * T + a.val) (512 * 0 + e.val) := by
  unfold k0_pay17 k0_pay16
  simp only [stack_fold, once_fold]
  have s1 := once1 h.holds
  generalize once (stack _ _) 1#32 = v at s1 ⊢
  have s2 := fun (j : Fin 512) (a : Fin 256) => (s1 j ⟨16 + a.val, by omega⟩ (by show 1 ≤ 16 + a.val; omega)).trans (ext_win X T _ 2 a.val (by omega))
  pointwise []
  simp only [s2, h.tile, hi, word]
  rw [Nat.mul_zero, Nat.zero_add]
  rfl

/-- Group 1: windows of 4. -/
theorem pool1 (h : Reads X T x y f 1) (a : Fin 256) (e : Fin 512) :
    k0_pay36 (F := Ideal) f (k0_pay33 (BitVec.ofNat 32 T)) (k0_pay34 x) (k0_pay35 y) (ix2 a e) = pooled X 4 (256 * T + a.val) (512 * 1 + e.val) := by
  unfold k0_pay36 k0_pay35 k0_pay34 k0_pay33
  simp only [stack_fold, once_fold]
  have s1 := once2 h.holds
  generalize once (once (stack _ _) 1#32) 2#32 = v at s1 ⊢
  have s2 := fun (j : Fin 512) (a : Fin 256) => (s1 j ⟨16 + a.val, by omega⟩ (by show 3 ≤ 16 + a.val; omega)).trans (ext_win X T _ 4 a.val (by omega))
  pointwise []
  simp only [s2, h.tile, word]
  rfl

/-- Group 2: windows of 8. -/
theorem pool2 (h : Reads X T x y f 2) (a : Fin 256) (e : Fin 512) :
    k0_pay55 (F := Ideal) (BitVec.ofNat 32 T) f x y (ix2 a e) = pooled X 8 (256 * T + a.val) (512 * 2 + e.val) := by
  unfold k0_pay55 k0_pay54
  simp only [stack_fold, once_fold]
  have s1 := once3 h.holds
  generalize once (once (once (stack _ _) 1#32) 2#32) 4#32 = v at s1 ⊢
  have s2 := fun (j : Fin 512) (a : Fin 256) => (s1 j ⟨16 + a.val, by omega⟩ (by show 7 ≤ 16 + a.val; omega)).trans (ext_win X T _ 8 a.val (by omega))
  pointwise []
  simp only [s2, h.tile, word]
  rfl

/-- Group 3: windows of 16. -/
theorem pool3 (h : Reads X T x y f 3) (a : Fin 256) (e : Fin 512) :
    k0_pay75 (F := Ideal) f (k0_pay74 (BitVec.ofNat 32 T)) x y (ix2 a e) = pooled X 16 (256 * T + a.val) (512 * 3 + e.val) := by
  unfold k0_pay75 k0_pay74
  simp only [stack_fold, once_fold]
  have s1 := once4 h.holds
  generalize once (once (once (once (stack _ _) 1#32) 2#32) 4#32) 8#32 = v at s1 ⊢
  have s2 := fun (j : Fin 512) (a : Fin 256) => (s1 j ⟨16 + a.val, by omega⟩ (by show 15 ≤ 16 + a.val; omega)).trans (ext_win X T _ 16 a.val (by omega))
  pointwise []
  simp only [s2, h.tile, word]
  rfl

end pools

/-! ## What a group adds to its block of sums -/

section adds

variable (P : FVec Ideal S256x512 .f32) (z d : Vec Ideal S256x512 .bf16) (sc : Vec Ideal S1x512 .f32) (A : Vec Ideal S8x1x64x512 .f32)

/-- The products of a tile's pooled rows and its gated and scaled gradient. -/
def adds (s : Fin 8) (k : Fin 64) (j : Fin 512) : EReal :=
  ∑ a : Fin 256, P (ix2 a ⟨s.val * 64 + k.val, by omega⟩) * (d (ix2 a j) * gate (z (ix2 a j)) * sc (ix2 0 j))

theorem add0 (s : Fin 8) (k : Fin 64) (j : Fin 512) :
    k0_pay27 (F := Ideal) P (k0_pay18 z) (k0_pay19 z) d sc A (ix4 s 0 k j) = A (ix4 s 0 k j) + adds P z d sc s k j := by
  unfold k0_pay27 k0_pay26 k0_pay23 k0_pay22 k0_pay20 k0_pay19 k0_pay18 adds
  pointwise []
  rfl

theorem add1 (s : Fin 8) (k : Fin 64) (j : Fin 512) :
    k0_pay48 (F := Ideal) P (k0_pay41 sc) (k0_pay42 z d) A (ix4 s 0 k j) = A (ix4 s 0 k j) + adds P z d sc s k j := by
  unfold k0_pay48 k0_pay47 k0_pay42 k0_pay41 k0_pay39 k0_pay38 k0_pay37 adds
  pointwise []
  rfl

theorem add2 (s : Fin 8) (k : Fin 64) (j : Fin 512) :
    k0_pay68 (F := Ideal) (k0_pay67 P (k0_pay56 z) (k0_pay57 z) k0_pay58 d sc A) (ix4 s 0 k j) = A (ix4 s 0 k j) + adds P z d sc s k j := by
  unfold k0_pay68 k0_pay67 k0_pay66 k0_pay63 k0_pay62 k0_pay60 k0_pay59 k0_pay58 k0_pay57 k0_pay56 adds
  pointwise []
  rfl

theorem add3 (s : Fin 8) (k : Fin 64) (j : Fin 512) :
    k0_pay86 (F := Ideal) P (k0_pay80 sc) (k0_pay81 z d) A (ix4 s 0 k j) = A (ix4 s 0 k j) + adds P z d sc s k j := by
  unfold k0_pay86 k0_pay85 k0_pay81 k0_pay80 k0_pay78 k0_pay77 k0_pay76 adds
  pointwise []
  rfl

end adds

end Cert.BMixDwgIdeal.Pair

end
-- ==== Proof.BMixDwgSlabs.lean ====
module

public import proofs.«01_k».proof.Proof.BMixDwg
public import Idealize.ShloMosaic.Lib.Pipeline.ReadBack

/-! # The gradient of the pooling mixer's group maps: the eight stored slabs

The last point stores the accumulated blocks in eight slabs; together they are the buffer. -/

@[expose] public section
set_option maxRecDepth 16384

noncomputable section

namespace Cert.BMixDwgIdeal.Pair

open Cert.BMixDwgIdeal Cert.BMixDwgIdeal.Gen Idealize.ShloMosaic Idealize.ShloMosaic.TcCoe Idealize.SL.Sem
open Idealize.ShloMosaic.Pipeline (Dat)
open Cert.Lift Cert.BPool
open Idealize.ShloMosaic.Tactic

/-- One slab of the buffer, as it is stored. -/
abbrev slab (d : Vec Ideal S1x4x64x512 .f32) : FVec Ideal S1x4x64x512 .bf16 :=
  shapeCast S1x4x64x512 (truncf FTy.bf16 (shapeCast S4x64x512 d shapeCasts_S1x4x64x512_S4x64x512) bitsLt_bf16_f32) shapeCasts_S4x64x512_S1x4x64x512

theorem slab_at (d : Vec Ideal S1x4x64x512 .f32) (g : Fin 4) (k : Fin 64) (j : Fin 512) : slab d (ix4 0 g k j) = d (ix4 0 g k j) := by
  unfold slab
  pointwise []
  try rfl

/-- A slab read back from the buffer. -/
theorem slab_read {κ sp} (v : View sig κ sp S8x4x64x512 .f32) (L : List (View.Piece (Elt Ideal) S8x4x64x512 .f32)) (q : Fin 8)
    (inb : ∀ a, (![q.val, 0, 0, 0] : Fin 4 → ℕ) a + S1x4x64x512.size a ≤ S8x4x64x512.size a) (g : Fin 4) (k : Fin 64) (j : Fin 512) :
    slab (v.readCov L (Rect.unit (s := S8x4x64x512) ![q.val, 0, 0, 0] S1x4x64x512.size inb).toLoadRect) (ix4 0 g k j) = View.canon L (ix4 q g k j) := by
  rw [View.readCov_eq_canon', slab_at]
  generalize View.canon L = D
  refine congrArg D (funext fun a => Fin.ext ?_)
  fin_cases a <;> simp [Rect.unit, Rect.toLoadRect, LoadRect.idx]

theorem idx_eq (a a' : Fin 8) (b b' : Fin 4) (c c' : Fin 64) (d d' : Fin 512) (ha : a.val = a'.val) (hb : b.val = b'.val) (hc : c.val = c'.val) (hd : d.val = d'.val) :
    (ix4 a b c d : S8x4x64x512.Idx) = ix4 a' b' c' d' := by
  rw [Fin.ext ha, Fin.ext hb, Fin.ext hc, Fin.ext hd]

theorem e0 {p : S1x4x64x512.Idx → EReal} {G : Fin 4 → Fin 64 → Fin 512 → EReal} (h : ∀ g k j, p (ix4 0 g k j) = G g k j) (a : Fin 1) (g : Fin 4) (k : Fin 64) (j : Fin 512) :
    p (ix4 a g k j) = G g k j := by
  rw [Subsingleton.elim a 0, h]

/-- Storing the eight slabs of a buffer stores the buffer. -/
theorem regroup (D : S8x4x64x512.Idx → EReal) (p7 p6 p5 p4 p3 p2 p1 p0 : S1x4x64x512.Idx → Elt Ideal .bf16)
    (q7 : ∀ g k j, p7 (ix4 0 g k j) = D (ix4 7 g k j))
    (q6 : ∀ g k j, p6 (ix4 0 g k j) = D (ix4 6 g k j))
    (q5 : ∀ g k j, p5 (ix4 0 g k j) = D (ix4 5 g k j))
    (q4 : ∀ g k j, p4 (ix4 0 g k j) = D (ix4 4 g k j))
    (q3 : ∀ g k j, p3 (ix4 0 g k j) = D (ix4 3 g k j))
    (q2 : ∀ g k j, p2 (ix4 0 g k j) = D (ix4 2 g k j))
    (q1 : ∀ g k j, p1 (ix4 0 g k j) = D (ix4 1 g k j))
    (q0 : ∀ g k j, p0 (ix4 0 g k j) = D (ix4 0 g k j)) (s : Fin 8) (g : Fin 4) (k : Fin 64) (j : Fin 512) :
    View.canon (Val := Elt Ideal) (s := S8x4x64x512) (e := .bf16) [
      ⟨Rect.unit ![7, 0, 0, 0] S1x4x64x512.size inb_S8x4x64x512_S1x4x64x512_7_0_0_0, p7⟩,
      ⟨Rect.unit ![6, 0, 0, 0] S1x4x64x512.size inb_S8x4x64x512_S1x4x64x512_6_0_0_0, p6⟩,
      ⟨Rect.unit ![5, 0, 0, 0] S1x4x64x512.size inb_S8x4x64x512_S1x4x64x512_5_0_0_0, p5⟩,
      ⟨Rect.unit ![4, 0, 0, 0] S1x4x64x512.size inb_S8x4x64x512_S1x4x64x512_4_0_0_0, p4⟩,
      ⟨Rect.unit ![3, 0, 0, 0] S1x4x64x512.size inb_S8x4x64x512_S1x4x64x512_3_0_0_0, p3⟩,
      ⟨Rect.unit ![2, 0, 0, 0] S1x4x64x512.size inb_S8x4x64x512_S1x4x64x512_2_0_0_0, p2⟩,
      ⟨Rect.unit ![1, 0, 0, 0] S1x4x64x512.size inb_S8x4x64x512_S1x4x64x512_1_0_0_0, p1⟩,
      ⟨Rect.unit ![0, 0, 0, 0] S1x4x64x512.size inb_S8x4x64x512_S1x4x64x512_0_0_0_0, p0⟩] (ix4 s g k j) = D (ix4 s g k j) := by
  canon_tiles x h
  all_goals idx_vars x
  · exact (e0 q7 x0 x1 x2 x3).trans (congrArg D (idx_eq _ _ _ _ _ _ _ _ (by first | omega | (simp; omega)) (by omega) (by omega) (by omega)))
  · exact (e0 q6 x0 x1 x2 x3).trans (congrArg D (idx_eq _ _ _ _ _ _ _ _ (by first | omega | (simp; omega)) (by omega) (by omega) (by omega)))
  · exact (e0 q5 x0 x1 x2 x3).trans (congrArg D (idx_eq _ _ _ _ _ _ _ _ (by first | omega | (simp; omega)) (by omega) (by omega) (by omega)))
  · exact (e0 q4 x0 x1 x2 x3).trans (congrArg D (idx_eq _ _ _ _ _ _ _ _ (by first | omega | (simp; omega)) (by omega) (by omega) (by omega)))
  · exact (e0 q3 x0 x1 x2 x3).trans (congrArg D (idx_eq _ _ _ _ _ _ _ _ (by first | omega | (simp; omega)) (by omega) (by omega) (by omega)))
  · exact (e0 q2 x0 x1 x2 x3).trans (congrArg D (idx_eq _ _ _ _ _ _ _ _ (by first | omega | (simp; omega)) (by omega) (by omega) (by omega)))
  · exact (e0 q1 x0 x1 x2 x3).trans (congrArg D (idx_eq _ _ _ _ _ _ _ _ (by first | omega | (simp; omega)) (by omega) (by omega) (by omega)))
  · exact (e0 q0 x0 x1 x2 x3).trans (congrArg D (idx_eq _ _ _ _ _ _ _ _ (by first | omega | (simp; omega)) (by omega) (by omega) (by omega)))

variable (m : (ℓ : Loc nD τ sig) → Buf (Elt Ideal) ℓ) (c : Dev nD)

set_option maxHeartbeats 1000000 in
/-- The slabs stored at the last point are the accumulated blocks. -/
theorem slabs (s : Fin 8) (g : Fin 4) (k : Fin 64) (j : Fin 512) : (outsAt0 m c t0_15.val t0_15.isLt).2.2.1 (ix4 s g k j)
    = (outsAt0 m c t0_15.val t0_15.isLt).2.2.2.1 (ix4 s g k j) := by
  rw [outsAt0_C m c t0_15 (by decide) (by decide)]
  frame_out
  refine regroup _ _ _ _ _ _ _ _ _ ?_ ?_ ?_ ?_ ?_ ?_ ?_ ?_ s g k j
  all_goals intro g k j
  · exact slab_read _ _ 7 _ g k j
  · exact slab_read _ _ 6 _ g k j
  · exact slab_read _ _ 5 _ g k j
  · exact slab_read _ _ 4 _ g k j
  · exact slab_read _ _ 3 _ g k j
  · exact slab_read _ _ 2 _ g k j
  · exact slab_read _ _ 1 _ g k j
  · exact slab_read _ _ 0 _ g k j

end Cert.BMixDwgIdeal.Pair

end
-- ==== Proof.BMixDwgOut.lean ====
module

public import proofs.«01_k».proof.Proof.BMixDwg
public import proofs.«01_k».proof.Proof.BMixDwgSlabs
public import Idealize.ShloMosaic.Lib.Pipeline.ReadBack

/-! # The gradient of the pooling mixer's group maps: what the kernel accumulates

The kernel walks the tiles of 256 tokens from the last to the first; each adds its products, group by group, to a scratch buffer, and
the last point stores the buffer in eight slabs. -/

@[expose] public section
set_option maxRecDepth 16384

noncomputable section

namespace Cert.BMixDwgIdeal.Pair

open Cert.BMixDwgIdeal Cert.BMixDwgIdeal.Gen Idealize.ShloMosaic Idealize.ShloMosaic.TcCoe Idealize.SL.Sem
open Idealize.ShloMosaic.Pipeline (Dat)
open Cert.Lift Cert.BPool
open Idealize.ShloMosaic.Tactic

theorem idx0 : ∀ t : Fin cfg0.N, win0_0.index t 0 = 15 - t.val ∧ win0_0.index t 1 = 0 := (by decide +kernel : ∀ t : Fin grid0.N, _)
theorem idx1 : ∀ t : Fin cfg0.N, win0_1.index t 0 = 16 * (15 - t.val) - 1 ∧ win0_1.index t 1 = 0 := (by decide +kernel : ∀ t : Fin grid0.N, _)
theorem idx2 : ∀ t : Fin cfg0.N, win0_2.index t 0 = 15 - t.val ∧ win0_2.index t 1 = 0 := (by decide +kernel : ∀ t : Fin grid0.N, _)
theorem idx4 : ∀ t : Fin cfg0.N, win0_4.index t 0 = 0 ∧ win0_4.index t 1 = 0 := (by decide +kernel : ∀ t : Fin grid0.N, _)
theorem crd : ∀ t : Fin cfg0.N, (grid0.coords t 0).val = t.val := (by decide +kernel : ∀ t : Fin grid0.N, _)
theorem lt16 (t : Fin cfg0.N) : t.val < 16 := lt_of_lt_of_eq t.isLt N_0

variable (m : (ℓ : Loc nD τ sig) → Buf (Elt Ideal) ℓ) (c : Dev nD)

/-- The projection. -/
abbrev argP : S4096x4096.Idx → EReal := m ((c : Thread nD τ).loc main_arg0)
/-- The scale. -/
abbrev argS : S2048.Idx → EReal := m ((c : Thread nD τ).loc main_arg2)
/-- The incoming gradient. -/
abbrev argD : S4096x2048.Idx → EReal := m ((c : Thread nD τ).loc main_arg3)

theorem blk0 (t : Fin cfg0.N) (a : Fin 256) (j : Fin 4096) : iblk m c 0 t (ix2 a j) = ent (argP m c) (256 * (15 - t.val) + a.val) j.val := by
  have := lt16 t
  refine Eq.trans ?_ (ent_at (argP m c) ⟨256 * (15 - t.val) + a.val, by omega⟩ j).symm
  blk_ext! [iblk, V, idx0 t]
theorem blk1 (t : Fin cfg0.N) (r : Fin 16) (j : Fin 2048) : iblk m c 1 t (ix2 r j) = ent (argP m c) (16 * (16 * (15 - t.val) - 1) + r.val) j.val := by
  have := lt16 t
  refine Eq.trans ?_ (ent_at (argP m c) ⟨16 * (16 * (15 - t.val) - 1) + r.val, by omega⟩ ⟨j.val, by omega⟩).symm
  blk_ext! [iblk, V, idx1 t]
theorem blk2 (t : Fin cfg0.N) (a : Fin 256) (j : Fin 2048) : iblk m c 2 t (ix2 a j) = ent (argD m c) (256 * (15 - t.val) + a.val) j.val := by
  have := lt16 t
  refine Eq.trans ?_ (ent_at (argD m c) ⟨256 * (15 - t.val) + a.val, by omega⟩ j).symm
  blk_ext! [iblk, V, idx2 t]

/-- The scale by column. -/
def scl (j : ℕ) : EReal := if h : j < 2048 then argS m c (ix1 ⟨j, h⟩) else 0

set_option maxHeartbeats 1000000 in
theorem scale_row : (V m c main_v3 : S1x2048.Idx → EReal) = shapeCast S1x2048 (argS m c) shapeCasts_S2048_S1x2048 := by
  entry_read
  rfl

theorem blk4 (t : Fin cfg0.N) (j : Fin 2048) : iblk m c 4 t (ix2 0 j) = scl m c j.val := by
  have h1 : iblk m c 4 t (ix2 0 j) = (V m c main_v3 : S1x2048.Idx → EReal) (ix2 0 j) := by
    blk_ext [iblk, idx4 t]
  rw [h1, scale_row]
  unfold scl
  rw [dif_pos j.isLt]
  pointwise []

/-- The gated and scaled gradient. -/
def dm (r j : ℕ) : EReal := ent (argD m c) r j * gate (ent (argP m c) r (2048 + j)) * scl m c j

/-- What grid point `t` adds: its rows' products. -/
def part (t : Fin cfg0.N) (i : S8x4x64x512.Idx) : EReal :=
  ∑ a : Fin 256, pooled (ent (argP m c)) (2 ^ ((i 1).val + 1)) (256 * (15 - t.val) + a.val) (512 * (i 1).val + ((i 0).val * 64 + (i 2).val))
    * dm m c (256 * (15 - t.val) + a.val) (512 * (i 1).val + (i 3).val)

/-- What a group reads at a grid point. -/
theorem reads (t : Fin cfg0.N) (g : ℕ) (hg : g < 4) (x : Vec Ideal S256x512 .bf16) (y : Vec Ideal S16x512 .bf16)
    (hx : ∀ (a : Fin 256) (j : Fin 512), x (ix2 a j) = ent (argP m c) (256 * (15 - t.val) + a.val) (512 * g + j.val))
    (hy : ∀ (r : Fin 16) (j : Fin 512), y (ix2 r j) = ent (argP m c) (16 * (16 * (15 - t.val) - 1) + r.val) (512 * g + j.val)) :
    Reads (ent (argP m c)) (15 - t.val) x y (k0_pay15 (F := Ideal) (grid0.coords t)) g := by
  have := lt16 t
  refine ⟨hx, fun r j => ?_⟩
  rw [hist (grid0.coords t) t.val this (crd t), hy]
  unfold ext
  split
  · rw [if_pos (by omega), mul_one]
    congr 1
    omega
  · rw [if_neg (by omega), mul_zero]

/-- A group's products at a grid point. -/
theorem adds_part (t : Fin cfg0.N) (g : Fin 4) (P : FVec Ideal S256x512 .f32) (z d : Vec Ideal S256x512 .bf16) (sc : Vec Ideal S1x512 .f32)
    (hP : ∀ (a : Fin 256) (e : Fin 512), P (ix2 a e) = pooled (ent (argP m c)) (2 ^ (g.val + 1)) (256 * (15 - t.val) + a.val) (512 * g.val + e.val))
    (hz : ∀ (a : Fin 256) (j : Fin 512), z (ix2 a j) = ent (argP m c) (256 * (15 - t.val) + a.val) (2048 + (512 * g.val + j.val)))
    (hd : ∀ (a : Fin 256) (j : Fin 512), d (ix2 a j) = ent (argD m c) (256 * (15 - t.val) + a.val) (512 * g.val + j.val))
    (hs : ∀ j : Fin 512, sc (ix2 0 j) = scl m c (512 * g.val + j.val)) (s : Fin 8) (k : Fin 64) (j : Fin 512) :
    adds P z d sc s k j = part m c t (ix4 s g k j) := by
  unfold adds part dm
  refine Finset.sum_congr rfl fun a _ => ?_
  rw [hP, hz, hd, hs]
  rfl

theorem word_no (t : Fin cfg0.N) : Scalar.subi 15#32 (BitVec.ofNat 32 (grid0.coords t 0).val) = BitVec.ofNat 32 (15 - t.val) := by
  rw [crd t]
  exact tileno _ (lt16 t)

set_option maxHeartbeats 1000000 in
/-- The first group's block after a grid point. -/
theorem block0 (t : Fin cfg0.N) (A : Vec Ideal S8x1x64x512 .f32) (s : Fin 8) (k : Fin 64) (j : Fin 512) :
    k0_pay27 (F := Ideal) (k0_pay17 (grid0.coords t) (View.ld (iblk m c 0 t) (Rect.unit ![0, 0] ![256, 512] inb_S256x4096_S256x512_0_0)) (View.ld (iblk m c 1 t) (Rect.unit ![0, 0] ![16, 512] inb_S16x2048_S16x512_0_0))) (k0_pay18 (View.ld (iblk m c 0 t) (Rect.unit ![0, 2048] ![256, 512] inb_S256x4096_S256x512_0_2048))) (k0_pay19 (View.ld (iblk m c 0 t) (Rect.unit ![0, 2048] ![256, 512] inb_S256x4096_S256x512_0_2048))) (View.ld (iblk m c 2 t) (Rect.unit ![0, 0] ![256, 512] inb_S256x2048_S256x512_0_0)) (View.ld (iblk m c 4 t) (Rect.unit ![0, 0] ![1, 512] inb_S1x2048_S1x512_0_0)) A (ix4 s 0 k j)
      = A (ix4 s 0 k j) + part m c t (ix4 s 0 k j) := by
  refine (add0 _ _ _ _ _ s k j).trans (congrArg (A (ix4 s 0 k j) + ·) (adds_part m c t 0 _ _ _ _ (pool0 _ (word_no t) (reads m c t 0 (by omega) _ _ ?_ ?_)) ?_ ?_ ?_ s k j))
  · intro a j
    pointwise []
    exact (blk0 m c t _ _).trans (congrArg (ent (argP m c) _) (by simp))
  · intro a j
    pointwise []
    exact (blk1 m c t _ _).trans (congrArg (ent (argP m c) _) (by simp))
  · intro a j
    pointwise []
    exact (blk0 m c t _ _).trans (congrArg (ent (argP m c) _) (by simp; try omega))
  · intro a j
    pointwise []
    exact (blk2 m c t _ _).trans (congrArg (ent (argD m c) _) (by simp))
  · intro j
    pointwise []
    exact (blk4 m c t _).trans (congrArg (scl m c) (by simp))

set_option maxHeartbeats 1000000 in
/-- The second group's block after a grid point. -/
theorem block1 (t : Fin cfg0.N) (A : Vec Ideal S8x1x64x512 .f32) (s : Fin 8) (k : Fin 64) (j : Fin 512) :
    k0_pay48 (F := Ideal) (k0_pay36 (k0_pay15 (F := Ideal) (grid0.coords t)) (k0_pay33 (Scalar.subi 15#32 (BitVec.ofNat 32 (grid0.coords t 0).val))) (k0_pay34 (View.ld (iblk m c 0 t) (Rect.unit ![0, 512] ![256, 512] inb_S256x4096_S256x512_0_512))) (k0_pay35 (View.ld (iblk m c 1 t) (Rect.unit ![0, 512] ![16, 512] inb_S16x2048_S16x512_0_512)))) (k0_pay41 (View.ld (iblk m c 4 t) (Rect.unit ![0, 512] ![1, 512] inb_S1x2048_S1x512_0_512))) (k0_pay42 (View.ld (iblk m c 0 t) (Rect.unit ![0, 2560] ![256, 512] inb_S256x4096_S256x512_0_2560)) (View.ld (iblk m c 2 t) (Rect.unit ![0, 512] ![256, 512] inb_S256x2048_S256x512_0_512))) A (ix4 s 0 k j)
      = A (ix4 s 0 k j) + part m c t (ix4 s 1 k j) := by
  rw [word_no t]
  refine (add1 _ _ _ _ _ s k j).trans (congrArg (A (ix4 s 0 k j) + ·) (adds_part m c t 1 _ _ _ _ (pool1 (reads m c t 1 (by omega) _ _ ?_ ?_)) ?_ ?_ ?_ s k j))
  · intro a j
    pointwise []
    exact (blk0 m c t _ _).trans (congrArg (ent (argP m c) _) (by simp))
  · intro a j
    pointwise []
    exact (blk1 m c t _ _).trans (congrArg (ent (argP m c) _) (by simp))
  · intro a j
    pointwise []
    exact (blk0 m c t _ _).trans (congrArg (ent (argP m c) _) (by simp; try omega))
  · intro a j
    pointwise []
    exact (blk2 m c t _ _).trans (congrArg (ent (argD m c) _) (by simp))
  · intro j
    pointwise []
    exact (blk4 m c t _).trans (congrArg (scl m c) (by simp))

set_option maxHeartbeats 1000000 in
/-- The third group's block after a grid point. -/
theorem block2 (t : Fin cfg0.N) (A : Vec Ideal S8x1x64x512 .f32) (s : Fin 8) (k : Fin 64) (j : Fin 512) :
    k0_pay68 (F := Ideal) (k0_pay67 (k0_pay55 (Scalar.subi 15#32 (BitVec.ofNat 32 (grid0.coords t 0).val)) (k0_pay15 (F := Ideal) (grid0.coords t)) (View.ld (iblk m c 0 t) (Rect.unit ![0, 1024] ![256, 512] inb_S256x4096_S256x512_0_1024)) (View.ld (iblk m c 1 t) (Rect.unit ![0, 1024] ![16, 512] inb_S16x2048_S16x512_0_1024))) (k0_pay56 (View.ld (iblk m c 0 t) (Rect.unit ![0, 3072] ![256, 512] inb_S256x4096_S256x512_0_3072))) (k0_pay57 (View.ld (iblk m c 0 t) (Rect.unit ![0, 3072] ![256, 512] inb_S256x4096_S256x512_0_3072))) k0_pay58 (View.ld (iblk m c 2 t) (Rect.unit ![0, 1024] ![256, 512] inb_S256x2048_S256x512_0_1024)) (View.ld (iblk m c 4 t) (Rect.unit ![0, 1024] ![1, 512] inb_S1x2048_S1x512_0_1024)) A) (ix4 s 0 k j)
      = A (ix4 s 0 k j) + part m c t (ix4 s 2 k j) := by
  rw [word_no t]
  refine (add2 _ _ _ _ _ s k j).trans (congrArg (A (ix4 s 0 k j) + ·) (adds_part m c t 2 _ _ _ _ (pool2 (reads m c t 2 (by omega) _ _ ?_ ?_)) ?_ ?_ ?_ s k j))
  · intro a j
    pointwise []
    exact (blk0 m c t _ _).trans (congrArg (ent (argP m c) _) (by simp))
  · intro a j
    pointwise []
    exact (blk1 m c t _ _).trans (congrArg (ent (argP m c) _) (by simp))
  · intro a j
    pointwise []
    exact (blk0 m c t _ _).trans (congrArg (ent (argP m c) _) (by simp; try omega))
  · intro a j
    pointwise []
    exact (blk2 m c t _ _).trans (congrArg (ent (argD m c) _) (by simp))
  · intro j
    pointwise []
    exact (blk4 m c t _).trans (congrArg (scl m c) (by simp))

set_option maxHeartbeats 1000000 in
/-- The fourth group's block after a grid point. -/
theorem block3 (t : Fin cfg0.N) (A : Vec Ideal S8x1x64x512 .f32) (s : Fin 8) (k : Fin 64) (j : Fin 512) :
    k0_pay86 (F := Ideal) (k0_pay75 (k0_pay15 (F := Ideal) (grid0.coords t)) (k0_pay74 (Scalar.subi 15#32 (BitVec.ofNat 32 (grid0.coords t 0).val))) (View.ld (iblk m c 0 t) (Rect.unit ![0, 1536] ![256, 512] inb_S256x4096_S256x512_0_1536)) (View.ld (iblk m c 1 t) (Rect.unit ![0, 1536] ![16, 512] inb_S16x2048_S16x512_0_1536))) (k0_pay80 (View.ld (iblk m c 4 t) (Rect.unit ![0, 1536] ![1, 512] inb_S1x2048_S1x512_0_1536))) (k0_pay81 (View.ld (iblk m c 0 t) (Rect.unit ![0, 3584] ![256, 512] inb_S256x4096_S256x512_0_3584)) (View.ld (iblk m c 2 t) (Rect.unit ![0, 1536] ![256, 512] inb_S256x2048_S256x512_0_1536))) A (ix4 s 0 k j)
      = A (ix4 s 0 k j) + part m c t (ix4 s 3 k j) := by
  rw [word_no t]
  refine (add3 _ _ _ _ _ s k j).trans (congrArg (A (ix4 s 0 k j) + ·) (adds_part m c t 3 _ _ _ _ (pool3 (reads m c t 3 (by omega) _ _ ?_ ?_)) ?_ ?_ ?_ s k j))
  · intro a j
    pointwise []
    exact (blk0 m c t _ _).trans (congrArg (ent (argP m c) _) (by simp))
  · intro a j
    pointwise []
    exact (blk1 m c t _ _).trans (congrArg (ent (argP m c) _) (by simp))
  · intro a j
    pointwise []
    exact (blk0 m c t _ _).trans (congrArg (ent (argP m c) _) (by simp; try omega))
  · intro a j
    pointwise []
    exact (blk2 m c t _ _).trans (congrArg (ent (argD m c) _) (by simp))
  · intro j
    pointwise []
    exact (blk4 m c t _).trans (congrArg (scl m c) (by simp))

omit m c in
/-- Four stores, one per group, decide the buffer, whatever was stored before. -/
theorem fill (G : S8x4x64x512.Idx → Elt Ideal .f32) (p3 p2 p1 p0 : S8x1x64x512.Idx → Elt Ideal .f32) (L' : List (View.Piece (Elt Ideal) S8x4x64x512 .f32))
    (h3 : ∀ (s : Fin 8) (k : Fin 64) (j : Fin 512), p3 (ix4 s 0 k j) = G (ix4 s 3 k j))
    (h2 : ∀ (s : Fin 8) (k : Fin 64) (j : Fin 512), p2 (ix4 s 0 k j) = G (ix4 s 2 k j))
    (h1 : ∀ (s : Fin 8) (k : Fin 64) (j : Fin 512), p1 (ix4 s 0 k j) = G (ix4 s 1 k j))
    (h0 : ∀ (s : Fin 8) (k : Fin 64) (j : Fin 512), p0 (ix4 s 0 k j) = G (ix4 s 0 k j)) (i : S8x4x64x512.Idx) :
    View.canon (Val := Elt Ideal) ([⟨Rect.unit ![0, 3, 0, 0] ![8, 1, 64, 512] inb_S8x4x64x512_S8x1x64x512_0_3_0_0, p3⟩,
      ⟨Rect.unit ![0, 2, 0, 0] ![8, 1, 64, 512] inb_S8x4x64x512_S8x1x64x512_0_2_0_0, p2⟩,
      ⟨Rect.unit ![0, 1, 0, 0] ![8, 1, 64, 512] inb_S8x4x64x512_S8x1x64x512_0_1_0_0, p1⟩,
      ⟨Rect.unit ![0, 0, 0, 0] ![8, 1, 64, 512] inb_S8x4x64x512_S8x1x64x512_0_0_0_0, p0⟩] ++ L') i = G i := by
  refine View.canon_append_of_piecesOf G L' _ ?_ i ?_
  on_goal 2 => exact View.cover_of_tiledL (s := S8x4x64x512) _ S8x1x64x512.size (by sl_kernel_rfl) i
  refine ⟨fun x => ?_, fun x => ?_, fun x => ?_, fun x => ?_, trivial⟩
  all_goals
    idx_vars x
    obtain rfl : x1 = 0 := Subsingleton.elim _ _
    first | rw [h3] | rw [h2] | rw [h1] | rw [h0]
    refine congrArg G (funext fun a => Fin.ext ?_)
    fin_cases a <;> simp [Rect.emb, Rect.unit]

set_option maxHeartbeats 1000000 in
theorem acc (i : S8x4x64x512.Idx) :
    (outsAt0 m c t0_15.val t0_15.isLt).2.2.2.1 i = 0 + ∑ p : Fin cfg0.N, part m c p i := by
  refine Pipeline.eq_sum_fin_of_reset_step_apply_last (fun k h => (outsAt0 m c k h).2.2.2.1) 16 (fun _ => (0 : EReal)) (part m c) ?_ ?_
    (le_of_eq N_0) t0_15 N_0.symm i
  all_goals
    intro t h0 i
    by_cases h1 : t.val % 16 = 15
  · omega
  all_goals
    first | rw [outsAt0_A m c t h0 h1] | rw [outsAt0_B m c t h0 h1] | rw [outsAt0_C m c t h0 h1]
    frame_out
  · refine fill (fun i => 0 + part m c t i) _ _ _ _ [_] ?_ ?_ ?_ ?_ i
    all_goals
      intro r k j
      simp (disch := decide) only [↓ View.readCov_skip, ↓ View.readCov_fill]
    on_goal 1 => refine (block3 m c t _ r k j).trans (congrArg (· + part m c t (ix4 r 3 k j)) ?_)
    on_goal 2 => refine (block2 m c t _ r k j).trans (congrArg (· + part m c t (ix4 r 2 k j)) ?_)
    on_goal 3 => refine (block1 m c t _ r k j).trans (congrArg (· + part m c t (ix4 r 1 k j)) ?_)
    on_goal 4 => refine (block0 m c t _ r k j).trans (congrArg (· + part m c t (ix4 r 0 k j)) ?_)
    all_goals
      unfold_payloads
      pointwise []
      try rfl
  all_goals
    generalize (outsAt0 m c (t.val - 1) _).2.2.2.1 = D
    refine fill (fun i => D i + part m c t i) _ _ _ _ [] ?_ ?_ ?_ ?_ i
    all_goals intro r k j
    on_goal 1 => refine (block3 m c t _ r k j).trans (congrArg (· + part m c t (ix4 r 3 k j)) ?_)
    on_goal 2 => refine (block2 m c t _ r k j).trans (congrArg (· + part m c t (ix4 r 2 k j)) ?_)
    on_goal 3 => refine (block1 m c t _ r k j).trans (congrArg (· + part m c t (ix4 r 1 k j)) ?_)
    on_goal 4 => refine (block0 m c t _ r k j).trans (congrArg (· + part m c t (ix4 r 0 k j)) ?_)
    all_goals
      simp only [read_unread_whole]
      pointwise []
      try rfl

theorem idx8_last : win0_8.index t0_15 0 = 0 ∧ win0_8.index t0_15 1 = 0 ∧ win0_8.index t0_15 2 = 0 ∧ win0_8.index t0_15 3 = 0 := by decide +kernel

/-- The tiles' rows are all rows. -/
theorem sum_rows (f : ℕ → EReal) : ∑ p : Fin cfg0.N, ∑ a : Fin 256, f (256 * (15 - p.val) + a.val) = ∑ r : Fin 4096, f r.val := by
  have h1 : ∑ p : Fin cfg0.N, ∑ a : Fin 256, f (256 * (15 - p.val) + a.val) = ∑ p : Fin 16, ∑ a : Fin 256, f (256 * (15 - p.val) + a.val) :=
    Fintype.sum_equiv (finCongr N_0) _ _ fun p => rfl
  rw [h1, ← Fin.sum_mul_add_fin 16 256 (fun r : Fin 4096 => f r.val) rfl, ← Equiv.sum_comp Fin.revPerm]
  refine Finset.sum_congr rfl fun p _ => Finset.sum_congr rfl fun a _ => congrArg f ?_
  simp only [Fin.revPerm_apply, Fin.val_rev]
  omega

/-- The gradient of the maps, in eight blocks: pooled rows by the gated and scaled gradient. -/
def dwg : S8x4x64x512.Idx → EReal := fun i =>
  ∑ r : Fin 4096, pooled (ent (argP m c)) (2 ^ ((i 1).val + 1)) r.val (512 * (i 1).val + ((i 0).val * 64 + (i 2).val)) * dm m c r.val (512 * (i 1).val + (i 3).val)

theorem arr8 : (dats m 0 c).arrAt 8 cfg0.N = dwg m c := by
  refine (dats m 0 c).arrAt_eq_of_after_last 8 t0_15 (by decide +kernel) _ fun i => ?_
  blk_simp
  rw [after0_8]
  idx_vars i
  rw [slabs, acc]
  refine Eq.trans (b := dwg m c (ix4 i0 i1 i2 i3)) ?_ (congrArg _ ?_)
  · rw [zero_add]
    exact sum_rows fun r => pooled (ent (argP m c)) (2 ^ (i1.val + 1)) r (512 * i1.val + (i0.val * 64 + i2.val)) * dm m c r (512 * i1.val + i3.val)
  · blk_ext [idx8_last]

end Cert.BMixDwgIdeal.Pair

end
-- ==== Proof.BMixDwgRef.lean ====
module

public import proofs.«01_k».proof.Proof.Gen.BMixDwgRefIdeal.Read
public import proofs.«01_k».proof.Proof.BMixDscRef
public import Idealize.ShloMosaic.Lib.TwoAxisContraction

/-! # What the reference of the gradient of the pooling mixer's group maps computes

Each group's pooled rows are multiplied into the gated and scaled gradient. -/

@[expose] public section

set_option maxRecDepth 16384

noncomputable section

namespace Cert.BMixDwgRefIdeal.Pair

open Cert.BMixDwgRefIdeal Cert.BMixDwgRefIdeal.Gen Idealize.ShloMosaic Idealize.ShloMosaic.TcCoe Idealize.SL.Sem
open Cert.BMixDwgRefIdeal.Read Cert.Lift Cert.BPool

variable (x0 : S4096x4096.Idx → EReal) (x2 : S2048.Idx → EReal) (x3 : S4096x2048.Idx → EReal)

/-- The gate. -/
theorem gate_at (t : Fin 4096) (j : Fin 2048) : val_main_v86_0 (F := Ideal) x0 (ix3 0 t j) = gate (x0 (ix2 t ⟨2048 + j.val, by omega⟩)) := by
  pointwise [val_main_v86_0, val_main_v86_2, val_main_call1_v4, val_main_call1_v3, val_main_call1_v2, val_main_call1_v1, val_main_call1_v0, val_main_call1_cst,
    val_main_call1_cst_0, val_main_v3, val_main_v1, val_main_v0]
  exact BMixDscRefIdeal.Pair.gate_eq _

/-- The gated and scaled gradient. -/
def dmx (t : Fin 4096) (j : Fin 2048) : EReal := x3 (ix2 t j) * gate (x0 (ix2 t ⟨2048 + j.val, by omega⟩)) * x2 (ix1 j)

theorem v97_at (t : Fin 4096) (j : Fin 2048) : val_main_v97 (F := Ideal) x0 x2 x3 (ix3 0 t j) = dmx x0 x2 x3 t j := by
  have e := gate_at x0
  unfold val_main_v97 val_main_v91
  generalize val_main_v86_0 (F := Ideal) x0 = u at e ⊢
  pointwise [val_main_v96, val_main_v89, val_main_v88, val_main_v83]
  rw [e]
  rfl

local notation "D" => dot_S1x4096x512_S1x4096x512_S512x512_01_01_2_2_n_n

/-- The product over the batch and the rows, as a sum over the rows. -/
theorem dot_at (a b : S1x4096x512.Idx → EReal) (k e : Fin 512) :
    Host.dotGeneral (F := Ideal) (φ₁ := .f32) (φ₂ := .f32) D none a b (ix2 k e) = ∑ r : Fin 4096, a (ix3 0 r k) * b (ix3 0 r e) := by
  simp only [Host.dotGeneral]
  rw [Ideal.dotGeneral_apply, ValueIdx.sum_contr2 D 1 4096 rfl rfl rfl, Fin.sum_univ_one]
  refine Finset.sum_congr rfl fun r _ => ?_
  have h0 := ValueIdx.contrEquiv2_symm_val0 D 1 4096 rfl rfl rfl (0, r)
  have h1 := ValueIdx.contrEquiv2_symm_val1 D 1 4096 rfl rfl rfl (0, r)
  generalize (ValueIdx.contrEquiv2 D 1 4096 rfl rfl rfl).symm (0, r) = q at h0 h1 ⊢
  refine congrArg₂ _ (congrArg a (funext fun x => Fin.ext ?_)) (congrArg b (funext fun x => Fin.ext ?_))
  · match x with
    | ⟨0, _⟩ => exact h0
    | ⟨1, _⟩ => exact h1
    | ⟨2, _⟩ => rfl
  · match x with
    | ⟨0, _⟩ => exact h0
    | ⟨1, _⟩ => exact h1
    | ⟨2, _⟩ => rfl

/-- The gated and scaled gradient as an array. -/
def dmxv : S4096x2048.Idx → EReal := fun i => dmx x0 x2 x3 (i 0) (i 1)

theorem dent (r : Fin 4096) (j : Fin 2048) : ent (dmxv x0 x2 x3) r.val j.val = dmx x0 x2 x3 r j := ent_at (dmxv x0 x2 x3) r j

variable (X : ℕ → ℕ → ℝ) (hX : ∀ (t : Fin 4096) (k : Fin 4096), x0 (ix2 t k) = (X t.val k.val : EReal))

/-- A group's entry: its pooled rows by the gated and scaled gradient. -/
def dwg (g e k : ℕ) : EReal := ∑ r : Fin 4096, pooled (fun a b => (X a b : EReal)) (2 ^ (g + 1)) r.val (512 * g + e) * ent (dmxv x0 x2 x3) r.val (512 * g + k)

include hX

theorem v4_at (t : Fin 4096) (k : Fin 2048) : val_main_v4 (F := Ideal) x0 (ix3 0 t k) = (X t.val k.val : EReal) := by
  pointwise [val_main_v4, val_main_v1, val_main_v0]
  exact hX t ⟨k.val, by omega⟩

/-- The running sums. -/
theorem v7_at (t : Fin 4096) (k : Fin 2048) : val_main_v7 (F := Ideal) x0 (ix3 0 t k) = (run X (t.val + 1) k.val : EReal) := by
  have e := v4_at x0 X hX
  have z : ∀ i, val_main_call0_call0_v0 (F := Ideal) i = 0 := fun i => by
    rw [val_main_call0_call0_v0_apply, val_main_call0_call0_cst_apply]
    simp [Ideal.ofBits, Ideal.ieee]
  unfold val_main_v7
  generalize val_main_v4 (F := Ideal) x0 = v at e ⊢
  unfold Host.reduceWindowAdd
  rw [Ideal.hostReduceWindowAdd_def]
  refine cumsum v X e _ ?_ _ t k
  exact z _

/-- The running sums with a zero in front. -/
theorem v8_at (t : Fin 4097) (k : Fin 2048) : val_main_v8 (F := Ideal) x0 (ix3 0 t k) = (run X t.val k.val : EReal) := by
  unfold val_main_v8
  have e := v7_at x0 X hX
  generalize val_main_v7 (F := Ideal) x0 = v at e ⊢
  pointwise [val_main_v6, val_main_cst]
  split
  · next h =>
    rw [show t.val = 0 by omega, run, Finset.range_zero, Finset.sum_empty]
    rfl
  · next h =>
    rw [e]
    show ((run X (t.val - 1 + 1) k.val : ℝ) : EReal) = _
    rw [Nat.sub_add_cancel (by omega)]

/-- The first group's pooled rows. -/
theorem v27_at (t : Fin 4096) (k : Fin 512) : val_main_v27 (F := Ideal) x0 (ix3 0 t k) = pooled (fun a b => (X a b : EReal)) 2 t.val (512 * 0 + k.val) := by
  have e8 := v8_at x0 X hX
  have e4 := v4_at x0 X hX
  unfold val_main_v27 val_main_v26 val_main_v25 val_main_v24 val_main_v23 val_main_v22 val_main_v21 val_main_v16 val_main_v15 val_main_v10
  generalize val_main_v8 (F := Ideal) x0 = v8 at e8 ⊢
  generalize val_main_v4 (F := Ideal) x0 = v4 at e4 ⊢
  pointwise [val_main_v20, val_main_v19, val_main_v18, val_main_v13, val_main_v12, val_main_v11, val_main_v14, val_main_c, val_main_c_3, val_main_cst_1]
  simp only [e8, e4, dite_eq_ite]
  exact BMixFwdRefIdeal.Pair.step X 2 1 t.val _ rfl (by omega) t.isLt

/-- The second group's pooled rows. -/
theorem v44_at (t : Fin 4096) (k : Fin 512) : val_main_v44 (F := Ideal) x0 (ix3 0 t k) = pooled (fun a b => (X a b : EReal)) 4 t.val (512 * 1 + k.val) := by
  have e8 := v8_at x0 X hX
  have e4 := v4_at x0 X hX
  unfold val_main_v44 val_main_v43 val_main_v42 val_main_v41 val_main_v40 val_main_v39 val_main_v38 val_main_v33 val_main_v32 val_main_v10
  generalize val_main_v8 (F := Ideal) x0 = v8 at e8 ⊢
  generalize val_main_v4 (F := Ideal) x0 = v4 at e4 ⊢
  pointwise [val_main_v37, val_main_v36, val_main_v35, val_main_v13, val_main_v12, val_main_v11, val_main_v31, val_main_c, val_main_c_6, val_main_cst_4]
  simp only [e8, e4, dite_eq_ite]
  exact BMixFwdRefIdeal.Pair.step X 4 3 t.val _ rfl (by omega) t.isLt

/-- The third group's pooled rows. -/
theorem v61_at (t : Fin 4096) (k : Fin 512) : val_main_v61 (F := Ideal) x0 (ix3 0 t k) = pooled (fun a b => (X a b : EReal)) 8 t.val (512 * 2 + k.val) := by
  have e8 := v8_at x0 X hX
  have e4 := v4_at x0 X hX
  unfold val_main_v61 val_main_v60 val_main_v59 val_main_v58 val_main_v57 val_main_v56 val_main_v55 val_main_v50 val_main_v49 val_main_v10
  generalize val_main_v8 (F := Ideal) x0 = v8 at e8 ⊢
  generalize val_main_v4 (F := Ideal) x0 = v4 at e4 ⊢
  pointwise [val_main_v54, val_main_v53, val_main_v52, val_main_v13, val_main_v12, val_main_v11, val_main_v48, val_main_c, val_main_c_9, val_main_cst_7]
  simp only [e8, e4, dite_eq_ite]
  exact BMixFwdRefIdeal.Pair.step X 8 7 t.val _ rfl (by omega) t.isLt

/-- The fourth group's pooled rows. -/
theorem v78_at (t : Fin 4096) (k : Fin 512) : val_main_v78 (F := Ideal) x0 (ix3 0 t k) = pooled (fun a b => (X a b : EReal)) 16 t.val (512 * 3 + k.val) := by
  have e8 := v8_at x0 X hX
  have e4 := v4_at x0 X hX
  unfold val_main_v78 val_main_v77 val_main_v76 val_main_v75 val_main_v74 val_main_v73 val_main_v72 val_main_v67 val_main_v66 val_main_v10
  generalize val_main_v8 (F := Ideal) x0 = v8 at e8 ⊢
  generalize val_main_v4 (F := Ideal) x0 = v4 at e4 ⊢
  pointwise [val_main_v71, val_main_v70, val_main_v69, val_main_v13, val_main_v12, val_main_v11, val_main_v65, val_main_c, val_main_c_12, val_main_cst_10]
  simp only [e8, e4, dite_eq_ite]
  exact BMixFwdRefIdeal.Pair.step X 16 15 t.val _ rfl (by omega) t.isLt

theorem v103_at (k e : Fin 512) : val_main_v103 (F := Ideal) x0 x2 x3 (ix2 k e) = dwg x0 x2 x3 X 3 e.val k.val := by
  have h := v97_at x0 x2 x3
  have hp := v78_at x0 X hX
  unfold val_main_v103 val_main_v102
  rw [dot_at]
  generalize val_main_v97 (F := Ideal) x0 x2 x3 = u at h ⊢
  generalize val_main_v78 (F := Ideal) x0 = v at hp ⊢
  pointwise []
  simp only [h, hp]
  exact Finset.sum_congr rfl fun r _ => (mul_comm _ _).trans (congrArg _ (dent x0 x2 x3 r ⟨512 * 3 + k.val, by omega⟩).symm)

theorem v117_at (k e : Fin 512) : val_main_v117 (F := Ideal) x0 x2 x3 (ix2 k e) = dwg x0 x2 x3 X 2 e.val k.val := by
  have h := v97_at x0 x2 x3
  have hp := v61_at x0 X hX
  unfold val_main_v117 val_main_v101
  rw [dot_at]
  generalize val_main_v97 (F := Ideal) x0 x2 x3 = u at h ⊢
  generalize val_main_v61 (F := Ideal) x0 = v at hp ⊢
  pointwise []
  simp only [h, hp]
  exact Finset.sum_congr rfl fun r _ => (mul_comm _ _).trans (congrArg _ (dent x0 x2 x3 r ⟨512 * 2 + k.val, by omega⟩).symm)

theorem v135_at (k e : Fin 512) : val_main_v135 (F := Ideal) x0 x2 x3 (ix2 k e) = dwg x0 x2 x3 X 1 e.val k.val := by
  have h := v97_at x0 x2 x3
  have hp := v44_at x0 X hX
  unfold val_main_v135 val_main_v100
  rw [dot_at]
  generalize val_main_v97 (F := Ideal) x0 x2 x3 = u at h ⊢
  generalize val_main_v44 (F := Ideal) x0 = v at hp ⊢
  pointwise []
  simp only [h, hp]
  exact Finset.sum_congr rfl fun r _ => (mul_comm _ _).trans (congrArg _ (dent x0 x2 x3 r ⟨512 * 1 + k.val, by omega⟩).symm)

theorem v153_at (k e : Fin 512) : val_main_v153 (F := Ideal) x0 x2 x3 (ix2 k e) = dwg x0 x2 x3 X 0 e.val k.val := by
  have h := v97_at x0 x2 x3
  have hp := v27_at x0 X hX
  unfold val_main_v153 val_main_v99
  rw [dot_at]
  generalize val_main_v97 (F := Ideal) x0 x2 x3 = u at h ⊢
  generalize val_main_v27 (F := Ideal) x0 = v at hp ⊢
  pointwise []
  simp only [h, hp]
  exact Finset.sum_congr rfl fun r _ => (mul_comm _ _).trans (congrArg _ ((congrArg (ent (dmxv x0 x2 x3) r.val) (show 512 * 0 + k.val = k.val by omega)).trans (dent x0 x2 x3 r ⟨k.val, by omega⟩)).symm)

/-- The gradient of the maps, in eight blocks. -/
theorem v187_at (s : Fin 8) (g : Fin 4) (a : Fin 64) (k : Fin 512) : val_main_v187 (F := Ideal) x0 x2 x3 (ix4 s g a k) = dwg x0 x2 x3 X g.val (s.val * 64 + a.val) k.val := by
  have e3 := v103_at x0 x2 x3 X hX
  have e2 := v117_at x0 x2 x3 X hX
  have e1 := v135_at x0 x2 x3 X hX
  have e0 := v153_at x0 x2 x3 X hX
  unfold val_main_v187 val_main_v183 val_main_v182 val_main_v158 val_main_v157 val_main_v156 val_main_v154 val_main_v140 val_main_v139 val_main_v138 val_main_v136 val_main_v122 val_main_v121 val_main_v120 val_main_v118 val_main_v107 val_main_v106 val_main_v104
  generalize val_main_v103 (F := Ideal) x0 x2 x3 = v3 at e3 ⊢
  generalize val_main_v117 (F := Ideal) x0 x2 x3 = v2 at e2 ⊢
  generalize val_main_v135 (F := Ideal) x0 x2 x3 = v1 at e1 ⊢
  generalize val_main_v153 (F := Ideal) x0 x2 x3 = v0 at e0 ⊢
  pointwise [val_main_cst_15, val_main_cst_19, val_main_cst_23, val_main_cst_27]
  simp only [e0, e1, e2, e3]
  fin_cases g <;> simp <;> intro h <;> omega

end Cert.BMixDwgRefIdeal.Pair

end
-- ==== Proof.BMixDwgClaim.lean ====
module

public import proofs.«01_k».proof.Defs
public import proofs.«01_k».proof.Proof.BMixDwgOut
public import proofs.«01_k».proof.Proof.BMixDwgRef
public import proofs.«01_k».proof.Proof.Gen.BMixDwgIdeal.Value
public import proofs.«01_k».proof.Proof.Gen.BMixDwgRefIdeal.Run
public import proofs.«01_k».proof.Proof.Gen.Pre_finite13
public import Idealize.ShloMosaic.Lib.Quiescent

/-! # The gradient of the pooling mixer's group maps: the kernel and the reference agree over the reals

The projection is finite: a difference of two running sums is a window's sum only where no sum is infinite. -/

@[expose] public section

noncomputable section

namespace Cert.BMixDwgClaim

open Idealize.ShloMosaic Idealize.ShloMosaic.TcCoe Idealize.SL.Sem Cert.Lift Cert.BPool

/-- A finite projection is real. -/
theorem reals [Cert.Pre_finite13.Facts] (m) (h : Cert.Pre_BMixDwgIdeal_finite13 m) (c : Dev Cert.BMixDwgIdeal.nD) :
    ∃ x : _ → ℝ, ∀ i, BMixDwgIdeal.Pair.argP m c i = (x i : EReal) :=
  exists_real _ fun i => ofBits_inf ▸ congrFun (h c) i

/-- The reference runs and leaves its arguments as they were; it has no semaphore. -/
theorem frame_ref : Cert.quiescent_BMixDwgRefIdeal := fun m ρ _ =>
  (θ_run Cert.BMixDwgRefIdeal.defs _ _).mono (fun r h => ⟨fun c => (h c).2, sem_eq_zero_of_no_sems (by decide) r.2⟩)
    (Cert.BMixDwgRefIdeal.Value.run (F := Ideal) m ρ)

/-- Equal arguments give equal gradients. -/
theorem val187 {a a' : BMixDwgRefIdeal.S4096x4096.Idx → EReal} {b b' : BMixDwgRefIdeal.S2048.Idx → EReal} {d d' : BMixDwgRefIdeal.S4096x2048.Idx → EReal}
    (e0 : a = a') (e2 : b = b') (e3 : d = d') :
    BMixDwgRefIdeal.Read.val_main_v187 (F := Ideal) a b d = BMixDwgRefIdeal.Read.val_main_v187 (F := Ideal) a' b' d' := by
  rw [e0, e2, e3]

/-- The gated and scaled gradient of both sides. -/
theorem dm_eq (m) (c : Dev Cert.BMixDwgIdeal.nD) (r : Fin 4096) (j : ℕ) (hj : j < 2048) :
    ent (BMixDwgRefIdeal.Pair.dmxv (BMixDwgIdeal.Pair.argP m c) (BMixDwgIdeal.Pair.argS m c) (BMixDwgIdeal.Pair.argD m c)) r.val j = BMixDwgIdeal.Pair.dm m c r.val j := by
  refine (BMixDwgRefIdeal.Pair.dent _ _ _ r ⟨j, hj⟩).trans ?_
  unfold BMixDwgRefIdeal.Pair.dmx BMixDwgIdeal.Pair.dm BMixDwgIdeal.Pair.scl
  rw [dif_pos hj]
  refine congrArg₂ (· * ·) (congrArg₂ (· * ·) (ent_at _ r ⟨j, hj⟩).symm (congrArg gate (ent_at _ r ⟨2048 + j, by omega⟩).symm)) rfl

/-- Both programs leave the same gradient. -/
theorem algebraic : Cert.algebraic_BMixDwgIdeal_BMixDwgRefIdeal_pre_finite13 := by
  intro m ρ m' ρ' hpre hagree
  refine ⟨_, (θ_run _ _ _).mono (fun r h c => ⟨(h c).2.2.1, (h c).2.2.2⟩) (Cert.BMixDwgIdeal.Value.run_blocks m ρ), (θ_run _ _ _).mono (fun r h c => ?_) (Cert.BMixDwgRefIdeal.Value.run m' ρ')⟩
  obtain ⟨x, hx⟩ := reals m hpre c
  obtain ⟨e0, e1, e2, e3⟩ := hagree c
  obtain ⟨r0, ra⟩ := h c
  have hX : ∀ t k : Fin 4096, BMixDwgIdeal.Pair.argP m c (ix2 t k) = ((fun a b => (ent (BMixDwgIdeal.Pair.argP m c) a b).toReal) t.val k.val : ℝ) := fun t k => by
    show _ = (((ent _ t.val k.val).toReal : ℝ) : EReal)
    rw [ent_at, hx, EReal.toReal_coe]
  have hE : ent (BMixDwgIdeal.Pair.argP m c) = fun a b => (((ent (BMixDwgIdeal.Pair.argP m c) a b).toReal : ℝ) : EReal) := by
    funext a b
    unfold ent
    split
    · rw [hx, EReal.toReal_coe]
    · rw [EReal.toReal_zero, EReal.coe_zero]
  refine ⟨r0.trans ?_, ra⟩
  rw [BMixDwgRefIdeal.Read.val_main_v187_eq, BMixDwgIdeal.Pair.arr8]
  funext i
  idx_vars i
  refine (congrFun (val187 e0 e2 e3) _).trans ?_
  refine (BMixDwgRefIdeal.Pair.v187_at (BMixDwgIdeal.Pair.argP m c) (BMixDwgIdeal.Pair.argS m c) (BMixDwgIdeal.Pair.argD m c) (fun a b => (ent (BMixDwgIdeal.Pair.argP m c) a b).toReal) hX i0 i1 i2 i3).trans ?_
  unfold BMixDwgRefIdeal.Pair.dwg BMixDwgIdeal.Pair.dwg
  refine Finset.sum_congr rfl fun r _ => congrArg₂ (· * ·) (congrFun (congrFun (congrArg (fun X => pooled X _) hE.symm) _) _) ?_
  exact dm_eq m c r _ (by have := i1.isLt; have := i3.isLt; omega)

end Cert.BMixDwgClaim

end
-- ==== Proof.BMixFwd.lean ====
module

public import proofs.«01_k».proof.Proof.Gen.BMixFwdIdeal.Value
public import proofs.«01_k».proof.Proof.BPool

/-! # The pooling mixer forward: what the kernel computes -/

@[expose] public section

set_option maxRecDepth 16384

noncomputable section

namespace Cert.BMixFwdIdeal.Pair

open Cert.BMixFwdIdeal Cert.BMixFwdIdeal.Gen Idealize.ShloMosaic Idealize.ShloMosaic.TcCoe Idealize.SL.Sem
open Idealize.ShloMosaic.Pipeline (Dat)
open Cert.Lift Cert.BPool

/-! ## One group -/

section group

variable (X : ℕ → ℕ → EReal) (W : ℕ → ℕ → ℕ → EReal) (g T : ℕ) (x : Vec Ideal S256x512 .bf16) (cy : Vec Ideal S16x512 .f32) (wg : Vec Ideal S8x1x64x512 .bf16)

/-- The tile's rows under the sixteen carried ones. -/
def stack : FVec Ideal S272x512 .f32 :=
  concatenate (α := Ideal .f32) S272x512 0 [⟨S16x512, cy⟩, ⟨S256x512, (extf .f32 x bitsLt_bf16_f32 : FVec Ideal S256x512 .f32)⟩] concatenates_S16x512_S256x512_S272x512_d0

/-- The tile holds rows `256 T …` of group `g`'s columns, and the carry the sixteen before. -/
structure Holds : Prop where
  tile : ∀ (a : Fin 256) (j : Fin 512), x (ix2 a j) = X (256 * T + a.val) (512 * g + j.val)
  carry : ∀ (r : Fin 16) (j : Fin 512), cy (ix2 r j) = ext X T (512 * g + j.val) r.val
  map : ∀ (s : Fin 8) (k : Fin 64) (d : Fin 512), wg (ix4 s 0 k d) = W g (s.val * 64 + k.val) d.val

theorem stack_fold : concatenate (α := Ideal .f32) S272x512 0 [⟨S16x512, cy⟩, ⟨S256x512, (extf .f32 x bitsLt_bf16_f32 : FVec Ideal S256x512 .f32)⟩] concatenates_S16x512_S256x512_S272x512_d0 = stack x cy := rfl

variable {X W g T x cy wg}

theorem stack_at (h : Holds X W g T x cy wg) (r : Fin 272) (j : Fin 512) : stack x cy (ix2 r j) = ext X T (512 * g + j.val) r.val := by
  unfold stack
  pointwise []
  split
  · next h1 => exact h.carry ⟨r.val, by omega⟩ j
  · next h1 =>
    refine (h.tile ⟨r.val - 16, by omega⟩ j).trans ?_
    unfold ext
    rw [if_pos (by omega)]
    congr 1
    show 256 * T + (r.val - 16) = _
    omega

variable (hT : T < 16) (i : grid0.Coords) (hi : (i 0).val = T)

theorem word (T a : ℕ) : IntOp.addi (Scalar.addi (Scalar.muli (BitVec.ofNat 32 T) 256#32) 1#32) (BitVec.ofNat 32 a) = BitVec.ofNat 32 (256 * T + a + 1) := by
  refine BitVec.eq_of_toNat_eq ?_
  simp only [IntOp.addi, Scalar.addi, Scalar.muli, IntOp.muli, BitVec.toNat_add, BitVec.toNat_mul, BitVec.toNat_ofNat]
  omega

/-- The mean's factor at a row, as the kernel writes it. -/
theorem cnt_fold (T a w : ℕ) : FloatOps.sitofp (F := Ideal) .f32 (IntOp.minsi (BitVec.ofNat 32 (256 * T + a + 1)) (BitVec.ofNat 32 w)) = cnt w (256 * T + a) := rfl

/-- The stack with copies shifted by 1, by 1 and 2, … added. -/
def once (v : FVec Ideal S272x512 .f32) (b : BitVec 32) : FVec Ideal S272x512 .f32 := addf v (dynamicRotate (α := Ideal .f32) 0 b (none : Option (ℕ × Fin 2)) v rotates_S272x512_d0)

theorem once_fold (v : FVec Ideal S272x512 .f32) (b : BitVec 32) : addf v (dynamicRotate (α := Ideal .f32) 0 b (none : Option (ℕ × Fin 2)) v rotates_S272x512_d0) = once v b := rfl

theorem once1 (h : Holds X W g T x cy wg) (j : Fin 512) (r : Fin 272) (hr : 1 ≤ r.val) :
    once (stack x cy) 1#32 (ix2 r j) = ∑ k ∈ Finset.range 2, ext X T (512 * g + j.val) (r.val - k) :=
  rot_step _ _ j 1 0 1#32 rfl (by omega) _ (fun r _ => by rw [stack_at h, Finset.sum_range_one]; rfl) r (by omega)

theorem once2 (h : Holds X W g T x cy wg) (j : Fin 512) (r : Fin 272) (hr : 3 ≤ r.val) :
    once (once (stack x cy) 1#32) 2#32 (ix2 r j) = ∑ k ∈ Finset.range 4, ext X T (512 * g + j.val) (r.val - k) :=
  rot_step _ _ j 2 1 2#32 rfl (by omega) _ (once1 h j) r (by omega)

theorem once3 (h : Holds X W g T x cy wg) (j : Fin 512) (r : Fin 272) (hr : 7 ≤ r.val) :
    once (once (once (stack x cy) 1#32) 2#32) 4#32 (ix2 r j) = ∑ k ∈ Finset.range 8, ext X T (512 * g + j.val) (r.val - k) :=
  rot_step _ _ j 4 3 4#32 rfl (by omega) _ (once2 h j) r (by omega)

theorem once4 (h : Holds X W g T x cy wg) (j : Fin 512) (r : Fin 272) (hr : 15 ≤ r.val) :
    once (once (once (once (stack x cy) 1#32) 2#32) 4#32) 8#32 (ix2 r j) = ∑ k ∈ Finset.range 16, ext X T (512 * g + j.val) (r.val - k) :=
  rot_step _ _ j 8 7 8#32 rfl (by omega) _ (once3 h j) r (by omega)

include hi in
/-- Group 0: windows of 2. -/
theorem grp0 (h : Holds X W 0 T x cy wg) (a : Fin 256) (d : Fin 512) :
    k0_pay7 (F := Ideal) i x cy wg (ix2 a d) = om X W 0 (256 * T + a.val) d.val := by
  unfold k0_pay7 k0_pay5
  simp only [stack_fold, once_fold]
  have s1 := once1 h
  generalize once (stack x cy) 1#32 = v at s1 ⊢
  have s2 := fun (j : Fin 512) (a : Fin 256) => (s1 j ⟨16 + a.val, by omega⟩ (by show 1 ≤ 16 + a.val; omega)).trans (ext_win X T _ 2 a.val (by omega))
  pointwise []
  simp only [s2, h.tile, h.map, hi, word, Nat.div_add_mod']
  rfl

/-- Group 1: windows of 4. -/
theorem grp1 (h : Holds X W 1 T x cy wg) (a : Fin 256) (d : Fin 512) :
    k0_pay14 (F := Ideal) (k0_pay11 (BitVec.ofNat 32 T) x cy) wg (ix2 a d) = om X W 1 (256 * T + a.val) d.val := by
  unfold k0_pay14 k0_pay11 k0_pay10
  simp only [stack_fold, once_fold]
  have s1 := once2 h
  generalize once (once (stack x cy) 1#32) 2#32 = v at s1 ⊢
  have s2 := fun (j : Fin 512) (a : Fin 256) => (s1 j ⟨16 + a.val, by omega⟩ (by show 3 ≤ 16 + a.val; omega)).trans (ext_win X T _ 4 a.val (by omega))
  pointwise []
  simp only [s2, h.tile, h.map, word, Nat.div_add_mod']
  rfl

/-- Group 2: windows of 8. -/
theorem grp2 (h : Holds X W 2 T x cy wg) (a : Fin 256) (d : Fin 512) :
    k0_pay20 (F := Ideal) (BitVec.ofNat 32 T) (k0_pay17 x) (k0_pay18 x cy) wg (ix2 a d) = om X W 2 (256 * T + a.val) d.val := by
  unfold k0_pay20 k0_pay18 k0_pay17
  simp only [stack_fold, once_fold]
  have s1 := once3 h
  generalize once (once (once (stack x cy) 1#32) 2#32) 4#32 = v at s1 ⊢
  have s2 := fun (j : Fin 512) (a : Fin 256) => (s1 j ⟨16 + a.val, by omega⟩ (by show 7 ≤ 16 + a.val; omega)).trans (ext_win X T _ 8 a.val (by omega))
  pointwise []
  simp only [s2, h.tile, h.map, word, Nat.div_add_mod']
  rfl

/-- Group 3: windows of 16. -/
theorem grp3 (h : Holds X W 3 T x cy wg) (a : Fin 256) (d : Fin 512) :
    k0_pay1 (F := Ideal) (k0_pay28 (BitVec.ofNat 32 T) x cy) wg (ix2 a d) = om X W 3 (256 * T + a.val) d.val := by
  unfold k0_pay1 k0_pay28 k0_pay26
  simp only [stack_fold, once_fold]
  have s1 := once4 h
  generalize once (once (once (once (stack x cy) 1#32) 2#32) 4#32) 8#32 = v at s1 ⊢
  have s2 := fun (j : Fin 512) (a : Fin 256) => (s1 j ⟨16 + a.val, by omega⟩ (by show 15 ≤ 16 + a.val; omega)).trans (ext_win X T _ 16 a.val (by omega))
  pointwise []
  simp only [s2, h.tile, h.map, word, Nat.div_add_mod']
  rfl

end group

end Cert.BMixFwdIdeal.Pair
-- ==== Proof.BMixFwdOut.lean ====
module

public import proofs.«01_k».proof.Proof.BMixFwd
public import Idealize.ShloMosaic.Lib.Pipeline.ReadBack

/-! # The forward pooling mixer: what the kernel leaves in its two results

A grid point reads a tile of 256 tokens and the sixteen rows before it, which the point before left in a scratch. Each of the four groups of
channels is stored on its own, so a stored block is settled group by group. -/

@[expose] public section
set_option maxRecDepth 16384

noncomputable section

namespace Cert.BMixFwdIdeal.Pair

open Cert.BMixFwdIdeal Cert.BMixFwdIdeal.Gen Idealize.ShloMosaic Idealize.ShloMosaic.TcCoe Idealize.SL.Sem
open Idealize.ShloMosaic.Pipeline (Dat)
open Cert.Lift Cert.BPool
open Idealize.ShloMosaic.Tactic

theorem idx0 : ∀ t : Fin cfg0.N, win0_0.index t 0 = t.val ∧ win0_0.index t 1 = 0 := (by decide +kernel : ∀ t : Fin grid0.N, _)
theorem idx1 : ∀ t : Fin cfg0.N, win0_1.index t 0 = 0 ∧ win0_1.index t 1 = 0 := (by decide +kernel : ∀ t : Fin grid0.N, _)
theorem idx2 : ∀ t : Fin cfg0.N, win0_2.index t 0 = 0 ∧ win0_2.index t 1 = 0 ∧ win0_2.index t 2 = 0 ∧ win0_2.index t 3 = 0 :=
  (by decide +kernel : ∀ t : Fin grid0.N, _)
theorem idx3 : ∀ t : Fin cfg0.N, win0_3.index t 0 = t.val ∧ win0_3.index t 1 = 0 := (by decide +kernel : ∀ t : Fin grid0.N, _)
theorem idx4 : ∀ t : Fin cfg0.N, win0_4.index t 0 = t.val ∧ win0_4.index t 1 = 0 := (by decide +kernel : ∀ t : Fin grid0.N, _)
theorem coord : ∀ t : Fin cfg0.N, (grid0.coords t 0).val = t.val := (by decide +kernel : ∀ t : Fin grid0.N, _)
theorem lt16 (t : Fin cfg0.N) : t.val < 16 := lt_of_lt_of_eq t.isLt N_0

variable (m : (ℓ : Loc nD τ sig) → Buf (Elt Ideal) ℓ) (c : Dev nD)

abbrev argP : S4096x4096.Idx → EReal := m ((c : Thread nD τ).loc main_arg0)
abbrev argW : S4x512x512.Idx → EReal := m ((c : Thread nD τ).loc main_arg1)
abbrev argS : S2048.Idx → EReal := m ((c : Thread nD τ).loc main_arg2)

theorem blk0 (t : Fin cfg0.N) (a : Fin 256) (j : Fin 4096) : iblk m c 0 t (ix2 a j) = ent (argP m c) (256 * t.val + a.val) j.val := by
  have := lt16 t
  refine Eq.trans ?_ (ent_at (argP m c) ⟨256 * t.val + a.val, by omega⟩ j).symm
  blk_ext! [iblk, V, idx0 t]
theorem blk1 (t : Fin cfg0.N) (j : Fin 2048) : iblk m c 1 t (ix2 0 j) = argS m c (ix1 j) := by
  blk_ext! [iblk, V, idx1 t]
theorem blk2 (t : Fin cfg0.N) (s : Fin 8) (g : Fin 4) (k : Fin 64) (d : Fin 512) :
    iblk m c 2 t (ix4 s g k d) = ent3 (argW m c) g.val (s.val * 64 + k.val) d.val := by
  refine Eq.trans ?_ (ent3_at (argW m c) g ⟨s.val * 64 + k.val, by omega⟩ d).symm
  blk_ext! [iblk, V, idx2 t]

omit m c in
/-- Four stores side by side decide a buffer, whatever was stored before. -/
theorem fill (G : S16x2048.Idx → Elt Ideal .f32) (p3 p2 p1 p0 : S16x512.Idx → Elt Ideal .f32) (L' : List (View.Piece (Elt Ideal) S16x2048 .f32))
    (h3 : ∀ (r : Fin 16) (k : Fin 512), p3 (ix2 r k) = G (ix2 r ⟨1536 + k.val, by omega⟩))
    (h2 : ∀ (r : Fin 16) (k : Fin 512), p2 (ix2 r k) = G (ix2 r ⟨1024 + k.val, by omega⟩))
    (h1 : ∀ (r : Fin 16) (k : Fin 512), p1 (ix2 r k) = G (ix2 r ⟨512 + k.val, by omega⟩))
    (h0 : ∀ (r : Fin 16) (k : Fin 512), p0 (ix2 r k) = G (ix2 r ⟨0 + k.val, by omega⟩)) (i : S16x2048.Idx) :
    View.canon (Val := Elt Ideal) ([⟨Rect.unit ![0, 1536] ![16, 512] inb_S16x2048_S16x512_0_1536, p3⟩, ⟨Rect.unit ![0, 1024] ![16, 512] inb_S16x2048_S16x512_0_1024, p2⟩,
      ⟨Rect.unit ![0, 512] ![16, 512] inb_S16x2048_S16x512_0_512, p1⟩, ⟨Rect.unit ![0, 0] ![16, 512] inb_S16x2048_S16x512_0_0, p0⟩] ++ L') i = G i := by
  refine View.canon_append_of_piecesOf G L' _ ?_ i ?_
  on_goal 2 => exact View.cover_of_tiledL (s := S16x2048) _ S16x512.size (by sl_kernel_rfl) i
  refine ⟨fun x => ?_, fun x => ?_, fun x => ?_, fun x => ?_, trivial⟩
  all_goals
    idx_vars x
    first | rw [h3] | rw [h2] | rw [h1] | rw [h0]
    refine congrArg G (Shape.idx_ext₂ ?_ ?_) <;> simp [Rect.emb, Rect.unit]

/-- The last sixteen rows of a point's tile, left for the next point. -/
theorem left (t : Fin cfg0.N) (i : S16x2048.Idx) : (outsAt0 m c t.val t.isLt).2.2 i = ext (ent (argP m c)) (t.val + 1) (i 1).val (i 0).val := by
  have b0 := blk0 m c t
  have e : ∀ (r : Fin 16) (j : ℕ), ext (ent (argP m c)) (t.val + 1) j r.val = ent (argP m c) (256 * t.val + (240 + r.val)) j := by
    intro r j
    unfold ext
    rw [if_pos (by omega)]; congr 1; omega
  by_cases h0 : t.val % 16 = 0
  on_goal 1 => rw [outsAt0_A m c t h0]
  on_goal 2 => rw [outsAt0_B m c t h0]
  all_goals
    frame_out
    generalize iblk m c 0 t = B0 at b0 ⊢
  on_goal 1 => refine fill (fun i => ext (ent (argP m c)) (t.val + 1) (i 1).val (i 0).val) _ _ _ _ [_] ?_ ?_ ?_ ?_ i
  on_goal 5 => refine fill (fun i => ext (ent (argP m c)) (t.val + 1) (i 1).val (i 0).val) _ _ _ _ [] ?_ ?_ ?_ ?_ i
  all_goals
    intro r k
    unfold_payloads
    pointwise []
    simp only [b0]
    exact (e r _).symm

/-! ## The stores round to the narrow kind, which over the reals changes nothing -/

omit m c in
theorem store0 (i : grid0.Coords) (x : Vec Ideal S256x512 .bf16) (cy : Vec Ideal S16x512 .f32) (wg : Vec Ideal S8x1x64x512 .bf16) (a : Fin 256) (k : Fin 512) :
    k0_pay8 (F := Ideal) i x cy wg (ix2 a k) = k0_pay7 (F := Ideal) i x cy wg (ix2 a k) := rfl
omit m c in
theorem store1 (p : FVec Ideal S256x512 .f32) (wg : Vec Ideal S8x1x64x512 .bf16) (a : Fin 256) (k : Fin 512) :
    k0_pay15 (F := Ideal) p wg (ix2 a k) = k0_pay14 (F := Ideal) p wg (ix2 a k) := rfl
omit m c in
theorem store2 (b : BitVec 32) (p : FVec Ideal S256x512 .f32) (q : FVec Ideal S272x512 .f32) (wg : Vec Ideal S8x1x64x512 .bf16) (a : Fin 256) (k : Fin 512) :
    k0_pay21 (F := Ideal) b p q wg (ix2 a k) = k0_pay20 (F := Ideal) b p q wg (ix2 a k) := rfl
omit m c in
theorem store3 (p : FVec Ideal S256x512 .bf16) (wg : Vec Ideal S8x1x64x512 .bf16) (a : Fin 256) (k : Fin 512) :
    k0_pay2 (F := Ideal) p wg (ix2 a k) = k0_pay1 (F := Ideal) p wg (ix2 a k) := rfl

/-! ## The gates -/

omit m c in
theorem gated0 (o : FVec Ideal S256x512 .f32) (z : Vec Ideal S256x512 .bf16) (sc : Vec Ideal S1x512 .f32) (a : Fin 256) (k : Fin 512) :
    k0_pay9 (F := Ideal) o z sc (ix2 a k) = o (ix2 a k) * sc (ix2 0 k) * gate (z (ix2 a k)) := by
  unfold k0_pay9
  pointwise []
  rfl

omit m c in
theorem gated1 (p : FVec Ideal S256x512 .f32) (wg : Vec Ideal S8x1x64x512 .bf16) (z : Vec Ideal S256x512 .bf16) (sc : Vec Ideal S1x512 .f32) (a : Fin 256) (k : Fin 512) :
    k0_pay16 (F := Ideal) p wg z sc (ix2 a k) = k0_pay14 (F := Ideal) p wg (ix2 a k) * sc (ix2 0 k) * gate (z (ix2 a k)) := by
  unfold k0_pay16
  generalize k0_pay14 (F := Ideal) p wg = o
  pointwise []
  rfl

omit m c in
theorem gated2 (b : BitVec 32) (p : FVec Ideal S256x512 .f32) (q : FVec Ideal S272x512 .f32) (wg : Vec Ideal S8x1x64x512 .bf16) (z : Vec Ideal S256x512 .bf16)
    (sc : Vec Ideal S1x512 .f32) (a : Fin 256) (k : Fin 512) :
    k0_pay25 (F := Ideal) (k0_pay22 z) (k0_pay23 b p q wg sc) (k0_pay24 z) (ix2 a k)
      = k0_pay20 (F := Ideal) b p q wg (ix2 a k) * sc (ix2 0 k) * gate (z (ix2 a k)) := by
  unfold k0_pay25 k0_pay24 k0_pay23 k0_pay22
  generalize k0_pay20 (F := Ideal) b p q wg = o
  pointwise []
  rfl

omit m c in
theorem gated3 (p : FVec Ideal S256x512 .bf16) (wg : Vec Ideal S8x1x64x512 .bf16) (z : Vec Ideal S256x512 .bf16) (sc : Vec Ideal S1x512 .f32) (a : Fin 256) (k : Fin 512) :
    k0_pay3 (F := Ideal) p wg z sc (ix2 a k) = k0_pay1 (F := Ideal) p wg (ix2 a k) * sc (ix2 0 k) * gate (z (ix2 a k)) := by
  unfold k0_pay3
  generalize k0_pay1 (F := Ideal) p wg = o
  pointwise []
  rfl

/-! ## What one group of one point reads -/

section
variable (X : ℕ → ℕ → EReal) (W : ℕ → ℕ → ℕ → EReal) (T : ℕ) (B0 : S256x4096.Idx → Elt Ideal .bf16) (B2 : S8x4x64x512.Idx → Elt Ideal .bf16) (cy : S16x512.Idx → Elt Ideal .f32)

omit m c in
theorem holds0 (b0 : ∀ (a : Fin 256) (j : Fin 4096), B0 (ix2 a j) = X (256 * T + a.val) j.val)
    (b2 : ∀ (s : Fin 8) (g : Fin 4) (k : Fin 64) (d : Fin 512), B2 (ix4 s g k d) = W g.val (s.val * 64 + k.val) d.val)
    (hc : ∀ (r : Fin 16) (j : Fin 512), cy (ix2 r j) = ext X T (512 * 0 + j.val) r.val) :
    Holds X W 0 T (View.ld (Val := Elt Ideal) (e' := .bf16) B0 (Rect.unit ![0, 0] ![256, 512] inb_S256x4096_S256x512_0_0)) cy (View.ld (Val := Elt Ideal) (e' := .bf16) B2 (Rect.unit ![0, 0, 0, 0] ![8, 1, 64, 512] inb_S8x4x64x512_S8x1x64x512_0_0_0_0)) := by
  refine ⟨fun a j => ?_, hc, fun s k d => ?_⟩
  · pointwise []
    refine (b0 _ _).trans (congrArg₂ X ?_ ?_) <;> simp
  · pointwise []
    refine (b2 _ _ _ _).trans ?_
    congr 1 <;> simp

omit m c in
theorem holds1 (b0 : ∀ (a : Fin 256) (j : Fin 4096), B0 (ix2 a j) = X (256 * T + a.val) j.val)
    (b2 : ∀ (s : Fin 8) (g : Fin 4) (k : Fin 64) (d : Fin 512), B2 (ix4 s g k d) = W g.val (s.val * 64 + k.val) d.val)
    (hc : ∀ (r : Fin 16) (j : Fin 512), cy (ix2 r j) = ext X T (512 * 1 + j.val) r.val) :
    Holds X W 1 T (View.ld (Val := Elt Ideal) (e' := .bf16) B0 (Rect.unit ![0, 512] ![256, 512] inb_S256x4096_S256x512_0_512)) cy (View.ld (Val := Elt Ideal) (e' := .bf16) B2 (Rect.unit ![0, 1, 0, 0] ![8, 1, 64, 512] inb_S8x4x64x512_S8x1x64x512_0_1_0_0)) := by
  refine ⟨fun a j => ?_, hc, fun s k d => ?_⟩
  · pointwise []
    refine (b0 _ _).trans (congrArg₂ X ?_ ?_) <;> simp
  · pointwise []
    refine (b2 _ _ _ _).trans ?_
    congr 1 <;> simp

omit m c in
theorem holds2 (b0 : ∀ (a : Fin 256) (j : Fin 4096), B0 (ix2 a j) = X (256 * T + a.val) j.val)
    (b2 : ∀ (s : Fin 8) (g : Fin 4) (k : Fin 64) (d : Fin 512), B2 (ix4 s g k d) = W g.val (s.val * 64 + k.val) d.val)
    (hc : ∀ (r : Fin 16) (j : Fin 512), cy (ix2 r j) = ext X T (512 * 2 + j.val) r.val) :
    Holds X W 2 T (View.ld (Val := Elt Ideal) (e' := .bf16) B0 (Rect.unit ![0, 1024] ![256, 512] inb_S256x4096_S256x512_0_1024)) cy (View.ld (Val := Elt Ideal) (e' := .bf16) B2 (Rect.unit ![0, 2, 0, 0] ![8, 1, 64, 512] inb_S8x4x64x512_S8x1x64x512_0_2_0_0)) := by
  refine ⟨fun a j => ?_, hc, fun s k d => ?_⟩
  · pointwise []
    refine (b0 _ _).trans (congrArg₂ X ?_ ?_) <;> simp
  · pointwise []
    refine (b2 _ _ _ _).trans ?_
    congr 1 <;> simp

omit m c in
theorem holds3 (b0 : ∀ (a : Fin 256) (j : Fin 4096), B0 (ix2 a j) = X (256 * T + a.val) j.val)
    (b2 : ∀ (s : Fin 8) (g : Fin 4) (k : Fin 64) (d : Fin 512), B2 (ix4 s g k d) = W g.val (s.val * 64 + k.val) d.val)
    (hc : ∀ (r : Fin 16) (j : Fin 512), cy (ix2 r j) = ext X T (512 * 3 + j.val) r.val) :
    Holds X W 3 T (View.ld (Val := Elt Ideal) (e' := .bf16) B0 (Rect.unit ![0, 1536] ![256, 512] inb_S256x4096_S256x512_0_1536)) cy (View.ld (Val := Elt Ideal) (e' := .bf16) B2 (Rect.unit ![0, 3, 0, 0] ![8, 1, 64, 512] inb_S8x4x64x512_S8x1x64x512_0_3_0_0)) := by
  refine ⟨fun a j => ?_, hc, fun s k d => ?_⟩
  · pointwise []
    refine (b0 _ _).trans (congrArg₂ X ?_ ?_) <;> simp
  · pointwise []
    refine (b2 _ _ _ _).trans ?_
    congr 1 <;> simp

end

/-! ## The two blocks of a grid point -/

/-- The group maps at a token and a channel. -/
def mapv (t j : ℕ) : EReal := om (ent (argP m c)) (ent3 (argW m c)) (j / 512) t (j % 512)

omit m c in
/-- The first point starts with zeros carried. -/
theorem started {X : ℕ → ℕ → EReal} {t : ℕ} (t0 : t = 0) (j : ℕ) (r : Fin 16) : (0 : EReal) = ext X t j r.val := by
  subst t0
  unfold ext
  rw [if_neg (by omega)]

/-- Every later point starts with the rows the point before it left. -/
theorem carried (t : Fin cfg0.N) (t1 : 0 < t.val) {h : t.val - 1 < cfg0.N} (i : S16x2048.Idx) :
    (outsAt0 m c (t.val - 1) h).2.2 i = ext (ent (argP m c)) t.val (i 1).val (i 0).val := by
  refine (left m c ⟨t.val - 1, h⟩ i).trans ?_
  show ext _ (t.val - 1 + 1) _ _ = _
  rw [Nat.sub_add_cancel t1]

set_option maxHeartbeats 1000000 in
/-- The group maps a grid point stores. -/
theorem out_o (t : Fin cfg0.N) (i : S256x2048.Idx) : (outsAt0 m c t.val t.isLt).2.1 i = mapv m c (256 * t.val + (i 0).val) (i 1).val := by
  have b0 := blk0 m c t
  have b2 := blk2 m c t
  unfold mapv
  by_cases ht : t.val % 16 = 0
  · have t0 : t.val = 0 := by have := lt16 t; omega
    rw [outsAt0_A m c t ht]
    frame_out
    generalize iblk m c 0 t = B0 at b0 ⊢
    generalize iblk m c 2 t = B2 at b2 ⊢
    canon_tiles x h
    all_goals
      idx_vars x
      try rw [coord t]
    · rw [store3]
      refine (grp3 (holds3 _ _ _ B0 B2 _ b0 b2 fun r j => ?_) x0 x1).trans ?_
      on_goal 2 => (rw [h0, h1]; congr 1 <;> omega)
      simp (disch := decide) only [↓ View.readCov_skip, ↓ View.readCov_fill]
      unfold_payloads
      pointwise []
      exact started t0 _ r
    · rw [store2]
      refine (grp2 (holds2 _ _ _ B0 B2 _ b0 b2 fun r j => ?_) x0 x1).trans ?_
      on_goal 2 => (rw [h0, h1]; congr 1 <;> omega)
      simp (disch := decide) only [↓ View.readCov_skip, ↓ View.readCov_fill]
      unfold_payloads
      pointwise []
      exact started t0 _ r
    · rw [store1]
      refine (grp1 (holds1 _ _ _ B0 B2 _ b0 b2 fun r j => ?_) x0 x1).trans ?_
      on_goal 2 => (rw [h0, h1]; congr 1 <;> omega)
      simp (disch := decide) only [↓ View.readCov_skip, ↓ View.readCov_fill]
      unfold_payloads
      pointwise []
      exact started t0 _ r
    · rw [store0]
      refine (grp0 _ (coord t) (holds0 _ _ _ B0 B2 _ b0 b2 fun r j => ?_) x0 x1).trans ?_
      on_goal 2 => (rw [h0, h1]; congr 1 <;> omega)
      simp (disch := decide) only [↓ View.readCov_skip, ↓ View.readCov_fill]
      unfold_payloads
      pointwise []
      exact started t0 _ r
  · have t1 : 0 < t.val := by omega
    rw [outsAt0_B m c t ht]
    frame_out
    generalize iblk m c 0 t = B0 at b0 ⊢
    generalize iblk m c 2 t = B2 at b2 ⊢
    canon_tiles x h
    all_goals
      idx_vars x
      try rw [coord t]
    · rw [store3]
      refine (grp3 (holds3 _ _ _ B0 B2 _ b0 b2 fun r j => ?_) x0 x1).trans ?_
      on_goal 2 => (rw [h0, h1]; congr 1 <;> omega)
      simp only [read_unread_whole]
      pointwise []
      refine (carried m c t t1 _).trans ?_
      congr 1 <;> simp
    · rw [store2]
      refine (grp2 (holds2 _ _ _ B0 B2 _ b0 b2 fun r j => ?_) x0 x1).trans ?_
      on_goal 2 => (rw [h0, h1]; congr 1 <;> omega)
      simp only [read_unread_whole]
      pointwise []
      refine (carried m c t t1 _).trans ?_
      congr 1 <;> simp
    · rw [store1]
      refine (grp1 (holds1 _ _ _ B0 B2 _ b0 b2 fun r j => ?_) x0 x1).trans ?_
      on_goal 2 => (rw [h0, h1]; congr 1 <;> omega)
      simp only [read_unread_whole]
      pointwise []
      refine (carried m c t t1 _).trans ?_
      congr 1 <;> simp
    · rw [store0]
      refine (grp0 _ (coord t) (holds0 _ _ _ B0 B2 _ b0 b2 fun r j => ?_) x0 x1).trans ?_
      on_goal 2 => (rw [h0, h1]; congr 1 <;> omega)
      simp only [read_unread_whole]
      pointwise []
      refine (carried m c t t1 _).trans ?_
      congr 1 <;> simp

set_option maxHeartbeats 1000000 in
/-- The mixed rows a grid point stores. -/
theorem out_y (t : Fin cfg0.N) (i : S256x2048.Idx) : (outsAt0 m c t.val t.isLt).1 i = mapv m c (256 * t.val + (i 0).val) (i 1).val * argS m c (ix1 (i 1)) * gate (ent (argP m c) (256 * t.val + (i 0).val) (2048 + (i 1).val)) := by
  have b0 := blk0 m c t
  have b2 := blk2 m c t
  have b1 := blk1 m c t
  unfold mapv
  by_cases ht : t.val % 16 = 0
  · have t0 : t.val = 0 := by have := lt16 t; omega
    rw [outsAt0_A m c t ht]
    frame_out
    generalize iblk m c 0 t = B0 at b0 ⊢
    generalize iblk m c 2 t = B2 at b2 ⊢
    generalize iblk m c 1 t = B1 at b1 ⊢
    canon_tiles x h
    all_goals
      idx_vars x
      try rw [coord t]
    · rw [gated3]
      refine (congrArg (fun v => v * _ * _) (grp3 (holds3 _ _ _ B0 B2 _ b0 b2 fun r j => ?_) x0 x1)).trans ?_
      on_goal 2 =>
        pointwise []
        rw [h0, h1, b0, b1]
        refine congrArg₂ (· * ·) (congrArg₂ (· * ·) ?_ ?_) (congrArg gate ?_)
        · congr 1 <;> omega
        · exact congrArg (fun k => argS m c (ix1 k)) (Fin.ext h1.symm)
        · congr 1 <;> (simp <;> omega)
      simp (disch := decide) only [↓ View.readCov_skip, ↓ View.readCov_fill]
      unfold_payloads
      pointwise []
      exact started t0 _ r
    · rw [gated2]
      refine (congrArg (fun v => v * _ * _) (grp2 (holds2 _ _ _ B0 B2 _ b0 b2 fun r j => ?_) x0 x1)).trans ?_
      on_goal 2 =>
        pointwise []
        rw [h0, h1, b0, b1]
        refine congrArg₂ (· * ·) (congrArg₂ (· * ·) ?_ ?_) (congrArg gate ?_)
        · congr 1 <;> omega
        · exact congrArg (fun k => argS m c (ix1 k)) (Fin.ext h1.symm)
        · congr 1 <;> (simp <;> omega)
      simp (disch := decide) only [↓ View.readCov_skip, ↓ View.readCov_fill]
      unfold_payloads
      pointwise []
      exact started t0 _ r
    · rw [gated1]
      refine (congrArg (fun v => v * _ * _) (grp1 (holds1 _ _ _ B0 B2 _ b0 b2 fun r j => ?_) x0 x1)).trans ?_
      on_goal 2 =>
        pointwise []
        rw [h0, h1, b0, b1]
        refine congrArg₂ (· * ·) (congrArg₂ (· * ·) ?_ ?_) (congrArg gate ?_)
        · congr 1 <;> omega
        · exact congrArg (fun k => argS m c (ix1 k)) (Fin.ext h1.symm)
        · congr 1 <;> (simp <;> omega)
      simp (disch := decide) only [↓ View.readCov_skip, ↓ View.readCov_fill]
      unfold_payloads
      pointwise []
      exact started t0 _ r
    · rw [gated0]
      refine (congrArg (fun v => v * _ * _) (grp0 _ (coord t) (holds0 _ _ _ B0 B2 _ b0 b2 fun r j => ?_) x0 x1)).trans ?_
      on_goal 2 =>
        pointwise []
        rw [h0, h1, b0, b1]
        refine congrArg₂ (· * ·) (congrArg₂ (· * ·) ?_ ?_) (congrArg gate ?_)
        · congr 1 <;> omega
        · exact congrArg (fun k => argS m c (ix1 k)) (Fin.ext h1.symm)
        · congr 1 <;> (simp <;> omega)
      simp (disch := decide) only [↓ View.readCov_skip, ↓ View.readCov_fill]
      unfold_payloads
      pointwise []
      exact started t0 _ r
  · have t1 : 0 < t.val := by omega
    rw [outsAt0_B m c t ht]
    frame_out
    generalize iblk m c 0 t = B0 at b0 ⊢
    generalize iblk m c 2 t = B2 at b2 ⊢
    generalize iblk m c 1 t = B1 at b1 ⊢
    canon_tiles x h
    all_goals
      idx_vars x
      try rw [coord t]
    · rw [gated3]
      refine (congrArg (fun v => v * _ * _) (grp3 (holds3 _ _ _ B0 B2 _ b0 b2 fun r j => ?_) x0 x1)).trans ?_
      on_goal 2 =>
        pointwise []
        rw [h0, h1, b0, b1]
        refine congrArg₂ (· * ·) (congrArg₂ (· * ·) ?_ ?_) (congrArg gate ?_)
        · congr 1 <;> omega
        · exact congrArg (fun k => argS m c (ix1 k)) (Fin.ext h1.symm)
        · congr 1 <;> (simp <;> omega)
      simp only [read_unread_whole]
      pointwise []
      refine (carried m c t t1 _).trans ?_
      congr 1 <;> simp
    · rw [gated2]
      refine (congrArg (fun v => v * _ * _) (grp2 (holds2 _ _ _ B0 B2 _ b0 b2 fun r j => ?_) x0 x1)).trans ?_
      on_goal 2 =>
        pointwise []
        rw [h0, h1, b0, b1]
        refine congrArg₂ (· * ·) (congrArg₂ (· * ·) ?_ ?_) (congrArg gate ?_)
        · congr 1 <;> omega
        · exact congrArg (fun k => argS m c (ix1 k)) (Fin.ext h1.symm)
        · congr 1 <;> (simp <;> omega)
      simp only [read_unread_whole]
      pointwise []
      refine (carried m c t t1 _).trans ?_
      congr 1 <;> simp
    · rw [gated1]
      refine (congrArg (fun v => v * _ * _) (grp1 (holds1 _ _ _ B0 B2 _ b0 b2 fun r j => ?_) x0 x1)).trans ?_
      on_goal 2 =>
        pointwise []
        rw [h0, h1, b0, b1]
        refine congrArg₂ (· * ·) (congrArg₂ (· * ·) ?_ ?_) (congrArg gate ?_)
        · congr 1 <;> omega
        · exact congrArg (fun k => argS m c (ix1 k)) (Fin.ext h1.symm)
        · congr 1 <;> (simp <;> omega)
      simp only [read_unread_whole]
      pointwise []
      refine (carried m c t t1 _).trans ?_
      congr 1 <;> simp
    · rw [gated0]
      refine (congrArg (fun v => v * _ * _) (grp0 _ (coord t) (holds0 _ _ _ B0 B2 _ b0 b2 fun r j => ?_) x0 x1)).trans ?_
      on_goal 2 =>
        pointwise []
        rw [h0, h1, b0, b1]
        refine congrArg₂ (· * ·) (congrArg₂ (· * ·) ?_ ?_) (congrArg gate ?_)
        · congr 1 <;> omega
        · exact congrArg (fun k => argS m c (ix1 k)) (Fin.ext h1.symm)
        · congr 1 <;> (simp <;> omega)
      simp only [read_unread_whole]
      pointwise []
      refine (carried m c t t1 _).trans ?_
      congr 1 <;> simp

/-- A token of point `t`. -/
def row (t : Fin cfg0.N) (a : Fin 256) : Fin 4096 := ⟨256 * t.val + a.val, by have := lt16 t; omega⟩

/-- The mixed rows. -/
def outv : S4096x2048.Idx → Elt Ideal .bf16 := fun i =>
  mapv m c (i 0).val (i 1).val * argS m c (ix1 (i 1)) * gate (ent (argP m c) (i 0).val (2048 + (i 1).val))

/-- The group maps. -/
def maps : S4096x2048.Idx → Elt Ideal .bf16 := fun i => mapv m c (i 0).val (i 1).val

/-- The kernel's mixed rows. -/
theorem arr3 : (dats m 0 c).arrAt 3 cfg0.N = outv m c := by
  refine (dats m 0 c).arrAt_eq_of_covers 3 _ (by decide +kernel) fun t hf i => ?_
  blk_simp
  rw [after0_3]
  idx_vars i
  refine (out_y m c t (ix2 i0 i1)).trans (Eq.trans (b := outv m c (ix2 (row t i0) i1)) rfl (congrArg _ ?_))
  blk_ext [idx3 t, row]

/-- The kernel's group maps. -/
theorem arr4 : (dats m 0 c).arrAt 4 cfg0.N = maps m c := by
  refine (dats m 0 c).arrAt_eq_of_covers 4 _ (by decide +kernel) fun t hf i => ?_
  blk_simp
  rw [after0_4]
  idx_vars i
  refine (out_o m c t (ix2 i0 i1)).trans (Eq.trans (b := maps m c (ix2 (row t i0) i1)) rfl (congrArg _ ?_))
  blk_ext [idx4 t, row]

end Cert.BMixFwdIdeal.Pair
-- ==== Proof.BMixFwdClaim.lean ====
module

public import proofs.«01_k».proof.Defs
public import proofs.«01_k».proof.Proof.BMixFwdOut
public import proofs.«01_k».proof.Proof.BMixFwdRef
public import proofs.«01_k».proof.Proof.Gen.BMixFwdIdeal.Value
public import proofs.«01_k».proof.Proof.Gen.BMixFwdRefIdeal.Run
public import proofs.«01_k».proof.Proof.Gen.Pre_finite8
public import Idealize.ShloMosaic.Lib.Quiescent

/-! # The forward pooling mixer: the kernel and the reference agree over the reals

The projection is finite: a difference of two running sums is a window's sum only where no sum is infinite. -/

@[expose] public section

noncomputable section

namespace Cert.BMixFwdClaim

open Idealize.ShloMosaic Idealize.ShloMosaic.TcCoe Idealize.SL.Sem Cert.Lift Cert.BPool

/-- A finite projection is real. -/
theorem reals [Cert.Pre_finite8.Facts] (m) (h : Cert.Pre_BMixFwdIdeal_finite8 m) (c : Dev Cert.BMixFwdIdeal.nD) :
    ∃ x : _ → ℝ, ∀ i, BMixFwdIdeal.Pair.argP m c i = (x i : EReal) :=
  exists_real _ fun i => ofBits_inf ▸ congrFun (h c) i

/-- The reference runs and leaves its arguments as they were; it has no semaphore. -/
theorem frame_ref : Cert.quiescent_BMixFwdRefIdeal := fun m ρ _ =>
  (θ_run Cert.BMixFwdRefIdeal.defs _ _).mono (fun r h => ⟨fun c => (h c).2.2, sem_eq_zero_of_no_sems (by decide) r.2⟩)
    (Cert.BMixFwdRefIdeal.Value.run (F := Ideal) m ρ)

/-- Equal arguments give equal mixed rows. -/
theorem val84 {a a' : BMixFwdRefIdeal.S4096x4096.Idx → EReal} {b b' : BMixFwdRefIdeal.S4x512x512.Idx → EReal} {d d' : BMixFwdRefIdeal.S2048.Idx → EReal}
    (e0 : a = a') (e1 : b = b') (e2 : d = d') :
    BMixFwdRefIdeal.Read.val_main_v84 (F := Ideal) a b d = BMixFwdRefIdeal.Read.val_main_v84 (F := Ideal) a' b' d' := by
  rw [e0, e1, e2]

/-- Both programs leave the same mixed rows and the same group maps. -/
theorem algebraic : Cert.algebraic_BMixFwdIdeal_BMixFwdRefIdeal_pre_finite8 := by
  intro m ρ m' ρ' hpre hagree
  refine ⟨_, _, Cert.BMixFwdIdeal.Value.run_blocks m ρ, (θ_run _ _ _).mono (fun r h c => ?_) (Cert.BMixFwdRefIdeal.Value.run m' ρ')⟩
  obtain ⟨x, hx⟩ := reals m hpre c
  obtain ⟨e0, e1, e2⟩ := hagree c
  obtain ⟨r0, r1, ra⟩ := h c
  have hX : ∀ t k : Fin 4096, BMixFwdIdeal.Pair.argP m c (ix2 t k) = ((fun a b => (ent (BMixFwdIdeal.Pair.argP m c) a b).toReal) t.val k.val : ℝ) := fun t k => by
    show _ = (((ent _ t.val k.val).toReal : ℝ) : EReal)
    rw [ent_at, hx, EReal.toReal_coe]
  have hE : ent (BMixFwdIdeal.Pair.argP m c) = fun a b => (((ent (BMixFwdIdeal.Pair.argP m c) a b).toReal : ℝ) : EReal) := by
    funext a b
    unfold ent
    split
    · rw [hx, EReal.toReal_coe]
    · rw [EReal.toReal_zero, EReal.coe_zero]
  refine ⟨r0.trans ?_, r1.trans ?_, ra⟩
  · rw [BMixFwdRefIdeal.Read.val_main_v84_eq, BMixFwdIdeal.Pair.arr3]
    funext i
    idx_vars i
    refine (congrFun (val84 e0 e1 e2) _).trans ?_
    refine (BMixFwdRefIdeal.Pair.v84_at (BMixFwdIdeal.Pair.argP m c) (BMixFwdIdeal.Pair.argW m c) (BMixFwdIdeal.Pair.argS m c) (fun a b => (ent (BMixFwdIdeal.Pair.argP m c) a b).toReal) hX i0 i1).trans ?_
    unfold BMixFwdIdeal.Pair.outv BMixFwdIdeal.Pair.mapv
    rw [hE]
    rfl
  · rw [BMixFwdRefIdeal.Read.val_main_v160_eq, BMixFwdIdeal.Pair.arr4]
    funext i
    idx_vars i
    refine (congrFun (congrArg₂ (BMixFwdRefIdeal.Read.val_main_v160 (F := Ideal)) e0 e1) _).trans ?_
    refine (BMixFwdRefIdeal.Pair.v160_at (BMixFwdIdeal.Pair.argP m c) (BMixFwdIdeal.Pair.argW m c) (fun a b => (ent (BMixFwdIdeal.Pair.argP m c) a b).toReal) hX i0 i1).trans ?_
    unfold BMixFwdIdeal.Pair.maps BMixFwdIdeal.Pair.mapv
    rw [hE]
    rfl

end Cert.BMixFwdClaim

end
-- ==== Proof.lean ====
module

public import proofs.«01_k».proof.Defs
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InBwdRefIdeal
public import proofs.«01_k».proof.Proof.Gen.InBwdA
public import proofs.«01_k».proof.Proof.Gen.InBwdA.Skeleton
public import proofs.«01_k».proof.Proof.Gen.InBwdA.Launch
public import proofs.«01_k».proof.Proof.Gen.InBwdA.Points
public import proofs.«01_k».proof.Proof.Gen.InBwdA.Frame
public import proofs.«01_k».proof.Proof.Gen.InBwdAIdeal
public import proofs.«01_k».proof.Proof.Gen.InBwdAIdeal.Skeleton
public import proofs.«01_k».proof.Proof.Gen.InBwdAIdeal.Launch
public import proofs.«01_k».proof.Proof.Gen.InBwdAIdeal.Points
public import proofs.«01_k».proof.Proof.Gen.InBwdAIdeal.Frame
public import proofs.«01_k».proof.Proof.Gen.InBwdARefIdeal
public import proofs.«01_k».proof.Proof.Gen.AMix
public import proofs.«01_k».proof.Proof.Gen.AMix.Skeleton
public import proofs.«01_k».proof.Proof.Gen.AMix.Loops
public import proofs.«01_k».proof.Proof.Gen.AMix.Launch
public import proofs.«01_k».proof.Proof.Gen.AMix.Points
public import proofs.«01_k».proof.Proof.Gen.AMix.Frame
public import proofs.«01_k».proof.Proof.Gen.AMixIdeal
public import proofs.«01_k».proof.Proof.Gen.AMixIdeal.Skeleton
public import proofs.«01_k».proof.Proof.Gen.AMixIdeal.Loops
public import proofs.«01_k».proof.Proof.Gen.AMixIdeal.Launch
public import proofs.«01_k».proof.Proof.Gen.AMixIdeal.Points
public import proofs.«01_k».proof.Proof.Gen.AMixIdeal.Frame
public import proofs.«01_k».proof.Proof.Gen.AMixRefIdeal
public import proofs.«01_k».proof.Proof.Gen.BMix
public import proofs.«01_k».proof.Proof.Gen.BMix.Skeleton
public import proofs.«01_k».proof.Proof.Gen.BMix.Launch
public import proofs.«01_k».proof.Proof.Gen.BMix.Points
public import proofs.«01_k».proof.Proof.Gen.BMix.Frame
public import proofs.«01_k».proof.Proof.Gen.BMixIdeal
public import proofs.«01_k».proof.Proof.Gen.BMixIdeal.Skeleton
public import proofs.«01_k».proof.Proof.Gen.BMixIdeal.Launch
public import proofs.«01_k».proof.Proof.Gen.BMixIdeal.Points
public import proofs.«01_k».proof.Proof.Gen.BMixIdeal.Frame
public import proofs.«01_k».proof.Proof.Gen.BMixRefIdeal
public import proofs.«01_k».proof.Proof.Gen.OutBwd
public import proofs.«01_k».proof.Proof.Gen.OutBwd.Skeleton
public import proofs.«01_k».proof.Proof.Gen.OutBwd.Launch
public import proofs.«01_k».proof.Proof.Gen.OutBwd.Points
public import proofs.«01_k».proof.Proof.Gen.OutBwd.Frame
public import proofs.«01_k».proof.Proof.Gen.OutBwdIdeal
public import proofs.«01_k».proof.Proof.Gen.OutBwdIdeal.Skeleton
public import proofs.«01_k».proof.Proof.Gen.OutBwdIdeal.Launch
public import proofs.«01_k».proof.Proof.Gen.OutBwdIdeal.Points
public import proofs.«01_k».proof.Proof.Gen.OutBwdIdeal.Frame
public import proofs.«01_k».proof.Proof.Gen.OutBwdRefIdeal
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.AMixFwd
public import proofs.«01_k».proof.Proof.Gen.AMixFwd.Skeleton
public import proofs.«01_k».proof.Proof.Gen.AMixFwd.Loops
public import proofs.«01_k».proof.Proof.Gen.AMixFwd.Launch
public import proofs.«01_k».proof.Proof.Gen.AMixFwd.Points
public import proofs.«01_k».proof.Proof.Gen.AMixFwd.Frame
public import proofs.«01_k».proof.Proof.Gen.AMixFwdIdeal
public import proofs.«01_k».proof.Proof.Gen.AMixFwdIdeal.Skeleton
public import proofs.«01_k».proof.Proof.Gen.AMixFwdIdeal.Loops
public import proofs.«01_k».proof.Proof.Gen.AMixFwdIdeal.Launch
public import proofs.«01_k».proof.Proof.Gen.AMixFwdIdeal.Points
public import proofs.«01_k».proof.Proof.Gen.AMixFwdIdeal.Frame
public import proofs.«01_k».proof.Proof.Gen.AMixFwdRefIdeal
public import proofs.«01_k».proof.Proof.Gen.BMixFwd
public import proofs.«01_k».proof.Proof.Gen.BMixFwd.Skeleton
public import proofs.«01_k».proof.Proof.Gen.BMixFwd.Launch
public import proofs.«01_k».proof.Proof.Gen.BMixFwd.Points
public import proofs.«01_k».proof.Proof.Gen.BMixFwd.Frame
public import proofs.«01_k».proof.Proof.Gen.BMixFwdIdeal
public import proofs.«01_k».proof.Proof.Gen.BMixFwdIdeal.Skeleton
public import proofs.«01_k».proof.Proof.Gen.BMixFwdIdeal.Launch
public import proofs.«01_k».proof.Proof.Gen.BMixFwdIdeal.Points
public import proofs.«01_k».proof.Proof.Gen.BMixFwdIdeal.Frame
public import proofs.«01_k».proof.Proof.Gen.BMixFwdRefIdeal
public import proofs.«01_k».proof.Proof.Gen.OutFwd
public import proofs.«01_k».proof.Proof.Gen.OutFwd.Skeleton
public import proofs.«01_k».proof.Proof.Gen.OutFwd.Launch
public import proofs.«01_k».proof.Proof.Gen.OutFwd.Points
public import proofs.«01_k».proof.Proof.Gen.OutFwd.Frame
public import proofs.«01_k».proof.Proof.Gen.OutFwdIdeal
public import proofs.«01_k».proof.Proof.Gen.OutFwdIdeal.Skeleton
public import proofs.«01_k».proof.Proof.Gen.OutFwdIdeal.Launch
public import proofs.«01_k».proof.Proof.Gen.OutFwdIdeal.Points
public import proofs.«01_k».proof.Proof.Gen.OutFwdIdeal.Frame
public import proofs.«01_k».proof.Proof.Gen.OutFwdRefIdeal
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdRefIdeal
public import proofs.«01_k».proof.Proof.Gen.Pre_finite1
public import proofs.«01_k».proof.Proof.Gen.Pre_finite2
public import proofs.«01_k».proof.Proof.Gen.Pre_finite3
public import proofs.«01_k».proof.Proof.Gen.Pre_finite5
public import proofs.«01_k».proof.Proof.Gen.Pre_finite6
public import proofs.«01_k».proof.Proof.Gen.Pre_finite7
public import proofs.«01_k».proof.Proof.Gen.Pre_finite8
public import proofs.«01_k».proof.Proof.Gen.AMixIdeal.Value
public import proofs.«01_k».proof.Proof.Gen.AMixRefIdeal.Read
public import proofs.«01_k».proof.Proof.Gen.AMixRefIdeal.Run
public import proofs.«01_k».proof.Proof.Gen.AMixFwdIdeal.Value
public import proofs.«01_k».proof.Proof.Gen.AMixFwdRefIdeal.Run
public import proofs.«01_k».proof.Proof.Gen.AMixFwdRefIdeal.Read
public import proofs.«01_k».proof.Proof.Gen.BMixRefIdeal.Run
public import proofs.«01_k».proof.Proof.Gen.BMixIdeal.Value
public import proofs.«01_k».proof.Proof.Gen.BMixRefIdeal.Read
public import proofs.«01_k».proof.Proof.Gen.InBwdAIdeal.Value
public import proofs.«01_k».proof.Proof.Gen.InBwdARefIdeal.Read
public import proofs.«01_k».proof.Proof.Gen.InBwdARefIdeal.Run
public import proofs.«01_k».proof.Proof.Gen.InBwdIdeal.Value
public import proofs.«01_k».proof.Proof.Gen.InBwdRefIdeal.Read
public import proofs.«01_k».proof.Proof.Gen.InBwdRefIdeal.Run
public import proofs.«01_k».proof.Proof.Gen.LossIdeal.Value
public import proofs.«01_k».proof.Proof.Gen.LossRefIdeal.Read
public import proofs.«01_k».proof.Proof.Gen.LossRefIdeal.Run
public import proofs.«01_k».proof.Proof.Gen.OutBwdIdeal.Value
public import proofs.«01_k».proof.Proof.Gen.OutBwdRefIdeal.Read
public import proofs.«01_k».proof.Proof.Gen.OutBwdRefIdeal.Run
public import proofs.«01_k».proof.Proof.AMixClaim
public import proofs.«01_k».proof.Proof.BMixClaim
public import proofs.«01_k».proof.Proof.InBwdAClaim
public import proofs.«01_k».proof.Proof.InBwdClaim
public import proofs.«01_k».proof.Proof.LossClaim
public import proofs.«01_k».proof.Proof.OutBwdClaim
public import proofs.«01_k».proof.Proof.AMixFwdClaim
public import proofs.«01_k».proof.Proof.Gen.BMixFwdIdeal.Value
public import proofs.«01_k».proof.Proof.Gen.OutFwdIdeal.Value
public import proofs.«01_k».proof.Proof.Gen.InFwdIdeal.Value
public import proofs.«01_k».proof.Proof.Gen.BMixFwdRefIdeal.Run
public import proofs.«01_k».proof.Proof.Gen.BMixFwdRefIdeal.Read
public import proofs.«01_k».proof.Proof.Gen.OutFwdRefIdeal.Run
public import proofs.«01_k».proof.Proof.Gen.OutFwdRefIdeal.Read
public import proofs.«01_k».proof.Proof.Gen.InFwdRefIdeal.Run
public import proofs.«01_k».proof.Proof.Gen.InFwdRefIdeal.Read
public import proofs.«01_k».proof.Proof.Gen.InFwdB
public import proofs.«01_k».proof.Proof.Gen.InFwdB.Skeleton
public import proofs.«01_k».proof.Proof.Gen.InFwdB.Launch
public import proofs.«01_k».proof.Proof.Gen.InFwdB.Points
public import proofs.«01_k».proof.Proof.Gen.InFwdB.Frame
public import proofs.«01_k».proof.Proof.Gen.InFwdBIdeal
public import proofs.«01_k».proof.Proof.Gen.InFwdBIdeal.Skeleton
public import proofs.«01_k».proof.Proof.Gen.InFwdBIdeal.Launch
public import proofs.«01_k».proof.Proof.Gen.InFwdBIdeal.Points
public import proofs.«01_k».proof.Proof.Gen.InFwdBIdeal.Frame
public import proofs.«01_k».proof.Proof.Gen.InFwdBRefIdeal
public import proofs.«01_k».proof.Proof.Gen.InFwdBIdeal.Value
public import proofs.«01_k».proof.Proof.Gen.InFwdBRefIdeal.Run
public import proofs.«01_k».proof.Proof.Gen.InFwdBRefIdeal.Read
public import proofs.«01_k».proof.Proof.Gen.BMixDsc
public import proofs.«01_k».proof.Proof.Gen.BMixDsc.Skeleton
public import proofs.«01_k».proof.Proof.Gen.BMixDsc.Launch
public import proofs.«01_k».proof.Proof.Gen.BMixDsc.Points
public import proofs.«01_k».proof.Proof.Gen.BMixDsc.Frame
public import proofs.«01_k».proof.Proof.Gen.BMixDscIdeal
public import proofs.«01_k».proof.Proof.Gen.BMixDscIdeal.Skeleton
public import proofs.«01_k».proof.Proof.Gen.BMixDscIdeal.Launch
public import proofs.«01_k».proof.Proof.Gen.BMixDscIdeal.Points
public import proofs.«01_k».proof.Proof.Gen.BMixDscIdeal.Frame
public import proofs.«01_k».proof.Proof.Gen.BMixDscRefIdeal
public import proofs.«01_k».proof.Proof.Gen.BMixDscRefIdeal.Run
public import proofs.«01_k».proof.Proof.Gen.BMixDscIdeal.Value
public import proofs.«01_k».proof.Proof.Gen.BMixDscRefIdeal.Read
public import proofs.«01_k».proof.Proof.Gen.BMixDwg
public import proofs.«01_k».proof.Proof.Gen.BMixDwg.Skeleton
public import proofs.«01_k».proof.Proof.Gen.BMixDwg.Launch
public import proofs.«01_k».proof.Proof.Gen.BMixDwg.Points
public import proofs.«01_k».proof.Proof.Gen.BMixDwg.Frame
public import proofs.«01_k».proof.Proof.Gen.BMixDwgIdeal
public import proofs.«01_k».proof.Proof.Gen.BMixDwgIdeal.Skeleton
public import proofs.«01_k».proof.Proof.Gen.BMixDwgIdeal.Launch
public import proofs.«01_k».proof.Proof.Gen.BMixDwgIdeal.Points
public import proofs.«01_k».proof.Proof.Gen.BMixDwgIdeal.Frame
public import proofs.«01_k».proof.Proof.Gen.BMixDwgRefIdeal
public import proofs.«01_k».proof.Proof.Gen.BMixDwgRefIdeal.Run
public import proofs.«01_k».proof.Proof.Gen.BMixDwgIdeal.Value
public import proofs.«01_k».proof.Proof.Gen.BMixDwgRefIdeal.Read
public import proofs.«01_k».proof.Proof.Gen.Pre_finite13
public import proofs.«01_k».proof.Proof.OutFwdClaim
public import proofs.«01_k».proof.Proof.InFwdClaim
public import proofs.«01_k».proof.Proof.InFwdBClaim
public import proofs.«01_k».proof.Proof.BMixDscClaim
public import proofs.«01_k».proof.Proof.BMixDwgClaim
public import proofs.«01_k».proof.Proof.BMixFwdClaim
public import Idealize.ShloMosaic.Adequacy
public import Idealize.ShloMosaic.Init

@[expose] public section

noncomputable section

namespace Cert.Proof

open Idealize.ShloMosaic Idealize.SL.Sem Cert.InBwd

theorem claim : Cert.Claim := ⟨Cert.InBwd.Gen.facts, Cert.InBwdIdeal.Gen.facts, Cert.InBwdRefIdeal.Gen.facts, Cert.InBwdA.Gen.facts, Cert.InBwdAIdeal.Gen.facts, Cert.InBwdARefIdeal.Gen.facts, Cert.AMix.Gen.facts, Cert.AMixIdeal.Gen.facts, Cert.AMixRefIdeal.Gen.facts, Cert.BMix.Gen.facts, Cert.BMixIdeal.Gen.facts, Cert.BMixRefIdeal.Gen.facts, Cert.OutBwd.Gen.facts, Cert.OutBwdIdeal.Gen.facts, Cert.OutBwdRefIdeal.Gen.facts, Cert.Loss.Gen.facts, Cert.LossIdeal.Gen.facts, Cert.LossRefIdeal.Gen.facts, Cert.AMixFwd.Gen.facts, Cert.AMixFwdIdeal.Gen.facts, Cert.AMixFwdRefIdeal.Gen.facts, Cert.BMixFwd.Gen.facts, Cert.BMixFwdIdeal.Gen.facts, Cert.BMixFwdRefIdeal.Gen.facts, Cert.OutFwd.Gen.facts, Cert.OutFwdIdeal.Gen.facts, Cert.OutFwdRefIdeal.Gen.facts, Cert.InFwd.Gen.facts, Cert.InFwdIdeal.Gen.facts, Cert.InFwdRefIdeal.Gen.facts, Cert.InFwdB.Gen.facts, Cert.InFwdBIdeal.Gen.facts, Cert.InFwdBRefIdeal.Gen.facts, Cert.BMixDsc.Gen.facts, Cert.BMixDscIdeal.Gen.facts, Cert.BMixDscRefIdeal.Gen.facts, Cert.BMixDwg.Gen.facts, Cert.BMixDwgIdeal.Gen.facts, Cert.BMixDwgRefIdeal.Gen.facts, Cert.Pre_finite1.Gen.facts, Cert.Pre_finite2.Gen.facts, Cert.Pre_finite3.Gen.facts, Cert.Pre_finite5.Gen.facts, Cert.Pre_finite6.Gen.facts, Cert.Pre_finite7.Gen.facts, Cert.Pre_finite8.Gen.facts, Cert.Pre_finite13.Gen.facts,
  fun m ρ _ => Cert.InBwd.Gen.frame m ρ,
  fun m ρ _ => Cert.InBwdIdeal.Gen.frame m ρ,
  fun m ρ _ => Cert.InBwdIdeal.Gen.frame m ρ,
  Cert.InBwdClaim.frame_ref,
  fun m ρ _ => Cert.InBwdClaim.frame_ref m ρ trivial,
  fun m ρ _ => Cert.InBwdA.Gen.frame m ρ,
  fun m ρ _ => Cert.InBwdAIdeal.Gen.frame m ρ,
  fun m ρ _ => Cert.InBwdAIdeal.Gen.frame m ρ,
  Cert.InBwdAClaim.frame_ref,
  fun m ρ _ => Cert.InBwdAClaim.frame_ref m ρ trivial,
  fun m ρ _ => Cert.AMix.Gen.frame m ρ,
  fun m ρ _ => Cert.AMixIdeal.Gen.frame m ρ,
  fun m ρ _ => Cert.AMixIdeal.Gen.frame m ρ,
  Cert.AMixClaim.frame_ref,
  fun m ρ _ => Cert.AMixClaim.frame_ref m ρ trivial,
  fun m ρ _ => Cert.BMix.Gen.frame m ρ,
  fun m ρ _ => Cert.BMixIdeal.Gen.frame m ρ,
  Cert.BMixClaim.frame_ref,
  fun m ρ _ => Cert.OutBwd.Gen.frame m ρ,
  fun m ρ _ => Cert.OutBwdIdeal.Gen.frame m ρ,
  fun m ρ _ => Cert.OutBwdIdeal.Gen.frame m ρ,
  Cert.OutBwdClaim.frame_ref,
  fun m ρ _ => Cert.OutBwdClaim.frame_ref m ρ trivial,
  fun m ρ _ => Cert.Loss.Gen.frame m ρ,
  fun m ρ _ => Cert.LossIdeal.Gen.frame m ρ,
  fun m ρ _ => Cert.LossIdeal.Gen.frame m ρ,
  Cert.LossClaim.frame_ref,
  fun m ρ _ => Cert.LossClaim.frame_ref m ρ trivial,
  fun m ρ _ => Cert.AMixFwd.Gen.frame m ρ,
  fun m ρ _ => Cert.AMixFwdIdeal.Gen.frame m ρ,
  fun m ρ _ => Cert.AMixFwdIdeal.Gen.frame m ρ,
  Cert.AMixFwdClaim.frame_ref,
  fun m ρ _ => Cert.AMixFwdClaim.frame_ref m ρ trivial,
  fun m ρ _ => Cert.BMixFwd.Gen.frame m ρ,
  fun m ρ _ => Cert.BMixFwdIdeal.Gen.frame m ρ,
  fun m ρ _ => Cert.BMixFwdIdeal.Gen.frame m ρ,
  Cert.BMixFwdClaim.frame_ref,
  fun m ρ _ => Cert.BMixFwdClaim.frame_ref m ρ trivial,
  fun m ρ _ => Cert.OutFwd.Gen.frame m ρ,
  fun m ρ _ => Cert.OutFwdIdeal.Gen.frame m ρ,
  Cert.OutFwdClaim.frame_ref,
  fun m ρ _ => Cert.InFwd.Gen.frame m ρ,
  fun m ρ _ => Cert.InFwdIdeal.Gen.frame m ρ,
  Cert.InFwdClaim.frame_ref,
  fun m ρ _ => Cert.InFwdB.Gen.frame m ρ,
  fun m ρ _ => Cert.InFwdBIdeal.Gen.frame m ρ,
  Cert.InFwdBClaim.frame_ref,
  fun m ρ _ => Cert.BMixDsc.Gen.frame m ρ,
  fun m ρ _ => Cert.BMixDscIdeal.Gen.frame m ρ,
  Cert.BMixDscClaim.frame_ref,
  fun m ρ _ => Cert.BMixDwg.Gen.frame m ρ,
  fun m ρ _ => Cert.BMixDwgIdeal.Gen.frame m ρ,
  fun m ρ _ => Cert.BMixDwgIdeal.Gen.frame m ρ,
  Cert.BMixDwgClaim.frame_ref,
  fun m ρ _ => Cert.BMixDwgClaim.frame_ref m ρ trivial,
  trivial,
  Cert.InBwdClaim.algebraic,
  trivial,
  Cert.InBwdAClaim.algebraic,
  Cert.AMixClaim.preserves,
  Cert.AMixClaim.algebraic,
  trivial,
  trivial,
  Cert.OutBwdClaim.algebraic,
  trivial,
  Cert.LossClaim.algebraic,
  Cert.AMixFwdClaim.preserves,
  Cert.AMixFwdClaim.algebraic,
  trivial,
  Cert.BMixFwdClaim.algebraic,
  trivial,
  Cert.OutFwdClaim.algebraic,
  trivial,
  Cert.InFwdClaim.algebraic,
  trivial,
  Cert.InFwdBClaim.algebraic,
  trivial,
  Cert.BMixDscClaim.algebraic,
  trivial,
  Cert.BMixDwgClaim.algebraic⟩

end Cert.Proof

end
